-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Head [hPre_finite2 : Cert.Pre_finite2.Facts] (m : (ℓ : Loc Cert.Head.nD Cert.Head.τ Cert.Head.sig) → Buf (Elt Bits) ℓ) : Prop :=
  ∀ c : Dev Cert.Head.nD,
    (Cert.Pre_finite2.fn (F := Bits) (m ((c.tc : Thread Cert.Head.nD Cert.Head.τ).loc Cert.Head.main_arg0)) (m ((c.tc : Thread Cert.Head.nD Cert.Head.τ).loc Cert.Head.main_arg1)) (m ((c.tc : Thread Cert.Head.nD Cert.Head.τ).loc Cert.Head.main_arg2)) (m ((c.tc : Thread Cert.Head.nD Cert.Head.τ).loc Cert.Head.main_arg3)) (m ((c.tc : Thread Cert.Head.nD Cert.Head.τ).loc Cert.Head.main_arg4))) = (fun _ => 1#1)

def Pre_HeadIdeal [hPre_finite2 : Cert.Pre_finite2.Facts] (m : (ℓ : Loc Cert.HeadIdeal.nD Cert.HeadIdeal.τ Cert.HeadIdeal.sig) → Buf (Elt Ideal) ℓ) : Prop :=
  ∀ c : Dev Cert.HeadIdeal.nD,
    (Cert.Pre_finite2.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4))) = (fun _ => 1#1)

def Pre_HeadReferenceIdeal [hPre_finite2 : Cert.Pre_finite2.Facts] (m : (ℓ : Loc Cert.HeadReferenceIdeal.nD Cert.HeadReferenceIdeal.τ Cert.HeadReferenceIdeal.sig) → Buf (Elt Ideal) ℓ) : Prop :=
  ∀ c : Dev Cert.HeadReferenceIdeal.nD,
    (Cert.Pre_finite2.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4))) = (fun _ => 1#1)

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Head [hHead : Cert.Head.Facts] [hPre_finite2 : Cert.Pre_finite2.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] [hPre_finite2 : Cert.Pre_finite2.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadReferenceIdeal [hHeadReferenceIdeal : Cert.HeadReferenceIdeal.Facts] [hPre_finite2 : Cert.Pre_finite2.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v528) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Head_HeadIdeal : Prop :=
  True

def algebraic_HeadIdeal_HeadReferenceIdeal [hHeadIdeal : Cert.HeadIdeal.Facts] [hHeadReferenceIdeal : Cert.HeadReferenceIdeal.Facts] [hPre_finite2 : Cert.Pre_finite2.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)
      ∧ m' ((c.tc : Thread Cert.HeadReferenceIdeal.nD Cert.HeadReferenceIdeal.τ).loc Cert.HeadReferenceIdeal.main_arg3) = m ((c.tc : Thread Cert.HeadIdeal.nD Cert.HeadIdeal.τ).loc Cert.HeadIdeal.main_arg3)
      ∧ m' ((c.tc : Thread Cert.HeadReferenceIdeal.nD Cert.HeadReferenceIdeal.τ).loc Cert.HeadReferenceIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v23) = v0 c
          ∧ r.2.mem ((c.tc : Thread Cert.HeadReferenceIdeal.nD Cert.HeadReferenceIdeal.τ).loc Cert.HeadReferenceIdeal.main_v28) = v1 c
          ∧ r.2.mem ((c.tc : Thread Cert.HeadReferenceIdeal.nD Cert.HeadReferenceIdeal.τ).loc Cert.HeadReferenceIdeal.main_v32) = v2 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4))

def Claim : Prop :=
  ∃ (hKernel : Cert.Kernel.Facts) (hKernelIdeal : Cert.KernelIdeal.Facts) (hReferenceIdeal : Cert.ReferenceIdeal.Facts) (hHead : Cert.Head.Facts) (hHeadIdeal : Cert.HeadIdeal.Facts) (hHeadReferenceIdeal : Cert.HeadReferenceIdeal.Facts) (hPre_finite : Cert.Pre_finite.Facts) (hPre_finite2 : Cert.Pre_finite2.Facts),
    quiescent_Kernel (hKernel := hKernel) (hPre_finite := hPre_finite)
    ∧ quiescent_KernelIdeal (hKernelIdeal := hKernelIdeal) (hPre_finite := hPre_finite)
    ∧ quiescent_ReferenceIdeal (hReferenceIdeal := hReferenceIdeal) (hPre_finite := hPre_finite)
    ∧ quiescent_Head (hHead := hHead) (hPre_finite2 := hPre_finite2)
    ∧ quiescent_HeadIdeal (hHeadIdeal := hHeadIdeal) (hPre_finite2 := hPre_finite2)
    ∧ quiescent_HeadReferenceIdeal (hHeadReferenceIdeal := hHeadReferenceIdeal) (hPre_finite2 := hPre_finite2)
    ∧ preserves_Kernel_KernelIdeal
    ∧ algebraic_KernelIdeal_ReferenceIdeal (hKernelIdeal := hKernelIdeal) (hReferenceIdeal := hReferenceIdeal) (hPre_finite := hPre_finite)
    ∧ preserves_Head_HeadIdeal
    ∧ algebraic_HeadIdeal_HeadReferenceIdeal (hHeadIdeal := hHeadIdeal) (hHeadReferenceIdeal := hHeadReferenceIdeal) (hPre_finite2 := hPre_finite2)
-- ==== Pre_finite.lean ====
abbrev S32x3x256x256 : Shape := ⟨4, ![32, 3, 256, 256]⟩
abbrev S16x16x3x3x3 : Shape := ⟨5, ![16, 16, 3, 3, 3]⟩
abbrev S16x3x16 : Shape := ⟨3, ![16, 3, 16]⟩
abbrev S16x16x16x3x3 : Shape := ⟨5, ![16, 16, 16, 3, 3]⟩
abbrev S16x32x16x3x3 : Shape := ⟨5, ![16, 32, 16, 3, 3]⟩
abbrev S16x3x32 : Shape := ⟨3, ![16, 3, 32]⟩
abbrev S16x32x32x3x3 : Shape := ⟨5, ![16, 32, 32, 3, 3]⟩
abbrev S16x64x32x3x3 : Shape := ⟨5, ![16, 64, 32, 3, 3]⟩
abbrev S16x3x64 : Shape := ⟨3, ![16, 3, 64]⟩
abbrev S16x64x64x3x3 : Shape := ⟨5, ![16, 64, 64, 3, 3]⟩
abbrev S16x256 : Shape := ⟨2, ![16, 256]⟩
abbrev S_ : Shape := ⟨0, ![]⟩

class Facts : Prop where
  bcast_S_S32x3x256x256 : S_.BroadcastsInDim S32x3x256x256 (![] : Fin 0 → Fin S32x3x256x256.rank)
  reducesTo_S32x3x256x256_S_d0_1_2_3 : S32x3x256x256.ReducesTo [0, 1, 2, 3] S_
  h_S_ : 0 < S_.numel
  bcast_S_S16x16x3x3x3 : S_.BroadcastsInDim S16x16x3x3x3 (![] : Fin 0 → Fin S16x16x3x3x3.rank)
  reducesTo_S16x16x3x3x3_S_d0_1_2_3_4 : S16x16x3x3x3.ReducesTo [0, 1, 2, 3, 4] S_
  bcast_S_S16x3x16 : S_.BroadcastsInDim S16x3x16 (![] : Fin 0 → Fin S16x3x16.rank)
  reducesTo_S16x3x16_S_d0_1_2 : S16x3x16.ReducesTo [0, 1, 2] S_
  bcast_S_S16x16x16x3x3 : S_.BroadcastsInDim S16x16x16x3x3 (![] : Fin 0 → Fin S16x16x16x3x3.rank)
  reducesTo_S16x16x16x3x3_S_d0_1_2_3_4 : S16x16x16x3x3.ReducesTo [0, 1, 2, 3, 4] S_
  bcast_S_S16x32x16x3x3 : S_.BroadcastsInDim S16x32x16x3x3 (![] : Fin 0 → Fin S16x32x16x3x3.rank)
  reducesTo_S16x32x16x3x3_S_d0_1_2_3_4 : S16x32x16x3x3.ReducesTo [0, 1, 2, 3, 4] S_
  bcast_S_S16x3x32 : S_.BroadcastsInDim S16x3x32 (![] : Fin 0 → Fin S16x3x32.rank)
  reducesTo_S16x3x32_S_d0_1_2 : S16x3x32.ReducesTo [0, 1, 2] S_
  bcast_S_S16x32x32x3x3 : S_.BroadcastsInDim S16x32x32x3x3 (![] : Fin 0 → Fin S16x32x32x3x3.rank)
  reducesTo_S16x32x32x3x3_S_d0_1_2_3_4 : S16x32x32x3x3.ReducesTo [0, 1, 2, 3, 4] S_
  bcast_S_S16x64x32x3x3 : S_.BroadcastsInDim S16x64x32x3x3 (![] : Fin 0 → Fin S16x64x32x3x3.rank)
  reducesTo_S16x64x32x3x3_S_d0_1_2_3_4 : S16x64x32x3x3.ReducesTo [0, 1, 2, 3, 4] S_
  bcast_S_S16x3x64 : S_.BroadcastsInDim S16x3x64 (![] : Fin 0 → Fin S16x3x64.rank)
  reducesTo_S16x3x64_S_d0_1_2 : S16x3x64.ReducesTo [0, 1, 2] S_
  bcast_S_S16x64x64x3x3 : S_.BroadcastsInDim S16x64x64x3x3 (![] : Fin 0 → Fin S16x64x64x3x3.rank)
  reducesTo_S16x64x64x3x3_S_d0_1_2_3_4 : S16x64x64x3x3.ReducesTo [0, 1, 2, 3, 4] S_

variable [Facts]

def fn_part3 {F : FTy → Type} [FloatOps F] (main_arg11 : FVec F S16x64x64x3x3 .f32) (main_arg12 : FVec F S16x3x64 .f32) (main_v49 : IVec S_ 1) (main_v50 : FVec F S16x3x64 .f32) : IVec S_ 1 :=
  let main_cst_19 : FVec F S_ .f32 := constant S_ .f32 0x7F800000#32
  let main_v51 : FVec F S16x3x64 .f32 := broadcastInDim S16x3x64 ![] bcast_S_S16x3x64 main_cst_19
  let main_v52 : IVec S16x3x64 1 := cmpf .olt main_v50 main_v51
  let main_c_20 : IVec S_ 1 := constantI S_ 1 1#1
  let main_v53 : IVec S_ 1 := (fun x v => Host.reduce IntOp.andi x v reducesTo_S16x3x64_S_d0_1_2 h_S_) main_v52 main_c_20
  let main_v54 : IVec S_ 1 := andi main_v49 main_v53
  let main_v55 : FVec F S16x64x64x3x3 .f32 := Host.absf main_arg11
  let main_cst_21 : FVec F S_ .f32 := constant S_ .f32 0x7F800000#32
  let main_v56 : FVec F S16x64x64x3x3 .f32 := broadcastInDim S16x64x64x3x3 ![] bcast_S_S16x64x64x3x3 main_cst_21
  let main_v57 : IVec S16x64x64x3x3 1 := cmpf .olt main_v55 main_v56
  let main_c_22 : IVec S_ 1 := constantI S_ 1 1#1
  let main_v58 : IVec S_ 1 := (fun x v => Host.reduce IntOp.andi x v reducesTo_S16x64x64x3x3_S_d0_1_2_3_4 h_S_) main_v57 main_c_22
  let main_v59 : IVec S_ 1 := andi main_v54 main_v58
  let main_v60 : FVec F S16x3x64 .f32 := Host.absf main_arg12
  let main_cst_23 : FVec F S_ .f32 := constant S_ .f32 0x7F800000#32
  let main_v61 : FVec F S16x3x64 .f32 := broadcastInDim S16x3x64 ![] bcast_S_S16x3x64 main_cst_23
  let main_v62 : IVec S16x3x64 1 := cmpf .olt main_v60 main_v61
  let main_c_24 : IVec S_ 1 := constantI S_ 1 1#1
  let main_v63 : IVec S_ 1 := (fun x v => Host.reduce IntOp.andi x v reducesTo_S16x3x64_S_d0_1_2 h_S_) main_v62 main_c_24
  let main_v64 : IVec S_ 1 := andi main_v59 main_v63
  main_v64

def fn_part2 {F : FTy → Type} [FloatOps F] (main_arg7 : FVec F S16x32x32x3x3 .f32) (main_arg8 : FVec F S16x3x32 .f32) (main_arg9 : FVec F S16x64x32x3x3 .f32) (main_arg10 : FVec F S16x3x64 .f32) (main_arg11 : FVec F S16x64x64x3x3 .f32) (main_arg12 : FVec F S16x3x64 .f32) (main_v29 : IVec S_ 1) (main_v32 : IVec S16x3x32 1) (main_c_12 : IVec S_ 1) : IVec S_ 1 :=
  let main_v33 : IVec S_ 1 := (fun x v => Host.reduce IntOp.andi x v reducesTo_S16x3x32_S_d0_1_2 h_S_) main_v32 main_c_12
  let main_v34 : IVec S_ 1 := andi main_v29 main_v33
  let main_v35 : FVec F S16x32x32x3x3 .f32 := Host.absf main_arg7
  let main_cst_13 : FVec F S_ .f32 := constant S_ .f32 0x7F800000#32
  let main_v36 : FVec F S16x32x32x3x3 .f32 := broadcastInDim S16x32x32x3x3 ![] bcast_S_S16x32x32x3x3 main_cst_13
  let main_v37 : IVec S16x32x32x3x3 1 := cmpf .olt main_v35 main_v36
  let main_c_14 : IVec S_ 1 := constantI S_ 1 1#1
  let main_v38 : IVec S_ 1 := (fun x v => Host.reduce IntOp.andi x v reducesTo_S16x32x32x3x3_S_d0_1_2_3_4 h_S_) main_v37 main_c_14
  let main_v39 : IVec S_ 1 := andi main_v34 main_v38
  let main_v40 : FVec F S16x3x32 .f32 := Host.absf main_arg8
  let main_cst_15 : FVec F S_ .f32 := constant S_ .f32 0x7F800000#32
  let main_v41 : FVec F S16x3x32 .f32 := broadcastInDim S16x3x32 ![] bcast_S_S16x3x32 main_cst_15
  let main_v42 : IVec S16x3x32 1 := cmpf .olt main_v40 main_v41
  let main_c_16 : IVec S_ 1 := constantI S_ 1 1#1
  let main_v43 : IVec S_ 1 := (fun x v => Host.reduce IntOp.andi x v reducesTo_S16x3x32_S_d0_1_2 h_S_) main_v42 main_c_16
  let main_v44 : IVec S_ 1 := andi main_v39 main_v43
  let main_v45 : FVec F S16x64x32x3x3 .f32 := Host.absf main_arg9
  let main_cst_17 : FVec F S_ .f32 := constant S_ .f32 0x7F800000#32
  let main_v46 : FVec F S16x64x32x3x3 .f32 := broadcastInDim S16x64x32x3x3 ![] bcast_S_S16x64x32x3x3 main_cst_17
  let main_v47 : IVec S16x64x32x3x3 1 := cmpf .olt main_v45 main_v46
  let main_c_18 : IVec S_ 1 := constantI S_ 1 1#1
  let main_v48 : IVec S_ 1 := (fun x v => Host.reduce IntOp.andi x v reducesTo_S16x64x32x3x3_S_d0_1_2_3_4 h_S_) main_v47 main_c_18
  let main_v49 : IVec S_ 1 := andi main_v44 main_v48
  let main_v50 : FVec F S16x3x64 .f32 := Host.absf main_arg10
  fn_part3 (F := F) main_arg11 main_arg12 main_v49 main_v50

def fn_part1 {F : FTy → Type} [FloatOps F] (main_arg4 : FVec F S16x3x16 .f32) (main_arg5 : FVec F S16x32x16x3x3 .f32) (main_arg6 : FVec F S16x3x32 .f32) (main_arg7 : FVec F S16x32x32x3x3 .f32) (main_arg8 : FVec F S16x3x32 .f32) (main_arg9 : FVec F S16x64x32x3x3 .f32) (main_arg10 : FVec F S16x3x64 .f32) (main_arg11 : FVec F S16x64x64x3x3 .f32) (main_arg12 : FVec F S16x3x64 .f32) (main_v14 : IVec S_ 1) (main_v15 : FVec F S16x16x16x3x3 .f32) (main_cst_5 : FVec F S_ .f32) : IVec S_ 1 :=
  let main_v16 : FVec F S16x16x16x3x3 .f32 := broadcastInDim S16x16x16x3x3 ![] bcast_S_S16x16x16x3x3 main_cst_5
  let main_v17 : IVec S16x16x16x3x3 1 := cmpf .olt main_v15 main_v16
  let main_c_6 : IVec S_ 1 := constantI S_ 1 1#1
  let main_v18 : IVec S_ 1 := (fun x v => Host.reduce IntOp.andi x v reducesTo_S16x16x16x3x3_S_d0_1_2_3_4 h_S_) main_v17 main_c_6
  let main_v19 : IVec S_ 1 := andi main_v14 main_v18
  let main_v20 : FVec F S16x3x16 .f32 := Host.absf main_arg4
  let main_cst_7 : FVec F S_ .f32 := constant S_ .f32 0x7F800000#32
  let main_v21 : FVec F S16x3x16 .f32 := broadcastInDim S16x3x16 ![] bcast_S_S16x3x16 main_cst_7
  let main_v22 : IVec S16x3x16 1 := cmpf .olt main_v20 main_v21
  let main_c_8 : IVec S_ 1 := constantI S_ 1 1#1
  let main_v23 : IVec S_ 1 := (fun x v => Host.reduce IntOp.andi x v reducesTo_S16x3x16_S_d0_1_2 h_S_) main_v22 main_c_8
  let main_v24 : IVec S_ 1 := andi main_v19 main_v23
  let main_v25 : FVec F S16x32x16x3x3 .f32 := Host.absf main_arg5
  let main_cst_9 : FVec F S_ .f32 := constant S_ .f32 0x7F800000#32
  let main_v26 : FVec F S16x32x16x3x3 .f32 := broadcastInDim S16x32x16x3x3 ![] bcast_S_S16x32x16x3x3 main_cst_9
  let main_v27 : IVec S16x32x16x3x3 1 := cmpf .olt main_v25 main_v26
  let main_c_10 : IVec S_ 1 := constantI S_ 1 1#1
  let main_v28 : IVec S_ 1 := (fun x v => Host.reduce IntOp.andi x v reducesTo_S16x32x16x3x3_S_d0_1_2_3_4 h_S_) main_v27 main_c_10
  let main_v29 : IVec S_ 1 := andi main_v24 main_v28
  let main_v30 : FVec F S16x3x32 .f32 := Host.absf main_arg6
  let main_cst_11 : FVec F S_ .f32 := constant S_ .f32 0x7F800000#32
  let main_v31 : FVec F S16x3x32 .f32 := broadcastInDim S16x3x32 ![] bcast_S_S16x3x32 main_cst_11
  let main_v32 : IVec S16x3x32 1 := cmpf .olt main_v30 main_v31
  let main_c_12 : IVec S_ 1 := constantI S_ 1 1#1
  fn_part2 (F := F) main_arg7 main_arg8 main_arg9 main_arg10 main_arg11 main_arg12 main_v29 main_v32 main_c_12

def fn {F : FTy → Type} [FloatOps F] (main_arg0 : FVec F S32x3x256x256 .f32) (main_arg1 : FVec F S16x16x3x3x3 .f32) (main_arg2 : FVec F S16x3x16 .f32) (main_arg3 : FVec F S16x16x16x3x3 .f32) (main_arg4 : FVec F S16x3x16 .f32) (main_arg5 : FVec F S16x32x16x3x3 .f32) (main_arg6 : FVec F S16x3x32 .f32) (main_arg7 : FVec F S16x32x32x3x3 .f32) (main_arg8 : FVec F S16x3x32 .f32) (main_arg9 : FVec F S16x64x32x3x3 .f32) (main_arg10 : FVec F S16x3x64 .f32) (main_arg11 : FVec F S16x64x64x3x3 .f32) (main_arg12 : FVec F S16x3x64 .f32) (main_arg13 : FVec F S16x256 .f32) (main_arg14 : FVec F S16x256 .f32) : IVec S_ 1 :=
  let main_v0 : FVec F S32x3x256x256 .f32 := Host.absf main_arg0
  let main_cst : FVec F S_ .f32 := constant S_ .f32 0x7F800000#32
  let main_v1 : FVec F S32x3x256x256 .f32 := broadcastInDim S32x3x256x256 ![] bcast_S_S32x3x256x256 main_cst
  let main_v2 : IVec S32x3x256x256 1 := cmpf .olt main_v0 main_v1
  let main_c : IVec S_ 1 := constantI S_ 1 1#1
  let main_v3 : IVec S_ 1 := (fun x v => Host.reduce IntOp.andi x v reducesTo_S32x3x256x256_S_d0_1_2_3 h_S_) main_v2 main_c
  let main_c_0 : IVec S_ 1 := constantI S_ 1 1#1
  let main_v4 : IVec S_ 1 := andi main_c_0 main_v3
  let main_v5 : FVec F S16x16x3x3x3 .f32 := Host.absf main_arg1
  let main_cst_1 : FVec F S_ .f32 := constant S_ .f32 0x7F800000#32
  let main_v6 : FVec F S16x16x3x3x3 .f32 := broadcastInDim S16x16x3x3x3 ![] bcast_S_S16x16x3x3x3 main_cst_1
  let main_v7 : IVec S16x16x3x3x3 1 := cmpf .olt main_v5 main_v6
  let main_c_2 : IVec S_ 1 := constantI S_ 1 1#1
  let main_v8 : IVec S_ 1 := (fun x v => Host.reduce IntOp.andi x v reducesTo_S16x16x3x3x3_S_d0_1_2_3_4 h_S_) main_v7 main_c_2
  let main_v9 : IVec S_ 1 := andi main_v4 main_v8
  let main_v10 : FVec F S16x3x16 .f32 := Host.absf main_arg2
  let main_cst_3 : FVec F S_ .f32 := constant S_ .f32 0x7F800000#32
  let main_v11 : FVec F S16x3x16 .f32 := broadcastInDim S16x3x16 ![] bcast_S_S16x3x16 main_cst_3
  let main_v12 : IVec S16x3x16 1 := cmpf .olt main_v10 main_v11
  let main_c_4 : IVec S_ 1 := constantI S_ 1 1#1
  let main_v13 : IVec S_ 1 := (fun x v => Host.reduce IntOp.andi x v reducesTo_S16x3x16_S_d0_1_2 h_S_) main_v12 main_c_4
  let main_v14 : IVec S_ 1 := andi main_v9 main_v13
  let main_v15 : FVec F S16x16x16x3x3 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_v14 main_v15 main_cst_5
-- ==== Pre_finite2.lean ====
abbrev S16x32x64x4 : Shape := ⟨4, ![16, 32, 64, 4]⟩
abbrev S256x4096 : Shape := ⟨2, ![256, 4096]⟩
abbrev S256 : Shape := ⟨1, ![256]⟩
abbrev S16x256 : Shape := ⟨2, ![16, 256]⟩
abbrev S16 : Shape := ⟨1, ![16]⟩
abbrev S_ : Shape := ⟨0, ![]⟩

class Facts : Prop where
  bcast_S_S16x32x64x4 : S_.BroadcastsInDim S16x32x64x4 (![] : Fin 0 → Fin S16x32x64x4.rank)
  reducesTo_S16x32x64x4_S_d0_1_2_3 : S16x32x64x4.ReducesTo [0, 1, 2, 3] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x32x64x4 .f32) (main_arg1 : FVec F S256x4096 .f32) (main_arg2 : FVec F S256 .f32) (main_arg3 : FVec F S16x256 .f32) (main_arg4 : FVec F S16 .f32) : IVec S_ 1 :=
  let main_v0 : FVec F S16x32x64x4 .f32 := Host.absf main_arg0
  let main_cst : FVec F S_ .f32 := constant S_ .f32 0x7F800000#32
  let main_v1 : FVec F S16x32x64x4 .f32 := broadcastInDim S16x32x64x4 ![] bcast_S_S16x32x64x4 main_cst
  let main_v2 : IVec S16x32x64x4 1 := cmpf .olt main_v0 main_v1
  let main_c : IVec S_ 1 := constantI S_ 1 1#1
  let main_v3 : IVec S_ 1 := (fun x v => Host.reduce IntOp.andi x v reducesTo_S16x32x64x4_S_d0_1_2_3 h_S_) main_v2 main_c
  let main_c_0 : IVec S_ 1 := constantI S_ 1 1#1
  let main_v4 : IVec S_ 1 := andi main_c_0 main_v3
  let main_v5 : FVec F S256x4096 .f32 := Host.absf main_arg1
  let main_cst_1 : FVec F S_ .f32 := constant S_ .f32 0x7F800000#32
  let main_v6 : FVec F S256x4096 .f32 := broadcastInDim S256x4096 ![] bcast_S_S256x4096 main_cst_1
  let main_v7 : IVec S256x4096 1 := cmpf .olt main_v5 main_v6
  let main_c_2 : IVec S_ 1 := constantI S_ 1 1#1
  let main_v8 : IVec S_ 1 := (fun x v => Host.reduce IntOp.andi x v reducesTo_S256x4096_S_d0_1 h_S_) main_v7 main_c_2
  let main_v9 : IVec S_ 1 := andi main_v4 main_v8
  let main_v10 : FVec F S256 .f32 := Host.absf main_arg2
  let main_cst_3 : FVec F S_ .f32 := constant S_ .f32 0x7F800000#32
  let main_v11 : FVec F S256 .f32 := broadcastInDim S256 ![] bcast_S_S256 main_cst_3
  let main_v12 : IVec S256 1 := cmpf .olt main_v10 main_v11
  let main_c_4 : IVec S_ 1 := constantI S_ 1 1#1
  let main_v13 : IVec S_ 1 := (fun x v => Host.reduce IntOp.andi x v reducesTo_S256_S_d0 h_S_) main_v12 main_c_4
  let main_v14 : IVec S_ 1 := andi main_v9 main_v13
  main_v14
-- ==== Kernel.lean ====
abbrev S32x3x256x256 : Shape := ⟨4, ![32, 3, 256, 256]⟩
abbrev S16x16x3x3x3 : Shape := ⟨5, ![16, 16, 3, 3, 3]⟩
abbrev S16x3x16 : Shape := ⟨3, ![16, 3, 16]⟩
abbrev S16x16x16x3x3 : Shape := ⟨5, ![16, 16, 16, 3, 3]⟩
abbrev S16x32x16x3x3 : Shape := ⟨5, ![16, 32, 16, 3, 3]⟩
abbrev S16x3x32 : Shape := ⟨3, ![16, 3, 32]⟩
abbrev S16x32x32x3x3 : Shape := ⟨5, ![16, 32, 32, 3, 3]⟩
abbrev S16x64x32x3x3 : Shape := ⟨5, ![16, 64, 32, 3, 3]⟩
abbrev S16x3x64 : Shape := ⟨3, ![16, 3, 64]⟩
abbrev S16x64x64x3x3 : Shape := ⟨5, ![16, 64, 64, 3, 3]⟩
abbrev S16x256 : Shape := ⟨2, ![16, 256]⟩
abbrev S16x16x27 : Shape := ⟨3, ![16, 16, 27]⟩
abbrev S16x16x3x3x16 : Shape := ⟨5, ![16, 16, 3, 3, 16]⟩
abbrev S16x16x144 : Shape := ⟨3, ![16, 16, 144]⟩
abbrev S16x32x3x3x16 : Shape := ⟨5, ![16, 32, 3, 3, 16]⟩
abbrev S16x32x144 : Shape := ⟨3, ![16, 32, 144]⟩
abbrev S16x32x3x3x32 : Shape := ⟨5, ![16, 32, 3, 3, 32]⟩
abbrev S16x32x288 : Shape := ⟨3, ![16, 32, 288]⟩
abbrev S16x64x3x3x32 : Shape := ⟨5, ![16, 64, 3, 3, 32]⟩
abbrev S16x64x288 : Shape := ⟨3, ![16, 64, 288]⟩
abbrev S16x64x3x3x64 : Shape := ⟨5, ![16, 64, 3, 3, 64]⟩
abbrev S16x64x576 : Shape := ⟨3, ![16, 64, 576]⟩
abbrev S16x16x3 : Shape := ⟨3, ![16, 16, 3]⟩
abbrev S16x32x3 : Shape := ⟨3, ![16, 32, 3]⟩
abbrev S16x64x3 : Shape := ⟨3, ![16, 64, 3]⟩
abbrev S16x64x4 : Shape := ⟨3, ![16, 64, 4]⟩
abbrev S1024 : Shape := ⟨1, ![1024]⟩
abbrev S_ : Shape := ⟨0, ![]⟩
abbrev S1024x1 : Shape := ⟨2, ![1024, 1]⟩
abbrev S1x512 : Shape := ⟨2, ![1, 512]⟩
abbrev S1024x512 : Shape := ⟨2, ![1024, 512]⟩
abbrev S8x128x512 : Shape := ⟨3, ![8, 128, 512]⟩
abbrev S8x512x128 : Shape := ⟨3, ![8, 512, 128]⟩
abbrev S256 : Shape := ⟨1, ![256]⟩
abbrev S256x1 : Shape := ⟨2, ![256, 1]⟩
abbrev S256x512 : Shape := ⟨2, ![256, 512]⟩
abbrev S2x128x512 : Shape := ⟨3, ![2, 128, 512]⟩
abbrev S2x512x128 : Shape := ⟨3, ![2, 512, 128]⟩
abbrev S1x4 : Shape := ⟨2, ![1, 4]⟩
abbrev S256x4 : Shape := ⟨2, ![256, 4]⟩
abbrev S32x3x4x64x4x64 : Shape := ⟨6, ![32, 3, 4, 64, 4, 64]⟩
abbrev S4x4x32x3x64x64 : Shape := ⟨6, ![4, 4, 32, 3, 64, 64]⟩
abbrev S16x32x3x4096 : Shape := ⟨4, ![16, 32, 3, 4096]⟩
abbrev S16x32x64x4 : Shape := ⟨4, ![16, 32, 64, 4]⟩
abbrev S1x32x3x4096 : Shape := ⟨4, ![1, 32, 3, 4096]⟩
abbrev S1x16x27 : Shape := ⟨3, ![1, 16, 27]⟩
abbrev S1x16x3 : Shape := ⟨3, ![1, 16, 3]⟩
abbrev S1x16x144 : Shape := ⟨3, ![1, 16, 144]⟩
abbrev S1x32x144 : Shape := ⟨3, ![1, 32, 144]⟩
abbrev S1x32x3 : Shape := ⟨3, ![1, 32, 3]⟩
abbrev S1x32x288 : Shape := ⟨3, ![1, 32, 288]⟩
abbrev S1x64x288 : Shape := ⟨3, ![1, 64, 288]⟩
abbrev S1x64x3 : Shape := ⟨3, ![1, 64, 3]⟩
abbrev S1x64x576 : Shape := ⟨3, ![1, 64, 576]⟩
abbrev S1x64x4 : Shape := ⟨3, ![1, 64, 4]⟩
abbrev S1x32x64x4 : Shape := ⟨4, ![1, 32, 64, 4]⟩
abbrev S32x3x4352 : Shape := ⟨3, ![32, 3, 4352]⟩
abbrev S32x16x4352 : Shape := ⟨3, ![32, 16, 4352]⟩
abbrev S32x32x1280 : Shape := ⟨3, ![32, 32, 1280]⟩
abbrev S32x64x512 : Shape := ⟨3, ![32, 64, 512]⟩
abbrev S32x64x256 : Shape := ⟨3, ![32, 64, 256]⟩
abbrev S32x3x128 : Shape := ⟨3, ![32, 3, 128]⟩
abbrev S32x16x128 : Shape := ⟨3, ![32, 16, 128]⟩
abbrev S32x32x128 : Shape := ⟨3, ![32, 32, 128]⟩
abbrev S32x64x128 : Shape := ⟨3, ![32, 64, 128]⟩
abbrev S32x3x4096 : Shape := ⟨3, ![32, 3, 4096]⟩
abbrev S16x27 : Shape := ⟨2, ![16, 27]⟩
abbrev S1x4096 : Shape := ⟨2, ![1, 4096]⟩
abbrev S1x3x4096 : Shape := ⟨3, ![1, 3, 4096]⟩
abbrev S3x4096 : Shape := ⟨2, ![3, 4096]⟩
abbrev S27x4096 : Shape := ⟨2, ![27, 4096]⟩
abbrev S16x4096 : Shape := ⟨2, ![16, 4096]⟩
abbrev S1x16x4096 : Shape := ⟨3, ![1, 16, 4096]⟩
abbrev S16x1 : Shape := ⟨2, ![16, 1]⟩
abbrev S16 : Shape := ⟨1, ![16]⟩
abbrev S1x16x1 : Shape := ⟨3, ![1, 16, 1]⟩
abbrev S16x144 : Shape := ⟨2, ![16, 144]⟩
abbrev S144x4096 : Shape := ⟨2, ![144, 4096]⟩
abbrev S32x144 : Shape := ⟨2, ![32, 144]⟩
abbrev S32x4096 : Shape := ⟨2, ![32, 4096]⟩
abbrev S32x512 : Shape := ⟨2, ![32, 512]⟩
abbrev S1x512x128 : Shape := ⟨3, ![1, 512, 128]⟩
abbrev S512x128 : Shape := ⟨2, ![512, 128]⟩
abbrev S32x128 : Shape := ⟨2, ![32, 128]⟩
abbrev S32x1024 : Shape := ⟨2, ![32, 1024]⟩
abbrev S1x32x1024 : Shape := ⟨3, ![1, 32, 1024]⟩
abbrev S32x1 : Shape := ⟨2, ![32, 1]⟩
abbrev S32 : Shape := ⟨1, ![32]⟩
abbrev S1x32x1 : Shape := ⟨3, ![1, 32, 1]⟩
abbrev S32x288 : Shape := ⟨2, ![32, 288]⟩
abbrev S1x1024 : Shape := ⟨2, ![1, 1024]⟩
abbrev S288x1024 : Shape := ⟨2, ![288, 1024]⟩
abbrev S64x288 : Shape := ⟨2, ![64, 288]⟩
abbrev S64x1024 : Shape := ⟨2, ![64, 1024]⟩
abbrev S64x512 : Shape := ⟨2, ![64, 512]⟩
abbrev S64x128 : Shape := ⟨2, ![64, 128]⟩
abbrev S64x256 : Shape := ⟨2, ![64, 256]⟩
abbrev S1x64x256 : Shape := ⟨3, ![1, 64, 256]⟩
abbrev S64x1 : Shape := ⟨2, ![64, 1]⟩
abbrev S64 : Shape := ⟨1, ![64]⟩
abbrev S1x64x1 : Shape := ⟨3, ![1, 64, 1]⟩
abbrev S64x576 : Shape := ⟨2, ![64, 576]⟩
abbrev S1x256 : Shape := ⟨2, ![1, 256]⟩
abbrev S576x256 : Shape := ⟨2, ![576, 256]⟩
abbrev S2048x256 : Shape := ⟨2, ![2048, 256]⟩
abbrev S2048x4 : Shape := ⟨2, ![2048, 4]⟩
abbrev S32x64x4 : Shape := ⟨3, ![32, 64, 4]⟩
abbrev S64x4 : Shape := ⟨2, ![64, 4]⟩

abbrev nBuf : Space → Nat
  | .hbm => 293
  | .vmem => 42
  | .smem => 0
  | _ => 0

abbrev hbmTy0_0 (i : Nat) : BufTy := match i % 128 with
  | 0 => ⟨S32x3x256x256, .f32⟩
  | 1 => ⟨S16x16x3x3x3, .f32⟩
  | 2 => ⟨S16x3x16, .f32⟩
  | 3 => ⟨S16x16x16x3x3, .f32⟩
  | 4 => ⟨S16x3x16, .f32⟩
  | 5 => ⟨S16x32x16x3x3, .f32⟩
  | 6 => ⟨S16x3x32, .f32⟩
  | 7 => ⟨S16x32x32x3x3, .f32⟩
  | 8 => ⟨S16x3x32, .f32⟩
  | 9 => ⟨S16x64x32x3x3, .f32⟩
  | 10 => ⟨S16x3x64, .f32⟩
  | 11 => ⟨S16x64x64x3x3, .f32⟩
  | 12 => ⟨S16x3x64, .f32⟩
  | 13 => ⟨S16x256, .f32⟩
  | 14 => ⟨S16x256, .f32⟩
  | 15 => ⟨S16x16x3x3x3, .f32⟩
  | 16 => ⟨S16x16x27, .f32⟩
  | 17 => ⟨S16x16x3x3x16, .f32⟩
  | 18 => ⟨S16x16x144, .f32⟩
  | 19 => ⟨S16x32x3x3x16, .f32⟩
  | 20 => ⟨S16x32x144, .f32⟩
  | 21 => ⟨S16x32x3x3x32, .f32⟩
  | 22 => ⟨S16x32x288, .f32⟩
  | 23 => ⟨S16x64x3x3x32, .f32⟩
  | 24 => ⟨S16x64x288, .f32⟩
  | 25 => ⟨S16x64x3x3x64, .f32⟩
  | 26 => ⟨S16x64x576, .f32⟩
  | 27 => ⟨S16x16x3, .f32⟩
  | 28 => ⟨S16x16x3, .f32⟩
  | 29 => ⟨S16x32x3, .f32⟩
  | 30 => ⟨S16x32x3, .f32⟩
  | 31 => ⟨S16x64x3, .f32⟩
  | 32 => ⟨S16x64x3, .f32⟩
  | 33 => ⟨S16x64x4, .f32⟩
  | 34 => ⟨S16x64x4, .f32⟩
  | 35 => ⟨S1024, .i32⟩
  | 36 => ⟨S_, .i32⟩
  | 37 => ⟨S_, .i32⟩
  | 38 => ⟨S1024, .i32⟩
  | 39 => ⟨S1024, .i32⟩
  | 40 => ⟨S1024, .i32⟩
  | 41 => ⟨S_, .i32⟩
  | 42 => ⟨S1024, .i32⟩
  | 43 => ⟨S1024, .i1⟩
  | 44 => ⟨S1024, .i32⟩
  | 45 => ⟨S1024, .i32⟩
  | 46 => ⟨S_, .i32⟩
  | 47 => ⟨S1024, .i32⟩
  | 48 => ⟨S1024, .i1⟩
  | 49 => ⟨S1024, .i1⟩
  | 50 => ⟨S_, .i32⟩
  | 51 => ⟨S1024, .i32⟩
  | 52 => ⟨S1024, .i32⟩
  | 53 => ⟨S1024, .i32⟩
  | 54 => ⟨S_, .i32⟩
  | 55 => ⟨S1024, .i32⟩
  | 56 => ⟨S1024, .i32⟩
  | 57 => ⟨S_, .i32⟩
  | 58 => ⟨S1024, .i32⟩
  | 59 => ⟨S1024, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S1024, .i32⟩
  | 67 => ⟨S1024, .i32⟩
  | 68 => ⟨S_, .i32⟩
  | 69 => ⟨S1024, .i32⟩
  | 70 => ⟨S1024, .i1⟩
  | 71 => ⟨S_, .i32⟩
  | 72 => ⟨S1024, .i32⟩
  | 73 => ⟨S1024, .i1⟩
  | 74 => ⟨S_, .i32⟩
  | 75 => ⟨S_, .i1⟩
  | 76 => ⟨S1024, .i1⟩
  | 77 => ⟨S1024, .i1⟩
  | 78 => ⟨S1024, .i1⟩
  | 79 => ⟨S1024, .i32⟩
  | 80 => ⟨S1024, .i32⟩
  | 81 => ⟨S1024, .i32⟩
  | 82 => ⟨S_, .i32⟩
  | 83 => ⟨S1024, .i32⟩
  | 84 => ⟨S1024, .i32⟩
  | 85 => ⟨S1024, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S1024, .i32⟩
  | 93 => ⟨S1024, .i32⟩
  | 94 => ⟨S_, .i32⟩
  | 95 => ⟨S1024, .i32⟩
  | 96 => ⟨S1024, .i1⟩
  | 97 => ⟨S_, .i32⟩
  | 98 => ⟨S1024, .i32⟩
  | 99 => ⟨S1024, .i1⟩
  | 100 => ⟨S_, .i32⟩
  | 101 => ⟨S_, .i1⟩
  | 102 => ⟨S1024, .i1⟩
  | 103 => ⟨S1024, .i1⟩
  | 104 => ⟨S1024, .i1⟩
  | 105 => ⟨S1024, .i32⟩
  | 106 => ⟨S1024, .i32⟩
  | 107 => ⟨S1024, .i32⟩
  | 108 => ⟨S1024x1, .i32⟩
  | 109 => ⟨S1x512, .i32⟩
  | 110 => ⟨S1024x512, .i32⟩
  | 111 => ⟨S1024x512, .i32⟩
  | 112 => ⟨S1024x512, .i1⟩
  | 113 => ⟨S1024x512, .f32⟩
  | 114 => ⟨S8x128x512, .f32⟩
  | 115 => ⟨S8x512x128, .f32⟩
  | 116 => ⟨S8x512x128, .bf16⟩
  | 117 => ⟨S256, .i32⟩
  | 118 => ⟨S_, .i32⟩
  | 119 => ⟨S_, .i32⟩
  | 120 => ⟨S256, .i32⟩
  | 121 => ⟨S256, .i32⟩
  | 122 => ⟨S256, .i32⟩
  | 123 => ⟨S_, .i32⟩
  | 124 => ⟨S256, .i32⟩
  | 125 => ⟨S256, .i1⟩
  | 126 => ⟨S256, .i32⟩
  | 127 => ⟨S256, .i32⟩
  | _ => ⟨S32x3x256x256, .f32⟩

abbrev hbmTy0_1 (i : Nat) : BufTy := match i % 128 with
  | 0 => ⟨S_, .i32⟩
  | 1 => ⟨S256, .i32⟩
  | 2 => ⟨S256, .i1⟩
  | 3 => ⟨S256, .i1⟩
  | 4 => ⟨S_, .i32⟩
  | 5 => ⟨S256, .i32⟩
  | 6 => ⟨S256, .i32⟩
  | 7 => ⟨S256, .i32⟩
  | 8 => ⟨S_, .i32⟩
  | 9 => ⟨S256, .i32⟩
  | 10 => ⟨S256, .i32⟩
  | 11 => ⟨S_, .i32⟩
  | 12 => ⟨S256, .i32⟩
  | 13 => ⟨S256, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S256, .i32⟩
  | 21 => ⟨S256, .i32⟩
  | 22 => ⟨S_, .i32⟩
  | 23 => ⟨S256, .i32⟩
  | 24 => ⟨S256, .i1⟩
  | 25 => ⟨S_, .i32⟩
  | 26 => ⟨S256, .i32⟩
  | 27 => ⟨S256, .i1⟩
  | 28 => ⟨S_, .i32⟩
  | 29 => ⟨S_, .i1⟩
  | 30 => ⟨S256, .i1⟩
  | 31 => ⟨S256, .i1⟩
  | 32 => ⟨S256, .i1⟩
  | 33 => ⟨S256, .i32⟩
  | 34 => ⟨S256, .i32⟩
  | 35 => ⟨S256, .i32⟩
  | 36 => ⟨S_, .i32⟩
  | 37 => ⟨S256, .i32⟩
  | 38 => ⟨S256, .i32⟩
  | 39 => ⟨S256, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S256, .i32⟩
  | 47 => ⟨S256, .i32⟩
  | 48 => ⟨S_, .i32⟩
  | 49 => ⟨S256, .i32⟩
  | 50 => ⟨S256, .i1⟩
  | 51 => ⟨S_, .i32⟩
  | 52 => ⟨S256, .i32⟩
  | 53 => ⟨S256, .i1⟩
  | 54 => ⟨S_, .i32⟩
  | 55 => ⟨S_, .i1⟩
  | 56 => ⟨S256, .i1⟩
  | 57 => ⟨S256, .i1⟩
  | 58 => ⟨S256, .i1⟩
  | 59 => ⟨S256, .i32⟩
  | 60 => ⟨S256, .i32⟩
  | 61 => ⟨S256, .i32⟩
  | 62 => ⟨S256x1, .i32⟩
  | 63 => ⟨S1x512, .i32⟩
  | 64 => ⟨S256x512, .i32⟩
  | 65 => ⟨S256x512, .i32⟩
  | 66 => ⟨S256x512, .i1⟩
  | 67 => ⟨S256x512, .f32⟩
  | 68 => ⟨S2x128x512, .f32⟩
  | 69 => ⟨S2x512x128, .f32⟩
  | 70 => ⟨S2x512x128, .bf16⟩
  | 71 => ⟨S256, .i32⟩
  | 72 => ⟨S_, .i32⟩
  | 73 => ⟨S_, .i32⟩
  | 74 => ⟨S256, .i32⟩
  | 75 => ⟨S256, .i32⟩
  | 76 => ⟨S256, .i32⟩
  | 77 => ⟨S_, .i32⟩
  | 78 => ⟨S256, .i32⟩
  | 79 => ⟨S256, .i1⟩
  | 80 => ⟨S256, .i32⟩
  | 81 => ⟨S256, .i32⟩
  | 82 => ⟨S_, .i32⟩
  | 83 => ⟨S256, .i32⟩
  | 84 => ⟨S256, .i1⟩
  | 85 => ⟨S256, .i1⟩
  | 86 => ⟨S_, .i32⟩
  | 87 => ⟨S256, .i32⟩
  | 88 => ⟨S256, .i32⟩
  | 89 => ⟨S256, .i32⟩
  | 90 => ⟨S_, .i32⟩
  | 91 => ⟨S_, .i32⟩
  | 92 => ⟨S256, .i32⟩
  | 93 => ⟨S256, .i32⟩
  | 94 => ⟨S256, .i32⟩
  | 95 => ⟨S_, .i32⟩
  | 96 => ⟨S256, .i32⟩
  | 97 => ⟨S256, .i1⟩
  | 98 => ⟨S256, .i32⟩
  | 99 => ⟨S256, .i32⟩
  | 100 => ⟨S_, .i32⟩
  | 101 => ⟨S256, .i32⟩
  | 102 => ⟨S256, .i1⟩
  | 103 => ⟨S256, .i1⟩
  | 104 => ⟨S_, .i32⟩
  | 105 => ⟨S256, .i32⟩
  | 106 => ⟨S256, .i32⟩
  | 107 => ⟨S256, .i32⟩
  | 108 => ⟨S_, .i32⟩
  | 109 => ⟨S256, .i32⟩
  | 110 => ⟨S256, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S256, .i32⟩
  | 118 => ⟨S256, .i32⟩
  | 119 => ⟨S_, .i32⟩
  | 120 => ⟨S256, .i32⟩
  | 121 => ⟨S256, .i1⟩
  | 122 => ⟨S_, .i32⟩
  | 123 => ⟨S256, .i32⟩
  | 124 => ⟨S256, .i1⟩
  | 125 => ⟨S_, .i32⟩
  | 126 => ⟨S_, .i1⟩
  | 127 => ⟨S256, .i1⟩
  | _ => ⟨S32x3x256x256, .f32⟩

abbrev hbmTy0_2 (i : Nat) : BufTy := match i % 128 with
  | 0 => ⟨S256, .i1⟩
  | 1 => ⟨S256, .i1⟩
  | 2 => ⟨S256, .i32⟩
  | 3 => ⟨S256, .i32⟩
  | 4 => ⟨S256, .i32⟩
  | 5 => ⟨S_, .i32⟩
  | 6 => ⟨S_, .i32⟩
  | 7 => ⟨S256, .i32⟩
  | 8 => ⟨S256, .i32⟩
  | 9 => ⟨S256, .i32⟩
  | 10 => ⟨S_, .i32⟩
  | 11 => ⟨S256, .i32⟩
  | 12 => ⟨S256, .i1⟩
  | 13 => ⟨S256, .i32⟩
  | 14 => ⟨S256, .i32⟩
  | 15 => ⟨S_, .i32⟩
  | 16 => ⟨S256, .i32⟩
  | 17 => ⟨S256, .i1⟩
  | 18 => ⟨S256, .i1⟩
  | 19 => ⟨S_, .i32⟩
  | 20 => ⟨S256, .i32⟩
  | 21 => ⟨S256, .i32⟩
  | 22 => ⟨S256, .i32⟩
  | 23 => ⟨S256, .i32⟩
  | 24 => ⟨S256x1, .i32⟩
  | 25 => ⟨S1x4, .i32⟩
  | 26 => ⟨S256x4, .i32⟩
  | 27 => ⟨S256x4, .i32⟩
  | 28 => ⟨S256x4, .i1⟩
  | 29 => ⟨S256x4, .f32⟩
  | 30 => ⟨S_, .f32⟩
  | 31 => ⟨S256x4, .f32⟩
  | 32 => ⟨S256x4, .f32⟩
  | 33 => ⟨S32x3x4x64x4x64, .f32⟩
  | 34 => ⟨S4x4x32x3x64x64, .f32⟩
  | 35 => ⟨S16x32x3x4096, .f32⟩
  | 36 => ⟨S16x32x64x4, .f32⟩
  | _ => ⟨S32x3x256x256, .f32⟩

abbrev hbmTy (i : Nat) : BufTy := match i / 128 with
  | 0 => hbmTy0_0 i
  | 1 => hbmTy0_1 i
  | 2 => hbmTy0_2 i
  | _ => ⟨S32x3x256x256, .f32⟩

abbrev bufTy : (tb : Table) → Fin (tcTables nBuf tb) → BufTy
  | .hbm, ⟨i, _⟩ => hbmTy i
  | .local _ .vmem, ⟨0, _⟩ => ⟨S1x32x3x4096, .f32⟩
  | .local _ .vmem, ⟨1, _⟩ => ⟨S1x32x3x4096, .f32⟩
  | .local _ .vmem, ⟨2, _⟩ => ⟨S1x16x27, .f32⟩
  | .local _ .vmem, ⟨3, _⟩ => ⟨S1x16x27, .f32⟩
  | .local _ .vmem, ⟨4, _⟩ => ⟨S1x16x3, .f32⟩
  | .local _ .vmem, ⟨5, _⟩ => ⟨S1x16x3, .f32⟩
  | .local _ .vmem, ⟨6, _⟩ => ⟨S1x16x144, .f32⟩
  | .local _ .vmem, ⟨7, _⟩ => ⟨S1x16x144, .f32⟩
  | .local _ .vmem, ⟨8, _⟩ => ⟨S1x16x3, .f32⟩
  | .local _ .vmem, ⟨9, _⟩ => ⟨S1x16x3, .f32⟩
  | .local _ .vmem, ⟨10, _⟩ => ⟨S1x32x144, .f32⟩
  | .local _ .vmem, ⟨11, _⟩ => ⟨S1x32x144, .f32⟩
  | .local _ .vmem, ⟨12, _⟩ => ⟨S1x32x3, .f32⟩
  | .local _ .vmem, ⟨13, _⟩ => ⟨S1x32x3, .f32⟩
  | .local _ .vmem, ⟨14, _⟩ => ⟨S1x32x288, .f32⟩
  | .local _ .vmem, ⟨15, _⟩ => ⟨S1x32x288, .f32⟩
  | .local _ .vmem, ⟨16, _⟩ => ⟨S1x32x3, .f32⟩
  | .local _ .vmem, ⟨17, _⟩ => ⟨S1x32x3, .f32⟩
  | .local _ .vmem, ⟨18, _⟩ => ⟨S1x64x288, .f32⟩
  | .local _ .vmem, ⟨19, _⟩ => ⟨S1x64x288, .f32⟩
  | .local _ .vmem, ⟨20, _⟩ => ⟨S1x64x3, .f32⟩
  | .local _ .vmem, ⟨21, _⟩ => ⟨S1x64x3, .f32⟩
  | .local _ .vmem, ⟨22, _⟩ => ⟨S1x64x576, .f32⟩
  | .local _ .vmem, ⟨23, _⟩ => ⟨S1x64x576, .f32⟩
  | .local _ .vmem, ⟨24, _⟩ => ⟨S1x64x3, .f32⟩
  | .local _ .vmem, ⟨25, _⟩ => ⟨S1x64x3, .f32⟩
  | .local _ .vmem, ⟨26, _⟩ => ⟨S1x64x4, .f32⟩
  | .local _ .vmem, ⟨27, _⟩ => ⟨S1x64x4, .f32⟩
  | .local _ .vmem, ⟨28, _⟩ => ⟨S1x64x4, .f32⟩
  | .local _ .vmem, ⟨29, _⟩ => ⟨S1x64x4, .f32⟩
  | .local _ .vmem, ⟨30, _⟩ => ⟨S8x512x128, .bf16⟩
  | .local _ .vmem, ⟨31, _⟩ => ⟨S2x512x128, .bf16⟩
  | .local _ .vmem, ⟨32, _⟩ => ⟨S256x4, .f32⟩
  | .local _ .vmem, ⟨33, _⟩ => ⟨S1x32x64x4, .f32⟩
  | .local _ .vmem, ⟨34, _⟩ => ⟨S1x32x64x4, .f32⟩
  | .local _ .vmem, ⟨35, _⟩ => ⟨S32x3x4352, .f32⟩
  | .local _ .vmem, ⟨36, _⟩ => ⟨S32x16x4352, .f32⟩
  | .local _ .vmem, ⟨37, _⟩ => ⟨S32x16x4352, .f32⟩
  | .local _ .vmem, ⟨38, _⟩ => ⟨S32x32x1280, .f32⟩
  | .local _ .vmem, ⟨39, _⟩ => ⟨S32x32x1280, .f32⟩
  | .local _ .vmem, ⟨40, _⟩ => ⟨S32x64x512, .f32⟩
  | .local _ .vmem, ⟨41, _⟩ => ⟨S32x64x256, .f32⟩
  | _, _ => ⟨S32x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_c : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_c_0 : Ref sig .tc := ⟨.hbm, 50, rfl⟩
abbrev main_call0_call0_v12 : Ref sig .tc := ⟨.hbm, 51, rfl⟩
abbrev main_call0_call0_v13 : Ref sig .tc := ⟨.hbm, 52, rfl⟩
abbrev main_call0_v21 : Ref sig .tc := ⟨.hbm, 53, rfl⟩
abbrev main_call0_c_0 : Ref sig .tc := ⟨.hbm, 54, rfl⟩
abbrev main_call0_v22 : Ref sig .tc := ⟨.hbm, 55, rfl⟩
abbrev main_call0_v23 : Ref sig .tc := ⟨.hbm, 56, rfl⟩
abbrev main_call0_c_1 : Ref sig .tc := ⟨.hbm, 57, rfl⟩
abbrev main_call0_v24 : Ref sig .tc := ⟨.hbm, 58, rfl⟩
abbrev main_call0_v25 : Ref sig .tc := ⟨.hbm, 59, rfl⟩
abbrev main_call0_c_2 : Ref sig .tc := ⟨.hbm, 60, rfl⟩
abbrev main_call0_call1_v0 : Ref sig .tc := ⟨.hbm, 61, rfl⟩
abbrev main_call0_call1_c : Ref sig .tc := ⟨.hbm, 62, rfl⟩
abbrev main_call0_call1_v1 : Ref sig .tc := ⟨.hbm, 63, rfl⟩
abbrev main_call0_call1_c_0 : Ref sig .tc := ⟨.hbm, 64, rfl⟩
abbrev main_call0_call1_v2 : Ref sig .tc := ⟨.hbm, 65, rfl⟩
abbrev main_call0_call1_v3 : Ref sig .tc := ⟨.hbm, 66, rfl⟩
abbrev main_call0_call1_v4 : Ref sig .tc := ⟨.hbm, 67, rfl⟩
abbrev main_call0_call1_c_1 : Ref sig .tc := ⟨.hbm, 68, rfl⟩
abbrev main_call0_call1_v5 : Ref sig .tc := ⟨.hbm, 69, rfl⟩
abbrev main_call0_call1_v6 : Ref sig .tc := ⟨.hbm, 70, rfl⟩
abbrev main_call0_call1_c_2 : Ref sig .tc := ⟨.hbm, 71, rfl⟩
abbrev main_call0_call1_v7 : Ref sig .tc := ⟨.hbm, 72, rfl⟩
abbrev main_call0_call1_v8 : Ref sig .tc := ⟨.hbm, 73, rfl⟩
abbrev main_call0_call1_c_3 : Ref sig .tc := ⟨.hbm, 74, rfl⟩
abbrev main_call0_call1_v9 : Ref sig .tc := ⟨.hbm, 75, rfl⟩
abbrev main_call0_call1_v10 : Ref sig .tc := ⟨.hbm, 76, rfl⟩
abbrev main_call0_call1_v11 : Ref sig .tc := ⟨.hbm, 77, rfl⟩
abbrev main_call0_call1_v12 : Ref sig .tc := ⟨.hbm, 78, rfl⟩
abbrev main_call0_call1_v13 : Ref sig .tc := ⟨.hbm, 79, rfl⟩
abbrev main_call0_call1_v14 : Ref sig .tc := ⟨.hbm, 80, rfl⟩
abbrev main_call0_v26 : Ref sig .tc := ⟨.hbm, 81, rfl⟩
abbrev main_call0_c_3 : Ref sig .tc := ⟨.hbm, 82, rfl⟩
abbrev main_call0_v27 : Ref sig .tc := ⟨.hbm, 83, rfl⟩
abbrev main_call0_v28 : Ref sig .tc := ⟨.hbm, 84, rfl⟩
abbrev main_call0_v29 : Ref sig .tc := ⟨.hbm, 85, rfl⟩
abbrev main_call0_c_4 : Ref sig .tc := ⟨.hbm, 86, rfl⟩
abbrev main_call0_call2_v0 : Ref sig .tc := ⟨.hbm, 87, rfl⟩
abbrev main_call0_call2_c : Ref sig .tc := ⟨.hbm, 88, rfl⟩
abbrev main_call0_call2_v1 : Ref sig .tc := ⟨.hbm, 89, rfl⟩
abbrev main_call0_call2_c_0 : Ref sig .tc := ⟨.hbm, 90, rfl⟩
abbrev main_call0_call2_v2 : Ref sig .tc := ⟨.hbm, 91, rfl⟩
abbrev main_call0_call2_v3 : Ref sig .tc := ⟨.hbm, 92, rfl⟩
abbrev main_call0_call2_v4 : Ref sig .tc := ⟨.hbm, 93, rfl⟩
abbrev main_call0_call2_c_1 : Ref sig .tc := ⟨.hbm, 94, rfl⟩
abbrev main_call0_call2_v5 : Ref sig .tc := ⟨.hbm, 95, rfl⟩
abbrev main_call0_call2_v6 : Ref sig .tc := ⟨.hbm, 96, rfl⟩
abbrev main_call0_call2_c_2 : Ref sig .tc := ⟨.hbm, 97, rfl⟩
abbrev main_call0_call2_v7 : Ref sig .tc := ⟨.hbm, 98, rfl⟩
abbrev main_call0_call2_v8 : Ref sig .tc := ⟨.hbm, 99, rfl⟩
abbrev main_call0_call2_c_3 : Ref sig .tc := ⟨.hbm, 100, rfl⟩
abbrev main_call0_call2_v9 : Ref sig .tc := ⟨.hbm, 101, rfl⟩
abbrev main_call0_call2_v10 : Ref sig .tc := ⟨.hbm, 102, rfl⟩
abbrev main_call0_call2_v11 : Ref sig .tc := ⟨.hbm, 103, rfl⟩
abbrev main_call0_call2_v12 : Ref sig .tc := ⟨.hbm, 104, rfl⟩
abbrev main_call0_call2_v13 : Ref sig .tc := ⟨.hbm, 105, rfl⟩
abbrev main_call0_call2_v14 : Ref sig .tc := ⟨.hbm, 106, rfl⟩
abbrev main_call0_v30 : Ref sig .tc := ⟨.hbm, 107, rfl⟩
abbrev main_call0_call3_v0 : Ref sig .tc := ⟨.hbm, 108, rfl⟩
abbrev main_call0_call3_v1 : Ref sig .tc := ⟨.hbm, 109, rfl⟩
abbrev main_call0_call3_v2 : Ref sig .tc := ⟨.hbm, 110, rfl⟩
abbrev main_call0_call3_v3 : Ref sig .tc := ⟨.hbm, 111, rfl⟩
abbrev main_call0_call3_v4 : Ref sig .tc := ⟨.hbm, 112, rfl⟩
abbrev main_call0_v31 : Ref sig .tc := ⟨.hbm, 113, rfl⟩
abbrev main_call0_v32 : Ref sig .tc := ⟨.hbm, 114, rfl⟩
abbrev main_call0_v33 : Ref sig .tc := ⟨.hbm, 115, rfl⟩
abbrev main_call0_v34 : Ref sig .tc := ⟨.hbm, 116, rfl⟩
abbrev main_call0_v35 : Ref sig .tc := ⟨.hbm, 117, rfl⟩
abbrev main_call0_c_5 : Ref sig .tc := ⟨.hbm, 118, rfl⟩
abbrev main_call0_call4_v0 : Ref sig .tc := ⟨.hbm, 119, rfl⟩
abbrev main_call0_call4_v1 : Ref sig .tc := ⟨.hbm, 120, rfl⟩
abbrev main_call0_call4_v2 : Ref sig .tc := ⟨.hbm, 121, rfl⟩
abbrev main_call0_call4_v3 : Ref sig .tc := ⟨.hbm, 122, rfl⟩
abbrev main_call0_call4_v4 : Ref sig .tc := ⟨.hbm, 123, rfl⟩
abbrev main_call0_call4_v5 : Ref sig .tc := ⟨.hbm, 124, rfl⟩
abbrev main_call0_call4_v6 : Ref sig .tc := ⟨.hbm, 125, rfl⟩
abbrev main_call0_call4_v7 : Ref sig .tc := ⟨.hbm, 126, rfl⟩
abbrev main_call0_call4_v8 : Ref sig .tc := ⟨.hbm, 127, rfl⟩
abbrev main_call0_call4_c : Ref sig .tc := ⟨.hbm, 128, rfl⟩
abbrev main_call0_call4_v9 : Ref sig .tc := ⟨.hbm, 129, rfl⟩
abbrev main_call0_call4_v10 : Ref sig .tc := ⟨.hbm, 130, rfl⟩
abbrev main_call0_call4_v11 : Ref sig .tc := ⟨.hbm, 131, rfl⟩
abbrev main_call0_call4_c_0 : Ref sig .tc := ⟨.hbm, 132, rfl⟩
abbrev main_call0_call4_v12 : Ref sig .tc := ⟨.hbm, 133, rfl⟩
abbrev main_call0_call4_v13 : Ref sig .tc := ⟨.hbm, 134, rfl⟩
abbrev main_call0_v36 : Ref sig .tc := ⟨.hbm, 135, rfl⟩
abbrev main_call0_c_6 : Ref sig .tc := ⟨.hbm, 136, rfl⟩
abbrev main_call0_v37 : Ref sig .tc := ⟨.hbm, 137, rfl⟩
abbrev main_call0_v38 : Ref sig .tc := ⟨.hbm, 138, rfl⟩
abbrev main_call0_c_7 : Ref sig .tc := ⟨.hbm, 139, rfl⟩
abbrev main_call0_v39 : Ref sig .tc := ⟨.hbm, 140, rfl⟩
abbrev main_call0_v40 : Ref sig .tc := ⟨.hbm, 141, rfl⟩
abbrev main_call0_c_8 : Ref sig .tc := ⟨.hbm, 142, rfl⟩
abbrev main_call0_call5_v0 : Ref sig .tc := ⟨.hbm, 143, rfl⟩
abbrev main_call0_call5_c : Ref sig .tc := ⟨.hbm, 144, rfl⟩
abbrev main_call0_call5_v1 : Ref sig .tc := ⟨.hbm, 145, rfl⟩
abbrev main_call0_call5_c_0 : Ref sig .tc := ⟨.hbm, 146, rfl⟩
abbrev main_call0_call5_v2 : Ref sig .tc := ⟨.hbm, 147, rfl⟩
abbrev main_call0_call5_v3 : Ref sig .tc := ⟨.hbm, 148, rfl⟩
abbrev main_call0_call5_v4 : Ref sig .tc := ⟨.hbm, 149, rfl⟩
abbrev main_call0_call5_c_1 : Ref sig .tc := ⟨.hbm, 150, rfl⟩
abbrev main_call0_call5_v5 : Ref sig .tc := ⟨.hbm, 151, rfl⟩
abbrev main_call0_call5_v6 : Ref sig .tc := ⟨.hbm, 152, rfl⟩
abbrev main_call0_call5_c_2 : Ref sig .tc := ⟨.hbm, 153, rfl⟩
abbrev main_call0_call5_v7 : Ref sig .tc := ⟨.hbm, 154, rfl⟩
abbrev main_call0_call5_v8 : Ref sig .tc := ⟨.hbm, 155, rfl⟩
abbrev main_call0_call5_c_3 : Ref sig .tc := ⟨.hbm, 156, rfl⟩
abbrev main_call0_call5_v9 : Ref sig .tc := ⟨.hbm, 157, rfl⟩
abbrev main_call0_call5_v10 : Ref sig .tc := ⟨.hbm, 158, rfl⟩
abbrev main_call0_call5_v11 : Ref sig .tc := ⟨.hbm, 159, rfl⟩
abbrev main_call0_call5_v12 : Ref sig .tc := ⟨.hbm, 160, rfl⟩
abbrev main_call0_call5_v13 : Ref sig .tc := ⟨.hbm, 161, rfl⟩
abbrev main_call0_call5_v14 : Ref sig .tc := ⟨.hbm, 162, rfl⟩
abbrev main_call0_v41 : Ref sig .tc := ⟨.hbm, 163, rfl⟩
abbrev main_call0_c_9 : Ref sig .tc := ⟨.hbm, 164, rfl⟩
abbrev main_call0_v42 : Ref sig .tc := ⟨.hbm, 165, rfl⟩
abbrev main_call0_v43 : Ref sig .tc := ⟨.hbm, 166, rfl⟩
abbrev main_call0_v44 : Ref sig .tc := ⟨.hbm, 167, rfl⟩
abbrev main_call0_c_10 : Ref sig .tc := ⟨.hbm, 168, rfl⟩
abbrev main_call0_call6_v0 : Ref sig .tc := ⟨.hbm, 169, rfl⟩
abbrev main_call0_call6_c : Ref sig .tc := ⟨.hbm, 170, rfl⟩
abbrev main_call0_call6_v1 : Ref sig .tc := ⟨.hbm, 171, rfl⟩
abbrev main_call0_call6_c_0 : Ref sig .tc := ⟨.hbm, 172, rfl⟩
abbrev main_call0_call6_v2 : Ref sig .tc := ⟨.hbm, 173, rfl⟩
abbrev main_call0_call6_v3 : Ref sig .tc := ⟨.hbm, 174, rfl⟩
abbrev main_call0_call6_v4 : Ref sig .tc := ⟨.hbm, 175, rfl⟩
abbrev main_call0_call6_c_1 : Ref sig .tc := ⟨.hbm, 176, rfl⟩
abbrev main_call0_call6_v5 : Ref sig .tc := ⟨.hbm, 177, rfl⟩
abbrev main_call0_call6_v6 : Ref sig .tc := ⟨.hbm, 178, rfl⟩
abbrev main_call0_call6_c_2 : Ref sig .tc := ⟨.hbm, 179, rfl⟩
abbrev main_call0_call6_v7 : Ref sig .tc := ⟨.hbm, 180, rfl⟩
abbrev main_call0_call6_v8 : Ref sig .tc := ⟨.hbm, 181, rfl⟩
abbrev main_call0_call6_c_3 : Ref sig .tc := ⟨.hbm, 182, rfl⟩
abbrev main_call0_call6_v9 : Ref sig .tc := ⟨.hbm, 183, rfl⟩
abbrev main_call0_call6_v10 : Ref sig .tc := ⟨.hbm, 184, rfl⟩
abbrev main_call0_call6_v11 : Ref sig .tc := ⟨.hbm, 185, rfl⟩
abbrev main_call0_call6_v12 : Ref sig .tc := ⟨.hbm, 186, rfl⟩
abbrev main_call0_call6_v13 : Ref sig .tc := ⟨.hbm, 187, rfl⟩
abbrev main_call0_call6_v14 : Ref sig .tc := ⟨.hbm, 188, rfl⟩
abbrev main_call0_v45 : Ref sig .tc := ⟨.hbm, 189, rfl⟩
abbrev main_call0_call7_v0 : Ref sig .tc := ⟨.hbm, 190, rfl⟩
abbrev main_call0_call7_v1 : Ref sig .tc := ⟨.hbm, 191, rfl⟩
abbrev main_call0_call7_v2 : Ref sig .tc := ⟨.hbm, 192, rfl⟩
abbrev main_call0_call7_v3 : Ref sig .tc := ⟨.hbm, 193, rfl⟩
abbrev main_call0_call7_v4 : Ref sig .tc := ⟨.hbm, 194, rfl⟩
abbrev main_call0_v46 : Ref sig .tc := ⟨.hbm, 195, rfl⟩
abbrev main_call0_v47 : Ref sig .tc := ⟨.hbm, 196, rfl⟩
abbrev main_call0_v48 : Ref sig .tc := ⟨.hbm, 197, rfl⟩
abbrev main_call0_v49 : Ref sig .tc := ⟨.hbm, 198, rfl⟩
abbrev main_call0_v50 : Ref sig .tc := ⟨.hbm, 199, rfl⟩
abbrev main_call0_c_11 : Ref sig .tc := ⟨.hbm, 200, rfl⟩
abbrev main_call0_call8_v0 : Ref sig .tc := ⟨.hbm, 201, rfl⟩
abbrev main_call0_call8_v1 : Ref sig .tc := ⟨.hbm, 202, rfl⟩
abbrev main_call0_call8_v2 : Ref sig .tc := ⟨.hbm, 203, rfl⟩
abbrev main_call0_call8_v3 : Ref sig .tc := ⟨.hbm, 204, rfl⟩
abbrev main_call0_call8_v4 : Ref sig .tc := ⟨.hbm, 205, rfl⟩
abbrev main_call0_call8_v5 : Ref sig .tc := ⟨.hbm, 206, rfl⟩
abbrev main_call0_call8_v6 : Ref sig .tc := ⟨.hbm, 207, rfl⟩
abbrev main_call0_call8_v7 : Ref sig .tc := ⟨.hbm, 208, rfl⟩
abbrev main_call0_call8_v8 : Ref sig .tc := ⟨.hbm, 209, rfl⟩
abbrev main_call0_call8_c : Ref sig .tc := ⟨.hbm, 210, rfl⟩
abbrev main_call0_call8_v9 : Ref sig .tc := ⟨.hbm, 211, rfl⟩
abbrev main_call0_call8_v10 : Ref sig .tc := ⟨.hbm, 212, rfl⟩
abbrev main_call0_call8_v11 : Ref sig .tc := ⟨.hbm, 213, rfl⟩
abbrev main_call0_call8_c_0 : Ref sig .tc := ⟨.hbm, 214, rfl⟩
abbrev main_call0_call8_v12 : Ref sig .tc := ⟨.hbm, 215, rfl⟩
abbrev main_call0_call8_v13 : Ref sig .tc := ⟨.hbm, 216, rfl⟩
abbrev main_call0_v51 : Ref sig .tc := ⟨.hbm, 217, rfl⟩
abbrev main_call0_c_12 : Ref sig .tc := ⟨.hbm, 218, rfl⟩
abbrev main_call0_call9_v0 : Ref sig .tc := ⟨.hbm, 219, rfl⟩
abbrev main_call0_call9_v1 : Ref sig .tc := ⟨.hbm, 220, rfl⟩
abbrev main_call0_call9_v2 : Ref sig .tc := ⟨.hbm, 221, rfl⟩
abbrev main_call0_call9_v3 : Ref sig .tc := ⟨.hbm, 222, rfl⟩
abbrev main_call0_call9_v4 : Ref sig .tc := ⟨.hbm, 223, rfl⟩
abbrev main_call0_call9_v5 : Ref sig .tc := ⟨.hbm, 224, rfl⟩
abbrev main_call0_call9_v6 : Ref sig .tc := ⟨.hbm, 225, rfl⟩
abbrev main_call0_call9_v7 : Ref sig .tc := ⟨.hbm, 226, rfl⟩
abbrev main_call0_call9_v8 : Ref sig .tc := ⟨.hbm, 227, rfl⟩
abbrev main_call0_call9_c : Ref sig .tc := ⟨.hbm, 228, rfl⟩
abbrev main_call0_call9_v9 : Ref sig .tc := ⟨.hbm, 229, rfl⟩
abbrev main_call0_call9_v10 : Ref sig .tc := ⟨.hbm, 230, rfl⟩
abbrev main_call0_call9_v11 : Ref sig .tc := ⟨.hbm, 231, rfl⟩
abbrev main_call0_call9_c_0 : Ref sig .tc := ⟨.hbm, 232, rfl⟩
abbrev main_call0_call9_v12 : Ref sig .tc := ⟨.hbm, 233, rfl⟩
abbrev main_call0_call9_v13 : Ref sig .tc := ⟨.hbm, 234, rfl⟩
abbrev main_call0_v52 : Ref sig .tc := ⟨.hbm, 235, rfl⟩
abbrev main_call0_c_13 : Ref sig .tc := ⟨.hbm, 236, rfl⟩
abbrev main_call0_v53 : Ref sig .tc := ⟨.hbm, 237, rfl⟩
abbrev main_call0_v54 : Ref sig .tc := ⟨.hbm, 238, rfl⟩
abbrev main_call0_c_14 : Ref sig .tc := ⟨.hbm, 239, rfl⟩
abbrev main_call0_call10_v0 : Ref sig .tc := ⟨.hbm, 240, rfl⟩
abbrev main_call0_call10_c : Ref sig .tc := ⟨.hbm, 241, rfl⟩
abbrev main_call0_call10_v1 : Ref sig .tc := ⟨.hbm, 242, rfl⟩
abbrev main_call0_call10_c_0 : Ref sig .tc := ⟨.hbm, 243, rfl⟩
abbrev main_call0_call10_v2 : Ref sig .tc := ⟨.hbm, 244, rfl⟩
abbrev main_call0_call10_v3 : Ref sig .tc := ⟨.hbm, 245, rfl⟩
abbrev main_call0_call10_v4 : Ref sig .tc := ⟨.hbm, 246, rfl⟩
abbrev main_call0_call10_c_1 : Ref sig .tc := ⟨.hbm, 247, rfl⟩
abbrev main_call0_call10_v5 : Ref sig .tc := ⟨.hbm, 248, rfl⟩
abbrev main_call0_call10_v6 : Ref sig .tc := ⟨.hbm, 249, rfl⟩
abbrev main_call0_call10_c_2 : Ref sig .tc := ⟨.hbm, 250, rfl⟩
abbrev main_call0_call10_v7 : Ref sig .tc := ⟨.hbm, 251, rfl⟩
abbrev main_call0_call10_v8 : Ref sig .tc := ⟨.hbm, 252, rfl⟩
abbrev main_call0_call10_c_3 : Ref sig .tc := ⟨.hbm, 253, rfl⟩
abbrev main_call0_call10_v9 : Ref sig .tc := ⟨.hbm, 254, rfl⟩
abbrev main_call0_call10_v10 : Ref sig .tc := ⟨.hbm, 255, rfl⟩
abbrev main_call0_call10_v11 : Ref sig .tc := ⟨.hbm, 256, rfl⟩
abbrev main_call0_call10_v12 : Ref sig .tc := ⟨.hbm, 257, rfl⟩
abbrev main_call0_call10_v13 : Ref sig .tc := ⟨.hbm, 258, rfl⟩
abbrev main_call0_call10_v14 : Ref sig .tc := ⟨.hbm, 259, rfl⟩
abbrev main_call0_v55 : Ref sig .tc := ⟨.hbm, 260, rfl⟩
abbrev main_call0_c_15 : Ref sig .tc := ⟨.hbm, 261, rfl⟩
abbrev main_call0_call11_v0 : Ref sig .tc := ⟨.hbm, 262, rfl⟩
abbrev main_call0_call11_v1 : Ref sig .tc := ⟨.hbm, 263, rfl⟩
abbrev main_call0_call11_v2 : Ref sig .tc := ⟨.hbm, 264, rfl⟩
abbrev main_call0_call11_v3 : Ref sig .tc := ⟨.hbm, 265, rfl⟩
abbrev main_call0_call11_v4 : Ref sig .tc := ⟨.hbm, 266, rfl⟩
abbrev main_call0_call11_v5 : Ref sig .tc := ⟨.hbm, 267, rfl⟩
abbrev main_call0_call11_v6 : Ref sig .tc := ⟨.hbm, 268, rfl⟩
abbrev main_call0_call11_v7 : Ref sig .tc := ⟨.hbm, 269, rfl⟩
abbrev main_call0_call11_v8 : Ref sig .tc := ⟨.hbm, 270, rfl⟩
abbrev main_call0_call11_c : Ref sig .tc := ⟨.hbm, 271, rfl⟩
abbrev main_call0_call11_v9 : Ref sig .tc := ⟨.hbm, 272, rfl⟩
abbrev main_call0_call11_v10 : Ref sig .tc := ⟨.hbm, 273, rfl⟩
abbrev main_call0_call11_v11 : Ref sig .tc := ⟨.hbm, 274, rfl⟩
abbrev main_call0_call11_c_0 : Ref sig .tc := ⟨.hbm, 275, rfl⟩
abbrev main_call0_call11_v12 : Ref sig .tc := ⟨.hbm, 276, rfl⟩
abbrev main_call0_call11_v13 : Ref sig .tc := ⟨.hbm, 277, rfl⟩
abbrev main_call0_v56 : Ref sig .tc := ⟨.hbm, 278, rfl⟩
abbrev main_call0_v57 : Ref sig .tc := ⟨.hbm, 279, rfl⟩
abbrev main_call0_call12_v0 : Ref sig .tc := ⟨.hbm, 280, rfl⟩
abbrev main_call0_call12_v1 : Ref sig .tc := ⟨.hbm, 281, rfl⟩
abbrev main_call0_call12_v2 : Ref sig .tc := ⟨.hbm, 282, rfl⟩
abbrev main_call0_call12_v3 : Ref sig .tc := ⟨.hbm, 283, rfl⟩
abbrev main_call0_call12_v4 : Ref sig .tc := ⟨.hbm, 284, rfl⟩
abbrev main_call0_v58 : Ref sig .tc := ⟨.hbm, 285, rfl⟩
abbrev main_call0_cst : Ref sig .tc := ⟨.hbm, 286, rfl⟩
abbrev main_call0_v59 : Ref sig .tc := ⟨.hbm, 287, rfl⟩
abbrev main_call0_v60 : Ref sig .tc := ⟨.hbm, 288, rfl⟩
abbrev main_call0_v61 : Ref sig .tc := ⟨.hbm, 289, rfl⟩
abbrev main_call0_v62 : Ref sig .tc := ⟨.hbm, 290, rfl⟩
abbrev main_call0_v63 : Ref sig .tc := ⟨.hbm, 291, rfl⟩
abbrev main_v0 : Ref sig .tc := ⟨.hbm, 292, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg18_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_scratch4 : Ref sig .tc := ⟨.vmem, 39, rfl⟩
abbrev cc0_scratch5 : Ref sig .tc := ⟨.vmem, 40, rfl⟩
abbrev cc0_scratch6 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_62 : BitVec 32 := 0#32
  let c32_i32 : BitVec 32 := 32#32
  let v84 : BitVec 32 := Scalar.addi c0_i32_62 c32_i32
  let c1_i32_63 : BitVec 32 := 1#32
  ⟨c0_i32_62, v84, c1_i32_63⟩
def k0_off1 (k0_t1 : Fin k0_t1_loop.trips) : Fin 3 → Nat :=
  let c0_i32_62 : BitVec 32 := 0#32
  let c1_i32_63 : BitVec 32 := 1#32
  let arg27 : BitVec 32 := Scf.iv c0_i32_62 c1_i32_63 k0_t1
  let v484 : Index := Scalar.indexCast arg27
  let c0_300 : Index := 0#32
  let c63 : Index := 63#32
  ![v484.toNat, 0, 63]
def k0_off2 (k0_t1 : Fin k0_t1_loop.trips) : Fin 3 → Nat :=
  let c0_i32_62 : BitVec 32 := 0#32
  let c1_i32_63 : BitVec 32 := 1#32
  let arg27 : BitVec 32 := Scf.iv c0_i32_62 c1_i32_63 k0_t1
  let v489 : Index := Scalar.indexCast arg27
  let c0_301 : Index := 0#32
  let c64 : Index := 64#32
  ![v489.toNat, 0, 64]
def k0_off3 (k0_t1 : Fin k0_t1_loop.trips) : Fin 3 → Nat :=
  let c0_i32_62 : BitVec 32 := 0#32
  let c1_i32_63 : BitVec 32 := 1#32
  let arg27 : BitVec 32 := Scf.iv c0_i32_62 c1_i32_63 k0_t1
  let v492 : Index := Scalar.indexCast arg27
  let c0_302 : Index := 0#32
  let c65 : Index := 65#32
  ![v492.toNat, 0, 65]
def k0_off4 (k0_t1 : Fin k0_t1_loop.trips) : Fin 3 → Nat :=
  let c0_i32_62 : BitVec 32 := 0#32
  let c1_i32_63 : BitVec 32 := 1#32
  let arg27 : BitVec 32 := Scf.iv c0_i32_62 c1_i32_63 k0_t1
  let v497 : Index := Scalar.indexCast arg27
  let c0_303 : Index := 0#32
  let c127 : Index := 127#32
  ![v497.toNat, 0, 127]
def k0_off5 (k0_t1 : Fin k0_t1_loop.trips) : Fin 3 → Nat :=
  let c0_i32_62 : BitVec 32 := 0#32
  let c1_i32_63 : BitVec 32 := 1#32
  let arg27 : BitVec 32 := Scf.iv c0_i32_62 c1_i32_63 k0_t1
  let v502 : Index := Scalar.indexCast arg27
  let c0_304 : Index := 0#32
  let c128_305 : Index := 128#32
  ![v502.toNat, 0, 128]
def k0_off6 (k0_t1 : Fin k0_t1_loop.trips) : Fin 3 → Nat :=
  let c0_i32_62 : BitVec 32 := 0#32
  let c1_i32_63 : BitVec 32 := 1#32
  let arg27 : BitVec 32 := Scf.iv c0_i32_62 c1_i32_63 k0_t1
  let v505 : Index := Scalar.indexCast arg27
  let c0_306 : Index := 0#32
  let c129 : Index := 129#32
  ![v505.toNat, 0, 129]
def k0_off7 (k0_t1 : Fin k0_t1_loop.trips) : Fin 3 → Nat :=
  let c0_i32_62 : BitVec 32 := 0#32
  let c1_i32_63 : BitVec 32 := 1#32
  let arg27 : BitVec 32 := Scf.iv c0_i32_62 c1_i32_63 k0_t1
  let v510 : Index := Scalar.indexCast arg27
  let c0_307 : Index := 0#32
  let c191 : Index := 191#32
  ![v510.toNat, 0, 191]
def k0_off8 (k0_t1 : Fin k0_t1_loop.trips) : Fin 3 → Nat :=
  let c0_i32_62 : BitVec 32 := 0#32
  let c1_i32_63 : BitVec 32 := 1#32
  let arg27 : BitVec 32 := Scf.iv c0_i32_62 c1_i32_63 k0_t1
  let v515 : Index := Scalar.indexCast arg27
  let c0_308 : Index := 0#32
  let c192 : Index := 192#32
  ![v515.toNat, 0, 192]
def k0_off9 (k0_t1 : Fin k0_t1_loop.trips) : Fin 3 → Nat :=
  let c0_i32_62 : BitVec 32 := 0#32
  let c1_i32_63 : BitVec 32 := 1#32
  let arg27 : BitVec 32 := Scf.iv c0_i32_62 c1_i32_63 k0_t1
  let v518 : Index := Scalar.indexCast arg27
  let c0_309 : Index := 0#32
  let c193 : Index := 193#32
  ![v518.toNat, 0, 193]
def k0_off10 (k0_t1 : Fin k0_t1_loop.trips) : Fin 3 → Nat :=
  let c0_i32_62 : BitVec 32 := 0#32
  let c1_i32_63 : BitVec 32 := 1#32
  let arg27 : BitVec 32 := Scf.iv c0_i32_62 c1_i32_63 k0_t1
  let v525 : Index := Scalar.indexCast arg27
  let c0_311 : Index := 0#32
  let c128_312 : Index := 128#32
  ![v525.toNat, 0, 128]
@[reducible] def k0_t2_loop : Scf.Loop 32 :=
  let c0_i32_66 : BitVec 32 := 0#32
  let c32_i32_67 : BitVec 32 := 32#32
  let v86 : BitVec 32 := Scalar.addi c0_i32_66 c32_i32_67
  let c1_i32_68 : BitVec 32 := 1#32
  ⟨c0_i32_66, v86, c1_i32_68⟩
def k0_off11 (k0_t2 : Fin k0_t2_loop.trips) : Fin 3 → Nat :=
  let c0_i32_66 : BitVec 32 := 0#32
  let c1_i32_68 : BitVec 32 := 1#32
  let arg27 : BitVec 32 := Scf.iv c0_i32_66 c1_i32_68 k0_t2
  let v484 : Index := Scalar.indexCast arg27
  let c0_300 : Index := 0#32
  let c128_301 : Index := 128#32
  ![v484.toNat, 0, 128]
@[reducible] def k0_t3_loop : Scf.Loop 32 :=
  let c0_i32_83 : BitVec 32 := 0#32
  let c32_i32_84 : BitVec 32 := 32#32
  let v121 : BitVec 32 := Scalar.addi c0_i32_83 c32_i32_84
  let c1_i32_85 : BitVec 32 := 1#32
  ⟨c0_i32_83, v121, c1_i32_85⟩
def k0_off12 (k0_t3 : Fin k0_t3_loop.trips) : Fin 3 → Nat :=
  let c0_i32_83 : BitVec 32 := 0#32
  let c1_i32_85 : BitVec 32 := 1#32
  let arg27 : BitVec 32 := Scf.iv c0_i32_83 c1_i32_85 k0_t3
  let v484 : Index := Scalar.indexCast arg27
  let c0_300 : Index := 0#32
  let c128_301 : Index := 128#32
  ![v484.toNat, 0, 128]
@[reducible] def k0_t4_loop : Scf.Loop 32 :=
  let c0_i32_98 : BitVec 32 := 0#32
  let c32_i32_99 : BitVec 32 := 32#32
  let v149 : BitVec 32 := Scalar.addi c0_i32_98 c32_i32_99
  let c1_i32_100 : BitVec 32 := 1#32
  ⟨c0_i32_98, v149, c1_i32_100⟩
def k0_off13 (k0_t4 : Fin k0_t4_loop.trips) : Fin 3 → Nat :=
  let c0_i32_98 : BitVec 32 := 0#32
  let c1_i32_100 : BitVec 32 := 1#32
  let arg27 : BitVec 32 := Scf.iv c0_i32_98 c1_i32_100 k0_t4
  let v484 : Index := Scalar.indexCast arg27
  let c0_300 : Index := 0#32
  let c63 : Index := 63#32
  ![v484.toNat, 0, 63]
def k0_off14 (k0_t4 : Fin k0_t4_loop.trips) : Fin 3 → Nat :=
  let c0_i32_98 : BitVec 32 := 0#32
  let c1_i32_100 : BitVec 32 := 1#32
  let arg27 : BitVec 32 := Scf.iv c0_i32_98 c1_i32_100 k0_t4
  let v489 : Index := Scalar.indexCast arg27
  let c0_301 : Index := 0#32
  let c64 : Index := 64#32
  ![v489.toNat, 0, 64]
def k0_off15 (k0_t4 : Fin k0_t4_loop.trips) : Fin 3 → Nat :=
  let c0_i32_98 : BitVec 32 := 0#32
  let c1_i32_100 : BitVec 32 := 1#32
  let arg27 : BitVec 32 := Scf.iv c0_i32_98 c1_i32_100 k0_t4
  let v492 : Index := Scalar.indexCast arg27
  let c0_302 : Index := 0#32
  let c65 : Index := 65#32
  ![v492.toNat, 0, 65]
def k0_off16 (k0_t4 : Fin k0_t4_loop.trips) : Fin 3 → Nat :=
  let c0_i32_98 : BitVec 32 := 0#32
  let c1_i32_100 : BitVec 32 := 1#32
  let arg27 : BitVec 32 := Scf.iv c0_i32_98 c1_i32_100 k0_t4
  let v497 : Index := Scalar.indexCast arg27
  let c0_303 : Index := 0#32
  let c127 : Index := 127#32
  ![v497.toNat, 0, 127]
def k0_off17 (k0_t4 : Fin k0_t4_loop.trips) : Fin 3 → Nat :=
  let c0_i32_98 : BitVec 32 := 0#32
  let c1_i32_100 : BitVec 32 := 1#32
  let arg27 : BitVec 32 := Scf.iv c0_i32_98 c1_i32_100 k0_t4
  let v502 : Index := Scalar.indexCast arg27
  let c0_304 : Index := 0#32
  let c128_305 : Index := 128#32
  ![v502.toNat, 0, 128]
def k0_off18 (k0_t4 : Fin k0_t4_loop.trips) : Fin 3 → Nat :=
  let c0_i32_98 : BitVec 32 := 0#32
  let c1_i32_100 : BitVec 32 := 1#32
  let arg27 : BitVec 32 := Scf.iv c0_i32_98 c1_i32_100 k0_t4
  let v505 : Index := Scalar.indexCast arg27
  let c0_306 : Index := 0#32
  let c129 : Index := 129#32
  ![v505.toNat, 0, 129]
def k0_off19 (k0_t4 : Fin k0_t4_loop.trips) : Fin 3 → Nat :=
  let c0_i32_98 : BitVec 32 := 0#32
  let c1_i32_100 : BitVec 32 := 1#32
  let arg27 : BitVec 32 := Scf.iv c0_i32_98 c1_i32_100 k0_t4
  let v510 : Index := Scalar.indexCast arg27
  let c0_307 : Index := 0#32
  let c191 : Index := 191#32
  ![v510.toNat, 0, 191]
def k0_off20 (k0_t4 : Fin k0_t4_loop.trips) : Fin 3 → Nat :=
  let c0_i32_98 : BitVec 32 := 0#32
  let c1_i32_100 : BitVec 32 := 1#32
  let arg27 : BitVec 32 := Scf.iv c0_i32_98 c1_i32_100 k0_t4
  let v515 : Index := Scalar.indexCast arg27
  let c0_308 : Index := 0#32
  let c192 : Index := 192#32
  ![v515.toNat, 0, 192]
def k0_off21 (k0_t4 : Fin k0_t4_loop.trips) : Fin 3 → Nat :=
  let c0_i32_98 : BitVec 32 := 0#32
  let c1_i32_100 : BitVec 32 := 1#32
  let arg27 : BitVec 32 := Scf.iv c0_i32_98 c1_i32_100 k0_t4
  let v518 : Index := Scalar.indexCast arg27
  let c0_309 : Index := 0#32
  let c193 : Index := 193#32
  ![v518.toNat, 0, 193]
@[reducible] def k0_t5_loop : Scf.Loop 32 :=
  let c0_i32_103 : BitVec 32 := 0#32
  let c32_i32_104 : BitVec 32 := 32#32
  let v151 : BitVec 32 := Scalar.addi c0_i32_103 c32_i32_104
  let c1_i32_105 : BitVec 32 := 1#32
  ⟨c0_i32_103, v151, c1_i32_105⟩
def k0_off22 (k0_t5 : Fin k0_t5_loop.trips) : Fin 3 → Nat :=
  let c0_i32_103 : BitVec 32 := 0#32
  let c1_i32_105 : BitVec 32 := 1#32
  let arg27 : BitVec 32 := Scf.iv c0_i32_103 c1_i32_105 k0_t5
  let v484 : Index := Scalar.indexCast arg27
  let c0_300 : Index := 0#32
  let c128_301 : Index := 128#32
  ![v484.toNat, 0, 128]
@[reducible] def k0_t6_loop : Scf.Loop 32 :=
  let c0_i32_122 : BitVec 32 := 0#32
  let c32_i32_123 : BitVec 32 := 32#32
  let v186 : BitVec 32 := Scalar.addi c0_i32_122 c32_i32_123
  let c1_i32_124 : BitVec 32 := 1#32
  ⟨c0_i32_122, v186, c1_i32_124⟩
def k0_off23 (k0_t6 : Fin k0_t6_loop.trips) : Fin 3 → Nat :=
  let c0_i32_122 : BitVec 32 := 0#32
  let c1_i32_124 : BitVec 32 := 1#32
  let arg27 : BitVec 32 := Scf.iv c0_i32_122 c1_i32_124 k0_t6
  let v484 : Index := Scalar.indexCast arg27
  let c0_300 : Index := 0#32
  let c128_301 : Index := 128#32
  ![v484.toNat, 0, 128]
@[reducible] def k0_t7_loop : Scf.Loop 32 :=
  let c0_i32_137 : BitVec 32 := 0#32
  let c32_i32_138 : BitVec 32 := 32#32
  let v214 : BitVec 32 := Scalar.addi c0_i32_137 c32_i32_138
  let c1_i32_139 : BitVec 32 := 1#32
  ⟨c0_i32_137, v214, c1_i32_139⟩
def k0_off24 (k0_t7 : Fin k0_t7_loop.trips) : Fin 3 → Nat :=
  let c0_i32_137 : BitVec 32 := 0#32
  let c1_i32_139 : BitVec 32 := 1#32
  let arg27 : BitVec 32 := Scf.iv c0_i32_137 c1_i32_139 k0_t7
  let v484 : Index := Scalar.indexCast arg27
  let c0_300 : Index := 0#32
  let c63 : Index := 63#32
  ![v484.toNat, 0, 63]
def k0_off25 (k0_t7 : Fin k0_t7_loop.trips) : Fin 3 → Nat :=
  let c0_i32_137 : BitVec 32 := 0#32
  let c1_i32_139 : BitVec 32 := 1#32
  let arg27 : BitVec 32 := Scf.iv c0_i32_137 c1_i32_139 k0_t7
  let v489 : Index := Scalar.indexCast arg27
  let c0_301 : Index := 0#32
  let c64 : Index := 64#32
  ![v489.toNat, 0, 64]
def k0_off26 (k0_t7 : Fin k0_t7_loop.trips) : Fin 3 → Nat :=
  let c0_i32_137 : BitVec 32 := 0#32
  let c1_i32_139 : BitVec 32 := 1#32
  let arg27 : BitVec 32 := Scf.iv c0_i32_137 c1_i32_139 k0_t7
  let v492 : Index := Scalar.indexCast arg27
  let c0_302 : Index := 0#32
  let c65 : Index := 65#32
  ![v492.toNat, 0, 65]
def k0_off27 (k0_t7 : Fin k0_t7_loop.trips) : Fin 3 → Nat :=
  let c0_i32_137 : BitVec 32 := 0#32
  let c1_i32_139 : BitVec 32 := 1#32
  let arg27 : BitVec 32 := Scf.iv c0_i32_137 c1_i32_139 k0_t7
  let v497 : Index := Scalar.indexCast arg27
  let c0_303 : Index := 0#32
  let c127 : Index := 127#32
  ![v497.toNat, 0, 127]
def k0_off28 (k0_t7 : Fin k0_t7_loop.trips) : Fin 3 → Nat :=
  let c0_i32_137 : BitVec 32 := 0#32
  let c1_i32_139 : BitVec 32 := 1#32
  let arg27 : BitVec 32 := Scf.iv c0_i32_137 c1_i32_139 k0_t7
  let v502 : Index := Scalar.indexCast arg27
  let c0_304 : Index := 0#32
  let c128_305 : Index := 128#32
  ![v502.toNat, 0, 128]
def k0_off29 (k0_t7 : Fin k0_t7_loop.trips) : Fin 3 → Nat :=
  let c0_i32_137 : BitVec 32 := 0#32
  let c1_i32_139 : BitVec 32 := 1#32
  let arg27 : BitVec 32 := Scf.iv c0_i32_137 c1_i32_139 k0_t7
  let v505 : Index := Scalar.indexCast arg27
  let c0_306 : Index := 0#32
  let c129 : Index := 129#32
  ![v505.toNat, 0, 129]
def k0_off30 (k0_t7 : Fin k0_t7_loop.trips) : Fin 3 → Nat :=
  let c0_i32_137 : BitVec 32 := 0#32
  let c1_i32_139 : BitVec 32 := 1#32
  let arg27 : BitVec 32 := Scf.iv c0_i32_137 c1_i32_139 k0_t7
  let v510 : Index := Scalar.indexCast arg27
  let c0_307 : Index := 0#32
  let c191 : Index := 191#32
  ![v510.toNat, 0, 191]
def k0_off31 (k0_t7 : Fin k0_t7_loop.trips) : Fin 3 → Nat :=
  let c0_i32_137 : BitVec 32 := 0#32
  let c1_i32_139 : BitVec 32 := 1#32
  let arg27 : BitVec 32 := Scf.iv c0_i32_137 c1_i32_139 k0_t7
  let v515 : Index := Scalar.indexCast arg27
  let c0_308 : Index := 0#32
  let c192 : Index := 192#32
  ![v515.toNat, 0, 192]
def k0_off32 (k0_t7 : Fin k0_t7_loop.trips) : Fin 3 → Nat :=
  let c0_i32_137 : BitVec 32 := 0#32
  let c1_i32_139 : BitVec 32 := 1#32
  let arg27 : BitVec 32 := Scf.iv c0_i32_137 c1_i32_139 k0_t7
  let v518 : Index := Scalar.indexCast arg27
  let c0_309 : Index := 0#32
  let c193 : Index := 193#32
  ![v518.toNat, 0, 193]
def k0_off33 (k0_t7 : Fin k0_t7_loop.trips) : Fin 3 → Nat :=
  let c0_i32_137 : BitVec 32 := 0#32
  let c1_i32_139 : BitVec 32 := 1#32
  let arg27 : BitVec 32 := Scf.iv c0_i32_137 c1_i32_139 k0_t7
  let v645 : Index := Scalar.indexCast arg27
  let c0_335 : Index := 0#32
  let c128_336 : Index := 128#32
  ![v645.toNat, 0, 128]
@[reducible] def k0_t8_loop : Scf.Loop 32 :=
  let c0_i32_142 : BitVec 32 := 0#32
  let c32_i32_143 : BitVec 32 := 32#32
  let v216 : BitVec 32 := Scalar.addi c0_i32_142 c32_i32_143
  let c1_i32_144 : BitVec 32 := 1#32
  ⟨c0_i32_142, v216, c1_i32_144⟩
def k0_off34 (k0_t8 : Fin k0_t8_loop.trips) : Fin 3 → Nat :=
  let c0_i32_142 : BitVec 32 := 0#32
  let c1_i32_144 : BitVec 32 := 1#32
  let arg27 : BitVec 32 := Scf.iv c0_i32_142 c1_i32_144 k0_t8
  let v484 : Index := Scalar.indexCast arg27
  let c0_300 : Index := 0#32
  let c128_301 : Index := 128#32
  ![v484.toNat, 0, 128]
@[reducible] def k0_t9_loop : Scf.Loop 32 :=
  let c0_i32_161 : BitVec 32 := 0#32
  let c32_i32_162 : BitVec 32 := 32#32
  let v251 : BitVec 32 := Scalar.addi c0_i32_161 c32_i32_162
  let c1_i32_163 : BitVec 32 := 1#32
  ⟨c0_i32_161, v251, c1_i32_163⟩
def k0_off35 (k0_t9 : Fin k0_t9_loop.trips) : Fin 3 → Nat :=
  let c0_i32_161 : BitVec 32 := 0#32
  let c1_i32_163 : BitVec 32 := 1#32
  let arg27 : BitVec 32 := Scf.iv c0_i32_161 c1_i32_163 k0_t9
  let v484 : Index := Scalar.indexCast arg27
  let c0_300 : Index := 0#32
  let c128_301 : Index := 128#32
  ![v484.toNat, 0, 128]
@[reducible] def k0_t10_loop : Scf.Loop 32 :=
  let c0_i32_175 : BitVec 32 := 0#32
  let c32_i32_176 : BitVec 32 := 32#32
  let v279 : BitVec 32 := Scalar.addi c0_i32_175 c32_i32_176
  let c1_i32_177 : BitVec 32 := 1#32
  ⟨c0_i32_175, v279, c1_i32_177⟩
def k0_off36 (k0_t10 : Fin k0_t10_loop.trips) : Fin 3 → Nat :=
  let c0_i32_175 : BitVec 32 := 0#32
  let c1_i32_177 : BitVec 32 := 1#32
  let arg27 : BitVec 32 := Scf.iv c0_i32_175 c1_i32_177 k0_t10
  let v484 : Index := Scalar.indexCast arg27
  let c0_300 : Index := 0#32
  let c95 : Index := 95#32
  ![v484.toNat, 0, 95]
def k0_off37 (k0_t10 : Fin k0_t10_loop.trips) : Fin 3 → Nat :=
  let c0_i32_175 : BitVec 32 := 0#32
  let c1_i32_177 : BitVec 32 := 1#32
  let arg27 : BitVec 32 := Scf.iv c0_i32_175 c1_i32_177 k0_t10
  let v489 : Index := Scalar.indexCast arg27
  let c0_301 : Index := 0#32
  let c96 : Index := 96#32
  ![v489.toNat, 0, 96]
def k0_off38 (k0_t10 : Fin k0_t10_loop.trips) : Fin 3 → Nat :=
  let c0_i32_175 : BitVec 32 := 0#32
  let c1_i32_177 : BitVec 32 := 1#32
  let arg27 : BitVec 32 := Scf.iv c0_i32_175 c1_i32_177 k0_t10
  let v492 : Index := Scalar.indexCast arg27
  let c0_302 : Index := 0#32
  let c97 : Index := 97#32
  ![v492.toNat, 0, 97]
def k0_off39 (k0_t10 : Fin k0_t10_loop.trips) : Fin 3 → Nat :=
  let c0_i32_175 : BitVec 32 := 0#32
  let c1_i32_177 : BitVec 32 := 1#32
  let arg27 : BitVec 32 := Scf.iv c0_i32_175 c1_i32_177 k0_t10
  let v497 : Index := Scalar.indexCast arg27
  let c0_303 : Index := 0#32
  let c127 : Index := 127#32
  ![v497.toNat, 0, 127]
def k0_off40 (k0_t10 : Fin k0_t10_loop.trips) : Fin 3 → Nat :=
  let c0_i32_175 : BitVec 32 := 0#32
  let c1_i32_177 : BitVec 32 := 1#32
  let arg27 : BitVec 32 := Scf.iv c0_i32_175 c1_i32_177 k0_t10
  let v502 : Index := Scalar.indexCast arg27
  let c0_304 : Index := 0#32
  let c128_305 : Index := 128#32
  ![v502.toNat, 0, 128]
def k0_off41 (k0_t10 : Fin k0_t10_loop.trips) : Fin 3 → Nat :=
  let c0_i32_175 : BitVec 32 := 0#32
  let c1_i32_177 : BitVec 32 := 1#32
  let arg27 : BitVec 32 := Scf.iv c0_i32_175 c1_i32_177 k0_t10
  let v505 : Index := Scalar.indexCast arg27
  let c0_306 : Index := 0#32
  let c129 : Index := 129#32
  ![v505.toNat, 0, 129]
def k0_off42 (k0_t10 : Fin k0_t10_loop.trips) : Fin 3 → Nat :=
  let c0_i32_175 : BitVec 32 := 0#32
  let c1_i32_177 : BitVec 32 := 1#32
  let arg27 : BitVec 32 := Scf.iv c0_i32_175 c1_i32_177 k0_t10
  let v510 : Index := Scalar.indexCast arg27
  let c0_307 : Index := 0#32
  let c159 : Index := 159#32
  ![v510.toNat, 0, 159]
def k0_off43 (k0_t10 : Fin k0_t10_loop.trips) : Fin 3 → Nat :=
  let c0_i32_175 : BitVec 32 := 0#32
  let c1_i32_177 : BitVec 32 := 1#32
  let arg27 : BitVec 32 := Scf.iv c0_i32_175 c1_i32_177 k0_t10
  let v515 : Index := Scalar.indexCast arg27
  let c0_308 : Index := 0#32
  let c160 : Index := 160#32
  ![v515.toNat, 0, 160]
def k0_off44 (k0_t10 : Fin k0_t10_loop.trips) : Fin 3 → Nat :=
  let c0_i32_175 : BitVec 32 := 0#32
  let c1_i32_177 : BitVec 32 := 1#32
  let arg27 : BitVec 32 := Scf.iv c0_i32_175 c1_i32_177 k0_t10
  let v518 : Index := Scalar.indexCast arg27
  let c0_309 : Index := 0#32
  let c161 : Index := 161#32
  ![v518.toNat, 0, 161]
@[reducible] def k0_t11_loop : Scf.Loop 32 :=
  let c0_i32_180 : BitVec 32 := 0#32
  let c32_i32_181 : BitVec 32 := 32#32
  let v281 : BitVec 32 := Scalar.addi c0_i32_180 c32_i32_181
  let c1_i32_182 : BitVec 32 := 1#32
  ⟨c0_i32_180, v281, c1_i32_182⟩
def k0_off45 (k0_t11 : Fin k0_t11_loop.trips) : Fin 3 → Nat :=
  let c0_i32_180 : BitVec 32 := 0#32
  let c1_i32_182 : BitVec 32 := 1#32
  let arg27 : BitVec 32 := Scf.iv c0_i32_180 c1_i32_182 k0_t11
  let v484 : Index := Scalar.indexCast arg27
  let c0_300 : Index := 0#32
  let c128_301 : Index := 128#32
  ![v484.toNat, 0, 128]
@[reducible] def k0_t12_loop : Scf.Loop 32 :=
  let c0_i32_199 : BitVec 32 := 0#32
  let c32_i32_200 : BitVec 32 := 32#32
  let v316 : BitVec 32 := Scalar.addi c0_i32_199 c32_i32_200
  let c1_i32_201 : BitVec 32 := 1#32
  ⟨c0_i32_199, v316, c1_i32_201⟩
def k0_off46 (k0_t12 : Fin k0_t12_loop.trips) : Fin 3 → Nat :=
  let c0_i32_199 : BitVec 32 := 0#32
  let c1_i32_201 : BitVec 32 := 1#32
  let arg27 : BitVec 32 := Scf.iv c0_i32_199 c1_i32_201 k0_t12
  let v484 : Index := Scalar.indexCast arg27
  let c0_300 : Index := 0#32
  let c128_301 : Index := 128#32
  ![v484.toNat, 0, 128]
@[reducible] def k0_t13_loop : Scf.Loop 32 :=
  let c0_i32_214 : BitVec 32 := 0#32
  let c32_i32_215 : BitVec 32 := 32#32
  let v344 : BitVec 32 := Scalar.addi c0_i32_214 c32_i32_215
  let c1_i32_216 : BitVec 32 := 1#32
  ⟨c0_i32_214, v344, c1_i32_216⟩
def k0_off47 (k0_t13 : Fin k0_t13_loop.trips) : Fin 3 → Nat :=
  let c0_i32_214 : BitVec 32 := 0#32
  let c1_i32_216 : BitVec 32 := 1#32
  let arg27 : BitVec 32 := Scf.iv c0_i32_214 c1_i32_216 k0_t13
  let v484 : Index := Scalar.indexCast arg27
  let c0_300 : Index := 0#32
  let c95 : Index := 95#32
  ![v484.toNat, 0, 95]
def k0_off48 (k0_t13 : Fin k0_t13_loop.trips) : Fin 3 → Nat :=
  let c0_i32_214 : BitVec 32 := 0#32
  let c1_i32_216 : BitVec 32 := 1#32
  let arg27 : BitVec 32 := Scf.iv c0_i32_214 c1_i32_216 k0_t13
  let v489 : Index := Scalar.indexCast arg27
  let c0_301 : Index := 0#32
  let c96 : Index := 96#32
  ![v489.toNat, 0, 96]
def k0_off49 (k0_t13 : Fin k0_t13_loop.trips) : Fin 3 → Nat :=
  let c0_i32_214 : BitVec 32 := 0#32
  let c1_i32_216 : BitVec 32 := 1#32
  let arg27 : BitVec 32 := Scf.iv c0_i32_214 c1_i32_216 k0_t13
  let v492 : Index := Scalar.indexCast arg27
  let c0_302 : Index := 0#32
  let c97 : Index := 97#32
  ![v492.toNat, 0, 97]
def k0_off50 (k0_t13 : Fin k0_t13_loop.trips) : Fin 3 → Nat :=
  let c0_i32_214 : BitVec 32 := 0#32
  let c1_i32_216 : BitVec 32 := 1#32
  let arg27 : BitVec 32 := Scf.iv c0_i32_214 c1_i32_216 k0_t13
  let v497 : Index := Scalar.indexCast arg27
  let c0_303 : Index := 0#32
  let c127 : Index := 127#32
  ![v497.toNat, 0, 127]
def k0_off51 (k0_t13 : Fin k0_t13_loop.trips) : Fin 3 → Nat :=
  let c0_i32_214 : BitVec 32 := 0#32
  let c1_i32_216 : BitVec 32 := 1#32
  let arg27 : BitVec 32 := Scf.iv c0_i32_214 c1_i32_216 k0_t13
  let v502 : Index := Scalar.indexCast arg27
  let c0_304 : Index := 0#32
  let c128_305 : Index := 128#32
  ![v502.toNat, 0, 128]
def k0_off52 (k0_t13 : Fin k0_t13_loop.trips) : Fin 3 → Nat :=
  let c0_i32_214 : BitVec 32 := 0#32
  let c1_i32_216 : BitVec 32 := 1#32
  let arg27 : BitVec 32 := Scf.iv c0_i32_214 c1_i32_216 k0_t13
  let v505 : Index := Scalar.indexCast arg27
  let c0_306 : Index := 0#32
  let c129 : Index := 129#32
  ![v505.toNat, 0, 129]
def k0_off53 (k0_t13 : Fin k0_t13_loop.trips) : Fin 3 → Nat :=
  let c0_i32_214 : BitVec 32 := 0#32
  let c1_i32_216 : BitVec 32 := 1#32
  let arg27 : BitVec 32 := Scf.iv c0_i32_214 c1_i32_216 k0_t13
  let v510 : Index := Scalar.indexCast arg27
  let c0_307 : Index := 0#32
  let c159 : Index := 159#32
  ![v510.toNat, 0, 159]
def k0_off54 (k0_t13 : Fin k0_t13_loop.trips) : Fin 3 → Nat :=
  let c0_i32_214 : BitVec 32 := 0#32
  let c1_i32_216 : BitVec 32 := 1#32
  let arg27 : BitVec 32 := Scf.iv c0_i32_214 c1_i32_216 k0_t13
  let v515 : Index := Scalar.indexCast arg27
  let c0_308 : Index := 0#32
  let c160 : Index := 160#32
  ![v515.toNat, 0, 160]
def k0_off55 (k0_t13 : Fin k0_t13_loop.trips) : Fin 3 → Nat :=
  let c0_i32_214 : BitVec 32 := 0#32
  let c1_i32_216 : BitVec 32 := 1#32
  let arg27 : BitVec 32 := Scf.iv c0_i32_214 c1_i32_216 k0_t13
  let v518 : Index := Scalar.indexCast arg27
  let c0_309 : Index := 0#32
  let c161 : Index := 161#32
  ![v518.toNat, 0, 161]
def k0_off56 (k0_t13 : Fin k0_t13_loop.trips) : Fin 3 → Nat :=
  let c0_i32_214 : BitVec 32 := 0#32
  let c1_i32_216 : BitVec 32 := 1#32
  let arg27 : BitVec 32 := Scf.iv c0_i32_214 c1_i32_216 k0_t13
  let v561 : Index := Scalar.indexCast arg27
  let c0_317 : Index := 0#32
  let c128_318 : Index := 128#32
  ![v561.toNat, 0, 128]
@[reducible] def k0_t14_loop : Scf.Loop 32 :=
  let c0_i32_219 : BitVec 32 := 0#32
  let c32_i32_220 : BitVec 32 := 32#32
  let v346 : BitVec 32 := Scalar.addi c0_i32_219 c32_i32_220
  let c1_i32_221 : BitVec 32 := 1#32
  ⟨c0_i32_219, v346, c1_i32_221⟩
def k0_off57 (k0_t14 : Fin k0_t14_loop.trips) : Fin 3 → Nat :=
  let c0_i32_219 : BitVec 32 := 0#32
  let c1_i32_221 : BitVec 32 := 1#32
  let arg27 : BitVec 32 := Scf.iv c0_i32_219 c1_i32_221 k0_t14
  let v484 : Index := Scalar.indexCast arg27
  let c0_300 : Index := 0#32
  let c128_301 : Index := 128#32
  ![v484.toNat, 0, 128]
@[reducible] def k0_t15_loop : Scf.Loop 32 :=
  let c0_i32_238 : BitVec 32 := 0#32
  let c32_i32_239 : BitVec 32 := 32#32
  let v381 : BitVec 32 := Scalar.addi c0_i32_238 c32_i32_239
  let c1_i32_240 : BitVec 32 := 1#32
  ⟨c0_i32_238, v381, c1_i32_240⟩
def k0_off58 (k0_t15 : Fin k0_t15_loop.trips) : Fin 3 → Nat :=
  let c0_i32_238 : BitVec 32 := 0#32
  let c1_i32_240 : BitVec 32 := 1#32
  let arg27 : BitVec 32 := Scf.iv c0_i32_238 c1_i32_240 k0_t15
  let v484 : Index := Scalar.indexCast arg27
  let c0_300 : Index := 0#32
  let c128_301 : Index := 128#32
  ![v484.toNat, 0, 128]
@[reducible] def k0_t16_loop : Scf.Loop 32 :=
  let c0_i32_251 : BitVec 32 := 0#32
  let c32_i32_252 : BitVec 32 := 32#32
  let v409 : BitVec 32 := Scalar.addi c0_i32_251 c32_i32_252
  let c1_i32_253 : BitVec 32 := 1#32
  ⟨c0_i32_251, v409, c1_i32_253⟩
def k0_off59 (k0_t16 : Fin k0_t16_loop.trips) : Fin 3 → Nat :=
  let c0_i32_251 : BitVec 32 := 0#32
  let c1_i32_253 : BitVec 32 := 1#32
  let arg27 : BitVec 32 := Scf.iv c0_i32_251 c1_i32_253 k0_t16
  let v484 : Index := Scalar.indexCast arg27
  let c0_300 : Index := 0#32
  let c111 : Index := 111#32
  ![v484.toNat, 0, 111]
def k0_off60 (k0_t16 : Fin k0_t16_loop.trips) : Fin 3 → Nat :=
  let c0_i32_251 : BitVec 32 := 0#32
  let c1_i32_253 : BitVec 32 := 1#32
  let arg27 : BitVec 32 := Scf.iv c0_i32_251 c1_i32_253 k0_t16
  let v489 : Index := Scalar.indexCast arg27
  let c0_301 : Index := 0#32
  let c112 : Index := 112#32
  ![v489.toNat, 0, 112]
def k0_off61 (k0_t16 : Fin k0_t16_loop.trips) : Fin 3 → Nat :=
  let c0_i32_251 : BitVec 32 := 0#32
  let c1_i32_253 : BitVec 32 := 1#32
  let arg27 : BitVec 32 := Scf.iv c0_i32_251 c1_i32_253 k0_t16
  let v492 : Index := Scalar.indexCast arg27
  let c0_302 : Index := 0#32
  let c113 : Index := 113#32
  ![v492.toNat, 0, 113]
def k0_off62 (k0_t16 : Fin k0_t16_loop.trips) : Fin 3 → Nat :=
  let c0_i32_251 : BitVec 32 := 0#32
  let c1_i32_253 : BitVec 32 := 1#32
  let arg27 : BitVec 32 := Scf.iv c0_i32_251 c1_i32_253 k0_t16
  let v497 : Index := Scalar.indexCast arg27
  let c0_303 : Index := 0#32
  let c127 : Index := 127#32
  ![v497.toNat, 0, 127]
def k0_off63 (k0_t16 : Fin k0_t16_loop.trips) : Fin 3 → Nat :=
  let c0_i32_251 : BitVec 32 := 0#32
  let c1_i32_253 : BitVec 32 := 1#32
  let arg27 : BitVec 32 := Scf.iv c0_i32_251 c1_i32_253 k0_t16
  let v502 : Index := Scalar.indexCast arg27
  let c0_304 : Index := 0#32
  let c128_305 : Index := 128#32
  ![v502.toNat, 0, 128]
def k0_off64 (k0_t16 : Fin k0_t16_loop.trips) : Fin 3 → Nat :=
  let c0_i32_251 : BitVec 32 := 0#32
  let c1_i32_253 : BitVec 32 := 1#32
  let arg27 : BitVec 32 := Scf.iv c0_i32_251 c1_i32_253 k0_t16
  let v505 : Index := Scalar.indexCast arg27
  let c0_306 : Index := 0#32
  let c129 : Index := 129#32
  ![v505.toNat, 0, 129]
def k0_off65 (k0_t16 : Fin k0_t16_loop.trips) : Fin 3 → Nat :=
  let c0_i32_251 : BitVec 32 := 0#32
  let c1_i32_253 : BitVec 32 := 1#32
  let arg27 : BitVec 32 := Scf.iv c0_i32_251 c1_i32_253 k0_t16
  let v510 : Index := Scalar.indexCast arg27
  let c0_307 : Index := 0#32
  let c143 : Index := 143#32
  ![v510.toNat, 0, 143]
def k0_off66 (k0_t16 : Fin k0_t16_loop.trips) : Fin 3 → Nat :=
  let c0_i32_251 : BitVec 32 := 0#32
  let c1_i32_253 : BitVec 32 := 1#32
  let arg27 : BitVec 32 := Scf.iv c0_i32_251 c1_i32_253 k0_t16
  let v515 : Index := Scalar.indexCast arg27
  let c0_308 : Index := 0#32
  let c144 : Index := 144#32
  ![v515.toNat, 0, 144]
def k0_off67 (k0_t16 : Fin k0_t16_loop.trips) : Fin 3 → Nat :=
  let c0_i32_251 : BitVec 32 := 0#32
  let c1_i32_253 : BitVec 32 := 1#32
  let arg27 : BitVec 32 := Scf.iv c0_i32_251 c1_i32_253 k0_t16
  let v518 : Index := Scalar.indexCast arg27
  let c0_309 : Index := 0#32
  let c145 : Index := 145#32
  ![v518.toNat, 0, 145]
def k0_off68 (k0_t16 : Fin k0_t16_loop.trips) : Fin 3 → Nat :=
  let c0_i32_251 : BitVec 32 := 0#32
  let c1_i32_253 : BitVec 32 := 1#32
  let arg27 : BitVec 32 := Scf.iv c0_i32_251 c1_i32_253 k0_t16
  let v525 : Index := Scalar.indexCast arg27
  let c0_311 : Index := 0#32
  let c0_312 : Index := 0#32
  ![v525.toNat, 0, 0]
@[reducible] def k0_t17_loop : Scf.Loop 32 :=
  let c0_i32_256 : BitVec 32 := 0#32
  let c32_i32_257 : BitVec 32 := 32#32
  let v411 : BitVec 32 := Scalar.addi c0_i32_256 c32_i32_257
  let c1_i32_258 : BitVec 32 := 1#32
  ⟨c0_i32_256, v411, c1_i32_258⟩
def k0_off69 (k0_t17 : Fin k0_t17_loop.trips) : Fin 3 → Nat :=
  let c0_i32_256 : BitVec 32 := 0#32
  let c1_i32_258 : BitVec 32 := 1#32
  let arg27 : BitVec 32 := Scf.iv c0_i32_256 c1_i32_258 k0_t17
  let v484 : Index := Scalar.indexCast arg27
  let c0_300 : Index := 0#32
  let c0_301 : Index := 0#32
  ![v484.toNat, 0, 0]
@[reducible] def k0_t18_loop : Scf.Loop 32 :=
  let c0_i32_275 : BitVec 32 := 0#32
  let c32_i32_276 : BitVec 32 := 32#32
  let v446 : BitVec 32 := Scalar.addi c0_i32_275 c32_i32_276
  let c1_i32_277 : BitVec 32 := 1#32
  ⟨c0_i32_275, v446, c1_i32_277⟩
def k0_off70 (k0_t18 : Fin k0_t18_loop.trips) : Fin 3 → Nat :=
  let c0_i32_275 : BitVec 32 := 0#32
  let c1_i32_277 : BitVec 32 := 1#32
  let arg27 : BitVec 32 := Scf.iv c0_i32_275 c1_i32_277 k0_t18
  let v484 : Index := Scalar.indexCast arg27
  let c0_300 : Index := 0#32
  let c0_301 : Index := 0#32
  ![v484.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x27 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x288 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x576 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x512x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x512x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x32x64x4 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S32x3x256x256 : Shape := ⟨4, ![32, 3, 256, 256]⟩
abbrev S16x16x3x3x3 : Shape := ⟨5, ![16, 16, 3, 3, 3]⟩
abbrev S16x3x16 : Shape := ⟨3, ![16, 3, 16]⟩
abbrev S16x16x16x3x3 : Shape := ⟨5, ![16, 16, 16, 3, 3]⟩
abbrev S16x32x16x3x3 : Shape := ⟨5, ![16, 32, 16, 3, 3]⟩
abbrev S16x3x32 : Shape := ⟨3, ![16, 3, 32]⟩
abbrev S16x32x32x3x3 : Shape := ⟨5, ![16, 32, 32, 3, 3]⟩
abbrev S16x64x32x3x3 : Shape := ⟨5, ![16, 64, 32, 3, 3]⟩
abbrev S16x3x64 : Shape := ⟨3, ![16, 3, 64]⟩
abbrev S16x64x64x3x3 : Shape := ⟨5, ![16, 64, 64, 3, 3]⟩
abbrev S16x256 : Shape := ⟨2, ![16, 256]⟩
abbrev S32x3x4x64x4x64 : Shape := ⟨6, ![32, 3, 4, 64, 4, 64]⟩
abbrev S4x4x3x32x64x64 : Shape := ⟨6, ![4, 4, 3, 32, 64, 64]⟩
abbrev S16x3x32x64x64 : Shape := ⟨5, ![16, 3, 32, 64, 64]⟩
abbrev S_ : Shape := ⟨0, ![]⟩
abbrev S16x3x32x66x66 : Shape := ⟨5, ![16, 3, 32, 66, 66]⟩
abbrev S3x3x16x16x3 : Shape := ⟨5, ![3, 3, 16, 16, 3]⟩
abbrev S1x1x16x16x3 : Shape := ⟨5, ![1, 1, 16, 16, 3]⟩
abbrev S16x16x3 : Shape := ⟨3, ![16, 16, 3]⟩
abbrev S16x16x32x64x64 : Shape := ⟨5, ![16, 16, 32, 64, 64]⟩
abbrev S16x16 : Shape := ⟨2, ![16, 16]⟩
abbrev S16x16x1x1x1 : Shape := ⟨5, ![16, 16, 1, 1, 1]⟩
abbrev S16x1x16 : Shape := ⟨3, ![16, 1, 16]⟩
abbrev S16x16x32x66x66 : Shape := ⟨5, ![16, 16, 32, 66, 66]⟩
abbrev S3x3x16x16x16 : Shape := ⟨5, ![3, 3, 16, 16, 16]⟩
abbrev S1x1x16x16x16 : Shape := ⟨5, ![1, 1, 16, 16, 16]⟩
abbrev S16x16x16 : Shape := ⟨3, ![16, 16, 16]⟩
abbrev S3x3x16x32x16 : Shape := ⟨5, ![3, 3, 16, 32, 16]⟩
abbrev S1x1x16x32x16 : Shape := ⟨5, ![1, 1, 16, 32, 16]⟩
abbrev S16x32x16 : Shape := ⟨3, ![16, 32, 16]⟩
abbrev S16x16x32x32x32 : Shape := ⟨5, ![16, 16, 32, 32, 32]⟩
abbrev S16x32x32x32x32 : Shape := ⟨5, ![16, 32, 32, 32, 32]⟩
abbrev S16x32 : Shape := ⟨2, ![16, 32]⟩
abbrev S16x32x1x1x1 : Shape := ⟨5, ![16, 32, 1, 1, 1]⟩
abbrev S16x1x32 : Shape := ⟨3, ![16, 1, 32]⟩
abbrev S16x32x32x34x34 : Shape := ⟨5, ![16, 32, 32, 34, 34]⟩
abbrev S3x3x16x32x32 : Shape := ⟨5, ![3, 3, 16, 32, 32]⟩
abbrev S1x1x16x32x32 : Shape := ⟨5, ![1, 1, 16, 32, 32]⟩
abbrev S16x32x32 : Shape := ⟨3, ![16, 32, 32]⟩
abbrev S3x3x16x64x32 : Shape := ⟨5, ![3, 3, 16, 64, 32]⟩
abbrev S1x1x16x64x32 : Shape := ⟨5, ![1, 1, 16, 64, 32]⟩
abbrev S16x64x32 : Shape := ⟨3, ![16, 64, 32]⟩
abbrev S16x32x32x16x16 : Shape := ⟨5, ![16, 32, 32, 16, 16]⟩
abbrev S16x64x32x16x16 : Shape := ⟨5, ![16, 64, 32, 16, 16]⟩
abbrev S16x64 : Shape := ⟨2, ![16, 64]⟩
abbrev S16x64x1x1x1 : Shape := ⟨5, ![16, 64, 1, 1, 1]⟩
abbrev S16x1x64 : Shape := ⟨3, ![16, 1, 64]⟩
abbrev S16x64x32x18x18 : Shape := ⟨5, ![16, 64, 32, 18, 18]⟩
abbrev S3x3x16x64x64 : Shape := ⟨5, ![3, 3, 16, 64, 64]⟩
abbrev S1x1x16x64x64 : Shape := ⟨5, ![1, 1, 16, 64, 64]⟩
abbrev S16x64x64 : Shape := ⟨3, ![16, 64, 64]⟩
abbrev S16x64x32x2x8x2x8 : Shape := ⟨7, ![16, 64, 32, 2, 8, 2, 8]⟩
abbrev S16x64x32x2x2 : Shape := ⟨5, ![16, 64, 32, 2, 2]⟩
abbrev S16x64x32x4 : Shape := ⟨4, ![16, 64, 32, 4]⟩
abbrev S16x64x4 : Shape := ⟨3, ![16, 64, 4]⟩
abbrev S16x64x1x4 : Shape := ⟨4, ![16, 64, 1, 4]⟩
abbrev S16x32x64x4 : Shape := ⟨4, ![16, 32, 64, 4]⟩

abbrev nBuf : Space → Nat
  | .hbm => 605
  | .vmem => 0
  | .smem => 0
  | _ => 0

abbrev hbmTy0_0 (i : Nat) : BufTy := match i % 128 with
  | 0 => ⟨S32x3x256x256, .f32⟩
  | 1 => ⟨S16x16x3x3x3, .f32⟩
  | 2 => ⟨S16x3x16, .f32⟩
  | 3 => ⟨S16x16x16x3x3, .f32⟩
  | 4 => ⟨S16x3x16, .f32⟩
  | 5 => ⟨S16x32x16x3x3, .f32⟩
  | 6 => ⟨S16x3x32, .f32⟩
  | 7 => ⟨S16x32x32x3x3, .f32⟩
  | 8 => ⟨S16x3x32, .f32⟩
  | 9 => ⟨S16x64x32x3x3, .f32⟩
  | 10 => ⟨S16x3x64, .f32⟩
  | 11 => ⟨S16x64x64x3x3, .f32⟩
  | 12 => ⟨S16x3x64, .f32⟩
  | 13 => ⟨S16x256, .f32⟩
  | 14 => ⟨S16x256, .f32⟩
  | 15 => ⟨S32x3x4x64x4x64, .f32⟩
  | 16 => ⟨S4x4x3x32x64x64, .f32⟩
  | 17 => ⟨S16x3x32x64x64, .f32⟩
  | 18 => ⟨S_, .i32⟩
  | 19 => ⟨S_, .f32⟩
  | 20 => ⟨S16x3x32x66x66, .f32⟩
  | 21 => ⟨S3x3x16x16x3, .f32⟩
  | 22 => ⟨S1x1x16x16x3, .f32⟩
  | 23 => ⟨S16x16x3, .f32⟩
  | 24 => ⟨S16x3x32x64x64, .f32⟩
  | 25 => ⟨S16x16x32x64x64, .f32⟩
  | 26 => ⟨S1x1x16x16x3, .f32⟩
  | 27 => ⟨S16x16x3, .f32⟩
  | 28 => ⟨S16x3x32x64x64, .f32⟩
  | 29 => ⟨S16x16x32x64x64, .f32⟩
  | 30 => ⟨S16x16x32x64x64, .f32⟩
  | 31 => ⟨S1x1x16x16x3, .f32⟩
  | 32 => ⟨S16x16x3, .f32⟩
  | 33 => ⟨S16x3x32x64x64, .f32⟩
  | 34 => ⟨S16x16x32x64x64, .f32⟩
  | 35 => ⟨S16x16x32x64x64, .f32⟩
  | 36 => ⟨S1x1x16x16x3, .f32⟩
  | 37 => ⟨S16x16x3, .f32⟩
  | 38 => ⟨S16x3x32x64x64, .f32⟩
  | 39 => ⟨S16x16x32x64x64, .f32⟩
  | 40 => ⟨S16x16x32x64x64, .f32⟩
  | 41 => ⟨S1x1x16x16x3, .f32⟩
  | 42 => ⟨S16x16x3, .f32⟩
  | 43 => ⟨S16x3x32x64x64, .f32⟩
  | 44 => ⟨S16x16x32x64x64, .f32⟩
  | 45 => ⟨S16x16x32x64x64, .f32⟩
  | 46 => ⟨S1x1x16x16x3, .f32⟩
  | 47 => ⟨S16x16x3, .f32⟩
  | 48 => ⟨S16x3x32x64x64, .f32⟩
  | 49 => ⟨S16x16x32x64x64, .f32⟩
  | 50 => ⟨S16x16x32x64x64, .f32⟩
  | 51 => ⟨S1x1x16x16x3, .f32⟩
  | 52 => ⟨S16x16x3, .f32⟩
  | 53 => ⟨S16x3x32x64x64, .f32⟩
  | 54 => ⟨S16x16x32x64x64, .f32⟩
  | 55 => ⟨S16x16x32x64x64, .f32⟩
  | 56 => ⟨S1x1x16x16x3, .f32⟩
  | 57 => ⟨S16x16x3, .f32⟩
  | 58 => ⟨S16x3x32x64x64, .f32⟩
  | 59 => ⟨S16x16x32x64x64, .f32⟩
  | 60 => ⟨S16x16x32x64x64, .f32⟩
  | 61 => ⟨S1x1x16x16x3, .f32⟩
  | 62 => ⟨S16x16x3, .f32⟩
  | 63 => ⟨S16x3x32x64x64, .f32⟩
  | 64 => ⟨S16x16x32x64x64, .f32⟩
  | 65 => ⟨S16x16x32x64x64, .f32⟩
  | 66 => ⟨S_, .f32⟩
  | 67 => ⟨S16x16, .f32⟩
  | 68 => ⟨S16x16x1x1x1, .f32⟩
  | 69 => ⟨S_, .f32⟩
  | 70 => ⟨S16x16x1x1x1, .f32⟩
  | 71 => ⟨S16x16x1x1x1, .f32⟩
  | 72 => ⟨S16x16x32x64x64, .f32⟩
  | 73 => ⟨S16x16x32x64x64, .f32⟩
  | 74 => ⟨S16x16x32x64x64, .f32⟩
  | 75 => ⟨S_, .f32⟩
  | 76 => ⟨S16x16, .f32⟩
  | 77 => ⟨S16x16x1x1x1, .f32⟩
  | 78 => ⟨S_, .f32⟩
  | 79 => ⟨S16x16x1x1x1, .f32⟩
  | 80 => ⟨S16x16x1x1x1, .f32⟩
  | 81 => ⟨S_, .f32⟩
  | 82 => ⟨S16x16x1x1x1, .f32⟩
  | 83 => ⟨S16x16x1x1x1, .f32⟩
  | 84 => ⟨S16x16x1x1x1, .f32⟩
  | 85 => ⟨S16x16x32x64x64, .f32⟩
  | 86 => ⟨S16x16x32x64x64, .f32⟩
  | 87 => ⟨S16x1x16, .f32⟩
  | 88 => ⟨S16x16, .f32⟩
  | 89 => ⟨S16x16x1x1x1, .f32⟩
  | 90 => ⟨S16x1x16, .f32⟩
  | 91 => ⟨S16x16, .f32⟩
  | 92 => ⟨S16x16x1x1x1, .f32⟩
  | 93 => ⟨S16x1x16, .f32⟩
  | 94 => ⟨S16x16, .f32⟩
  | 95 => ⟨S16x16x1x1x1, .f32⟩
  | 96 => ⟨S16x16x32x64x64, .f32⟩
  | 97 => ⟨S16x16x32x64x64, .f32⟩
  | 98 => ⟨S16x16x32x64x64, .f32⟩
  | 99 => ⟨S16x16x32x64x64, .f32⟩
  | 100 => ⟨S16x16x32x64x64, .f32⟩
  | 101 => ⟨S_, .f32⟩
  | 102 => ⟨S16x16x32x64x64, .f32⟩
  | 103 => ⟨S16x16x32x64x64, .f32⟩
  | 104 => ⟨S16x16x32x64x64, .f32⟩
  | 105 => ⟨S16x16x32x64x64, .f32⟩
  | 106 => ⟨S_, .f32⟩
  | 107 => ⟨S16x16x32x64x64, .f32⟩
  | 108 => ⟨S16x16x32x64x64, .f32⟩
  | 109 => ⟨S16x16x32x64x64, .f32⟩
  | 110 => ⟨S_, .i32⟩
  | 111 => ⟨S_, .f32⟩
  | 112 => ⟨S16x16x32x66x66, .f32⟩
  | 113 => ⟨S3x3x16x16x16, .f32⟩
  | 114 => ⟨S1x1x16x16x16, .f32⟩
  | 115 => ⟨S16x16x16, .f32⟩
  | 116 => ⟨S16x16x32x64x64, .f32⟩
  | 117 => ⟨S16x16x32x64x64, .f32⟩
  | 118 => ⟨S1x1x16x16x16, .f32⟩
  | 119 => ⟨S16x16x16, .f32⟩
  | 120 => ⟨S16x16x32x64x64, .f32⟩
  | 121 => ⟨S16x16x32x64x64, .f32⟩
  | 122 => ⟨S16x16x32x64x64, .f32⟩
  | 123 => ⟨S1x1x16x16x16, .f32⟩
  | 124 => ⟨S16x16x16, .f32⟩
  | 125 => ⟨S16x16x32x64x64, .f32⟩
  | 126 => ⟨S16x16x32x64x64, .f32⟩
  | 127 => ⟨S16x16x32x64x64, .f32⟩
  | _ => ⟨S32x3x256x256, .f32⟩

abbrev hbmTy0_1 (i : Nat) : BufTy := match i % 128 with
  | 0 => ⟨S1x1x16x16x16, .f32⟩
  | 1 => ⟨S16x16x16, .f32⟩
  | 2 => ⟨S16x16x32x64x64, .f32⟩
  | 3 => ⟨S16x16x32x64x64, .f32⟩
  | 4 => ⟨S16x16x32x64x64, .f32⟩
  | 5 => ⟨S1x1x16x16x16, .f32⟩
  | 6 => ⟨S16x16x16, .f32⟩
  | 7 => ⟨S16x16x32x64x64, .f32⟩
  | 8 => ⟨S16x16x32x64x64, .f32⟩
  | 9 => ⟨S16x16x32x64x64, .f32⟩
  | 10 => ⟨S1x1x16x16x16, .f32⟩
  | 11 => ⟨S16x16x16, .f32⟩
  | 12 => ⟨S16x16x32x64x64, .f32⟩
  | 13 => ⟨S16x16x32x64x64, .f32⟩
  | 14 => ⟨S16x16x32x64x64, .f32⟩
  | 15 => ⟨S1x1x16x16x16, .f32⟩
  | 16 => ⟨S16x16x16, .f32⟩
  | 17 => ⟨S16x16x32x64x64, .f32⟩
  | 18 => ⟨S16x16x32x64x64, .f32⟩
  | 19 => ⟨S16x16x32x64x64, .f32⟩
  | 20 => ⟨S1x1x16x16x16, .f32⟩
  | 21 => ⟨S16x16x16, .f32⟩
  | 22 => ⟨S16x16x32x64x64, .f32⟩
  | 23 => ⟨S16x16x32x64x64, .f32⟩
  | 24 => ⟨S16x16x32x64x64, .f32⟩
  | 25 => ⟨S1x1x16x16x16, .f32⟩
  | 26 => ⟨S16x16x16, .f32⟩
  | 27 => ⟨S16x16x32x64x64, .f32⟩
  | 28 => ⟨S16x16x32x64x64, .f32⟩
  | 29 => ⟨S16x16x32x64x64, .f32⟩
  | 30 => ⟨S_, .f32⟩
  | 31 => ⟨S16x16, .f32⟩
  | 32 => ⟨S16x16x1x1x1, .f32⟩
  | 33 => ⟨S_, .f32⟩
  | 34 => ⟨S16x16x1x1x1, .f32⟩
  | 35 => ⟨S16x16x1x1x1, .f32⟩
  | 36 => ⟨S16x16x32x64x64, .f32⟩
  | 37 => ⟨S16x16x32x64x64, .f32⟩
  | 38 => ⟨S16x16x32x64x64, .f32⟩
  | 39 => ⟨S_, .f32⟩
  | 40 => ⟨S16x16, .f32⟩
  | 41 => ⟨S16x16x1x1x1, .f32⟩
  | 42 => ⟨S_, .f32⟩
  | 43 => ⟨S16x16x1x1x1, .f32⟩
  | 44 => ⟨S16x16x1x1x1, .f32⟩
  | 45 => ⟨S_, .f32⟩
  | 46 => ⟨S16x16x1x1x1, .f32⟩
  | 47 => ⟨S16x16x1x1x1, .f32⟩
  | 48 => ⟨S16x16x1x1x1, .f32⟩
  | 49 => ⟨S16x16x32x64x64, .f32⟩
  | 50 => ⟨S16x16x32x64x64, .f32⟩
  | 51 => ⟨S16x1x16, .f32⟩
  | 52 => ⟨S16x16, .f32⟩
  | 53 => ⟨S16x16x1x1x1, .f32⟩
  | 54 => ⟨S16x1x16, .f32⟩
  | 55 => ⟨S16x16, .f32⟩
  | 56 => ⟨S16x16x1x1x1, .f32⟩
  | 57 => ⟨S16x1x16, .f32⟩
  | 58 => ⟨S16x16, .f32⟩
  | 59 => ⟨S16x16x1x1x1, .f32⟩
  | 60 => ⟨S16x16x32x64x64, .f32⟩
  | 61 => ⟨S16x16x32x64x64, .f32⟩
  | 62 => ⟨S16x16x32x64x64, .f32⟩
  | 63 => ⟨S16x16x32x64x64, .f32⟩
  | 64 => ⟨S16x16x32x64x64, .f32⟩
  | 65 => ⟨S_, .f32⟩
  | 66 => ⟨S16x16x32x64x64, .f32⟩
  | 67 => ⟨S16x16x32x64x64, .f32⟩
  | 68 => ⟨S16x16x32x64x64, .f32⟩
  | 69 => ⟨S16x16x32x64x64, .f32⟩
  | 70 => ⟨S_, .f32⟩
  | 71 => ⟨S16x16x32x64x64, .f32⟩
  | 72 => ⟨S16x16x32x64x64, .f32⟩
  | 73 => ⟨S16x16x32x64x64, .f32⟩
  | 74 => ⟨S_, .i32⟩
  | 75 => ⟨S_, .f32⟩
  | 76 => ⟨S16x16x32x66x66, .f32⟩
  | 77 => ⟨S3x3x16x32x16, .f32⟩
  | 78 => ⟨S1x1x16x32x16, .f32⟩
  | 79 => ⟨S16x32x16, .f32⟩
  | 80 => ⟨S16x16x32x32x32, .f32⟩
  | 81 => ⟨S16x32x32x32x32, .f32⟩
  | 82 => ⟨S1x1x16x32x16, .f32⟩
  | 83 => ⟨S16x32x16, .f32⟩
  | 84 => ⟨S16x16x32x32x32, .f32⟩
  | 85 => ⟨S16x32x32x32x32, .f32⟩
  | 86 => ⟨S16x32x32x32x32, .f32⟩
  | 87 => ⟨S1x1x16x32x16, .f32⟩
  | 88 => ⟨S16x32x16, .f32⟩
  | 89 => ⟨S16x16x32x32x32, .f32⟩
  | 90 => ⟨S16x32x32x32x32, .f32⟩
  | 91 => ⟨S16x32x32x32x32, .f32⟩
  | 92 => ⟨S1x1x16x32x16, .f32⟩
  | 93 => ⟨S16x32x16, .f32⟩
  | 94 => ⟨S16x16x32x32x32, .f32⟩
  | 95 => ⟨S16x32x32x32x32, .f32⟩
  | 96 => ⟨S16x32x32x32x32, .f32⟩
  | 97 => ⟨S1x1x16x32x16, .f32⟩
  | 98 => ⟨S16x32x16, .f32⟩
  | 99 => ⟨S16x16x32x32x32, .f32⟩
  | 100 => ⟨S16x32x32x32x32, .f32⟩
  | 101 => ⟨S16x32x32x32x32, .f32⟩
  | 102 => ⟨S1x1x16x32x16, .f32⟩
  | 103 => ⟨S16x32x16, .f32⟩
  | 104 => ⟨S16x16x32x32x32, .f32⟩
  | 105 => ⟨S16x32x32x32x32, .f32⟩
  | 106 => ⟨S16x32x32x32x32, .f32⟩
  | 107 => ⟨S1x1x16x32x16, .f32⟩
  | 108 => ⟨S16x32x16, .f32⟩
  | 109 => ⟨S16x16x32x32x32, .f32⟩
  | 110 => ⟨S16x32x32x32x32, .f32⟩
  | 111 => ⟨S16x32x32x32x32, .f32⟩
  | 112 => ⟨S1x1x16x32x16, .f32⟩
  | 113 => ⟨S16x32x16, .f32⟩
  | 114 => ⟨S16x16x32x32x32, .f32⟩
  | 115 => ⟨S16x32x32x32x32, .f32⟩
  | 116 => ⟨S16x32x32x32x32, .f32⟩
  | 117 => ⟨S1x1x16x32x16, .f32⟩
  | 118 => ⟨S16x32x16, .f32⟩
  | 119 => ⟨S16x16x32x32x32, .f32⟩
  | 120 => ⟨S16x32x32x32x32, .f32⟩
  | 121 => ⟨S16x32x32x32x32, .f32⟩
  | 122 => ⟨S_, .f32⟩
  | 123 => ⟨S16x32, .f32⟩
  | 124 => ⟨S16x32x1x1x1, .f32⟩
  | 125 => ⟨S_, .f32⟩
  | 126 => ⟨S16x32x1x1x1, .f32⟩
  | 127 => ⟨S16x32x1x1x1, .f32⟩
  | _ => ⟨S32x3x256x256, .f32⟩

abbrev hbmTy0_2 (i : Nat) : BufTy := match i % 128 with
  | 0 => ⟨S16x32x32x32x32, .f32⟩
  | 1 => ⟨S16x32x32x32x32, .f32⟩
  | 2 => ⟨S16x32x32x32x32, .f32⟩
  | 3 => ⟨S_, .f32⟩
  | 4 => ⟨S16x32, .f32⟩
  | 5 => ⟨S16x32x1x1x1, .f32⟩
  | 6 => ⟨S_, .f32⟩
  | 7 => ⟨S16x32x1x1x1, .f32⟩
  | 8 => ⟨S16x32x1x1x1, .f32⟩
  | 9 => ⟨S_, .f32⟩
  | 10 => ⟨S16x32x1x1x1, .f32⟩
  | 11 => ⟨S16x32x1x1x1, .f32⟩
  | 12 => ⟨S16x32x1x1x1, .f32⟩
  | 13 => ⟨S16x32x32x32x32, .f32⟩
  | 14 => ⟨S16x32x32x32x32, .f32⟩
  | 15 => ⟨S16x1x32, .f32⟩
  | 16 => ⟨S16x32, .f32⟩
  | 17 => ⟨S16x32x1x1x1, .f32⟩
  | 18 => ⟨S16x1x32, .f32⟩
  | 19 => ⟨S16x32, .f32⟩
  | 20 => ⟨S16x32x1x1x1, .f32⟩
  | 21 => ⟨S16x1x32, .f32⟩
  | 22 => ⟨S16x32, .f32⟩
  | 23 => ⟨S16x32x1x1x1, .f32⟩
  | 24 => ⟨S16x32x32x32x32, .f32⟩
  | 25 => ⟨S16x32x32x32x32, .f32⟩
  | 26 => ⟨S16x32x32x32x32, .f32⟩
  | 27 => ⟨S16x32x32x32x32, .f32⟩
  | 28 => ⟨S16x32x32x32x32, .f32⟩
  | 29 => ⟨S_, .f32⟩
  | 30 => ⟨S16x32x32x32x32, .f32⟩
  | 31 => ⟨S16x32x32x32x32, .f32⟩
  | 32 => ⟨S16x32x32x32x32, .f32⟩
  | 33 => ⟨S16x32x32x32x32, .f32⟩
  | 34 => ⟨S_, .f32⟩
  | 35 => ⟨S16x32x32x32x32, .f32⟩
  | 36 => ⟨S16x32x32x32x32, .f32⟩
  | 37 => ⟨S16x32x32x32x32, .f32⟩
  | 38 => ⟨S_, .i32⟩
  | 39 => ⟨S_, .f32⟩
  | 40 => ⟨S16x32x32x34x34, .f32⟩
  | 41 => ⟨S3x3x16x32x32, .f32⟩
  | 42 => ⟨S1x1x16x32x32, .f32⟩
  | 43 => ⟨S16x32x32, .f32⟩
  | 44 => ⟨S16x32x32x32x32, .f32⟩
  | 45 => ⟨S16x32x32x32x32, .f32⟩
  | 46 => ⟨S1x1x16x32x32, .f32⟩
  | 47 => ⟨S16x32x32, .f32⟩
  | 48 => ⟨S16x32x32x32x32, .f32⟩
  | 49 => ⟨S16x32x32x32x32, .f32⟩
  | 50 => ⟨S16x32x32x32x32, .f32⟩
  | 51 => ⟨S1x1x16x32x32, .f32⟩
  | 52 => ⟨S16x32x32, .f32⟩
  | 53 => ⟨S16x32x32x32x32, .f32⟩
  | 54 => ⟨S16x32x32x32x32, .f32⟩
  | 55 => ⟨S16x32x32x32x32, .f32⟩
  | 56 => ⟨S1x1x16x32x32, .f32⟩
  | 57 => ⟨S16x32x32, .f32⟩
  | 58 => ⟨S16x32x32x32x32, .f32⟩
  | 59 => ⟨S16x32x32x32x32, .f32⟩
  | 60 => ⟨S16x32x32x32x32, .f32⟩
  | 61 => ⟨S1x1x16x32x32, .f32⟩
  | 62 => ⟨S16x32x32, .f32⟩
  | 63 => ⟨S16x32x32x32x32, .f32⟩
  | 64 => ⟨S16x32x32x32x32, .f32⟩
  | 65 => ⟨S16x32x32x32x32, .f32⟩
  | 66 => ⟨S1x1x16x32x32, .f32⟩
  | 67 => ⟨S16x32x32, .f32⟩
  | 68 => ⟨S16x32x32x32x32, .f32⟩
  | 69 => ⟨S16x32x32x32x32, .f32⟩
  | 70 => ⟨S16x32x32x32x32, .f32⟩
  | 71 => ⟨S1x1x16x32x32, .f32⟩
  | 72 => ⟨S16x32x32, .f32⟩
  | 73 => ⟨S16x32x32x32x32, .f32⟩
  | 74 => ⟨S16x32x32x32x32, .f32⟩
  | 75 => ⟨S16x32x32x32x32, .f32⟩
  | 76 => ⟨S1x1x16x32x32, .f32⟩
  | 77 => ⟨S16x32x32, .f32⟩
  | 78 => ⟨S16x32x32x32x32, .f32⟩
  | 79 => ⟨S16x32x32x32x32, .f32⟩
  | 80 => ⟨S16x32x32x32x32, .f32⟩
  | 81 => ⟨S1x1x16x32x32, .f32⟩
  | 82 => ⟨S16x32x32, .f32⟩
  | 83 => ⟨S16x32x32x32x32, .f32⟩
  | 84 => ⟨S16x32x32x32x32, .f32⟩
  | 85 => ⟨S16x32x32x32x32, .f32⟩
  | 86 => ⟨S_, .f32⟩
  | 87 => ⟨S16x32, .f32⟩
  | 88 => ⟨S16x32x1x1x1, .f32⟩
  | 89 => ⟨S_, .f32⟩
  | 90 => ⟨S16x32x1x1x1, .f32⟩
  | 91 => ⟨S16x32x1x1x1, .f32⟩
  | 92 => ⟨S16x32x32x32x32, .f32⟩
  | 93 => ⟨S16x32x32x32x32, .f32⟩
  | 94 => ⟨S16x32x32x32x32, .f32⟩
  | 95 => ⟨S_, .f32⟩
  | 96 => ⟨S16x32, .f32⟩
  | 97 => ⟨S16x32x1x1x1, .f32⟩
  | 98 => ⟨S_, .f32⟩
  | 99 => ⟨S16x32x1x1x1, .f32⟩
  | 100 => ⟨S16x32x1x1x1, .f32⟩
  | 101 => ⟨S_, .f32⟩
  | 102 => ⟨S16x32x1x1x1, .f32⟩
  | 103 => ⟨S16x32x1x1x1, .f32⟩
  | 104 => ⟨S16x32x1x1x1, .f32⟩
  | 105 => ⟨S16x32x32x32x32, .f32⟩
  | 106 => ⟨S16x32x32x32x32, .f32⟩
  | 107 => ⟨S16x1x32, .f32⟩
  | 108 => ⟨S16x32, .f32⟩
  | 109 => ⟨S16x32x1x1x1, .f32⟩
  | 110 => ⟨S16x1x32, .f32⟩
  | 111 => ⟨S16x32, .f32⟩
  | 112 => ⟨S16x32x1x1x1, .f32⟩
  | 113 => ⟨S16x1x32, .f32⟩
  | 114 => ⟨S16x32, .f32⟩
  | 115 => ⟨S16x32x1x1x1, .f32⟩
  | 116 => ⟨S16x32x32x32x32, .f32⟩
  | 117 => ⟨S16x32x32x32x32, .f32⟩
  | 118 => ⟨S16x32x32x32x32, .f32⟩
  | 119 => ⟨S16x32x32x32x32, .f32⟩
  | 120 => ⟨S16x32x32x32x32, .f32⟩
  | 121 => ⟨S_, .f32⟩
  | 122 => ⟨S16x32x32x32x32, .f32⟩
  | 123 => ⟨S16x32x32x32x32, .f32⟩
  | 124 => ⟨S16x32x32x32x32, .f32⟩
  | 125 => ⟨S16x32x32x32x32, .f32⟩
  | 126 => ⟨S_, .f32⟩
  | 127 => ⟨S16x32x32x32x32, .f32⟩
  | _ => ⟨S32x3x256x256, .f32⟩

abbrev hbmTy0_3 (i : Nat) : BufTy := match i % 128 with
  | 0 => ⟨S16x32x32x32x32, .f32⟩
  | 1 => ⟨S16x32x32x32x32, .f32⟩
  | 2 => ⟨S_, .i32⟩
  | 3 => ⟨S_, .f32⟩
  | 4 => ⟨S16x32x32x34x34, .f32⟩
  | 5 => ⟨S3x3x16x64x32, .f32⟩
  | 6 => ⟨S1x1x16x64x32, .f32⟩
  | 7 => ⟨S16x64x32, .f32⟩
  | 8 => ⟨S16x32x32x16x16, .f32⟩
  | 9 => ⟨S16x64x32x16x16, .f32⟩
  | 10 => ⟨S1x1x16x64x32, .f32⟩
  | 11 => ⟨S16x64x32, .f32⟩
  | 12 => ⟨S16x32x32x16x16, .f32⟩
  | 13 => ⟨S16x64x32x16x16, .f32⟩
  | 14 => ⟨S16x64x32x16x16, .f32⟩
  | 15 => ⟨S1x1x16x64x32, .f32⟩
  | 16 => ⟨S16x64x32, .f32⟩
  | 17 => ⟨S16x32x32x16x16, .f32⟩
  | 18 => ⟨S16x64x32x16x16, .f32⟩
  | 19 => ⟨S16x64x32x16x16, .f32⟩
  | 20 => ⟨S1x1x16x64x32, .f32⟩
  | 21 => ⟨S16x64x32, .f32⟩
  | 22 => ⟨S16x32x32x16x16, .f32⟩
  | 23 => ⟨S16x64x32x16x16, .f32⟩
  | 24 => ⟨S16x64x32x16x16, .f32⟩
  | 25 => ⟨S1x1x16x64x32, .f32⟩
  | 26 => ⟨S16x64x32, .f32⟩
  | 27 => ⟨S16x32x32x16x16, .f32⟩
  | 28 => ⟨S16x64x32x16x16, .f32⟩
  | 29 => ⟨S16x64x32x16x16, .f32⟩
  | 30 => ⟨S1x1x16x64x32, .f32⟩
  | 31 => ⟨S16x64x32, .f32⟩
  | 32 => ⟨S16x32x32x16x16, .f32⟩
  | 33 => ⟨S16x64x32x16x16, .f32⟩
  | 34 => ⟨S16x64x32x16x16, .f32⟩
  | 35 => ⟨S1x1x16x64x32, .f32⟩
  | 36 => ⟨S16x64x32, .f32⟩
  | 37 => ⟨S16x32x32x16x16, .f32⟩
  | 38 => ⟨S16x64x32x16x16, .f32⟩
  | 39 => ⟨S16x64x32x16x16, .f32⟩
  | 40 => ⟨S1x1x16x64x32, .f32⟩
  | 41 => ⟨S16x64x32, .f32⟩
  | 42 => ⟨S16x32x32x16x16, .f32⟩
  | 43 => ⟨S16x64x32x16x16, .f32⟩
  | 44 => ⟨S16x64x32x16x16, .f32⟩
  | 45 => ⟨S1x1x16x64x32, .f32⟩
  | 46 => ⟨S16x64x32, .f32⟩
  | 47 => ⟨S16x32x32x16x16, .f32⟩
  | 48 => ⟨S16x64x32x16x16, .f32⟩
  | 49 => ⟨S16x64x32x16x16, .f32⟩
  | 50 => ⟨S_, .f32⟩
  | 51 => ⟨S16x64, .f32⟩
  | 52 => ⟨S16x64x1x1x1, .f32⟩
  | 53 => ⟨S_, .f32⟩
  | 54 => ⟨S16x64x1x1x1, .f32⟩
  | 55 => ⟨S16x64x1x1x1, .f32⟩
  | 56 => ⟨S16x64x32x16x16, .f32⟩
  | 57 => ⟨S16x64x32x16x16, .f32⟩
  | 58 => ⟨S16x64x32x16x16, .f32⟩
  | 59 => ⟨S_, .f32⟩
  | 60 => ⟨S16x64, .f32⟩
  | 61 => ⟨S16x64x1x1x1, .f32⟩
  | 62 => ⟨S_, .f32⟩
  | 63 => ⟨S16x64x1x1x1, .f32⟩
  | 64 => ⟨S16x64x1x1x1, .f32⟩
  | 65 => ⟨S_, .f32⟩
  | 66 => ⟨S16x64x1x1x1, .f32⟩
  | 67 => ⟨S16x64x1x1x1, .f32⟩
  | 68 => ⟨S16x64x1x1x1, .f32⟩
  | 69 => ⟨S16x64x32x16x16, .f32⟩
  | 70 => ⟨S16x64x32x16x16, .f32⟩
  | 71 => ⟨S16x1x64, .f32⟩
  | 72 => ⟨S16x64, .f32⟩
  | 73 => ⟨S16x64x1x1x1, .f32⟩
  | 74 => ⟨S16x1x64, .f32⟩
  | 75 => ⟨S16x64, .f32⟩
  | 76 => ⟨S16x64x1x1x1, .f32⟩
  | 77 => ⟨S16x1x64, .f32⟩
  | 78 => ⟨S16x64, .f32⟩
  | 79 => ⟨S16x64x1x1x1, .f32⟩
  | 80 => ⟨S16x64x32x16x16, .f32⟩
  | 81 => ⟨S16x64x32x16x16, .f32⟩
  | 82 => ⟨S16x64x32x16x16, .f32⟩
  | 83 => ⟨S16x64x32x16x16, .f32⟩
  | 84 => ⟨S16x64x32x16x16, .f32⟩
  | 85 => ⟨S_, .f32⟩
  | 86 => ⟨S16x64x32x16x16, .f32⟩
  | 87 => ⟨S16x64x32x16x16, .f32⟩
  | 88 => ⟨S16x64x32x16x16, .f32⟩
  | 89 => ⟨S16x64x32x16x16, .f32⟩
  | 90 => ⟨S_, .f32⟩
  | 91 => ⟨S16x64x32x16x16, .f32⟩
  | 92 => ⟨S16x64x32x16x16, .f32⟩
  | 93 => ⟨S16x64x32x16x16, .f32⟩
  | 94 => ⟨S_, .i32⟩
  | 95 => ⟨S_, .f32⟩
  | 96 => ⟨S16x64x32x18x18, .f32⟩
  | 97 => ⟨S3x3x16x64x64, .f32⟩
  | 98 => ⟨S1x1x16x64x64, .f32⟩
  | 99 => ⟨S16x64x64, .f32⟩
  | 100 => ⟨S16x64x32x16x16, .f32⟩
  | 101 => ⟨S16x64x32x16x16, .f32⟩
  | 102 => ⟨S1x1x16x64x64, .f32⟩
  | 103 => ⟨S16x64x64, .f32⟩
  | 104 => ⟨S16x64x32x16x16, .f32⟩
  | 105 => ⟨S16x64x32x16x16, .f32⟩
  | 106 => ⟨S16x64x32x16x16, .f32⟩
  | 107 => ⟨S1x1x16x64x64, .f32⟩
  | 108 => ⟨S16x64x64, .f32⟩
  | 109 => ⟨S16x64x32x16x16, .f32⟩
  | 110 => ⟨S16x64x32x16x16, .f32⟩
  | 111 => ⟨S16x64x32x16x16, .f32⟩
  | 112 => ⟨S1x1x16x64x64, .f32⟩
  | 113 => ⟨S16x64x64, .f32⟩
  | 114 => ⟨S16x64x32x16x16, .f32⟩
  | 115 => ⟨S16x64x32x16x16, .f32⟩
  | 116 => ⟨S16x64x32x16x16, .f32⟩
  | 117 => ⟨S1x1x16x64x64, .f32⟩
  | 118 => ⟨S16x64x64, .f32⟩
  | 119 => ⟨S16x64x32x16x16, .f32⟩
  | 120 => ⟨S16x64x32x16x16, .f32⟩
  | 121 => ⟨S16x64x32x16x16, .f32⟩
  | 122 => ⟨S1x1x16x64x64, .f32⟩
  | 123 => ⟨S16x64x64, .f32⟩
  | 124 => ⟨S16x64x32x16x16, .f32⟩
  | 125 => ⟨S16x64x32x16x16, .f32⟩
  | 126 => ⟨S16x64x32x16x16, .f32⟩
  | 127 => ⟨S1x1x16x64x64, .f32⟩
  | _ => ⟨S32x3x256x256, .f32⟩

abbrev hbmTy0_4 (i : Nat) : BufTy := match i % 128 with
  | 0 => ⟨S16x64x64, .f32⟩
  | 1 => ⟨S16x64x32x16x16, .f32⟩
  | 2 => ⟨S16x64x32x16x16, .f32⟩
  | 3 => ⟨S16x64x32x16x16, .f32⟩
  | 4 => ⟨S1x1x16x64x64, .f32⟩
  | 5 => ⟨S16x64x64, .f32⟩
  | 6 => ⟨S16x64x32x16x16, .f32⟩
  | 7 => ⟨S16x64x32x16x16, .f32⟩
  | 8 => ⟨S16x64x32x16x16, .f32⟩
  | 9 => ⟨S1x1x16x64x64, .f32⟩
  | 10 => ⟨S16x64x64, .f32⟩
  | 11 => ⟨S16x64x32x16x16, .f32⟩
  | 12 => ⟨S16x64x32x16x16, .f32⟩
  | 13 => ⟨S16x64x32x16x16, .f32⟩
  | 14 => ⟨S_, .f32⟩
  | 15 => ⟨S16x64, .f32⟩
  | 16 => ⟨S16x64x1x1x1, .f32⟩
  | 17 => ⟨S_, .f32⟩
  | 18 => ⟨S16x64x1x1x1, .f32⟩
  | 19 => ⟨S16x64x1x1x1, .f32⟩
  | 20 => ⟨S16x64x32x16x16, .f32⟩
  | 21 => ⟨S16x64x32x16x16, .f32⟩
  | 22 => ⟨S16x64x32x16x16, .f32⟩
  | 23 => ⟨S_, .f32⟩
  | 24 => ⟨S16x64, .f32⟩
  | 25 => ⟨S16x64x1x1x1, .f32⟩
  | 26 => ⟨S_, .f32⟩
  | 27 => ⟨S16x64x1x1x1, .f32⟩
  | 28 => ⟨S16x64x1x1x1, .f32⟩
  | 29 => ⟨S_, .f32⟩
  | 30 => ⟨S16x64x1x1x1, .f32⟩
  | 31 => ⟨S16x64x1x1x1, .f32⟩
  | 32 => ⟨S16x64x1x1x1, .f32⟩
  | 33 => ⟨S16x64x32x16x16, .f32⟩
  | 34 => ⟨S16x64x32x16x16, .f32⟩
  | 35 => ⟨S16x1x64, .f32⟩
  | 36 => ⟨S16x64, .f32⟩
  | 37 => ⟨S16x64x1x1x1, .f32⟩
  | 38 => ⟨S16x1x64, .f32⟩
  | 39 => ⟨S16x64, .f32⟩
  | 40 => ⟨S16x64x1x1x1, .f32⟩
  | 41 => ⟨S16x1x64, .f32⟩
  | 42 => ⟨S16x64, .f32⟩
  | 43 => ⟨S16x64x1x1x1, .f32⟩
  | 44 => ⟨S16x64x32x16x16, .f32⟩
  | 45 => ⟨S16x64x32x16x16, .f32⟩
  | 46 => ⟨S16x64x32x16x16, .f32⟩
  | 47 => ⟨S16x64x32x16x16, .f32⟩
  | 48 => ⟨S16x64x32x16x16, .f32⟩
  | 49 => ⟨S_, .f32⟩
  | 50 => ⟨S16x64x32x16x16, .f32⟩
  | 51 => ⟨S16x64x32x16x16, .f32⟩
  | 52 => ⟨S16x64x32x16x16, .f32⟩
  | 53 => ⟨S16x64x32x16x16, .f32⟩
  | 54 => ⟨S_, .f32⟩
  | 55 => ⟨S16x64x32x16x16, .f32⟩
  | 56 => ⟨S16x64x32x16x16, .f32⟩
  | 57 => ⟨S16x64x32x16x16, .f32⟩
  | 58 => ⟨S16x64x32x2x8x2x8, .f32⟩
  | 59 => ⟨S_, .f32⟩
  | 60 => ⟨S16x64x32x2x2, .f32⟩
  | 61 => ⟨S_, .f32⟩
  | 62 => ⟨S16x64x32x2x2, .f32⟩
  | 63 => ⟨S16x64x32x2x2, .f32⟩
  | 64 => ⟨S16x64x32x4, .f32⟩
  | 65 => ⟨S_, .f32⟩
  | 66 => ⟨S16x64x4, .f32⟩
  | 67 => ⟨S16x64x1x4, .f32⟩
  | 68 => ⟨S_, .f32⟩
  | 69 => ⟨S16x64x1x4, .f32⟩
  | 70 => ⟨S16x64x1x4, .f32⟩
  | 71 => ⟨S16x64x32x4, .f32⟩
  | 72 => ⟨S16x64x32x4, .f32⟩
  | 73 => ⟨S16x64x32x4, .f32⟩
  | 74 => ⟨S_, .f32⟩
  | 75 => ⟨S16x64x4, .f32⟩
  | 76 => ⟨S16x64x1x4, .f32⟩
  | 77 => ⟨S_, .f32⟩
  | 78 => ⟨S16x64x1x4, .f32⟩
  | 79 => ⟨S16x64x1x4, .f32⟩
  | 80 => ⟨S_, .f32⟩
  | 81 => ⟨S16x64x1x4, .f32⟩
  | 82 => ⟨S16x64x1x4, .f32⟩
  | 83 => ⟨S16x64x1x4, .f32⟩
  | 84 => ⟨S16x64x32x4, .f32⟩
  | 85 => ⟨S16x64x32x4, .f32⟩
  | 86 => ⟨S16x64x1x4, .f32⟩
  | 87 => ⟨S16x64x32x4, .f32⟩
  | 88 => ⟨S16x64x32x4, .f32⟩
  | 89 => ⟨S16x64x1x4, .f32⟩
  | 90 => ⟨S16x64x32x4, .f32⟩
  | 91 => ⟨S16x64x32x4, .f32⟩
  | 92 => ⟨S16x32x64x4, .f32⟩
  | _ => ⟨S32x3x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x3x256x256, .f32⟩

abbrev bufTy : (tb : Table) → Fin (tcTables nBuf tb) → BufTy
  | .hbm, ⟨i, _⟩ => hbmTy i
  | _, _ => ⟨S32x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst : Ref sig .tc := ⟨.hbm, 66, rfl⟩
abbrev main_v49 : Ref sig .tc := ⟨.hbm, 67, rfl⟩
abbrev main_v50 : Ref sig .tc := ⟨.hbm, 68, rfl⟩
abbrev main_cst_0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_1 : Ref sig .tc := ⟨.hbm, 75, rfl⟩
abbrev main_v56 : Ref sig .tc := ⟨.hbm, 76, rfl⟩
abbrev main_v57 : Ref sig .tc := ⟨.hbm, 77, rfl⟩
abbrev main_cst_2 : Ref sig .tc := ⟨.hbm, 78, rfl⟩
abbrev main_v58 : Ref sig .tc := ⟨.hbm, 79, rfl⟩
abbrev main_v59 : Ref sig .tc := ⟨.hbm, 80, rfl⟩
abbrev main_cst_3 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_4 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_5 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_6 : Ref sig .tc := ⟨.hbm, 110, rfl⟩
abbrev main_call1_v0 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_7 : Ref sig .tc := ⟨.hbm, 158, rfl⟩
abbrev main_v132 : Ref sig .tc := ⟨.hbm, 159, rfl⟩
abbrev main_v133 : Ref sig .tc := ⟨.hbm, 160, rfl⟩
abbrev main_cst_8 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_cst_9 : Ref sig .tc := ⟨.hbm, 167, rfl⟩
abbrev main_v139 : Ref sig .tc := ⟨.hbm, 168, rfl⟩
abbrev main_v140 : Ref sig .tc := ⟨.hbm, 169, rfl⟩
abbrev main_cst_10 : Ref sig .tc := ⟨.hbm, 170, rfl⟩
abbrev main_v141 : Ref sig .tc := ⟨.hbm, 171, rfl⟩
abbrev main_v142 : Ref sig .tc := ⟨.hbm, 172, rfl⟩
abbrev main_cst_11 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_cst_12 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_cst_13 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_c_14 : Ref sig .tc := ⟨.hbm, 202, rfl⟩
abbrev main_call2_v0 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_cst_15 : Ref sig .tc := ⟨.hbm, 250, rfl⟩
abbrev main_v215 : Ref sig .tc := ⟨.hbm, 251, rfl⟩
abbrev main_v216 : Ref sig .tc := ⟨.hbm, 252, rfl⟩
abbrev main_cst_16 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_cst_17 : Ref sig .tc := ⟨.hbm, 259, rfl⟩
abbrev main_v222 : Ref sig .tc := ⟨.hbm, 260, rfl⟩
abbrev main_v223 : Ref sig .tc := ⟨.hbm, 261, rfl⟩
abbrev main_cst_18 : Ref sig .tc := ⟨.hbm, 262, rfl⟩
abbrev main_v224 : Ref sig .tc := ⟨.hbm, 263, rfl⟩
abbrev main_v225 : Ref sig .tc := ⟨.hbm, 264, rfl⟩
abbrev main_cst_19 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_cst_20 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_cst_21 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_c_22 : Ref sig .tc := ⟨.hbm, 294, rfl⟩
abbrev main_call3_v0 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩
abbrev main_cst_23 : Ref sig .tc := ⟨.hbm, 342, rfl⟩
abbrev main_v298 : Ref sig .tc := ⟨.hbm, 343, rfl⟩
abbrev main_v299 : Ref sig .tc := ⟨.hbm, 344, rfl⟩
abbrev main_cst_24 : Ref sig .tc := ⟨.hbm, 345, rfl⟩
abbrev main_v300 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩
abbrev main_cst_25 : Ref sig .tc := ⟨.hbm, 351, rfl⟩
abbrev main_v305 : Ref sig .tc := ⟨.hbm, 352, rfl⟩
abbrev main_v306 : Ref sig .tc := ⟨.hbm, 353, rfl⟩
abbrev main_cst_26 : Ref sig .tc := ⟨.hbm, 354, rfl⟩
abbrev main_v307 : Ref sig .tc := ⟨.hbm, 355, rfl⟩
abbrev main_v308 : Ref sig .tc := ⟨.hbm, 356, rfl⟩
abbrev main_cst_27 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_v318 : Ref sig .tc := ⟨.hbm, 367, rfl⟩
abbrev main_v319 : Ref sig .tc := ⟨.hbm, 368, rfl⟩
abbrev main_v320 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_v327 : Ref sig .tc := ⟨.hbm, 376, rfl⟩
abbrev main_cst_28 : Ref sig .tc := ⟨.hbm, 377, rfl⟩
abbrev main_v328 : Ref sig .tc := ⟨.hbm, 378, rfl⟩
abbrev main_v329 : Ref sig .tc := ⟨.hbm, 379, rfl⟩
abbrev main_v330 : Ref sig .tc := ⟨.hbm, 380, rfl⟩
abbrev main_v331 : Ref sig .tc := ⟨.hbm, 381, rfl⟩
abbrev main_cst_29 : Ref sig .tc := ⟨.hbm, 382, rfl⟩
abbrev main_v332 : Ref sig .tc := ⟨.hbm, 383, rfl⟩
abbrev main_v333 : Ref sig .tc := ⟨.hbm, 384, rfl⟩
abbrev main_v334 : Ref sig .tc := ⟨.hbm, 385, rfl⟩
abbrev main_c_30 : Ref sig .tc := ⟨.hbm, 386, rfl⟩
abbrev main_call4_v0 : Ref sig .tc := ⟨.hbm, 387, rfl⟩
abbrev main_v335 : Ref sig .tc := ⟨.hbm, 388, rfl⟩
abbrev main_v336 : Ref sig .tc := ⟨.hbm, 389, rfl⟩
abbrev main_v337 : Ref sig .tc := ⟨.hbm, 390, rfl⟩
abbrev main_v338 : Ref sig .tc := ⟨.hbm, 391, rfl⟩
abbrev main_v339 : Ref sig .tc := ⟨.hbm, 392, rfl⟩
abbrev main_v340 : Ref sig .tc := ⟨.hbm, 393, rfl⟩
abbrev main_v341 : Ref sig .tc := ⟨.hbm, 394, rfl⟩
abbrev main_v342 : Ref sig .tc := ⟨.hbm, 395, rfl⟩
abbrev main_v343 : Ref sig .tc := ⟨.hbm, 396, rfl⟩
abbrev main_v344 : Ref sig .tc := ⟨.hbm, 397, rfl⟩
abbrev main_v345 : Ref sig .tc := ⟨.hbm, 398, rfl⟩
abbrev main_v346 : Ref sig .tc := ⟨.hbm, 399, rfl⟩
abbrev main_v347 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩
abbrev main_v351 : Ref sig .tc := ⟨.hbm, 404, rfl⟩
abbrev main_v352 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_v357 : Ref sig .tc := ⟨.hbm, 410, rfl⟩
abbrev main_v358 : Ref sig .tc := ⟨.hbm, 411, rfl⟩
abbrev main_v359 : Ref sig .tc := ⟨.hbm, 412, rfl⟩
abbrev main_v360 : Ref sig .tc := ⟨.hbm, 413, rfl⟩
abbrev main_v361 : Ref sig .tc := ⟨.hbm, 414, rfl⟩
abbrev main_v362 : Ref sig .tc := ⟨.hbm, 415, rfl⟩
abbrev main_v363 : Ref sig .tc := ⟨.hbm, 416, rfl⟩
abbrev main_v364 : Ref sig .tc := ⟨.hbm, 417, rfl⟩
abbrev main_v365 : Ref sig .tc := ⟨.hbm, 418, rfl⟩
abbrev main_v366 : Ref sig .tc := ⟨.hbm, 419, rfl⟩
abbrev main_v367 : Ref sig .tc := ⟨.hbm, 420, rfl⟩
abbrev main_v368 : Ref sig .tc := ⟨.hbm, 421, rfl⟩
abbrev main_v369 : Ref sig .tc := ⟨.hbm, 422, rfl⟩
abbrev main_v370 : Ref sig .tc := ⟨.hbm, 423, rfl⟩
abbrev main_v371 : Ref sig .tc := ⟨.hbm, 424, rfl⟩
abbrev main_v372 : Ref sig .tc := ⟨.hbm, 425, rfl⟩
abbrev main_v373 : Ref sig .tc := ⟨.hbm, 426, rfl⟩
abbrev main_v374 : Ref sig .tc := ⟨.hbm, 427, rfl⟩
abbrev main_v375 : Ref sig .tc := ⟨.hbm, 428, rfl⟩
abbrev main_v376 : Ref sig .tc := ⟨.hbm, 429, rfl⟩
abbrev main_v377 : Ref sig .tc := ⟨.hbm, 430, rfl⟩
abbrev main_v378 : Ref sig .tc := ⟨.hbm, 431, rfl⟩
abbrev main_v379 : Ref sig .tc := ⟨.hbm, 432, rfl⟩
abbrev main_v380 : Ref sig .tc := ⟨.hbm, 433, rfl⟩
abbrev main_cst_31 : Ref sig .tc := ⟨.hbm, 434, rfl⟩
abbrev main_v381 : Ref sig .tc := ⟨.hbm, 435, rfl⟩
abbrev main_v382 : Ref sig .tc := ⟨.hbm, 436, rfl⟩
abbrev main_cst_32 : Ref sig .tc := ⟨.hbm, 437, rfl⟩
abbrev main_v383 : Ref sig .tc := ⟨.hbm, 438, rfl⟩
abbrev main_v384 : Ref sig .tc := ⟨.hbm, 439, rfl⟩
abbrev main_v385 : Ref sig .tc := ⟨.hbm, 440, rfl⟩
abbrev main_v386 : Ref sig .tc := ⟨.hbm, 441, rfl⟩
abbrev main_v387 : Ref sig .tc := ⟨.hbm, 442, rfl⟩
abbrev main_cst_33 : Ref sig .tc := ⟨.hbm, 443, rfl⟩
abbrev main_v388 : Ref sig .tc := ⟨.hbm, 444, rfl⟩
abbrev main_v389 : Ref sig .tc := ⟨.hbm, 445, rfl⟩
abbrev main_cst_34 : Ref sig .tc := ⟨.hbm, 446, rfl⟩
abbrev main_v390 : Ref sig .tc := ⟨.hbm, 447, rfl⟩
abbrev main_v391 : Ref sig .tc := ⟨.hbm, 448, rfl⟩
abbrev main_cst_35 : Ref sig .tc := ⟨.hbm, 449, rfl⟩
abbrev main_v392 : Ref sig .tc := ⟨.hbm, 450, rfl⟩
abbrev main_v393 : Ref sig .tc := ⟨.hbm, 451, rfl⟩
abbrev main_v394 : Ref sig .tc := ⟨.hbm, 452, rfl⟩
abbrev main_v395 : Ref sig .tc := ⟨.hbm, 453, rfl⟩
abbrev main_v396 : Ref sig .tc := ⟨.hbm, 454, rfl⟩
abbrev main_v397 : Ref sig .tc := ⟨.hbm, 455, rfl⟩
abbrev main_v398 : Ref sig .tc := ⟨.hbm, 456, rfl⟩
abbrev main_v399 : Ref sig .tc := ⟨.hbm, 457, rfl⟩
abbrev main_v400 : Ref sig .tc := ⟨.hbm, 458, rfl⟩
abbrev main_v401 : Ref sig .tc := ⟨.hbm, 459, rfl⟩
abbrev main_v402 : Ref sig .tc := ⟨.hbm, 460, rfl⟩
abbrev main_v403 : Ref sig .tc := ⟨.hbm, 461, rfl⟩
abbrev main_v404 : Ref sig .tc := ⟨.hbm, 462, rfl⟩
abbrev main_v405 : Ref sig .tc := ⟨.hbm, 463, rfl⟩
abbrev main_v406 : Ref sig .tc := ⟨.hbm, 464, rfl⟩
abbrev main_v407 : Ref sig .tc := ⟨.hbm, 465, rfl⟩
abbrev main_v408 : Ref sig .tc := ⟨.hbm, 466, rfl⟩
abbrev main_v409 : Ref sig .tc := ⟨.hbm, 467, rfl⟩
abbrev main_v410 : Ref sig .tc := ⟨.hbm, 468, rfl⟩
abbrev main_cst_36 : Ref sig .tc := ⟨.hbm, 469, rfl⟩
abbrev main_v411 : Ref sig .tc := ⟨.hbm, 470, rfl⟩
abbrev main_v412 : Ref sig .tc := ⟨.hbm, 471, rfl⟩
abbrev main_v413 : Ref sig .tc := ⟨.hbm, 472, rfl⟩
abbrev main_v414 : Ref sig .tc := ⟨.hbm, 473, rfl⟩
abbrev main_cst_37 : Ref sig .tc := ⟨.hbm, 474, rfl⟩
abbrev main_v415 : Ref sig .tc := ⟨.hbm, 475, rfl⟩
abbrev main_v416 : Ref sig .tc := ⟨.hbm, 476, rfl⟩
abbrev main_v417 : Ref sig .tc := ⟨.hbm, 477, rfl⟩
abbrev main_c_38 : Ref sig .tc := ⟨.hbm, 478, rfl⟩
abbrev main_call5_v0 : Ref sig .tc := ⟨.hbm, 479, rfl⟩
abbrev main_v418 : Ref sig .tc := ⟨.hbm, 480, rfl⟩
abbrev main_v419 : Ref sig .tc := ⟨.hbm, 481, rfl⟩
abbrev main_v420 : Ref sig .tc := ⟨.hbm, 482, rfl⟩
abbrev main_v421 : Ref sig .tc := ⟨.hbm, 483, rfl⟩
abbrev main_v422 : Ref sig .tc := ⟨.hbm, 484, rfl⟩
abbrev main_v423 : Ref sig .tc := ⟨.hbm, 485, rfl⟩
abbrev main_v424 : Ref sig .tc := ⟨.hbm, 486, rfl⟩
abbrev main_v425 : Ref sig .tc := ⟨.hbm, 487, rfl⟩
abbrev main_v426 : Ref sig .tc := ⟨.hbm, 488, rfl⟩
abbrev main_v427 : Ref sig .tc := ⟨.hbm, 489, rfl⟩
abbrev main_v428 : Ref sig .tc := ⟨.hbm, 490, rfl⟩
abbrev main_v429 : Ref sig .tc := ⟨.hbm, 491, rfl⟩
abbrev main_v430 : Ref sig .tc := ⟨.hbm, 492, rfl⟩
abbrev main_v431 : Ref sig .tc := ⟨.hbm, 493, rfl⟩
abbrev main_v432 : Ref sig .tc := ⟨.hbm, 494, rfl⟩
abbrev main_v433 : Ref sig .tc := ⟨.hbm, 495, rfl⟩
abbrev main_v434 : Ref sig .tc := ⟨.hbm, 496, rfl⟩
abbrev main_v435 : Ref sig .tc := ⟨.hbm, 497, rfl⟩
abbrev main_v436 : Ref sig .tc := ⟨.hbm, 498, rfl⟩
abbrev main_v437 : Ref sig .tc := ⟨.hbm, 499, rfl⟩
abbrev main_v438 : Ref sig .tc := ⟨.hbm, 500, rfl⟩
abbrev main_v439 : Ref sig .tc := ⟨.hbm, 501, rfl⟩
abbrev main_v440 : Ref sig .tc := ⟨.hbm, 502, rfl⟩
abbrev main_v441 : Ref sig .tc := ⟨.hbm, 503, rfl⟩
abbrev main_v442 : Ref sig .tc := ⟨.hbm, 504, rfl⟩
abbrev main_v443 : Ref sig .tc := ⟨.hbm, 505, rfl⟩
abbrev main_v444 : Ref sig .tc := ⟨.hbm, 506, rfl⟩
abbrev main_v445 : Ref sig .tc := ⟨.hbm, 507, rfl⟩
abbrev main_v446 : Ref sig .tc := ⟨.hbm, 508, rfl⟩
abbrev main_v447 : Ref sig .tc := ⟨.hbm, 509, rfl⟩
abbrev main_v448 : Ref sig .tc := ⟨.hbm, 510, rfl⟩
abbrev main_v449 : Ref sig .tc := ⟨.hbm, 511, rfl⟩
abbrev main_v450 : Ref sig .tc := ⟨.hbm, 512, rfl⟩
abbrev main_v451 : Ref sig .tc := ⟨.hbm, 513, rfl⟩
abbrev main_v452 : Ref sig .tc := ⟨.hbm, 514, rfl⟩
abbrev main_v453 : Ref sig .tc := ⟨.hbm, 515, rfl⟩
abbrev main_v454 : Ref sig .tc := ⟨.hbm, 516, rfl⟩
abbrev main_v455 : Ref sig .tc := ⟨.hbm, 517, rfl⟩
abbrev main_v456 : Ref sig .tc := ⟨.hbm, 518, rfl⟩
abbrev main_v457 : Ref sig .tc := ⟨.hbm, 519, rfl⟩
abbrev main_v458 : Ref sig .tc := ⟨.hbm, 520, rfl⟩
abbrev main_v459 : Ref sig .tc := ⟨.hbm, 521, rfl⟩
abbrev main_v460 : Ref sig .tc := ⟨.hbm, 522, rfl⟩
abbrev main_v461 : Ref sig .tc := ⟨.hbm, 523, rfl⟩
abbrev main_v462 : Ref sig .tc := ⟨.hbm, 524, rfl⟩
abbrev main_v463 : Ref sig .tc := ⟨.hbm, 525, rfl⟩
abbrev main_cst_39 : Ref sig .tc := ⟨.hbm, 526, rfl⟩
abbrev main_v464 : Ref sig .tc := ⟨.hbm, 527, rfl⟩
abbrev main_v465 : Ref sig .tc := ⟨.hbm, 528, rfl⟩
abbrev main_cst_40 : Ref sig .tc := ⟨.hbm, 529, rfl⟩
abbrev main_v466 : Ref sig .tc := ⟨.hbm, 530, rfl⟩
abbrev main_v467 : Ref sig .tc := ⟨.hbm, 531, rfl⟩
abbrev main_v468 : Ref sig .tc := ⟨.hbm, 532, rfl⟩
abbrev main_v469 : Ref sig .tc := ⟨.hbm, 533, rfl⟩
abbrev main_v470 : Ref sig .tc := ⟨.hbm, 534, rfl⟩
abbrev main_cst_41 : Ref sig .tc := ⟨.hbm, 535, rfl⟩
abbrev main_v471 : Ref sig .tc := ⟨.hbm, 536, rfl⟩
abbrev main_v472 : Ref sig .tc := ⟨.hbm, 537, rfl⟩
abbrev main_cst_42 : Ref sig .tc := ⟨.hbm, 538, rfl⟩
abbrev main_v473 : Ref sig .tc := ⟨.hbm, 539, rfl⟩
abbrev main_v474 : Ref sig .tc := ⟨.hbm, 540, rfl⟩
abbrev main_cst_43 : Ref sig .tc := ⟨.hbm, 541, rfl⟩
abbrev main_v475 : Ref sig .tc := ⟨.hbm, 542, rfl⟩
abbrev main_v476 : Ref sig .tc := ⟨.hbm, 543, rfl⟩
abbrev main_v477 : Ref sig .tc := ⟨.hbm, 544, rfl⟩
abbrev main_v478 : Ref sig .tc := ⟨.hbm, 545, rfl⟩
abbrev main_v479 : Ref sig .tc := ⟨.hbm, 546, rfl⟩
abbrev main_v480 : Ref sig .tc := ⟨.hbm, 547, rfl⟩
abbrev main_v481 : Ref sig .tc := ⟨.hbm, 548, rfl⟩
abbrev main_v482 : Ref sig .tc := ⟨.hbm, 549, rfl⟩
abbrev main_v483 : Ref sig .tc := ⟨.hbm, 550, rfl⟩
abbrev main_v484 : Ref sig .tc := ⟨.hbm, 551, rfl⟩
abbrev main_v485 : Ref sig .tc := ⟨.hbm, 552, rfl⟩
abbrev main_v486 : Ref sig .tc := ⟨.hbm, 553, rfl⟩
abbrev main_v487 : Ref sig .tc := ⟨.hbm, 554, rfl⟩
abbrev main_v488 : Ref sig .tc := ⟨.hbm, 555, rfl⟩
abbrev main_v489 : Ref sig .tc := ⟨.hbm, 556, rfl⟩
abbrev main_v490 : Ref sig .tc := ⟨.hbm, 557, rfl⟩
abbrev main_v491 : Ref sig .tc := ⟨.hbm, 558, rfl⟩
abbrev main_v492 : Ref sig .tc := ⟨.hbm, 559, rfl⟩
abbrev main_v493 : Ref sig .tc := ⟨.hbm, 560, rfl⟩
abbrev main_cst_44 : Ref sig .tc := ⟨.hbm, 561, rfl⟩
abbrev main_v494 : Ref sig .tc := ⟨.hbm, 562, rfl⟩
abbrev main_v495 : Ref sig .tc := ⟨.hbm, 563, rfl⟩
abbrev main_v496 : Ref sig .tc := ⟨.hbm, 564, rfl⟩
abbrev main_v497 : Ref sig .tc := ⟨.hbm, 565, rfl⟩
abbrev main_cst_45 : Ref sig .tc := ⟨.hbm, 566, rfl⟩
abbrev main_v498 : Ref sig .tc := ⟨.hbm, 567, rfl⟩
abbrev main_v499 : Ref sig .tc := ⟨.hbm, 568, rfl⟩
abbrev main_v500 : Ref sig .tc := ⟨.hbm, 569, rfl⟩
abbrev main_v501 : Ref sig .tc := ⟨.hbm, 570, rfl⟩
abbrev main_cst_46 : Ref sig .tc := ⟨.hbm, 571, rfl⟩
abbrev main_v502 : Ref sig .tc := ⟨.hbm, 572, rfl⟩
abbrev main_cst_47 : Ref sig .tc := ⟨.hbm, 573, rfl⟩
abbrev main_v503 : Ref sig .tc := ⟨.hbm, 574, rfl⟩
abbrev main_v504 : Ref sig .tc := ⟨.hbm, 575, rfl⟩
abbrev main_v505 : Ref sig .tc := ⟨.hbm, 576, rfl⟩
abbrev main_cst_48 : Ref sig .tc := ⟨.hbm, 577, rfl⟩
abbrev main_v506 : Ref sig .tc := ⟨.hbm, 578, rfl⟩
abbrev main_v507 : Ref sig .tc := ⟨.hbm, 579, rfl⟩
abbrev main_cst_49 : Ref sig .tc := ⟨.hbm, 580, rfl⟩
abbrev main_v508 : Ref sig .tc := ⟨.hbm, 581, rfl⟩
abbrev main_v509 : Ref sig .tc := ⟨.hbm, 582, rfl⟩
abbrev main_v510 : Ref sig .tc := ⟨.hbm, 583, rfl⟩
abbrev main_v511 : Ref sig .tc := ⟨.hbm, 584, rfl⟩
abbrev main_v512 : Ref sig .tc := ⟨.hbm, 585, rfl⟩
abbrev main_cst_50 : Ref sig .tc := ⟨.hbm, 586, rfl⟩
abbrev main_v513 : Ref sig .tc := ⟨.hbm, 587, rfl⟩
abbrev main_v514 : Ref sig .tc := ⟨.hbm, 588, rfl⟩
abbrev main_cst_51 : Ref sig .tc := ⟨.hbm, 589, rfl⟩
abbrev main_v515 : Ref sig .tc := ⟨.hbm, 590, rfl⟩
abbrev main_v516 : Ref sig .tc := ⟨.hbm, 591, rfl⟩
abbrev main_cst_52 : Ref sig .tc := ⟨.hbm, 592, rfl⟩
abbrev main_v517 : Ref sig .tc := ⟨.hbm, 593, rfl⟩
abbrev main_v518 : Ref sig .tc := ⟨.hbm, 594, rfl⟩
abbrev main_v519 : Ref sig .tc := ⟨.hbm, 595, rfl⟩
abbrev main_v520 : Ref sig .tc := ⟨.hbm, 596, rfl⟩
abbrev main_v521 : Ref sig .tc := ⟨.hbm, 597, rfl⟩
abbrev main_v522 : Ref sig .tc := ⟨.hbm, 598, rfl⟩
abbrev main_v523 : Ref sig .tc := ⟨.hbm, 599, rfl⟩
abbrev main_v524 : Ref sig .tc := ⟨.hbm, 600, rfl⟩
abbrev main_v525 : Ref sig .tc := ⟨.hbm, 601, rfl⟩
abbrev main_v526 : Ref sig .tc := ⟨.hbm, 602, rfl⟩
abbrev main_v527 : Ref sig .tc := ⟨.hbm, 603, rfl⟩
abbrev main_v528 : Ref sig .tc := ⟨.hbm, 604, rfl⟩

abbrev nD : Nat := 1
abbrev τ : Topo := Topo.v7x

variable {F : FTy → Type} [FloatOps F]
-- ==== Head.lean ====
abbrev S16x32x64x4 : Shape := ⟨4, ![16, 32, 64, 4]⟩
abbrev S256x4096 : Shape := ⟨2, ![256, 4096]⟩
abbrev S256 : Shape := ⟨1, ![256]⟩
abbrev S16x256 : Shape := ⟨2, ![16, 256]⟩
abbrev S16 : Shape := ⟨1, ![16]⟩
abbrev S1x16 : Shape := ⟨2, ![1, 16]⟩
abbrev S32x16 : Shape := ⟨2, ![32, 16]⟩
abbrev S512 : Shape := ⟨1, ![512]⟩
abbrev S16x32x256 : Shape := ⟨3, ![16, 32, 256]⟩
abbrev S4096x256 : Shape := ⟨2, ![4096, 256]⟩
abbrev S1x256 : Shape := ⟨2, ![1, 256]⟩
abbrev S256x16 : Shape := ⟨2, ![256, 16]⟩
abbrev S32x256 : Shape := ⟨2, ![32, 256]⟩
abbrev S512x16 : Shape := ⟨2, ![512, 16]⟩
abbrev S32x16x256 : Shape := ⟨3, ![32, 16, 256]⟩
abbrev S32x4096 : Shape := ⟨2, ![32, 4096]⟩
abbrev S512x256 : Shape := ⟨2, ![512, 256]⟩

abbrev nBuf : Space → Nat
  | .hbm => 16
  | .vmem => 7
  | .smem => 0
  | _ => 0

abbrev bufTy : (tb : Table) → Fin (tcTables nBuf tb) → BufTy
  | .hbm, ⟨0, _⟩ => ⟨S16x32x64x4, .f32⟩
  | .hbm, ⟨1, _⟩ => ⟨S256x4096, .f32⟩
  | .hbm, ⟨2, _⟩ => ⟨S256, .f32⟩
  | .hbm, ⟨3, _⟩ => ⟨S16x256, .f32⟩
  | .hbm, ⟨4, _⟩ => ⟨S16, .f32⟩
  | .hbm, ⟨5, _⟩ => ⟨S16, .i32⟩
  | .hbm, ⟨6, _⟩ => ⟨S1x16, .i32⟩
  | .hbm, ⟨7, _⟩ => ⟨S32x16, .i32⟩
  | .hbm, ⟨8, _⟩ => ⟨S512, .i32⟩
  | .hbm, ⟨9, _⟩ => ⟨S16x32x256, .f32⟩
  | .hbm, ⟨10, _⟩ => ⟨S4096x256, .f32⟩
  | .hbm, ⟨11, _⟩ => ⟨S1x256, .f32⟩
  | .hbm, ⟨12, _⟩ => ⟨S256x16, .f32⟩
  | .hbm, ⟨13, _⟩ => ⟨S1x16, .f32⟩
  | .hbm, ⟨14, _⟩ => ⟨S32x256, .f32⟩
  | .hbm, ⟨15, _⟩ => ⟨S512x16, .f32⟩
  | .local _ .vmem, ⟨0, _⟩ => ⟨S16x32x256, .f32⟩
  | .local _ .vmem, ⟨1, _⟩ => ⟨S4096x256, .f32⟩
  | .local _ .vmem, ⟨2, _⟩ => ⟨S1x256, .f32⟩
  | .local _ .vmem, ⟨3, _⟩ => ⟨S256x16, .f32⟩
  | .local _ .vmem, ⟨4, _⟩ => ⟨S1x16, .f32⟩
  | .local _ .vmem, ⟨5, _⟩ => ⟨S32x256, .f32⟩
  | .local _ .vmem, ⟨6, _⟩ => ⟨S512x16, .f32⟩
  | _, _ => ⟨S16x32x64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v0_2 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_v0_0 : Ref sig .tc := ⟨.hbm, 14, rfl⟩
abbrev main_v0_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x32x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== HeadReferenceIdeal.lean ====
abbrev S16x32x64x4 : Shape := ⟨4, ![16, 32, 64, 4]⟩
abbrev S256x4096 : Shape := ⟨2, ![256, 4096]⟩
abbrev S256 : Shape := ⟨1, ![256]⟩
abbrev S16x256 : Shape := ⟨2, ![16, 256]⟩
abbrev S16 : Shape := ⟨1, ![16]⟩
abbrev S32x16x64x4 : Shape := ⟨4, ![32, 16, 64, 4]⟩
abbrev S32x16x256 : Shape := ⟨3, ![32, 16, 256]⟩
abbrev S32x4096 : Shape := ⟨2, ![32, 4096]⟩
abbrev S4096x256 : Shape := ⟨2, ![4096, 256]⟩
abbrev S32x256 : Shape := ⟨2, ![32, 256]⟩
abbrev S1x256 : Shape := ⟨2, ![1, 256]⟩
abbrev S_ : Shape := ⟨0, ![]⟩
abbrev S32x16x16 : Shape := ⟨3, ![32, 16, 16]⟩
abbrev S1x1x16 : Shape := ⟨3, ![1, 1, 16]⟩
abbrev S512x16 : Shape := ⟨2, ![512, 16]⟩
abbrev S1x16 : Shape := ⟨2, ![1, 16]⟩
abbrev S32x16 : Shape := ⟨2, ![32, 16]⟩
abbrev S512 : Shape := ⟨1, ![512]⟩

abbrev nBuf : Space → Nat
  | .hbm => 43
  | .vmem => 0
  | .smem => 0
  | _ => 0

abbrev bufTy : (tb : Table) → Fin (tcTables nBuf tb) → BufTy
  | .hbm, ⟨0, _⟩ => ⟨S16x32x64x4, .f32⟩
  | .hbm, ⟨1, _⟩ => ⟨S256x4096, .f32⟩
  | .hbm, ⟨2, _⟩ => ⟨S256, .f32⟩
  | .hbm, ⟨3, _⟩ => ⟨S16x256, .f32⟩
  | .hbm, ⟨4, _⟩ => ⟨S16, .f32⟩
  | .hbm, ⟨5, _⟩ => ⟨S32x16x64x4, .f32⟩
  | .hbm, ⟨6, _⟩ => ⟨S32x16x256, .f32⟩
  | .hbm, ⟨7, _⟩ => ⟨S32x4096, .f32⟩
  | .hbm, ⟨8, _⟩ => ⟨S4096x256, .f32⟩
  | .hbm, ⟨9, _⟩ => ⟨S32x256, .f32⟩
  | .hbm, ⟨10, _⟩ => ⟨S1x256, .f32⟩
  | .hbm, ⟨11, _⟩ => ⟨S32x256, .f32⟩
  | .hbm, ⟨12, _⟩ => ⟨S32x256, .f32⟩
  | .hbm, ⟨13, _⟩ => ⟨S_, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S1x256, .f32⟩
  | .hbm, ⟨19, _⟩ => ⟨S32x256, .f32⟩
  | .hbm, ⟨20, _⟩ => ⟨S32x256, .f32⟩
  | .hbm, ⟨21, _⟩ => ⟨S32x256, .f32⟩
  | .hbm, ⟨22, _⟩ => ⟨S_, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S1x256, .f32⟩
  | .hbm, ⟨32, _⟩ => ⟨S32x256, .f32⟩
  | .hbm, ⟨33, _⟩ => ⟨S32x256, .f32⟩
  | .hbm, ⟨34, _⟩ => ⟨S32x16x16, .f32⟩
  | .hbm, ⟨35, _⟩ => ⟨S1x1x16, .f32⟩
  | .hbm, ⟨36, _⟩ => ⟨S32x16x16, .f32⟩
  | .hbm, ⟨37, _⟩ => ⟨S32x16x16, .f32⟩
  | .hbm, ⟨38, _⟩ => ⟨S512x16, .f32⟩
  | .hbm, ⟨39, _⟩ => ⟨S16, .i32⟩
  | .hbm, ⟨40, _⟩ => ⟨S1x16, .i32⟩
  | .hbm, ⟨41, _⟩ => ⟨S32x16, .i32⟩
  | .hbm, ⟨42, _⟩ => ⟨S512, .i32⟩
  | _, _ => ⟨S16x32x64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Proof.PreFacts.lean ====
/- The side conditions the precondition states. -/
module

public import proofs.«01_k».proof.Pre_finite
public import Idealize.ShloMosaic.Lib.Pointwise

@[expose] public section

set_option maxRecDepth 16384

noncomputable section

namespace Cert.Proof

open Idealize.ShloMosaic

/-- Every shape the precondition broadcasts or reduces has the extents it says. -/
theorem pre_facts : Cert.Pre_finite.Facts := by
  constructor <;> decide

end Cert.Proof

end
-- ==== Proof.Rows.lean ====
/- What a buffer of thirty-two rows reads after a counted loop that writes one window of one row per trip. -/
module

public import Idealize.ShloMosaic.Lib.VecWindow
public import Idealize.ShloMosaic.Lib.Pointwise

@[expose] public section

noncomputable section

namespace Cert.Proof

open Idealize.ShloMosaic Idealize.ShloMosaic.VecWindow

/-- The window of row `k`: all channels, `S` lanes from lane `o`. -/
def rowOf {α : Type} {C L : ℕ} (S o : ℕ) (h : o + S ≤ L) (X : (⟨3, ![32, C, L]⟩ : Shape).Idx → α) (k : Fin 32) :
    (⟨3, ![1, C, S]⟩ : Shape).Idx → α :=
  fun y => X (ix3 k (y 1 : Fin C) ⟨o + (y 2 : Fin S).val, by have h2 : (y 2).val < S := (y 2 : Fin S).isLt; omega⟩)

/-- `X` with, in every row `k`, the `S` lanes from lane `o` replaced by `W k`. -/
def rowsPut {α : Type} {C L : ℕ} (S o : ℕ) (X : (⟨3, ![32, C, L]⟩ : Shape).Idx → α)
    (W : Fin 32 → (⟨3, ![1, C, S]⟩ : Shape).Idx → α) : (⟨3, ![32, C, L]⟩ : Shape).Idx → α :=
  fun y => if h : o ≤ (y 2 : Fin L).val ∧ (y 2 : Fin L).val < o + S then
    W (y 0 : Fin 32) (ix3 (0 : Fin 1) (y 1 : Fin C) ⟨(y 2 : Fin L).val - o, by omega⟩) else X y

/-- A right fold over the first `n` rows, the last row outermost. -/
def foldRows {α : Type} (g : Fin 32 → α → α) (a : α) : ℕ → α
  | 0 => a
  | n + 1 => if h : n < 32 then g ⟨n, h⟩ (foldRows g a n) else foldRows g a n

section
variable {sig : RefSig} {κ : Kind} {sp : Space} {e : EltTy} {Val : EltTy → Type} {C L : ℕ}

/-- A load of the window of row `k` reads that row's window of the contents. -/
theorem readAt_row (v : View sig κ sp ⟨3, ![32, C, L]⟩ e) (f : v.ty.Contents Val) {T : ℕ} (hT : T = 32) (k : Fin T) (S o : ℕ) (h : o + S ≤ L)
    {off : Fin 3 → ℕ} (hoff : off = ![k.val, 0, o]) (inb : ∀ a, off a + (⟨3, ![1, C, S]⟩ : Shape).size a ≤ (⟨3, ![32, C, L]⟩ : Shape).size a) :
    v.readAt Val (Rect.unit (s := ⟨3, ![32, C, L]⟩) off (⟨3, ![1, C, S]⟩ : Shape).size inb).toLoadRect f = rowOf S o h (v.read Val f) (k.cast hT) := by
  subst hT hoff
  funext y
  show v.read Val f _ = v.read Val f _
  congr 1
  funext a
  apply Fin.ext
  match a with
  | ⟨0, _⟩ =>
    show k.val + 1 * (y 0).val = k.val
    have := (y 0 : Fin 1).isLt
    have e : (y 0).val = 0 := by have h1 : (y 0).val < 1 := (y 0 : Fin 1).isLt; omega
    omega
  | ⟨1, _⟩ => show 0 + 1 * (y 1).val = (y 1).val; omega
  | ⟨2, _⟩ => show o + 1 * (y 2).val = o + (y 2).val; omega

/-- After the first `j` trips the rows below `j` hold their new windows and the others what they held. -/
theorem read_rows_upto (v : View sig κ sp ⟨3, ![32, C, L]⟩ e) (G : v.ty.Contents Val) {T : ℕ} (hT : T = 32) (S o : ℕ)
    (p : ℕ → List (View.Piece Val ⟨3, ![32, C, L]⟩ e)) (off : Fin T → Fin 3 → ℕ) (hoff : ∀ k, off k = ![k.val, 0, o])
    (inb : ∀ k a, off k a + (⟨3, ![1, C, S]⟩ : Shape).size a ≤ (⟨3, ![32, C, L]⟩ : Shape).size a)
    (w : Fin T → v.ty.Contents Val → (⟨3, ![1, C, S]⟩ : Shape).Idx → Val e)
    (hp0 : p 0 = [])
    (hp : ∀ k : Fin T, p (k.val + 1) = (⟨Rect.unit (s := ⟨3, ![32, C, L]⟩) (off k) (⟨3, ![1, C, S]⟩ : Shape).size (inb k), w k (v.writes Val G (p k.val))⟩ :: p k.val))
    (W : Fin 32 → (⟨3, ![1, C, S]⟩ : Shape).Idx → Val e)
    (hw : ∀ (k : Fin T) (f : v.ty.Contents Val), (∀ y : (⟨3, ![32, C, L]⟩ : Shape).Idx, (y 0 : Fin 32).val = k.val → v.read Val f y = v.read Val G y) → w k f = W (k.cast hT)) :
    ∀ j, j ≤ 32 → ∀ y : (⟨3, ![32, C, L]⟩ : Shape).Idx, v.read Val (v.writes Val G (p j)) y
      = if (y 0 : Fin 32).val < j then rowsPut S o (v.read Val G) W y else v.read Val G y := by
  subst hT
  intro j
  induction j with
  | zero => intro _ y; rw [hp0]; simp
  | succ j ih =>
    intro hj y
    have hj' : j < 32 := by omega
    have ih := ih (by omega)
    rw [hp ⟨j, hj'⟩, View.read_writes_cons_put v G (inb ⟨j, hj'⟩) _ _ (hoff ⟨j, hj'⟩)]
    rw [hw ⟨j, hj'⟩ _ (fun z hz => by
      rw [ih z, if_neg (by change ((z 0 : Fin 32).val = j) at hz; omega)])]
    unfold put
    split
    · rename_i h
      have h0 := h 0
      have h2 := h 2
      have e0 : (y 0 : Fin 32).val = j := by
        have a1 : j ≤ (y 0 : Fin 32).val := h0.1
        have a2 : (y 0 : Fin 32).val < j + 1 := h0.2
        omega
      have b1 : o ≤ (y 2 : Fin L).val := h2.1
      have b2 : (y 2 : Fin L).val < o + S := h2.2
      rw [if_pos (by omega)]
      unfold rowsPut
      rw [dif_pos ⟨b1, b2⟩]
      have e0' : (y 0 : Fin 32) = (⟨j, hj'⟩ : Fin 32) := Fin.ext e0
      show W ⟨j, hj'⟩ _ = W (y 0) _
      rw [e0']
      congr 1
      funext a
      apply Fin.ext
      match a with
      | ⟨0, _⟩ => show (y 0).val - j = 0; change (y 0).val = j at e0; omega
      | ⟨1, _⟩ => show (y 1).val - 0 = (y 1).val; omega
      | ⟨2, _⟩ => rfl
    · rename_i h
      show v.read Val (v.writes Val G (p j)) y = _
      rw [ih y]
      by_cases hlt : (y 0 : Fin 32).val < j
      · rw [if_pos hlt, if_pos (by omega)]
      · rw [if_neg hlt]
        by_cases he : (y 0 : Fin 32).val = j
        · rw [if_pos (by omega)]
          unfold rowsPut
          rw [dif_neg]
          intro ⟨c1, c2⟩
          apply h
          intro a
          match a with
          | ⟨0, _⟩ => exact ⟨by show j ≤ (y 0 : Fin 32).val; omega, by show (y 0 : Fin 32).val < j + 1; omega⟩
          | ⟨1, _⟩ => exact ⟨Nat.zero_le _, by show (y 1 : Fin C).val < 0 + C; have h1 : (y 1).val < C := (y 1 : Fin C).isLt; omega⟩
          | ⟨2, _⟩ => exact ⟨c1, c2⟩
        · rw [if_neg (by omega)]

/-- After all the trips every row holds its new window. -/
theorem read_rows (v : View sig κ sp ⟨3, ![32, C, L]⟩ e) (G : v.ty.Contents Val) {T : ℕ} (hT : T = 32) (S o : ℕ)
    (p : ℕ → List (View.Piece Val ⟨3, ![32, C, L]⟩ e)) (off : Fin T → Fin 3 → ℕ) (hoff : ∀ k, off k = ![k.val, 0, o])
    (inb : ∀ k a, off k a + (⟨3, ![1, C, S]⟩ : Shape).size a ≤ (⟨3, ![32, C, L]⟩ : Shape).size a)
    (w : Fin T → v.ty.Contents Val → (⟨3, ![1, C, S]⟩ : Shape).Idx → Val e)
    (hp0 : p 0 = [])
    (hp : ∀ k : Fin T, p (k.val + 1) = (⟨Rect.unit (s := ⟨3, ![32, C, L]⟩) (off k) (⟨3, ![1, C, S]⟩ : Shape).size (inb k), w k (v.writes Val G (p k.val))⟩ :: p k.val))
    (W : Fin 32 → (⟨3, ![1, C, S]⟩ : Shape).Idx → Val e)
    (hw : ∀ (k : Fin T) (f : v.ty.Contents Val), (∀ y : (⟨3, ![32, C, L]⟩ : Shape).Idx, (y 0 : Fin 32).val = k.val → v.read Val f y = v.read Val G y) → w k f = W (k.cast hT)) :
    v.read Val (v.writes Val G (p T)) = rowsPut S o (v.read Val G) W := by
  funext y
  rw [hT]
  exact (read_rows_upto v G hT S o p off hoff inb w hp0 hp W hw 32 le_rfl y).trans (if_pos (show (y 0).val < 32 from (y 0 : Fin 32).isLt))

/-- Two buffers with the same row `k` have the same window in it. -/
theorem rowOf_congr {α : Type} {C L : ℕ} (S o : ℕ) (h : o + S ≤ L) (X Y : (⟨3, ![32, C, L]⟩ : Shape).Idx → α) (k : Fin 32)
    (e : ∀ y : (⟨3, ![32, C, L]⟩ : Shape).Idx, (y 0 : Fin 32).val = k.val → X y = Y y) : rowOf S o h X k = rowOf S o h Y k :=
  funext fun _ => e _ rfl

/-- A recursion that applies one trip's step at a time is the fold over the rows. -/
theorem foldRows_of_succ {α : Type} {T : ℕ} (hT : T = 32) (st : ℕ → α) (a : α) (g : Fin 32 → α → α) (h0 : st 0 = a)
    (hs : ∀ k : Fin T, st (k.val + 1) = g (k.cast hT) (st k.val)) : st T = foldRows g a 32 := by
  subst hT
  have key : ∀ j, j ≤ 32 → st j = foldRows g a j := by
    intro j
    induction j with
    | zero => intro _; exact h0
    | succ j ih =>
      intro hj
      have := hs ⟨j, by omega⟩
      rw [show st (j + 1) = _ from this, ih (by omega)]
      have hj' : j < 32 := by omega
      rw [foldRows, dif_pos hj']
      rfl
  exact key 32 le_rfl

end

end Cert.Proof
-- ==== Proof.Stages.lean ====
/- The pure functions of the body's loops: per convolution one row of its result, per layer its running sums and its activation. -/
module

public import proofs.«01_k».proof.Proof.Gen.KernelIdeal.Loops
public import proofs.«01_k».proof.Proof.Rows

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- One row of the first convolution. -/
def conv1 (v57 : Vec F S1x16x27 .f32) (X : Vec F S32x3x4352 .f32) (k : Fin 32) : Vec F S1x16x4096 .f32 :=
  k0_pay41 v57 (k0_pay1 (k0_pay39 (F := F)) (k0_pay40 (F := F)) (rowOf 4096 63 (by decide) X k) (rowOf 4096 64 (by decide) X k) (rowOf 4096 65 (by decide) X k) (rowOf 4096 127 (by decide) X k) (rowOf 4096 128 (by decide) X k) (rowOf 4096 129 (by decide) X k) (rowOf 4096 191 (by decide) X k) (rowOf 4096 192 (by decide) X k) (rowOf 4096 193 (by decide) X k)) (constant S16x4096 .f32 0x00000000#32)

/-- The two running sums of the first layer over the batch. -/
def sums2 (X : Vec F S32x16x4352 .f32) (z : FVec F S16x1 .f32) : FVec F S16x1 .f32 × FVec F S16x1 .f32 :=
  foldRows (fun k a => (k0_pay44 a.1 (rowOf 4096 128 (by decide) X k), k0_pay45 a.2 (rowOf 4096 128 (by decide) X k))) (z, z) 32

/-- The first activation, row by row. -/
def act3 (v87_0 : FVec F S16x1 .f32) (v87_1 : FVec F S16x1 .f32) (v97 : Vec F S1x16x1 .f32) (v99 : Vec F S1x16x1 .f32) (v101 : Vec F S1x16x1 .f32) (X : Vec F S32x16x4352 .f32) : Vec F S32x16x4352 .f32 :=
  rowsPut 4096 128 X fun k => k0_pay46 v87_0 v87_1 v97 v99 v101 (rowOf 4096 128 (by decide) X k)

/-- One row of the second convolution. -/
def conv4 (v122 : Vec F S1x16x144 .f32) (X : Vec F S32x16x4352 .f32) (k : Fin 32) : Vec F S1x16x4096 .f32 :=
  k0_pay50 v122 (k0_pay2 (k0_pay48 (F := F)) (k0_pay49 (F := F)) (rowOf 4096 63 (by decide) X k) (rowOf 4096 64 (by decide) X k) (rowOf 4096 65 (by decide) X k) (rowOf 4096 127 (by decide) X k) (rowOf 4096 128 (by decide) X k) (rowOf 4096 129 (by decide) X k) (rowOf 4096 191 (by decide) X k) (rowOf 4096 192 (by decide) X k) (rowOf 4096 193 (by decide) X k)) (constant S16x4096 .f32 0x00000000#32)

/-- The two running sums of the second layer over the batch. -/
def sums5 (X : Vec F S32x16x4352 .f32) (z : FVec F S16x1 .f32) : FVec F S16x1 .f32 × FVec F S16x1 .f32 :=
  foldRows (fun k a => (k0_pay53 a.1 (rowOf 4096 128 (by decide) X k), k0_pay54 a.2 (rowOf 4096 128 (by decide) X k))) (z, z) 32

/-- The second activation, row by row. -/
def act6 (v154 : FVec F S16x1 .f32) (v158 : FVec F S16x1 .f32) (v159 : FVec F S16x1 .f32) (v162 : Vec F S1x16x1 .f32) (v164 : Vec F S1x16x1 .f32) (v166 : Vec F S1x16x1 .f32) (X : Vec F S32x16x4352 .f32) : Vec F S32x16x4352 .f32 :=
  rowsPut 4096 128 X fun k => k0_pay58 v154 v158 v159 v162 v164 v166 (rowOf 4096 128 (by decide) X k)

/-- The third convolution before its stride is taken: the products' result and the three-way split of it, then the lanes kept. -/
def down7 (v54 : FVec F S8x512x128 .bf16) (v188 : FVec F S32x144 .f32) (v523 : FVec F S144x4096 .f32) : Vec F S1x32x1024 .f32 :=
  k0_pay65 v54 (k0_pay5 v188 v523 (constant S32x4096 .f32 0x00000000#32)) (k0_pay7 v188 v523 (constant S32x4096 .f32 0x00000000#32)) (k0_pay8 v188 v523 (constant S32x4096 .f32 0x00000000#32)) (k0_pay9 v54 v188 v523 (constant S32x4096 .f32 0x00000000#32)) (k0_pay10 v54 v188 v523 (constant S32x4096 .f32 0x00000000#32)) (k0_pay11 v54 v188 v523 (constant S32x4096 .f32 0x00000000#32)) (k0_pay13 v54 (k0_pay7 v188 v523 (constant S32x4096 .f32 0x00000000#32)) (k0_pay8 v188 v523 (constant S32x4096 .f32 0x00000000#32)) (k0_pay12 v188 v523 (constant S32x4096 .f32 0x00000000#32))) (k0_pay14 v54 (k0_pay5 v188 v523 (constant S32x4096 .f32 0x00000000#32)) (k0_pay7 v188 v523 (constant S32x4096 .f32 0x00000000#32)) (k0_pay8 v188 v523 (constant S32x4096 .f32 0x00000000#32))) (k0_pay15 v54 (k0_pay5 v188 v523 (constant S32x4096 .f32 0x00000000#32)) (k0_pay7 v188 v523 (constant S32x4096 .f32 0x00000000#32)) (k0_pay8 v188 v523 (constant S32x4096 .f32 0x00000000#32))) (k0_pay16 v54 (k0_pay5 v188 v523 (constant S32x4096 .f32 0x00000000#32))) (k0_pay17 v54 (k0_pay7 v188 v523 (constant S32x4096 .f32 0x00000000#32)))

/-- One row of the third convolution, at stride two. -/
def conv7 (v54 : FVec F S8x512x128 .bf16) (v188 : FVec F S32x144 .f32) (v191 : BitVec 32) (v193 : IVec S1x4096 32) (v195 : IVec S1x4096 1) (X : Vec F S32x16x4352 .f32) (k : Fin 32) : Vec F S1x32x1024 .f32 :=
  down7 v54 v188 (k0_pay3 (k0_pay63 (F := F) v191 v193 v195) (k0_pay64 (F := F) v191 v193 v195) (rowOf 4096 63 (by decide) X k) (rowOf 4096 64 (by decide) X k) (rowOf 4096 65 (by decide) X k) (rowOf 4096 127 (by decide) X k) (rowOf 4096 128 (by decide) X k) (rowOf 4096 129 (by decide) X k) (rowOf 4096 191 (by decide) X k) (rowOf 4096 192 (by decide) X k) (rowOf 4096 193 (by decide) X k))

/-- The two running sums of the third layer over the batch. -/
def sums8 (X : Vec F S32x32x1280 .f32) (z : FVec F S32x1 .f32) : FVec F S32x1 .f32 × FVec F S32x1 .f32 :=
  foldRows (fun k a => (k0_pay68 a.1 (rowOf 1024 128 (by decide) X k), k0_pay69 a.2 (rowOf 1024 128 (by decide) X k))) (z, z) 32

/-- The third activation, row by row. -/
def act9 (v219 : FVec F S32x1 .f32) (v226 : FVec F S32x1 .f32) (v228 : FVec F S32x1 .f32) (v230 : FVec F S32x1 .f32) (v231 : Vec F S1x32x1 .f32) (X : Vec F S32x32x1280 .f32) : Vec F S32x32x1280 .f32 :=
  rowsPut 1024 128 X fun k => k0_pay74 v219 v226 v228 v230 v231 (rowOf 1024 128 (by decide) X k)

/-- One row of the fourth convolution. -/
def conv10 (v253 : FVec F S32x288 .f32) (v270 : IVec S1x1024 32) (v271 : IVec S1x1024 32) (X : Vec F S32x32x1280 .f32) (k : Fin 32) : Vec F S1x32x1024 .f32 :=
  k0_pay80 v253 (k0_pay18 (k0_pay78 (F := F) v270 v271) (k0_pay79 (F := F) v270) (rowOf 1024 95 (by decide) X k) (rowOf 1024 96 (by decide) X k) (rowOf 1024 97 (by decide) X k) (rowOf 1024 127 (by decide) X k) (rowOf 1024 128 (by decide) X k) (rowOf 1024 129 (by decide) X k) (rowOf 1024 159 (by decide) X k) (rowOf 1024 160 (by decide) X k) (rowOf 1024 161 (by decide) X k)) (constant S32x1024 .f32 0x00000000#32)

/-- The two running sums of the fourth layer over the batch. -/
def sums11 (X : Vec F S32x32x1280 .f32) (z : FVec F S32x1 .f32) : FVec F S32x1 .f32 × FVec F S32x1 .f32 :=
  foldRows (fun k a => (k0_pay83 a.1 (rowOf 1024 128 (by decide) X k), k0_pay84 a.2 (rowOf 1024 128 (by decide) X k))) (z, z) 32

/-- The fourth activation, row by row. -/
def act12 (v284 : FVec F S32x1 .f32) (v291 : FVec F S32x1 .f32) (v293 : FVec F S32x1 .f32) (v295 : FVec F S32x1 .f32) (v297 : FVec F S32x1 .f32) (v301 : FVec F S32x1 .f32) (v306 : FVec F S32x1 .f32) (X : Vec F S32x32x1280 .f32) : Vec F S32x32x1280 .f32 :=
  rowsPut 1024 128 X fun k => k0_pay92 v284 v291 v293 v295 v297 v301 v306 (rowOf 1024 128 (by decide) X k)

/-- One row of the fifth convolution, at stride two. -/
def conv13 (v56 : FVec F S2x512x128 .bf16) (v317 : Vec F S1x64x288 .f32) (X : Vec F S32x32x1280 .f32) (k : Fin 32) : Vec F S1x64x256 .f32 :=
  k0_pay96 v56 v317 (k0_pay19 (k0_pay94 (F := F)) (k0_pay95 (F := F)) (rowOf 1024 95 (by decide) X k) (rowOf 1024 96 (by decide) X k) (rowOf 1024 97 (by decide) X k) (rowOf 1024 127 (by decide) X k) (rowOf 1024 128 (by decide) X k) (rowOf 1024 129 (by decide) X k) (rowOf 1024 159 (by decide) X k) (rowOf 1024 160 (by decide) X k) (rowOf 1024 161 (by decide) X k)) (constant S64x1024 .f32 0x00000000#32)

/-- The two running sums of the fifth layer over the batch. -/
def sums14 (X : Vec F S32x64x512 .f32) (z : FVec F S64x1 .f32) : FVec F S64x1 .f32 × FVec F S64x1 .f32 :=
  foldRows (fun k a => (k0_pay99 a.1 (rowOf 256 128 (by decide) X k), k0_pay100 a.2 (rowOf 256 128 (by decide) X k))) (z, z) 32

/-- The fifth activation, row by row. -/
def act15 (v366 : FVec F S64x1 .f32) (v371 : FVec F S64x1 .f32) (v380 : FVec F S64x1 .f32) (X : Vec F S32x64x512 .f32) : Vec F S32x64x512 .f32 :=
  rowsPut 256 128 X fun k => k0_pay108 v366 v371 v380 (rowOf 256 128 (by decide) X k)

/-- One row of the sixth convolution. -/
def conv16 (v382 : Vec F S1x64x576 .f32) (X : Vec F S32x64x512 .f32) (k : Fin 32) : Vec F S1x64x256 .f32 :=
  k0_pay112 v382 (k0_pay20 (k0_pay110 (F := F)) (k0_pay111 (F := F)) (rowOf 256 111 (by decide) X k) (rowOf 256 112 (by decide) X k) (rowOf 256 113 (by decide) X k) (rowOf 256 127 (by decide) X k) (rowOf 256 128 (by decide) X k) (rowOf 256 129 (by decide) X k) (rowOf 256 143 (by decide) X k) (rowOf 256 144 (by decide) X k) (rowOf 256 145 (by decide) X k)) (constant S64x256 .f32 0x00000000#32)

/-- The two running sums of the sixth layer over the batch. -/
def sums17 (X : Vec F S32x64x256 .f32) (z : FVec F S64x1 .f32) : FVec F S64x1 .f32 × FVec F S64x1 .f32 :=
  foldRows (fun k a => (k0_pay115 a.1 (rowOf 256 0 (by decide) X k), k0_pay116 a.2 (rowOf 256 0 (by decide) X k))) (z, z) 32

/-- The sixth activation, row by row. -/
def act18 (v414 : FVec F S64x1 .f32) (v416 : FVec F S64x1 .f32) (v422 : Vec F S1x64x1 .f32) (v424 : Vec F S1x64x1 .f32) (v426 : Vec F S1x64x1 .f32) (X : Vec F S32x64x256 .f32) : Vec F S32x64x256 .f32 :=
  rowsPut 256 0 X fun k => k0_pay119 v414 v416 v422 v424 v426 (rowOf 256 0 (by decide) X k)

end Cert.Proof

end
-- ==== Proof.Trace.lean ====
/- The chain of equations from the inputs of the body to its output. -/
module

public import proofs.«01_k».proof.Proof.Gen.KernelIdeal.Loops
public import proofs.«01_k».proof.Proof.Rows
public import proofs.«01_k».proof.Proof.Stages

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The output `y` is reached from the inputs through the values of the thirteen stages, whatever the scratch buffers held. -/
inductive Trace : Vec F S1x32x3x4096 .f32 → Vec F S1x16x27 .f32 → Vec F S1x16x3 .f32 → Vec F S1x16x144 .f32 → Vec F S1x16x3 .f32 → Vec F S1x32x144 .f32 → Vec F S1x32x3 .f32 → Vec F S1x32x288 .f32 → Vec F S1x32x3 .f32 → Vec F S1x64x288 .f32 → Vec F S1x64x3 .f32 → Vec F S1x64x576 .f32 → Vec F S1x64x3 .f32 → Vec F S1x64x4 .f32 → Vec F S1x64x4 .f32 → Vec F S8x512x128 .bf16 → Vec F S2x512x128 .bf16 → Vec F S256x4 .f32 → Vec F S1x32x64x4 .f32 → Prop
  | mk (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (y : Vec F S1x32x64x4 .f32) (Z20 : Vec F S32x3x4352 .f32) (A20 : Vec F S32x3x4352 .f32) (Z21 : Vec F S32x16x4352 .f32) (A21 : Vec F S32x16x4352 .f32) (Z22 : Vec F S32x16x4352 .f32) (A22 : Vec F S32x16x4352 .f32) (v24 : FVec F S32x32x128 .f32) (Z23 : Vec F S32x32x1280 .f32) (A23 : Vec F S32x32x1280 .f32) (Z24 : Vec F S32x32x1280 .f32) (A24 : Vec F S32x32x1280 .f32) (Z25 : Vec F S32x64x512 .f32) (A25 : Vec F S32x64x512 .f32) (v49 : FVec F S32x3x4096 .f32) (B20 : Vec F S32x3x4352 .f32) (B21 : Vec F S32x16x4352 .f32) (v54 : FVec F S8x512x128 .bf16) (v56 : FVec F S2x512x128 .bf16) (v85 : FVec F S16x1 .f32) (C21 : Vec F S32x16x4352 .f32) (C22 : Vec F S32x16x4352 .f32) (v154 : FVec F S16x1 .f32) (v158 : FVec F S16x1 .f32) (v159 : FVec F S16x1 .f32) (D22 : Vec F S32x16x4352 .f32) (v188 : FVec F S32x144 .f32) (v191 : BitVec 32) (v193 : IVec S1x4096 32) (v195 : IVec S1x4096 1) (E23 : Vec F S32x32x1280 .f32) (v219 : FVec F S32x1 .f32) (v226 : FVec F S32x1 .f32) (v228 : FVec F S32x1 .f32) (v230 : FVec F S32x1 .f32) (F23 : Vec F S32x32x1280 .f32) (v253 : FVec F S32x288 .f32) (v270 : IVec S1x1024 32) (v271 : IVec S1x1024 32) (G24 : Vec F S32x32x1280 .f32) (v284 : FVec F S32x1 .f32) (v291 : FVec F S32x1 .f32) (v293 : FVec F S32x1 .f32) (v295 : FVec F S32x1 .f32) (v297 : FVec F S32x1 .f32) (v301 : FVec F S32x1 .f32) (v306 : FVec F S32x1 .f32) (H24 : Vec F S32x32x1280 .f32) (H25 : Vec F S32x64x512 .f32) (v366 : FVec F S64x1 .f32) (v371 : FVec F S64x1 .f32) (v380 : FVec F S64x1 .f32) (I25 : Vec F S32x64x512 .f32) (Z26 : Vec F S32x64x256 .f32) (I26 : Vec F S32x64x256 .f32) (v414 : FVec F S64x1 .f32) (v416 : FVec F S64x1 .f32) (J26 : Vec F S32x64x256 .f32) (v452 : FVec F S32x64x4 .f32) (h0 : v24 = k0_pay27 (F := F)) (h1 : A20 = VecWindow.put (VecWindow.put Z20 ![0, 0, 0] S32x3x128.size (k0_pay21 (F := F))) ![0, 0, 4224] S32x3x128.size (k0_pay22 (F := F))) (h2 : A21 = VecWindow.put (VecWindow.put Z21 ![0, 0, 0] S32x16x128.size (k0_pay23 (F := F))) ![0, 0, 4224] S32x16x128.size (k0_pay24 (F := F))) (h3 : A22 = VecWindow.put (VecWindow.put Z22 ![0, 0, 0] S32x16x128.size (k0_pay25 (F := F))) ![0, 0, 4224] S32x16x128.size (k0_pay26 (F := F))) (h4 : v49 = k0_pay34 x0) (h5 : A23 = VecWindow.put (VecWindow.put Z23 ![0, 0, 0] S32x32x128.size (k0_pay28 v24)) ![0, 0, 1152] S32x32x128.size (k0_pay29 (F := F))) (h6 : A24 = VecWindow.put (VecWindow.put Z24 ![0, 0, 0] S32x32x128.size (k0_pay30 (F := F))) ![0, 0, 1152] S32x32x128.size (k0_pay31 (F := F))) (h7 : A25 = VecWindow.put (VecWindow.put Z25 ![0, 0, 0] S32x64x128.size (k0_pay32 (F := F))) ![0, 0, 384] S32x64x128.size (k0_pay33 (F := F))) (h8 : v54 = k0_pay36 x15) (h9 : v56 = k0_pay37 x16) (h10 : v85 = k0_pay42 (F := F)) (h11 : B20 = VecWindow.put A20 ![0, 0, 128] S32x3x4096.size (k0_pay35 v49)) (h12 : B21 = rowsPut 4096 128 A21 (conv1 x1 B20)) (h13 : C21 = act3 (sums2 B21 v85).1 (sums2 B21 v85).2 (VecWindow.window x2 ![0, 0, 0] S1x16x1.size inb_S1x16x3_S1x16x1_0_0_0) (VecWindow.window x2 ![0, 0, 1] S1x16x1.size inb_S1x16x3_S1x16x1_0_0_1) (VecWindow.window x2 ![0, 0, 2] S1x16x1.size inb_S1x16x3_S1x16x1_0_0_2) B21) (h14 : v154 = k0_pay55 (sums5 C22 (k0_pay51 (F := F))).1) (h15 : v158 = k0_pay56 (sums5 C22 (k0_pay51 (F := F))).1 (sums5 C22 (k0_pay51 (F := F))).2) (h16 : v159 = k0_pay57 (F := F)) (h17 : C22 = rowsPut 4096 128 A22 (conv4 x3 C21)) (h18 : v188 = k0_pay59 x5) (h19 : v191 = Scalar.select (Scalar.cmpi .eq 64#32 0#32) 1#32 64#32) (h20 : v193 = k0_pay60) (h21 : v195 = k0_pay61) (h22 : D22 = act6 v154 v158 v159 (VecWindow.window x4 ![0, 0, 0] S1x16x1.size inb_S1x16x3_S1x16x1_0_0_0) (VecWindow.window x4 ![0, 0, 1] S1x16x1.size inb_S1x16x3_S1x16x1_0_0_1) (VecWindow.window x4 ![0, 0, 2] S1x16x1.size inb_S1x16x3_S1x16x1_0_0_2) C22) (h23 : v219 = k0_pay70 (sums8 E23 (k0_pay66 (F := F))).1) (h24 : v226 = k0_pay71 (sums8 E23 (k0_pay66 (F := F))).1 (sums8 E23 (k0_pay66 (F := F))).2) (h25 : v228 = k0_pay72 (VecWindow.window x6 ![0, 0, 0] S1x32x1.size inb_S1x32x3_S1x32x1_0_0_0)) (h26 : v230 = k0_pay73 (VecWindow.window x6 ![0, 0, 1] S1x32x1.size inb_S1x32x3_S1x32x1_0_0_1)) (h27 : E23 = rowsPut 1024 128 A23 (conv7 v54 v188 v191 v193 v195 D22)) (h28 : v253 = k0_pay75 x7) (h29 : v270 = k0_pay76) (h30 : v271 = k0_pay77) (h31 : F23 = act9 v219 v226 v228 v230 (VecWindow.window x6 ![0, 0, 2] S1x32x1.size inb_S1x32x3_S1x32x1_0_0_2) E23) (h32 : v284 = k0_pay85 (sums11 G24 (k0_pay81 (F := F))).1) (h33 : v291 = k0_pay86 (sums11 G24 (k0_pay81 (F := F))).1 (sums11 G24 (k0_pay81 (F := F))).2) (h34 : v293 = k0_pay87 (VecWindow.window x8 ![0, 0, 0] S1x32x1.size inb_S1x32x3_S1x32x1_0_0_0)) (h35 : v295 = k0_pay88 (VecWindow.window x8 ![0, 0, 1] S1x32x1.size inb_S1x32x3_S1x32x1_0_0_1)) (h36 : v297 = k0_pay89 (VecWindow.window x8 ![0, 0, 2] S1x32x1.size inb_S1x32x3_S1x32x1_0_0_2)) (h37 : v301 = k0_pay90 (sums11 G24 (k0_pay81 (F := F))).1 (sums11 G24 (k0_pay81 (F := F))).2 (VecWindow.window x8 ![0, 0, 2] S1x32x1.size inb_S1x32x3_S1x32x1_0_0_2)) (h38 : v306 = k0_pay91 (sums11 G24 (k0_pay81 (F := F))).1 (sums11 G24 (k0_pay81 (F := F))).2 (VecWindow.window x8 ![0, 0, 1] S1x32x1.size inb_S1x32x3_S1x32x1_0_0_1) (VecWindow.window x8 ![0, 0, 2] S1x32x1.size inb_S1x32x3_S1x32x1_0_0_2)) (h39 : G24 = rowsPut 1024 128 A24 (conv10 v253 v270 v271 F23)) (h40 : H24 = act12 v284 v291 v293 v295 v297 v301 v306 G24) (h41 : H25 = rowsPut 256 128 A25 (conv13 v56 x9 H24)) (h42 : v366 = k0_pay105 (sums14 H25 (k0_pay97 (F := F))).1 (sums14 H25 (k0_pay97 (F := F))).2 (VecWindow.window x10 ![0, 0, 2] S1x64x1.size inb_S1x64x3_S1x64x1_0_0_2)) (h43 : v371 = k0_pay106 (sums14 H25 (k0_pay97 (F := F))).1 (sums14 H25 (k0_pay97 (F := F))).2 (VecWindow.window x10 ![0, 0, 1] S1x64x1.size inb_S1x64x3_S1x64x1_0_0_1) (VecWindow.window x10 ![0, 0, 2] S1x64x1.size inb_S1x64x3_S1x64x1_0_0_2)) (h44 : v380 = k0_pay107 (sums14 H25 (k0_pay97 (F := F))).1 (sums14 H25 (k0_pay97 (F := F))).2 (VecWindow.window x10 ![0, 0, 0] S1x64x1.size inb_S1x64x3_S1x64x1_0_0_0) (VecWindow.window x10 ![0, 0, 1] S1x64x1.size inb_S1x64x3_S1x64x1_0_0_1) (VecWindow.window x10 ![0, 0, 2] S1x64x1.size inb_S1x64x3_S1x64x1_0_0_2)) (h45 : v414 = k0_pay117 (sums17 I26 (k0_pay113 (F := F))).1) (h46 : v416 = k0_pay118 (sums17 I26 (k0_pay113 (F := F))).2) (h47 : I25 = act15 v366 v371 v380 H25) (h48 : I26 = rowsPut 256 0 Z26 (conv16 x11 I25)) (h49 : J26 = act18 v414 v416 (VecWindow.window x12 ![0, 0, 0] S1x64x1.size inb_S1x64x3_S1x64x1_0_0_0) (VecWindow.window x12 ![0, 0, 1] S1x64x1.size inb_S1x64x3_S1x64x1_0_0_1) (VecWindow.window x12 ![0, 0, 2] S1x64x1.size inb_S1x64x3_S1x64x1_0_0_2) I26) (h50 : v452 = k0_pay120 J26 x17) (h51 : y = k0_pay121 v452 x13 x14) : Trace x0 x1 x2 x3 x4 x5 x6 x7 x8 x9 x10 x11 x12 x13 x14 x15 x16 x17 y

theorem trace_of {x0 : Vec F S1x32x3x4096 .f32} {x1 : Vec F S1x16x27 .f32} {x2 : Vec F S1x16x3 .f32} {x3 : Vec F S1x16x144 .f32} {x4 : Vec F S1x16x3 .f32} {x5 : Vec F S1x32x144 .f32} {x6 : Vec F S1x32x3 .f32} {x7 : Vec F S1x32x288 .f32} {x8 : Vec F S1x32x3 .f32} {x9 : Vec F S1x64x288 .f32} {x10 : Vec F S1x64x3 .f32} {x11 : Vec F S1x64x576 .f32} {x12 : Vec F S1x64x3 .f32} {x13 : Vec F S1x64x4 .f32} {x14 : Vec F S1x64x4 .f32} {x15 : Vec F S8x512x128 .bf16} {x16 : Vec F S2x512x128 .bf16} {x17 : Vec F S256x4 .f32} {y : Vec F S1x32x64x4 .f32} {Z20 : Vec F S32x3x4352 .f32} {A20 : Vec F S32x3x4352 .f32} {Z21 : Vec F S32x16x4352 .f32} {A21 : Vec F S32x16x4352 .f32} {Z22 : Vec F S32x16x4352 .f32} {A22 : Vec F S32x16x4352 .f32} {v24 : FVec F S32x32x128 .f32} {Z23 : Vec F S32x32x1280 .f32} {A23 : Vec F S32x32x1280 .f32} {Z24 : Vec F S32x32x1280 .f32} {A24 : Vec F S32x32x1280 .f32} {Z25 : Vec F S32x64x512 .f32} {A25 : Vec F S32x64x512 .f32} {v49 : FVec F S32x3x4096 .f32} {B20 : Vec F S32x3x4352 .f32} {B21 : Vec F S32x16x4352 .f32} {v54 : FVec F S8x512x128 .bf16} {v56 : FVec F S2x512x128 .bf16} {v85 : FVec F S16x1 .f32} {C21 : Vec F S32x16x4352 .f32} {C22 : Vec F S32x16x4352 .f32} {v154 : FVec F S16x1 .f32} {v158 : FVec F S16x1 .f32} {v159 : FVec F S16x1 .f32} {D22 : Vec F S32x16x4352 .f32} {v188 : FVec F S32x144 .f32} {v191 : BitVec 32} {v193 : IVec S1x4096 32} {v195 : IVec S1x4096 1} {E23 : Vec F S32x32x1280 .f32} {v219 : FVec F S32x1 .f32} {v226 : FVec F S32x1 .f32} {v228 : FVec F S32x1 .f32} {v230 : FVec F S32x1 .f32} {F23 : Vec F S32x32x1280 .f32} {v253 : FVec F S32x288 .f32} {v270 : IVec S1x1024 32} {v271 : IVec S1x1024 32} {G24 : Vec F S32x32x1280 .f32} {v284 : FVec F S32x1 .f32} {v291 : FVec F S32x1 .f32} {v293 : FVec F S32x1 .f32} {v295 : FVec F S32x1 .f32} {v297 : FVec F S32x1 .f32} {v301 : FVec F S32x1 .f32} {v306 : FVec F S32x1 .f32} {H24 : Vec F S32x32x1280 .f32} {H25 : Vec F S32x64x512 .f32} {v366 : FVec F S64x1 .f32} {v371 : FVec F S64x1 .f32} {v380 : FVec F S64x1 .f32} {I25 : Vec F S32x64x512 .f32} {I26 : Vec F S32x64x256 .f32} {v414 : FVec F S64x1 .f32} {v416 : FVec F S64x1 .f32} {J26 : Vec F S32x64x256 .f32} {v452 : FVec F S32x64x4 .f32} (Z26 : Vec F S32x64x256 .f32) (h0 : v24 = k0_pay27 (F := F)) (h1 : A20 = VecWindow.put (VecWindow.put Z20 ![0, 0, 0] S32x3x128.size (k0_pay21 (F := F))) ![0, 0, 4224] S32x3x128.size (k0_pay22 (F := F))) (h2 : A21 = VecWindow.put (VecWindow.put Z21 ![0, 0, 0] S32x16x128.size (k0_pay23 (F := F))) ![0, 0, 4224] S32x16x128.size (k0_pay24 (F := F))) (h3 : A22 = VecWindow.put (VecWindow.put Z22 ![0, 0, 0] S32x16x128.size (k0_pay25 (F := F))) ![0, 0, 4224] S32x16x128.size (k0_pay26 (F := F))) (h4 : v49 = k0_pay34 x0) (h5 : A23 = VecWindow.put (VecWindow.put Z23 ![0, 0, 0] S32x32x128.size (k0_pay28 v24)) ![0, 0, 1152] S32x32x128.size (k0_pay29 (F := F))) (h6 : A24 = VecWindow.put (VecWindow.put Z24 ![0, 0, 0] S32x32x128.size (k0_pay30 (F := F))) ![0, 0, 1152] S32x32x128.size (k0_pay31 (F := F))) (h7 : A25 = VecWindow.put (VecWindow.put Z25 ![0, 0, 0] S32x64x128.size (k0_pay32 (F := F))) ![0, 0, 384] S32x64x128.size (k0_pay33 (F := F))) (h8 : v54 = k0_pay36 x15) (h9 : v56 = k0_pay37 x16) (h10 : v85 = k0_pay42 (F := F)) (h11 : B20 = VecWindow.put A20 ![0, 0, 128] S32x3x4096.size (k0_pay35 v49)) (h12 : B21 = rowsPut 4096 128 A21 (conv1 x1 B20)) (h13 : C21 = act3 (sums2 B21 v85).1 (sums2 B21 v85).2 (VecWindow.window x2 ![0, 0, 0] S1x16x1.size inb_S1x16x3_S1x16x1_0_0_0) (VecWindow.window x2 ![0, 0, 1] S1x16x1.size inb_S1x16x3_S1x16x1_0_0_1) (VecWindow.window x2 ![0, 0, 2] S1x16x1.size inb_S1x16x3_S1x16x1_0_0_2) B21) (h14 : v154 = k0_pay55 (sums5 C22 (k0_pay51 (F := F))).1) (h15 : v158 = k0_pay56 (sums5 C22 (k0_pay51 (F := F))).1 (sums5 C22 (k0_pay51 (F := F))).2) (h16 : v159 = k0_pay57 (F := F)) (h17 : C22 = rowsPut 4096 128 A22 (conv4 x3 C21)) (h18 : v188 = k0_pay59 x5) (h19 : v191 = Scalar.select (Scalar.cmpi .eq 64#32 0#32) 1#32 64#32) (h20 : v193 = k0_pay60) (h21 : v195 = k0_pay61) (h22 : D22 = act6 v154 v158 v159 (VecWindow.window x4 ![0, 0, 0] S1x16x1.size inb_S1x16x3_S1x16x1_0_0_0) (VecWindow.window x4 ![0, 0, 1] S1x16x1.size inb_S1x16x3_S1x16x1_0_0_1) (VecWindow.window x4 ![0, 0, 2] S1x16x1.size inb_S1x16x3_S1x16x1_0_0_2) C22) (h23 : v219 = k0_pay70 (sums8 E23 (k0_pay66 (F := F))).1) (h24 : v226 = k0_pay71 (sums8 E23 (k0_pay66 (F := F))).1 (sums8 E23 (k0_pay66 (F := F))).2) (h25 : v228 = k0_pay72 (VecWindow.window x6 ![0, 0, 0] S1x32x1.size inb_S1x32x3_S1x32x1_0_0_0)) (h26 : v230 = k0_pay73 (VecWindow.window x6 ![0, 0, 1] S1x32x1.size inb_S1x32x3_S1x32x1_0_0_1)) (h27 : E23 = rowsPut 1024 128 A23 (conv7 v54 v188 v191 v193 v195 D22)) (h28 : v253 = k0_pay75 x7) (h29 : v270 = k0_pay76) (h30 : v271 = k0_pay77) (h31 : F23 = act9 v219 v226 v228 v230 (VecWindow.window x6 ![0, 0, 2] S1x32x1.size inb_S1x32x3_S1x32x1_0_0_2) E23) (h32 : v284 = k0_pay85 (sums11 G24 (k0_pay81 (F := F))).1) (h33 : v291 = k0_pay86 (sums11 G24 (k0_pay81 (F := F))).1 (sums11 G24 (k0_pay81 (F := F))).2) (h34 : v293 = k0_pay87 (VecWindow.window x8 ![0, 0, 0] S1x32x1.size inb_S1x32x3_S1x32x1_0_0_0)) (h35 : v295 = k0_pay88 (VecWindow.window x8 ![0, 0, 1] S1x32x1.size inb_S1x32x3_S1x32x1_0_0_1)) (h36 : v297 = k0_pay89 (VecWindow.window x8 ![0, 0, 2] S1x32x1.size inb_S1x32x3_S1x32x1_0_0_2)) (h37 : v301 = k0_pay90 (sums11 G24 (k0_pay81 (F := F))).1 (sums11 G24 (k0_pay81 (F := F))).2 (VecWindow.window x8 ![0, 0, 2] S1x32x1.size inb_S1x32x3_S1x32x1_0_0_2)) (h38 : v306 = k0_pay91 (sums11 G24 (k0_pay81 (F := F))).1 (sums11 G24 (k0_pay81 (F := F))).2 (VecWindow.window x8 ![0, 0, 1] S1x32x1.size inb_S1x32x3_S1x32x1_0_0_1) (VecWindow.window x8 ![0, 0, 2] S1x32x1.size inb_S1x32x3_S1x32x1_0_0_2)) (h39 : G24 = rowsPut 1024 128 A24 (conv10 v253 v270 v271 F23)) (h40 : H24 = act12 v284 v291 v293 v295 v297 v301 v306 G24) (h41 : H25 = rowsPut 256 128 A25 (conv13 v56 x9 H24)) (h42 : v366 = k0_pay105 (sums14 H25 (k0_pay97 (F := F))).1 (sums14 H25 (k0_pay97 (F := F))).2 (VecWindow.window x10 ![0, 0, 2] S1x64x1.size inb_S1x64x3_S1x64x1_0_0_2)) (h43 : v371 = k0_pay106 (sums14 H25 (k0_pay97 (F := F))).1 (sums14 H25 (k0_pay97 (F := F))).2 (VecWindow.window x10 ![0, 0, 1] S1x64x1.size inb_S1x64x3_S1x64x1_0_0_1) (VecWindow.window x10 ![0, 0, 2] S1x64x1.size inb_S1x64x3_S1x64x1_0_0_2)) (h44 : v380 = k0_pay107 (sums14 H25 (k0_pay97 (F := F))).1 (sums14 H25 (k0_pay97 (F := F))).2 (VecWindow.window x10 ![0, 0, 0] S1x64x1.size inb_S1x64x3_S1x64x1_0_0_0) (VecWindow.window x10 ![0, 0, 1] S1x64x1.size inb_S1x64x3_S1x64x1_0_0_1) (VecWindow.window x10 ![0, 0, 2] S1x64x1.size inb_S1x64x3_S1x64x1_0_0_2)) (h45 : v414 = k0_pay117 (sums17 I26 (k0_pay113 (F := F))).1) (h46 : v416 = k0_pay118 (sums17 I26 (k0_pay113 (F := F))).2) (h47 : I25 = act15 v366 v371 v380 H25) (h48 : I26 = rowsPut 256 0 Z26 (conv16 x11 I25)) (h49 : J26 = act18 v414 v416 (VecWindow.window x12 ![0, 0, 0] S1x64x1.size inb_S1x64x3_S1x64x1_0_0_0) (VecWindow.window x12 ![0, 0, 1] S1x64x1.size inb_S1x64x3_S1x64x1_0_0_1) (VecWindow.window x12 ![0, 0, 2] S1x64x1.size inb_S1x64x3_S1x64x1_0_0_2) I26) (h50 : v452 = k0_pay120 J26 x17) (h51 : y = k0_pay121 v452 x13 x14) : Trace x0 x1 x2 x3 x4 x5 x6 x7 x8 x9 x10 x11 x12 x13 x14 x15 x16 x17 y :=
  .mk x0 x1 x2 x3 x4 x5 x6 x7 x8 x9 x10 x11 x12 x13 x14 x15 x16 x17 y Z20 A20 Z21 A21 Z22 A22 v24 Z23 A23 Z24 A24 Z25 A25 v49 B20 B21 v54 v56 v85 C21 C22 v154 v158 v159 D22 v188 v191 v193 v195 E23 v219 v226 v228 v230 F23 v253 v270 v271 G24 v284 v291 v293 v295 v297 v301 v306 H24 H25 v366 v371 v380 I25 Z26 I26 v414 v416 J26 v452 h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51

end Cert.Proof

end
-- ==== Proof.Part09.lean ====
/- The zeroed guard lanes of the first three scratch buffers. -/
module

public import proofs.«01_k».proof.Proof.Gen.KernelIdeal.Loops
public import proofs.«01_k».proof.Proof.Rows
public import proofs.«01_k».proof.Proof.Stages

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

set_option maxHeartbeats 400000 in
/-- What part 9 of the body does to its buffers, and what it returns. -/
theorem part9_run (c : Dev nD) (i : grid0.Coords)   (X : Vec F S32x3x4352 .f32) (Y : Vec F S32x16x4352 .f32) (Z : Vec F S32x16x4352 .f32) (E : Set ℕ) (K : FVec F S32x32x128 .f32 → sProp 𝕄) :
    iprop(owns (c : Thread nD τ) arg20 fullShare X ∗ owns (c : Thread nD τ) arg21 fullShare Y ∗ owns (c : Thread nD τ) arg22 fullShare Z ∗ (∀ (v24 : FVec F S32x32x128 .f32) (X1 : Vec F S32x3x4352 .f32) (Y1 : Vec F S32x16x4352 .f32) (Z1 : Vec F S32x16x4352 .f32), owns (c : Thread nD τ) arg20 fullShare X1 ∗ owns (c : Thread nD τ) arg21 fullShare Y1 ∗ owns (c : Thread nD τ) arg22 fullShare Z1 ∗ ⌜v24 = k0_pay27 (F := F) ∧ X1 = VecWindow.put (VecWindow.put X ![0, 0, 0] S32x3x128.size (k0_pay21 (F := F))) ![0, 0, 4224] S32x3x128.size (k0_pay22 (F := F)) ∧ Y1 = VecWindow.put (VecWindow.put Y ![0, 0, 0] S32x16x128.size (k0_pay23 (F := F))) ![0, 0, 4224] S32x16x128.size (k0_pay24 (F := F)) ∧ Z1 = VecWindow.put (VecWindow.put Z ![0, 0, 0] S32x16x128.size (k0_pay25 (F := F))) ![0, 0, 4224] S32x16x128.size (k0_pay26 (F := F))⌝ -∗ K v24))
      ⊢ wp frame (wpE (defs₀ (F := F)) Variants.none c none) E (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ) K := by
  rw [k0_part9_eq_skeleton]
  unfold k0_part9_skel owns
  iintro ⟨⟨%f20, %h20, H20⟩, ⟨%f21, %h21, H21⟩, ⟨%f22, %h22, H22⟩, Hk⟩
  obtain rfl := h20
  obtain rfl := h21
  obtain rfl := h22
  sl_exec
  sl_step
  iapply Hk
  isplitl [H20]
  · iexists _; isplitr; swap; · iexact H20
    ipureintro; rfl
  isplitl [H21]
  · iexists _; isplitr; swap; · iexact H21
    ipureintro; rfl
  isplitl [H22]
  · iexists _; isplitr; swap; · iexact H22
    ipureintro; rfl
  ipureintro
  exact ⟨rfl, (View.read_writes_cons_put arg20.view f20 _ _ _ rfl).trans (by rw [View.read_writes_cons_put arg20.view f20 _ _ [] rfl]; rfl), (View.read_writes_cons_put arg21.view f21 _ _ _ rfl).trans (by rw [View.read_writes_cons_put arg21.view f21 _ _ [] rfl]; rfl), (View.read_writes_cons_put arg22.view f22 _ _ _ rfl).trans (by rw [View.read_writes_cons_put arg22.view f22 _ _ [] rfl]; rfl)⟩

end Cert.Proof

end
-- ==== Proof.Part10.lean ====
/- The zeroed guard lanes of the other scratch buffers, and the image. -/
module

public import proofs.«01_k».proof.Proof.Gen.KernelIdeal.Loops
public import proofs.«01_k».proof.Proof.Rows
public import proofs.«01_k».proof.Proof.Stages

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

set_option maxHeartbeats 400000 in
/-- What part 10 of the body does to its buffers, and what it returns. -/
theorem part10_run (c : Dev nD) (i : grid0.Coords) (v24 : FVec F S32x32x128 .f32) (I : Vec F S1x32x3x4096 .f32) (X : Vec F S32x3x4352 .f32) (Y : Vec F S32x32x1280 .f32) (Z : Vec F S32x32x1280 .f32) (W : Vec F S32x64x512 .f32) (E : Set ℕ) (K : FVec F S32x3x4096 .f32 → sProp 𝕄) :
    iprop(owns (c : Thread nD τ) arg1 fullShare I ∗ owns (c : Thread nD τ) arg20 fullShare X ∗ owns (c : Thread nD τ) arg23 fullShare Y ∗ owns (c : Thread nD τ) arg24 fullShare Z ∗ owns (c : Thread nD τ) arg25 fullShare W ∗ (∀ (v49 : FVec F S32x3x4096 .f32) (Y1 : Vec F S32x32x1280 .f32) (Z1 : Vec F S32x32x1280 .f32) (W1 : Vec F S32x64x512 .f32), owns (c : Thread nD τ) arg1 fullShare I ∗ owns (c : Thread nD τ) arg20 fullShare X ∗ owns (c : Thread nD τ) arg23 fullShare Y1 ∗ owns (c : Thread nD τ) arg24 fullShare Z1 ∗ owns (c : Thread nD τ) arg25 fullShare W1 ∗ ⌜v49 = k0_pay34 I ∧ Y1 = VecWindow.put (VecWindow.put Y ![0, 0, 0] S32x32x128.size (k0_pay28 v24)) ![0, 0, 1152] S32x32x128.size (k0_pay29 (F := F)) ∧ Z1 = VecWindow.put (VecWindow.put Z ![0, 0, 0] S32x32x128.size (k0_pay30 (F := F))) ![0, 0, 1152] S32x32x128.size (k0_pay31 (F := F)) ∧ W1 = VecWindow.put (VecWindow.put W ![0, 0, 0] S32x64x128.size (k0_pay32 (F := F))) ![0, 0, 384] S32x64x128.size (k0_pay33 (F := F))⌝ -∗ K v49))
      ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v24) K := by
  rw [k0_part10_eq_skeleton]
  unfold k0_part10_skel owns
  iintro ⟨⟨%f1, %h1, H1⟩, ⟨%f20, %h20, H20⟩, ⟨%f23, %h23, H23⟩, ⟨%f24, %h24, H24⟩, ⟨%f25, %h25, H25⟩, Hk⟩
  obtain rfl := h1
  obtain rfl := h20
  obtain rfl := h23
  obtain rfl := h24
  obtain rfl := h25
  sl_exec
  sl_step
  iapply Hk
  isplitl [H1]
  · iexists _; isplitr; swap; · iexact H1
    ipureintro; rfl
  isplitl [H20]
  · iexists _; isplitr; swap; · iexact H20
    ipureintro; rfl
  isplitl [H23]
  · iexists _; isplitr; swap; · iexact H23
    ipureintro; rfl
  isplitl [H24]
  · iexists _; isplitr; swap; · iexact H24
    ipureintro; rfl
  isplitl [H25]
  · iexists _; isplitr; swap; · iexact H25
    ipureintro; rfl
  ipureintro
  exact ⟨by rw [View.readAt_full], (View.read_writes_cons_put arg23.view f23 _ _ _ rfl).trans (by rw [View.read_writes_cons_put arg23.view f23 _ _ [] rfl]; rfl), (View.read_writes_cons_put arg24.view f24 _ _ _ rfl).trans (by rw [View.read_writes_cons_put arg24.view f24 _ _ [] rfl]; rfl), (View.read_writes_cons_put arg25.view f25 _ _ _ rfl).trans (by rw [View.read_writes_cons_put arg25.view f25 _ _ [] rfl]; rfl)⟩

end Cert.Proof

end
-- ==== Proof.Part11.lean ====
/- The image into its buffer and the first convolution. -/
module

public import proofs.«01_k».proof.Proof.Gen.KernelIdeal.Loops
public import proofs.«01_k».proof.Proof.Rows
public import proofs.«01_k».proof.Proof.Stages

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

set_option maxHeartbeats 1000000 in
theorem t1_trip (c : Dev nD) (i : grid0.Coords) (v49 : FVec F S32x3x4096 .f32) (v57 : Vec F S1x16x27 .f32) (X : BufTy.Contents (Elt F) arg20.view.ty) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v49 v57 X k
      = [⟨(Rect.unit (s := S32x16x4352) (k0_off10 k) S1x16x4096.size (k0_off10_inb k)), k0_pay41 v57 (k0_pay1 (k0_pay39 (F := F)) (k0_pay40 (F := F)) (arg20.view.readAt (Elt F) (Rect.unit (s := S32x3x4352) (k0_off1 k) S1x3x4096.size (k0_off1_inb k)).toLoadRect X) (arg20.view.readAt (Elt F) (Rect.unit (s := S32x3x4352) (k0_off2 k) S1x3x4096.size (k0_off2_inb k)).toLoadRect X) (arg20.view.readAt (Elt F) (Rect.unit (s := S32x3x4352) (k0_off3 k) S1x3x4096.size (k0_off3_inb k)).toLoadRect X) (arg20.view.readAt (Elt F) (Rect.unit (s := S32x3x4352) (k0_off4 k) S1x3x4096.size (k0_off4_inb k)).toLoadRect X) (arg20.view.readAt (Elt F) (Rect.unit (s := S32x3x4352) (k0_off5 k) S1x3x4096.size (k0_off5_inb k)).toLoadRect X) (arg20.view.readAt (Elt F) (Rect.unit (s := S32x3x4352) (k0_off6 k) S1x3x4096.size (k0_off6_inb k)).toLoadRect X) (arg20.view.readAt (Elt F) (Rect.unit (s := S32x3x4352) (k0_off7 k) S1x3x4096.size (k0_off7_inb k)).toLoadRect X) (arg20.view.readAt (Elt F) (Rect.unit (s := S32x3x4352) (k0_off8 k) S1x3x4096.size (k0_off8_inb k)).toLoadRect X) (arg20.view.readAt (Elt F) (Rect.unit (s := S32x3x4352) (k0_off9 k) S1x3x4096.size (k0_off9_inb k)).toLoadRect X)) (constant S16x4096 .f32 0x00000000#32)⟩] := by
  unfold tripL_k0_t1 trip_k0_t1
  rfl

set_option maxHeartbeats 1000000 in
/-- Loop 1 writes the convolution of its source into every row of its target. -/
theorem t1_rows (c : Dev nD) (i : grid0.Coords) (v49 : FVec F S32x3x4096 .f32) (v57 : Vec F S1x16x27 .f32) (X : BufTy.Contents (Elt F) arg20.view.ty) (G : BufTy.Contents (Elt F) arg21.view.ty) :
    arg21.view.read (Elt F) (arg21.view.writes (Elt F) G (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v49 v57 X (Scf.trips k0_t1_loop.lb k0_t1_loop.ub k0_t1_loop.st)))
      = rowsPut 4096 128 (arg21.view.read (Elt F) G) (conv1 v57 (arg20.view.read (Elt F) X)) :=
  read_rows arg21.view G (T := k0_t1_loop.trips) (by decide +kernel) 4096 128 _ (k0_off10) k0_off10_eq k0_off10_inb
    (fun k _ => k0_pay41 v57 (k0_pay1 (k0_pay39 (F := F)) (k0_pay40 (F := F)) (arg20.view.readAt (Elt F) (Rect.unit (s := S32x3x4352) (k0_off1 k) S1x3x4096.size (k0_off1_inb k)).toLoadRect X) (arg20.view.readAt (Elt F) (Rect.unit (s := S32x3x4352) (k0_off2 k) S1x3x4096.size (k0_off2_inb k)).toLoadRect X) (arg20.view.readAt (Elt F) (Rect.unit (s := S32x3x4352) (k0_off3 k) S1x3x4096.size (k0_off3_inb k)).toLoadRect X) (arg20.view.readAt (Elt F) (Rect.unit (s := S32x3x4352) (k0_off4 k) S1x3x4096.size (k0_off4_inb k)).toLoadRect X) (arg20.view.readAt (Elt F) (Rect.unit (s := S32x3x4352) (k0_off5 k) S1x3x4096.size (k0_off5_inb k)).toLoadRect X) (arg20.view.readAt (Elt F) (Rect.unit (s := S32x3x4352) (k0_off6 k) S1x3x4096.size (k0_off6_inb k)).toLoadRect X) (arg20.view.readAt (Elt F) (Rect.unit (s := S32x3x4352) (k0_off7 k) S1x3x4096.size (k0_off7_inb k)).toLoadRect X) (arg20.view.readAt (Elt F) (Rect.unit (s := S32x3x4352) (k0_off8 k) S1x3x4096.size (k0_off8_inb k)).toLoadRect X) (arg20.view.readAt (Elt F) (Rect.unit (s := S32x3x4352) (k0_off9 k) S1x3x4096.size (k0_off9_inb k)).toLoadRect X)) (constant S16x4096 .f32 0x00000000#32)) rfl
    (fun k => by rw [pb_k0_t1_succ, t1_trip]; rfl) _
    (fun k f hf => by
      show k0_pay41 v57 (k0_pay1 (k0_pay39 (F := F)) (k0_pay40 (F := F)) (arg20.view.readAt (Elt F) (Rect.unit (s := S32x3x4352) (k0_off1 k) S1x3x4096.size (k0_off1_inb k)).toLoadRect X) (arg20.view.readAt (Elt F) (Rect.unit (s := S32x3x4352) (k0_off2 k) S1x3x4096.size (k0_off2_inb k)).toLoadRect X) (arg20.view.readAt (Elt F) (Rect.unit (s := S32x3x4352) (k0_off3 k) S1x3x4096.size (k0_off3_inb k)).toLoadRect X) (arg20.view.readAt (Elt F) (Rect.unit (s := S32x3x4352) (k0_off4 k) S1x3x4096.size (k0_off4_inb k)).toLoadRect X) (arg20.view.readAt (Elt F) (Rect.unit (s := S32x3x4352) (k0_off5 k) S1x3x4096.size (k0_off5_inb k)).toLoadRect X) (arg20.view.readAt (Elt F) (Rect.unit (s := S32x3x4352) (k0_off6 k) S1x3x4096.size (k0_off6_inb k)).toLoadRect X) (arg20.view.readAt (Elt F) (Rect.unit (s := S32x3x4352) (k0_off7 k) S1x3x4096.size (k0_off7_inb k)).toLoadRect X) (arg20.view.readAt (Elt F) (Rect.unit (s := S32x3x4352) (k0_off8 k) S1x3x4096.size (k0_off8_inb k)).toLoadRect X) (arg20.view.readAt (Elt F) (Rect.unit (s := S32x3x4352) (k0_off9 k) S1x3x4096.size (k0_off9_inb k)).toLoadRect X)) (constant S16x4096 .f32 0x00000000#32) = _
      rw [readAt_row arg20.view X (T := k0_t1_loop.trips) (by decide +kernel) k 4096 63 (by decide) (k0_off1_eq k), readAt_row arg20.view X (T := k0_t1_loop.trips) (by decide +kernel) k 4096 64 (by decide) (k0_off2_eq k), readAt_row arg20.view X (T := k0_t1_loop.trips) (by decide +kernel) k 4096 65 (by decide) (k0_off3_eq k), readAt_row arg20.view X (T := k0_t1_loop.trips) (by decide +kernel) k 4096 127 (by decide) (k0_off4_eq k), readAt_row arg20.view X (T := k0_t1_loop.trips) (by decide +kernel) k 4096 128 (by decide) (k0_off5_eq k), readAt_row arg20.view X (T := k0_t1_loop.trips) (by decide +kernel) k 4096 129 (by decide) (k0_off6_eq k), readAt_row arg20.view X (T := k0_t1_loop.trips) (by decide +kernel) k 4096 191 (by decide) (k0_off7_eq k), readAt_row arg20.view X (T := k0_t1_loop.trips) (by decide +kernel) k 4096 192 (by decide) (k0_off8_eq k), readAt_row arg20.view X (T := k0_t1_loop.trips) (by decide +kernel) k 4096 193 (by decide) (k0_off9_eq k)]
      rfl)

set_option maxHeartbeats 400000 in
/-- What part 11 of the body does to its buffers, and what it returns. -/
theorem part11_run (c : Dev nD) (i : grid0.Coords) (v49 : FVec F S32x3x4096 .f32) (S : Vec F S8x512x128 .bf16) (T : Vec F S2x512x128 .bf16) (W : Vec F S1x16x27 .f32) (X : Vec F S32x3x4352 .f32) (Y : Vec F S32x16x4352 .f32) (E : Set ℕ) (K : (Σ' (_ : FVec F S8x512x128 .bf16) (_ : FVec F S2x512x128 .bf16) (_ : FVec F S16x1 .f32) (_ : BitVec 32), BitVec 32) → sProp 𝕄) :
    iprop(owns (c : Thread nD τ) arg16 fullShare S ∗ owns (c : Thread nD τ) arg17 fullShare T ∗ owns (c : Thread nD τ) arg2 fullShare W ∗ owns (c : Thread nD τ) arg20 fullShare X ∗ owns (c : Thread nD τ) arg21 fullShare Y ∗ (∀ (v54 : FVec F S8x512x128 .bf16) (v56 : FVec F S2x512x128 .bf16) (v85 : FVec F S16x1 .f32) (p : BitVec 32) (q : BitVec 32) (X1 : Vec F S32x3x4352 .f32) (Y1 : Vec F S32x16x4352 .f32), owns (c : Thread nD τ) arg16 fullShare S ∗ owns (c : Thread nD τ) arg17 fullShare T ∗ owns (c : Thread nD τ) arg2 fullShare W ∗ owns (c : Thread nD τ) arg20 fullShare X1 ∗ owns (c : Thread nD τ) arg21 fullShare Y1 ∗ ⌜v54 = k0_pay36 S ∧ v56 = k0_pay37 T ∧ v85 = k0_pay42 (F := F) ∧ X1 = VecWindow.put X ![0, 0, 128] S32x3x4096.size (k0_pay35 v49) ∧ Y1 = rowsPut 4096 128 Y (conv1 W X1)⌝ -∗ K ⟨v54, v56, v85, p, q⟩))
      ⊢ wp frame (wpE (defs₀ (F := F)) Variants.none c none) E (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v49) K := by
  rw [k0_part11_eq_skeleton]
  unfold k0_part11_skel owns
  iintro ⟨⟨%f16, %h16, H16⟩, ⟨%f17, %h17, H17⟩, ⟨%f2, %h2, H2⟩, ⟨%f20, %h20, H20⟩, ⟨%f21, %h21, H21⟩, Hk⟩
  obtain rfl := h16
  obtain rfl := h17
  obtain rfl := h2
  obtain rfl := h20
  obtain rfl := h21
  sl_exec
  sl_step
  iapply Hk
  isplitl [H16]
  · iexists _; isplitr; swap; · iexact H16
    ipureintro; rfl
  isplitl [H17]
  · iexists _; isplitr; swap; · iexact H17
    ipureintro; rfl
  isplitl [H2]
  · iexists _; isplitr; swap; · iexact H2
    ipureintro; rfl
  isplitl [H20]
  · iexists _; isplitr; swap; · iexact H20
    ipureintro; rfl
  isplitl [H21]
  · iexists _; isplitr; swap; · iexact H21
    ipureintro; rfl
  ipureintro
  refine ⟨by rw [View.readAt_full], by rw [View.readAt_full], rfl, ?_, ?_⟩
  · exact View.read_writes_cons_put arg20.view f20 _ _ [] rfl
  · rw [t1_rows, View.readAt_full]

end Cert.Proof

end
-- ==== Proof.Part12.lean ====
/- The first activation. -/
module

public import proofs.«01_k».proof.Proof.Gen.KernelIdeal.Loops
public import proofs.«01_k».proof.Proof.Rows
public import proofs.«01_k».proof.Proof.Stages

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

theorem t2_trip (c : Dev nD) (i : grid0.Coords) (v85 : FVec F S16x1 .f32) (c0_i32_66 : BitVec 32) (c32_i32_67 : BitVec 32) (k : Fin k0_t2_loop.trips) (f : BufTy.Contents (Elt F) arg21.view.ty) (acc : FVec F S16x1 .f32 × FVec F S16x1 .f32) :
    tripR_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v85 c0_i32_66 c32_i32_67 f k acc
      = (k0_pay44 acc.1 (arg21.view.readAt (Elt F) (Rect.unit (s := S32x16x4352) (k0_off11 k) S1x16x4096.size (k0_off11_inb k)).toLoadRect f), k0_pay45 acc.2 (arg21.view.readAt (Elt F) (Rect.unit (s := S32x16x4352) (k0_off11 k) S1x16x4096.size (k0_off11_inb k)).toLoadRect f)) := by
  unfold tripR_k0_t2 trip_k0_t2
  rfl

/-- Loop 2 carries the two running sums of what its buffer reads. -/
theorem t2_sums (c : Dev nD) (i : grid0.Coords) (v85 : FVec F S16x1 .f32) (c0_i32_66 : BitVec 32) (c32_i32_67 : BitVec 32) (f : BufTy.Contents (Elt F) arg21.view.ty) (z : FVec F S16x1 .f32) :
    st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v85 c0_i32_66 c32_i32_67 f (z, z) (Scf.trips k0_t2_loop.lb k0_t2_loop.ub k0_t2_loop.st)
      = sums2 (arg21.view.read (Elt F) f) z :=
  foldRows_of_succ (T := k0_t2_loop.trips) (by decide +kernel) _ _ _ rfl fun k => by
    rw [st_k0_t2_succ, t2_trip, readAt_row arg21.view f (T := k0_t2_loop.trips) (by decide +kernel) k 4096 128 (by decide) (k0_off11_eq k)]

theorem t3_trip (c : Dev nD) (i : grid0.Coords) (v85 : FVec F S16x1 .f32) (c0_i32_66 : BitVec 32) (c32_i32_67 : BitVec 32) (v87_0 : FVec F S16x1 .f32) (v87_1 : FVec F S16x1 .f32) (v97 : Vec F S1x16x1 .f32) (v99 : Vec F S1x16x1 .f32) (v101 : Vec F S1x16x1 .f32) (k : Fin k0_t3_loop.trips) (f : BufTy.Contents (Elt F) arg21.view.ty) :
    tripL_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v85 c0_i32_66 c32_i32_67 v87_0 v87_1 v97 v99 v101 k f
      = [⟨(Rect.unit (s := S32x16x4352) (k0_off12 k) S1x16x4096.size (k0_off12_inb k)), k0_pay46 v87_0 v87_1 v97 v99 v101 (arg21.view.readAt (Elt F) (Rect.unit (s := S32x16x4352) (k0_off12 k) S1x16x4096.size (k0_off12_inb k)).toLoadRect f)⟩] := by
  unfold tripL_k0_t3 trip_k0_t3
  rfl

/-- Loop 3 rewrites every row of its buffer in place. -/
theorem t3_rows (c : Dev nD) (i : grid0.Coords) (v85 : FVec F S16x1 .f32) (c0_i32_66 : BitVec 32) (c32_i32_67 : BitVec 32) (v87_0 : FVec F S16x1 .f32) (v87_1 : FVec F S16x1 .f32) (v97 : Vec F S1x16x1 .f32) (v99 : Vec F S1x16x1 .f32) (v101 : Vec F S1x16x1 .f32) (G : BufTy.Contents (Elt F) arg21.view.ty) :
    arg21.view.read (Elt F) (arg21.view.writes (Elt F) G (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v85 c0_i32_66 c32_i32_67 v87_0 v87_1 v97 v99 v101 G (Scf.trips k0_t3_loop.lb k0_t3_loop.ub k0_t3_loop.st)))
      = act3 v87_0 v87_1 v97 v99 v101 (arg21.view.read (Elt F) G) :=
  read_rows arg21.view G (T := k0_t3_loop.trips) (by decide +kernel) 4096 128 _ (k0_off12) k0_off12_eq k0_off12_inb
    (fun k f => k0_pay46 v87_0 v87_1 v97 v99 v101 (arg21.view.readAt (Elt F) (Rect.unit (s := S32x16x4352) (k0_off12 k) S1x16x4096.size (k0_off12_inb k)).toLoadRect f)) rfl
    (fun k => by rw [pb_k0_t3_succ, t3_trip]; rfl) _
    (fun k f hf => by
      show k0_pay46 v87_0 v87_1 v97 v99 v101 _ = _
      rw [readAt_row arg21.view f (T := k0_t3_loop.trips) (by decide +kernel) k 4096 128 (by decide) (k0_off12_eq k)]
      exact congrArg _ (rowOf_congr 4096 128 (by decide) _ _ _ hf))

set_option maxHeartbeats 400000 in
/-- What part 12 of the body does to its buffers, and what it returns. -/
theorem part12_run (c : Dev nD) (i : grid0.Coords) (v85 : FVec F S16x1 .f32) (p : BitVec 32) (q : BitVec 32) (P : Vec F S1x16x3 .f32) (X : Vec F S32x16x4352 .f32) (E : Set ℕ) (K : PUnit → sProp 𝕄) :
    iprop(owns (c : Thread nD τ) arg3 fullShare P ∗ owns (c : Thread nD τ) arg21 fullShare X ∗ (∀ (Y : Vec F S32x16x4352 .f32), owns (c : Thread nD τ) arg3 fullShare P ∗ owns (c : Thread nD τ) arg21 fullShare Y ∗ ⌜Y = act3 (sums2 X v85).1 (sums2 X v85).2 (VecWindow.window P ![0, 0, 0] S1x16x1.size inb_S1x16x3_S1x16x1_0_0_0) (VecWindow.window P ![0, 0, 1] S1x16x1.size inb_S1x16x3_S1x16x1_0_0_1) (VecWindow.window P ![0, 0, 2] S1x16x1.size inb_S1x16x3_S1x16x1_0_0_2) X⌝ -∗ K ⟨⟩))
      ⊢ wp frame (wpE (defs₀ (F := F)) Variants.none c none) E (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v85 p q) K := by
  rw [k0_part12_eq_skeleton]
  unfold k0_part12_skel owns
  iintro ⟨⟨%f3, %h3, H3⟩, ⟨%f21, %h21, H21⟩, Hk⟩
  obtain rfl := h3
  obtain rfl := h21
  sl_exec
  sl_step
  iapply Hk
  isplitl [H3]
  · iexists _; isplitr; swap; · iexact H3
    ipureintro; rfl
  isplitl [H21]
  · iexists _; isplitr; swap; · iexact H21
    ipureintro; rfl
  ipureintro
  rw [t3_rows, t2_sums]
  rfl

end Cert.Proof

end
-- ==== Proof.Part13.lean ====
/- The second convolution and its statistics. -/
module

public import proofs.«01_k».proof.Proof.Gen.KernelIdeal.Loops
public import proofs.«01_k».proof.Proof.Rows
public import proofs.«01_k».proof.Proof.Stages

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

set_option maxHeartbeats 1000000 in
theorem t4_trip (c : Dev nD) (i : grid0.Coords) (v122 : Vec F S1x16x144 .f32) (X : BufTy.Contents (Elt F) arg21.view.ty) (k : Fin k0_t4_loop.trips) :
    tripL_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v122 X k
      = [⟨(Rect.unit (s := S32x16x4352) (k0_off17 k) S1x16x4096.size (k0_off17_inb k)), k0_pay50 v122 (k0_pay2 (k0_pay48 (F := F)) (k0_pay49 (F := F)) (arg21.view.readAt (Elt F) (Rect.unit (s := S32x16x4352) (k0_off13 k) S1x16x4096.size (k0_off13_inb k)).toLoadRect X) (arg21.view.readAt (Elt F) (Rect.unit (s := S32x16x4352) (k0_off14 k) S1x16x4096.size (k0_off14_inb k)).toLoadRect X) (arg21.view.readAt (Elt F) (Rect.unit (s := S32x16x4352) (k0_off15 k) S1x16x4096.size (k0_off15_inb k)).toLoadRect X) (arg21.view.readAt (Elt F) (Rect.unit (s := S32x16x4352) (k0_off16 k) S1x16x4096.size (k0_off16_inb k)).toLoadRect X) (arg21.view.readAt (Elt F) (Rect.unit (s := S32x16x4352) (k0_off17 k) S1x16x4096.size (k0_off17_inb k)).toLoadRect X) (arg21.view.readAt (Elt F) (Rect.unit (s := S32x16x4352) (k0_off18 k) S1x16x4096.size (k0_off18_inb k)).toLoadRect X) (arg21.view.readAt (Elt F) (Rect.unit (s := S32x16x4352) (k0_off19 k) S1x16x4096.size (k0_off19_inb k)).toLoadRect X) (arg21.view.readAt (Elt F) (Rect.unit (s := S32x16x4352) (k0_off20 k) S1x16x4096.size (k0_off20_inb k)).toLoadRect X) (arg21.view.readAt (Elt F) (Rect.unit (s := S32x16x4352) (k0_off21 k) S1x16x4096.size (k0_off21_inb k)).toLoadRect X)) (constant S16x4096 .f32 0x00000000#32)⟩] := by
  unfold tripL_k0_t4 trip_k0_t4
  rfl

set_option maxHeartbeats 1000000 in
/-- Loop 4 writes the convolution of its source into every row of its target. -/
theorem t4_rows (c : Dev nD) (i : grid0.Coords) (v122 : Vec F S1x16x144 .f32) (X : BufTy.Contents (Elt F) arg21.view.ty) (G : BufTy.Contents (Elt F) arg22.view.ty) :
    arg22.view.read (Elt F) (arg22.view.writes (Elt F) G (pb_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v122 X (Scf.trips k0_t4_loop.lb k0_t4_loop.ub k0_t4_loop.st)))
      = rowsPut 4096 128 (arg22.view.read (Elt F) G) (conv4 v122 (arg21.view.read (Elt F) X)) :=
  read_rows arg22.view G (T := k0_t4_loop.trips) (by decide +kernel) 4096 128 _ (k0_off17) k0_off17_eq k0_off17_inb
    (fun k _ => k0_pay50 v122 (k0_pay2 (k0_pay48 (F := F)) (k0_pay49 (F := F)) (arg21.view.readAt (Elt F) (Rect.unit (s := S32x16x4352) (k0_off13 k) S1x16x4096.size (k0_off13_inb k)).toLoadRect X) (arg21.view.readAt (Elt F) (Rect.unit (s := S32x16x4352) (k0_off14 k) S1x16x4096.size (k0_off14_inb k)).toLoadRect X) (arg21.view.readAt (Elt F) (Rect.unit (s := S32x16x4352) (k0_off15 k) S1x16x4096.size (k0_off15_inb k)).toLoadRect X) (arg21.view.readAt (Elt F) (Rect.unit (s := S32x16x4352) (k0_off16 k) S1x16x4096.size (k0_off16_inb k)).toLoadRect X) (arg21.view.readAt (Elt F) (Rect.unit (s := S32x16x4352) (k0_off17 k) S1x16x4096.size (k0_off17_inb k)).toLoadRect X) (arg21.view.readAt (Elt F) (Rect.unit (s := S32x16x4352) (k0_off18 k) S1x16x4096.size (k0_off18_inb k)).toLoadRect X) (arg21.view.readAt (Elt F) (Rect.unit (s := S32x16x4352) (k0_off19 k) S1x16x4096.size (k0_off19_inb k)).toLoadRect X) (arg21.view.readAt (Elt F) (Rect.unit (s := S32x16x4352) (k0_off20 k) S1x16x4096.size (k0_off20_inb k)).toLoadRect X) (arg21.view.readAt (Elt F) (Rect.unit (s := S32x16x4352) (k0_off21 k) S1x16x4096.size (k0_off21_inb k)).toLoadRect X)) (constant S16x4096 .f32 0x00000000#32)) rfl
    (fun k => by rw [pb_k0_t4_succ, t4_trip]; rfl) _
    (fun k f hf => by
      show k0_pay50 v122 (k0_pay2 (k0_pay48 (F := F)) (k0_pay49 (F := F)) (arg21.view.readAt (Elt F) (Rect.unit (s := S32x16x4352) (k0_off13 k) S1x16x4096.size (k0_off13_inb k)).toLoadRect X) (arg21.view.readAt (Elt F) (Rect.unit (s := S32x16x4352) (k0_off14 k) S1x16x4096.size (k0_off14_inb k)).toLoadRect X) (arg21.view.readAt (Elt F) (Rect.unit (s := S32x16x4352) (k0_off15 k) S1x16x4096.size (k0_off15_inb k)).toLoadRect X) (arg21.view.readAt (Elt F) (Rect.unit (s := S32x16x4352) (k0_off16 k) S1x16x4096.size (k0_off16_inb k)).toLoadRect X) (arg21.view.readAt (Elt F) (Rect.unit (s := S32x16x4352) (k0_off17 k) S1x16x4096.size (k0_off17_inb k)).toLoadRect X) (arg21.view.readAt (Elt F) (Rect.unit (s := S32x16x4352) (k0_off18 k) S1x16x4096.size (k0_off18_inb k)).toLoadRect X) (arg21.view.readAt (Elt F) (Rect.unit (s := S32x16x4352) (k0_off19 k) S1x16x4096.size (k0_off19_inb k)).toLoadRect X) (arg21.view.readAt (Elt F) (Rect.unit (s := S32x16x4352) (k0_off20 k) S1x16x4096.size (k0_off20_inb k)).toLoadRect X) (arg21.view.readAt (Elt F) (Rect.unit (s := S32x16x4352) (k0_off21 k) S1x16x4096.size (k0_off21_inb k)).toLoadRect X)) (constant S16x4096 .f32 0x00000000#32) = _
      rw [readAt_row arg21.view X (T := k0_t4_loop.trips) (by decide +kernel) k 4096 63 (by decide) (k0_off13_eq k), readAt_row arg21.view X (T := k0_t4_loop.trips) (by decide +kernel) k 4096 64 (by decide) (k0_off14_eq k), readAt_row arg21.view X (T := k0_t4_loop.trips) (by decide +kernel) k 4096 65 (by decide) (k0_off15_eq k), readAt_row arg21.view X (T := k0_t4_loop.trips) (by decide +kernel) k 4096 127 (by decide) (k0_off16_eq k), readAt_row arg21.view X (T := k0_t4_loop.trips) (by decide +kernel) k 4096 128 (by decide) (k0_off17_eq k), readAt_row arg21.view X (T := k0_t4_loop.trips) (by decide +kernel) k 4096 129 (by decide) (k0_off18_eq k), readAt_row arg21.view X (T := k0_t4_loop.trips) (by decide +kernel) k 4096 191 (by decide) (k0_off19_eq k), readAt_row arg21.view X (T := k0_t4_loop.trips) (by decide +kernel) k 4096 192 (by decide) (k0_off20_eq k), readAt_row arg21.view X (T := k0_t4_loop.trips) (by decide +kernel) k 4096 193 (by decide) (k0_off21_eq k)]
      rfl)

theorem t5_trip (c : Dev nD) (i : grid0.Coords)  (k : Fin k0_t5_loop.trips) (f : BufTy.Contents (Elt F) arg22.view.ty) (acc : FVec F S16x1 .f32 × FVec F S16x1 .f32) :
    tripR_k0_t5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  f k acc
      = (k0_pay53 acc.1 (arg22.view.readAt (Elt F) (Rect.unit (s := S32x16x4352) (k0_off22 k) S1x16x4096.size (k0_off22_inb k)).toLoadRect f), k0_pay54 acc.2 (arg22.view.readAt (Elt F) (Rect.unit (s := S32x16x4352) (k0_off22 k) S1x16x4096.size (k0_off22_inb k)).toLoadRect f)) := by
  unfold tripR_k0_t5 trip_k0_t5
  rfl

/-- Loop 5 carries the two running sums of what its buffer reads. -/
theorem t5_sums (c : Dev nD) (i : grid0.Coords)  (f : BufTy.Contents (Elt F) arg22.view.ty) (z : FVec F S16x1 .f32) :
    st_k0_t5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  f (z, z) (Scf.trips k0_t5_loop.lb k0_t5_loop.ub k0_t5_loop.st)
      = sums5 (arg22.view.read (Elt F) f) z :=
  foldRows_of_succ (T := k0_t5_loop.trips) (by decide +kernel) _ _ _ rfl fun k => by
    rw [st_k0_t5_succ, t5_trip, readAt_row arg22.view f (T := k0_t5_loop.trips) (by decide +kernel) k 4096 128 (by decide) (k0_off22_eq k)]

set_option maxHeartbeats 400000 in
/-- What part 13 of the body does to its buffers, and what it returns. -/
theorem part13_run (c : Dev nD) (i : grid0.Coords)  (W : Vec F S1x16x144 .f32) (X : Vec F S32x16x4352 .f32) (Y : Vec F S32x16x4352 .f32) (E : Set ℕ) (K : (Σ' (_ : FVec F S16x1 .f32) (_ : FVec F S16x1 .f32), FVec F S16x1 .f32) → sProp 𝕄) :
    iprop(owns (c : Thread nD τ) arg4 fullShare W ∗ owns (c : Thread nD τ) arg21 fullShare X ∗ owns (c : Thread nD τ) arg22 fullShare Y ∗ (∀ (v154 : FVec F S16x1 .f32) (v158 : FVec F S16x1 .f32) (v159 : FVec F S16x1 .f32) (Y1 : Vec F S32x16x4352 .f32), owns (c : Thread nD τ) arg4 fullShare W ∗ owns (c : Thread nD τ) arg21 fullShare X ∗ owns (c : Thread nD τ) arg22 fullShare Y1 ∗ ⌜v154 = k0_pay55 (sums5 Y1 (k0_pay51 (F := F))).1 ∧ v158 = k0_pay56 (sums5 Y1 (k0_pay51 (F := F))).1 (sums5 Y1 (k0_pay51 (F := F))).2 ∧ v159 = k0_pay57 (F := F) ∧ Y1 = rowsPut 4096 128 Y (conv4 W X)⌝ -∗ K ⟨v154, v158, v159⟩))
      ⊢ wp frame (wpE (defs₀ (F := F)) Variants.none c none) E (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ) K := by
  rw [k0_part13_eq_skeleton]
  unfold k0_part13_skel owns
  iintro ⟨⟨%f4, %h4, H4⟩, ⟨%f21, %h21, H21⟩, ⟨%f22, %h22, H22⟩, Hk⟩
  obtain rfl := h4
  obtain rfl := h21
  obtain rfl := h22
  sl_exec
  sl_step
  iapply Hk
  isplitl [H4]
  · iexists _; isplitr; swap; · iexact H4
    ipureintro; rfl
  isplitl [H21]
  · iexists _; isplitr; swap; · iexact H21
    ipureintro; rfl
  isplitl [H22]
  · iexists _; isplitr; swap; · iexact H22
    ipureintro; rfl
  ipureintro
  refine ⟨by rw [t5_sums], by rw [t5_sums], rfl, ?_⟩
  rw [t4_rows, View.readAt_full]

end Cert.Proof

end
-- ==== Proof.Part14.lean ====
/- The second activation. -/
module

public import proofs.«01_k».proof.Proof.Gen.KernelIdeal.Loops
public import proofs.«01_k».proof.Proof.Rows
public import proofs.«01_k».proof.Proof.Stages

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

theorem t6_trip (c : Dev nD) (i : grid0.Coords) (v154 : FVec F S16x1 .f32) (v158 : FVec F S16x1 .f32) (v159 : FVec F S16x1 .f32) (v162 : Vec F S1x16x1 .f32) (v164 : Vec F S1x16x1 .f32) (v166 : Vec F S1x16x1 .f32) (k : Fin k0_t6_loop.trips) (f : BufTy.Contents (Elt F) arg22.view.ty) :
    tripL_k0_t6 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v154 v158 v159 v162 v164 v166 k f
      = [⟨(Rect.unit (s := S32x16x4352) (k0_off23 k) S1x16x4096.size (k0_off23_inb k)), k0_pay58 v154 v158 v159 v162 v164 v166 (arg22.view.readAt (Elt F) (Rect.unit (s := S32x16x4352) (k0_off23 k) S1x16x4096.size (k0_off23_inb k)).toLoadRect f)⟩] := by
  unfold tripL_k0_t6 trip_k0_t6
  rfl

/-- Loop 6 rewrites every row of its buffer in place. -/
theorem t6_rows (c : Dev nD) (i : grid0.Coords) (v154 : FVec F S16x1 .f32) (v158 : FVec F S16x1 .f32) (v159 : FVec F S16x1 .f32) (v162 : Vec F S1x16x1 .f32) (v164 : Vec F S1x16x1 .f32) (v166 : Vec F S1x16x1 .f32) (G : BufTy.Contents (Elt F) arg22.view.ty) :
    arg22.view.read (Elt F) (arg22.view.writes (Elt F) G (pb_k0_t6 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v154 v158 v159 v162 v164 v166 G (Scf.trips k0_t6_loop.lb k0_t6_loop.ub k0_t6_loop.st)))
      = act6 v154 v158 v159 v162 v164 v166 (arg22.view.read (Elt F) G) :=
  read_rows arg22.view G (T := k0_t6_loop.trips) (by decide +kernel) 4096 128 _ (k0_off23) k0_off23_eq k0_off23_inb
    (fun k f => k0_pay58 v154 v158 v159 v162 v164 v166 (arg22.view.readAt (Elt F) (Rect.unit (s := S32x16x4352) (k0_off23 k) S1x16x4096.size (k0_off23_inb k)).toLoadRect f)) rfl
    (fun k => by rw [pb_k0_t6_succ, t6_trip]; rfl) _
    (fun k f hf => by
      show k0_pay58 v154 v158 v159 v162 v164 v166 _ = _
      rw [readAt_row arg22.view f (T := k0_t6_loop.trips) (by decide +kernel) k 4096 128 (by decide) (k0_off23_eq k)]
      exact congrArg _ (rowOf_congr 4096 128 (by decide) _ _ _ hf))

set_option maxHeartbeats 400000 in
/-- What part 14 of the body does to its buffers, and what it returns. -/
theorem part14_run (c : Dev nD) (i : grid0.Coords) (v154 : FVec F S16x1 .f32) (v158 : FVec F S16x1 .f32) (v159 : FVec F S16x1 .f32) (P : Vec F S1x16x3 .f32) (W : Vec F S1x32x144 .f32) (X : Vec F S32x16x4352 .f32) (E : Set ℕ) (K : (Σ' (_ : FVec F S32x144 .f32) (_ : BitVec 32) (_ : IVec S1x4096 32), IVec S1x4096 1) → sProp 𝕄) :
    iprop(owns (c : Thread nD τ) arg5 fullShare P ∗ owns (c : Thread nD τ) arg6 fullShare W ∗ owns (c : Thread nD τ) arg22 fullShare X ∗ (∀ (v188 : FVec F S32x144 .f32) (v191 : BitVec 32) (v193 : IVec S1x4096 32) (v195 : IVec S1x4096 1) (Y : Vec F S32x16x4352 .f32), owns (c : Thread nD τ) arg5 fullShare P ∗ owns (c : Thread nD τ) arg6 fullShare W ∗ owns (c : Thread nD τ) arg22 fullShare Y ∗ ⌜v188 = k0_pay59 W ∧ v191 = Scalar.select (Scalar.cmpi .eq 64#32 0#32) 1#32 64#32 ∧ v193 = k0_pay60 ∧ v195 = k0_pay61 ∧ Y = act6 v154 v158 v159 (VecWindow.window P ![0, 0, 0] S1x16x1.size inb_S1x16x3_S1x16x1_0_0_0) (VecWindow.window P ![0, 0, 1] S1x16x1.size inb_S1x16x3_S1x16x1_0_0_1) (VecWindow.window P ![0, 0, 2] S1x16x1.size inb_S1x16x3_S1x16x1_0_0_2) X⌝ -∗ K ⟨v188, v191, v193, v195⟩))
      ⊢ wp frame (wpE (defs₀ (F := F)) Variants.none c none) E (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v154 v158 v159) K := by
  rw [k0_part14_eq_skeleton]
  unfold k0_part14_skel owns
  iintro ⟨⟨%f5, %h5, H5⟩, ⟨%f6, %h6, H6⟩, ⟨%f22, %h22, H22⟩, Hk⟩
  obtain rfl := h5
  obtain rfl := h6
  obtain rfl := h22
  sl_exec
  sl_step
  iapply Hk
  isplitl [H5]
  · iexists _; isplitr; swap; · iexact H5
    ipureintro; rfl
  isplitl [H6]
  · iexists _; isplitr; swap; · iexact H6
    ipureintro; rfl
  isplitl [H22]
  · iexists _; isplitr; swap; · iexact H22
    ipureintro; rfl
  ipureintro
  refine ⟨by rw [View.readAt_full], rfl, rfl, rfl, ?_⟩
  rw [t6_rows]
  rfl

end Cert.Proof

end
-- ==== Proof.Part15.lean ====
/- The third convolution and its statistics. -/
module

public import proofs.«01_k».proof.Proof.Gen.KernelIdeal.Loops
public import proofs.«01_k».proof.Proof.Rows
public import proofs.«01_k».proof.Proof.Stages

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

set_option maxHeartbeats 1000000 in
theorem t7_trip (c : Dev nD) (i : grid0.Coords) (v54 : FVec F S8x512x128 .bf16) (v188 : FVec F S32x144 .f32) (v191 : BitVec 32) (v193 : IVec S1x4096 32) (v195 : IVec S1x4096 1) (X : BufTy.Contents (Elt F) arg22.view.ty) (k : Fin k0_t7_loop.trips) :
    tripL_k0_t7 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v54 v188 v191 v193 v195 X k
      = [⟨(Rect.unit (s := S32x32x1280) (k0_off33 k) S1x32x1024.size (k0_off33_inb k)), down7 v54 v188 (k0_pay3 (k0_pay63 (F := F) v191 v193 v195) (k0_pay64 (F := F) v191 v193 v195) (arg22.view.readAt (Elt F) (Rect.unit (s := S32x16x4352) (k0_off24 k) S1x16x4096.size (k0_off24_inb k)).toLoadRect X) (arg22.view.readAt (Elt F) (Rect.unit (s := S32x16x4352) (k0_off25 k) S1x16x4096.size (k0_off25_inb k)).toLoadRect X) (arg22.view.readAt (Elt F) (Rect.unit (s := S32x16x4352) (k0_off26 k) S1x16x4096.size (k0_off26_inb k)).toLoadRect X) (arg22.view.readAt (Elt F) (Rect.unit (s := S32x16x4352) (k0_off27 k) S1x16x4096.size (k0_off27_inb k)).toLoadRect X) (arg22.view.readAt (Elt F) (Rect.unit (s := S32x16x4352) (k0_off28 k) S1x16x4096.size (k0_off28_inb k)).toLoadRect X) (arg22.view.readAt (Elt F) (Rect.unit (s := S32x16x4352) (k0_off29 k) S1x16x4096.size (k0_off29_inb k)).toLoadRect X) (arg22.view.readAt (Elt F) (Rect.unit (s := S32x16x4352) (k0_off30 k) S1x16x4096.size (k0_off30_inb k)).toLoadRect X) (arg22.view.readAt (Elt F) (Rect.unit (s := S32x16x4352) (k0_off31 k) S1x16x4096.size (k0_off31_inb k)).toLoadRect X) (arg22.view.readAt (Elt F) (Rect.unit (s := S32x16x4352) (k0_off32 k) S1x16x4096.size (k0_off32_inb k)).toLoadRect X))⟩] := by
  unfold tripL_k0_t7 trip_k0_t7
  rfl

set_option maxHeartbeats 1000000 in
/-- Loop 7 writes the convolution of its source into every row of its target. -/
theorem t7_rows (c : Dev nD) (i : grid0.Coords) (v54 : FVec F S8x512x128 .bf16) (v188 : FVec F S32x144 .f32) (v191 : BitVec 32) (v193 : IVec S1x4096 32) (v195 : IVec S1x4096 1) (X : BufTy.Contents (Elt F) arg22.view.ty) (G : BufTy.Contents (Elt F) arg23.view.ty) :
    arg23.view.read (Elt F) (arg23.view.writes (Elt F) G (pb_k0_t7 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v54 v188 v191 v193 v195 X (Scf.trips k0_t7_loop.lb k0_t7_loop.ub k0_t7_loop.st)))
      = rowsPut 1024 128 (arg23.view.read (Elt F) G) (conv7 v54 v188 v191 v193 v195 (arg22.view.read (Elt F) X)) :=
  read_rows arg23.view G (T := k0_t7_loop.trips) (by decide +kernel) 1024 128 _ (k0_off33) k0_off33_eq k0_off33_inb
    (fun k _ => down7 v54 v188 (k0_pay3 (k0_pay63 (F := F) v191 v193 v195) (k0_pay64 (F := F) v191 v193 v195) (arg22.view.readAt (Elt F) (Rect.unit (s := S32x16x4352) (k0_off24 k) S1x16x4096.size (k0_off24_inb k)).toLoadRect X) (arg22.view.readAt (Elt F) (Rect.unit (s := S32x16x4352) (k0_off25 k) S1x16x4096.size (k0_off25_inb k)).toLoadRect X) (arg22.view.readAt (Elt F) (Rect.unit (s := S32x16x4352) (k0_off26 k) S1x16x4096.size (k0_off26_inb k)).toLoadRect X) (arg22.view.readAt (Elt F) (Rect.unit (s := S32x16x4352) (k0_off27 k) S1x16x4096.size (k0_off27_inb k)).toLoadRect X) (arg22.view.readAt (Elt F) (Rect.unit (s := S32x16x4352) (k0_off28 k) S1x16x4096.size (k0_off28_inb k)).toLoadRect X) (arg22.view.readAt (Elt F) (Rect.unit (s := S32x16x4352) (k0_off29 k) S1x16x4096.size (k0_off29_inb k)).toLoadRect X) (arg22.view.readAt (Elt F) (Rect.unit (s := S32x16x4352) (k0_off30 k) S1x16x4096.size (k0_off30_inb k)).toLoadRect X) (arg22.view.readAt (Elt F) (Rect.unit (s := S32x16x4352) (k0_off31 k) S1x16x4096.size (k0_off31_inb k)).toLoadRect X) (arg22.view.readAt (Elt F) (Rect.unit (s := S32x16x4352) (k0_off32 k) S1x16x4096.size (k0_off32_inb k)).toLoadRect X))) rfl
    (fun k => by rw [pb_k0_t7_succ, t7_trip]; rfl) _
    (fun k f hf => by
      show down7 v54 v188 (k0_pay3 (k0_pay63 (F := F) v191 v193 v195) (k0_pay64 (F := F) v191 v193 v195) (arg22.view.readAt (Elt F) (Rect.unit (s := S32x16x4352) (k0_off24 k) S1x16x4096.size (k0_off24_inb k)).toLoadRect X) (arg22.view.readAt (Elt F) (Rect.unit (s := S32x16x4352) (k0_off25 k) S1x16x4096.size (k0_off25_inb k)).toLoadRect X) (arg22.view.readAt (Elt F) (Rect.unit (s := S32x16x4352) (k0_off26 k) S1x16x4096.size (k0_off26_inb k)).toLoadRect X) (arg22.view.readAt (Elt F) (Rect.unit (s := S32x16x4352) (k0_off27 k) S1x16x4096.size (k0_off27_inb k)).toLoadRect X) (arg22.view.readAt (Elt F) (Rect.unit (s := S32x16x4352) (k0_off28 k) S1x16x4096.size (k0_off28_inb k)).toLoadRect X) (arg22.view.readAt (Elt F) (Rect.unit (s := S32x16x4352) (k0_off29 k) S1x16x4096.size (k0_off29_inb k)).toLoadRect X) (arg22.view.readAt (Elt F) (Rect.unit (s := S32x16x4352) (k0_off30 k) S1x16x4096.size (k0_off30_inb k)).toLoadRect X) (arg22.view.readAt (Elt F) (Rect.unit (s := S32x16x4352) (k0_off31 k) S1x16x4096.size (k0_off31_inb k)).toLoadRect X) (arg22.view.readAt (Elt F) (Rect.unit (s := S32x16x4352) (k0_off32 k) S1x16x4096.size (k0_off32_inb k)).toLoadRect X)) = _
      rw [readAt_row arg22.view X (T := k0_t7_loop.trips) (by decide +kernel) k 4096 63 (by decide) (k0_off24_eq k), readAt_row arg22.view X (T := k0_t7_loop.trips) (by decide +kernel) k 4096 64 (by decide) (k0_off25_eq k), readAt_row arg22.view X (T := k0_t7_loop.trips) (by decide +kernel) k 4096 65 (by decide) (k0_off26_eq k), readAt_row arg22.view X (T := k0_t7_loop.trips) (by decide +kernel) k 4096 127 (by decide) (k0_off27_eq k), readAt_row arg22.view X (T := k0_t7_loop.trips) (by decide +kernel) k 4096 128 (by decide) (k0_off28_eq k), readAt_row arg22.view X (T := k0_t7_loop.trips) (by decide +kernel) k 4096 129 (by decide) (k0_off29_eq k), readAt_row arg22.view X (T := k0_t7_loop.trips) (by decide +kernel) k 4096 191 (by decide) (k0_off30_eq k), readAt_row arg22.view X (T := k0_t7_loop.trips) (by decide +kernel) k 4096 192 (by decide) (k0_off31_eq k), readAt_row arg22.view X (T := k0_t7_loop.trips) (by decide +kernel) k 4096 193 (by decide) (k0_off32_eq k)]
      rfl)

theorem t8_trip (c : Dev nD) (i : grid0.Coords) (v54 : FVec F S8x512x128 .bf16) (v188 : FVec F S32x144 .f32) (v191 : BitVec 32) (v193 : IVec S1x4096 32) (v195 : IVec S1x4096 1) (k : Fin k0_t8_loop.trips) (f : BufTy.Contents (Elt F) arg23.view.ty) (acc : FVec F S32x1 .f32 × FVec F S32x1 .f32) :
    tripR_k0_t8 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v54 v188 v191 v193 v195 f k acc
      = (k0_pay68 acc.1 (arg23.view.readAt (Elt F) (Rect.unit (s := S32x32x1280) (k0_off34 k) S1x32x1024.size (k0_off34_inb k)).toLoadRect f), k0_pay69 acc.2 (arg23.view.readAt (Elt F) (Rect.unit (s := S32x32x1280) (k0_off34 k) S1x32x1024.size (k0_off34_inb k)).toLoadRect f)) := by
  unfold tripR_k0_t8 trip_k0_t8
  rfl

/-- Loop 8 carries the two running sums of what its buffer reads. -/
theorem t8_sums (c : Dev nD) (i : grid0.Coords) (v54 : FVec F S8x512x128 .bf16) (v188 : FVec F S32x144 .f32) (v191 : BitVec 32) (v193 : IVec S1x4096 32) (v195 : IVec S1x4096 1) (f : BufTy.Contents (Elt F) arg23.view.ty) (z : FVec F S32x1 .f32) :
    st_k0_t8 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v54 v188 v191 v193 v195 f (z, z) (Scf.trips k0_t8_loop.lb k0_t8_loop.ub k0_t8_loop.st)
      = sums8 (arg23.view.read (Elt F) f) z :=
  foldRows_of_succ (T := k0_t8_loop.trips) (by decide +kernel) _ _ _ rfl fun k => by
    rw [st_k0_t8_succ, t8_trip, readAt_row arg23.view f (T := k0_t8_loop.trips) (by decide +kernel) k 1024 128 (by decide) (k0_off34_eq k)]

set_option maxHeartbeats 400000 in
/-- What part 15 of the body does to its buffers, and what it returns. -/
theorem part15_run (c : Dev nD) (i : grid0.Coords) (v54 : FVec F S8x512x128 .bf16) (v188 : FVec F S32x144 .f32) (v191 : BitVec 32) (v193 : IVec S1x4096 32) (v195 : IVec S1x4096 1) (P : Vec F S1x32x3 .f32) (X : Vec F S32x16x4352 .f32) (Y : Vec F S32x32x1280 .f32) (E : Set ℕ) (K : (Σ' (_ : FVec F S32x1 .f32) (_ : FVec F S32x1 .f32) (_ : FVec F S32x1 .f32), FVec F S32x1 .f32) → sProp 𝕄) :
    iprop(owns (c : Thread nD τ) arg7 fullShare P ∗ owns (c : Thread nD τ) arg22 fullShare X ∗ owns (c : Thread nD τ) arg23 fullShare Y ∗ (∀ (v219 : FVec F S32x1 .f32) (v226 : FVec F S32x1 .f32) (v228 : FVec F S32x1 .f32) (v230 : FVec F S32x1 .f32) (Y1 : Vec F S32x32x1280 .f32), owns (c : Thread nD τ) arg7 fullShare P ∗ owns (c : Thread nD τ) arg22 fullShare X ∗ owns (c : Thread nD τ) arg23 fullShare Y1 ∗ ⌜v219 = k0_pay70 (sums8 Y1 (k0_pay66 (F := F))).1 ∧ v226 = k0_pay71 (sums8 Y1 (k0_pay66 (F := F))).1 (sums8 Y1 (k0_pay66 (F := F))).2 ∧ v228 = k0_pay72 (VecWindow.window P ![0, 0, 0] S1x32x1.size inb_S1x32x3_S1x32x1_0_0_0) ∧ v230 = k0_pay73 (VecWindow.window P ![0, 0, 1] S1x32x1.size inb_S1x32x3_S1x32x1_0_0_1) ∧ Y1 = rowsPut 1024 128 Y (conv7 v54 v188 v191 v193 v195 X)⌝ -∗ K ⟨v219, v226, v228, v230⟩))
      ⊢ wp frame (wpE (defs₀ (F := F)) Variants.none c none) E (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v54 v188 v191 v193 v195) K := by
  rw [k0_part15_eq_skeleton]
  unfold k0_part15_skel owns
  iintro ⟨⟨%f7, %h7, H7⟩, ⟨%f22, %h22, H22⟩, ⟨%f23, %h23, H23⟩, Hk⟩
  obtain rfl := h7
  obtain rfl := h22
  obtain rfl := h23
  sl_exec
  sl_step
  iapply Hk
  isplitl [H7]
  · iexists _; isplitr; swap; · iexact H7
    ipureintro; rfl
  isplitl [H22]
  · iexists _; isplitr; swap; · iexact H22
    ipureintro; rfl
  isplitl [H23]
  · iexists _; isplitr; swap; · iexact H23
    ipureintro; rfl
  ipureintro
  refine ⟨by rw [t8_sums], by rw [t8_sums], rfl, rfl, ?_⟩
  rw [t7_rows]

end Cert.Proof

end
-- ==== Proof.Part16.lean ====
/- The third activation. -/
module

public import proofs.«01_k».proof.Proof.Gen.KernelIdeal.Loops
public import proofs.«01_k».proof.Proof.Rows
public import proofs.«01_k».proof.Proof.Stages

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

theorem t9_trip (c : Dev nD) (i : grid0.Coords) (v219 : FVec F S32x1 .f32) (v226 : FVec F S32x1 .f32) (v228 : FVec F S32x1 .f32) (v230 : FVec F S32x1 .f32) (v231 : Vec F S1x32x1 .f32) (k : Fin k0_t9_loop.trips) (f : BufTy.Contents (Elt F) arg23.view.ty) :
    tripL_k0_t9 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v219 v226 v228 v230 v231 k f
      = [⟨(Rect.unit (s := S32x32x1280) (k0_off35 k) S1x32x1024.size (k0_off35_inb k)), k0_pay74 v219 v226 v228 v230 v231 (arg23.view.readAt (Elt F) (Rect.unit (s := S32x32x1280) (k0_off35 k) S1x32x1024.size (k0_off35_inb k)).toLoadRect f)⟩] := by
  unfold tripL_k0_t9 trip_k0_t9
  rfl

/-- Loop 9 rewrites every row of its buffer in place. -/
theorem t9_rows (c : Dev nD) (i : grid0.Coords) (v219 : FVec F S32x1 .f32) (v226 : FVec F S32x1 .f32) (v228 : FVec F S32x1 .f32) (v230 : FVec F S32x1 .f32) (v231 : Vec F S1x32x1 .f32) (G : BufTy.Contents (Elt F) arg23.view.ty) :
    arg23.view.read (Elt F) (arg23.view.writes (Elt F) G (pb_k0_t9 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v219 v226 v228 v230 v231 G (Scf.trips k0_t9_loop.lb k0_t9_loop.ub k0_t9_loop.st)))
      = act9 v219 v226 v228 v230 v231 (arg23.view.read (Elt F) G) :=
  read_rows arg23.view G (T := k0_t9_loop.trips) (by decide +kernel) 1024 128 _ (k0_off35) k0_off35_eq k0_off35_inb
    (fun k f => k0_pay74 v219 v226 v228 v230 v231 (arg23.view.readAt (Elt F) (Rect.unit (s := S32x32x1280) (k0_off35 k) S1x32x1024.size (k0_off35_inb k)).toLoadRect f)) rfl
    (fun k => by rw [pb_k0_t9_succ, t9_trip]; rfl) _
    (fun k f hf => by
      show k0_pay74 v219 v226 v228 v230 v231 _ = _
      rw [readAt_row arg23.view f (T := k0_t9_loop.trips) (by decide +kernel) k 1024 128 (by decide) (k0_off35_eq k)]
      exact congrArg _ (rowOf_congr 1024 128 (by decide) _ _ _ hf))

set_option maxHeartbeats 400000 in
/-- What part 16 of the body does to its buffers, and what it returns. -/
theorem part16_run (c : Dev nD) (i : grid0.Coords) (v219 : FVec F S32x1 .f32) (v226 : FVec F S32x1 .f32) (v228 : FVec F S32x1 .f32) (v230 : FVec F S32x1 .f32) (P : Vec F S1x32x3 .f32) (W : Vec F S1x32x288 .f32) (X : Vec F S32x32x1280 .f32) (E : Set ℕ) (K : (Σ' (_ : FVec F S32x288 .f32) (_ : IVec S1x1024 32), IVec S1x1024 32) → sProp 𝕄) :
    iprop(owns (c : Thread nD τ) arg7 fullShare P ∗ owns (c : Thread nD τ) arg8 fullShare W ∗ owns (c : Thread nD τ) arg23 fullShare X ∗ (∀ (v253 : FVec F S32x288 .f32) (v270 : IVec S1x1024 32) (v271 : IVec S1x1024 32) (Y : Vec F S32x32x1280 .f32), owns (c : Thread nD τ) arg7 fullShare P ∗ owns (c : Thread nD τ) arg8 fullShare W ∗ owns (c : Thread nD τ) arg23 fullShare Y ∗ ⌜v253 = k0_pay75 W ∧ v270 = k0_pay76 ∧ v271 = k0_pay77 ∧ Y = act9 v219 v226 v228 v230 (VecWindow.window P ![0, 0, 2] S1x32x1.size inb_S1x32x3_S1x32x1_0_0_2) X⌝ -∗ K ⟨v253, v270, v271⟩))
      ⊢ wp frame (wpE (defs₀ (F := F)) Variants.none c none) E (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v219 v226 v228 v230) K := by
  rw [k0_part16_eq_skeleton]
  unfold k0_part16_skel owns
  iintro ⟨⟨%f7, %h7, H7⟩, ⟨%f8, %h8, H8⟩, ⟨%f23, %h23, H23⟩, Hk⟩
  obtain rfl := h7
  obtain rfl := h8
  obtain rfl := h23
  sl_exec
  sl_step
  iapply Hk
  isplitl [H7]
  · iexists _; isplitr; swap; · iexact H7
    ipureintro; rfl
  isplitl [H8]
  · iexists _; isplitr; swap; · iexact H8
    ipureintro; rfl
  isplitl [H23]
  · iexists _; isplitr; swap; · iexact H23
    ipureintro; rfl
  ipureintro
  refine ⟨by rw [View.readAt_full], rfl, rfl, ?_⟩
  rw [t9_rows]
  rfl

end Cert.Proof

end
-- ==== Proof.Part17.lean ====
/- The fourth convolution and its statistics. -/
module

public import proofs.«01_k».proof.Proof.Gen.KernelIdeal.Loops
public import proofs.«01_k».proof.Proof.Rows
public import proofs.«01_k».proof.Proof.Stages

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

set_option maxHeartbeats 1000000 in
theorem t10_trip (c : Dev nD) (i : grid0.Coords) (v253 : FVec F S32x288 .f32) (v270 : IVec S1x1024 32) (v271 : IVec S1x1024 32) (X : BufTy.Contents (Elt F) arg23.view.ty) (k : Fin k0_t10_loop.trips) :
    tripL_k0_t10 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v253 v270 v271 X k
      = [⟨(Rect.unit (s := S32x32x1280) (k0_off40 k) S1x32x1024.size (k0_off40_inb k)), k0_pay80 v253 (k0_pay18 (k0_pay78 (F := F) v270 v271) (k0_pay79 (F := F) v270) (arg23.view.readAt (Elt F) (Rect.unit (s := S32x32x1280) (k0_off36 k) S1x32x1024.size (k0_off36_inb k)).toLoadRect X) (arg23.view.readAt (Elt F) (Rect.unit (s := S32x32x1280) (k0_off37 k) S1x32x1024.size (k0_off37_inb k)).toLoadRect X) (arg23.view.readAt (Elt F) (Rect.unit (s := S32x32x1280) (k0_off38 k) S1x32x1024.size (k0_off38_inb k)).toLoadRect X) (arg23.view.readAt (Elt F) (Rect.unit (s := S32x32x1280) (k0_off39 k) S1x32x1024.size (k0_off39_inb k)).toLoadRect X) (arg23.view.readAt (Elt F) (Rect.unit (s := S32x32x1280) (k0_off40 k) S1x32x1024.size (k0_off40_inb k)).toLoadRect X) (arg23.view.readAt (Elt F) (Rect.unit (s := S32x32x1280) (k0_off41 k) S1x32x1024.size (k0_off41_inb k)).toLoadRect X) (arg23.view.readAt (Elt F) (Rect.unit (s := S32x32x1280) (k0_off42 k) S1x32x1024.size (k0_off42_inb k)).toLoadRect X) (arg23.view.readAt (Elt F) (Rect.unit (s := S32x32x1280) (k0_off43 k) S1x32x1024.size (k0_off43_inb k)).toLoadRect X) (arg23.view.readAt (Elt F) (Rect.unit (s := S32x32x1280) (k0_off44 k) S1x32x1024.size (k0_off44_inb k)).toLoadRect X)) (constant S32x1024 .f32 0x00000000#32)⟩] := by
  unfold tripL_k0_t10 trip_k0_t10
  rfl

set_option maxHeartbeats 1000000 in
/-- Loop 10 writes the convolution of its source into every row of its target. -/
theorem t10_rows (c : Dev nD) (i : grid0.Coords) (v253 : FVec F S32x288 .f32) (v270 : IVec S1x1024 32) (v271 : IVec S1x1024 32) (X : BufTy.Contents (Elt F) arg23.view.ty) (G : BufTy.Contents (Elt F) arg24.view.ty) :
    arg24.view.read (Elt F) (arg24.view.writes (Elt F) G (pb_k0_t10 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v253 v270 v271 X (Scf.trips k0_t10_loop.lb k0_t10_loop.ub k0_t10_loop.st)))
      = rowsPut 1024 128 (arg24.view.read (Elt F) G) (conv10 v253 v270 v271 (arg23.view.read (Elt F) X)) :=
  read_rows arg24.view G (T := k0_t10_loop.trips) (by decide +kernel) 1024 128 _ (k0_off40) k0_off40_eq k0_off40_inb
    (fun k _ => k0_pay80 v253 (k0_pay18 (k0_pay78 (F := F) v270 v271) (k0_pay79 (F := F) v270) (arg23.view.readAt (Elt F) (Rect.unit (s := S32x32x1280) (k0_off36 k) S1x32x1024.size (k0_off36_inb k)).toLoadRect X) (arg23.view.readAt (Elt F) (Rect.unit (s := S32x32x1280) (k0_off37 k) S1x32x1024.size (k0_off37_inb k)).toLoadRect X) (arg23.view.readAt (Elt F) (Rect.unit (s := S32x32x1280) (k0_off38 k) S1x32x1024.size (k0_off38_inb k)).toLoadRect X) (arg23.view.readAt (Elt F) (Rect.unit (s := S32x32x1280) (k0_off39 k) S1x32x1024.size (k0_off39_inb k)).toLoadRect X) (arg23.view.readAt (Elt F) (Rect.unit (s := S32x32x1280) (k0_off40 k) S1x32x1024.size (k0_off40_inb k)).toLoadRect X) (arg23.view.readAt (Elt F) (Rect.unit (s := S32x32x1280) (k0_off41 k) S1x32x1024.size (k0_off41_inb k)).toLoadRect X) (arg23.view.readAt (Elt F) (Rect.unit (s := S32x32x1280) (k0_off42 k) S1x32x1024.size (k0_off42_inb k)).toLoadRect X) (arg23.view.readAt (Elt F) (Rect.unit (s := S32x32x1280) (k0_off43 k) S1x32x1024.size (k0_off43_inb k)).toLoadRect X) (arg23.view.readAt (Elt F) (Rect.unit (s := S32x32x1280) (k0_off44 k) S1x32x1024.size (k0_off44_inb k)).toLoadRect X)) (constant S32x1024 .f32 0x00000000#32)) rfl
    (fun k => by rw [pb_k0_t10_succ, t10_trip]; rfl) _
    (fun k f hf => by
      show k0_pay80 v253 (k0_pay18 (k0_pay78 (F := F) v270 v271) (k0_pay79 (F := F) v270) (arg23.view.readAt (Elt F) (Rect.unit (s := S32x32x1280) (k0_off36 k) S1x32x1024.size (k0_off36_inb k)).toLoadRect X) (arg23.view.readAt (Elt F) (Rect.unit (s := S32x32x1280) (k0_off37 k) S1x32x1024.size (k0_off37_inb k)).toLoadRect X) (arg23.view.readAt (Elt F) (Rect.unit (s := S32x32x1280) (k0_off38 k) S1x32x1024.size (k0_off38_inb k)).toLoadRect X) (arg23.view.readAt (Elt F) (Rect.unit (s := S32x32x1280) (k0_off39 k) S1x32x1024.size (k0_off39_inb k)).toLoadRect X) (arg23.view.readAt (Elt F) (Rect.unit (s := S32x32x1280) (k0_off40 k) S1x32x1024.size (k0_off40_inb k)).toLoadRect X) (arg23.view.readAt (Elt F) (Rect.unit (s := S32x32x1280) (k0_off41 k) S1x32x1024.size (k0_off41_inb k)).toLoadRect X) (arg23.view.readAt (Elt F) (Rect.unit (s := S32x32x1280) (k0_off42 k) S1x32x1024.size (k0_off42_inb k)).toLoadRect X) (arg23.view.readAt (Elt F) (Rect.unit (s := S32x32x1280) (k0_off43 k) S1x32x1024.size (k0_off43_inb k)).toLoadRect X) (arg23.view.readAt (Elt F) (Rect.unit (s := S32x32x1280) (k0_off44 k) S1x32x1024.size (k0_off44_inb k)).toLoadRect X)) (constant S32x1024 .f32 0x00000000#32) = _
      rw [readAt_row arg23.view X (T := k0_t10_loop.trips) (by decide +kernel) k 1024 95 (by decide) (k0_off36_eq k), readAt_row arg23.view X (T := k0_t10_loop.trips) (by decide +kernel) k 1024 96 (by decide) (k0_off37_eq k), readAt_row arg23.view X (T := k0_t10_loop.trips) (by decide +kernel) k 1024 97 (by decide) (k0_off38_eq k), readAt_row arg23.view X (T := k0_t10_loop.trips) (by decide +kernel) k 1024 127 (by decide) (k0_off39_eq k), readAt_row arg23.view X (T := k0_t10_loop.trips) (by decide +kernel) k 1024 128 (by decide) (k0_off40_eq k), readAt_row arg23.view X (T := k0_t10_loop.trips) (by decide +kernel) k 1024 129 (by decide) (k0_off41_eq k), readAt_row arg23.view X (T := k0_t10_loop.trips) (by decide +kernel) k 1024 159 (by decide) (k0_off42_eq k), readAt_row arg23.view X (T := k0_t10_loop.trips) (by decide +kernel) k 1024 160 (by decide) (k0_off43_eq k), readAt_row arg23.view X (T := k0_t10_loop.trips) (by decide +kernel) k 1024 161 (by decide) (k0_off44_eq k)]
      rfl)

theorem t11_trip (c : Dev nD) (i : grid0.Coords) (v253 : FVec F S32x288 .f32) (v270 : IVec S1x1024 32) (v271 : IVec S1x1024 32) (k : Fin k0_t11_loop.trips) (f : BufTy.Contents (Elt F) arg24.view.ty) (acc : FVec F S32x1 .f32 × FVec F S32x1 .f32) :
    tripR_k0_t11 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v253 v270 v271 f k acc
      = (k0_pay83 acc.1 (arg24.view.readAt (Elt F) (Rect.unit (s := S32x32x1280) (k0_off45 k) S1x32x1024.size (k0_off45_inb k)).toLoadRect f), k0_pay84 acc.2 (arg24.view.readAt (Elt F) (Rect.unit (s := S32x32x1280) (k0_off45 k) S1x32x1024.size (k0_off45_inb k)).toLoadRect f)) := by
  unfold tripR_k0_t11 trip_k0_t11
  rfl

/-- Loop 11 carries the two running sums of what its buffer reads. -/
theorem t11_sums (c : Dev nD) (i : grid0.Coords) (v253 : FVec F S32x288 .f32) (v270 : IVec S1x1024 32) (v271 : IVec S1x1024 32) (f : BufTy.Contents (Elt F) arg24.view.ty) (z : FVec F S32x1 .f32) :
    st_k0_t11 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v253 v270 v271 f (z, z) (Scf.trips k0_t11_loop.lb k0_t11_loop.ub k0_t11_loop.st)
      = sums11 (arg24.view.read (Elt F) f) z :=
  foldRows_of_succ (T := k0_t11_loop.trips) (by decide +kernel) _ _ _ rfl fun k => by
    rw [st_k0_t11_succ, t11_trip, readAt_row arg24.view f (T := k0_t11_loop.trips) (by decide +kernel) k 1024 128 (by decide) (k0_off45_eq k)]

set_option maxHeartbeats 400000 in
/-- What part 17 of the body does to its buffers, and what it returns. -/
theorem part17_run (c : Dev nD) (i : grid0.Coords) (v253 : FVec F S32x288 .f32) (v270 : IVec S1x1024 32) (v271 : IVec S1x1024 32) (P : Vec F S1x32x3 .f32) (X : Vec F S32x32x1280 .f32) (Y : Vec F S32x32x1280 .f32) (E : Set ℕ) (K : (Σ' (_ : FVec F S32x1 .f32) (_ : FVec F S32x1 .f32) (_ : FVec F S32x1 .f32) (_ : FVec F S32x1 .f32) (_ : FVec F S32x1 .f32) (_ : FVec F S32x1 .f32), FVec F S32x1 .f32) → sProp 𝕄) :
    iprop(owns (c : Thread nD τ) arg9 fullShare P ∗ owns (c : Thread nD τ) arg23 fullShare X ∗ owns (c : Thread nD τ) arg24 fullShare Y ∗ (∀ (v284 : FVec F S32x1 .f32) (v291 : FVec F S32x1 .f32) (v293 : FVec F S32x1 .f32) (v295 : FVec F S32x1 .f32) (v297 : FVec F S32x1 .f32) (v301 : FVec F S32x1 .f32) (v306 : FVec F S32x1 .f32) (Y1 : Vec F S32x32x1280 .f32), owns (c : Thread nD τ) arg9 fullShare P ∗ owns (c : Thread nD τ) arg23 fullShare X ∗ owns (c : Thread nD τ) arg24 fullShare Y1 ∗ ⌜v284 = k0_pay85 (sums11 Y1 (k0_pay81 (F := F))).1 ∧ v291 = k0_pay86 (sums11 Y1 (k0_pay81 (F := F))).1 (sums11 Y1 (k0_pay81 (F := F))).2 ∧ v293 = k0_pay87 (VecWindow.window P ![0, 0, 0] S1x32x1.size inb_S1x32x3_S1x32x1_0_0_0) ∧ v295 = k0_pay88 (VecWindow.window P ![0, 0, 1] S1x32x1.size inb_S1x32x3_S1x32x1_0_0_1) ∧ v297 = k0_pay89 (VecWindow.window P ![0, 0, 2] S1x32x1.size inb_S1x32x3_S1x32x1_0_0_2) ∧ v301 = k0_pay90 (sums11 Y1 (k0_pay81 (F := F))).1 (sums11 Y1 (k0_pay81 (F := F))).2 (VecWindow.window P ![0, 0, 2] S1x32x1.size inb_S1x32x3_S1x32x1_0_0_2) ∧ v306 = k0_pay91 (sums11 Y1 (k0_pay81 (F := F))).1 (sums11 Y1 (k0_pay81 (F := F))).2 (VecWindow.window P ![0, 0, 1] S1x32x1.size inb_S1x32x3_S1x32x1_0_0_1) (VecWindow.window P ![0, 0, 2] S1x32x1.size inb_S1x32x3_S1x32x1_0_0_2) ∧ Y1 = rowsPut 1024 128 Y (conv10 v253 v270 v271 X)⌝ -∗ K ⟨v284, v291, v293, v295, v297, v301, v306⟩))
      ⊢ wp frame (wpE (defs₀ (F := F)) Variants.none c none) E (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v253 v270 v271) K := by
  rw [k0_part17_eq_skeleton]
  unfold k0_part17_skel owns
  iintro ⟨⟨%f9, %h9, H9⟩, ⟨%f23, %h23, H23⟩, ⟨%f24, %h24, H24⟩, Hk⟩
  obtain rfl := h9
  obtain rfl := h23
  obtain rfl := h24
  sl_exec
  sl_step
  iapply Hk
  isplitl [H9]
  · iexists _; isplitr; swap; · iexact H9
    ipureintro; rfl
  isplitl [H23]
  · iexists _; isplitr; swap; · iexact H23
    ipureintro; rfl
  isplitl [H24]
  · iexists _; isplitr; swap; · iexact H24
    ipureintro; rfl
  ipureintro
  refine ⟨by rw [t11_sums], by rw [t11_sums], rfl, rfl, rfl, by rw [t11_sums]; rfl, by rw [t11_sums]; rfl, ?_⟩
  rw [t10_rows]

end Cert.Proof

end
-- ==== Proof.Part18.lean ====
/- The fourth activation and the fifth convolution. -/
module

public import proofs.«01_k».proof.Proof.Gen.KernelIdeal.Loops
public import proofs.«01_k».proof.Proof.Rows
public import proofs.«01_k».proof.Proof.Stages

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

theorem t12_trip (c : Dev nD) (i : grid0.Coords) (v56 : FVec F S2x512x128 .bf16) (v284 : FVec F S32x1 .f32) (v291 : FVec F S32x1 .f32) (v293 : FVec F S32x1 .f32) (v295 : FVec F S32x1 .f32) (v297 : FVec F S32x1 .f32) (v301 : FVec F S32x1 .f32) (v306 : FVec F S32x1 .f32) (k : Fin k0_t12_loop.trips) (f : BufTy.Contents (Elt F) arg24.view.ty) :
    tripL_k0_t12 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v56 v284 v291 v293 v295 v297 v301 v306 k f
      = [⟨(Rect.unit (s := S32x32x1280) (k0_off46 k) S1x32x1024.size (k0_off46_inb k)), k0_pay92 v284 v291 v293 v295 v297 v301 v306 (arg24.view.readAt (Elt F) (Rect.unit (s := S32x32x1280) (k0_off46 k) S1x32x1024.size (k0_off46_inb k)).toLoadRect f)⟩] := by
  unfold tripL_k0_t12 trip_k0_t12
  rfl

/-- Loop 12 rewrites every row of its buffer in place. -/
theorem t12_rows (c : Dev nD) (i : grid0.Coords) (v56 : FVec F S2x512x128 .bf16) (v284 : FVec F S32x1 .f32) (v291 : FVec F S32x1 .f32) (v293 : FVec F S32x1 .f32) (v295 : FVec F S32x1 .f32) (v297 : FVec F S32x1 .f32) (v301 : FVec F S32x1 .f32) (v306 : FVec F S32x1 .f32) (G : BufTy.Contents (Elt F) arg24.view.ty) :
    arg24.view.read (Elt F) (arg24.view.writes (Elt F) G (pb_k0_t12 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v56 v284 v291 v293 v295 v297 v301 v306 G (Scf.trips k0_t12_loop.lb k0_t12_loop.ub k0_t12_loop.st)))
      = act12 v284 v291 v293 v295 v297 v301 v306 (arg24.view.read (Elt F) G) :=
  read_rows arg24.view G (T := k0_t12_loop.trips) (by decide +kernel) 1024 128 _ (k0_off46) k0_off46_eq k0_off46_inb
    (fun k f => k0_pay92 v284 v291 v293 v295 v297 v301 v306 (arg24.view.readAt (Elt F) (Rect.unit (s := S32x32x1280) (k0_off46 k) S1x32x1024.size (k0_off46_inb k)).toLoadRect f)) rfl
    (fun k => by rw [pb_k0_t12_succ, t12_trip]; rfl) _
    (fun k f hf => by
      show k0_pay92 v284 v291 v293 v295 v297 v301 v306 _ = _
      rw [readAt_row arg24.view f (T := k0_t12_loop.trips) (by decide +kernel) k 1024 128 (by decide) (k0_off46_eq k)]
      exact congrArg _ (rowOf_congr 1024 128 (by decide) _ _ _ hf))

set_option maxHeartbeats 1000000 in
theorem t13_trip (c : Dev nD) (i : grid0.Coords) (v56 : FVec F S2x512x128 .bf16) (v284 : FVec F S32x1 .f32) (v291 : FVec F S32x1 .f32) (v293 : FVec F S32x1 .f32) (v295 : FVec F S32x1 .f32) (v297 : FVec F S32x1 .f32) (v301 : FVec F S32x1 .f32) (v306 : FVec F S32x1 .f32) (v317 : Vec F S1x64x288 .f32) (X : BufTy.Contents (Elt F) arg24.view.ty) (k : Fin k0_t13_loop.trips) :
    tripL_k0_t13 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v56 v284 v291 v293 v295 v297 v301 v306 v317 X k
      = [⟨(Rect.unit (s := S32x64x512) (k0_off56 k) S1x64x256.size (k0_off56_inb k)), k0_pay96 v56 v317 (k0_pay19 (k0_pay94 (F := F)) (k0_pay95 (F := F)) (arg24.view.readAt (Elt F) (Rect.unit (s := S32x32x1280) (k0_off47 k) S1x32x1024.size (k0_off47_inb k)).toLoadRect X) (arg24.view.readAt (Elt F) (Rect.unit (s := S32x32x1280) (k0_off48 k) S1x32x1024.size (k0_off48_inb k)).toLoadRect X) (arg24.view.readAt (Elt F) (Rect.unit (s := S32x32x1280) (k0_off49 k) S1x32x1024.size (k0_off49_inb k)).toLoadRect X) (arg24.view.readAt (Elt F) (Rect.unit (s := S32x32x1280) (k0_off50 k) S1x32x1024.size (k0_off50_inb k)).toLoadRect X) (arg24.view.readAt (Elt F) (Rect.unit (s := S32x32x1280) (k0_off51 k) S1x32x1024.size (k0_off51_inb k)).toLoadRect X) (arg24.view.readAt (Elt F) (Rect.unit (s := S32x32x1280) (k0_off52 k) S1x32x1024.size (k0_off52_inb k)).toLoadRect X) (arg24.view.readAt (Elt F) (Rect.unit (s := S32x32x1280) (k0_off53 k) S1x32x1024.size (k0_off53_inb k)).toLoadRect X) (arg24.view.readAt (Elt F) (Rect.unit (s := S32x32x1280) (k0_off54 k) S1x32x1024.size (k0_off54_inb k)).toLoadRect X) (arg24.view.readAt (Elt F) (Rect.unit (s := S32x32x1280) (k0_off55 k) S1x32x1024.size (k0_off55_inb k)).toLoadRect X)) (constant S64x1024 .f32 0x00000000#32)⟩] := by
  unfold tripL_k0_t13 trip_k0_t13
  rfl

set_option maxHeartbeats 1000000 in
/-- Loop 13 writes the convolution of its source into every row of its target. -/
theorem t13_rows (c : Dev nD) (i : grid0.Coords) (v56 : FVec F S2x512x128 .bf16) (v284 : FVec F S32x1 .f32) (v291 : FVec F S32x1 .f32) (v293 : FVec F S32x1 .f32) (v295 : FVec F S32x1 .f32) (v297 : FVec F S32x1 .f32) (v301 : FVec F S32x1 .f32) (v306 : FVec F S32x1 .f32) (v317 : Vec F S1x64x288 .f32) (X : BufTy.Contents (Elt F) arg24.view.ty) (G : BufTy.Contents (Elt F) arg25.view.ty) :
    arg25.view.read (Elt F) (arg25.view.writes (Elt F) G (pb_k0_t13 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v56 v284 v291 v293 v295 v297 v301 v306 v317 X (Scf.trips k0_t13_loop.lb k0_t13_loop.ub k0_t13_loop.st)))
      = rowsPut 256 128 (arg25.view.read (Elt F) G) (conv13 v56 v317 (arg24.view.read (Elt F) X)) :=
  read_rows arg25.view G (T := k0_t13_loop.trips) (by decide +kernel) 256 128 _ (k0_off56) k0_off56_eq k0_off56_inb
    (fun k _ => k0_pay96 v56 v317 (k0_pay19 (k0_pay94 (F := F)) (k0_pay95 (F := F)) (arg24.view.readAt (Elt F) (Rect.unit (s := S32x32x1280) (k0_off47 k) S1x32x1024.size (k0_off47_inb k)).toLoadRect X) (arg24.view.readAt (Elt F) (Rect.unit (s := S32x32x1280) (k0_off48 k) S1x32x1024.size (k0_off48_inb k)).toLoadRect X) (arg24.view.readAt (Elt F) (Rect.unit (s := S32x32x1280) (k0_off49 k) S1x32x1024.size (k0_off49_inb k)).toLoadRect X) (arg24.view.readAt (Elt F) (Rect.unit (s := S32x32x1280) (k0_off50 k) S1x32x1024.size (k0_off50_inb k)).toLoadRect X) (arg24.view.readAt (Elt F) (Rect.unit (s := S32x32x1280) (k0_off51 k) S1x32x1024.size (k0_off51_inb k)).toLoadRect X) (arg24.view.readAt (Elt F) (Rect.unit (s := S32x32x1280) (k0_off52 k) S1x32x1024.size (k0_off52_inb k)).toLoadRect X) (arg24.view.readAt (Elt F) (Rect.unit (s := S32x32x1280) (k0_off53 k) S1x32x1024.size (k0_off53_inb k)).toLoadRect X) (arg24.view.readAt (Elt F) (Rect.unit (s := S32x32x1280) (k0_off54 k) S1x32x1024.size (k0_off54_inb k)).toLoadRect X) (arg24.view.readAt (Elt F) (Rect.unit (s := S32x32x1280) (k0_off55 k) S1x32x1024.size (k0_off55_inb k)).toLoadRect X)) (constant S64x1024 .f32 0x00000000#32)) rfl
    (fun k => by rw [pb_k0_t13_succ, t13_trip]; rfl) _
    (fun k f hf => by
      show k0_pay96 v56 v317 (k0_pay19 (k0_pay94 (F := F)) (k0_pay95 (F := F)) (arg24.view.readAt (Elt F) (Rect.unit (s := S32x32x1280) (k0_off47 k) S1x32x1024.size (k0_off47_inb k)).toLoadRect X) (arg24.view.readAt (Elt F) (Rect.unit (s := S32x32x1280) (k0_off48 k) S1x32x1024.size (k0_off48_inb k)).toLoadRect X) (arg24.view.readAt (Elt F) (Rect.unit (s := S32x32x1280) (k0_off49 k) S1x32x1024.size (k0_off49_inb k)).toLoadRect X) (arg24.view.readAt (Elt F) (Rect.unit (s := S32x32x1280) (k0_off50 k) S1x32x1024.size (k0_off50_inb k)).toLoadRect X) (arg24.view.readAt (Elt F) (Rect.unit (s := S32x32x1280) (k0_off51 k) S1x32x1024.size (k0_off51_inb k)).toLoadRect X) (arg24.view.readAt (Elt F) (Rect.unit (s := S32x32x1280) (k0_off52 k) S1x32x1024.size (k0_off52_inb k)).toLoadRect X) (arg24.view.readAt (Elt F) (Rect.unit (s := S32x32x1280) (k0_off53 k) S1x32x1024.size (k0_off53_inb k)).toLoadRect X) (arg24.view.readAt (Elt F) (Rect.unit (s := S32x32x1280) (k0_off54 k) S1x32x1024.size (k0_off54_inb k)).toLoadRect X) (arg24.view.readAt (Elt F) (Rect.unit (s := S32x32x1280) (k0_off55 k) S1x32x1024.size (k0_off55_inb k)).toLoadRect X)) (constant S64x1024 .f32 0x00000000#32) = _
      rw [readAt_row arg24.view X (T := k0_t13_loop.trips) (by decide +kernel) k 1024 95 (by decide) (k0_off47_eq k), readAt_row arg24.view X (T := k0_t13_loop.trips) (by decide +kernel) k 1024 96 (by decide) (k0_off48_eq k), readAt_row arg24.view X (T := k0_t13_loop.trips) (by decide +kernel) k 1024 97 (by decide) (k0_off49_eq k), readAt_row arg24.view X (T := k0_t13_loop.trips) (by decide +kernel) k 1024 127 (by decide) (k0_off50_eq k), readAt_row arg24.view X (T := k0_t13_loop.trips) (by decide +kernel) k 1024 128 (by decide) (k0_off51_eq k), readAt_row arg24.view X (T := k0_t13_loop.trips) (by decide +kernel) k 1024 129 (by decide) (k0_off52_eq k), readAt_row arg24.view X (T := k0_t13_loop.trips) (by decide +kernel) k 1024 159 (by decide) (k0_off53_eq k), readAt_row arg24.view X (T := k0_t13_loop.trips) (by decide +kernel) k 1024 160 (by decide) (k0_off54_eq k), readAt_row arg24.view X (T := k0_t13_loop.trips) (by decide +kernel) k 1024 161 (by decide) (k0_off55_eq k)]
      rfl)

set_option maxHeartbeats 400000 in
/-- What part 18 of the body does to its buffers, and what it returns. -/
theorem part18_run (c : Dev nD) (i : grid0.Coords) (v56 : FVec F S2x512x128 .bf16) (v284 : FVec F S32x1 .f32) (v291 : FVec F S32x1 .f32) (v293 : FVec F S32x1 .f32) (v295 : FVec F S32x1 .f32) (v297 : FVec F S32x1 .f32) (v301 : FVec F S32x1 .f32) (v306 : FVec F S32x1 .f32) (W : Vec F S1x64x288 .f32) (X : Vec F S32x32x1280 .f32) (Y : Vec F S32x64x512 .f32) (E : Set ℕ) (K : PUnit → sProp 𝕄) :
    iprop(owns (c : Thread nD τ) arg10 fullShare W ∗ owns (c : Thread nD τ) arg24 fullShare X ∗ owns (c : Thread nD τ) arg25 fullShare Y ∗ (∀ (X1 : Vec F S32x32x1280 .f32) (Y1 : Vec F S32x64x512 .f32), owns (c : Thread nD τ) arg10 fullShare W ∗ owns (c : Thread nD τ) arg24 fullShare X1 ∗ owns (c : Thread nD τ) arg25 fullShare Y1 ∗ ⌜X1 = act12 v284 v291 v293 v295 v297 v301 v306 X ∧ Y1 = rowsPut 256 128 Y (conv13 v56 W X1)⌝ -∗ K ⟨⟩))
      ⊢ wp frame (wpE (defs₀ (F := F)) Variants.none c none) E (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v56 v284 v291 v293 v295 v297 v301 v306) K := by
  rw [k0_part18_eq_skeleton]
  unfold k0_part18_skel owns
  iintro ⟨⟨%f10, %h10, H10⟩, ⟨%f24, %h24, H24⟩, ⟨%f25, %h25, H25⟩, Hk⟩
  obtain rfl := h10
  obtain rfl := h24
  obtain rfl := h25
  sl_exec
  sl_step
  iapply Hk
  isplitl [H10]
  · iexists _; isplitr; swap; · iexact H10
    ipureintro; rfl
  isplitl [H24]
  · iexists _; isplitr; swap; · iexact H24
    ipureintro; rfl
  isplitl [H25]
  · iexists _; isplitr; swap; · iexact H25
    ipureintro; rfl
  ipureintro
  refine ⟨by rw [t12_rows], ?_⟩
  rw [t13_rows, View.readAt_full]

end Cert.Proof

end
-- ==== Proof.Part19.lean ====
/- The statistics of the fifth layer. -/
module

public import proofs.«01_k».proof.Proof.Gen.KernelIdeal.Loops
public import proofs.«01_k».proof.Proof.Rows
public import proofs.«01_k».proof.Proof.Stages

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

theorem t14_trip (c : Dev nD) (i : grid0.Coords)  (k : Fin k0_t14_loop.trips) (f : BufTy.Contents (Elt F) arg25.view.ty) (acc : FVec F S64x1 .f32 × FVec F S64x1 .f32) :
    tripR_k0_t14 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  f k acc
      = (k0_pay99 acc.1 (arg25.view.readAt (Elt F) (Rect.unit (s := S32x64x512) (k0_off57 k) S1x64x256.size (k0_off57_inb k)).toLoadRect f), k0_pay100 acc.2 (arg25.view.readAt (Elt F) (Rect.unit (s := S32x64x512) (k0_off57 k) S1x64x256.size (k0_off57_inb k)).toLoadRect f)) := by
  unfold tripR_k0_t14 trip_k0_t14
  rfl

/-- Loop 14 carries the two running sums of what its buffer reads. -/
theorem t14_sums (c : Dev nD) (i : grid0.Coords)  (f : BufTy.Contents (Elt F) arg25.view.ty) (z : FVec F S64x1 .f32) :
    st_k0_t14 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  f (z, z) (Scf.trips k0_t14_loop.lb k0_t14_loop.ub k0_t14_loop.st)
      = sums14 (arg25.view.read (Elt F) f) z :=
  foldRows_of_succ (T := k0_t14_loop.trips) (by decide +kernel) _ _ _ rfl fun k => by
    rw [st_k0_t14_succ, t14_trip, readAt_row arg25.view f (T := k0_t14_loop.trips) (by decide +kernel) k 256 128 (by decide) (k0_off57_eq k)]

set_option maxHeartbeats 400000 in
/-- What part 19 of the body does to its buffers, and what it returns. -/
theorem part19_run (c : Dev nD) (i : grid0.Coords)  (P : Vec F S1x64x3 .f32) (X : Vec F S32x64x512 .f32)  (E : Set ℕ) (K : (Σ' (_ : FVec F S64x1 .f32) (_ : FVec F S64x1 .f32) (_ : FVec F S64x1 .f32) (_ : BitVec 32), BitVec 32) → sProp 𝕄) :
    iprop(owns (c : Thread nD τ) arg11 fullShare P ∗ owns (c : Thread nD τ) arg25 fullShare X ∗ (∀ (v366 : FVec F S64x1 .f32) (v371 : FVec F S64x1 .f32) (v380 : FVec F S64x1 .f32) (p : BitVec 32) (q : BitVec 32), owns (c : Thread nD τ) arg11 fullShare P ∗ owns (c : Thread nD τ) arg25 fullShare X ∗ ⌜v366 = k0_pay105 (sums14 X (k0_pay97 (F := F))).1 (sums14 X (k0_pay97 (F := F))).2 (VecWindow.window P ![0, 0, 2] S1x64x1.size inb_S1x64x3_S1x64x1_0_0_2) ∧ v371 = k0_pay106 (sums14 X (k0_pay97 (F := F))).1 (sums14 X (k0_pay97 (F := F))).2 (VecWindow.window P ![0, 0, 1] S1x64x1.size inb_S1x64x3_S1x64x1_0_0_1) (VecWindow.window P ![0, 0, 2] S1x64x1.size inb_S1x64x3_S1x64x1_0_0_2) ∧ v380 = k0_pay107 (sums14 X (k0_pay97 (F := F))).1 (sums14 X (k0_pay97 (F := F))).2 (VecWindow.window P ![0, 0, 0] S1x64x1.size inb_S1x64x3_S1x64x1_0_0_0) (VecWindow.window P ![0, 0, 1] S1x64x1.size inb_S1x64x3_S1x64x1_0_0_1) (VecWindow.window P ![0, 0, 2] S1x64x1.size inb_S1x64x3_S1x64x1_0_0_2)⌝ -∗ K ⟨v366, v371, v380, p, q⟩))
      ⊢ wp frame (wpE (defs₀ (F := F)) Variants.none c none) E (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ) K := by
  rw [k0_part19_eq_skeleton]
  unfold k0_part19_skel owns
  iintro ⟨⟨%f11, %h11, H11⟩, ⟨%f25, %h25, H25⟩, Hk⟩
  obtain rfl := h11
  obtain rfl := h25
  sl_exec
  sl_step
  iapply Hk
  isplitl [H11]
  · iexists _; isplitr; swap; · iexact H11
    ipureintro; rfl
  isplitl [H25]
  · iexists _; isplitr; swap; · iexact H25
    ipureintro; rfl
  ipureintro
  refine ⟨by rw [t14_sums]; rfl, by rw [t14_sums]; rfl, by rw [t14_sums]; rfl⟩

end Cert.Proof

end
-- ==== Proof.Part20.lean ====
/- The fifth activation, the sixth convolution and its statistics. -/
module

public import proofs.«01_k».proof.Proof.Gen.KernelIdeal.Loops
public import proofs.«01_k».proof.Proof.Rows
public import proofs.«01_k».proof.Proof.Stages

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

theorem t15_trip (c : Dev nD) (i : grid0.Coords) (v366 : FVec F S64x1 .f32) (v371 : FVec F S64x1 .f32) (v380 : FVec F S64x1 .f32) (c0_i32_238 : BitVec 32) (c1_i32_240 : BitVec 32) (k : Fin k0_t15_loop.trips) (f : BufTy.Contents (Elt F) arg25.view.ty) :
    tripL_k0_t15 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v366 v371 v380 c0_i32_238 c1_i32_240 k f
      = [⟨(Rect.unit (s := S32x64x512) (k0_off58 k) S1x64x256.size (k0_off58_inb k)), k0_pay108 v366 v371 v380 (arg25.view.readAt (Elt F) (Rect.unit (s := S32x64x512) (k0_off58 k) S1x64x256.size (k0_off58_inb k)).toLoadRect f)⟩] := by
  unfold tripL_k0_t15 trip_k0_t15
  rfl

/-- Loop 15 rewrites every row of its buffer in place. -/
theorem t15_rows (c : Dev nD) (i : grid0.Coords) (v366 : FVec F S64x1 .f32) (v371 : FVec F S64x1 .f32) (v380 : FVec F S64x1 .f32) (c0_i32_238 : BitVec 32) (c1_i32_240 : BitVec 32) (G : BufTy.Contents (Elt F) arg25.view.ty) :
    arg25.view.read (Elt F) (arg25.view.writes (Elt F) G (pb_k0_t15 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v366 v371 v380 c0_i32_238 c1_i32_240 G (Scf.trips k0_t15_loop.lb k0_t15_loop.ub k0_t15_loop.st)))
      = act15 v366 v371 v380 (arg25.view.read (Elt F) G) :=
  read_rows arg25.view G (T := k0_t15_loop.trips) (by decide +kernel) 256 128 _ (k0_off58) k0_off58_eq k0_off58_inb
    (fun k f => k0_pay108 v366 v371 v380 (arg25.view.readAt (Elt F) (Rect.unit (s := S32x64x512) (k0_off58 k) S1x64x256.size (k0_off58_inb k)).toLoadRect f)) rfl
    (fun k => by rw [pb_k0_t15_succ, t15_trip]; rfl) _
    (fun k f hf => by
      show k0_pay108 v366 v371 v380 _ = _
      rw [readAt_row arg25.view f (T := k0_t15_loop.trips) (by decide +kernel) k 256 128 (by decide) (k0_off58_eq k)]
      exact congrArg _ (rowOf_congr 256 128 (by decide) _ _ _ hf))

set_option maxHeartbeats 1000000 in
theorem t16_trip (c : Dev nD) (i : grid0.Coords) (v366 : FVec F S64x1 .f32) (v371 : FVec F S64x1 .f32) (v380 : FVec F S64x1 .f32) (c0_i32_238 : BitVec 32) (c1_i32_240 : BitVec 32) (v382 : Vec F S1x64x576 .f32) (X : BufTy.Contents (Elt F) arg25.view.ty) (k : Fin k0_t16_loop.trips) :
    tripL_k0_t16 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v366 v371 v380 c0_i32_238 c1_i32_240 v382 X k
      = [⟨(Rect.unit (s := S32x64x256) (k0_off68 k) S1x64x256.size (k0_off68_inb k)), k0_pay112 v382 (k0_pay20 (k0_pay110 (F := F)) (k0_pay111 (F := F)) (arg25.view.readAt (Elt F) (Rect.unit (s := S32x64x512) (k0_off59 k) S1x64x256.size (k0_off59_inb k)).toLoadRect X) (arg25.view.readAt (Elt F) (Rect.unit (s := S32x64x512) (k0_off60 k) S1x64x256.size (k0_off60_inb k)).toLoadRect X) (arg25.view.readAt (Elt F) (Rect.unit (s := S32x64x512) (k0_off61 k) S1x64x256.size (k0_off61_inb k)).toLoadRect X) (arg25.view.readAt (Elt F) (Rect.unit (s := S32x64x512) (k0_off62 k) S1x64x256.size (k0_off62_inb k)).toLoadRect X) (arg25.view.readAt (Elt F) (Rect.unit (s := S32x64x512) (k0_off63 k) S1x64x256.size (k0_off63_inb k)).toLoadRect X) (arg25.view.readAt (Elt F) (Rect.unit (s := S32x64x512) (k0_off64 k) S1x64x256.size (k0_off64_inb k)).toLoadRect X) (arg25.view.readAt (Elt F) (Rect.unit (s := S32x64x512) (k0_off65 k) S1x64x256.size (k0_off65_inb k)).toLoadRect X) (arg25.view.readAt (Elt F) (Rect.unit (s := S32x64x512) (k0_off66 k) S1x64x256.size (k0_off66_inb k)).toLoadRect X) (arg25.view.readAt (Elt F) (Rect.unit (s := S32x64x512) (k0_off67 k) S1x64x256.size (k0_off67_inb k)).toLoadRect X)) (constant S64x256 .f32 0x00000000#32)⟩] := by
  unfold tripL_k0_t16 trip_k0_t16
  rfl

set_option maxHeartbeats 1000000 in
/-- Loop 16 writes the convolution of its source into every row of its target. -/
theorem t16_rows (c : Dev nD) (i : grid0.Coords) (v366 : FVec F S64x1 .f32) (v371 : FVec F S64x1 .f32) (v380 : FVec F S64x1 .f32) (c0_i32_238 : BitVec 32) (c1_i32_240 : BitVec 32) (v382 : Vec F S1x64x576 .f32) (X : BufTy.Contents (Elt F) arg25.view.ty) (G : BufTy.Contents (Elt F) arg26.view.ty) :
    arg26.view.read (Elt F) (arg26.view.writes (Elt F) G (pb_k0_t16 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v366 v371 v380 c0_i32_238 c1_i32_240 v382 X (Scf.trips k0_t16_loop.lb k0_t16_loop.ub k0_t16_loop.st)))
      = rowsPut 256 0 (arg26.view.read (Elt F) G) (conv16 v382 (arg25.view.read (Elt F) X)) :=
  read_rows arg26.view G (T := k0_t16_loop.trips) (by decide +kernel) 256 0 _ (k0_off68) k0_off68_eq k0_off68_inb
    (fun k _ => k0_pay112 v382 (k0_pay20 (k0_pay110 (F := F)) (k0_pay111 (F := F)) (arg25.view.readAt (Elt F) (Rect.unit (s := S32x64x512) (k0_off59 k) S1x64x256.size (k0_off59_inb k)).toLoadRect X) (arg25.view.readAt (Elt F) (Rect.unit (s := S32x64x512) (k0_off60 k) S1x64x256.size (k0_off60_inb k)).toLoadRect X) (arg25.view.readAt (Elt F) (Rect.unit (s := S32x64x512) (k0_off61 k) S1x64x256.size (k0_off61_inb k)).toLoadRect X) (arg25.view.readAt (Elt F) (Rect.unit (s := S32x64x512) (k0_off62 k) S1x64x256.size (k0_off62_inb k)).toLoadRect X) (arg25.view.readAt (Elt F) (Rect.unit (s := S32x64x512) (k0_off63 k) S1x64x256.size (k0_off63_inb k)).toLoadRect X) (arg25.view.readAt (Elt F) (Rect.unit (s := S32x64x512) (k0_off64 k) S1x64x256.size (k0_off64_inb k)).toLoadRect X) (arg25.view.readAt (Elt F) (Rect.unit (s := S32x64x512) (k0_off65 k) S1x64x256.size (k0_off65_inb k)).toLoadRect X) (arg25.view.readAt (Elt F) (Rect.unit (s := S32x64x512) (k0_off66 k) S1x64x256.size (k0_off66_inb k)).toLoadRect X) (arg25.view.readAt (Elt F) (Rect.unit (s := S32x64x512) (k0_off67 k) S1x64x256.size (k0_off67_inb k)).toLoadRect X)) (constant S64x256 .f32 0x00000000#32)) rfl
    (fun k => by rw [pb_k0_t16_succ, t16_trip]; rfl) _
    (fun k f hf => by
      show k0_pay112 v382 (k0_pay20 (k0_pay110 (F := F)) (k0_pay111 (F := F)) (arg25.view.readAt (Elt F) (Rect.unit (s := S32x64x512) (k0_off59 k) S1x64x256.size (k0_off59_inb k)).toLoadRect X) (arg25.view.readAt (Elt F) (Rect.unit (s := S32x64x512) (k0_off60 k) S1x64x256.size (k0_off60_inb k)).toLoadRect X) (arg25.view.readAt (Elt F) (Rect.unit (s := S32x64x512) (k0_off61 k) S1x64x256.size (k0_off61_inb k)).toLoadRect X) (arg25.view.readAt (Elt F) (Rect.unit (s := S32x64x512) (k0_off62 k) S1x64x256.size (k0_off62_inb k)).toLoadRect X) (arg25.view.readAt (Elt F) (Rect.unit (s := S32x64x512) (k0_off63 k) S1x64x256.size (k0_off63_inb k)).toLoadRect X) (arg25.view.readAt (Elt F) (Rect.unit (s := S32x64x512) (k0_off64 k) S1x64x256.size (k0_off64_inb k)).toLoadRect X) (arg25.view.readAt (Elt F) (Rect.unit (s := S32x64x512) (k0_off65 k) S1x64x256.size (k0_off65_inb k)).toLoadRect X) (arg25.view.readAt (Elt F) (Rect.unit (s := S32x64x512) (k0_off66 k) S1x64x256.size (k0_off66_inb k)).toLoadRect X) (arg25.view.readAt (Elt F) (Rect.unit (s := S32x64x512) (k0_off67 k) S1x64x256.size (k0_off67_inb k)).toLoadRect X)) (constant S64x256 .f32 0x00000000#32) = _
      rw [readAt_row arg25.view X (T := k0_t16_loop.trips) (by decide +kernel) k 256 111 (by decide) (k0_off59_eq k), readAt_row arg25.view X (T := k0_t16_loop.trips) (by decide +kernel) k 256 112 (by decide) (k0_off60_eq k), readAt_row arg25.view X (T := k0_t16_loop.trips) (by decide +kernel) k 256 113 (by decide) (k0_off61_eq k), readAt_row arg25.view X (T := k0_t16_loop.trips) (by decide +kernel) k 256 127 (by decide) (k0_off62_eq k), readAt_row arg25.view X (T := k0_t16_loop.trips) (by decide +kernel) k 256 128 (by decide) (k0_off63_eq k), readAt_row arg25.view X (T := k0_t16_loop.trips) (by decide +kernel) k 256 129 (by decide) (k0_off64_eq k), readAt_row arg25.view X (T := k0_t16_loop.trips) (by decide +kernel) k 256 143 (by decide) (k0_off65_eq k), readAt_row arg25.view X (T := k0_t16_loop.trips) (by decide +kernel) k 256 144 (by decide) (k0_off66_eq k), readAt_row arg25.view X (T := k0_t16_loop.trips) (by decide +kernel) k 256 145 (by decide) (k0_off67_eq k)]
      rfl)

theorem t17_trip (c : Dev nD) (i : grid0.Coords) (v366 : FVec F S64x1 .f32) (v371 : FVec F S64x1 .f32) (v380 : FVec F S64x1 .f32) (c0_i32_238 : BitVec 32) (c1_i32_240 : BitVec 32) (k : Fin k0_t17_loop.trips) (f : BufTy.Contents (Elt F) arg26.view.ty) (acc : FVec F S64x1 .f32 × FVec F S64x1 .f32) :
    tripR_k0_t17 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v366 v371 v380 c0_i32_238 c1_i32_240 f k acc
      = (k0_pay115 acc.1 (arg26.view.readAt (Elt F) (Rect.unit (s := S32x64x256) (k0_off69 k) S1x64x256.size (k0_off69_inb k)).toLoadRect f), k0_pay116 acc.2 (arg26.view.readAt (Elt F) (Rect.unit (s := S32x64x256) (k0_off69 k) S1x64x256.size (k0_off69_inb k)).toLoadRect f)) := by
  unfold tripR_k0_t17 trip_k0_t17
  rfl

/-- Loop 17 carries the two running sums of what its buffer reads. -/
theorem t17_sums (c : Dev nD) (i : grid0.Coords) (v366 : FVec F S64x1 .f32) (v371 : FVec F S64x1 .f32) (v380 : FVec F S64x1 .f32) (c0_i32_238 : BitVec 32) (c1_i32_240 : BitVec 32) (f : BufTy.Contents (Elt F) arg26.view.ty) (z : FVec F S64x1 .f32) :
    st_k0_t17 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v366 v371 v380 c0_i32_238 c1_i32_240 f (z, z) (Scf.trips k0_t17_loop.lb k0_t17_loop.ub k0_t17_loop.st)
      = sums17 (arg26.view.read (Elt F) f) z :=
  foldRows_of_succ (T := k0_t17_loop.trips) (by decide +kernel) _ _ _ rfl fun k => by
    rw [st_k0_t17_succ, t17_trip, readAt_row arg26.view f (T := k0_t17_loop.trips) (by decide +kernel) k 256 0 (by decide) (k0_off69_eq k)]

set_option maxHeartbeats 400000 in
/-- What part 20 of the body does to its buffers, and what it returns. -/
theorem part20_run (c : Dev nD) (i : grid0.Coords) (v366 : FVec F S64x1 .f32) (v371 : FVec F S64x1 .f32) (v380 : FVec F S64x1 .f32) (c0_i32_238 : BitVec 32) (c1_i32_240 : BitVec 32) (W : Vec F S1x64x576 .f32) (X : Vec F S32x64x512 .f32) (Y : Vec F S32x64x256 .f32) (E : Set ℕ) (K : (Σ' (_ : FVec F S64x1 .f32), FVec F S64x1 .f32) → sProp 𝕄) :
    iprop(owns (c : Thread nD τ) arg12 fullShare W ∗ owns (c : Thread nD τ) arg25 fullShare X ∗ owns (c : Thread nD τ) arg26 fullShare Y ∗ (∀ (v414 : FVec F S64x1 .f32) (v416 : FVec F S64x1 .f32) (X1 : Vec F S32x64x512 .f32) (Y1 : Vec F S32x64x256 .f32), owns (c : Thread nD τ) arg12 fullShare W ∗ owns (c : Thread nD τ) arg25 fullShare X1 ∗ owns (c : Thread nD τ) arg26 fullShare Y1 ∗ ⌜v414 = k0_pay117 (sums17 Y1 (k0_pay113 (F := F))).1 ∧ v416 = k0_pay118 (sums17 Y1 (k0_pay113 (F := F))).2 ∧ X1 = act15 v366 v371 v380 X ∧ Y1 = rowsPut 256 0 Y (conv16 W X1)⌝ -∗ K ⟨v414, v416⟩))
      ⊢ wp frame (wpE (defs₀ (F := F)) Variants.none c none) E (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v366 v371 v380 c0_i32_238 c1_i32_240) K := by
  rw [k0_part20_eq_skeleton]
  unfold k0_part20_skel owns
  iintro ⟨⟨%f12, %h12, H12⟩, ⟨%f25, %h25, H25⟩, ⟨%f26, %h26, H26⟩, Hk⟩
  obtain rfl := h12
  obtain rfl := h25
  obtain rfl := h26
  sl_exec
  sl_step
  iapply Hk
  isplitl [H12]
  · iexists _; isplitr; swap; · iexact H12
    ipureintro; rfl
  isplitl [H25]
  · iexists _; isplitr; swap; · iexact H25
    ipureintro; rfl
  isplitl [H26]
  · iexists _; isplitr; swap; · iexact H26
    ipureintro; rfl
  ipureintro
  refine ⟨by rw [t17_sums], by rw [t17_sums], by rw [t15_rows], ?_⟩
  rw [t16_rows, View.readAt_full]

end Cert.Proof

end
-- ==== Proof.Part21.lean ====
/- The sixth activation and the pooling. -/
module

public import proofs.«01_k».proof.Proof.Gen.KernelIdeal.Loops
public import proofs.«01_k».proof.Proof.Rows
public import proofs.«01_k».proof.Proof.Stages

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

theorem t18_trip (c : Dev nD) (i : grid0.Coords) (v414 : FVec F S64x1 .f32) (v416 : FVec F S64x1 .f32) (v422 : Vec F S1x64x1 .f32) (v424 : Vec F S1x64x1 .f32) (v426 : Vec F S1x64x1 .f32) (k : Fin k0_t18_loop.trips) (f : BufTy.Contents (Elt F) arg26.view.ty) :
    tripL_k0_t18 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v414 v416 v422 v424 v426 k f
      = [⟨(Rect.unit (s := S32x64x256) (k0_off70 k) S1x64x256.size (k0_off70_inb k)), k0_pay119 v414 v416 v422 v424 v426 (arg26.view.readAt (Elt F) (Rect.unit (s := S32x64x256) (k0_off70 k) S1x64x256.size (k0_off70_inb k)).toLoadRect f)⟩] := by
  unfold tripL_k0_t18 trip_k0_t18
  rfl

/-- Loop 18 rewrites every row of its buffer in place. -/
theorem t18_rows (c : Dev nD) (i : grid0.Coords) (v414 : FVec F S64x1 .f32) (v416 : FVec F S64x1 .f32) (v422 : Vec F S1x64x1 .f32) (v424 : Vec F S1x64x1 .f32) (v426 : Vec F S1x64x1 .f32) (G : BufTy.Contents (Elt F) arg26.view.ty) :
    arg26.view.read (Elt F) (arg26.view.writes (Elt F) G (pb_k0_t18 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v414 v416 v422 v424 v426 G (Scf.trips k0_t18_loop.lb k0_t18_loop.ub k0_t18_loop.st)))
      = act18 v414 v416 v422 v424 v426 (arg26.view.read (Elt F) G) :=
  read_rows arg26.view G (T := k0_t18_loop.trips) (by decide +kernel) 256 0 _ (k0_off70) k0_off70_eq k0_off70_inb
    (fun k f => k0_pay119 v414 v416 v422 v424 v426 (arg26.view.readAt (Elt F) (Rect.unit (s := S32x64x256) (k0_off70 k) S1x64x256.size (k0_off70_inb k)).toLoadRect f)) rfl
    (fun k => by rw [pb_k0_t18_succ, t18_trip]; rfl) _
    (fun k f hf => by
      show k0_pay119 v414 v416 v422 v424 v426 _ = _
      rw [readAt_row arg26.view f (T := k0_t18_loop.trips) (by decide +kernel) k 256 0 (by decide) (k0_off70_eq k)]
      exact congrArg _ (rowOf_congr 256 0 (by decide) _ _ _ hf))

set_option maxHeartbeats 400000 in
/-- What part 21 of the body does to its buffers, and what it returns. -/
theorem part21_run (c : Dev nD) (i : grid0.Coords) (v414 : FVec F S64x1 .f32) (v416 : FVec F S64x1 .f32) (P : Vec F S1x64x3 .f32) (M : Vec F S256x4 .f32) (X : Vec F S32x64x256 .f32) (E : Set ℕ) (K : FVec F S32x64x4 .f32 → sProp 𝕄) :
    iprop(owns (c : Thread nD τ) arg13 fullShare P ∗ owns (c : Thread nD τ) arg18 fullShare M ∗ owns (c : Thread nD τ) arg26 fullShare X ∗ (∀ (v452 : FVec F S32x64x4 .f32) (Y : Vec F S32x64x256 .f32), owns (c : Thread nD τ) arg13 fullShare P ∗ owns (c : Thread nD τ) arg18 fullShare M ∗ owns (c : Thread nD τ) arg26 fullShare Y ∗ ⌜Y = act18 v414 v416 (VecWindow.window P ![0, 0, 0] S1x64x1.size inb_S1x64x3_S1x64x1_0_0_0) (VecWindow.window P ![0, 0, 1] S1x64x1.size inb_S1x64x3_S1x64x1_0_0_1) (VecWindow.window P ![0, 0, 2] S1x64x1.size inb_S1x64x3_S1x64x1_0_0_2) X ∧ v452 = k0_pay120 Y M⌝ -∗ K v452))
      ⊢ wp frame (wpE (defs₀ (F := F)) Variants.none c none) E (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v414 v416) K := by
  rw [k0_part21_eq_skeleton]
  unfold k0_part21_skel owns
  iintro ⟨⟨%f13, %h13, H13⟩, ⟨%f18, %h18, H18⟩, ⟨%f26, %h26, H26⟩, Hk⟩
  obtain rfl := h13
  obtain rfl := h18
  obtain rfl := h26
  sl_exec
  sl_step
  iapply Hk
  isplitl [H13]
  · iexists _; isplitr; swap; · iexact H13
    ipureintro; rfl
  isplitl [H18]
  · iexists _; isplitr; swap; · iexact H18
    ipureintro; rfl
  isplitl [H26]
  · iexists _; isplitr; swap; · iexact H26
    ipureintro; rfl
  ipureintro
  refine ⟨by rw [t18_rows]; rfl, ?_⟩
  rw [View.readAt_full]
  unfold part21_run.sl.v447
  rw [View.readAt_full]

end Cert.Proof

end
-- ==== Proof.Body.lean ====
/- The whole body: the state of its buffers carried through the thirteen stages, and the triple that yields the chain of equations. -/
module

public import proofs.«01_k».proof.Proof.Gen.KernelIdeal.Loops
public import proofs.«01_k».proof.Proof.Rows
public import proofs.«01_k».proof.Proof.Trace
public import proofs.«01_k».proof.Proof.Part09
public import proofs.«01_k».proof.Proof.Part10
public import proofs.«01_k».proof.Proof.Part11
public import proofs.«01_k».proof.Proof.Part12
public import proofs.«01_k».proof.Proof.Part13
public import proofs.«01_k».proof.Proof.Part14
public import proofs.«01_k».proof.Proof.Part15
public import proofs.«01_k».proof.Proof.Part16
public import proofs.«01_k».proof.Proof.Part17
public import proofs.«01_k».proof.Proof.Part18
public import proofs.«01_k».proof.Proof.Part19
public import proofs.«01_k».proof.Proof.Part20
public import proofs.«01_k».proof.Proof.Part21

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

/-- What the body owns between two stages: its inputs, its output and its seven scratch buffers, each whole with a value. -/
def St (c : Dev nD) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare z19 ∗ owns (c : Thread nD τ) arg20 fullShare z20 ∗ owns (c : Thread nD τ) arg21 fullShare z21 ∗ owns (c : Thread nD τ) arg22 fullShare z22 ∗ owns (c : Thread nD τ) arg23 fullShare z23 ∗ owns (c : Thread nD τ) arg24 fullShare z24 ∗ owns (c : Thread nD τ) arg25 fullShare z25 ∗ owns (c : Thread nD τ) arg26 fullShare z26)

/-- Stage 9 on the whole state: what follows it may assume the stage's equations. -/
theorem part9_step (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32)  {β : Type} (k : FVec F S32x32x128 .f32 → Prog (TpuEff nD τ sig (Elt F) Λ₀ .tc) β) (E : Set ℕ) (Q : β → sProp 𝕄)
    (h : ∀ (v24 : FVec F S32x32x128 .f32) (X1 : Vec F S32x3x4352 .f32) (Y1 : Vec F S32x16x4352 .f32) (Z1 : Vec F S32x16x4352 .f32), v24 = k0_pay27 (F := F) ∧ X1 = VecWindow.put (VecWindow.put z20 ![0, 0, 0] S32x3x128.size (k0_pay21 (F := F))) ![0, 0, 4224] S32x3x128.size (k0_pay22 (F := F)) ∧ Y1 = VecWindow.put (VecWindow.put z21 ![0, 0, 0] S32x16x128.size (k0_pay23 (F := F))) ![0, 0, 4224] S32x16x128.size (k0_pay24 (F := F)) ∧ Z1 = VecWindow.put (VecWindow.put z22 ![0, 0, 0] S32x16x128.size (k0_pay25 (F := F))) ![0, 0, 4224] S32x16x128.size (k0_pay26 (F := F)) → St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 X1 Y1 Z1 z23 z24 z25 z26 ⊢ wp frame (wpE (defs₀ (F := F)) Variants.none c none) E (k v24) Q) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  >>= k) Q := by
  unfold St at h ⊢
  rw [wp_bind]
  iintro ⟨H1, H2, H3, H4, H5, H6, H7, H8, H9, H10, H11, H12, H13, H14, H15, H16, H17, H18, H19, H20, H21, H22, H23, H24, H25, H26⟩
  iapply (part9_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i   z20 z21 z22 E _)
  isplitl [H20]; · iexact H20
  isplitl [H21]; · iexact H21
  isplitl [H22]; · iexact H22
  iintro %v24 %X1 %Y1 %Z1 ⟨H20, H21, H22, %hf⟩
  iapply (h v24 X1 Y1 Z1 hf)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- Stage 10 on the whole state: what follows it may assume the stage's equations. -/
theorem part10_step (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32) (v24 : FVec F S32x32x128 .f32) {β : Type} (k : FVec F S32x3x4096 .f32 → Prog (TpuEff nD τ sig (Elt F) Λ₀ .tc) β) (E : Set ℕ) (Q : β → sProp 𝕄)
    (h : ∀ (v49 : FVec F S32x3x4096 .f32) (Y1 : Vec F S32x32x1280 .f32) (Z1 : Vec F S32x32x1280 .f32) (W1 : Vec F S32x64x512 .f32), v49 = k0_pay34 x0 ∧ Y1 = VecWindow.put (VecWindow.put z23 ![0, 0, 0] S32x32x128.size (k0_pay28 v24)) ![0, 0, 1152] S32x32x128.size (k0_pay29 (F := F)) ∧ Z1 = VecWindow.put (VecWindow.put z24 ![0, 0, 0] S32x32x128.size (k0_pay30 (F := F))) ![0, 0, 1152] S32x32x128.size (k0_pay31 (F := F)) ∧ W1 = VecWindow.put (VecWindow.put z25 ![0, 0, 0] S32x64x128.size (k0_pay32 (F := F))) ![0, 0, 384] S32x64x128.size (k0_pay33 (F := F)) → St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 Y1 Z1 W1 z26 ⊢ wp frame (wpE (defs₀ (F := F)) Variants.none c none) E (k v49) Q) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v24 >>= k) Q := by
  unfold St at h ⊢
  rw [wp_bind]
  iintro ⟨H1, H2, H3, H4, H5, H6, H7, H8, H9, H10, H11, H12, H13, H14, H15, H16, H17, H18, H19, H20, H21, H22, H23, H24, H25, H26⟩
  iapply (part10_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i v24 x0 z20 z23 z24 z25 E _)
  isplitl [H1]; · iexact H1
  isplitl [H20]; · iexact H20
  isplitl [H23]; · iexact H23
  isplitl [H24]; · iexact H24
  isplitl [H25]; · iexact H25
  iintro %v49 %Y1 %Z1 %W1 ⟨H1, H20, H23, H24, H25, %hf⟩
  iapply (h v49 Y1 Z1 W1 hf)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- Stage 11 on the whole state: what follows it may assume the stage's equations. -/
theorem part11_step (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32) (v49 : FVec F S32x3x4096 .f32) {β : Type} (k : (Σ' (v54 : FVec F S8x512x128 .bf16) (v56 : FVec F S2x512x128 .bf16) (v85 : FVec F S16x1 .f32) (p : BitVec 32), BitVec 32) → Prog (TpuEff nD τ sig (Elt F) Λ₀ .tc) β) (E : Set ℕ) (Q : β → sProp 𝕄)
    (h : ∀ (v54 : FVec F S8x512x128 .bf16) (v56 : FVec F S2x512x128 .bf16) (v85 : FVec F S16x1 .f32) (p : BitVec 32) (q : BitVec 32) (X1 : Vec F S32x3x4352 .f32) (Y1 : Vec F S32x16x4352 .f32), v54 = k0_pay36 x15 ∧ v56 = k0_pay37 x16 ∧ v85 = k0_pay42 (F := F) ∧ X1 = VecWindow.put z20 ![0, 0, 128] S32x3x4096.size (k0_pay35 v49) ∧ Y1 = rowsPut 4096 128 z21 (conv1 x1 X1) → St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 X1 Y1 z22 z23 z24 z25 z26 ⊢ wp frame (wpE (defs₀ (F := F)) Variants.none c none) E (k ⟨v54, v56, v85, p, q⟩) Q) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v49 >>= k) Q := by
  unfold St at h ⊢
  rw [wp_bind]
  iintro ⟨H1, H2, H3, H4, H5, H6, H7, H8, H9, H10, H11, H12, H13, H14, H15, H16, H17, H18, H19, H20, H21, H22, H23, H24, H25, H26⟩
  iapply (part11_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i v49 x15 x16 x1 z20 z21 E _)
  isplitl [H16]; · iexact H16
  isplitl [H17]; · iexact H17
  isplitl [H2]; · iexact H2
  isplitl [H20]; · iexact H20
  isplitl [H21]; · iexact H21
  iintro %v54 %v56 %v85 %p %q %X1 %Y1 ⟨H16, H17, H2, H20, H21, %hf⟩
  iapply (h v54 v56 v85 p q X1 Y1 hf)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- Stage 12 on the whole state: what follows it may assume the stage's equations. -/
theorem part12_step (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32) (v85 : FVec F S16x1 .f32) (p : BitVec 32) (q : BitVec 32) {β : Type} (k : PUnit → Prog (TpuEff nD τ sig (Elt F) Λ₀ .tc) β) (E : Set ℕ) (Q : β → sProp 𝕄)
    (h : ∀  (Y : Vec F S32x16x4352 .f32), Y = act3 (sums2 z21 v85).1 (sums2 z21 v85).2 (VecWindow.window x2 ![0, 0, 0] S1x16x1.size inb_S1x16x3_S1x16x1_0_0_0) (VecWindow.window x2 ![0, 0, 1] S1x16x1.size inb_S1x16x3_S1x16x1_0_0_1) (VecWindow.window x2 ![0, 0, 2] S1x16x1.size inb_S1x16x3_S1x16x1_0_0_2) z21 → St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 Y z22 z23 z24 z25 z26 ⊢ wp frame (wpE (defs₀ (F := F)) Variants.none c none) E (k ⟨⟩) Q) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v85 p q >>= k) Q := by
  unfold St at h ⊢
  rw [wp_bind]
  iintro ⟨H1, H2, H3, H4, H5, H6, H7, H8, H9, H10, H11, H12, H13, H14, H15, H16, H17, H18, H19, H20, H21, H22, H23, H24, H25, H26⟩
  iapply (part12_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i v85 p q x2 z21 E _)
  isplitl [H3]; · iexact H3
  isplitl [H21]; · iexact H21
  iintro  %Y ⟨H3, H21, %hf⟩
  iapply (h  Y hf)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- Stage 13 on the whole state: what follows it may assume the stage's equations. -/
theorem part13_step (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32)  {β : Type} (k : (Σ' (v154 : FVec F S16x1 .f32) (v158 : FVec F S16x1 .f32), FVec F S16x1 .f32) → Prog (TpuEff nD τ sig (Elt F) Λ₀ .tc) β) (E : Set ℕ) (Q : β → sProp 𝕄)
    (h : ∀ (v154 : FVec F S16x1 .f32) (v158 : FVec F S16x1 .f32) (v159 : FVec F S16x1 .f32) (Y1 : Vec F S32x16x4352 .f32), v154 = k0_pay55 (sums5 Y1 (k0_pay51 (F := F))).1 ∧ v158 = k0_pay56 (sums5 Y1 (k0_pay51 (F := F))).1 (sums5 Y1 (k0_pay51 (F := F))).2 ∧ v159 = k0_pay57 (F := F) ∧ Y1 = rowsPut 4096 128 z22 (conv4 x3 z21) → St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 Y1 z23 z24 z25 z26 ⊢ wp frame (wpE (defs₀ (F := F)) Variants.none c none) E (k ⟨v154, v158, v159⟩) Q) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  >>= k) Q := by
  unfold St at h ⊢
  rw [wp_bind]
  iintro ⟨H1, H2, H3, H4, H5, H6, H7, H8, H9, H10, H11, H12, H13, H14, H15, H16, H17, H18, H19, H20, H21, H22, H23, H24, H25, H26⟩
  iapply (part13_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i  x3 z21 z22 E _)
  isplitl [H4]; · iexact H4
  isplitl [H21]; · iexact H21
  isplitl [H22]; · iexact H22
  iintro %v154 %v158 %v159 %Y1 ⟨H4, H21, H22, %hf⟩
  iapply (h v154 v158 v159 Y1 hf)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- Stage 14 on the whole state: what follows it may assume the stage's equations. -/
theorem part14_step (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32) (v154 : FVec F S16x1 .f32) (v158 : FVec F S16x1 .f32) (v159 : FVec F S16x1 .f32) {β : Type} (k : (Σ' (v188 : FVec F S32x144 .f32) (v191 : BitVec 32) (v193 : IVec S1x4096 32), IVec S1x4096 1) → Prog (TpuEff nD τ sig (Elt F) Λ₀ .tc) β) (E : Set ℕ) (Q : β → sProp 𝕄)
    (h : ∀ (v188 : FVec F S32x144 .f32) (v191 : BitVec 32) (v193 : IVec S1x4096 32) (v195 : IVec S1x4096 1) (Y : Vec F S32x16x4352 .f32), v188 = k0_pay59 x5 ∧ v191 = Scalar.select (Scalar.cmpi .eq 64#32 0#32) 1#32 64#32 ∧ v193 = k0_pay60 ∧ v195 = k0_pay61 ∧ Y = act6 v154 v158 v159 (VecWindow.window x4 ![0, 0, 0] S1x16x1.size inb_S1x16x3_S1x16x1_0_0_0) (VecWindow.window x4 ![0, 0, 1] S1x16x1.size inb_S1x16x3_S1x16x1_0_0_1) (VecWindow.window x4 ![0, 0, 2] S1x16x1.size inb_S1x16x3_S1x16x1_0_0_2) z22 → St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 Y z23 z24 z25 z26 ⊢ wp frame (wpE (defs₀ (F := F)) Variants.none c none) E (k ⟨v188, v191, v193, v195⟩) Q) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v154 v158 v159 >>= k) Q := by
  unfold St at h ⊢
  rw [wp_bind]
  iintro ⟨H1, H2, H3, H4, H5, H6, H7, H8, H9, H10, H11, H12, H13, H14, H15, H16, H17, H18, H19, H20, H21, H22, H23, H24, H25, H26⟩
  iapply (part14_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i v154 v158 v159 x4 x5 z22 E _)
  isplitl [H5]; · iexact H5
  isplitl [H6]; · iexact H6
  isplitl [H22]; · iexact H22
  iintro %v188 %v191 %v193 %v195 %Y ⟨H5, H6, H22, %hf⟩
  iapply (h v188 v191 v193 v195 Y hf)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- Stage 15 on the whole state: what follows it may assume the stage's equations. -/
theorem part15_step (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32) (v54 : FVec F S8x512x128 .bf16) (v188 : FVec F S32x144 .f32) (v191 : BitVec 32) (v193 : IVec S1x4096 32) (v195 : IVec S1x4096 1) {β : Type} (k : (Σ' (v219 : FVec F S32x1 .f32) (v226 : FVec F S32x1 .f32) (v228 : FVec F S32x1 .f32), FVec F S32x1 .f32) → Prog (TpuEff nD τ sig (Elt F) Λ₀ .tc) β) (E : Set ℕ) (Q : β → sProp 𝕄)
    (h : ∀ (v219 : FVec F S32x1 .f32) (v226 : FVec F S32x1 .f32) (v228 : FVec F S32x1 .f32) (v230 : FVec F S32x1 .f32) (Y1 : Vec F S32x32x1280 .f32), v219 = k0_pay70 (sums8 Y1 (k0_pay66 (F := F))).1 ∧ v226 = k0_pay71 (sums8 Y1 (k0_pay66 (F := F))).1 (sums8 Y1 (k0_pay66 (F := F))).2 ∧ v228 = k0_pay72 (VecWindow.window x6 ![0, 0, 0] S1x32x1.size inb_S1x32x3_S1x32x1_0_0_0) ∧ v230 = k0_pay73 (VecWindow.window x6 ![0, 0, 1] S1x32x1.size inb_S1x32x3_S1x32x1_0_0_1) ∧ Y1 = rowsPut 1024 128 z23 (conv7 v54 v188 v191 v193 v195 z22) → St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 Y1 z24 z25 z26 ⊢ wp frame (wpE (defs₀ (F := F)) Variants.none c none) E (k ⟨v219, v226, v228, v230⟩) Q) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v54 v188 v191 v193 v195 >>= k) Q := by
  unfold St at h ⊢
  rw [wp_bind]
  iintro ⟨H1, H2, H3, H4, H5, H6, H7, H8, H9, H10, H11, H12, H13, H14, H15, H16, H17, H18, H19, H20, H21, H22, H23, H24, H25, H26⟩
  iapply (part15_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i v54 v188 v191 v193 v195 x6 z22 z23 E _)
  isplitl [H7]; · iexact H7
  isplitl [H22]; · iexact H22
  isplitl [H23]; · iexact H23
  iintro %v219 %v226 %v228 %v230 %Y1 ⟨H7, H22, H23, %hf⟩
  iapply (h v219 v226 v228 v230 Y1 hf)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- Stage 16 on the whole state: what follows it may assume the stage's equations. -/
theorem part16_step (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32) (v219 : FVec F S32x1 .f32) (v226 : FVec F S32x1 .f32) (v228 : FVec F S32x1 .f32) (v230 : FVec F S32x1 .f32) {β : Type} (k : (Σ' (v253 : FVec F S32x288 .f32) (v270 : IVec S1x1024 32), IVec S1x1024 32) → Prog (TpuEff nD τ sig (Elt F) Λ₀ .tc) β) (E : Set ℕ) (Q : β → sProp 𝕄)
    (h : ∀ (v253 : FVec F S32x288 .f32) (v270 : IVec S1x1024 32) (v271 : IVec S1x1024 32) (Y : Vec F S32x32x1280 .f32), v253 = k0_pay75 x7 ∧ v270 = k0_pay76 ∧ v271 = k0_pay77 ∧ Y = act9 v219 v226 v228 v230 (VecWindow.window x6 ![0, 0, 2] S1x32x1.size inb_S1x32x3_S1x32x1_0_0_2) z23 → St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 Y z24 z25 z26 ⊢ wp frame (wpE (defs₀ (F := F)) Variants.none c none) E (k ⟨v253, v270, v271⟩) Q) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v219 v226 v228 v230 >>= k) Q := by
  unfold St at h ⊢
  rw [wp_bind]
  iintro ⟨H1, H2, H3, H4, H5, H6, H7, H8, H9, H10, H11, H12, H13, H14, H15, H16, H17, H18, H19, H20, H21, H22, H23, H24, H25, H26⟩
  iapply (part16_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i v219 v226 v228 v230 x6 x7 z23 E _)
  isplitl [H7]; · iexact H7
  isplitl [H8]; · iexact H8
  isplitl [H23]; · iexact H23
  iintro %v253 %v270 %v271 %Y ⟨H7, H8, H23, %hf⟩
  iapply (h v253 v270 v271 Y hf)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- Stage 17 on the whole state: what follows it may assume the stage's equations. -/
theorem part17_step (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32) (v253 : FVec F S32x288 .f32) (v270 : IVec S1x1024 32) (v271 : IVec S1x1024 32) {β : Type} (k : (Σ' (v284 : FVec F S32x1 .f32) (v291 : FVec F S32x1 .f32) (v293 : FVec F S32x1 .f32) (v295 : FVec F S32x1 .f32) (v297 : FVec F S32x1 .f32) (v301 : FVec F S32x1 .f32), FVec F S32x1 .f32) → Prog (TpuEff nD τ sig (Elt F) Λ₀ .tc) β) (E : Set ℕ) (Q : β → sProp 𝕄)
    (h : ∀ (v284 : FVec F S32x1 .f32) (v291 : FVec F S32x1 .f32) (v293 : FVec F S32x1 .f32) (v295 : FVec F S32x1 .f32) (v297 : FVec F S32x1 .f32) (v301 : FVec F S32x1 .f32) (v306 : FVec F S32x1 .f32) (Y1 : Vec F S32x32x1280 .f32), v284 = k0_pay85 (sums11 Y1 (k0_pay81 (F := F))).1 ∧ v291 = k0_pay86 (sums11 Y1 (k0_pay81 (F := F))).1 (sums11 Y1 (k0_pay81 (F := F))).2 ∧ v293 = k0_pay87 (VecWindow.window x8 ![0, 0, 0] S1x32x1.size inb_S1x32x3_S1x32x1_0_0_0) ∧ v295 = k0_pay88 (VecWindow.window x8 ![0, 0, 1] S1x32x1.size inb_S1x32x3_S1x32x1_0_0_1) ∧ v297 = k0_pay89 (VecWindow.window x8 ![0, 0, 2] S1x32x1.size inb_S1x32x3_S1x32x1_0_0_2) ∧ v301 = k0_pay90 (sums11 Y1 (k0_pay81 (F := F))).1 (sums11 Y1 (k0_pay81 (F := F))).2 (VecWindow.window x8 ![0, 0, 2] S1x32x1.size inb_S1x32x3_S1x32x1_0_0_2) ∧ v306 = k0_pay91 (sums11 Y1 (k0_pay81 (F := F))).1 (sums11 Y1 (k0_pay81 (F := F))).2 (VecWindow.window x8 ![0, 0, 1] S1x32x1.size inb_S1x32x3_S1x32x1_0_0_1) (VecWindow.window x8 ![0, 0, 2] S1x32x1.size inb_S1x32x3_S1x32x1_0_0_2) ∧ Y1 = rowsPut 1024 128 z24 (conv10 v253 v270 v271 z23) → St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 Y1 z25 z26 ⊢ wp frame (wpE (defs₀ (F := F)) Variants.none c none) E (k ⟨v284, v291, v293, v295, v297, v301, v306⟩) Q) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v253 v270 v271 >>= k) Q := by
  unfold St at h ⊢
  rw [wp_bind]
  iintro ⟨H1, H2, H3, H4, H5, H6, H7, H8, H9, H10, H11, H12, H13, H14, H15, H16, H17, H18, H19, H20, H21, H22, H23, H24, H25, H26⟩
  iapply (part17_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i v253 v270 v271 x8 z23 z24 E _)
  isplitl [H9]; · iexact H9
  isplitl [H23]; · iexact H23
  isplitl [H24]; · iexact H24
  iintro %v284 %v291 %v293 %v295 %v297 %v301 %v306 %Y1 ⟨H9, H23, H24, %hf⟩
  iapply (h v284 v291 v293 v295 v297 v301 v306 Y1 hf)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- Stage 18 on the whole state: what follows it may assume the stage's equations. -/
theorem part18_step (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32) (v56 : FVec F S2x512x128 .bf16) (v284 : FVec F S32x1 .f32) (v291 : FVec F S32x1 .f32) (v293 : FVec F S32x1 .f32) (v295 : FVec F S32x1 .f32) (v297 : FVec F S32x1 .f32) (v301 : FVec F S32x1 .f32) (v306 : FVec F S32x1 .f32) {β : Type} (k : PUnit → Prog (TpuEff nD τ sig (Elt F) Λ₀ .tc) β) (E : Set ℕ) (Q : β → sProp 𝕄)
    (h : ∀  (X1 : Vec F S32x32x1280 .f32) (Y1 : Vec F S32x64x512 .f32), X1 = act12 v284 v291 v293 v295 v297 v301 v306 z24 ∧ Y1 = rowsPut 256 128 z25 (conv13 v56 x9 X1) → St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 X1 Y1 z26 ⊢ wp frame (wpE (defs₀ (F := F)) Variants.none c none) E (k ⟨⟩) Q) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v56 v284 v291 v293 v295 v297 v301 v306 >>= k) Q := by
  unfold St at h ⊢
  rw [wp_bind]
  iintro ⟨H1, H2, H3, H4, H5, H6, H7, H8, H9, H10, H11, H12, H13, H14, H15, H16, H17, H18, H19, H20, H21, H22, H23, H24, H25, H26⟩
  iapply (part18_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i v56 v284 v291 v293 v295 v297 v301 v306 x9 z24 z25 E _)
  isplitl [H10]; · iexact H10
  isplitl [H24]; · iexact H24
  isplitl [H25]; · iexact H25
  iintro  %X1 %Y1 ⟨H10, H24, H25, %hf⟩
  iapply (h  X1 Y1 hf)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- Stage 19 on the whole state: what follows it may assume the stage's equations. -/
theorem part19_step (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32)  {β : Type} (k : (Σ' (v366 : FVec F S64x1 .f32) (v371 : FVec F S64x1 .f32) (v380 : FVec F S64x1 .f32) (p : BitVec 32), BitVec 32) → Prog (TpuEff nD τ sig (Elt F) Λ₀ .tc) β) (E : Set ℕ) (Q : β → sProp 𝕄)
    (h : ∀ (v366 : FVec F S64x1 .f32) (v371 : FVec F S64x1 .f32) (v380 : FVec F S64x1 .f32) (p : BitVec 32) (q : BitVec 32) , v366 = k0_pay105 (sums14 z25 (k0_pay97 (F := F))).1 (sums14 z25 (k0_pay97 (F := F))).2 (VecWindow.window x10 ![0, 0, 2] S1x64x1.size inb_S1x64x3_S1x64x1_0_0_2) ∧ v371 = k0_pay106 (sums14 z25 (k0_pay97 (F := F))).1 (sums14 z25 (k0_pay97 (F := F))).2 (VecWindow.window x10 ![0, 0, 1] S1x64x1.size inb_S1x64x3_S1x64x1_0_0_1) (VecWindow.window x10 ![0, 0, 2] S1x64x1.size inb_S1x64x3_S1x64x1_0_0_2) ∧ v380 = k0_pay107 (sums14 z25 (k0_pay97 (F := F))).1 (sums14 z25 (k0_pay97 (F := F))).2 (VecWindow.window x10 ![0, 0, 0] S1x64x1.size inb_S1x64x3_S1x64x1_0_0_0) (VecWindow.window x10 ![0, 0, 1] S1x64x1.size inb_S1x64x3_S1x64x1_0_0_1) (VecWindow.window x10 ![0, 0, 2] S1x64x1.size inb_S1x64x3_S1x64x1_0_0_2) → St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (k ⟨v366, v371, v380, p, q⟩) Q) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  >>= k) Q := by
  unfold St at h ⊢
  rw [wp_bind]
  iintro ⟨H1, H2, H3, H4, H5, H6, H7, H8, H9, H10, H11, H12, H13, H14, H15, H16, H17, H18, H19, H20, H21, H22, H23, H24, H25, H26⟩
  iapply (part19_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i  x10 z25  E _)
  isplitl [H11]; · iexact H11
  isplitl [H25]; · iexact H25
  iintro %v366 %v371 %v380 %p %q  ⟨H11, H25, %hf⟩
  iapply (h v366 v371 v380 p q  hf)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- Stage 20 on the whole state: what follows it may assume the stage's equations. -/
theorem part20_step (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32) (v366 : FVec F S64x1 .f32) (v371 : FVec F S64x1 .f32) (v380 : FVec F S64x1 .f32) (c0_i32_238 : BitVec 32) (c1_i32_240 : BitVec 32) {β : Type} (k : (Σ' (v414 : FVec F S64x1 .f32), FVec F S64x1 .f32) → Prog (TpuEff nD τ sig (Elt F) Λ₀ .tc) β) (E : Set ℕ) (Q : β → sProp 𝕄)
    (h : ∀ (v414 : FVec F S64x1 .f32) (v416 : FVec F S64x1 .f32) (X1 : Vec F S32x64x512 .f32) (Y1 : Vec F S32x64x256 .f32), v414 = k0_pay117 (sums17 Y1 (k0_pay113 (F := F))).1 ∧ v416 = k0_pay118 (sums17 Y1 (k0_pay113 (F := F))).2 ∧ X1 = act15 v366 v371 v380 z25 ∧ Y1 = rowsPut 256 0 z26 (conv16 x11 X1) → St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 X1 Y1 ⊢ wp frame (wpE (defs₀ (F := F)) Variants.none c none) E (k ⟨v414, v416⟩) Q) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v366 v371 v380 c0_i32_238 c1_i32_240 >>= k) Q := by
  unfold St at h ⊢
  rw [wp_bind]
  iintro ⟨H1, H2, H3, H4, H5, H6, H7, H8, H9, H10, H11, H12, H13, H14, H15, H16, H17, H18, H19, H20, H21, H22, H23, H24, H25, H26⟩
  iapply (part20_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i v366 v371 v380 c0_i32_238 c1_i32_240 x11 z25 z26 E _)
  isplitl [H12]; · iexact H12
  isplitl [H25]; · iexact H25
  isplitl [H26]; · iexact H26
  iintro %v414 %v416 %X1 %Y1 ⟨H12, H25, H26, %hf⟩
  iapply (h v414 v416 X1 Y1 hf)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- Stage 21 on the whole state: what follows it may assume the stage's equations. -/
theorem part21_step (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32) (v414 : FVec F S64x1 .f32) (v416 : FVec F S64x1 .f32) {β : Type} (k : FVec F S32x64x4 .f32 → Prog (TpuEff nD τ sig (Elt F) Λ₀ .tc) β) (E : Set ℕ) (Q : β → sProp 𝕄)
    (h : ∀ (v452 : FVec F S32x64x4 .f32) (Y : Vec F S32x64x256 .f32), Y = act18 v414 v416 (VecWindow.window x12 ![0, 0, 0] S1x64x1.size inb_S1x64x3_S1x64x1_0_0_0) (VecWindow.window x12 ![0, 0, 1] S1x64x1.size inb_S1x64x3_S1x64x1_0_0_1) (VecWindow.window x12 ![0, 0, 2] S1x64x1.size inb_S1x64x3_S1x64x1_0_0_2) z26 ∧ v452 = k0_pay120 Y x17 → St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 Y ⊢ wp frame (wpE (defs₀ (F := F)) Variants.none c none) E (k v452) Q) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v414 v416 >>= k) Q := by
  unfold St at h ⊢
  rw [wp_bind]
  iintro ⟨H1, H2, H3, H4, H5, H6, H7, H8, H9, H10, H11, H12, H13, H14, H15, H16, H17, H18, H19, H20, H21, H22, H23, H24, H25, H26⟩
  iapply (part21_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i v414 v416 x12 x17 z26 E _)
  isplitl [H13]; · iexact H13
  isplitl [H18]; · iexact H18
  isplitl [H26]; · iexact H26
  iintro %v452 %Y ⟨H13, H18, H26, %hf⟩
  iapply (h v452 Y hf)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The stores at the end: the output takes its value, and the buffers are handed back. -/
theorem last_step (c : Dev nD) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (z19 : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32) (v452 : FVec F S32x64x4 .f32) (E : Set ℕ) (K : PUnit → sProp 𝕄)
    (h : St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 (k0_pay121 v452 x13 x14) z20 z21 z22 z23 z24 z25 z26 ⊢ K ⟨⟩) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 z19 z20 z21 z22 z23 z24 z25 z26 ⊢ wp frame (wpE (defs₀ (F := F)) Variants.none c none) E (do
      let v471 : Vec F S1x64x4 .f32 ← Prog.lift (.load arg14 (Rect.unit (s := S1x64x4) ![0, 0, 0] S1x64x4.size inb_S1x64x4_S1x64x4_0_0_0).toLoadRect (View.loadsAt_vmem h_S1x64x4))
      let v476 : Vec F S1x64x4 .f32 ← Prog.lift (.load arg15 (Rect.unit (s := S1x64x4) ![0, 0, 0] S1x64x4.size inb_S1x64x4_S1x64x4_0_0_0).toLoadRect (View.loadsAt_vmem h_S1x64x4))
      let v481 : Vec F S1x32x64x4 .f32 ← Prog.lift (.load arg19 (Rect.unit (s := S1x32x64x4) ![0, 0, 0, 0] S1x32x64x4.size inb_S1x32x64x4_S1x32x64x4_0_0_0_0).toLoadRect (View.loadsAt_vmem h_S1x32x64x4))
      Prog.lift (.store arg19 (Rect.unit (s := S1x32x64x4) ![0, 0, 0, 0] S1x32x64x4.size inb_S1x32x64x4_S1x32x64x4_0_0_0_0) (k0_pay121 v452 v471 v476) Finset.univ (View.stores_vmem_bits_univ h_S1x32x64x4 rfl) (.inl rfl))
      pure ⟨⟩) K := by
  unfold St at h ⊢
  iintro ⟨H1, H2, H3, H4, H5, H6, H7, H8, H9, H10, H11, H12, H13, H14, H15, H16, H17, H18, H19, H20, H21, H22, H23, H24, H25, H26⟩
  unfold owns at h ⊢
  icases H14 with ⟨%f14, %e14, H14⟩
  icases H15 with ⟨%f15, %e15, H15⟩
  icases H19 with ⟨%f19, %e19, H19⟩
  sl_exec
  sl_step
  iapply h
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists _; isplitr; swap; · iexact H14
    ipureintro; exact e14
  isplitl [H15]
  · iexists _; isplitr; swap; · iexact H15
    ipureintro; exact e15
  isplitl [H16]; · iexact H16
  isplitl [H17]; · iexact H17
  isplitl [H18]; · iexact H18
  isplitl [H19]
  · iexists _; isplitr; swap; · iexact H19
    ipureintro
    rw [View.read_writes_full, View.readAt_full, View.readAt_full, e14, e15]
  isplitl [H20]; · iexact H20
  isplitl [H21]; · iexact H21
  isplitl [H22]; · iexact H22
  isplitl [H23]; · iexact H23
  isplitl [H24]; · iexact H24
  isplitl [H25]; · iexact H25
  iexact H26

set_option maxHeartbeats 2000000 in
/-- On whole staging buffers the body leaves its inputs, and its output with a value the chain of equations relates to them. -/
theorem body_run (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (Z19 : Vec F S1x32x64x4 .f32) (Z20 : Vec F S32x3x4352 .f32) (Z21 : Vec F S32x16x4352 .f32) (Z22 : Vec F S32x16x4352 .f32) (Z23 : Vec F S32x32x1280 .f32) (Z24 : Vec F S32x32x1280 .f32) (Z25 : Vec F S32x64x512 .f32) (Z26 : Vec F S32x64x256 .f32) (E : Set ℕ) (K : PUnit → sProp 𝕄)
    (h : ∀ y z20 z21 z22 z23 z24 z25 z26, Trace x0 x1 x2 x3 x4 x5 x6 x7 x8 x9 x10 x11 x12 x13 x14 x15 x16 x17 y → St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 y z20 z21 z22 z23 z24 z25 z26 ⊢ K ⟨⟩) :
    St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 Z19 Z20 Z21 Z22 Z23 Z24 Z25 Z26
      ⊢ wp frame (wpE (defs₀ (F := F)) Variants.none c none) E (cc0_patch_backbones i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  rw [cc0_patch_backbones_eq_skeleton]
  unfold cc0_patch_backbones_skel
  rw [k0_part22_eq_skeleton]
  unfold k0_part22_skel
  rw [wp_bind]
  refine part9_step arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i x0 x1 x2 x3 x4 x5 x6 x7 x8 x9 x10 x11 x12 x13 x14 x15 x16 x17 Z19 Z20 Z21 Z22 Z23 Z24 Z25 Z26  _ E _ fun v24 A20 A21 A22 h9 => ?_
  refine part10_step arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i x0 x1 x2 x3 x4 x5 x6 x7 x8 x9 x10 x11 x12 x13 x14 x15 x16 x17 Z19 A20 A21 A22 Z23 Z24 Z25 Z26 v24 _ E _ fun v49 A23 A24 A25 h10 => ?_
  refine part11_step arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i x0 x1 x2 x3 x4 x5 x6 x7 x8 x9 x10 x11 x12 x13 x14 x15 x16 x17 Z19 A20 A21 A22 A23 A24 A25 Z26 v49 _ E _ fun v54 v56 v85 p11 q11 B20 B21 h11 => ?_
  refine part12_step arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i x0 x1 x2 x3 x4 x5 x6 x7 x8 x9 x10 x11 x12 x13 x14 x15 x16 x17 Z19 B20 B21 A22 A23 A24 A25 Z26 v85 p11 q11 _ E _ fun  C21 h12 => ?_
  refine part13_step arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i x0 x1 x2 x3 x4 x5 x6 x7 x8 x9 x10 x11 x12 x13 x14 x15 x16 x17 Z19 B20 C21 A22 A23 A24 A25 Z26  _ E _ fun v154 v158 v159 C22 h13 => ?_
  refine part14_step arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i x0 x1 x2 x3 x4 x5 x6 x7 x8 x9 x10 x11 x12 x13 x14 x15 x16 x17 Z19 B20 C21 C22 A23 A24 A25 Z26 v154 v158 v159 _ E _ fun v188 v191 v193 v195 D22 h14 => ?_
  refine part15_step arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i x0 x1 x2 x3 x4 x5 x6 x7 x8 x9 x10 x11 x12 x13 x14 x15 x16 x17 Z19 B20 C21 D22 A23 A24 A25 Z26 v54 v188 v191 v193 v195 _ E _ fun v219 v226 v228 v230 E23 h15 => ?_
  refine part16_step arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i x0 x1 x2 x3 x4 x5 x6 x7 x8 x9 x10 x11 x12 x13 x14 x15 x16 x17 Z19 B20 C21 D22 E23 A24 A25 Z26 v219 v226 v228 v230 _ E _ fun v253 v270 v271 F23 h16 => ?_
  refine part17_step arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i x0 x1 x2 x3 x4 x5 x6 x7 x8 x9 x10 x11 x12 x13 x14 x15 x16 x17 Z19 B20 C21 D22 F23 A24 A25 Z26 v253 v270 v271 _ E _ fun v284 v291 v293 v295 v297 v301 v306 G24 h17 => ?_
  refine part18_step arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i x0 x1 x2 x3 x4 x5 x6 x7 x8 x9 x10 x11 x12 x13 x14 x15 x16 x17 Z19 B20 C21 D22 F23 G24 A25 Z26 v56 v284 v291 v293 v295 v297 v301 v306 _ E _ fun  H24 H25 h18 => ?_
  refine part19_step arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i x0 x1 x2 x3 x4 x5 x6 x7 x8 x9 x10 x11 x12 x13 x14 x15 x16 x17 Z19 B20 C21 D22 F23 H24 H25 Z26  _ E _ fun v366 v371 v380 p19 q19  h19 => ?_
  refine part20_step arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i x0 x1 x2 x3 x4 x5 x6 x7 x8 x9 x10 x11 x12 x13 x14 x15 x16 x17 Z19 B20 C21 D22 F23 H24 H25 Z26 v366 v371 v380 p19 q19 _ E _ fun v414 v416 I25 I26 h20 => ?_
  refine part21_step arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i x0 x1 x2 x3 x4 x5 x6 x7 x8 x9 x10 x11 x12 x13 x14 x15 x16 x17 Z19 B20 C21 D22 F23 H24 I25 I26 v414 v416 _ E _ fun v452 J26 h21 => ?_
  exact last_step arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 Z19 B20 C21 D22 F23 H24 I25 J26 v452 E _ ((h _ B20 C21 D22 F23 H24 I25 J26 (trace_of Z26 h9.1 h9.2.1 h9.2.2.1 h9.2.2.2 h10.1 h10.2.1 h10.2.2.1 h10.2.2.2 h11.1 h11.2.1 h11.2.2.1 h11.2.2.2.1 h11.2.2.2.2 h12 h13.1 h13.2.1 h13.2.2.1 h13.2.2.2 h14.1 h14.2.1 h14.2.2.1 h14.2.2.2.1 h14.2.2.2.2 h15.1 h15.2.1 h15.2.2.1 h15.2.2.2.1 h15.2.2.2.2 h16.1 h16.2.1 h16.2.2.1 h16.2.2.2 h17.1 h17.2.1 h17.2.2.1 h17.2.2.2.1 h17.2.2.2.2.1 h17.2.2.2.2.2.1 h17.2.2.2.2.2.2.1 h17.2.2.2.2.2.2.2 h18.1 h18.2 h19.1 h19.2.1 h19.2.2 h20.1 h20.2.1 h20.2.2.1 h20.2.2.2 h21.1 h21.2 rfl)).trans (le_wp_ret _ _ _ _ _))

end Cert.Proof

end
-- ==== Proof.Region.lean ====
/- The region: the proof data of the pipeline, the body's obligation at each grid point, and the run, for an output block the chain of equations determines. -/
module

public import proofs.«01_k».proof.Proof.Body
public import proofs.«01_k».proof.Proof.Gen.KernelIdeal.Frame
public import Idealize.ShloMosaic.Lib.Pipeline.FrameBody

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

/-- What the body hands back: its buffers, the output at a value the chain of equations reaches. -/
def Left (c : Dev nD) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) : sProp 𝕄 :=
  iprop(∃ (y : Vec F S1x32x64x4 .f32) (z20 : Vec F S32x3x4352 .f32) (z21 : Vec F S32x16x4352 .f32) (z22 : Vec F S32x16x4352 .f32) (z23 : Vec F S32x32x1280 .f32) (z24 : Vec F S32x32x1280 .f32) (z25 : Vec F S32x64x512 .f32) (z26 : Vec F S32x64x256 .f32), ⌜Trace x0 x1 x2 x3 x4 x5 x6 x7 x8 x9 x10 x11 x12 x13 x14 x15 x16 x17 y⌝ ∗ St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 y z20 z21 z22 z23 z24 z25 z26)

/-- The body beside whatever else is owned. -/
theorem body_owned (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (Z19 : Vec F S1x32x64x4 .f32) (Z20 : Vec F S32x3x4352 .f32) (Z21 : Vec F S32x16x4352 .f32) (Z22 : Vec F S32x16x4352 .f32) (Z23 : Vec F S32x32x1280 .f32) (Z24 : Vec F S32x32x1280 .f32) (Z25 : Vec F S32x64x512 .f32) (Z26 : Vec F S32x64x256 .f32) (E : Set ℕ) (G : sProp 𝕄) :
    iprop(St arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 Z19 Z20 Z21 Z22 Z23 Z24 Z25 Z26 ∗ G)
      ⊢ wp frame (wpE (defs₀ (F := F)) Variants.none c none) E (cc0_patch_backbones i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) (fun _ => iprop(Left arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 ∗ G)) :=
  (sep_mono_left (body_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c i x0 x1 x2 x3 x4 x5 x6 x7 x8 x9 x10 x11 x12 x13 x14 x15 x16 x17 Z19 Z20 Z21 Z22 Z23 Z24 Z25 Z26 E (fun _ => Left arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17) (fun y z20 z21 z22 z23 z24 z25 z26 ht => by
    unfold Left
    iintro HS
    iexists y, z20, z21, z22, z23, z24, z25, z26
    isplitr
    · ipureintro; exact ht
    iexact HS))).trans (wp_frame_r _ _ _)

end

variable (m : (ℓ : Loc nD τ sig) → Buf (Elt F) ℓ) (ρ : Dev nD → PrngReg)
variable (out : Dev nD → Fin cfg0.N → Vec F S1x32x64x4 .f32)

/-- The proof data on core `c`: every input block stays, the output block at point `t` becomes `out c t`. -/
def kdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out c t
    | ⟨_ + 19, h⟩ => absurd h (Nat.not_lt.2 (Nat.le_add_left _ _))
  Φ _ := Pipeline.ΦA spec0 c
  q _ := fullShare
  owed _ := 0

theorem kA_eq (c : Dev nD) (w : Fin cfg0.W) : (kdats m out 0 c).A w = V m c (Pipeline.arrRef spec0 w) := by
  dsimp only [kdats]

theorem kafter_0 (c : Dev nD) (t : Fin cfg0.N) : (kdats m out 0 c).after 0 t = iblk m c 0 t := by dsimp only [kdats]
theorem kafter_1 (c : Dev nD) (t : Fin cfg0.N) : (kdats m out 0 c).after 1 t = iblk m c 1 t := by dsimp only [kdats]
theorem kafter_2 (c : Dev nD) (t : Fin cfg0.N) : (kdats m out 0 c).after 2 t = iblk m c 2 t := by dsimp only [kdats]
theorem kafter_3 (c : Dev nD) (t : Fin cfg0.N) : (kdats m out 0 c).after 3 t = iblk m c 3 t := by dsimp only [kdats]
theorem kafter_4 (c : Dev nD) (t : Fin cfg0.N) : (kdats m out 0 c).after 4 t = iblk m c 4 t := by dsimp only [kdats]
theorem kafter_5 (c : Dev nD) (t : Fin cfg0.N) : (kdats m out 0 c).after 5 t = iblk m c 5 t := by dsimp only [kdats]
theorem kafter_6 (c : Dev nD) (t : Fin cfg0.N) : (kdats m out 0 c).after 6 t = iblk m c 6 t := by dsimp only [kdats]
theorem kafter_7 (c : Dev nD) (t : Fin cfg0.N) : (kdats m out 0 c).after 7 t = iblk m c 7 t := by dsimp only [kdats]
theorem kafter_8 (c : Dev nD) (t : Fin cfg0.N) : (kdats m out 0 c).after 8 t = iblk m c 8 t := by dsimp only [kdats]
theorem kafter_9 (c : Dev nD) (t : Fin cfg0.N) : (kdats m out 0 c).after 9 t = iblk m c 9 t := by dsimp only [kdats]
theorem kafter_10 (c : Dev nD) (t : Fin cfg0.N) : (kdats m out 0 c).after 10 t = iblk m c 10 t := by dsimp only [kdats]
theorem kafter_11 (c : Dev nD) (t : Fin cfg0.N) : (kdats m out 0 c).after 11 t = iblk m c 11 t := by dsimp only [kdats]
theorem kafter_12 (c : Dev nD) (t : Fin cfg0.N) : (kdats m out 0 c).after 12 t = iblk m c 12 t := by dsimp only [kdats]
theorem kafter_13 (c : Dev nD) (t : Fin cfg0.N) : (kdats m out 0 c).after 13 t = iblk m c 13 t := by dsimp only [kdats]
theorem kafter_14 (c : Dev nD) (t : Fin cfg0.N) : (kdats m out 0 c).after 14 t = iblk m c 14 t := by dsimp only [kdats]
theorem kafter_15 (c : Dev nD) (t : Fin cfg0.N) : (kdats m out 0 c).after 15 t = iblk m c 15 t := by dsimp only [kdats]
theorem kafter_16 (c : Dev nD) (t : Fin cfg0.N) : (kdats m out 0 c).after 16 t = iblk m c 16 t := by dsimp only [kdats]
theorem kafter_17 (c : Dev nD) (t : Fin cfg0.N) : (kdats m out 0 c).after 17 t = iblk m c 17 t := by dsimp only [kdats]
theorem kafter_18 (c : Dev nD) (t : Fin cfg0.N) : (kdats m out 0 c).after 18 t = out c t := by dsimp only [kdats]

theorem kbefore_0 (c : Dev nD) (t : Fin cfg0.N) (d) : (kdats m out 0 c).before 0 t d = iblk m c 0 t :=
  before0_0_of m (kdats m out 0 c) (kA_eq m out c 0) (kafter_0 m out c) t d
theorem kbefore_1 (c : Dev nD) (t : Fin cfg0.N) (d) : (kdats m out 0 c).before 1 t d = iblk m c 1 t :=
  before0_1_of m (kdats m out 0 c) (kA_eq m out c 1) (kafter_1 m out c) t d
theorem kbefore_2 (c : Dev nD) (t : Fin cfg0.N) (d) : (kdats m out 0 c).before 2 t d = iblk m c 2 t :=
  before0_2_of m (kdats m out 0 c) (kA_eq m out c 2) (kafter_2 m out c) t d
theorem kbefore_3 (c : Dev nD) (t : Fin cfg0.N) (d) : (kdats m out 0 c).before 3 t d = iblk m c 3 t :=
  before0_3_of m (kdats m out 0 c) (kA_eq m out c 3) (kafter_3 m out c) t d
theorem kbefore_4 (c : Dev nD) (t : Fin cfg0.N) (d) : (kdats m out 0 c).before 4 t d = iblk m c 4 t :=
  before0_4_of m (kdats m out 0 c) (kA_eq m out c 4) (kafter_4 m out c) t d
theorem kbefore_5 (c : Dev nD) (t : Fin cfg0.N) (d) : (kdats m out 0 c).before 5 t d = iblk m c 5 t :=
  before0_5_of m (kdats m out 0 c) (kA_eq m out c 5) (kafter_5 m out c) t d
theorem kbefore_6 (c : Dev nD) (t : Fin cfg0.N) (d) : (kdats m out 0 c).before 6 t d = iblk m c 6 t :=
  before0_6_of m (kdats m out 0 c) (kA_eq m out c 6) (kafter_6 m out c) t d
theorem kbefore_7 (c : Dev nD) (t : Fin cfg0.N) (d) : (kdats m out 0 c).before 7 t d = iblk m c 7 t :=
  before0_7_of m (kdats m out 0 c) (kA_eq m out c 7) (kafter_7 m out c) t d
theorem kbefore_8 (c : Dev nD) (t : Fin cfg0.N) (d) : (kdats m out 0 c).before 8 t d = iblk m c 8 t :=
  before0_8_of m (kdats m out 0 c) (kA_eq m out c 8) (kafter_8 m out c) t d
theorem kbefore_9 (c : Dev nD) (t : Fin cfg0.N) (d) : (kdats m out 0 c).before 9 t d = iblk m c 9 t :=
  before0_9_of m (kdats m out 0 c) (kA_eq m out c 9) (kafter_9 m out c) t d
theorem kbefore_10 (c : Dev nD) (t : Fin cfg0.N) (d) : (kdats m out 0 c).before 10 t d = iblk m c 10 t :=
  before0_10_of m (kdats m out 0 c) (kA_eq m out c 10) (kafter_10 m out c) t d
theorem kbefore_11 (c : Dev nD) (t : Fin cfg0.N) (d) : (kdats m out 0 c).before 11 t d = iblk m c 11 t :=
  before0_11_of m (kdats m out 0 c) (kA_eq m out c 11) (kafter_11 m out c) t d
theorem kbefore_12 (c : Dev nD) (t : Fin cfg0.N) (d) : (kdats m out 0 c).before 12 t d = iblk m c 12 t :=
  before0_12_of m (kdats m out 0 c) (kA_eq m out c 12) (kafter_12 m out c) t d
theorem kbefore_13 (c : Dev nD) (t : Fin cfg0.N) (d) : (kdats m out 0 c).before 13 t d = iblk m c 13 t :=
  before0_13_of m (kdats m out 0 c) (kA_eq m out c 13) (kafter_13 m out c) t d
theorem kbefore_14 (c : Dev nD) (t : Fin cfg0.N) (d) : (kdats m out 0 c).before 14 t d = iblk m c 14 t :=
  before0_14_of m (kdats m out 0 c) (kA_eq m out c 14) (kafter_14 m out c) t d
theorem kbefore_15 (c : Dev nD) (t : Fin cfg0.N) (d) : (kdats m out 0 c).before 15 t d = iblk m c 15 t :=
  before0_15_of m (kdats m out 0 c) (kA_eq m out c 15) (kafter_15 m out c) t d
theorem kbefore_16 (c : Dev nD) (t : Fin cfg0.N) (d) : (kdats m out 0 c).before 16 t d = iblk m c 16 t :=
  before0_16_of m (kdats m out 0 c) (kA_eq m out c 16) (kafter_16 m out c) t d
theorem kbefore_17 (c : Dev nD) (t : Fin cfg0.N) (d) : (kdats m out 0 c).before 17 t d = iblk m c 17 t :=
  before0_17_of m (kdats m out 0 c) (kA_eq m out c 17) (kafter_17 m out c) t d

/-- The region's own buffers and generator register, the scratch buffers owned at some contents. -/
theorem kinv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body is called with at point `t`, window by window, -/
def kpre (c : Dev nD) (t : Fin cfg0.N) : sProp 𝕄 :=
  iprop((kdats m out 0 c).Φ t.castSucc ∗ (kdats m out 0 c).owesAt () t.castSucc
    ∗ (∃ d, owns (c : Thread nD τ) (win0_0.stage (cfg0.slots t 0)) fullShare ((kdats m out 0 c).before 0 t d))
    ∗ (∃ d, owns (c : Thread nD τ) (win0_1.stage (cfg0.slots t 1)) fullShare ((kdats m out 0 c).before 1 t d))
    ∗ (∃ d, owns (c : Thread nD τ) (win0_2.stage (cfg0.slots t 2)) fullShare ((kdats m out 0 c).before 2 t d))
    ∗ (∃ d, owns (c : Thread nD τ) (win0_3.stage (cfg0.slots t 3)) fullShare ((kdats m out 0 c).before 3 t d))
    ∗ (∃ d, owns (c : Thread nD τ) (win0_4.stage (cfg0.slots t 4)) fullShare ((kdats m out 0 c).before 4 t d))
    ∗ (∃ d, owns (c : Thread nD τ) (win0_5.stage (cfg0.slots t 5)) fullShare ((kdats m out 0 c).before 5 t d))
    ∗ (∃ d, owns (c : Thread nD τ) (win0_6.stage (cfg0.slots t 6)) fullShare ((kdats m out 0 c).before 6 t d))
    ∗ (∃ d, owns (c : Thread nD τ) (win0_7.stage (cfg0.slots t 7)) fullShare ((kdats m out 0 c).before 7 t d))
    ∗ (∃ d, owns (c : Thread nD τ) (win0_8.stage (cfg0.slots t 8)) fullShare ((kdats m out 0 c).before 8 t d))
    ∗ (∃ d, owns (c : Thread nD τ) (win0_9.stage (cfg0.slots t 9)) fullShare ((kdats m out 0 c).before 9 t d))
    ∗ (∃ d, owns (c : Thread nD τ) (win0_10.stage (cfg0.slots t 10)) fullShare ((kdats m out 0 c).before 10 t d))
    ∗ (∃ d, owns (c : Thread nD τ) (win0_11.stage (cfg0.slots t 11)) fullShare ((kdats m out 0 c).before 11 t d))
    ∗ (∃ d, owns (c : Thread nD τ) (win0_12.stage (cfg0.slots t 12)) fullShare ((kdats m out 0 c).before 12 t d))
    ∗ (∃ d, owns (c : Thread nD τ) (win0_13.stage (cfg0.slots t 13)) fullShare ((kdats m out 0 c).before 13 t d))
    ∗ (∃ d, owns (c : Thread nD τ) (win0_14.stage (cfg0.slots t 14)) fullShare ((kdats m out 0 c).before 14 t d))
    ∗ (∃ d, owns (c : Thread nD τ) (win0_15.stage (cfg0.slots t 15)) fullShare ((kdats m out 0 c).before 15 t d))
    ∗ (∃ d, owns (c : Thread nD τ) (win0_16.stage (cfg0.slots t 16)) fullShare ((kdats m out 0 c).before 16 t d))
    ∗ (∃ d, owns (c : Thread nD τ) (win0_17.stage (cfg0.slots t 17)) fullShare ((kdats m out 0 c).before 17 t d))
    ∗ (∃ d, owns (c : Thread nD τ) (win0_18.stage (cfg0.slots t 18)) fullShare ((kdats m out 0 c).before 18 t d)))

/-- and what it returns. -/
def kpost (c : Dev nD) (t : Fin cfg0.N) : sProp 𝕄 :=
  iprop((kdats m out 0 c).Φ t.succ ∗ (kdats m out 0 c).owesAt () t.succ
    ∗ owns (c : Thread nD τ) (win0_0.stage (cfg0.slots t 0)) fullShare ((kdats m out 0 c).after 0 t)
    ∗ owns (c : Thread nD τ) (win0_1.stage (cfg0.slots t 1)) fullShare ((kdats m out 0 c).after 1 t)
    ∗ owns (c : Thread nD τ) (win0_2.stage (cfg0.slots t 2)) fullShare ((kdats m out 0 c).after 2 t)
    ∗ owns (c : Thread nD τ) (win0_3.stage (cfg0.slots t 3)) fullShare ((kdats m out 0 c).after 3 t)
    ∗ owns (c : Thread nD τ) (win0_4.stage (cfg0.slots t 4)) fullShare ((kdats m out 0 c).after 4 t)
    ∗ owns (c : Thread nD τ) (win0_5.stage (cfg0.slots t 5)) fullShare ((kdats m out 0 c).after 5 t)
    ∗ owns (c : Thread nD τ) (win0_6.stage (cfg0.slots t 6)) fullShare ((kdats m out 0 c).after 6 t)
    ∗ owns (c : Thread nD τ) (win0_7.stage (cfg0.slots t 7)) fullShare ((kdats m out 0 c).after 7 t)
    ∗ owns (c : Thread nD τ) (win0_8.stage (cfg0.slots t 8)) fullShare ((kdats m out 0 c).after 8 t)
    ∗ owns (c : Thread nD τ) (win0_9.stage (cfg0.slots t 9)) fullShare ((kdats m out 0 c).after 9 t)
    ∗ owns (c : Thread nD τ) (win0_10.stage (cfg0.slots t 10)) fullShare ((kdats m out 0 c).after 10 t)
    ∗ owns (c : Thread nD τ) (win0_11.stage (cfg0.slots t 11)) fullShare ((kdats m out 0 c).after 11 t)
    ∗ owns (c : Thread nD τ) (win0_12.stage (cfg0.slots t 12)) fullShare ((kdats m out 0 c).after 12 t)
    ∗ owns (c : Thread nD τ) (win0_13.stage (cfg0.slots t 13)) fullShare ((kdats m out 0 c).after 13 t)
    ∗ owns (c : Thread nD τ) (win0_14.stage (cfg0.slots t 14)) fullShare ((kdats m out 0 c).after 14 t)
    ∗ owns (c : Thread nD τ) (win0_15.stage (cfg0.slots t 15)) fullShare ((kdats m out 0 c).after 15 t)
    ∗ owns (c : Thread nD τ) (win0_16.stage (cfg0.slots t 16)) fullShare ((kdats m out 0 c).after 16 t)
    ∗ owns (c : Thread nD τ) (win0_17.stage (cfg0.slots t 17)) fullShare ((kdats m out 0 c).after 17 t)
    ∗ owns (c : Thread nD τ) (win0_18.stage (cfg0.slots t 18)) fullShare ((kdats m out 0 c).after 18 t))

/-- What the body leaves is what the point returns. -/
theorem kback (hout : ∀ c t y, Trace (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y → y = out c t) (c : Dev nD) (t : Fin cfg0.N) :
    iprop(Left (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (win0_16.stage (cfg0.slots t 16)) (win0_17.stage (cfg0.slots t 17)) (win0_18.stage (cfg0.slots t 18)) (Memref.whole cc0_scratch0) (Memref.whole cc0_scratch1) (Memref.whole cc0_scratch2) (Memref.whole cc0_scratch3) (Memref.whole cc0_scratch4) (Memref.whole cc0_scratch5) (Memref.whole cc0_scratch6) c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ∗ (∃ r, prngReg c r) ∗ (kdats m out 0 c).owesAt () t.castSucc) ⊢ kpost m out c t := by
  unfold kpost Left St
  rw [show (kdats m out 0 c).Φ t.succ = Pipeline.ΦA spec0 c from rfl, kinv_eq,
    show (kdats m out 0 c).owesAt () t.succ = (kdats m out 0 c).owesAt () t.castSucc from rfl,
    kafter_0, kafter_1, kafter_2, kafter_3, kafter_4, kafter_5, kafter_6, kafter_7, kafter_8, kafter_9, kafter_10, kafter_11, kafter_12, kafter_13, kafter_14, kafter_15, kafter_16, kafter_17, kafter_18]
  iintro ⟨⟨%y, %z0, %z1, %z2, %z3, %z4, %z5, %z6, %ht, H0, H1, H2, H3, H4, H5, H6, H7, H8, H9, H10, H11, H12, H13, H14, H15, H16, H17, H18, HS0, HS1, HS2, HS3, HS4, HS5, HS6⟩, Hg, Ho⟩
  obtain rfl := hout c t y ht
  isplitl [HS0 HS1 HS2 HS3 HS4 HS5 HS6 Hg]
  · isplitr [Hg]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iexists _; iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

set_option maxHeartbeats 4000000 in
/-- The body at any point, where the chain of equations from the blocks ends in `out`. -/
theorem kbody (hout : ∀ c t y, Trace (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y → y = out c t) (c : Dev nD) (t : Fin cfg0.N) :
    kpre m out c t ⊢ wp frame (wpE (defs₀ (F := F)) Variants.none c none) Set.univ (bodyAt0 t) (fun _ => kpost m out c t) := by
  unfold kpre
  simp only [kbefore_0, kbefore_1, kbefore_2, kbefore_3, kbefore_4, kbefore_5, kbefore_6, kbefore_7, kbefore_8, kbefore_9, kbefore_10, kbefore_11, kbefore_12, kbefore_13, kbefore_14, kbefore_15, kbefore_16, kbefore_17]
  rw [show (kdats m out 0 c).Φ t.castSucc = Pipeline.ΦA spec0 c from rfl, kinv_eq]
  iintro ⟨⟨⟨⟨%z0, HS0⟩, ⟨%z1, HS1⟩, ⟨%z2, HS2⟩, ⟨%z3, HS3⟩, ⟨%z4, HS4⟩, ⟨%z5, HS5⟩, ⟨%z6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  have hb : iprop(St (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (win0_16.stage (cfg0.slots t 16)) (win0_17.stage (cfg0.slots t 17)) (win0_18.stage (cfg0.slots t 18)) (Memref.whole cc0_scratch0) (Memref.whole cc0_scratch1) (Memref.whole cc0_scratch2) (Memref.whole cc0_scratch3) (Memref.whole cc0_scratch4) (Memref.whole cc0_scratch5) (Memref.whole cc0_scratch6) c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ((kdats m out 0 c).before 18 t d18) z0 z1 z2 z3 z4 z5 z6 ∗ iprop((∃ r, prngReg c r) ∗ (kdats m out 0 c).owesAt () t.castSucc)) ⊢ wp frame (wpE (defs₀ (F := F)) Variants.none c none) Set.univ (bodyAt0 t) (fun _ => kpost m out c t) :=
    (body_owned (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ((kdats m out 0 c).before 18 t d18) z0 z1 z2 z3 z4 z5 z6 Set.univ iprop((∃ r, prngReg c r) ∗ (kdats m out 0 c).owesAt () t.castSucc)).trans (wp_mono _ _ _ fun _ => kback m out hout c t)
  iapply hb
  unfold St
  isplitr [Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [HS0]; · iexact HS0
    isplitl [HS1]; · iexact HS1
    isplitl [HS2]; · iexact HS2
    isplitl [HS3]; · iexact HS3
    isplitl [HS4]; · iexact HS4
    isplitl [HS5]; · iexact HS5
    iexact HS6
  isplitl [Hg]; · iexact Hg
  iexact Ho

/-- The library's body obligation, at every point. -/
theorem kobligation (hout : ∀ c t y, Trace (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y → y = out c t) (c : Dev nD) :
    BodyObligation (kdats (F := F) m out 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (kbody m out hout c t) rfl .rfl fun _ => .rfl

set_option backward.isDefEq.respectTransparency.types false in
/-- The run: every array of the pipeline ends as the proof data says, every other buffer as the region found it, every counter at zero. -/
theorem krun (hout : ∀ c t y, Trace (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y → y = out c t) :
    θ_run defs (onTc (τ := τ) (main (F := F))) (s₀ m ρ) (fun r => Pipeline.FramePost cfgs (kdats m out) 0 (V m) r ∧ r.2.sem = fun _ => 0) :=
  Pipeline.θ_run_frame (Q' := _) cfgs (kdats m out) (0 : Fin 1) launch0 defs₀ Variants.none m ρ main
    (hbody := fun c => (kobligation m out hout c).loose) (hshare := fun c => (kdats m out 0 c).share_full fun _ => rfl)
    (howed := fun _ _ => rfl) (V := V m) (hmain := hmain m Variants.none) (hA := kA_eq m out) (hΦ := fun _ _ => rfl)

end Cert.Proof

end
-- ==== Proof.Real.lean ====
/- The backbone of one patch over the real numbers, and the facts of real arithmetic the kernel's way of computing it rests on. -/
module

public import Idealize.ShloMosaic.Lib.Pointwise

@[expose] public section

noncomputable section

namespace Cert.Proof

/-- A batch of images: batch, channel, row, column. -/
abbrev Act := ℕ → ℕ → ℕ → ℕ → ℝ

/-- An image with a border of one zero on every side, read at bordered coordinates. -/
def pad (H W : ℕ) (A : ℕ → ℕ → ℝ) (y x : ℕ) : ℝ := if 1 ≤ y ∧ y ≤ H ∧ 1 ≤ x ∧ x ≤ W then A (y - 1) (x - 1) else 0

/-- The 3×3 convolution with a border of zeros. -/
def conv (Ci H W : ℕ) (w : ℕ → ℕ → ℕ → ℕ → ℝ) (A : Act) : Act := fun b o h v =>
  ∑ dy : Fin 3, ∑ dx : Fin 3, ∑ i : Fin Ci, w o i dy dx * pad H W (A b i) (h + dy) (v + dx)

/-- Every second row and column. -/
def half (A : Act) : Act := fun b c h v => A b c (2 * h) (2 * v)

/-- The mean of a channel over batch and image. -/
def mean (H W : ℕ) (A : Act) (c : ℕ) : ℝ := (∑ b : Fin 32, ∑ h : Fin H, ∑ v : Fin W, A b c h v) / (32 * H * W)

/-- The variance of a channel over batch and image. -/
def var (H W : ℕ) (A : Act) (c : ℕ) : ℝ :=
  (∑ b : Fin 32, ∑ h : Fin H, ∑ v : Fin W, (A b c h v - mean H W A c) * (A b c h v - mean H W A c)) / (32 * H * W)

/-- The small number added to every variance: the 32-bit number `0x3727C5AC`. -/
def eps : ℝ := 10995116 / 2 ^ 40

/-- The reciprocal square root of two as the 32-bit number `0x3F3504F3`. -/
def isq : ℝ := 11863283 / 2 ^ 24

/-- The activation: a quadratic Hermite polynomial of the normalised channel. -/
def act (H W : ℕ) (a : ℕ → ℕ → ℝ) (A : Act) : Act := fun b c h v =>
  a 0 c + a 1 c * ((A b c h v - mean H W A c) * (√(var H W A c + eps))⁻¹)
    + a 2 c * ((A b c h v - mean H W A c) * (√(var H W A c + eps))⁻¹ * ((A b c h v - mean H W A c) * (√(var H W A c + eps))⁻¹) - 1) * isq

/-- The mean of each of the four 8×8 blocks of a 16×16 image. -/
def pool (A : Act) (b c q : ℕ) : ℝ := (∑ i : Fin 8, ∑ j : Fin 8, A b c (8 * (q / 2) + i) (8 * (q % 2) + j)) / 64

/-- The mean over the batch. -/
def bmean (P : ℕ → ℕ → ℕ → ℝ) (c q : ℕ) : ℝ := (∑ b : Fin 32, P b c q) / 32

/-- The variance over the batch. -/
def bvar (P : ℕ → ℕ → ℕ → ℝ) (c q : ℕ) : ℝ := (∑ b : Fin 32, (P b c q - bmean P c q) * (P b c q - bmean P c q)) / 32

/-- The value normalised over the batch. -/
def bnorm (P : ℕ → ℕ → ℕ → ℝ) (b c q : ℕ) : ℝ := (P b c q - bmean P c q) * (√(bvar P c q + eps))⁻¹

/-- The real inputs of one patch. -/
structure Inp where
  x : Act
  k1 : ℕ → ℕ → ℕ → ℕ → ℝ
  a1 : ℕ → ℕ → ℝ
  k2 : ℕ → ℕ → ℕ → ℕ → ℝ
  a2 : ℕ → ℕ → ℝ
  k3 : ℕ → ℕ → ℕ → ℕ → ℝ
  a3 : ℕ → ℕ → ℝ
  k4 : ℕ → ℕ → ℕ → ℕ → ℝ
  a4 : ℕ → ℕ → ℝ
  k5 : ℕ → ℕ → ℕ → ℕ → ℝ
  a5 : ℕ → ℕ → ℝ
  k6 : ℕ → ℕ → ℕ → ℕ → ℝ
  a6 : ℕ → ℕ → ℝ

namespace Inp
variable (I : Inp)

/-- The first layer before its activation. -/
def c1 : Act := conv 3 64 64 I.k1 I.x
/-- The first layer. -/
def l1 : Act := act 64 64 I.a1 I.c1
/-- The second layer before its activation. -/
def c2 : Act := conv 16 64 64 I.k2 I.l1
/-- The second layer. -/
def l2 : Act := act 64 64 I.a2 I.c2
/-- The third layer before its activation. -/
def c3 : Act := half (conv 16 64 64 I.k3 I.l2)
/-- The third layer. -/
def l3 : Act := act 32 32 I.a3 I.c3
/-- The fourth layer before its activation. -/
def c4 : Act := conv 32 32 32 I.k4 I.l3
/-- The fourth layer. -/
def l4 : Act := act 32 32 I.a4 I.c4
/-- The fifth layer before its activation. -/
def c5 : Act := half (conv 32 32 32 I.k5 I.l4)
/-- The fifth layer. -/
def l5 : Act := act 16 16 I.a5 I.c5
/-- The sixth layer before its activation. -/
def c6 : Act := conv 64 16 16 I.k6 I.l5
/-- The sixth layer. -/
def l6 : Act := act 16 16 I.a6 I.c6
/-- The features of the patch, normalised over the batch. -/
def feat : ℕ → ℕ → ℕ → ℝ := bnorm (pool I.l6)
end Inp

/-! ## Sums -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_flat {M : Type} [AddCommMonoid M] {n : ℕ} (H W : ℕ) (hn : n = H * W) (f : ℕ → ℕ → M) :
    ∑ p : Fin n, f (p.val / W) (p.val % W) = ∑ h : Fin H, ∑ v : Fin W, f h v := by
  subst hn
  rcases Nat.eq_zero_or_pos W with h0 | h0
  · subst h0; simp
  rw [← Equiv.sum_comp finProdFinEquiv, Fintype.sum_prod_type]
  refine Finset.sum_congr rfl fun h _ => Finset.sum_congr rfl fun v _ => ?_
  have hv := v.isLt
  have e : (finProdFinEquiv (h, v)).val = v.val + W * h.val := rfl
  rw [e, Nat.add_mul_div_left _ _ h0, Nat.add_mul_mod_self_left, Nat.div_eq_of_lt hv, Nat.mod_eq_of_lt hv, Nat.zero_add]

theorem sum_taps {M : Type} [AddCommMonoid M] {n : ℕ} (C : ℕ) (hn : n = 9 * C) (f : Fin n → M)
    (hlt : ∀ (dy dx : Fin 3) (i : Fin C), (dy.val * 3 + dx.val) * C + i.val < n) :
    ∑ k : Fin n, f k = ∑ dy : Fin 3, ∑ dx : Fin 3, ∑ i : Fin C, f ⟨(dy.val * 3 + dx.val) * C + i.val, hlt dy dx i⟩ := by
  subst hn
  rw [← Equiv.sum_comp finProdFinEquiv, Fintype.sum_prod_type]
  rw [← Equiv.sum_comp (finProdFinEquiv (m := 3) (n := 3)), Fintype.sum_prod_type]
  refine Finset.sum_congr rfl fun dy _ => Finset.sum_congr rfl fun dx _ => Finset.sum_congr rfl fun i _ => ?_
  congr 1
  apply Fin.ext
  show i.val + C * (dx.val + 3 * dy.val) = (dy.val * 3 + dx.val) * C + i.val
  ring

/-! ## The moments -/

theorem sum3_sq {H W : ℕ} (f : Fin 32 → Fin H → Fin W → ℝ) (m : ℝ) :
    ∑ b, ∑ h, ∑ v, (f b h v - m) * (f b h v - m) = (∑ b, ∑ h, ∑ v, f b h v * f b h v) - 2 * m * (∑ b, ∑ h, ∑ v, f b h v) + 32 * H * W * (m * m) := by
  have e : ∀ b h v, (f b h v - m) * (f b h v - m) = f b h v * f b h v - 2 * m * f b h v + m * m := fun b h v => by ring
  simp only [e, Finset.sum_add_distrib, Finset.sum_sub_distrib, Finset.mul_sum, Finset.sum_const, Finset.card_univ, Fintype.card_fin, nsmul_eq_mul]
  push_cast
  ring

theorem var_eq (H W : ℕ) (hH : 0 < H) (hW : 0 < W) (A : Act) (c : ℕ) :
    (∑ b : Fin 32, ∑ h : Fin H, ∑ v : Fin W, A b c h v * A b c h v) / (32 * H * W) - mean H W A c * mean H W A c = var H W A c := by
  have hH' : (H : ℝ) ≠ 0 := by positivity
  have hW' : (W : ℝ) ≠ 0 := by positivity
  unfold var
  rw [sum3_sq (fun (b : Fin 32) (h : Fin H) (v : Fin W) => A b c h v)]
  have hs : (∑ b : Fin 32, ∑ h : Fin H, ∑ v : Fin W, A b c h v) = mean H W A c * (32 * H * W) := by
    unfold mean; field_simp
  rw [hs]
  field_simp
  ring

theorem var_nonneg (H W : ℕ) (A : Act) (c : ℕ) : 0 ≤ var H W A c := by
  unfold var
  refine div_nonneg ?_ (by positivity)
  exact Finset.sum_nonneg fun b _ => Finset.sum_nonneg fun h _ => Finset.sum_nonneg fun v _ => mul_self_nonneg _

theorem bvar_eq (P : ℕ → ℕ → ℕ → ℝ) (c q : ℕ) :
    (∑ b : Fin 32, P b c q * P b c q) / 32 - bmean P c q * bmean P c q = bvar P c q := by
  unfold bvar
  have e : ∀ (m : ℝ) (b : Fin 32), (P b c q - m) * (P b c q - m) = P b c q * P b c q - 2 * m * P b c q + m * m := fun m b => by ring
  simp only [e, Finset.sum_add_distrib, Finset.sum_sub_distrib, ← Finset.mul_sum, Finset.sum_const, Finset.card_univ, Fintype.card_fin, nsmul_eq_mul]
  have hs : (∑ b : Fin 32, P b c q) = bmean P c q * 32 := by unfold bmean; ring
  rw [hs]
  push_cast
  ring

theorem bvar_nonneg (P : ℕ → ℕ → ℕ → ℝ) (c q : ℕ) : 0 ≤ bvar P c q := by
  unfold bvar
  exact div_nonneg (Finset.sum_nonneg fun b _ => mul_self_nonneg _) (by norm_num)

theorem eps_pos : 0 < eps := by unfold eps; norm_num

/-! ## A row of lanes -/

/-- Lane `l` of a guarded row: the image in lanes 128 and on, row by row, zeros around it. -/
def lane (H W : ℕ) (A : ℕ → ℕ → ℝ) (l : ℕ) : ℝ := if 128 ≤ l ∧ l < 128 + H * W then A ((l - 128) / W) ((l - 128) % W) else 0

theorem lane_in (H W : ℕ) (A : ℕ → ℕ → ℝ) (l : ℕ) (h : l < H * W) : lane H W A (128 + l) = A (l / W) (l % W) := by
  unfold lane
  rw [if_pos ⟨by omega, by omega⟩, Nat.add_sub_cancel_left]

/-- A tap of the convolution read from the guarded row and masked is the bordered image. -/
theorem tap (H W o : ℕ) (hW : 0 < W) (ho : o + W + 1 = 128) (A : ℕ → ℕ → ℝ) (p dy dx : ℕ) (hp : p < H * W) (hdy : dy < 3) (hdx : dx < 3) :
    lane H W A (o + W * dy + dx + p) * (if (dx = 0 ∧ p % W = 0) ∨ (dx = 2 ∧ p % W = W - 1) then 0 else 1)
      = pad H W A (p / W + dy) (p % W + dx) := by
  obtain ⟨h, v, rfl, hv⟩ : ∃ h v, p = W * h + v ∧ v < W := ⟨p / W, p % W, (Nat.div_add_mod p W).symm, Nat.mod_lt _ hW⟩
  have e1 : (W * h + v) / W = h := by rw [Nat.mul_add_div hW, Nat.div_eq_of_lt hv, Nat.add_zero]
  have e2 : (W * h + v) % W = v := by rw [Nat.mul_add_mod, Nat.mod_eq_of_lt hv]
  have hh : h < H := by
    by_contra hc
    have : H * W ≤ h * W := Nat.mul_le_mul_right _ (by omega)
    rw [Nat.mul_comm h W] at this
    omega
  rw [e1, e2]
  unfold pad
  by_cases hm : (dx = 0 ∧ v = 0) ∨ (dx = 2 ∧ v = W - 1)
  · rw [if_pos hm, mul_zero, if_neg (by omega)]
  rw [if_neg hm, mul_one]
  have hx : 1 ≤ v + dx ∧ v + dx ≤ W := by omega
  by_cases hy : 1 ≤ h + dy ∧ h + dy ≤ H
  · rw [if_pos ⟨hy.1, hy.2, hx.1, hx.2⟩]
    have key : o + W * dy + dx + (W * h + v) = 128 + (W * (h + dy - 1) + (v + dx - 1)) := by
      have e3 : W * (h + dy) = W * (h + dy - 1) + W := by
        obtain ⟨k, hk⟩ : ∃ k, h + dy = k + 1 := ⟨h + dy - 1, by omega⟩
        rw [hk, Nat.add_sub_cancel]; ring
      have e4 : W * (h + dy) = W * h + W * dy := by ring
      omega
    have hb : v + dx - 1 < W := by omega
    have hlt : W * (h + dy - 1) + (v + dx - 1) < H * W := by
      have : (h + dy - 1 + 1) * W ≤ H * W := Nat.mul_le_mul_right _ (by omega)
      have e5 : (h + dy - 1 + 1) * W = W * (h + dy - 1) + W := by ring
      omega
    rw [key, lane_in _ _ _ _ hlt, Nat.mul_add_div hW, Nat.div_eq_of_lt hb, Nat.add_zero, Nat.mul_add_mod, Nat.mod_eq_of_lt hb]
  · rw [if_neg (by omega)]
    unfold lane
    rw [if_neg]
    rintro ⟨hl1, hl2⟩
    rcases Nat.lt_or_ge (h + dy) 1 with h1 | h1
    · have : h = 0 := by omega
      have : dy = 0 := by omega
      subst_vars
      simp only [Nat.mul_zero] at hl1
      omega
    · have h2 : H + 1 ≤ h + dy := by omega
      have : (H + 1) * W ≤ (h + dy) * W := Nat.mul_le_mul_right _ h2
      have e6 : (H + 1) * W = H * W + W := by ring
      have e7 : (h + dy) * W = W * h + W * dy := by ring
      omega

/-- The four block means as a product with the averaging matrix. -/
theorem pool_eq (A : ℕ → ℕ → ℝ) (q : Fin 4) :
    ∑ k : Fin 256, A (k.val / 16) (k.val % 16) * (if k.val / 16 / 8 * 2 + k.val % 16 / 8 = q.val then 1 / 64 else 0)
      = (∑ i : Fin 8, ∑ j : Fin 8, A (8 * (q.val / 2) + i) (8 * (q.val % 2) + j)) / 64 := by
  rw [sum_flat (n := 256) 16 16 (by norm_num) (fun h v => A h v * (if h / 8 * 2 + v / 8 = q.val then 1 / 64 else 0))]
  have two : ∀ f : ℕ → ℝ, ∑ h : Fin 16, f h = ∑ a : Fin 2, ∑ i : Fin 8, f (8 * a + i) := fun f => by
    rw [← sum_flat (n := 16) 2 8 (by norm_num) (fun a i => f (8 * a + i))]
    exact Finset.sum_congr rfl fun p _ => by rw [Nat.div_add_mod]
  rw [two (fun h => ∑ v : Fin 16, A h v * (if h / 8 * 2 + v.val / 8 = q.val then 1 / 64 else 0))]
  simp only [fun h => two (fun v => A h v * (if h / 8 * 2 + v / 8 = q.val then 1 / 64 else 0))]
  have e8 : ∀ (a : Fin 2) (i : Fin 8), (8 * a.val + i.val) / 8 = a.val := fun a i => by omega
  simp only [e8]
  rw [Finset.sum_div]
  simp only [Finset.sum_div]
  fin_cases q <;> simp [Fin.sum_univ_two, div_eq_mul_inv]

end Cert.Proof
-- ==== Proof.Taps.lean ====
/- What the taps of a convolution read: a guarded row, its masks, and the index of a weight. -/
module

public import proofs.«01_k».proof.Proof.Real
public import Idealize.ShloMosaic.PureOps

@[expose] public section

noncomputable section

namespace Cert.Proof

open Idealize.ShloMosaic Idealize.ShloMosaic.TcCoe Idealize.ShloMosaic.Tactic

/-- The buffer holds the image `A`, guarded: every element is the real one. -/
def Img {C L : ℕ} (H W : ℕ) (A : Act) (X : (⟨3, ![32, C, L]⟩ : Shape).Idx → EReal) : Prop :=
  ∀ (b : Fin 32) (c : Fin C) (l : Fin L), X (ix3 b c l) = ((lane H W (A b c) l : ℝ) : EReal)

theorem sitofp_ne (a b : BitVec 32) :
    (FloatOps.sitofp .f32 (BitVec.setWidth 32 (IntOp.cmpi .ne a b)) : Ideal .f32) = ((if a = b then 0 else 1 : ℝ) : EReal) := by
  by_cases h : a = b
  · subst h
    rw [if_pos rfl]
    show (((BitVec.setWidth 32 (IntOp.cmpi .ne a a)).toInt : ℝ) : EReal) = _
    simp [IntOp.cmpi]
  · rw [if_neg h]
    show (((BitVec.setWidth 32 (IntOp.cmpi .ne a b)).toInt : ℝ) : EReal) = _
    have hne : (a != b) = true := by simp [h]
    simp [IntOp.cmpi, hne]

theorem ofNat_eq (p W v : ℕ) (hv : v < 2 ^ 32) (hW : 0 < W ∧ W < 2 ^ 32) : (BitVec.ofNat 32 (p % W) = BitVec.ofNat 32 v) = (p % W = v) := by
  have hl := Nat.mod_lt p hW.1
  apply propext
  constructor
  · intro h
    have h2 := congrArg BitVec.toNat h
    rwa [BitVec.toNat_ofNat, BitVec.toNat_ofNat, Nat.mod_eq_of_lt (by omega), Nat.mod_eq_of_lt hv] at h2
  · intro h; rw [h]

theorem tapM (H W : ℕ) (hW : 0 < W ∧ W < 128) (A : ℕ → ℕ → ℝ) (p dy : ℕ) (hp : p < H * W) (hdy : dy < 3) {l : ℕ} (x : EReal)
    (hx : x = ((lane H W A l : ℝ) : EReal)) (hl : l = 127 - W + W * dy + 1 + p) :
    x = ((pad H W A (p / W + dy) (p % W + 1) : ℝ) : EReal) := by
  rw [hx, hl, ← tap H W (127 - W) hW.1 (by omega) A p dy 1 hp hdy (by norm_num), if_neg (by omega), mul_one]

theorem tapL (H W : ℕ) (hW : 0 < W ∧ W < 128) (A : ℕ → ℕ → ℝ) (p dy : ℕ) (hp : p < H * W) (hdy : dy < 3) {l : ℕ} (x : EReal)
    (hx : x = ((lane H W A l : ℝ) : EReal)) (hl : l = 127 - W + W * dy + 0 + p) (m : EReal)
    (hm : m = ((if p % W = 0 then 0 else 1 : ℝ) : EReal)) :
    x * m = ((pad H W A (p / W + dy) (p % W + 0) : ℝ) : EReal) := by
  rw [hx, hl, hm, ← EReal.coe_mul, ← tap H W (127 - W) hW.1 (by omega) A p dy 0 hp hdy (by norm_num)]
  congr 3
  simp

theorem tapR (H W : ℕ) (hW : 1 < W ∧ W < 128) (A : ℕ → ℕ → ℝ) (p dy : ℕ) (hp : p < H * W) (hdy : dy < 3) {l : ℕ} (x : EReal)
    (hx : x = ((lane H W A l : ℝ) : EReal)) (hl : l = 127 - W + W * dy + 2 + p) (m : EReal)
    (hm : m = ((if p % W = W - 1 then 0 else 1 : ℝ) : EReal)) :
    x * m = ((pad H W A (p / W + dy) (p % W + 2) : ℝ) : EReal) := by
  rw [hx, hl, hm, ← EReal.coe_mul, ← tap H W (127 - W) (by omega) (by omega) A p dy 2 hp hdy (by norm_num)]
  congr 3
  simp

theorem tap_index (C : ℕ) (dy dx : Fin 3) (i : Fin C) :
    ((dy.val * 3 + dx.val) * C + i.val) % C = i.val ∧ ((dy.val * 3 + dx.val) * C + i.val) / C / 3 = dy.val
      ∧ ((dy.val * 3 + dx.val) * C + i.val) / C % 3 = dx.val := by
  have hi := i.isLt
  have h0 : 0 < C := by omega
  have e : ((dy.val * 3 + dx.val) * C + i.val) / C = dy.val * 3 + dx.val := by
    rw [Nat.mul_comm, Nat.mul_add_div h0, Nat.div_eq_of_lt hi, Nat.add_zero]
  refine ⟨by rw [Nat.mul_comm, Nat.mul_add_mod, Nat.mod_eq_of_lt hi], ?_, ?_⟩ <;> rw [e] <;> omega

/-- A product with a column that is one at `s` and zero elsewhere, of a value split in three parts of which the last two vanish. -/
theorem pick3 (g : Fin 512 → ℝ) (S : Fin 512 → EReal) (s : Fin 512) (hS : ∀ k, S k = ((if k = s then 1 else 0 : ℝ) : EReal)) :
    (∑ k, (g k : EReal) * S k) + (∑ k, ((g k : EReal) - (g k : EReal)) * S k)
      + (∑ k, (((g k : EReal) - (g k : EReal)) - ((g k : EReal) - (g k : EReal))) * S k) = ((g s : ℝ) : EReal) := by
  simp only [hS, ← EReal.coe_sub, ← EReal.coe_mul, ← coe_sum, ← EReal.coe_add]
  congr 1
  simp

end Cert.Proof
-- ==== Proof.Layers.lean ====
/- The layers of the body over finite values: the running sums of a channel and its activation. -/
module

public import proofs.«01_k».proof.Proof.Stages
public import proofs.«01_k».proof.Proof.Taps

@[expose] public section

set_option maxRecDepth 16384

noncomputable section

namespace Cert.Proof

open Idealize.ShloMosaic Idealize.ShloMosaic.TcCoe Idealize.ShloMosaic.Tactic
open Cert.KernelIdeal Cert.KernelIdeal.Gen

/-- The buffer holds the image `A` with no guard around it. -/
def Img0 {C L : ℕ} (W : ℕ) (A : Act) (X : (⟨3, ![32, C, L]⟩ : Shape).Idx → EReal) : Prop :=
  ∀ (b : Fin 32) (c : Fin C) (l : Fin L), X (ix3 b c l) = ((A b c (l.val / W) (l.val % W) : ℝ) : EReal)

/-- Outside its guarded lanes the buffer holds zeros. -/
def Guard {C L : ℕ} (S : ℕ) (X : (⟨3, ![32, C, L]⟩ : Shape).Idx → EReal) : Prop :=
  ∀ (b : Fin 32) (c : Fin C) (l : Fin L), ¬(128 ≤ l.val ∧ l.val < 128 + S) → X (ix3 b c l) = 0

theorem Img.guard {C L H W S : ℕ} {A : Act} {X : (⟨3, ![32, C, L]⟩ : Shape).Idx → EReal} (h : Img H W A X) (hS : S = H * W) : Guard S X := by
  intro b c l hl
  rw [h b c l, lane, if_neg (by rw [← hS]; exact hl)]
  rfl

theorem Img.row {C L H W S : ℕ} {A : Act} {X : (⟨3, ![32, C, L]⟩ : Shape).Idx → EReal} (h : Img H W A X) (hS : S = H * W) (hL : 128 + S ≤ L)
    (k : Fin 32) (c : Fin C) (p : Fin S) :
    rowOf S 128 hL X k (ix3 (0 : Fin 1) c p) = ((A k c (p.val / W) (p.val % W) : ℝ) : EReal) := by
  refine (h k c ⟨128 + p.val, by omega⟩).trans ?_
  rw [lane_in _ _ _ _ (by have := p.isLt; omega)]

theorem Img0.row {C L W : ℕ} {A : Act} {X : (⟨3, ![32, C, L]⟩ : Shape).Idx → EReal} (h : Img0 W A X) (hL : 0 + L ≤ L)
    (k : Fin 32) (c : Fin C) (p : Fin L) :
    rowOf L 0 hL X k (ix3 (0 : Fin 1) c p) = ((A k c (p.val / W) (p.val % W) : ℝ) : EReal) := by
  refine (h k c ⟨0 + p.val, by omega⟩).trans ?_
  simp only [Nat.zero_add]

theorem img_rowsPut {C L H W S : ℕ} (hS : S = H * W) {A : Act} {G : (⟨3, ![32, C, L]⟩ : Shape).Idx → EReal} (hG : Guard S G)
    {R : Fin 32 → (⟨3, ![1, C, S]⟩ : Shape).Idx → EReal}
    (hR : ∀ (k : Fin 32) (c : Fin C) (p : Fin S), R k (ix3 (0 : Fin 1) c p) = ((A k c (p.val / W) (p.val % W) : ℝ) : EReal)) :
    Img H W A (rowsPut S 128 G R) := by
  intro b c l
  by_cases h : 128 ≤ l.val ∧ l.val < 128 + S
  · refine (dif_pos h).trans ?_
    refine (hR b c ⟨l.val - 128, by omega⟩).trans ?_
    rw [lane, if_pos (by rw [← hS]; exact h)]
  · refine (dif_neg h).trans ?_
    rw [lane, if_neg (by rw [← hS]; exact h)]
    exact hG b c l h

theorem img0_rowsPut {C L W : ℕ} {A : Act} {G : (⟨3, ![32, C, L]⟩ : Shape).Idx → EReal}
    {R : Fin 32 → (⟨3, ![1, C, L]⟩ : Shape).Idx → EReal}
    (hR : ∀ (k : Fin 32) (c : Fin C) (p : Fin L), R k (ix3 (0 : Fin 1) c p) = ((A k c (p.val / W) (p.val % W) : ℝ) : EReal)) :
    Img0 W A (rowsPut L 0 G R) := by
  intro b c l
  refine (dif_pos (show 0 ≤ l.val ∧ l.val < 0 + L from ⟨Nat.zero_le _, by omega⟩)).trans ?_
  exact hR b c ⟨l.val - 0, by omega⟩

theorem fold_read {α : Type} (g : Fin 32 → α → α) (a : α) (f : α → EReal) (s : Fin 32 → ℝ) (h0 : f a = 0)
    (hs : ∀ k x, f (g k x) = f x + ((s k : ℝ) : EReal)) : f (foldRows g a 32) = ((∑ k, s k : ℝ) : EReal) := by
  have key : ∀ n, n ≤ 32 → f (foldRows g a n) = ((∑ k ∈ Finset.range n, (if h : k < 32 then s ⟨k, h⟩ else 0) : ℝ) : EReal) := by
    intro n
    induction n with
    | zero => intro _; simpa [foldRows] using h0
    | succ n ih =>
      intro hn
      have h : n < 32 := by omega
      show f (if h : n < 32 then g ⟨n, h⟩ (foldRows g a n) else foldRows g a n) = _
      rw [dif_pos h, hs, ih (by omega), Finset.sum_range_succ, EReal.coe_add, dif_pos h]
  rw [key 32 le_rfl, Finset.sum_range]
  congr 1

/-! ## Constants -/

theorem eps_bits : Ideal.ofBits .f32 0x3727C5AC#32 = ((eps : ℝ) : EReal) := by
  simp [Ideal.ofBits, Ideal.ieee, eps]
  norm_num
  simp only [← EReal.coe_mul]
  congr 1
  norm_num

theorem isq_bits : Ideal.ofBits .f32 0x3F3504F3#32 = ((isq : ℝ) : EReal) := by
  simp [Ideal.ofBits, Ideal.ieee, isq]
  norm_num
  simp only [← EReal.coe_mul]
  congr 1
  norm_num

theorem two_bits : Ideal.ofBits .f32 0x40000000#32 = ((2 : ℝ) : EReal) := by
  simp [Ideal.ofBits, Ideal.ieee]
  norm_num
  simp only [← EReal.coe_mul]
  congr 1
  norm_num

theorem den64_bits : Ideal.ofBits .f32 0x37000000#32 = ((1 / (32 * (64 : ℕ) * (64 : ℕ)) : ℝ) : EReal) := by
  simp [Ideal.ofBits, Ideal.ieee]
  norm_num
  simp only [← EReal.coe_mul]
  congr 1
  norm_num

theorem den32_bits : Ideal.ofBits .f32 0x38000000#32 = ((1 / (32 * (32 : ℕ) * (32 : ℕ)) : ℝ) : EReal) := by
  simp [Ideal.ofBits, Ideal.ieee]
  norm_num
  simp only [← EReal.coe_mul]
  congr 1
  norm_num

theorem den16_bits : Ideal.ofBits .f32 0x39000000#32 = ((1 / (32 * (16 : ℕ) * (16 : ℕ)) : ℝ) : EReal) := by
  simp [Ideal.ofBits, Ideal.ieee]
  norm_num
  simp only [← EReal.coe_mul]
  congr 1
  norm_num

theorem rsqrt_pos (r : ℝ) (h : 0 < r) : Ideal.rsqrt ((r : ℝ) : EReal) = (((√r)⁻¹ : ℝ) : EReal) := by
  rw [Ideal.rsqrt_coe, if_neg (by linarith), if_neg (by linarith)]

/-- The activation as the body computes it: a polynomial of the value whose coefficients hold the moments. -/
theorem act_poly (H W : ℕ) (hH : 0 < H) (hW : 0 < W) (A : Act) (a : ℕ → ℕ → ℝ) (b c h v : ℕ) (s1 s2 d E Q T w0 w1 w2 x : EReal)
    (hs1 : s1 = ((∑ b : Fin 32, ∑ h : Fin H, ∑ v : Fin W, A b c h v : ℝ) : EReal))
    (hs2 : s2 = ((∑ b : Fin 32, ∑ h : Fin H, ∑ v : Fin W, A b c h v * A b c h v : ℝ) : EReal))
    (hd : d = ((1 / (32 * H * W) : ℝ) : EReal)) (hE : E = ((eps : ℝ) : EReal)) (hQ : Q = ((isq : ℝ) : EReal)) (hT : T = ((2 : ℝ) : EReal))
    (h0 : w0 = ((a 0 c : ℝ) : EReal)) (h1 : w1 = ((a 1 c : ℝ) : EReal)) (h2 : w2 = ((a 2 c : ℝ) : EReal)) (hx : x = ((A b c h v : ℝ) : EReal)) :
    w0 - w2 * Q + s1 * d * (s1 * d) * (w2 * Q * Ideal.rsqrt (s2 * d - s1 * d * (s1 * d) + E) * Ideal.rsqrt (s2 * d - s1 * d * (s1 * d) + E))
        - w1 * Ideal.rsqrt (s2 * d - s1 * d * (s1 * d) + E) * (s1 * d)
      + x * (w1 * Ideal.rsqrt (s2 * d - s1 * d * (s1 * d) + E)
          - T * (s1 * d) * (w2 * Q * Ideal.rsqrt (s2 * d - s1 * d * (s1 * d) + E) * Ideal.rsqrt (s2 * d - s1 * d * (s1 * d) + E))
        + x * (w2 * Q * Ideal.rsqrt (s2 * d - s1 * d * (s1 * d) + E) * Ideal.rsqrt (s2 * d - s1 * d * (s1 * d) + E)))
      = ((act H W a A b c h v : ℝ) : EReal) := by
  have hm : s1 * d = ((mean H W A c : ℝ) : EReal) := by
    rw [hs1, hd, ← EReal.coe_mul, mean]; congr 1; ring
  have hv : s2 * d - s1 * d * (s1 * d) + E = ((var H W A c + eps : ℝ) : EReal) := by
    rw [hm, hs2, hd, hE, ← EReal.coe_mul, ← EReal.coe_mul, ← EReal.coe_sub, ← EReal.coe_add, ← var_eq H W hH hW]
    congr 3; ring
  have hp : 0 < var H W A c + eps := add_pos_of_nonneg_of_pos (var_nonneg H W A c) eps_pos
  rw [hv, rsqrt_pos _ hp, hm, hQ, hT, h0, h1, h2, hx]
  simp only [← EReal.coe_mul, ← EReal.coe_sub, ← EReal.coe_add]
  congr 1
  unfold act
  ring

theorem sums2_1 (A : Act) (X : Vec Ideal S32x16x4352 .f32) (hX : Img 64 64 A X) (z : FVec Ideal S16x1 .f32) (hz : ∀ c : Fin 16, z (ix2 c (0 : Fin 1)) = 0) (c : Fin 16) :
    (sums2 X z).1 (ix2 c (0 : Fin 1)) = ((∑ b : Fin 32, ∑ h : Fin 64, ∑ v : Fin 64, A b c h v : ℝ) : EReal) := by
  refine fold_read _ _ (fun a : FVec Ideal S16x1 .f32 × FVec Ideal S16x1 .f32 => a.1 (ix2 c (0 : Fin 1))) _ (hz c) fun k x => ?_
  show k0_pay44 x.1 (rowOf 4096 128 (by decide) X k) (ix2 c (0 : Fin 1)) = _
  pointwise [k0_pay44, k0_pay43]
  congr 1
  rw [← sum_flat (n := 4096) 64 64 (by norm_num) (fun h v => A k c h v), coe_sum]
  refine Finset.sum_congr rfl fun p _ => ?_
  rw [hX.row (S := 4096) (by norm_num) (by decide) k c p]

theorem sums2_2 (A : Act) (X : Vec Ideal S32x16x4352 .f32) (hX : Img 64 64 A X) (z : FVec Ideal S16x1 .f32) (hz : ∀ c : Fin 16, z (ix2 c (0 : Fin 1)) = 0) (c : Fin 16) :
    (sums2 X z).2 (ix2 c (0 : Fin 1)) = ((∑ b : Fin 32, ∑ h : Fin 64, ∑ v : Fin 64, A b c h v * A b c h v : ℝ) : EReal) := by
  refine fold_read _ _ (fun a : FVec Ideal S16x1 .f32 × FVec Ideal S16x1 .f32 => a.2 (ix2 c (0 : Fin 1))) _ (hz c) fun k x => ?_
  show k0_pay45 x.2 (rowOf 4096 128 (by decide) X k) (ix2 c (0 : Fin 1)) = _
  pointwise [k0_pay45, k0_pay43]
  congr 1
  rw [← sum_flat (n := 4096) 64 64 (by norm_num) (fun h v => A k c h v * A k c h v), coe_sum]
  refine Finset.sum_congr rfl fun p _ => ?_
  rw [hX.row (S := 4096) (by norm_num) (by decide) k c p, EReal.coe_mul]

theorem layer3 (A : Act) (a : ℕ → ℕ → ℝ) (X : Vec Ideal S32x16x4352 .f32) (hX : Img 64 64 A X) (z : FVec Ideal S16x1 .f32) (hz : ∀ c : Fin 16, z (ix2 c (0 : Fin 1)) = 0)
    (u v w : Vec Ideal S1x16x1 .f32) (hu : ∀ c : Fin 16, u (ix3 (0 : Fin 1) c (0 : Fin 1)) = ((a 0 c : ℝ) : EReal))
    (hv : ∀ c : Fin 16, v (ix3 (0 : Fin 1) c (0 : Fin 1)) = ((a 1 c : ℝ) : EReal)) (hw : ∀ c : Fin 16, w (ix3 (0 : Fin 1) c (0 : Fin 1)) = ((a 2 c : ℝ) : EReal)) :
    Img 64 64 (act 64 64 a A) (act3 (sums2 X z).1 (sums2 X z).2 u v w X) := by
  refine img_rowsPut (S := 4096) (by norm_num) (hX.guard (by norm_num)) fun k c p => ?_
  pointwise [k0_pay46]
  exact act_poly 64 64 (by norm_num) (by norm_num) A a k c _ _ _ _ _ _ _ _ _ _ _ _ (sums2_1 A X hX z hz c) (sums2_2 A X hX z hz c)
    den64_bits eps_bits isq_bits two_bits (hu c) (hv c) (hw c) (hX.row (S := 4096) (by norm_num) (by decide) k c p)

theorem sums5_1 (A : Act) (X : Vec Ideal S32x16x4352 .f32) (hX : Img 64 64 A X) (z : FVec Ideal S16x1 .f32) (hz : ∀ c : Fin 16, z (ix2 c (0 : Fin 1)) = 0) (c : Fin 16) :
    (sums5 X z).1 (ix2 c (0 : Fin 1)) = ((∑ b : Fin 32, ∑ h : Fin 64, ∑ v : Fin 64, A b c h v : ℝ) : EReal) := by
  refine fold_read _ _ (fun a : FVec Ideal S16x1 .f32 × FVec Ideal S16x1 .f32 => a.1 (ix2 c (0 : Fin 1))) _ (hz c) fun k x => ?_
  show k0_pay53 x.1 (rowOf 4096 128 (by decide) X k) (ix2 c (0 : Fin 1)) = _
  pointwise [k0_pay53, k0_pay52]
  congr 1
  rw [← sum_flat (n := 4096) 64 64 (by norm_num) (fun h v => A k c h v), coe_sum]
  refine Finset.sum_congr rfl fun p _ => ?_
  rw [hX.row (S := 4096) (by norm_num) (by decide) k c p]

theorem sums5_2 (A : Act) (X : Vec Ideal S32x16x4352 .f32) (hX : Img 64 64 A X) (z : FVec Ideal S16x1 .f32) (hz : ∀ c : Fin 16, z (ix2 c (0 : Fin 1)) = 0) (c : Fin 16) :
    (sums5 X z).2 (ix2 c (0 : Fin 1)) = ((∑ b : Fin 32, ∑ h : Fin 64, ∑ v : Fin 64, A b c h v * A b c h v : ℝ) : EReal) := by
  refine fold_read _ _ (fun a : FVec Ideal S16x1 .f32 × FVec Ideal S16x1 .f32 => a.2 (ix2 c (0 : Fin 1))) _ (hz c) fun k x => ?_
  show k0_pay54 x.2 (rowOf 4096 128 (by decide) X k) (ix2 c (0 : Fin 1)) = _
  pointwise [k0_pay54, k0_pay52]
  congr 1
  rw [← sum_flat (n := 4096) 64 64 (by norm_num) (fun h v => A k c h v * A k c h v), coe_sum]
  refine Finset.sum_congr rfl fun p _ => ?_
  rw [hX.row (S := 4096) (by norm_num) (by decide) k c p, EReal.coe_mul]

theorem layer6 (A : Act) (a : ℕ → ℕ → ℝ) (X : Vec Ideal S32x16x4352 .f32) (hX : Img 64 64 A X) (z : FVec Ideal S16x1 .f32) (hz : ∀ c : Fin 16, z (ix2 c (0 : Fin 1)) = 0)
    (u v w : Vec Ideal S1x16x1 .f32) (hu : ∀ c : Fin 16, u (ix3 (0 : Fin 1) c (0 : Fin 1)) = ((a 0 c : ℝ) : EReal))
    (hv : ∀ c : Fin 16, v (ix3 (0 : Fin 1) c (0 : Fin 1)) = ((a 1 c : ℝ) : EReal)) (hw : ∀ c : Fin 16, w (ix3 (0 : Fin 1) c (0 : Fin 1)) = ((a 2 c : ℝ) : EReal)) :
    Img 64 64 (act 64 64 a A) (act6 (k0_pay55 (sums5 X z).1) (k0_pay56 (sums5 X z).1 (sums5 X z).2) (k0_pay57 (F := Ideal)) u v w X) := by
  refine img_rowsPut (S := 4096) (by norm_num) (hX.guard (by norm_num)) fun k c p => ?_
  pointwise [k0_pay55, k0_pay56, k0_pay57, k0_pay58]
  exact act_poly 64 64 (by norm_num) (by norm_num) A a k c _ _ _ _ _ _ _ _ _ _ _ _ (sums5_1 A X hX z hz c) (sums5_2 A X hX z hz c)
    den64_bits eps_bits isq_bits two_bits (hu c) (hv c) (hw c) (hX.row (S := 4096) (by norm_num) (by decide) k c p)

theorem sums8_1 (A : Act) (X : Vec Ideal S32x32x1280 .f32) (hX : Img 32 32 A X) (z : FVec Ideal S32x1 .f32) (hz : ∀ c : Fin 32, z (ix2 c (0 : Fin 1)) = 0) (c : Fin 32) :
    (sums8 X z).1 (ix2 c (0 : Fin 1)) = ((∑ b : Fin 32, ∑ h : Fin 32, ∑ v : Fin 32, A b c h v : ℝ) : EReal) := by
  refine fold_read _ _ (fun a : FVec Ideal S32x1 .f32 × FVec Ideal S32x1 .f32 => a.1 (ix2 c (0 : Fin 1))) _ (hz c) fun k x => ?_
  show k0_pay68 x.1 (rowOf 1024 128 (by decide) X k) (ix2 c (0 : Fin 1)) = _
  pointwise [k0_pay68, k0_pay67]
  congr 1
  rw [← sum_flat (n := 1024) 32 32 (by norm_num) (fun h v => A k c h v), coe_sum]
  refine Finset.sum_congr rfl fun p _ => ?_
  rw [hX.row (S := 1024) (by norm_num) (by decide) k c p]

theorem sums8_2 (A : Act) (X : Vec Ideal S32x32x1280 .f32) (hX : Img 32 32 A X) (z : FVec Ideal S32x1 .f32) (hz : ∀ c : Fin 32, z (ix2 c (0 : Fin 1)) = 0) (c : Fin 32) :
    (sums8 X z).2 (ix2 c (0 : Fin 1)) = ((∑ b : Fin 32, ∑ h : Fin 32, ∑ v : Fin 32, A b c h v * A b c h v : ℝ) : EReal) := by
  refine fold_read _ _ (fun a : FVec Ideal S32x1 .f32 × FVec Ideal S32x1 .f32 => a.2 (ix2 c (0 : Fin 1))) _ (hz c) fun k x => ?_
  show k0_pay69 x.2 (rowOf 1024 128 (by decide) X k) (ix2 c (0 : Fin 1)) = _
  pointwise [k0_pay69, k0_pay67]
  congr 1
  rw [← sum_flat (n := 1024) 32 32 (by norm_num) (fun h v => A k c h v * A k c h v), coe_sum]
  refine Finset.sum_congr rfl fun p _ => ?_
  rw [hX.row (S := 1024) (by norm_num) (by decide) k c p, EReal.coe_mul]

theorem layer9 (A : Act) (a : ℕ → ℕ → ℝ) (X : Vec Ideal S32x32x1280 .f32) (hX : Img 32 32 A X) (z : FVec Ideal S32x1 .f32) (hz : ∀ c : Fin 32, z (ix2 c (0 : Fin 1)) = 0)
    (u v w : Vec Ideal S1x32x1 .f32) (hu : ∀ c : Fin 32, u (ix3 (0 : Fin 1) c (0 : Fin 1)) = ((a 0 c : ℝ) : EReal))
    (hv : ∀ c : Fin 32, v (ix3 (0 : Fin 1) c (0 : Fin 1)) = ((a 1 c : ℝ) : EReal)) (hw : ∀ c : Fin 32, w (ix3 (0 : Fin 1) c (0 : Fin 1)) = ((a 2 c : ℝ) : EReal)) :
    Img 32 32 (act 32 32 a A) (act9 (k0_pay70 (sums8 X z).1) (k0_pay71 (sums8 X z).1 (sums8 X z).2) (k0_pay72 u) (k0_pay73 v) w X) := by
  refine img_rowsPut (S := 1024) (by norm_num) (hX.guard (by norm_num)) fun k c p => ?_
  pointwise [k0_pay70, k0_pay71, k0_pay72, k0_pay73, k0_pay74]
  exact act_poly 32 32 (by norm_num) (by norm_num) A a k c _ _ _ _ _ _ _ _ _ _ _ _ (sums8_1 A X hX z hz c) (sums8_2 A X hX z hz c)
    den32_bits eps_bits isq_bits two_bits (hu c) (hv c) (hw c) (hX.row (S := 1024) (by norm_num) (by decide) k c p)

theorem sums11_1 (A : Act) (X : Vec Ideal S32x32x1280 .f32) (hX : Img 32 32 A X) (z : FVec Ideal S32x1 .f32) (hz : ∀ c : Fin 32, z (ix2 c (0 : Fin 1)) = 0) (c : Fin 32) :
    (sums11 X z).1 (ix2 c (0 : Fin 1)) = ((∑ b : Fin 32, ∑ h : Fin 32, ∑ v : Fin 32, A b c h v : ℝ) : EReal) := by
  refine fold_read _ _ (fun a : FVec Ideal S32x1 .f32 × FVec Ideal S32x1 .f32 => a.1 (ix2 c (0 : Fin 1))) _ (hz c) fun k x => ?_
  show k0_pay83 x.1 (rowOf 1024 128 (by decide) X k) (ix2 c (0 : Fin 1)) = _
  pointwise [k0_pay83, k0_pay82]
  congr 1
  rw [← sum_flat (n := 1024) 32 32 (by norm_num) (fun h v => A k c h v), coe_sum]
  refine Finset.sum_congr rfl fun p _ => ?_
  rw [hX.row (S := 1024) (by norm_num) (by decide) k c p]

theorem sums11_2 (A : Act) (X : Vec Ideal S32x32x1280 .f32) (hX : Img 32 32 A X) (z : FVec Ideal S32x1 .f32) (hz : ∀ c : Fin 32, z (ix2 c (0 : Fin 1)) = 0) (c : Fin 32) :
    (sums11 X z).2 (ix2 c (0 : Fin 1)) = ((∑ b : Fin 32, ∑ h : Fin 32, ∑ v : Fin 32, A b c h v * A b c h v : ℝ) : EReal) := by
  refine fold_read _ _ (fun a : FVec Ideal S32x1 .f32 × FVec Ideal S32x1 .f32 => a.2 (ix2 c (0 : Fin 1))) _ (hz c) fun k x => ?_
  show k0_pay84 x.2 (rowOf 1024 128 (by decide) X k) (ix2 c (0 : Fin 1)) = _
  pointwise [k0_pay84, k0_pay82]
  congr 1
  rw [← sum_flat (n := 1024) 32 32 (by norm_num) (fun h v => A k c h v * A k c h v), coe_sum]
  refine Finset.sum_congr rfl fun p _ => ?_
  rw [hX.row (S := 1024) (by norm_num) (by decide) k c p, EReal.coe_mul]

theorem layer12 (A : Act) (a : ℕ → ℕ → ℝ) (X : Vec Ideal S32x32x1280 .f32) (hX : Img 32 32 A X) (z : FVec Ideal S32x1 .f32) (hz : ∀ c : Fin 32, z (ix2 c (0 : Fin 1)) = 0)
    (u v w : Vec Ideal S1x32x1 .f32) (hu : ∀ c : Fin 32, u (ix3 (0 : Fin 1) c (0 : Fin 1)) = ((a 0 c : ℝ) : EReal))
    (hv : ∀ c : Fin 32, v (ix3 (0 : Fin 1) c (0 : Fin 1)) = ((a 1 c : ℝ) : EReal)) (hw : ∀ c : Fin 32, w (ix3 (0 : Fin 1) c (0 : Fin 1)) = ((a 2 c : ℝ) : EReal)) :
    Img 32 32 (act 32 32 a A) (act12 (k0_pay85 (sums11 X z).1) (k0_pay86 (sums11 X z).1 (sums11 X z).2) (k0_pay87 u) (k0_pay88 v) (k0_pay89 w) (k0_pay90 (sums11 X z).1 (sums11 X z).2 w) (k0_pay91 (sums11 X z).1 (sums11 X z).2 v w) X) := by
  refine img_rowsPut (S := 1024) (by norm_num) (hX.guard (by norm_num)) fun k c p => ?_
  pointwise [k0_pay85, k0_pay86, k0_pay87, k0_pay88, k0_pay89, k0_pay90, k0_pay91, k0_pay92]
  exact act_poly 32 32 (by norm_num) (by norm_num) A a k c _ _ _ _ _ _ _ _ _ _ _ _ (sums11_1 A X hX z hz c) (sums11_2 A X hX z hz c)
    den32_bits eps_bits isq_bits two_bits (hu c) (hv c) (hw c) (hX.row (S := 1024) (by norm_num) (by decide) k c p)

theorem sums14_1 (A : Act) (X : Vec Ideal S32x64x512 .f32) (hX : Img 16 16 A X) (z : FVec Ideal S64x1 .f32) (hz : ∀ c : Fin 64, z (ix2 c (0 : Fin 1)) = 0) (c : Fin 64) :
    (sums14 X z).1 (ix2 c (0 : Fin 1)) = ((∑ b : Fin 32, ∑ h : Fin 16, ∑ v : Fin 16, A b c h v : ℝ) : EReal) := by
  refine fold_read _ _ (fun a : FVec Ideal S64x1 .f32 × FVec Ideal S64x1 .f32 => a.1 (ix2 c (0 : Fin 1))) _ (hz c) fun k x => ?_
  show k0_pay99 x.1 (rowOf 256 128 (by decide) X k) (ix2 c (0 : Fin 1)) = _
  pointwise [k0_pay99, k0_pay98]
  congr 1
  rw [← sum_flat (n := 256) 16 16 (by norm_num) (fun h v => A k c h v), coe_sum]
  refine Finset.sum_congr rfl fun p _ => ?_
  rw [hX.row (S := 256) (by norm_num) (by decide) k c p]

theorem sums14_2 (A : Act) (X : Vec Ideal S32x64x512 .f32) (hX : Img 16 16 A X) (z : FVec Ideal S64x1 .f32) (hz : ∀ c : Fin 64, z (ix2 c (0 : Fin 1)) = 0) (c : Fin 64) :
    (sums14 X z).2 (ix2 c (0 : Fin 1)) = ((∑ b : Fin 32, ∑ h : Fin 16, ∑ v : Fin 16, A b c h v * A b c h v : ℝ) : EReal) := by
  refine fold_read _ _ (fun a : FVec Ideal S64x1 .f32 × FVec Ideal S64x1 .f32 => a.2 (ix2 c (0 : Fin 1))) _ (hz c) fun k x => ?_
  show k0_pay100 x.2 (rowOf 256 128 (by decide) X k) (ix2 c (0 : Fin 1)) = _
  pointwise [k0_pay100, k0_pay98]
  congr 1
  rw [← sum_flat (n := 256) 16 16 (by norm_num) (fun h v => A k c h v * A k c h v), coe_sum]
  refine Finset.sum_congr rfl fun p _ => ?_
  rw [hX.row (S := 256) (by norm_num) (by decide) k c p, EReal.coe_mul]

theorem layer15 (A : Act) (a : ℕ → ℕ → ℝ) (X : Vec Ideal S32x64x512 .f32) (hX : Img 16 16 A X) (z : FVec Ideal S64x1 .f32) (hz : ∀ c : Fin 64, z (ix2 c (0 : Fin 1)) = 0)
    (u v w : Vec Ideal S1x64x1 .f32) (hu : ∀ c : Fin 64, u (ix3 (0 : Fin 1) c (0 : Fin 1)) = ((a 0 c : ℝ) : EReal))
    (hv : ∀ c : Fin 64, v (ix3 (0 : Fin 1) c (0 : Fin 1)) = ((a 1 c : ℝ) : EReal)) (hw : ∀ c : Fin 64, w (ix3 (0 : Fin 1) c (0 : Fin 1)) = ((a 2 c : ℝ) : EReal)) :
    Img 16 16 (act 16 16 a A) (act15 (k0_pay105 (sums14 X z).1 (sums14 X z).2 w) (k0_pay106 (sums14 X z).1 (sums14 X z).2 v w) (k0_pay107 (sums14 X z).1 (sums14 X z).2 u v w) X) := by
  refine img_rowsPut (S := 256) (by norm_num) (hX.guard (by norm_num)) fun k c p => ?_
  pointwise [k0_pay101, k0_pay102, k0_pay103, k0_pay104, k0_pay105, k0_pay106, k0_pay107, k0_pay108]
  exact act_poly 16 16 (by norm_num) (by norm_num) A a k c _ _ _ _ _ _ _ _ _ _ _ _ (sums14_1 A X hX z hz c) (sums14_2 A X hX z hz c)
    den16_bits eps_bits isq_bits two_bits (hu c) (hv c) (hw c) (hX.row (S := 256) (by norm_num) (by decide) k c p)

theorem sums17_1 (A : Act) (X : Vec Ideal S32x64x256 .f32) (hX : Img0 16 A X) (z : FVec Ideal S64x1 .f32) (hz : ∀ c : Fin 64, z (ix2 c (0 : Fin 1)) = 0) (c : Fin 64) :
    (sums17 X z).1 (ix2 c (0 : Fin 1)) = ((∑ b : Fin 32, ∑ h : Fin 16, ∑ v : Fin 16, A b c h v : ℝ) : EReal) := by
  refine fold_read _ _ (fun a : FVec Ideal S64x1 .f32 × FVec Ideal S64x1 .f32 => a.1 (ix2 c (0 : Fin 1))) _ (hz c) fun k x => ?_
  show k0_pay115 x.1 (rowOf 256 0 (by decide) X k) (ix2 c (0 : Fin 1)) = _
  pointwise [k0_pay115, k0_pay114]
  congr 1
  rw [← sum_flat (n := 256) 16 16 (by norm_num) (fun h v => A k c h v), coe_sum]
  refine Finset.sum_congr rfl fun p _ => ?_
  rw [hX.row (by decide) k c p]

theorem sums17_2 (A : Act) (X : Vec Ideal S32x64x256 .f32) (hX : Img0 16 A X) (z : FVec Ideal S64x1 .f32) (hz : ∀ c : Fin 64, z (ix2 c (0 : Fin 1)) = 0) (c : Fin 64) :
    (sums17 X z).2 (ix2 c (0 : Fin 1)) = ((∑ b : Fin 32, ∑ h : Fin 16, ∑ v : Fin 16, A b c h v * A b c h v : ℝ) : EReal) := by
  refine fold_read _ _ (fun a : FVec Ideal S64x1 .f32 × FVec Ideal S64x1 .f32 => a.2 (ix2 c (0 : Fin 1))) _ (hz c) fun k x => ?_
  show k0_pay116 x.2 (rowOf 256 0 (by decide) X k) (ix2 c (0 : Fin 1)) = _
  pointwise [k0_pay116, k0_pay114]
  congr 1
  rw [← sum_flat (n := 256) 16 16 (by norm_num) (fun h v => A k c h v * A k c h v), coe_sum]
  refine Finset.sum_congr rfl fun p _ => ?_
  rw [hX.row (by decide) k c p, EReal.coe_mul]

theorem layer18 (A : Act) (a : ℕ → ℕ → ℝ) (X : Vec Ideal S32x64x256 .f32) (hX : Img0 16 A X) (z : FVec Ideal S64x1 .f32) (hz : ∀ c : Fin 64, z (ix2 c (0 : Fin 1)) = 0)
    (u v w : Vec Ideal S1x64x1 .f32) (hu : ∀ c : Fin 64, u (ix3 (0 : Fin 1) c (0 : Fin 1)) = ((a 0 c : ℝ) : EReal))
    (hv : ∀ c : Fin 64, v (ix3 (0 : Fin 1) c (0 : Fin 1)) = ((a 1 c : ℝ) : EReal)) (hw : ∀ c : Fin 64, w (ix3 (0 : Fin 1) c (0 : Fin 1)) = ((a 2 c : ℝ) : EReal)) :
    Img0 16 (act 16 16 a A) (act18 (k0_pay117 (sums17 X z).1) (k0_pay118 (sums17 X z).2) u v w X) := by
  refine img0_rowsPut fun k c p => ?_
  pointwise [k0_pay117, k0_pay118, k0_pay119]
  exact act_poly 16 16 (by norm_num) (by norm_num) A a k c _ _ _ _ _ _ _ _ _ _ _ _ (sums17_1 A X hX z hz c) (sums17_2 A X hX z hz c)
    den16_bits eps_bits isq_bits two_bits (hu c) (hv c) (hw c) (hX.row (by decide) k c p)

end Cert.Proof
-- ==== Proof.Conv01.lean ====
/- Convolution 1 of the body, row by row, over finite values. -/
module

public import proofs.«01_k».proof.Proof.Stages
public import proofs.«01_k».proof.Proof.Taps

@[expose] public section

set_option maxRecDepth 16384

noncomputable section

namespace Cert.Proof

open Idealize.ShloMosaic Idealize.ShloMosaic.TcCoe Idealize.ShloMosaic.Tactic
open Cert.KernelIdeal Cert.KernelIdeal.Gen

theorem lane1 (p : Fin 4096) : k0_pay38 (ix2 (0 : Fin 1) p) = BitVec.ofNat 32 (p.val % 64) := by
  pointwise [k0_pay38]
  revert p
  decide +kernel

theorem maskL1 (p : Fin 4096) : k0_pay39 (F := Ideal) (ix2 (0 : Fin 1) p) = ((if p.val % 64 = 0 then 0 else 1 : ℝ) : EReal) := by
  pointwise [k0_pay39]
  rw [lane1, sitofp_ne]
  simp only [ofNat_eq p.val 64 0 (by norm_num) (by norm_num)]

theorem maskR1 (p : Fin 4096) : k0_pay40 (F := Ideal) (ix2 (0 : Fin 1) p) = ((if p.val % 64 = 63 then 0 else 1 : ℝ) : EReal) := by
  pointwise [k0_pay40]
  rw [lane1, sitofp_ne]
  simp only [ofNat_eq p.val 64 63 (by norm_num) (by norm_num)]

theorem rhs1_0 (m0 m2 : FVec Ideal S1x4096 .f32) (r0 r1 r2 r3 r4 r5 r6 r7 r8 : FVec Ideal S1x3x4096 .f32) (i : Fin 3) (p : Fin 4096) (h : (0 * 3 + 0) * 3 + i.val < 27) :
    k0_pay1 m0 m2 r0 r1 r2 r3 r4 r5 r6 r7 r8 (ix2 ⟨(0 * 3 + 0) * 3 + i.val, h⟩ p) = r0 (ix3 (0 : Fin 1) i p) * m0 (ix2 (0 : Fin 1) p) := by
  pointwise [k0_pay1]
  all_goals rw [dif_pos (by omega)]
  try congr!
  all_goals omega

theorem rhs1_1 (m0 m2 : FVec Ideal S1x4096 .f32) (r0 r1 r2 r3 r4 r5 r6 r7 r8 : FVec Ideal S1x3x4096 .f32) (i : Fin 3) (p : Fin 4096) (h : (0 * 3 + 1) * 3 + i.val < 27) :
    k0_pay1 m0 m2 r0 r1 r2 r3 r4 r5 r6 r7 r8 (ix2 ⟨(0 * 3 + 1) * 3 + i.val, h⟩ p) = r1 (ix3 (0 : Fin 1) i p) := by
  pointwise [k0_pay1]
  all_goals rw [dif_neg (by omega), dif_pos (by omega)]
  try congr!
  all_goals omega

theorem rhs1_2 (m0 m2 : FVec Ideal S1x4096 .f32) (r0 r1 r2 r3 r4 r5 r6 r7 r8 : FVec Ideal S1x3x4096 .f32) (i : Fin 3) (p : Fin 4096) (h : (0 * 3 + 2) * 3 + i.val < 27) :
    k0_pay1 m0 m2 r0 r1 r2 r3 r4 r5 r6 r7 r8 (ix2 ⟨(0 * 3 + 2) * 3 + i.val, h⟩ p) = r2 (ix3 (0 : Fin 1) i p) * m2 (ix2 (0 : Fin 1) p) := by
  pointwise [k0_pay1]
  all_goals rw [dif_neg (by omega), dif_neg (by omega), dif_pos (by omega)]
  try congr!
  all_goals omega

theorem rhs1_3 (m0 m2 : FVec Ideal S1x4096 .f32) (r0 r1 r2 r3 r4 r5 r6 r7 r8 : FVec Ideal S1x3x4096 .f32) (i : Fin 3) (p : Fin 4096) (h : (1 * 3 + 0) * 3 + i.val < 27) :
    k0_pay1 m0 m2 r0 r1 r2 r3 r4 r5 r6 r7 r8 (ix2 ⟨(1 * 3 + 0) * 3 + i.val, h⟩ p) = r3 (ix3 (0 : Fin 1) i p) * m0 (ix2 (0 : Fin 1) p) := by
  pointwise [k0_pay1]
  all_goals rw [dif_neg (by omega), dif_neg (by omega), dif_neg (by omega), dif_pos (by omega)]
  try congr!
  all_goals omega

theorem rhs1_4 (m0 m2 : FVec Ideal S1x4096 .f32) (r0 r1 r2 r3 r4 r5 r6 r7 r8 : FVec Ideal S1x3x4096 .f32) (i : Fin 3) (p : Fin 4096) (h : (1 * 3 + 1) * 3 + i.val < 27) :
    k0_pay1 m0 m2 r0 r1 r2 r3 r4 r5 r6 r7 r8 (ix2 ⟨(1 * 3 + 1) * 3 + i.val, h⟩ p) = r4 (ix3 (0 : Fin 1) i p) := by
  pointwise [k0_pay1]
  all_goals rw [dif_neg (by omega), dif_neg (by omega), dif_neg (by omega), dif_neg (by omega), dif_pos (by omega)]
  try congr!
  all_goals omega

theorem rhs1_5 (m0 m2 : FVec Ideal S1x4096 .f32) (r0 r1 r2 r3 r4 r5 r6 r7 r8 : FVec Ideal S1x3x4096 .f32) (i : Fin 3) (p : Fin 4096) (h : (1 * 3 + 2) * 3 + i.val < 27) :
    k0_pay1 m0 m2 r0 r1 r2 r3 r4 r5 r6 r7 r8 (ix2 ⟨(1 * 3 + 2) * 3 + i.val, h⟩ p) = r5 (ix3 (0 : Fin 1) i p) * m2 (ix2 (0 : Fin 1) p) := by
  pointwise [k0_pay1]
  all_goals rw [dif_neg (by omega), dif_neg (by omega), dif_neg (by omega), dif_neg (by omega), dif_neg (by omega), dif_pos (by omega)]
  try congr!
  all_goals omega

theorem rhs1_6 (m0 m2 : FVec Ideal S1x4096 .f32) (r0 r1 r2 r3 r4 r5 r6 r7 r8 : FVec Ideal S1x3x4096 .f32) (i : Fin 3) (p : Fin 4096) (h : (2 * 3 + 0) * 3 + i.val < 27) :
    k0_pay1 m0 m2 r0 r1 r2 r3 r4 r5 r6 r7 r8 (ix2 ⟨(2 * 3 + 0) * 3 + i.val, h⟩ p) = r6 (ix3 (0 : Fin 1) i p) * m0 (ix2 (0 : Fin 1) p) := by
  pointwise [k0_pay1]
  all_goals rw [dif_neg (by omega), dif_neg (by omega), dif_neg (by omega), dif_neg (by omega), dif_neg (by omega), dif_neg (by omega), dif_pos (by omega)]
  try congr!
  all_goals omega

theorem rhs1_7 (m0 m2 : FVec Ideal S1x4096 .f32) (r0 r1 r2 r3 r4 r5 r6 r7 r8 : FVec Ideal S1x3x4096 .f32) (i : Fin 3) (p : Fin 4096) (h : (2 * 3 + 1) * 3 + i.val < 27) :
    k0_pay1 m0 m2 r0 r1 r2 r3 r4 r5 r6 r7 r8 (ix2 ⟨(2 * 3 + 1) * 3 + i.val, h⟩ p) = r7 (ix3 (0 : Fin 1) i p) := by
  pointwise [k0_pay1]
  all_goals rw [dif_neg (by omega), dif_neg (by omega), dif_neg (by omega), dif_neg (by omega), dif_neg (by omega), dif_neg (by omega), dif_neg (by omega), dif_pos (by omega)]
  try congr!
  all_goals omega

theorem rhs1_8 (m0 m2 : FVec Ideal S1x4096 .f32) (r0 r1 r2 r3 r4 r5 r6 r7 r8 : FVec Ideal S1x3x4096 .f32) (i : Fin 3) (p : Fin 4096) (h : (2 * 3 + 2) * 3 + i.val < 27) :
    k0_pay1 m0 m2 r0 r1 r2 r3 r4 r5 r6 r7 r8 (ix2 ⟨(2 * 3 + 2) * 3 + i.val, h⟩ p) = r8 (ix3 (0 : Fin 1) i p) * m2 (ix2 (0 : Fin 1) p) := by
  pointwise [k0_pay1]
  all_goals rw [dif_neg (by omega), dif_neg (by omega), dif_neg (by omega), dif_neg (by omega), dif_neg (by omega), dif_neg (by omega), dif_neg (by omega), dif_neg (by omega)]
  try congr!
  all_goals omega

theorem rhs1_at (A : Act) (X : Vec Ideal S32x3x4352 .f32) (hX : Img 64 64 A X) (k : Fin 32) (dy dx : Fin 3) (i : Fin 3) (p : Fin 4096)
    (h : (dy.val * 3 + dx.val) * 3 + i.val < 27) :
    k0_pay1 (k0_pay39 (F := Ideal)) (k0_pay40 (F := Ideal)) (rowOf 4096 63 (by decide) X k) (rowOf 4096 64 (by decide) X k) (rowOf 4096 65 (by decide) X k) (rowOf 4096 127 (by decide) X k) (rowOf 4096 128 (by decide) X k) (rowOf 4096 129 (by decide) X k) (rowOf 4096 191 (by decide) X k) (rowOf 4096 192 (by decide) X k) (rowOf 4096 193 (by decide) X k) (ix2 ⟨(dy.val * 3 + dx.val) * 3 + i.val, h⟩ p)
      = ((pad 64 64 (A k i) (p.val / 64 + dy.val) (p.val % 64 + dx.val) : ℝ) : EReal) := by
  match dy, dx with
  | ⟨0, _⟩, ⟨0, _⟩ =>
    exact (rhs1_0 _ _ _ _ _ _ _ _ _ _ _ i p h).trans (tapL 64 64 (by norm_num) _ p.val 0 (by have := p.isLt; omega) (by norm_num) _ (hX k i ⟨63 + p.val, _⟩) (by show 63 + p.val = _; omega) _ (maskL1 p))
  | ⟨0, _⟩, ⟨1, _⟩ =>
    exact (rhs1_1 _ _ _ _ _ _ _ _ _ _ _ i p h).trans (tapM 64 64 (by norm_num) _ p.val 0 (by have := p.isLt; omega) (by norm_num) _ (hX k i ⟨64 + p.val, _⟩) (by show 64 + p.val = _; omega))
  | ⟨0, _⟩, ⟨2, _⟩ =>
    exact (rhs1_2 _ _ _ _ _ _ _ _ _ _ _ i p h).trans (tapR 64 64 (by norm_num) _ p.val 0 (by have := p.isLt; omega) (by norm_num) _ (hX k i ⟨65 + p.val, _⟩) (by show 65 + p.val = _; omega) _ (maskR1 p))
  | ⟨1, _⟩, ⟨0, _⟩ =>
    exact (rhs1_3 _ _ _ _ _ _ _ _ _ _ _ i p h).trans (tapL 64 64 (by norm_num) _ p.val 1 (by have := p.isLt; omega) (by norm_num) _ (hX k i ⟨127 + p.val, _⟩) (by show 127 + p.val = _; omega) _ (maskL1 p))
  | ⟨1, _⟩, ⟨1, _⟩ =>
    exact (rhs1_4 _ _ _ _ _ _ _ _ _ _ _ i p h).trans (tapM 64 64 (by norm_num) _ p.val 1 (by have := p.isLt; omega) (by norm_num) _ (hX k i ⟨128 + p.val, _⟩) (by show 128 + p.val = _; omega))
  | ⟨1, _⟩, ⟨2, _⟩ =>
    exact (rhs1_5 _ _ _ _ _ _ _ _ _ _ _ i p h).trans (tapR 64 64 (by norm_num) _ p.val 1 (by have := p.isLt; omega) (by norm_num) _ (hX k i ⟨129 + p.val, _⟩) (by show 129 + p.val = _; omega) _ (maskR1 p))
  | ⟨2, _⟩, ⟨0, _⟩ =>
    exact (rhs1_6 _ _ _ _ _ _ _ _ _ _ _ i p h).trans (tapL 64 64 (by norm_num) _ p.val 2 (by have := p.isLt; omega) (by norm_num) _ (hX k i ⟨191 + p.val, _⟩) (by show 191 + p.val = _; omega) _ (maskL1 p))
  | ⟨2, _⟩, ⟨1, _⟩ =>
    exact (rhs1_7 _ _ _ _ _ _ _ _ _ _ _ i p h).trans (tapM 64 64 (by norm_num) _ p.val 2 (by have := p.isLt; omega) (by norm_num) _ (hX k i ⟨192 + p.val, _⟩) (by show 192 + p.val = _; omega))
  | ⟨2, _⟩, ⟨2, _⟩ =>
    exact (rhs1_8 _ _ _ _ _ _ _ _ _ _ _ i p h).trans (tapR 64 64 (by norm_num) _ p.val 2 (by have := p.isLt; omega) (by norm_num) _ (hX k i ⟨193 + p.val, _⟩) (by show 193 + p.val = _; omega) _ (maskR1 p))

theorem dot1_at (V : Vec Ideal S1x16x27 .f32) (R : FVec Ideal S27x4096 .f32) (o : Fin 16) (p : Fin 4096) :
    k0_pay41 V R (constant S16x4096 .f32 0x00000000#32) (ix3 (0 : Fin 1) o p) = ∑ j : Fin 27, V (ix3 (0 : Fin 1) o j) * R (ix2 j p) := by
  pointwise [k0_pay41]

theorem conv1_core (A : Act) (X : Vec Ideal S32x3x4352 .f32) (hX : Img 64 64 A X) (w : ℕ → ℕ → ℕ → ℕ → ℝ)
    (V : Vec Ideal S1x16x27 .f32) (hV : ∀ (o : Fin 16) (j : Fin 27), V (ix3 (0 : Fin 1) o j) = ((w o (j.val % 3) (j.val / 3 / 3) (j.val / 3 % 3) : ℝ) : EReal)) (k : Fin 32) (o : Fin 16) (p : Fin 4096) :
    k0_pay41 V (k0_pay1 (k0_pay39 (F := Ideal)) (k0_pay40 (F := Ideal)) (rowOf 4096 63 (by decide) X k) (rowOf 4096 64 (by decide) X k) (rowOf 4096 65 (by decide) X k) (rowOf 4096 127 (by decide) X k) (rowOf 4096 128 (by decide) X k) (rowOf 4096 129 (by decide) X k) (rowOf 4096 191 (by decide) X k) (rowOf 4096 192 (by decide) X k) (rowOf 4096 193 (by decide) X k)) (constant S16x4096 .f32 0x00000000#32) (ix3 (0 : Fin 1) o p) = ((conv 3 64 64 w A k o (p.val / 64) (p.val % 64) : ℝ) : EReal) := by
  rw [dot1_at, sum_taps 3 (by norm_num) _ (fun dy dx i => by omega)]
  unfold conv
  simp only [coe_sum, EReal.coe_mul]
  refine Finset.sum_congr rfl fun dy _ => Finset.sum_congr rfl fun dx _ => Finset.sum_congr rfl fun i _ => ?_
  rw [rhs1_at A X hX k dy dx i p, hV]
  obtain ⟨e1, e2, e3⟩ := tap_index 3 dy dx i
  simp only [e1, e2, e3]

theorem conv1_at (A : Act) (X : Vec Ideal S32x3x4352 .f32) (hX : Img 64 64 A X) (w : ℕ → ℕ → ℕ → ℕ → ℝ)
    (V : Vec Ideal S1x16x27 .f32) (hV : ∀ (o : Fin 16) (j : Fin 27), V (ix3 (0 : Fin 1) o j) = ((w o (j.val % 3) (j.val / 3 / 3) (j.val / 3 % 3) : ℝ) : EReal)) (k : Fin 32) (o : Fin 16) (p : Fin 4096) :
    conv1 V X k (ix3 (0 : Fin 1) o p) = ((conv 3 64 64 w A k o (p.val / 64) (p.val % 64) : ℝ) : EReal) :=
  conv1_core A X hX w V hV k o p

end Cert.Proof
-- ==== Proof.Conv04.lean ====
/- Convolution 4 of the body, row by row, over finite values. -/
module

public import proofs.«01_k».proof.Proof.Stages
public import proofs.«01_k».proof.Proof.Taps

@[expose] public section

set_option maxRecDepth 16384

noncomputable section

namespace Cert.Proof

open Idealize.ShloMosaic Idealize.ShloMosaic.TcCoe Idealize.ShloMosaic.Tactic
open Cert.KernelIdeal Cert.KernelIdeal.Gen

theorem lane4 (p : Fin 4096) : k0_pay47 (ix2 (0 : Fin 1) p) = BitVec.ofNat 32 (p.val % 64) := by
  pointwise [k0_pay47]
  revert p
  decide +kernel

theorem maskL4 (p : Fin 4096) : k0_pay48 (F := Ideal) (ix2 (0 : Fin 1) p) = ((if p.val % 64 = 0 then 0 else 1 : ℝ) : EReal) := by
  pointwise [k0_pay48]
  rw [lane4, sitofp_ne]
  simp only [ofNat_eq p.val 64 0 (by norm_num) (by norm_num)]

theorem maskR4 (p : Fin 4096) : k0_pay49 (F := Ideal) (ix2 (0 : Fin 1) p) = ((if p.val % 64 = 63 then 0 else 1 : ℝ) : EReal) := by
  pointwise [k0_pay49]
  rw [lane4, sitofp_ne]
  simp only [ofNat_eq p.val 64 63 (by norm_num) (by norm_num)]

theorem rhs4_0 (m0 m2 : FVec Ideal S1x4096 .f32) (r0 r1 r2 r3 r4 r5 r6 r7 r8 : FVec Ideal S1x16x4096 .f32) (i : Fin 16) (p : Fin 4096) (h : (0 * 3 + 0) * 16 + i.val < 144) :
    k0_pay2 m0 m2 r0 r1 r2 r3 r4 r5 r6 r7 r8 (ix2 ⟨(0 * 3 + 0) * 16 + i.val, h⟩ p) = r0 (ix3 (0 : Fin 1) i p) * m0 (ix2 (0 : Fin 1) p) := by
  pointwise [k0_pay2]
  all_goals rw [dif_pos (by omega)]
  try congr!
  all_goals omega

theorem rhs4_1 (m0 m2 : FVec Ideal S1x4096 .f32) (r0 r1 r2 r3 r4 r5 r6 r7 r8 : FVec Ideal S1x16x4096 .f32) (i : Fin 16) (p : Fin 4096) (h : (0 * 3 + 1) * 16 + i.val < 144) :
    k0_pay2 m0 m2 r0 r1 r2 r3 r4 r5 r6 r7 r8 (ix2 ⟨(0 * 3 + 1) * 16 + i.val, h⟩ p) = r1 (ix3 (0 : Fin 1) i p) := by
  pointwise [k0_pay2]
  all_goals rw [dif_neg (by omega), dif_pos (by omega)]
  try congr!
  all_goals omega

theorem rhs4_2 (m0 m2 : FVec Ideal S1x4096 .f32) (r0 r1 r2 r3 r4 r5 r6 r7 r8 : FVec Ideal S1x16x4096 .f32) (i : Fin 16) (p : Fin 4096) (h : (0 * 3 + 2) * 16 + i.val < 144) :
    k0_pay2 m0 m2 r0 r1 r2 r3 r4 r5 r6 r7 r8 (ix2 ⟨(0 * 3 + 2) * 16 + i.val, h⟩ p) = r2 (ix3 (0 : Fin 1) i p) * m2 (ix2 (0 : Fin 1) p) := by
  pointwise [k0_pay2]
  all_goals rw [dif_neg (by omega), dif_neg (by omega), dif_pos (by omega)]
  try congr!
  all_goals omega

theorem rhs4_3 (m0 m2 : FVec Ideal S1x4096 .f32) (r0 r1 r2 r3 r4 r5 r6 r7 r8 : FVec Ideal S1x16x4096 .f32) (i : Fin 16) (p : Fin 4096) (h : (1 * 3 + 0) * 16 + i.val < 144) :
    k0_pay2 m0 m2 r0 r1 r2 r3 r4 r5 r6 r7 r8 (ix2 ⟨(1 * 3 + 0) * 16 + i.val, h⟩ p) = r3 (ix3 (0 : Fin 1) i p) * m0 (ix2 (0 : Fin 1) p) := by
  pointwise [k0_pay2]
  all_goals rw [dif_neg (by omega), dif_neg (by omega), dif_neg (by omega), dif_pos (by omega)]
  try congr!
  all_goals omega

theorem rhs4_4 (m0 m2 : FVec Ideal S1x4096 .f32) (r0 r1 r2 r3 r4 r5 r6 r7 r8 : FVec Ideal S1x16x4096 .f32) (i : Fin 16) (p : Fin 4096) (h : (1 * 3 + 1) * 16 + i.val < 144) :
    k0_pay2 m0 m2 r0 r1 r2 r3 r4 r5 r6 r7 r8 (ix2 ⟨(1 * 3 + 1) * 16 + i.val, h⟩ p) = r4 (ix3 (0 : Fin 1) i p) := by
  pointwise [k0_pay2]
  all_goals rw [dif_neg (by omega), dif_neg (by omega), dif_neg (by omega), dif_neg (by omega), dif_pos (by omega)]
  try congr!
  all_goals omega

theorem rhs4_5 (m0 m2 : FVec Ideal S1x4096 .f32) (r0 r1 r2 r3 r4 r5 r6 r7 r8 : FVec Ideal S1x16x4096 .f32) (i : Fin 16) (p : Fin 4096) (h : (1 * 3 + 2) * 16 + i.val < 144) :
    k0_pay2 m0 m2 r0 r1 r2 r3 r4 r5 r6 r7 r8 (ix2 ⟨(1 * 3 + 2) * 16 + i.val, h⟩ p) = r5 (ix3 (0 : Fin 1) i p) * m2 (ix2 (0 : Fin 1) p) := by
  pointwise [k0_pay2]
  all_goals rw [dif_neg (by omega), dif_neg (by omega), dif_neg (by omega), dif_neg (by omega), dif_neg (by omega), dif_pos (by omega)]
  try congr!
  all_goals omega

theorem rhs4_6 (m0 m2 : FVec Ideal S1x4096 .f32) (r0 r1 r2 r3 r4 r5 r6 r7 r8 : FVec Ideal S1x16x4096 .f32) (i : Fin 16) (p : Fin 4096) (h : (2 * 3 + 0) * 16 + i.val < 144) :
    k0_pay2 m0 m2 r0 r1 r2 r3 r4 r5 r6 r7 r8 (ix2 ⟨(2 * 3 + 0) * 16 + i.val, h⟩ p) = r6 (ix3 (0 : Fin 1) i p) * m0 (ix2 (0 : Fin 1) p) := by
  pointwise [k0_pay2]
  all_goals rw [dif_neg (by omega), dif_neg (by omega), dif_neg (by omega), dif_neg (by omega), dif_neg (by omega), dif_neg (by omega), dif_pos (by omega)]
  try congr!
  all_goals omega

theorem rhs4_7 (m0 m2 : FVec Ideal S1x4096 .f32) (r0 r1 r2 r3 r4 r5 r6 r7 r8 : FVec Ideal S1x16x4096 .f32) (i : Fin 16) (p : Fin 4096) (h : (2 * 3 + 1) * 16 + i.val < 144) :
    k0_pay2 m0 m2 r0 r1 r2 r3 r4 r5 r6 r7 r8 (ix2 ⟨(2 * 3 + 1) * 16 + i.val, h⟩ p) = r7 (ix3 (0 : Fin 1) i p) := by
  pointwise [k0_pay2]
  all_goals rw [dif_neg (by omega), dif_neg (by omega), dif_neg (by omega), dif_neg (by omega), dif_neg (by omega), dif_neg (by omega), dif_neg (by omega), dif_pos (by omega)]
  try congr!
  all_goals omega

theorem rhs4_8 (m0 m2 : FVec Ideal S1x4096 .f32) (r0 r1 r2 r3 r4 r5 r6 r7 r8 : FVec Ideal S1x16x4096 .f32) (i : Fin 16) (p : Fin 4096) (h : (2 * 3 + 2) * 16 + i.val < 144) :
    k0_pay2 m0 m2 r0 r1 r2 r3 r4 r5 r6 r7 r8 (ix2 ⟨(2 * 3 + 2) * 16 + i.val, h⟩ p) = r8 (ix3 (0 : Fin 1) i p) * m2 (ix2 (0 : Fin 1) p) := by
  pointwise [k0_pay2]
  all_goals rw [dif_neg (by omega), dif_neg (by omega), dif_neg (by omega), dif_neg (by omega), dif_neg (by omega), dif_neg (by omega), dif_neg (by omega), dif_neg (by omega)]
  try congr!
  all_goals omega

theorem rhs4_at (A : Act) (X : Vec Ideal S32x16x4352 .f32) (hX : Img 64 64 A X) (k : Fin 32) (dy dx : Fin 3) (i : Fin 16) (p : Fin 4096)
    (h : (dy.val * 3 + dx.val) * 16 + i.val < 144) :
    k0_pay2 (k0_pay48 (F := Ideal)) (k0_pay49 (F := Ideal)) (rowOf 4096 63 (by decide) X k) (rowOf 4096 64 (by decide) X k) (rowOf 4096 65 (by decide) X k) (rowOf 4096 127 (by decide) X k) (rowOf 4096 128 (by decide) X k) (rowOf 4096 129 (by decide) X k) (rowOf 4096 191 (by decide) X k) (rowOf 4096 192 (by decide) X k) (rowOf 4096 193 (by decide) X k) (ix2 ⟨(dy.val * 3 + dx.val) * 16 + i.val, h⟩ p)
      = ((pad 64 64 (A k i) (p.val / 64 + dy.val) (p.val % 64 + dx.val) : ℝ) : EReal) := by
  match dy, dx with
  | ⟨0, _⟩, ⟨0, _⟩ =>
    exact (rhs4_0 _ _ _ _ _ _ _ _ _ _ _ i p h).trans (tapL 64 64 (by norm_num) _ p.val 0 (by have := p.isLt; omega) (by norm_num) _ (hX k i ⟨63 + p.val, _⟩) (by show 63 + p.val = _; omega) _ (maskL4 p))
  | ⟨0, _⟩, ⟨1, _⟩ =>
    exact (rhs4_1 _ _ _ _ _ _ _ _ _ _ _ i p h).trans (tapM 64 64 (by norm_num) _ p.val 0 (by have := p.isLt; omega) (by norm_num) _ (hX k i ⟨64 + p.val, _⟩) (by show 64 + p.val = _; omega))
  | ⟨0, _⟩, ⟨2, _⟩ =>
    exact (rhs4_2 _ _ _ _ _ _ _ _ _ _ _ i p h).trans (tapR 64 64 (by norm_num) _ p.val 0 (by have := p.isLt; omega) (by norm_num) _ (hX k i ⟨65 + p.val, _⟩) (by show 65 + p.val = _; omega) _ (maskR4 p))
  | ⟨1, _⟩, ⟨0, _⟩ =>
    exact (rhs4_3 _ _ _ _ _ _ _ _ _ _ _ i p h).trans (tapL 64 64 (by norm_num) _ p.val 1 (by have := p.isLt; omega) (by norm_num) _ (hX k i ⟨127 + p.val, _⟩) (by show 127 + p.val = _; omega) _ (maskL4 p))
  | ⟨1, _⟩, ⟨1, _⟩ =>
    exact (rhs4_4 _ _ _ _ _ _ _ _ _ _ _ i p h).trans (tapM 64 64 (by norm_num) _ p.val 1 (by have := p.isLt; omega) (by norm_num) _ (hX k i ⟨128 + p.val, _⟩) (by show 128 + p.val = _; omega))
  | ⟨1, _⟩, ⟨2, _⟩ =>
    exact (rhs4_5 _ _ _ _ _ _ _ _ _ _ _ i p h).trans (tapR 64 64 (by norm_num) _ p.val 1 (by have := p.isLt; omega) (by norm_num) _ (hX k i ⟨129 + p.val, _⟩) (by show 129 + p.val = _; omega) _ (maskR4 p))
  | ⟨2, _⟩, ⟨0, _⟩ =>
    exact (rhs4_6 _ _ _ _ _ _ _ _ _ _ _ i p h).trans (tapL 64 64 (by norm_num) _ p.val 2 (by have := p.isLt; omega) (by norm_num) _ (hX k i ⟨191 + p.val, _⟩) (by show 191 + p.val = _; omega) _ (maskL4 p))
  | ⟨2, _⟩, ⟨1, _⟩ =>
    exact (rhs4_7 _ _ _ _ _ _ _ _ _ _ _ i p h).trans (tapM 64 64 (by norm_num) _ p.val 2 (by have := p.isLt; omega) (by norm_num) _ (hX k i ⟨192 + p.val, _⟩) (by show 192 + p.val = _; omega))
  | ⟨2, _⟩, ⟨2, _⟩ =>
    exact (rhs4_8 _ _ _ _ _ _ _ _ _ _ _ i p h).trans (tapR 64 64 (by norm_num) _ p.val 2 (by have := p.isLt; omega) (by norm_num) _ (hX k i ⟨193 + p.val, _⟩) (by show 193 + p.val = _; omega) _ (maskR4 p))

theorem dot4_at (V : Vec Ideal S1x16x144 .f32) (R : FVec Ideal S144x4096 .f32) (o : Fin 16) (p : Fin 4096) :
    k0_pay50 V R (constant S16x4096 .f32 0x00000000#32) (ix3 (0 : Fin 1) o p) = ∑ j : Fin 144, V (ix3 (0 : Fin 1) o j) * R (ix2 j p) := by
  pointwise [k0_pay50]

theorem conv4_core (A : Act) (X : Vec Ideal S32x16x4352 .f32) (hX : Img 64 64 A X) (w : ℕ → ℕ → ℕ → ℕ → ℝ)
    (V : Vec Ideal S1x16x144 .f32) (hV : ∀ (o : Fin 16) (j : Fin 144), V (ix3 (0 : Fin 1) o j) = ((w o (j.val % 16) (j.val / 16 / 3) (j.val / 16 % 3) : ℝ) : EReal)) (k : Fin 32) (o : Fin 16) (p : Fin 4096) :
    k0_pay50 V (k0_pay2 (k0_pay48 (F := Ideal)) (k0_pay49 (F := Ideal)) (rowOf 4096 63 (by decide) X k) (rowOf 4096 64 (by decide) X k) (rowOf 4096 65 (by decide) X k) (rowOf 4096 127 (by decide) X k) (rowOf 4096 128 (by decide) X k) (rowOf 4096 129 (by decide) X k) (rowOf 4096 191 (by decide) X k) (rowOf 4096 192 (by decide) X k) (rowOf 4096 193 (by decide) X k)) (constant S16x4096 .f32 0x00000000#32) (ix3 (0 : Fin 1) o p) = ((conv 16 64 64 w A k o (p.val / 64) (p.val % 64) : ℝ) : EReal) := by
  rw [dot4_at, sum_taps 16 (by norm_num) _ (fun dy dx i => by omega)]
  unfold conv
  simp only [coe_sum, EReal.coe_mul]
  refine Finset.sum_congr rfl fun dy _ => Finset.sum_congr rfl fun dx _ => Finset.sum_congr rfl fun i _ => ?_
  rw [rhs4_at A X hX k dy dx i p, hV]
  obtain ⟨e1, e2, e3⟩ := tap_index 16 dy dx i
  simp only [e1, e2, e3]

theorem conv4_at (A : Act) (X : Vec Ideal S32x16x4352 .f32) (hX : Img 64 64 A X) (w : ℕ → ℕ → ℕ → ℕ → ℝ)
    (V : Vec Ideal S1x16x144 .f32) (hV : ∀ (o : Fin 16) (j : Fin 144), V (ix3 (0 : Fin 1) o j) = ((w o (j.val % 16) (j.val / 16 / 3) (j.val / 16 % 3) : ℝ) : EReal)) (k : Fin 32) (o : Fin 16) (p : Fin 4096) :
    conv4 V X k (ix3 (0 : Fin 1) o p) = ((conv 16 64 64 w A k o (p.val / 64) (p.val % 64) : ℝ) : EReal) :=
  conv4_core A X hX w V hV k o p

end Cert.Proof
-- ==== Proof.Conv07.lean ====
/- Convolution 7 of the body, row by row, over finite values. -/
module

public import proofs.«01_k».proof.Proof.Stages
public import proofs.«01_k».proof.Proof.Taps

@[expose] public section

set_option maxRecDepth 16384

noncomputable section

namespace Cert.Proof

open Idealize.ShloMosaic Idealize.ShloMosaic.TcCoe Idealize.ShloMosaic.Tactic
open Cert.KernelIdeal Cert.KernelIdeal.Gen

theorem lane7 (p : Fin 4096) : k0_pay62 (Scalar.select (Scalar.cmpi .eq 64#32 0#32) 1#32 64#32) k0_pay60 k0_pay61 (ix2 (0 : Fin 1) p) = BitVec.ofNat 32 (p.val % 64) := by
  pointwise [k0_pay62, k0_pay60, k0_pay61]
  revert p
  decide +kernel

theorem maskL7 (p : Fin 4096) : k0_pay63 (F := Ideal) (Scalar.select (Scalar.cmpi .eq 64#32 0#32) 1#32 64#32) k0_pay60 k0_pay61 (ix2 (0 : Fin 1) p) = ((if p.val % 64 = 0 then 0 else 1 : ℝ) : EReal) := by
  pointwise [k0_pay63]
  rw [lane7, sitofp_ne]
  simp only [ofNat_eq p.val 64 0 (by norm_num) (by norm_num)]

theorem maskR7 (p : Fin 4096) : k0_pay64 (F := Ideal) (Scalar.select (Scalar.cmpi .eq 64#32 0#32) 1#32 64#32) k0_pay60 k0_pay61 (ix2 (0 : Fin 1) p) = ((if p.val % 64 = 63 then 0 else 1 : ℝ) : EReal) := by
  pointwise [k0_pay64]
  rw [lane7, sitofp_ne]
  simp only [ofNat_eq p.val 64 63 (by norm_num) (by norm_num)]

theorem rhs7_0 (m0 m2 : FVec Ideal S1x4096 .f32) (r0 r1 r2 r3 r4 r5 r6 r7 r8 : FVec Ideal S1x16x4096 .f32) (i : Fin 16) (p : Fin 4096) (h : (0 * 3 + 0) * 16 + i.val < 144) :
    k0_pay3 m0 m2 r0 r1 r2 r3 r4 r5 r6 r7 r8 (ix2 ⟨(0 * 3 + 0) * 16 + i.val, h⟩ p) = r0 (ix3 (0 : Fin 1) i p) * m0 (ix2 (0 : Fin 1) p) := by
  pointwise [k0_pay3]
  all_goals rw [dif_pos (by omega)]
  try congr!
  all_goals omega

theorem rhs7_1 (m0 m2 : FVec Ideal S1x4096 .f32) (r0 r1 r2 r3 r4 r5 r6 r7 r8 : FVec Ideal S1x16x4096 .f32) (i : Fin 16) (p : Fin 4096) (h : (0 * 3 + 1) * 16 + i.val < 144) :
    k0_pay3 m0 m2 r0 r1 r2 r3 r4 r5 r6 r7 r8 (ix2 ⟨(0 * 3 + 1) * 16 + i.val, h⟩ p) = r1 (ix3 (0 : Fin 1) i p) := by
  pointwise [k0_pay3]
  all_goals rw [dif_neg (by omega), dif_pos (by omega)]
  try congr!
  all_goals omega

theorem rhs7_2 (m0 m2 : FVec Ideal S1x4096 .f32) (r0 r1 r2 r3 r4 r5 r6 r7 r8 : FVec Ideal S1x16x4096 .f32) (i : Fin 16) (p : Fin 4096) (h : (0 * 3 + 2) * 16 + i.val < 144) :
    k0_pay3 m0 m2 r0 r1 r2 r3 r4 r5 r6 r7 r8 (ix2 ⟨(0 * 3 + 2) * 16 + i.val, h⟩ p) = r2 (ix3 (0 : Fin 1) i p) * m2 (ix2 (0 : Fin 1) p) := by
  pointwise [k0_pay3]
  all_goals rw [dif_neg (by omega), dif_neg (by omega), dif_pos (by omega)]
  try congr!
  all_goals omega

theorem rhs7_3 (m0 m2 : FVec Ideal S1x4096 .f32) (r0 r1 r2 r3 r4 r5 r6 r7 r8 : FVec Ideal S1x16x4096 .f32) (i : Fin 16) (p : Fin 4096) (h : (1 * 3 + 0) * 16 + i.val < 144) :
    k0_pay3 m0 m2 r0 r1 r2 r3 r4 r5 r6 r7 r8 (ix2 ⟨(1 * 3 + 0) * 16 + i.val, h⟩ p) = r3 (ix3 (0 : Fin 1) i p) * m0 (ix2 (0 : Fin 1) p) := by
  pointwise [k0_pay3]
  all_goals rw [dif_neg (by omega), dif_neg (by omega), dif_neg (by omega), dif_pos (by omega)]
  try congr!
  all_goals omega

theorem rhs7_4 (m0 m2 : FVec Ideal S1x4096 .f32) (r0 r1 r2 r3 r4 r5 r6 r7 r8 : FVec Ideal S1x16x4096 .f32) (i : Fin 16) (p : Fin 4096) (h : (1 * 3 + 1) * 16 + i.val < 144) :
    k0_pay3 m0 m2 r0 r1 r2 r3 r4 r5 r6 r7 r8 (ix2 ⟨(1 * 3 + 1) * 16 + i.val, h⟩ p) = r4 (ix3 (0 : Fin 1) i p) := by
  pointwise [k0_pay3]
  all_goals rw [dif_neg (by omega), dif_neg (by omega), dif_neg (by omega), dif_neg (by omega), dif_pos (by omega)]
  try congr!
  all_goals omega

theorem rhs7_5 (m0 m2 : FVec Ideal S1x4096 .f32) (r0 r1 r2 r3 r4 r5 r6 r7 r8 : FVec Ideal S1x16x4096 .f32) (i : Fin 16) (p : Fin 4096) (h : (1 * 3 + 2) * 16 + i.val < 144) :
    k0_pay3 m0 m2 r0 r1 r2 r3 r4 r5 r6 r7 r8 (ix2 ⟨(1 * 3 + 2) * 16 + i.val, h⟩ p) = r5 (ix3 (0 : Fin 1) i p) * m2 (ix2 (0 : Fin 1) p) := by
  pointwise [k0_pay3]
  all_goals rw [dif_neg (by omega), dif_neg (by omega), dif_neg (by omega), dif_neg (by omega), dif_neg (by omega), dif_pos (by omega)]
  try congr!
  all_goals omega

theorem rhs7_6 (m0 m2 : FVec Ideal S1x4096 .f32) (r0 r1 r2 r3 r4 r5 r6 r7 r8 : FVec Ideal S1x16x4096 .f32) (i : Fin 16) (p : Fin 4096) (h : (2 * 3 + 0) * 16 + i.val < 144) :
    k0_pay3 m0 m2 r0 r1 r2 r3 r4 r5 r6 r7 r8 (ix2 ⟨(2 * 3 + 0) * 16 + i.val, h⟩ p) = r6 (ix3 (0 : Fin 1) i p) * m0 (ix2 (0 : Fin 1) p) := by
  pointwise [k0_pay3]
  all_goals rw [dif_neg (by omega), dif_neg (by omega), dif_neg (by omega), dif_neg (by omega), dif_neg (by omega), dif_neg (by omega), dif_pos (by omega)]
  try congr!
  all_goals omega

theorem rhs7_7 (m0 m2 : FVec Ideal S1x4096 .f32) (r0 r1 r2 r3 r4 r5 r6 r7 r8 : FVec Ideal S1x16x4096 .f32) (i : Fin 16) (p : Fin 4096) (h : (2 * 3 + 1) * 16 + i.val < 144) :
    k0_pay3 m0 m2 r0 r1 r2 r3 r4 r5 r6 r7 r8 (ix2 ⟨(2 * 3 + 1) * 16 + i.val, h⟩ p) = r7 (ix3 (0 : Fin 1) i p) := by
  pointwise [k0_pay3]
  all_goals rw [dif_neg (by omega), dif_neg (by omega), dif_neg (by omega), dif_neg (by omega), dif_neg (by omega), dif_neg (by omega), dif_neg (by omega), dif_pos (by omega)]
  try congr!
  all_goals omega

theorem rhs7_8 (m0 m2 : FVec Ideal S1x4096 .f32) (r0 r1 r2 r3 r4 r5 r6 r7 r8 : FVec Ideal S1x16x4096 .f32) (i : Fin 16) (p : Fin 4096) (h : (2 * 3 + 2) * 16 + i.val < 144) :
    k0_pay3 m0 m2 r0 r1 r2 r3 r4 r5 r6 r7 r8 (ix2 ⟨(2 * 3 + 2) * 16 + i.val, h⟩ p) = r8 (ix3 (0 : Fin 1) i p) * m2 (ix2 (0 : Fin 1) p) := by
  pointwise [k0_pay3]
  all_goals rw [dif_neg (by omega), dif_neg (by omega), dif_neg (by omega), dif_neg (by omega), dif_neg (by omega), dif_neg (by omega), dif_neg (by omega), dif_neg (by omega)]
  try congr!
  all_goals omega

theorem rhs7_at (A : Act) (X : Vec Ideal S32x16x4352 .f32) (hX : Img 64 64 A X) (k : Fin 32) (dy dx : Fin 3) (i : Fin 16) (p : Fin 4096)
    (h : (dy.val * 3 + dx.val) * 16 + i.val < 144) :
    k0_pay3 (k0_pay63 (F := Ideal) (Scalar.select (Scalar.cmpi .eq 64#32 0#32) 1#32 64#32) k0_pay60 k0_pay61) (k0_pay64 (F := Ideal) (Scalar.select (Scalar.cmpi .eq 64#32 0#32) 1#32 64#32) k0_pay60 k0_pay61) (rowOf 4096 63 (by decide) X k) (rowOf 4096 64 (by decide) X k) (rowOf 4096 65 (by decide) X k) (rowOf 4096 127 (by decide) X k) (rowOf 4096 128 (by decide) X k) (rowOf 4096 129 (by decide) X k) (rowOf 4096 191 (by decide) X k) (rowOf 4096 192 (by decide) X k) (rowOf 4096 193 (by decide) X k) (ix2 ⟨(dy.val * 3 + dx.val) * 16 + i.val, h⟩ p)
      = ((pad 64 64 (A k i) (p.val / 64 + dy.val) (p.val % 64 + dx.val) : ℝ) : EReal) := by
  match dy, dx with
  | ⟨0, _⟩, ⟨0, _⟩ =>
    exact (rhs7_0 _ _ _ _ _ _ _ _ _ _ _ i p h).trans (tapL 64 64 (by norm_num) _ p.val 0 (by have := p.isLt; omega) (by norm_num) _ (hX k i ⟨63 + p.val, _⟩) (by show 63 + p.val = _; omega) _ (maskL7 p))
  | ⟨0, _⟩, ⟨1, _⟩ =>
    exact (rhs7_1 _ _ _ _ _ _ _ _ _ _ _ i p h).trans (tapM 64 64 (by norm_num) _ p.val 0 (by have := p.isLt; omega) (by norm_num) _ (hX k i ⟨64 + p.val, _⟩) (by show 64 + p.val = _; omega))
  | ⟨0, _⟩, ⟨2, _⟩ =>
    exact (rhs7_2 _ _ _ _ _ _ _ _ _ _ _ i p h).trans (tapR 64 64 (by norm_num) _ p.val 0 (by have := p.isLt; omega) (by norm_num) _ (hX k i ⟨65 + p.val, _⟩) (by show 65 + p.val = _; omega) _ (maskR7 p))
  | ⟨1, _⟩, ⟨0, _⟩ =>
    exact (rhs7_3 _ _ _ _ _ _ _ _ _ _ _ i p h).trans (tapL 64 64 (by norm_num) _ p.val 1 (by have := p.isLt; omega) (by norm_num) _ (hX k i ⟨127 + p.val, _⟩) (by show 127 + p.val = _; omega) _ (maskL7 p))
  | ⟨1, _⟩, ⟨1, _⟩ =>
    exact (rhs7_4 _ _ _ _ _ _ _ _ _ _ _ i p h).trans (tapM 64 64 (by norm_num) _ p.val 1 (by have := p.isLt; omega) (by norm_num) _ (hX k i ⟨128 + p.val, _⟩) (by show 128 + p.val = _; omega))
  | ⟨1, _⟩, ⟨2, _⟩ =>
    exact (rhs7_5 _ _ _ _ _ _ _ _ _ _ _ i p h).trans (tapR 64 64 (by norm_num) _ p.val 1 (by have := p.isLt; omega) (by norm_num) _ (hX k i ⟨129 + p.val, _⟩) (by show 129 + p.val = _; omega) _ (maskR7 p))
  | ⟨2, _⟩, ⟨0, _⟩ =>
    exact (rhs7_6 _ _ _ _ _ _ _ _ _ _ _ i p h).trans (tapL 64 64 (by norm_num) _ p.val 2 (by have := p.isLt; omega) (by norm_num) _ (hX k i ⟨191 + p.val, _⟩) (by show 191 + p.val = _; omega) _ (maskL7 p))
  | ⟨2, _⟩, ⟨1, _⟩ =>
    exact (rhs7_7 _ _ _ _ _ _ _ _ _ _ _ i p h).trans (tapM 64 64 (by norm_num) _ p.val 2 (by have := p.isLt; omega) (by norm_num) _ (hX k i ⟨192 + p.val, _⟩) (by show 192 + p.val = _; omega))
  | ⟨2, _⟩, ⟨2, _⟩ =>
    exact (rhs7_8 _ _ _ _ _ _ _ _ _ _ _ i p h).trans (tapR 64 64 (by norm_num) _ p.val 2 (by have := p.isLt; omega) (by norm_num) _ (hX k i ⟨193 + p.val, _⟩) (by show 193 + p.val = _; omega) _ (maskR7 p))

theorem dot7_at (V : FVec Ideal S32x144 .f32) (R : FVec Ideal S144x4096 .f32) (o : Fin 32) (p : Fin 4096) :
    k0_pay4 V R (constant S32x4096 .f32 0x00000000#32) (ix2 o p) = ∑ j : Fin 144, V (ix2 o j) * R (ix2 j p) := by
  pointwise [k0_pay4]

theorem conv7_core (A : Act) (X : Vec Ideal S32x16x4352 .f32) (hX : Img 64 64 A X) (w : ℕ → ℕ → ℕ → ℕ → ℝ)
    (V : FVec Ideal S32x144 .f32) (hV : ∀ (o : Fin 32) (j : Fin 144), V (ix2 o j) = ((w o (j.val % 16) (j.val / 16 / 3) (j.val / 16 % 3) : ℝ) : EReal)) (k : Fin 32) (o : Fin 32) (p : Fin 4096) :
    k0_pay4 V (k0_pay3 (k0_pay63 (F := Ideal) (Scalar.select (Scalar.cmpi .eq 64#32 0#32) 1#32 64#32) k0_pay60 k0_pay61) (k0_pay64 (F := Ideal) (Scalar.select (Scalar.cmpi .eq 64#32 0#32) 1#32 64#32) k0_pay60 k0_pay61) (rowOf 4096 63 (by decide) X k) (rowOf 4096 64 (by decide) X k) (rowOf 4096 65 (by decide) X k) (rowOf 4096 127 (by decide) X k) (rowOf 4096 128 (by decide) X k) (rowOf 4096 129 (by decide) X k) (rowOf 4096 191 (by decide) X k) (rowOf 4096 192 (by decide) X k) (rowOf 4096 193 (by decide) X k)) (constant S32x4096 .f32 0x00000000#32) (ix2 o p) = ((conv 16 64 64 w A k o (p.val / 64) (p.val % 64) : ℝ) : EReal) := by
  rw [dot7_at, sum_taps 16 (by norm_num) _ (fun dy dx i => by omega)]
  unfold conv
  simp only [coe_sum, EReal.coe_mul]
  refine Finset.sum_congr rfl fun dy _ => Finset.sum_congr rfl fun dx _ => Finset.sum_congr rfl fun i _ => ?_
  rw [rhs7_at A X hX k dy dx i p, hV]
  obtain ⟨e1, e2, e3⟩ := tap_index 16 dy dx i
  simp only [e1, e2, e3]

theorem col7_0 (v54 : FVec Ideal S8x512x128 .bf16) (V : FVec Ideal S32x144 .f32) (R : FVec Ideal S144x4096 .f32) (f : ℕ → ℕ → ℝ)
    (hout : ∀ (o : Fin 32) (p : Fin 4096), k0_pay4 V R (constant S32x4096 .f32 0x00000000#32) (ix2 o p) = ((f o p : ℝ) : EReal))
    (hsel : ∀ (j : Fin 8) (k : Fin 512) (q : Fin 128), v54 (ix3 j k q) = ((if k.val = 128 * (q.val / 32) + 2 * (q.val % 32) then 1 else 0 : ℝ) : EReal)) (o : Fin 32) (q : Fin 128) :
    k0_pay9 v54 V R (constant S32x4096 .f32 0x00000000#32) (ix2 o q) = ((f o (0 + (128 * (q.val / 32) + 2 * (q.val % 32))) : ℝ) : EReal) := by
  pointwise [k0_pay9, k0_pay12, k0_pay5, k0_pay7, k0_pay8, k0_pay6]
  simp only [hout]
  exact (pick3 (fun k => f o k.val) _ ⟨128 * (q.val / 32) + 2 * (q.val % 32), by omega⟩ (fun k => (hsel 0 k q).trans (by simp only [Fin.ext_iff]))).trans (by simp only [Nat.zero_add])

theorem col7_1 (v54 : FVec Ideal S8x512x128 .bf16) (V : FVec Ideal S32x144 .f32) (R : FVec Ideal S144x4096 .f32) (f : ℕ → ℕ → ℝ)
    (hout : ∀ (o : Fin 32) (p : Fin 4096), k0_pay4 V R (constant S32x4096 .f32 0x00000000#32) (ix2 o p) = ((f o p : ℝ) : EReal))
    (hsel : ∀ (j : Fin 8) (k : Fin 512) (q : Fin 128), v54 (ix3 j k q) = ((if k.val = 128 * (q.val / 32) + 2 * (q.val % 32) then 1 else 0 : ℝ) : EReal)) (o : Fin 32) (q : Fin 128) :
    k0_pay10 v54 V R (constant S32x4096 .f32 0x00000000#32) (ix2 o q) = ((f o (512 + (128 * (q.val / 32) + 2 * (q.val % 32))) : ℝ) : EReal) := by
  pointwise [k0_pay10, k0_pay12, k0_pay5, k0_pay7, k0_pay8, k0_pay6]
  simp only [hout]
  exact pick3 (fun k => f o (512 + k.val)) _ ⟨128 * (q.val / 32) + 2 * (q.val % 32), by omega⟩ (fun k => (hsel 1 k q).trans (by simp only [Fin.ext_iff]))

theorem col7_2 (v54 : FVec Ideal S8x512x128 .bf16) (V : FVec Ideal S32x144 .f32) (R : FVec Ideal S144x4096 .f32) (f : ℕ → ℕ → ℝ)
    (hout : ∀ (o : Fin 32) (p : Fin 4096), k0_pay4 V R (constant S32x4096 .f32 0x00000000#32) (ix2 o p) = ((f o p : ℝ) : EReal))
    (hsel : ∀ (j : Fin 8) (k : Fin 512) (q : Fin 128), v54 (ix3 j k q) = ((if k.val = 128 * (q.val / 32) + 2 * (q.val % 32) then 1 else 0 : ℝ) : EReal)) (o : Fin 32) (q : Fin 128) :
    k0_pay11 v54 V R (constant S32x4096 .f32 0x00000000#32) (ix2 o q) = ((f o (1024 + (128 * (q.val / 32) + 2 * (q.val % 32))) : ℝ) : EReal) := by
  pointwise [k0_pay11, k0_pay12, k0_pay5, k0_pay7, k0_pay8, k0_pay6]
  simp only [hout]
  exact pick3 (fun k => f o (1024 + k.val)) _ ⟨128 * (q.val / 32) + 2 * (q.val % 32), by omega⟩ (fun k => (hsel 2 k q).trans (by simp only [Fin.ext_iff]))

theorem col7_3 (v54 : FVec Ideal S8x512x128 .bf16) (V : FVec Ideal S32x144 .f32) (R : FVec Ideal S144x4096 .f32) (f : ℕ → ℕ → ℝ)
    (hout : ∀ (o : Fin 32) (p : Fin 4096), k0_pay4 V R (constant S32x4096 .f32 0x00000000#32) (ix2 o p) = ((f o p : ℝ) : EReal))
    (hsel : ∀ (j : Fin 8) (k : Fin 512) (q : Fin 128), v54 (ix3 j k q) = ((if k.val = 128 * (q.val / 32) + 2 * (q.val % 32) then 1 else 0 : ℝ) : EReal)) (o : Fin 32) (q : Fin 128) :
    k0_pay13 v54 (k0_pay7 V R (constant S32x4096 .f32 0x00000000#32)) (k0_pay8 V R (constant S32x4096 .f32 0x00000000#32)) (k0_pay12 V R (constant S32x4096 .f32 0x00000000#32)) (ix2 o q) = ((f o (1536 + (128 * (q.val / 32) + 2 * (q.val % 32))) : ℝ) : EReal) := by
  pointwise [k0_pay13, k0_pay12, k0_pay5, k0_pay7, k0_pay8, k0_pay6]
  simp only [hout]
  exact pick3 (fun k => f o (1536 + k.val)) _ ⟨128 * (q.val / 32) + 2 * (q.val % 32), by omega⟩ (fun k => (hsel 3 k q).trans (by simp only [Fin.ext_iff]))

theorem col7_4 (v54 : FVec Ideal S8x512x128 .bf16) (V : FVec Ideal S32x144 .f32) (R : FVec Ideal S144x4096 .f32) (f : ℕ → ℕ → ℝ)
    (hout : ∀ (o : Fin 32) (p : Fin 4096), k0_pay4 V R (constant S32x4096 .f32 0x00000000#32) (ix2 o p) = ((f o p : ℝ) : EReal))
    (hsel : ∀ (j : Fin 8) (k : Fin 512) (q : Fin 128), v54 (ix3 j k q) = ((if k.val = 128 * (q.val / 32) + 2 * (q.val % 32) then 1 else 0 : ℝ) : EReal)) (o : Fin 32) (q : Fin 128) :
    k0_pay14 v54 (k0_pay5 V R (constant S32x4096 .f32 0x00000000#32)) (k0_pay7 V R (constant S32x4096 .f32 0x00000000#32)) (k0_pay8 V R (constant S32x4096 .f32 0x00000000#32)) (ix2 o q) = ((f o (2048 + (128 * (q.val / 32) + 2 * (q.val % 32))) : ℝ) : EReal) := by
  pointwise [k0_pay14, k0_pay12, k0_pay5, k0_pay7, k0_pay8, k0_pay6]
  simp only [hout]
  exact pick3 (fun k => f o (2048 + k.val)) _ ⟨128 * (q.val / 32) + 2 * (q.val % 32), by omega⟩ (fun k => (hsel 4 k q).trans (by simp only [Fin.ext_iff]))

theorem col7_5 (v54 : FVec Ideal S8x512x128 .bf16) (V : FVec Ideal S32x144 .f32) (R : FVec Ideal S144x4096 .f32) (f : ℕ → ℕ → ℝ)
    (hout : ∀ (o : Fin 32) (p : Fin 4096), k0_pay4 V R (constant S32x4096 .f32 0x00000000#32) (ix2 o p) = ((f o p : ℝ) : EReal))
    (hsel : ∀ (j : Fin 8) (k : Fin 512) (q : Fin 128), v54 (ix3 j k q) = ((if k.val = 128 * (q.val / 32) + 2 * (q.val % 32) then 1 else 0 : ℝ) : EReal)) (o : Fin 32) (q : Fin 128) :
    k0_pay15 v54 (k0_pay5 V R (constant S32x4096 .f32 0x00000000#32)) (k0_pay7 V R (constant S32x4096 .f32 0x00000000#32)) (k0_pay8 V R (constant S32x4096 .f32 0x00000000#32)) (ix2 o q) = ((f o (2560 + (128 * (q.val / 32) + 2 * (q.val % 32))) : ℝ) : EReal) := by
  pointwise [k0_pay15, k0_pay12, k0_pay5, k0_pay7, k0_pay8, k0_pay6]
  simp only [hout]
  exact pick3 (fun k => f o (2560 + k.val)) _ ⟨128 * (q.val / 32) + 2 * (q.val % 32), by omega⟩ (fun k => (hsel 5 k q).trans (by simp only [Fin.ext_iff]))

set_option maxHeartbeats 2000000 in
theorem down7_at (v54 : FVec Ideal S8x512x128 .bf16) (V : FVec Ideal S32x144 .f32) (R : FVec Ideal S144x4096 .f32) (f : ℕ → ℕ → ℝ)
    (hout : ∀ (o : Fin 32) (p : Fin 4096), k0_pay4 V R (constant S32x4096 .f32 0x00000000#32) (ix2 o p) = ((f o p : ℝ) : EReal))
    (hsel : ∀ (j : Fin 8) (k : Fin 512) (q : Fin 128), v54 (ix3 j k q) = ((if k.val = 128 * (q.val / 32) + 2 * (q.val % 32) then 1 else 0 : ℝ) : EReal)) (o : Fin 32) (p : Fin 1024) :
    down7 v54 V R (ix3 (0 : Fin 1) o p) = ((f o (512 * (p.val / 128) + (128 * (p.val % 128 / 32) + 2 * (p.val % 128 % 32))) : ℝ) : EReal) := by
  obtain ⟨j, q, rfl⟩ : ∃ (j : Fin 8) (q : Fin 128), p = ⟨128 * j.val + q.val, by omega⟩ :=
    ⟨⟨p.val / 128, by omega⟩, ⟨p.val % 128, by omega⟩, Fin.ext (by simp only []; omega)⟩
  have e1 : (128 * j.val + q.val) / 128 = j.val := by omega
  have e2 : (128 * j.val + q.val) % 128 = q.val := by omega
  simp only [e1, e2]
  pointwise [down7, k0_pay65]
  match j with
  | ⟨0, _⟩ =>
    simp only []
    rw [dif_pos (by omega)]
    refine Eq.trans ?_ (col7_0 v54 V R f hout hsel o q)
    congr!
    all_goals omega
  | ⟨1, _⟩ =>
    simp only []
    rw [dif_neg (by omega), dif_pos (by omega)]
    refine Eq.trans ?_ (col7_1 v54 V R f hout hsel o q)
    congr!
    all_goals omega
  | ⟨2, _⟩ =>
    simp only []
    rw [dif_neg (by omega), dif_neg (by omega), dif_pos (by omega)]
    refine Eq.trans ?_ (col7_2 v54 V R f hout hsel o q)
    congr!
    all_goals omega
  | ⟨3, _⟩ =>
    simp only []
    rw [dif_neg (by omega), dif_neg (by omega), dif_neg (by omega), dif_pos (by omega)]
    refine Eq.trans ?_ (col7_3 v54 V R f hout hsel o q)
    congr!
    all_goals omega
  | ⟨4, _⟩ =>
    simp only []
    rw [dif_neg (by omega), dif_neg (by omega), dif_neg (by omega), dif_neg (by omega), dif_pos (by omega)]
    refine Eq.trans ?_ (col7_4 v54 V R f hout hsel o q)
    congr!
    all_goals omega
  | ⟨5, _⟩ =>
    simp only []
    rw [dif_neg (by omega), dif_neg (by omega), dif_neg (by omega), dif_neg (by omega), dif_neg (by omega), dif_pos (by omega)]
    refine Eq.trans ?_ (col7_5 v54 V R f hout hsel o q)
    congr!
    all_goals omega
  | ⟨6, _⟩ =>
    simp only []
    rw [dif_neg (by omega), dif_neg (by omega), dif_neg (by omega), dif_neg (by omega), dif_neg (by omega), dif_neg (by omega), dif_pos (by omega)]
    pointwise [k0_pay16, k0_pay17, k0_pay5, k0_pay7, k0_pay8, k0_pay6]
    simp only [hout]
    have eq : ∀ h, (⟨128 * 6 + q.val - 128 - 128 - 128 - 128 - 128 - 128 , h⟩ : Fin 128) = q := fun h => Fin.ext (by simp only []; omega)
    simp only [eq]
    exact pick3 (fun k => f o (3072 + k.val)) _ ⟨128 * (q.val / 32) + 2 * (q.val % 32), by omega⟩ (fun k => (hsel 6 k q).trans (by simp only [Fin.ext_iff]))
  | ⟨7, _⟩ =>
    simp only []
    rw [dif_neg (by omega), dif_neg (by omega), dif_neg (by omega), dif_neg (by omega), dif_neg (by omega), dif_neg (by omega), dif_neg (by omega)]
    pointwise [k0_pay16, k0_pay17, k0_pay5, k0_pay7, k0_pay8, k0_pay6]
    simp only [hout]
    have eq : ∀ h, (⟨128 * 7 + q.val - 128 - 128 - 128 - 128 - 128 - 128 - 128 , h⟩ : Fin 128) = q := fun h => Fin.ext (by simp only []; omega)
    simp only [eq]
    exact pick3 (fun k => f o (3584 + k.val)) _ ⟨128 * (q.val / 32) + 2 * (q.val % 32), by omega⟩ (fun k => (hsel 7 k q).trans (by simp only [Fin.ext_iff]))

theorem conv7_at (A : Act) (X : Vec Ideal S32x16x4352 .f32) (hX : Img 64 64 A X) (w : ℕ → ℕ → ℕ → ℕ → ℝ) (v54 : FVec Ideal S8x512x128 .bf16)
    (hsel : ∀ (j : Fin 8) (k : Fin 512) (q : Fin 128), v54 (ix3 j k q) = ((if k.val = 128 * (q.val / 32) + 2 * (q.val % 32) then 1 else 0 : ℝ) : EReal))
    (V : FVec Ideal S32x144 .f32) (hV : ∀ (o : Fin 32) (j : Fin 144), V (ix2 o j) = ((w o (j.val % 16) (j.val / 16 / 3) (j.val / 16 % 3) : ℝ) : EReal)) (k : Fin 32) (o : Fin 32) (p : Fin 1024) :
    conv7 v54 V (Scalar.select (Scalar.cmpi .eq 64#32 0#32) 1#32 64#32) k0_pay60 k0_pay61 X k (ix3 (0 : Fin 1) o p) = ((half (conv 16 64 64 w A) k o (p.val / 32) (p.val % 32) : ℝ) : EReal) := by
  refine (down7_at v54 V _ (fun o p => conv 16 64 64 w A k o (p / 64) (p % 64)) (conv7_core A X hX w V hV k) hsel o p).trans ?_
  unfold half
  have e1 : (512 * (p.val / 128) + (128 * (p.val % 128 / 32) + 2 * (p.val % 128 % 32))) / 64 = 2 * (p.val / 32) := by omega
  have e2 : (512 * (p.val / 128) + (128 * (p.val % 128 / 32) + 2 * (p.val % 128 % 32))) % 64 = 2 * (p.val % 32) := by omega
  simp only [e1, e2]

end Cert.Proof
-- ==== Proof.Conv10.lean ====
/- Convolution 10 of the body, row by row, over finite values. -/
module

public import proofs.«01_k».proof.Proof.Stages
public import proofs.«01_k».proof.Proof.Taps

@[expose] public section

set_option maxRecDepth 16384

noncomputable section

namespace Cert.Proof

open Idealize.ShloMosaic Idealize.ShloMosaic.TcCoe Idealize.ShloMosaic.Tactic
open Cert.KernelIdeal Cert.KernelIdeal.Gen

theorem lane10 (p : Fin 1024) : k0_pay76 (ix2 (0 : Fin 1) p) = BitVec.ofNat 32 (p.val % 32) := by
  pointwise [k0_pay76]
  revert p
  decide +kernel

theorem maskL10 (p : Fin 1024) : k0_pay78 (F := Ideal) k0_pay76 k0_pay77 (ix2 (0 : Fin 1) p) = ((if p.val % 32 = 0 then 0 else 1 : ℝ) : EReal) := by
  pointwise [k0_pay78, k0_pay77]
  rw [lane10, sitofp_ne]
  simp only [ofNat_eq p.val 32 0 (by norm_num) (by norm_num)]

theorem maskR10 (p : Fin 1024) : k0_pay79 (F := Ideal) k0_pay76 (ix2 (0 : Fin 1) p) = ((if p.val % 32 = 31 then 0 else 1 : ℝ) : EReal) := by
  pointwise [k0_pay79]
  rw [lane10, sitofp_ne]
  simp only [ofNat_eq p.val 32 31 (by norm_num) (by norm_num)]

theorem rhs10_0 (m0 m2 : FVec Ideal S1x1024 .f32) (r0 r1 r2 r3 r4 r5 r6 r7 r8 : FVec Ideal S1x32x1024 .f32) (i : Fin 32) (p : Fin 1024) (h : (0 * 3 + 0) * 32 + i.val < 288) :
    k0_pay18 m0 m2 r0 r1 r2 r3 r4 r5 r6 r7 r8 (ix2 ⟨(0 * 3 + 0) * 32 + i.val, h⟩ p) = r0 (ix3 (0 : Fin 1) i p) * m0 (ix2 (0 : Fin 1) p) := by
  pointwise [k0_pay18]
  all_goals rw [dif_pos (by omega)]
  try congr!
  all_goals omega

theorem rhs10_1 (m0 m2 : FVec Ideal S1x1024 .f32) (r0 r1 r2 r3 r4 r5 r6 r7 r8 : FVec Ideal S1x32x1024 .f32) (i : Fin 32) (p : Fin 1024) (h : (0 * 3 + 1) * 32 + i.val < 288) :
    k0_pay18 m0 m2 r0 r1 r2 r3 r4 r5 r6 r7 r8 (ix2 ⟨(0 * 3 + 1) * 32 + i.val, h⟩ p) = r1 (ix3 (0 : Fin 1) i p) := by
  pointwise [k0_pay18]
  all_goals rw [dif_neg (by omega), dif_pos (by omega)]
  try congr!
  all_goals omega

theorem rhs10_2 (m0 m2 : FVec Ideal S1x1024 .f32) (r0 r1 r2 r3 r4 r5 r6 r7 r8 : FVec Ideal S1x32x1024 .f32) (i : Fin 32) (p : Fin 1024) (h : (0 * 3 + 2) * 32 + i.val < 288) :
    k0_pay18 m0 m2 r0 r1 r2 r3 r4 r5 r6 r7 r8 (ix2 ⟨(0 * 3 + 2) * 32 + i.val, h⟩ p) = r2 (ix3 (0 : Fin 1) i p) * m2 (ix2 (0 : Fin 1) p) := by
  pointwise [k0_pay18]
  all_goals rw [dif_neg (by omega), dif_neg (by omega), dif_pos (by omega)]
  try congr!
  all_goals omega

theorem rhs10_3 (m0 m2 : FVec Ideal S1x1024 .f32) (r0 r1 r2 r3 r4 r5 r6 r7 r8 : FVec Ideal S1x32x1024 .f32) (i : Fin 32) (p : Fin 1024) (h : (1 * 3 + 0) * 32 + i.val < 288) :
    k0_pay18 m0 m2 r0 r1 r2 r3 r4 r5 r6 r7 r8 (ix2 ⟨(1 * 3 + 0) * 32 + i.val, h⟩ p) = r3 (ix3 (0 : Fin 1) i p) * m0 (ix2 (0 : Fin 1) p) := by
  pointwise [k0_pay18]
  all_goals rw [dif_neg (by omega), dif_neg (by omega), dif_neg (by omega), dif_pos (by omega)]
  try congr!
  all_goals omega

theorem rhs10_4 (m0 m2 : FVec Ideal S1x1024 .f32) (r0 r1 r2 r3 r4 r5 r6 r7 r8 : FVec Ideal S1x32x1024 .f32) (i : Fin 32) (p : Fin 1024) (h : (1 * 3 + 1) * 32 + i.val < 288) :
    k0_pay18 m0 m2 r0 r1 r2 r3 r4 r5 r6 r7 r8 (ix2 ⟨(1 * 3 + 1) * 32 + i.val, h⟩ p) = r4 (ix3 (0 : Fin 1) i p) := by
  pointwise [k0_pay18]
  all_goals rw [dif_neg (by omega), dif_neg (by omega), dif_neg (by omega), dif_neg (by omega), dif_pos (by omega)]
  try congr!
  all_goals omega

theorem rhs10_5 (m0 m2 : FVec Ideal S1x1024 .f32) (r0 r1 r2 r3 r4 r5 r6 r7 r8 : FVec Ideal S1x32x1024 .f32) (i : Fin 32) (p : Fin 1024) (h : (1 * 3 + 2) * 32 + i.val < 288) :
    k0_pay18 m0 m2 r0 r1 r2 r3 r4 r5 r6 r7 r8 (ix2 ⟨(1 * 3 + 2) * 32 + i.val, h⟩ p) = r5 (ix3 (0 : Fin 1) i p) * m2 (ix2 (0 : Fin 1) p) := by
  pointwise [k0_pay18]
  all_goals rw [dif_neg (by omega), dif_neg (by omega), dif_neg (by omega), dif_neg (by omega), dif_neg (by omega), dif_pos (by omega)]
  try congr!
  all_goals omega

theorem rhs10_6 (m0 m2 : FVec Ideal S1x1024 .f32) (r0 r1 r2 r3 r4 r5 r6 r7 r8 : FVec Ideal S1x32x1024 .f32) (i : Fin 32) (p : Fin 1024) (h : (2 * 3 + 0) * 32 + i.val < 288) :
    k0_pay18 m0 m2 r0 r1 r2 r3 r4 r5 r6 r7 r8 (ix2 ⟨(2 * 3 + 0) * 32 + i.val, h⟩ p) = r6 (ix3 (0 : Fin 1) i p) * m0 (ix2 (0 : Fin 1) p) := by
  pointwise [k0_pay18]
  all_goals rw [dif_neg (by omega), dif_neg (by omega), dif_neg (by omega), dif_neg (by omega), dif_neg (by omega), dif_neg (by omega), dif_pos (by omega)]
  try congr!
  all_goals omega

theorem rhs10_7 (m0 m2 : FVec Ideal S1x1024 .f32) (r0 r1 r2 r3 r4 r5 r6 r7 r8 : FVec Ideal S1x32x1024 .f32) (i : Fin 32) (p : Fin 1024) (h : (2 * 3 + 1) * 32 + i.val < 288) :
    k0_pay18 m0 m2 r0 r1 r2 r3 r4 r5 r6 r7 r8 (ix2 ⟨(2 * 3 + 1) * 32 + i.val, h⟩ p) = r7 (ix3 (0 : Fin 1) i p) := by
  pointwise [k0_pay18]
  all_goals rw [dif_neg (by omega), dif_neg (by omega), dif_neg (by omega), dif_neg (by omega), dif_neg (by omega), dif_neg (by omega), dif_neg (by omega), dif_pos (by omega)]
  try congr!
  all_goals omega

theorem rhs10_8 (m0 m2 : FVec Ideal S1x1024 .f32) (r0 r1 r2 r3 r4 r5 r6 r7 r8 : FVec Ideal S1x32x1024 .f32) (i : Fin 32) (p : Fin 1024) (h : (2 * 3 + 2) * 32 + i.val < 288) :
    k0_pay18 m0 m2 r0 r1 r2 r3 r4 r5 r6 r7 r8 (ix2 ⟨(2 * 3 + 2) * 32 + i.val, h⟩ p) = r8 (ix3 (0 : Fin 1) i p) * m2 (ix2 (0 : Fin 1) p) := by
  pointwise [k0_pay18]
  all_goals rw [dif_neg (by omega), dif_neg (by omega), dif_neg (by omega), dif_neg (by omega), dif_neg (by omega), dif_neg (by omega), dif_neg (by omega), dif_neg (by omega)]
  try congr!
  all_goals omega

theorem rhs10_at (A : Act) (X : Vec Ideal S32x32x1280 .f32) (hX : Img 32 32 A X) (k : Fin 32) (dy dx : Fin 3) (i : Fin 32) (p : Fin 1024)
    (h : (dy.val * 3 + dx.val) * 32 + i.val < 288) :
    k0_pay18 (k0_pay78 (F := Ideal) k0_pay76 k0_pay77) (k0_pay79 (F := Ideal) k0_pay76) (rowOf 1024 95 (by decide) X k) (rowOf 1024 96 (by decide) X k) (rowOf 1024 97 (by decide) X k) (rowOf 1024 127 (by decide) X k) (rowOf 1024 128 (by decide) X k) (rowOf 1024 129 (by decide) X k) (rowOf 1024 159 (by decide) X k) (rowOf 1024 160 (by decide) X k) (rowOf 1024 161 (by decide) X k) (ix2 ⟨(dy.val * 3 + dx.val) * 32 + i.val, h⟩ p)
      = ((pad 32 32 (A k i) (p.val / 32 + dy.val) (p.val % 32 + dx.val) : ℝ) : EReal) := by
  match dy, dx with
  | ⟨0, _⟩, ⟨0, _⟩ =>
    exact (rhs10_0 _ _ _ _ _ _ _ _ _ _ _ i p h).trans (tapL 32 32 (by norm_num) _ p.val 0 (by have := p.isLt; omega) (by norm_num) _ (hX k i ⟨95 + p.val, _⟩) (by show 95 + p.val = _; omega) _ (maskL10 p))
  | ⟨0, _⟩, ⟨1, _⟩ =>
    exact (rhs10_1 _ _ _ _ _ _ _ _ _ _ _ i p h).trans (tapM 32 32 (by norm_num) _ p.val 0 (by have := p.isLt; omega) (by norm_num) _ (hX k i ⟨96 + p.val, _⟩) (by show 96 + p.val = _; omega))
  | ⟨0, _⟩, ⟨2, _⟩ =>
    exact (rhs10_2 _ _ _ _ _ _ _ _ _ _ _ i p h).trans (tapR 32 32 (by norm_num) _ p.val 0 (by have := p.isLt; omega) (by norm_num) _ (hX k i ⟨97 + p.val, _⟩) (by show 97 + p.val = _; omega) _ (maskR10 p))
  | ⟨1, _⟩, ⟨0, _⟩ =>
    exact (rhs10_3 _ _ _ _ _ _ _ _ _ _ _ i p h).trans (tapL 32 32 (by norm_num) _ p.val 1 (by have := p.isLt; omega) (by norm_num) _ (hX k i ⟨127 + p.val, _⟩) (by show 127 + p.val = _; omega) _ (maskL10 p))
  | ⟨1, _⟩, ⟨1, _⟩ =>
    exact (rhs10_4 _ _ _ _ _ _ _ _ _ _ _ i p h).trans (tapM 32 32 (by norm_num) _ p.val 1 (by have := p.isLt; omega) (by norm_num) _ (hX k i ⟨128 + p.val, _⟩) (by show 128 + p.val = _; omega))
  | ⟨1, _⟩, ⟨2, _⟩ =>
    exact (rhs10_5 _ _ _ _ _ _ _ _ _ _ _ i p h).trans (tapR 32 32 (by norm_num) _ p.val 1 (by have := p.isLt; omega) (by norm_num) _ (hX k i ⟨129 + p.val, _⟩) (by show 129 + p.val = _; omega) _ (maskR10 p))
  | ⟨2, _⟩, ⟨0, _⟩ =>
    exact (rhs10_6 _ _ _ _ _ _ _ _ _ _ _ i p h).trans (tapL 32 32 (by norm_num) _ p.val 2 (by have := p.isLt; omega) (by norm_num) _ (hX k i ⟨159 + p.val, _⟩) (by show 159 + p.val = _; omega) _ (maskL10 p))
  | ⟨2, _⟩, ⟨1, _⟩ =>
    exact (rhs10_7 _ _ _ _ _ _ _ _ _ _ _ i p h).trans (tapM 32 32 (by norm_num) _ p.val 2 (by have := p.isLt; omega) (by norm_num) _ (hX k i ⟨160 + p.val, _⟩) (by show 160 + p.val = _; omega))
  | ⟨2, _⟩, ⟨2, _⟩ =>
    exact (rhs10_8 _ _ _ _ _ _ _ _ _ _ _ i p h).trans (tapR 32 32 (by norm_num) _ p.val 2 (by have := p.isLt; omega) (by norm_num) _ (hX k i ⟨161 + p.val, _⟩) (by show 161 + p.val = _; omega) _ (maskR10 p))

theorem dot10_at (V : FVec Ideal S32x288 .f32) (R : FVec Ideal S288x1024 .f32) (o : Fin 32) (p : Fin 1024) :
    k0_pay80 V R (constant S32x1024 .f32 0x00000000#32) (ix3 (0 : Fin 1) o p) = ∑ j : Fin 288, V (ix2 o j) * R (ix2 j p) := by
  pointwise [k0_pay80]

theorem conv10_core (A : Act) (X : Vec Ideal S32x32x1280 .f32) (hX : Img 32 32 A X) (w : ℕ → ℕ → ℕ → ℕ → ℝ)
    (V : FVec Ideal S32x288 .f32) (hV : ∀ (o : Fin 32) (j : Fin 288), V (ix2 o j) = ((w o (j.val % 32) (j.val / 32 / 3) (j.val / 32 % 3) : ℝ) : EReal)) (k : Fin 32) (o : Fin 32) (p : Fin 1024) :
    k0_pay80 V (k0_pay18 (k0_pay78 (F := Ideal) k0_pay76 k0_pay77) (k0_pay79 (F := Ideal) k0_pay76) (rowOf 1024 95 (by decide) X k) (rowOf 1024 96 (by decide) X k) (rowOf 1024 97 (by decide) X k) (rowOf 1024 127 (by decide) X k) (rowOf 1024 128 (by decide) X k) (rowOf 1024 129 (by decide) X k) (rowOf 1024 159 (by decide) X k) (rowOf 1024 160 (by decide) X k) (rowOf 1024 161 (by decide) X k)) (constant S32x1024 .f32 0x00000000#32) (ix3 (0 : Fin 1) o p) = ((conv 32 32 32 w A k o (p.val / 32) (p.val % 32) : ℝ) : EReal) := by
  rw [dot10_at, sum_taps 32 (by norm_num) _ (fun dy dx i => by omega)]
  unfold conv
  simp only [coe_sum, EReal.coe_mul]
  refine Finset.sum_congr rfl fun dy _ => Finset.sum_congr rfl fun dx _ => Finset.sum_congr rfl fun i _ => ?_
  rw [rhs10_at A X hX k dy dx i p, hV]
  obtain ⟨e1, e2, e3⟩ := tap_index 32 dy dx i
  simp only [e1, e2, e3]

theorem conv10_at (A : Act) (X : Vec Ideal S32x32x1280 .f32) (hX : Img 32 32 A X) (w : ℕ → ℕ → ℕ → ℕ → ℝ)
    (V : FVec Ideal S32x288 .f32) (hV : ∀ (o : Fin 32) (j : Fin 288), V (ix2 o j) = ((w o (j.val % 32) (j.val / 32 / 3) (j.val / 32 % 3) : ℝ) : EReal)) (k : Fin 32) (o : Fin 32) (p : Fin 1024) :
    conv10 V k0_pay76 k0_pay77 X k (ix3 (0 : Fin 1) o p) = ((conv 32 32 32 w A k o (p.val / 32) (p.val % 32) : ℝ) : EReal) :=
  conv10_core A X hX w V hV k o p

end Cert.Proof
-- ==== Proof.Conv13.lean ====
/- Convolution 13 of the body, row by row, over finite values. -/
module

public import proofs.«01_k».proof.Proof.Stages
public import proofs.«01_k».proof.Proof.Taps

@[expose] public section

set_option maxRecDepth 16384

noncomputable section

namespace Cert.Proof

open Idealize.ShloMosaic Idealize.ShloMosaic.TcCoe Idealize.ShloMosaic.Tactic
open Cert.KernelIdeal Cert.KernelIdeal.Gen

theorem lane13 (p : Fin 1024) : k0_pay93 (ix2 (0 : Fin 1) p) = BitVec.ofNat 32 (p.val % 32) := by
  pointwise [k0_pay93]
  revert p
  decide +kernel

theorem maskL13 (p : Fin 1024) : k0_pay94 (F := Ideal) (ix2 (0 : Fin 1) p) = ((if p.val % 32 = 0 then 0 else 1 : ℝ) : EReal) := by
  pointwise [k0_pay94]
  rw [lane13, sitofp_ne]
  simp only [ofNat_eq p.val 32 0 (by norm_num) (by norm_num)]

theorem maskR13 (p : Fin 1024) : k0_pay95 (F := Ideal) (ix2 (0 : Fin 1) p) = ((if p.val % 32 = 31 then 0 else 1 : ℝ) : EReal) := by
  pointwise [k0_pay95]
  rw [lane13, sitofp_ne]
  simp only [ofNat_eq p.val 32 31 (by norm_num) (by norm_num)]

theorem rhs13_0 (m0 m2 : FVec Ideal S1x1024 .f32) (r0 r1 r2 r3 r4 r5 r6 r7 r8 : FVec Ideal S1x32x1024 .f32) (i : Fin 32) (p : Fin 1024) (h : (0 * 3 + 0) * 32 + i.val < 288) :
    k0_pay19 m0 m2 r0 r1 r2 r3 r4 r5 r6 r7 r8 (ix2 ⟨(0 * 3 + 0) * 32 + i.val, h⟩ p) = r0 (ix3 (0 : Fin 1) i p) * m0 (ix2 (0 : Fin 1) p) := by
  pointwise [k0_pay19]
  all_goals rw [dif_pos (by omega)]
  try congr!
  all_goals omega

theorem rhs13_1 (m0 m2 : FVec Ideal S1x1024 .f32) (r0 r1 r2 r3 r4 r5 r6 r7 r8 : FVec Ideal S1x32x1024 .f32) (i : Fin 32) (p : Fin 1024) (h : (0 * 3 + 1) * 32 + i.val < 288) :
    k0_pay19 m0 m2 r0 r1 r2 r3 r4 r5 r6 r7 r8 (ix2 ⟨(0 * 3 + 1) * 32 + i.val, h⟩ p) = r1 (ix3 (0 : Fin 1) i p) := by
  pointwise [k0_pay19]
  all_goals rw [dif_neg (by omega), dif_pos (by omega)]
  try congr!
  all_goals omega

theorem rhs13_2 (m0 m2 : FVec Ideal S1x1024 .f32) (r0 r1 r2 r3 r4 r5 r6 r7 r8 : FVec Ideal S1x32x1024 .f32) (i : Fin 32) (p : Fin 1024) (h : (0 * 3 + 2) * 32 + i.val < 288) :
    k0_pay19 m0 m2 r0 r1 r2 r3 r4 r5 r6 r7 r8 (ix2 ⟨(0 * 3 + 2) * 32 + i.val, h⟩ p) = r2 (ix3 (0 : Fin 1) i p) * m2 (ix2 (0 : Fin 1) p) := by
  pointwise [k0_pay19]
  all_goals rw [dif_neg (by omega), dif_neg (by omega), dif_pos (by omega)]
  try congr!
  all_goals omega

theorem rhs13_3 (m0 m2 : FVec Ideal S1x1024 .f32) (r0 r1 r2 r3 r4 r5 r6 r7 r8 : FVec Ideal S1x32x1024 .f32) (i : Fin 32) (p : Fin 1024) (h : (1 * 3 + 0) * 32 + i.val < 288) :
    k0_pay19 m0 m2 r0 r1 r2 r3 r4 r5 r6 r7 r8 (ix2 ⟨(1 * 3 + 0) * 32 + i.val, h⟩ p) = r3 (ix3 (0 : Fin 1) i p) * m0 (ix2 (0 : Fin 1) p) := by
  pointwise [k0_pay19]
  all_goals rw [dif_neg (by omega), dif_neg (by omega), dif_neg (by omega), dif_pos (by omega)]
  try congr!
  all_goals omega

theorem rhs13_4 (m0 m2 : FVec Ideal S1x1024 .f32) (r0 r1 r2 r3 r4 r5 r6 r7 r8 : FVec Ideal S1x32x1024 .f32) (i : Fin 32) (p : Fin 1024) (h : (1 * 3 + 1) * 32 + i.val < 288) :
    k0_pay19 m0 m2 r0 r1 r2 r3 r4 r5 r6 r7 r8 (ix2 ⟨(1 * 3 + 1) * 32 + i.val, h⟩ p) = r4 (ix3 (0 : Fin 1) i p) := by
  pointwise [k0_pay19]
  all_goals rw [dif_neg (by omega), dif_neg (by omega), dif_neg (by omega), dif_neg (by omega), dif_pos (by omega)]
  try congr!
  all_goals omega

theorem rhs13_5 (m0 m2 : FVec Ideal S1x1024 .f32) (r0 r1 r2 r3 r4 r5 r6 r7 r8 : FVec Ideal S1x32x1024 .f32) (i : Fin 32) (p : Fin 1024) (h : (1 * 3 + 2) * 32 + i.val < 288) :
    k0_pay19 m0 m2 r0 r1 r2 r3 r4 r5 r6 r7 r8 (ix2 ⟨(1 * 3 + 2) * 32 + i.val, h⟩ p) = r5 (ix3 (0 : Fin 1) i p) * m2 (ix2 (0 : Fin 1) p) := by
  pointwise [k0_pay19]
  all_goals rw [dif_neg (by omega), dif_neg (by omega), dif_neg (by omega), dif_neg (by omega), dif_neg (by omega), dif_pos (by omega)]
  try congr!
  all_goals omega

theorem rhs13_6 (m0 m2 : FVec Ideal S1x1024 .f32) (r0 r1 r2 r3 r4 r5 r6 r7 r8 : FVec Ideal S1x32x1024 .f32) (i : Fin 32) (p : Fin 1024) (h : (2 * 3 + 0) * 32 + i.val < 288) :
    k0_pay19 m0 m2 r0 r1 r2 r3 r4 r5 r6 r7 r8 (ix2 ⟨(2 * 3 + 0) * 32 + i.val, h⟩ p) = r6 (ix3 (0 : Fin 1) i p) * m0 (ix2 (0 : Fin 1) p) := by
  pointwise [k0_pay19]
  all_goals rw [dif_neg (by omega), dif_neg (by omega), dif_neg (by omega), dif_neg (by omega), dif_neg (by omega), dif_neg (by omega), dif_pos (by omega)]
  try congr!
  all_goals omega

theorem rhs13_7 (m0 m2 : FVec Ideal S1x1024 .f32) (r0 r1 r2 r3 r4 r5 r6 r7 r8 : FVec Ideal S1x32x1024 .f32) (i : Fin 32) (p : Fin 1024) (h : (2 * 3 + 1) * 32 + i.val < 288) :
    k0_pay19 m0 m2 r0 r1 r2 r3 r4 r5 r6 r7 r8 (ix2 ⟨(2 * 3 + 1) * 32 + i.val, h⟩ p) = r7 (ix3 (0 : Fin 1) i p) := by
  pointwise [k0_pay19]
  all_goals rw [dif_neg (by omega), dif_neg (by omega), dif_neg (by omega), dif_neg (by omega), dif_neg (by omega), dif_neg (by omega), dif_neg (by omega), dif_pos (by omega)]
  try congr!
  all_goals omega

theorem rhs13_8 (m0 m2 : FVec Ideal S1x1024 .f32) (r0 r1 r2 r3 r4 r5 r6 r7 r8 : FVec Ideal S1x32x1024 .f32) (i : Fin 32) (p : Fin 1024) (h : (2 * 3 + 2) * 32 + i.val < 288) :
    k0_pay19 m0 m2 r0 r1 r2 r3 r4 r5 r6 r7 r8 (ix2 ⟨(2 * 3 + 2) * 32 + i.val, h⟩ p) = r8 (ix3 (0 : Fin 1) i p) * m2 (ix2 (0 : Fin 1) p) := by
  pointwise [k0_pay19]
  all_goals rw [dif_neg (by omega), dif_neg (by omega), dif_neg (by omega), dif_neg (by omega), dif_neg (by omega), dif_neg (by omega), dif_neg (by omega), dif_neg (by omega)]
  try congr!
  all_goals omega

theorem rhs13_at (A : Act) (X : Vec Ideal S32x32x1280 .f32) (hX : Img 32 32 A X) (k : Fin 32) (dy dx : Fin 3) (i : Fin 32) (p : Fin 1024)
    (h : (dy.val * 3 + dx.val) * 32 + i.val < 288) :
    k0_pay19 (k0_pay94 (F := Ideal)) (k0_pay95 (F := Ideal)) (rowOf 1024 95 (by decide) X k) (rowOf 1024 96 (by decide) X k) (rowOf 1024 97 (by decide) X k) (rowOf 1024 127 (by decide) X k) (rowOf 1024 128 (by decide) X k) (rowOf 1024 129 (by decide) X k) (rowOf 1024 159 (by decide) X k) (rowOf 1024 160 (by decide) X k) (rowOf 1024 161 (by decide) X k) (ix2 ⟨(dy.val * 3 + dx.val) * 32 + i.val, h⟩ p)
      = ((pad 32 32 (A k i) (p.val / 32 + dy.val) (p.val % 32 + dx.val) : ℝ) : EReal) := by
  match dy, dx with
  | ⟨0, _⟩, ⟨0, _⟩ =>
    exact (rhs13_0 _ _ _ _ _ _ _ _ _ _ _ i p h).trans (tapL 32 32 (by norm_num) _ p.val 0 (by have := p.isLt; omega) (by norm_num) _ (hX k i ⟨95 + p.val, _⟩) (by show 95 + p.val = _; omega) _ (maskL13 p))
  | ⟨0, _⟩, ⟨1, _⟩ =>
    exact (rhs13_1 _ _ _ _ _ _ _ _ _ _ _ i p h).trans (tapM 32 32 (by norm_num) _ p.val 0 (by have := p.isLt; omega) (by norm_num) _ (hX k i ⟨96 + p.val, _⟩) (by show 96 + p.val = _; omega))
  | ⟨0, _⟩, ⟨2, _⟩ =>
    exact (rhs13_2 _ _ _ _ _ _ _ _ _ _ _ i p h).trans (tapR 32 32 (by norm_num) _ p.val 0 (by have := p.isLt; omega) (by norm_num) _ (hX k i ⟨97 + p.val, _⟩) (by show 97 + p.val = _; omega) _ (maskR13 p))
  | ⟨1, _⟩, ⟨0, _⟩ =>
    exact (rhs13_3 _ _ _ _ _ _ _ _ _ _ _ i p h).trans (tapL 32 32 (by norm_num) _ p.val 1 (by have := p.isLt; omega) (by norm_num) _ (hX k i ⟨127 + p.val, _⟩) (by show 127 + p.val = _; omega) _ (maskL13 p))
  | ⟨1, _⟩, ⟨1, _⟩ =>
    exact (rhs13_4 _ _ _ _ _ _ _ _ _ _ _ i p h).trans (tapM 32 32 (by norm_num) _ p.val 1 (by have := p.isLt; omega) (by norm_num) _ (hX k i ⟨128 + p.val, _⟩) (by show 128 + p.val = _; omega))
  | ⟨1, _⟩, ⟨2, _⟩ =>
    exact (rhs13_5 _ _ _ _ _ _ _ _ _ _ _ i p h).trans (tapR 32 32 (by norm_num) _ p.val 1 (by have := p.isLt; omega) (by norm_num) _ (hX k i ⟨129 + p.val, _⟩) (by show 129 + p.val = _; omega) _ (maskR13 p))
  | ⟨2, _⟩, ⟨0, _⟩ =>
    exact (rhs13_6 _ _ _ _ _ _ _ _ _ _ _ i p h).trans (tapL 32 32 (by norm_num) _ p.val 2 (by have := p.isLt; omega) (by norm_num) _ (hX k i ⟨159 + p.val, _⟩) (by show 159 + p.val = _; omega) _ (maskL13 p))
  | ⟨2, _⟩, ⟨1, _⟩ =>
    exact (rhs13_7 _ _ _ _ _ _ _ _ _ _ _ i p h).trans (tapM 32 32 (by norm_num) _ p.val 2 (by have := p.isLt; omega) (by norm_num) _ (hX k i ⟨160 + p.val, _⟩) (by show 160 + p.val = _; omega))
  | ⟨2, _⟩, ⟨2, _⟩ =>
    exact (rhs13_8 _ _ _ _ _ _ _ _ _ _ _ i p h).trans (tapR 32 32 (by norm_num) _ p.val 2 (by have := p.isLt; omega) (by norm_num) _ (hX k i ⟨161 + p.val, _⟩) (by show 161 + p.val = _; omega) _ (maskR13 p))

theorem conv13_core (A : Act) (X : Vec Ideal S32x32x1280 .f32) (hX : Img 32 32 A X) (w : ℕ → ℕ → ℕ → ℕ → ℝ)
    (V : Vec Ideal S1x64x288 .f32) (hV : ∀ (o : Fin 64) (j : Fin 288), V (ix3 (0 : Fin 1) o j) = ((w o (j.val % 32) (j.val / 32 / 3) (j.val / 32 % 3) : ℝ) : EReal)) (k : Fin 32) (o : Fin 64) (p : Fin 1024) :
    ∑ j : Fin 288, V (ix3 (0 : Fin 1) o j) * (k0_pay19 (k0_pay94 (F := Ideal)) (k0_pay95 (F := Ideal)) (rowOf 1024 95 (by decide) X k) (rowOf 1024 96 (by decide) X k) (rowOf 1024 97 (by decide) X k) (rowOf 1024 127 (by decide) X k) (rowOf 1024 128 (by decide) X k) (rowOf 1024 129 (by decide) X k) (rowOf 1024 159 (by decide) X k) (rowOf 1024 160 (by decide) X k) (rowOf 1024 161 (by decide) X k)) (ix2 j p) = ((conv 32 32 32 w A k o (p.val / 32) (p.val % 32) : ℝ) : EReal) := by
  rw [sum_taps 32 (by norm_num) _ (fun dy dx i => by omega)]
  unfold conv
  simp only [coe_sum, EReal.coe_mul]
  refine Finset.sum_congr rfl fun dy _ => Finset.sum_congr rfl fun dx _ => Finset.sum_congr rfl fun i _ => ?_
  rw [rhs13_at A X hX k dy dx i p, hV]
  obtain ⟨e1, e2, e3⟩ := tap_index 32 dy dx i
  simp only [e1, e2, e3]

theorem down13_at (v56 : FVec Ideal S2x512x128 .bf16) (V : Vec Ideal S1x64x288 .f32) (R : FVec Ideal S288x1024 .f32) (f : ℕ → ℕ → ℝ)
    (hout : ∀ (o : Fin 64) (p : Fin 1024), ∑ j : Fin 288, V (ix3 (0 : Fin 1) o j) * R (ix2 j p) = ((f o p : ℝ) : EReal))
    (hsel : ∀ (j : Fin 2) (k : Fin 512) (q : Fin 128), v56 (ix3 j k q) = ((if k.val = 64 * (q.val / 16) + 2 * (q.val % 16) then 1 else 0 : ℝ) : EReal)) (o : Fin 64) (p : Fin 256) :
    k0_pay96 v56 V R (constant S64x1024 .f32 0x00000000#32) (ix3 (0 : Fin 1) o p) = ((f o (512 * (p.val / 128) + (64 * (p.val % 128 / 16) + 2 * (p.val % 128 % 16))) : ℝ) : EReal) := by
  obtain ⟨j, q, rfl⟩ : ∃ (j : Fin 2) (q : Fin 128), p = ⟨128 * j.val + q.val, by omega⟩ :=
    ⟨⟨p.val / 128, by omega⟩, ⟨p.val % 128, by omega⟩, Fin.ext (by simp only []; omega)⟩
  have e1 : (128 * j.val + q.val) / 128 = j.val := by omega
  have e2 : (128 * j.val + q.val) % 128 = q.val := by omega
  simp only [e1, e2]
  pointwise [k0_pay96]
  simp only [hout]
  match j with
  | ⟨0, _⟩ =>
    simp only []
    rw [dif_pos (by omega)]
    have eq : ∀ h, (⟨128 * 0 + q.val, h⟩ : Fin 128) = q := fun h => Fin.ext (by simp only []; omega)
    simp only [eq]
    exact (pick3 (fun k => f o k.val) _ ⟨64 * (q.val / 16) + 2 * (q.val % 16), by omega⟩ (fun k => (hsel 0 k q).trans (by simp only [Fin.ext_iff]))).trans (by simp only [Nat.mul_zero, Nat.zero_add])
  | ⟨1, _⟩ =>
    simp only []
    rw [dif_neg (by omega)]
    have eq : ∀ h, (⟨128 * 1 + q.val - 128, h⟩ : Fin 128) = q := fun h => Fin.ext (by simp only []; omega)
    simp only [eq]
    exact pick3 (fun k => f o (512 + k.val)) _ ⟨64 * (q.val / 16) + 2 * (q.val % 16), by omega⟩ (fun k => (hsel 1 k q).trans (by simp only [Fin.ext_iff]))

theorem conv13_at (A : Act) (X : Vec Ideal S32x32x1280 .f32) (hX : Img 32 32 A X) (w : ℕ → ℕ → ℕ → ℕ → ℝ) (v56 : FVec Ideal S2x512x128 .bf16)
    (hsel : ∀ (j : Fin 2) (k : Fin 512) (q : Fin 128), v56 (ix3 j k q) = ((if k.val = 64 * (q.val / 16) + 2 * (q.val % 16) then 1 else 0 : ℝ) : EReal))
    (V : Vec Ideal S1x64x288 .f32) (hV : ∀ (o : Fin 64) (j : Fin 288), V (ix3 (0 : Fin 1) o j) = ((w o (j.val % 32) (j.val / 32 / 3) (j.val / 32 % 3) : ℝ) : EReal)) (k : Fin 32) (o : Fin 64) (p : Fin 256) :
    conv13 v56 V X k (ix3 (0 : Fin 1) o p) = ((half (conv 32 32 32 w A) k o (p.val / 16) (p.val % 16) : ℝ) : EReal) := by
  refine (down13_at v56 V _ (fun o p => conv 32 32 32 w A k o (p / 32) (p % 32)) (conv13_core A X hX w V hV k) hsel o p).trans ?_
  unfold half
  have e1 : (512 * (p.val / 128) + (64 * (p.val % 128 / 16) + 2 * (p.val % 128 % 16))) / 32 = 2 * (p.val / 16) := by omega
  have e2 : (512 * (p.val / 128) + (64 * (p.val % 128 / 16) + 2 * (p.val % 128 % 16))) % 32 = 2 * (p.val % 16) := by omega
  simp only [e1, e2]

end Cert.Proof
-- ==== Proof.Conv16.lean ====
/- Convolution 16 of the body, row by row, over finite values. -/
module

public import proofs.«01_k».proof.Proof.Stages
public import proofs.«01_k».proof.Proof.Taps

@[expose] public section

set_option maxRecDepth 16384

noncomputable section

namespace Cert.Proof

open Idealize.ShloMosaic Idealize.ShloMosaic.TcCoe Idealize.ShloMosaic.Tactic
open Cert.KernelIdeal Cert.KernelIdeal.Gen

theorem lane16 (p : Fin 256) : k0_pay109 (ix2 (0 : Fin 1) p) = BitVec.ofNat 32 (p.val % 16) := by
  pointwise [k0_pay109]
  revert p
  decide +kernel

theorem maskL16 (p : Fin 256) : k0_pay110 (F := Ideal) (ix2 (0 : Fin 1) p) = ((if p.val % 16 = 0 then 0 else 1 : ℝ) : EReal) := by
  pointwise [k0_pay110]
  rw [lane16, sitofp_ne]
  simp only [ofNat_eq p.val 16 0 (by norm_num) (by norm_num)]

theorem maskR16 (p : Fin 256) : k0_pay111 (F := Ideal) (ix2 (0 : Fin 1) p) = ((if p.val % 16 = 15 then 0 else 1 : ℝ) : EReal) := by
  pointwise [k0_pay111]
  rw [lane16, sitofp_ne]
  simp only [ofNat_eq p.val 16 15 (by norm_num) (by norm_num)]

theorem rhs16_0 (m0 m2 : FVec Ideal S1x256 .f32) (r0 r1 r2 r3 r4 r5 r6 r7 r8 : FVec Ideal S1x64x256 .f32) (i : Fin 64) (p : Fin 256) (h : (0 * 3 + 0) * 64 + i.val < 576) :
    k0_pay20 m0 m2 r0 r1 r2 r3 r4 r5 r6 r7 r8 (ix2 ⟨(0 * 3 + 0) * 64 + i.val, h⟩ p) = r0 (ix3 (0 : Fin 1) i p) * m0 (ix2 (0 : Fin 1) p) := by
  pointwise [k0_pay20]
  all_goals rw [dif_pos (by omega)]
  try congr!
  all_goals omega

theorem rhs16_1 (m0 m2 : FVec Ideal S1x256 .f32) (r0 r1 r2 r3 r4 r5 r6 r7 r8 : FVec Ideal S1x64x256 .f32) (i : Fin 64) (p : Fin 256) (h : (0 * 3 + 1) * 64 + i.val < 576) :
    k0_pay20 m0 m2 r0 r1 r2 r3 r4 r5 r6 r7 r8 (ix2 ⟨(0 * 3 + 1) * 64 + i.val, h⟩ p) = r1 (ix3 (0 : Fin 1) i p) := by
  pointwise [k0_pay20]
  all_goals rw [dif_neg (by omega), dif_pos (by omega)]
  try congr!
  all_goals omega

theorem rhs16_2 (m0 m2 : FVec Ideal S1x256 .f32) (r0 r1 r2 r3 r4 r5 r6 r7 r8 : FVec Ideal S1x64x256 .f32) (i : Fin 64) (p : Fin 256) (h : (0 * 3 + 2) * 64 + i.val < 576) :
    k0_pay20 m0 m2 r0 r1 r2 r3 r4 r5 r6 r7 r8 (ix2 ⟨(0 * 3 + 2) * 64 + i.val, h⟩ p) = r2 (ix3 (0 : Fin 1) i p) * m2 (ix2 (0 : Fin 1) p) := by
  pointwise [k0_pay20]
  all_goals rw [dif_neg (by omega), dif_neg (by omega), dif_pos (by omega)]
  try congr!
  all_goals omega

theorem rhs16_3 (m0 m2 : FVec Ideal S1x256 .f32) (r0 r1 r2 r3 r4 r5 r6 r7 r8 : FVec Ideal S1x64x256 .f32) (i : Fin 64) (p : Fin 256) (h : (1 * 3 + 0) * 64 + i.val < 576) :
    k0_pay20 m0 m2 r0 r1 r2 r3 r4 r5 r6 r7 r8 (ix2 ⟨(1 * 3 + 0) * 64 + i.val, h⟩ p) = r3 (ix3 (0 : Fin 1) i p) * m0 (ix2 (0 : Fin 1) p) := by
  pointwise [k0_pay20]
  all_goals rw [dif_neg (by omega), dif_neg (by omega), dif_neg (by omega), dif_pos (by omega)]
  try congr!
  all_goals omega

theorem rhs16_4 (m0 m2 : FVec Ideal S1x256 .f32) (r0 r1 r2 r3 r4 r5 r6 r7 r8 : FVec Ideal S1x64x256 .f32) (i : Fin 64) (p : Fin 256) (h : (1 * 3 + 1) * 64 + i.val < 576) :
    k0_pay20 m0 m2 r0 r1 r2 r3 r4 r5 r6 r7 r8 (ix2 ⟨(1 * 3 + 1) * 64 + i.val, h⟩ p) = r4 (ix3 (0 : Fin 1) i p) := by
  pointwise [k0_pay20]
  all_goals rw [dif_neg (by omega), dif_neg (by omega), dif_neg (by omega), dif_neg (by omega), dif_pos (by omega)]
  try congr!
  all_goals omega

theorem rhs16_5 (m0 m2 : FVec Ideal S1x256 .f32) (r0 r1 r2 r3 r4 r5 r6 r7 r8 : FVec Ideal S1x64x256 .f32) (i : Fin 64) (p : Fin 256) (h : (1 * 3 + 2) * 64 + i.val < 576) :
    k0_pay20 m0 m2 r0 r1 r2 r3 r4 r5 r6 r7 r8 (ix2 ⟨(1 * 3 + 2) * 64 + i.val, h⟩ p) = r5 (ix3 (0 : Fin 1) i p) * m2 (ix2 (0 : Fin 1) p) := by
  pointwise [k0_pay20]
  all_goals rw [dif_neg (by omega), dif_neg (by omega), dif_neg (by omega), dif_neg (by omega), dif_neg (by omega), dif_pos (by omega)]
  try congr!
  all_goals omega

theorem rhs16_6 (m0 m2 : FVec Ideal S1x256 .f32) (r0 r1 r2 r3 r4 r5 r6 r7 r8 : FVec Ideal S1x64x256 .f32) (i : Fin 64) (p : Fin 256) (h : (2 * 3 + 0) * 64 + i.val < 576) :
    k0_pay20 m0 m2 r0 r1 r2 r3 r4 r5 r6 r7 r8 (ix2 ⟨(2 * 3 + 0) * 64 + i.val, h⟩ p) = r6 (ix3 (0 : Fin 1) i p) * m0 (ix2 (0 : Fin 1) p) := by
  pointwise [k0_pay20]
  all_goals rw [dif_neg (by omega), dif_neg (by omega), dif_neg (by omega), dif_neg (by omega), dif_neg (by omega), dif_neg (by omega), dif_pos (by omega)]
  try congr!
  all_goals omega

theorem rhs16_7 (m0 m2 : FVec Ideal S1x256 .f32) (r0 r1 r2 r3 r4 r5 r6 r7 r8 : FVec Ideal S1x64x256 .f32) (i : Fin 64) (p : Fin 256) (h : (2 * 3 + 1) * 64 + i.val < 576) :
    k0_pay20 m0 m2 r0 r1 r2 r3 r4 r5 r6 r7 r8 (ix2 ⟨(2 * 3 + 1) * 64 + i.val, h⟩ p) = r7 (ix3 (0 : Fin 1) i p) := by
  pointwise [k0_pay20]
  all_goals rw [dif_neg (by omega), dif_neg (by omega), dif_neg (by omega), dif_neg (by omega), dif_neg (by omega), dif_neg (by omega), dif_neg (by omega), dif_pos (by omega)]
  try congr!
  all_goals omega

theorem rhs16_8 (m0 m2 : FVec Ideal S1x256 .f32) (r0 r1 r2 r3 r4 r5 r6 r7 r8 : FVec Ideal S1x64x256 .f32) (i : Fin 64) (p : Fin 256) (h : (2 * 3 + 2) * 64 + i.val < 576) :
    k0_pay20 m0 m2 r0 r1 r2 r3 r4 r5 r6 r7 r8 (ix2 ⟨(2 * 3 + 2) * 64 + i.val, h⟩ p) = r8 (ix3 (0 : Fin 1) i p) * m2 (ix2 (0 : Fin 1) p) := by
  pointwise [k0_pay20]
  all_goals rw [dif_neg (by omega), dif_neg (by omega), dif_neg (by omega), dif_neg (by omega), dif_neg (by omega), dif_neg (by omega), dif_neg (by omega), dif_neg (by omega)]
  try congr!
  all_goals omega

theorem rhs16_at (A : Act) (X : Vec Ideal S32x64x512 .f32) (hX : Img 16 16 A X) (k : Fin 32) (dy dx : Fin 3) (i : Fin 64) (p : Fin 256)
    (h : (dy.val * 3 + dx.val) * 64 + i.val < 576) :
    k0_pay20 (k0_pay110 (F := Ideal)) (k0_pay111 (F := Ideal)) (rowOf 256 111 (by decide) X k) (rowOf 256 112 (by decide) X k) (rowOf 256 113 (by decide) X k) (rowOf 256 127 (by decide) X k) (rowOf 256 128 (by decide) X k) (rowOf 256 129 (by decide) X k) (rowOf 256 143 (by decide) X k) (rowOf 256 144 (by decide) X k) (rowOf 256 145 (by decide) X k) (ix2 ⟨(dy.val * 3 + dx.val) * 64 + i.val, h⟩ p)
      = ((pad 16 16 (A k i) (p.val / 16 + dy.val) (p.val % 16 + dx.val) : ℝ) : EReal) := by
  match dy, dx with
  | ⟨0, _⟩, ⟨0, _⟩ =>
    exact (rhs16_0 _ _ _ _ _ _ _ _ _ _ _ i p h).trans (tapL 16 16 (by norm_num) _ p.val 0 (by have := p.isLt; omega) (by norm_num) _ (hX k i ⟨111 + p.val, _⟩) (by show 111 + p.val = _; omega) _ (maskL16 p))
  | ⟨0, _⟩, ⟨1, _⟩ =>
    exact (rhs16_1 _ _ _ _ _ _ _ _ _ _ _ i p h).trans (tapM 16 16 (by norm_num) _ p.val 0 (by have := p.isLt; omega) (by norm_num) _ (hX k i ⟨112 + p.val, _⟩) (by show 112 + p.val = _; omega))
  | ⟨0, _⟩, ⟨2, _⟩ =>
    exact (rhs16_2 _ _ _ _ _ _ _ _ _ _ _ i p h).trans (tapR 16 16 (by norm_num) _ p.val 0 (by have := p.isLt; omega) (by norm_num) _ (hX k i ⟨113 + p.val, _⟩) (by show 113 + p.val = _; omega) _ (maskR16 p))
  | ⟨1, _⟩, ⟨0, _⟩ =>
    exact (rhs16_3 _ _ _ _ _ _ _ _ _ _ _ i p h).trans (tapL 16 16 (by norm_num) _ p.val 1 (by have := p.isLt; omega) (by norm_num) _ (hX k i ⟨127 + p.val, _⟩) (by show 127 + p.val = _; omega) _ (maskL16 p))
  | ⟨1, _⟩, ⟨1, _⟩ =>
    exact (rhs16_4 _ _ _ _ _ _ _ _ _ _ _ i p h).trans (tapM 16 16 (by norm_num) _ p.val 1 (by have := p.isLt; omega) (by norm_num) _ (hX k i ⟨128 + p.val, _⟩) (by show 128 + p.val = _; omega))
  | ⟨1, _⟩, ⟨2, _⟩ =>
    exact (rhs16_5 _ _ _ _ _ _ _ _ _ _ _ i p h).trans (tapR 16 16 (by norm_num) _ p.val 1 (by have := p.isLt; omega) (by norm_num) _ (hX k i ⟨129 + p.val, _⟩) (by show 129 + p.val = _; omega) _ (maskR16 p))
  | ⟨2, _⟩, ⟨0, _⟩ =>
    exact (rhs16_6 _ _ _ _ _ _ _ _ _ _ _ i p h).trans (tapL 16 16 (by norm_num) _ p.val 2 (by have := p.isLt; omega) (by norm_num) _ (hX k i ⟨143 + p.val, _⟩) (by show 143 + p.val = _; omega) _ (maskL16 p))
  | ⟨2, _⟩, ⟨1, _⟩ =>
    exact (rhs16_7 _ _ _ _ _ _ _ _ _ _ _ i p h).trans (tapM 16 16 (by norm_num) _ p.val 2 (by have := p.isLt; omega) (by norm_num) _ (hX k i ⟨144 + p.val, _⟩) (by show 144 + p.val = _; omega))
  | ⟨2, _⟩, ⟨2, _⟩ =>
    exact (rhs16_8 _ _ _ _ _ _ _ _ _ _ _ i p h).trans (tapR 16 16 (by norm_num) _ p.val 2 (by have := p.isLt; omega) (by norm_num) _ (hX k i ⟨145 + p.val, _⟩) (by show 145 + p.val = _; omega) _ (maskR16 p))

theorem dot16_at (V : Vec Ideal S1x64x576 .f32) (R : FVec Ideal S576x256 .f32) (o : Fin 64) (p : Fin 256) :
    k0_pay112 V R (constant S64x256 .f32 0x00000000#32) (ix3 (0 : Fin 1) o p) = ∑ j : Fin 576, V (ix3 (0 : Fin 1) o j) * R (ix2 j p) := by
  pointwise [k0_pay112]

theorem conv16_core (A : Act) (X : Vec Ideal S32x64x512 .f32) (hX : Img 16 16 A X) (w : ℕ → ℕ → ℕ → ℕ → ℝ)
    (V : Vec Ideal S1x64x576 .f32) (hV : ∀ (o : Fin 64) (j : Fin 576), V (ix3 (0 : Fin 1) o j) = ((w o (j.val % 64) (j.val / 64 / 3) (j.val / 64 % 3) : ℝ) : EReal)) (k : Fin 32) (o : Fin 64) (p : Fin 256) :
    k0_pay112 V (k0_pay20 (k0_pay110 (F := Ideal)) (k0_pay111 (F := Ideal)) (rowOf 256 111 (by decide) X k) (rowOf 256 112 (by decide) X k) (rowOf 256 113 (by decide) X k) (rowOf 256 127 (by decide) X k) (rowOf 256 128 (by decide) X k) (rowOf 256 129 (by decide) X k) (rowOf 256 143 (by decide) X k) (rowOf 256 144 (by decide) X k) (rowOf 256 145 (by decide) X k)) (constant S64x256 .f32 0x00000000#32) (ix3 (0 : Fin 1) o p) = ((conv 64 16 16 w A k o (p.val / 16) (p.val % 16) : ℝ) : EReal) := by
  rw [dot16_at, sum_taps 64 (by norm_num) _ (fun dy dx i => by omega)]
  unfold conv
  simp only [coe_sum, EReal.coe_mul]
  refine Finset.sum_congr rfl fun dy _ => Finset.sum_congr rfl fun dx _ => Finset.sum_congr rfl fun i _ => ?_
  rw [rhs16_at A X hX k dy dx i p, hV]
  obtain ⟨e1, e2, e3⟩ := tap_index 64 dy dx i
  simp only [e1, e2, e3]

theorem conv16_at (A : Act) (X : Vec Ideal S32x64x512 .f32) (hX : Img 16 16 A X) (w : ℕ → ℕ → ℕ → ℕ → ℝ)
    (V : Vec Ideal S1x64x576 .f32) (hV : ∀ (o : Fin 64) (j : Fin 576), V (ix3 (0 : Fin 1) o j) = ((w o (j.val % 64) (j.val / 64 / 3) (j.val / 64 % 3) : ℝ) : EReal)) (k : Fin 32) (o : Fin 64) (p : Fin 256) :
    conv16 V X k (ix3 (0 : Fin 1) o p) = ((conv 64 16 16 w A k o (p.val / 16) (p.val % 16) : ℝ) : EReal) :=
  conv16_core A X hX w V hV k o p

end Cert.Proof
-- ==== Proof.BodyValue.lean ====
/- The body over finite values: every result element is the normalised feature of the patch, scaled and shifted. -/
module

public import proofs.«01_k».proof.Proof.Trace
public import proofs.«01_k».proof.Proof.Layers
public import proofs.«01_k».proof.Proof.Conv01
public import proofs.«01_k».proof.Proof.Conv04
public import proofs.«01_k».proof.Proof.Conv07
public import proofs.«01_k».proof.Proof.Conv10
public import proofs.«01_k».proof.Proof.Conv13
public import proofs.«01_k».proof.Proof.Conv16

@[expose] public section

set_option maxRecDepth 16384

noncomputable section

namespace Cert.Proof

open Idealize.ShloMosaic Idealize.ShloMosaic.TcCoe Idealize.ShloMosaic.Tactic
open Cert.KernelIdeal Cert.KernelIdeal.Gen

theorem put_lane {C L n : ℕ} (Z : (⟨3, ![32, C, L]⟩ : Shape).Idx → EReal) (o : ℕ) (w : (⟨3, ![32, C, n]⟩ : Shape).Idx → EReal)
    (b : Fin 32) (c : Fin C) (l : Fin L) :
    VecWindow.put Z ![0, 0, o] (⟨3, ![32, C, n]⟩ : Shape).size w (ix3 b c l)
      = if h : o ≤ l.val ∧ l.val < o + n then w (ix3 b c ⟨l.val - o, by omega⟩) else Z (ix3 b c l) := by
  have hb := b.isLt
  have hc := c.isLt
  by_cases h : o ≤ l.val ∧ l.val < o + n
  · have hall : ∀ a : Fin 3, (![0, 0, o] : Fin 3 → ℕ) a ≤ ((ix3 b c l : (⟨3, ![32, C, L]⟩ : Shape).Idx) a).val
        ∧ ((ix3 b c l : (⟨3, ![32, C, L]⟩ : Shape).Idx) a).val < (![0, 0, o] : Fin 3 → ℕ) a + (⟨3, ![32, C, n]⟩ : Shape).size a := fun a =>
      match a with
      | ⟨0, _⟩ => ⟨Nat.zero_le _, by show b.val < 0 + 32; omega⟩
      | ⟨1, _⟩ => ⟨Nat.zero_le _, by show c.val < 0 + C; omega⟩
      | ⟨2, _⟩ => h
    refine (dif_pos hall).trans ?_
    rw [dif_pos h]
    congr 1
    funext a
    match a with
    | ⟨0, _⟩ => exact Fin.ext (Nat.sub_zero _)
    | ⟨1, _⟩ => exact Fin.ext (Nat.sub_zero _)
    | ⟨2, _⟩ => rfl
  · rw [dif_neg h]
    exact dif_neg fun hall => h (hall (2 : Fin 3))

theorem guard_put {C L S : ℕ} (Z : (⟨3, ![32, C, L]⟩ : Shape).Idx → EReal) (hL : L ≤ 128 + S + 128) (w w' : (⟨3, ![32, C, 128]⟩ : Shape).Idx → EReal)
    (hw : ∀ b c l, w (ix3 b c l) = 0) (hw' : ∀ b c l, w' (ix3 b c l) = 0) :
    Guard S (VecWindow.put (VecWindow.put Z ![0, 0, 0] (⟨3, ![32, C, 128]⟩ : Shape).size w) ![0, 0, 128 + S] (⟨3, ![32, C, 128]⟩ : Shape).size w') := by
  intro b c l hl
  rw [put_lane]
  by_cases h : 128 + S ≤ l.val ∧ l.val < 128 + S + 128
  · rw [dif_pos h]; exact hw' _ _ _
  · rw [dif_neg h, put_lane, dif_pos (by omega)]; exact hw _ _ _

theorem img_put {C L H W S : ℕ} (hS : S = H * W) {A : Act} {G : (⟨3, ![32, C, L]⟩ : Shape).Idx → EReal} (hG : Guard S G)
    (R : (⟨3, ![32, C, S]⟩ : Shape).Idx → EReal)
    (hR : ∀ (k : Fin 32) (c : Fin C) (p : Fin S), R (ix3 k c p) = ((A k c (p.val / W) (p.val % W) : ℝ) : EReal)) :
    Img H W A (VecWindow.put G ![0, 0, 128] (⟨3, ![32, C, S]⟩ : Shape).size R) := by
  intro b c l
  rw [put_lane]
  by_cases h : 128 ≤ l.val ∧ l.val < 128 + S
  · rw [dif_pos h, hR, lane, if_pos (by rw [← hS]; exact h)]
  · rw [dif_neg h, lane, if_neg (by rw [← hS]; exact h)]
    exact hG b c l h

theorem pool_at (A : Act) (X : Vec Ideal S32x64x256 .f32) (hX : Img0 16 A X) (P : Vec Ideal S256x4 .f32)
    (hP : ∀ (k : Fin 256) (q : Fin 4), P (ix2 k q) = ((if k.val / 16 / 8 * 2 + k.val % 16 / 8 = q.val then 1 / 64 else 0 : ℝ) : EReal))
    (b : Fin 32) (c : Fin 64) (q : Fin 4) : k0_pay120 X P (ix3 b c q) = ((pool A b c q : ℝ) : EReal) := by
  pointwise [k0_pay120]
  unfold pool
  rw [← pool_eq, coe_sum]
  refine Finset.sum_congr rfl fun k _ => ?_
  rw [EReal.coe_mul, hP, hX]

theorem c32_bits : Ideal.ofBits .f32 0x42000000#32 = ((32 : ℝ) : EReal) := by
  simp [Ideal.ofBits, Ideal.ieee]
  norm_num
  simp only [← EReal.coe_mul]
  congr 1
  norm_num

theorem bnorm_at (P : ℕ → ℕ → ℕ → ℝ) (X : FVec Ideal S32x64x4 .f32) (hX : ∀ (b : Fin 32) (c : Fin 64) (q : Fin 4), X (ix3 b c q) = ((P b c q : ℝ) : EReal))
    (g s : Vec Ideal S1x64x4 .f32) (b : Fin 32) (c : Fin 64) (q : Fin 4) :
    k0_pay121 X g s (ix4 (0 : Fin 1) b c q) = ((bnorm P b c q : ℝ) : EReal) * g (ix3 (0 : Fin 1) c q) + s (ix3 (0 : Fin 1) c q) := by
  pointwise [k0_pay121]
  simp only [hX, c32_bits, eps_bits, ← EReal.coe_mul, ← coe_sum, Ideal.div_coe (show (32 : ℝ) ≠ 0 by norm_num), ← EReal.coe_sub, ← EReal.coe_add]
  have hm : (∑ b : Fin 32, P b c q) * (1 / 32) = bmean P c q := by unfold bmean; ring
  have hv : (∑ b : Fin 32, P b c q * P b c q) * (1 / 32) - bmean P c q * bmean P c q = bvar P c q := by rw [← bvar_eq]; ring
  rw [hm, hv, rsqrt_pos _ (add_pos_of_nonneg_of_pos (bvar_nonneg P c q) eps_pos), ← EReal.coe_mul]
  rfl

theorem zero21 (b : Fin 32) (c : Fin 3) (l : Fin 128) : k0_pay21 (F := Ideal) (ix3 b c l) = 0 := by
  pointwise [k0_pay21]

theorem zero22 (b : Fin 32) (c : Fin 3) (l : Fin 128) : k0_pay22 (F := Ideal) (ix3 b c l) = 0 := by
  pointwise [k0_pay22]

theorem zero23 (b : Fin 32) (c : Fin 16) (l : Fin 128) : k0_pay23 (F := Ideal) (ix3 b c l) = 0 := by
  pointwise [k0_pay23]

theorem zero24 (b : Fin 32) (c : Fin 16) (l : Fin 128) : k0_pay24 (F := Ideal) (ix3 b c l) = 0 := by
  pointwise [k0_pay24]

theorem zero25 (b : Fin 32) (c : Fin 16) (l : Fin 128) : k0_pay25 (F := Ideal) (ix3 b c l) = 0 := by
  pointwise [k0_pay25]

theorem zero26 (b : Fin 32) (c : Fin 16) (l : Fin 128) : k0_pay26 (F := Ideal) (ix3 b c l) = 0 := by
  pointwise [k0_pay26]

theorem zero29 (b : Fin 32) (c : Fin 32) (l : Fin 128) : k0_pay29 (F := Ideal) (ix3 b c l) = 0 := by
  pointwise [k0_pay29]

theorem zero30 (b : Fin 32) (c : Fin 32) (l : Fin 128) : k0_pay30 (F := Ideal) (ix3 b c l) = 0 := by
  pointwise [k0_pay30]

theorem zero31 (b : Fin 32) (c : Fin 32) (l : Fin 128) : k0_pay31 (F := Ideal) (ix3 b c l) = 0 := by
  pointwise [k0_pay31]

theorem zero32 (b : Fin 32) (c : Fin 64) (l : Fin 128) : k0_pay32 (F := Ideal) (ix3 b c l) = 0 := by
  pointwise [k0_pay32]

theorem zero33 (b : Fin 32) (c : Fin 64) (l : Fin 128) : k0_pay33 (F := Ideal) (ix3 b c l) = 0 := by
  pointwise [k0_pay33]

theorem zero28 (b : Fin 32) (c : Fin 32) (l : Fin 128) : k0_pay28 (k0_pay27 (F := Ideal)) (ix3 b c l) = 0 := by
  pointwise [k0_pay28, k0_pay27]

theorem zero42 (c : Fin 16) : k0_pay42 (F := Ideal) (ix2 c (0 : Fin 1)) = 0 := by
  pointwise [k0_pay42]

theorem zero51 (c : Fin 16) : k0_pay51 (F := Ideal) (ix2 c (0 : Fin 1)) = 0 := by
  pointwise [k0_pay51]

theorem zero66 (c : Fin 32) : k0_pay66 (F := Ideal) (ix2 c (0 : Fin 1)) = 0 := by
  pointwise [k0_pay66]

theorem zero81 (c : Fin 32) : k0_pay81 (F := Ideal) (ix2 c (0 : Fin 1)) = 0 := by
  pointwise [k0_pay81]

theorem zero97 (c : Fin 64) : k0_pay97 (F := Ideal) (ix2 c (0 : Fin 1)) = 0 := by
  pointwise [k0_pay97]

theorem zero113 (c : Fin 64) : k0_pay113 (F := Ideal) (ix2 c (0 : Fin 1)) = 0 := by
  pointwise [k0_pay113]

theorem win16_0 (c : Fin 16) : (Rect.unit (s := S1x16x3) ![0, 0, 0] S1x16x1.size inb_S1x16x3_S1x16x1_0_0_0).emb (ix3 (0 : Fin 1) c (0 : Fin 1)) = ix3 (0 : Fin 1) c (0 : Fin 3) := by
  funext a
  match a with
  | ⟨0, _⟩ => rfl
  | ⟨1, _⟩ => exact Fin.ext (by show 0 + 1 * c.val = c.val; omega)
  | ⟨2, _⟩ => rfl

theorem win16_1 (c : Fin 16) : (Rect.unit (s := S1x16x3) ![0, 0, 1] S1x16x1.size inb_S1x16x3_S1x16x1_0_0_1).emb (ix3 (0 : Fin 1) c (0 : Fin 1)) = ix3 (0 : Fin 1) c (1 : Fin 3) := by
  funext a
  match a with
  | ⟨0, _⟩ => rfl
  | ⟨1, _⟩ => exact Fin.ext (by show 0 + 1 * c.val = c.val; omega)
  | ⟨2, _⟩ => rfl

theorem win16_2 (c : Fin 16) : (Rect.unit (s := S1x16x3) ![0, 0, 2] S1x16x1.size inb_S1x16x3_S1x16x1_0_0_2).emb (ix3 (0 : Fin 1) c (0 : Fin 1)) = ix3 (0 : Fin 1) c (2 : Fin 3) := by
  funext a
  match a with
  | ⟨0, _⟩ => rfl
  | ⟨1, _⟩ => exact Fin.ext (by show 0 + 1 * c.val = c.val; omega)
  | ⟨2, _⟩ => rfl

theorem win32_0 (c : Fin 32) : (Rect.unit (s := S1x32x3) ![0, 0, 0] S1x32x1.size inb_S1x32x3_S1x32x1_0_0_0).emb (ix3 (0 : Fin 1) c (0 : Fin 1)) = ix3 (0 : Fin 1) c (0 : Fin 3) := by
  funext a
  match a with
  | ⟨0, _⟩ => rfl
  | ⟨1, _⟩ => exact Fin.ext (by show 0 + 1 * c.val = c.val; omega)
  | ⟨2, _⟩ => rfl

theorem win32_1 (c : Fin 32) : (Rect.unit (s := S1x32x3) ![0, 0, 1] S1x32x1.size inb_S1x32x3_S1x32x1_0_0_1).emb (ix3 (0 : Fin 1) c (0 : Fin 1)) = ix3 (0 : Fin 1) c (1 : Fin 3) := by
  funext a
  match a with
  | ⟨0, _⟩ => rfl
  | ⟨1, _⟩ => exact Fin.ext (by show 0 + 1 * c.val = c.val; omega)
  | ⟨2, _⟩ => rfl

theorem win32_2 (c : Fin 32) : (Rect.unit (s := S1x32x3) ![0, 0, 2] S1x32x1.size inb_S1x32x3_S1x32x1_0_0_2).emb (ix3 (0 : Fin 1) c (0 : Fin 1)) = ix3 (0 : Fin 1) c (2 : Fin 3) := by
  funext a
  match a with
  | ⟨0, _⟩ => rfl
  | ⟨1, _⟩ => exact Fin.ext (by show 0 + 1 * c.val = c.val; omega)
  | ⟨2, _⟩ => rfl

theorem win64_0 (c : Fin 64) : (Rect.unit (s := S1x64x3) ![0, 0, 0] S1x64x1.size inb_S1x64x3_S1x64x1_0_0_0).emb (ix3 (0 : Fin 1) c (0 : Fin 1)) = ix3 (0 : Fin 1) c (0 : Fin 3) := by
  funext a
  match a with
  | ⟨0, _⟩ => rfl
  | ⟨1, _⟩ => exact Fin.ext (by show 0 + 1 * c.val = c.val; omega)
  | ⟨2, _⟩ => rfl

theorem win64_1 (c : Fin 64) : (Rect.unit (s := S1x64x3) ![0, 0, 1] S1x64x1.size inb_S1x64x3_S1x64x1_0_0_1).emb (ix3 (0 : Fin 1) c (0 : Fin 1)) = ix3 (0 : Fin 1) c (1 : Fin 3) := by
  funext a
  match a with
  | ⟨0, _⟩ => rfl
  | ⟨1, _⟩ => exact Fin.ext (by show 0 + 1 * c.val = c.val; omega)
  | ⟨2, _⟩ => rfl

theorem win64_2 (c : Fin 64) : (Rect.unit (s := S1x64x3) ![0, 0, 2] S1x64x1.size inb_S1x64x3_S1x64x1_0_0_2).emb (ix3 (0 : Fin 1) c (0 : Fin 1)) = ix3 (0 : Fin 1) c (2 : Fin 3) := by
  funext a
  match a with
  | ⟨0, _⟩ => rfl
  | ⟨1, _⟩ => exact Fin.ext (by show 0 + 1 * c.val = c.val; omega)
  | ⟨2, _⟩ => rfl

theorem trace_value (I : Inp) (x0 : Vec Ideal S1x32x3x4096 .f32) (x1 : Vec Ideal S1x16x27 .f32) (x2 : Vec Ideal S1x16x3 .f32) (x3 : Vec Ideal S1x16x144 .f32) (x4 : Vec Ideal S1x16x3 .f32) (x5 : Vec Ideal S1x32x144 .f32) (x6 : Vec Ideal S1x32x3 .f32) (x7 : Vec Ideal S1x32x288 .f32) (x8 : Vec Ideal S1x32x3 .f32) (x9 : Vec Ideal S1x64x288 .f32) (x10 : Vec Ideal S1x64x3 .f32) (x11 : Vec Ideal S1x64x576 .f32) (x12 : Vec Ideal S1x64x3 .f32) (x13 : Vec Ideal S1x64x4 .f32) (x14 : Vec Ideal S1x64x4 .f32) (x15 : Vec Ideal S8x512x128 .bf16) (x16 : Vec Ideal S2x512x128 .bf16) (x17 : Vec Ideal S256x4 .f32) (y : Vec Ideal S1x32x64x4 .f32)
    (ht : Trace x0 x1 x2 x3 x4 x5 x6 x7 x8 x9 x10 x11 x12 x13 x14 x15 x16 x17 y)
    (hx : ∀ (b : Fin 32) (c : Fin 3) (p : Fin 4096), x0 (ix4 (0 : Fin 1) b c p) = ((I.x b c (p.val / 64) (p.val % 64) : ℝ) : EReal))
    (hk1 : ∀ (o : Fin 16) (j : Fin 27), x1 (ix3 (0 : Fin 1) o j) = ((I.k1 o (j.val % 3) (j.val / 3 / 3) (j.val / 3 % 3) : ℝ) : EReal))
    (ha1 : ∀ (c : Fin 16) (t : Fin 3), x2 (ix3 (0 : Fin 1) c t) = ((I.a1 t c : ℝ) : EReal))
    (hk2 : ∀ (o : Fin 16) (j : Fin 144), x3 (ix3 (0 : Fin 1) o j) = ((I.k2 o (j.val % 16) (j.val / 16 / 3) (j.val / 16 % 3) : ℝ) : EReal))
    (ha2 : ∀ (c : Fin 16) (t : Fin 3), x4 (ix3 (0 : Fin 1) c t) = ((I.a2 t c : ℝ) : EReal))
    (hk3 : ∀ (o : Fin 32) (j : Fin 144), x5 (ix3 (0 : Fin 1) o j) = ((I.k3 o (j.val % 16) (j.val / 16 / 3) (j.val / 16 % 3) : ℝ) : EReal))
    (ha3 : ∀ (c : Fin 32) (t : Fin 3), x6 (ix3 (0 : Fin 1) c t) = ((I.a3 t c : ℝ) : EReal))
    (hk4 : ∀ (o : Fin 32) (j : Fin 288), x7 (ix3 (0 : Fin 1) o j) = ((I.k4 o (j.val % 32) (j.val / 32 / 3) (j.val / 32 % 3) : ℝ) : EReal))
    (ha4 : ∀ (c : Fin 32) (t : Fin 3), x8 (ix3 (0 : Fin 1) c t) = ((I.a4 t c : ℝ) : EReal))
    (hk5 : ∀ (o : Fin 64) (j : Fin 288), x9 (ix3 (0 : Fin 1) o j) = ((I.k5 o (j.val % 32) (j.val / 32 / 3) (j.val / 32 % 3) : ℝ) : EReal))
    (ha5 : ∀ (c : Fin 64) (t : Fin 3), x10 (ix3 (0 : Fin 1) c t) = ((I.a5 t c : ℝ) : EReal))
    (hk6 : ∀ (o : Fin 64) (j : Fin 576), x11 (ix3 (0 : Fin 1) o j) = ((I.k6 o (j.val % 64) (j.val / 64 / 3) (j.val / 64 % 3) : ℝ) : EReal))
    (ha6 : ∀ (c : Fin 64) (t : Fin 3), x12 (ix3 (0 : Fin 1) c t) = ((I.a6 t c : ℝ) : EReal))
    (hs1 : ∀ (j : Fin 8) (k : Fin 512) (q : Fin 128), x15 (ix3 j k q) = ((if k.val = 128 * (q.val / 32) + 2 * (q.val % 32) then 1 else 0 : ℝ) : EReal))
    (hs2 : ∀ (j : Fin 2) (k : Fin 512) (q : Fin 128), x16 (ix3 j k q) = ((if k.val = 64 * (q.val / 16) + 2 * (q.val % 16) then 1 else 0 : ℝ) : EReal))
    (hpm : ∀ (k : Fin 256) (q : Fin 4), x17 (ix2 k q) = ((if k.val / 16 / 8 * 2 + k.val % 16 / 8 = q.val then 1 / 64 else 0 : ℝ) : EReal))
    (b : Fin 32) (c : Fin 64) (q : Fin 4) :
    y (ix4 (0 : Fin 1) b c q) = ((I.feat b c q : ℝ) : EReal) * x13 (ix3 (0 : Fin 1) c q) + x14 (ix3 (0 : Fin 1) c q) := by
  obtain ⟨Z20, A20, Z21, A21, Z22, A22, v24, Z23, A23, Z24, A24, Z25, A25, v49, B20, B21, v54, v56, v85, C21, C22, v154, v158, v159, D22, v188, v191, v193, v195, E23, v219, v226, v228, v230, F23, v253, v270, v271, G24, v284, v291, v293, v295, v297, v301, v306, H24, H25, v366, v371, v380, I25, Z26, I26, v414, v416, J26, v452, h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51⟩ := ht
  have gA20 : Guard 4096 A20 := by rw [h1]; exact guard_put (S := 4096) Z20 (by norm_num) _ _ zero21 zero22
  have gA21 : Guard 4096 A21 := by rw [h2]; exact guard_put (S := 4096) Z21 (by norm_num) _ _ zero23 zero24
  have gA22 : Guard 4096 A22 := by rw [h3]; exact guard_put (S := 4096) Z22 (by norm_num) _ _ zero25 zero26
  have gA23 : Guard 1024 A23 := by rw [h5, h0]; exact guard_put (S := 1024) Z23 (by norm_num) _ _ zero28 zero29
  have gA24 : Guard 1024 A24 := by rw [h6]; exact guard_put (S := 1024) Z24 (by norm_num) _ _ zero30 zero31
  have gA25 : Guard 256 A25 := by rw [h7]; exact guard_put (S := 256) Z25 (by norm_num) _ _ zero32 zero33
  have iB20 : Img 64 64 I.x B20 := by
    rw [h11]
    refine img_put (S := 4096) (by norm_num) gA20 _ fun k c p => ?_
    rw [h4]
    pointwise [k0_pay35, k0_pay34]
    exact hx k c p
  have iB21 : Img 64 64 I.c1 B21 := by
    rw [h12]
    exact img_rowsPut (S := 4096) (by norm_num) gA21 fun k c p => conv1_at I.x B20 iB20 I.k1 x1 hk1 k c p
  have iC21 : Img 64 64 I.l1 C21 := by
    rw [h13, h10]
    exact layer3 I.c1 I.a1 B21 iB21 _ zero42 _ _ _ (fun c => (congrArg x2 (win16_0 c)).trans (ha1 c 0)) (fun c => (congrArg x2 (win16_1 c)).trans (ha1 c 1)) (fun c => (congrArg x2 (win16_2 c)).trans (ha1 c 2))
  have iC22 : Img 64 64 I.c2 C22 := by
    rw [h17]
    exact img_rowsPut (S := 4096) (by norm_num) gA22 fun k c p => conv4_at I.l1 C21 iC21 I.k2 x3 hk2 k c p
  have iD22 : Img 64 64 I.l2 D22 := by
    rw [h22, h14, h15, h16]
    exact layer6 I.c2 I.a2 C22 iC22 _ zero51 _ _ _ (fun c => (congrArg x4 (win16_0 c)).trans (ha2 c 0)) (fun c => (congrArg x4 (win16_1 c)).trans (ha2 c 1)) (fun c => (congrArg x4 (win16_2 c)).trans (ha2 c 2))
  have hv54 : ∀ (j : Fin 8) (k : Fin 512) (q : Fin 128), v54 (ix3 j k q) = ((if k.val = 128 * (q.val / 32) + 2 * (q.val % 32) then 1 else 0 : ℝ) : EReal) := by
    intro j k q
    rw [h8]
    pointwise [k0_pay36]
    exact hs1 j k q
  have hv56 : ∀ (j : Fin 2) (k : Fin 512) (q : Fin 128), v56 (ix3 j k q) = ((if k.val = 64 * (q.val / 16) + 2 * (q.val % 16) then 1 else 0 : ℝ) : EReal) := by
    intro j k q
    rw [h9]
    pointwise [k0_pay37]
    exact hs2 j k q
  have hv188 : ∀ (o : Fin 32) (j : Fin 144), v188 (ix2 o j) = ((I.k3 o (j.val % 16) (j.val / 16 / 3) (j.val / 16 % 3) : ℝ) : EReal) := by
    intro o j
    rw [h18]
    pointwise [k0_pay59]
    exact hk3 o j
  have iE23 : Img 32 32 I.c3 E23 := by
    rw [h27, h19, h20, h21]
    exact img_rowsPut (S := 1024) (by norm_num) gA23 fun k c p => conv7_at I.l2 D22 iD22 I.k3 v54 hv54 v188 hv188 k c p
  have iF23 : Img 32 32 I.l3 F23 := by
    rw [h31, h23, h24, h25, h26]
    exact layer9 I.c3 I.a3 E23 iE23 _ zero66 _ _ _ (fun c => (congrArg x6 (win32_0 c)).trans (ha3 c 0)) (fun c => (congrArg x6 (win32_1 c)).trans (ha3 c 1)) (fun c => (congrArg x6 (win32_2 c)).trans (ha3 c 2))
  have hv253 : ∀ (o : Fin 32) (j : Fin 288), v253 (ix2 o j) = ((I.k4 o (j.val % 32) (j.val / 32 / 3) (j.val / 32 % 3) : ℝ) : EReal) := by
    intro o j
    rw [h28]
    pointwise [k0_pay75]
    exact hk4 o j
  have iG24 : Img 32 32 I.c4 G24 := by
    rw [h39, h29, h30]
    exact img_rowsPut (S := 1024) (by norm_num) gA24 fun k c p => conv10_at I.l3 F23 iF23 I.k4 v253 hv253 k c p
  have iH24 : Img 32 32 I.l4 H24 := by
    rw [h40, h32, h33, h34, h35, h36, h37, h38]
    exact layer12 I.c4 I.a4 G24 iG24 _ zero81 _ _ _ (fun c => (congrArg x8 (win32_0 c)).trans (ha4 c 0)) (fun c => (congrArg x8 (win32_1 c)).trans (ha4 c 1)) (fun c => (congrArg x8 (win32_2 c)).trans (ha4 c 2))
  have iH25 : Img 16 16 I.c5 H25 := by
    rw [h41]
    exact img_rowsPut (S := 256) (by norm_num) gA25 fun k c p => conv13_at I.l4 H24 iH24 I.k5 v56 hv56 x9 hk5 k c p
  have iI25 : Img 16 16 I.l5 I25 := by
    rw [h47, h42, h43, h44]
    exact layer15 I.c5 I.a5 H25 iH25 _ zero97 _ _ _ (fun c => (congrArg x10 (win64_0 c)).trans (ha5 c 0)) (fun c => (congrArg x10 (win64_1 c)).trans (ha5 c 1)) (fun c => (congrArg x10 (win64_2 c)).trans (ha5 c 2))
  have iI26 : Img0 16 I.c6 I26 := by
    rw [h48]
    exact img0_rowsPut fun k c p => conv16_at I.l5 I25 iI25 I.k6 x11 hk6 k c p
  have iJ26 : Img0 16 I.l6 J26 := by
    rw [h49, h45, h46]
    exact layer18 I.c6 I.a6 I26 iI26 _ zero113 _ _ _ (fun c => (congrArg x12 (win64_0 c)).trans (ha6 c 0)) (fun c => (congrArg x12 (win64_1 c)).trans (ha6 c 1)) (fun c => (congrArg x12 (win64_2 c)).trans (ha6 c 2))
  rw [h51]
  refine bnorm_at (pool I.l6) v452 (fun b c q => ?_) x13 x14 b c q
  rw [h50]
  exact pool_at I.l6 J26 iJ26 x17 hpm b c q

end Cert.Proof
-- ==== Proof.HostReads.lean ====
/- What each window's block holds, read at an index: the launched arguments, the two subsampling one-hots and the pooling matrix. -/
module

public import proofs.«01_k».proof.Proof.Gen.KernelIdeal.Frame
public import Idealize.ShloMosaic.Lib.StableHlo.ReadAt
public import Idealize.ShloMosaic.Lib.Pipeline.ValueKit
public import Idealize.ShloMosaic.Lib.Claim
public import Idealize.ShloMosaic.Lib.Pointwise

@[expose] public section

set_option maxRecDepth 16384

noncomputable section

namespace Cert.Proof

open Idealize.ShloMosaic Idealize.ShloMosaic.TcCoe Idealize.ShloMosaic.Tactic
open Cert.KernelIdeal Cert.KernelIdeal.Gen

variable (m : (ℓ : Loc nD τ sig) → Buf (Elt Ideal) ℓ)

/-! ## The windows' places -/

theorem place0 (t : Fin cfg0.N) : win0_0.index t = ![t.val, 0, 0, 0] := by revert t; decide +kernel
theorem place1 (t : Fin cfg0.N) : win0_1.index t = ![t.val, 0, 0] := by revert t; decide +kernel
theorem place2 (t : Fin cfg0.N) : win0_2.index t = ![t.val, 0, 0] := by revert t; decide +kernel
theorem place3 (t : Fin cfg0.N) : win0_3.index t = ![t.val, 0, 0] := by revert t; decide +kernel
theorem place4 (t : Fin cfg0.N) : win0_4.index t = ![t.val, 0, 0] := by revert t; decide +kernel
theorem place5 (t : Fin cfg0.N) : win0_5.index t = ![t.val, 0, 0] := by revert t; decide +kernel
theorem place6 (t : Fin cfg0.N) : win0_6.index t = ![t.val, 0, 0] := by revert t; decide +kernel
theorem place7 (t : Fin cfg0.N) : win0_7.index t = ![t.val, 0, 0] := by revert t; decide +kernel
theorem place8 (t : Fin cfg0.N) : win0_8.index t = ![t.val, 0, 0] := by revert t; decide +kernel
theorem place9 (t : Fin cfg0.N) : win0_9.index t = ![t.val, 0, 0] := by revert t; decide +kernel
theorem place10 (t : Fin cfg0.N) : win0_10.index t = ![t.val, 0, 0] := by revert t; decide +kernel
theorem place11 (t : Fin cfg0.N) : win0_11.index t = ![t.val, 0, 0] := by revert t; decide +kernel
theorem place12 (t : Fin cfg0.N) : win0_12.index t = ![t.val, 0, 0] := by revert t; decide +kernel
theorem place13 (t : Fin cfg0.N) : win0_13.index t = ![t.val, 0, 0] := by revert t; decide +kernel
theorem place14 (t : Fin cfg0.N) : win0_14.index t = ![t.val, 0, 0] := by revert t; decide +kernel
theorem place15 (t : Fin cfg0.N) : win0_15.index t = ![0, 0, 0] := by revert t; decide +kernel
theorem place16 (t : Fin cfg0.N) : win0_16.index t = ![0, 0, 0] := by revert t; decide +kernel
theorem place17 (t : Fin cfg0.N) : win0_17.index t = ![0, 0] := by revert t; decide +kernel
theorem place18 (t : Fin cfg0.N) : win0_18.index t = ![t.val, 0, 0, 0] := by revert t; decide +kernel

/-! ## The pixels, the taps and the polynomial coefficients -/

theorem blk0 (c : Dev nD) (t : Fin 16) (b : Fin 32) (i : Fin 3) (p : Fin 4096) :
    (iblk m c 0 t : Vec Ideal S1x32x3x4096 .f32) (ix4 (0 : Fin 1) b i p)
      = (m (c, main_arg0) : Vec Ideal S32x3x256x256 .f32) (ix4 b i ⟨t.val / 4 * 64 + p.val / 64, by omega⟩ ⟨t.val % 4 * 64 + p.val % 64, by omega⟩) := by
  have h : (iblk m c 0 t : Vec Ideal S1x32x3x4096 .f32) (ix4 (0 : Fin 1) b i p) = (V m c main_call0_v63 : Vec Ideal S16x32x3x4096 .f32) (ix4 t b i p) := by
    blk_ext [iblk, place0 t]
  rw [h]
  unfold V
  after_reads_at

theorem blk1 (c : Dev nD) (t : Fin 16) (o : Fin 16) (j : Fin 27) :
    (iblk m c 1 t : Vec Ideal S1x16x27 .f32) (ix3 (0 : Fin 1) o j)
      = (m (c, main_arg1) : Vec Ideal S16x16x3x3x3 .f32) (ix5 t o ⟨j.val % 3, by omega⟩ ⟨j.val / 9, by omega⟩ ⟨j.val / 3 % 3, by omega⟩) := by
  have h : (iblk m c 1 t : Vec Ideal S1x16x27 .f32) (ix3 (0 : Fin 1) o j) = (V m c main_call0_v1 : Vec Ideal S16x16x27 .f32) (ix3 t o j) := by
    blk_ext [iblk, place1 t]
  rw [h]
  unfold V
  after_reads_at

theorem blk2 (c : Dev nD) (t : Fin 16) (o : Fin 16) (j : Fin 3) :
    (iblk m c 2 t : Vec Ideal S1x16x3 .f32) (ix3 (0 : Fin 1) o j) = (m (c, main_arg2) : Vec Ideal S16x3x16 .f32) (ix3 t j o) := by
  have h : (iblk m c 2 t : Vec Ideal S1x16x3 .f32) (ix3 (0 : Fin 1) o j) = (V m c main_call0_v12 : Vec Ideal S16x16x3 .f32) (ix3 t o j) := by
    blk_ext [iblk, place2 t]
  rw [h]
  unfold V
  after_reads_at

theorem blk3 (c : Dev nD) (t : Fin 16) (o : Fin 16) (j : Fin 144) :
    (iblk m c 3 t : Vec Ideal S1x16x144 .f32) (ix3 (0 : Fin 1) o j)
      = (m (c, main_arg3) : Vec Ideal S16x16x16x3x3 .f32) (ix5 t o ⟨j.val % 16, by omega⟩ ⟨j.val / 48, by omega⟩ ⟨j.val / 16 % 3, by omega⟩) := by
  have h : (iblk m c 3 t : Vec Ideal S1x16x144 .f32) (ix3 (0 : Fin 1) o j) = (V m c main_call0_v3 : Vec Ideal S16x16x144 .f32) (ix3 t o j) := by
    blk_ext [iblk, place3 t]
  rw [h]
  unfold V
  after_reads_at

theorem blk4 (c : Dev nD) (t : Fin 16) (o : Fin 16) (j : Fin 3) :
    (iblk m c 4 t : Vec Ideal S1x16x3 .f32) (ix3 (0 : Fin 1) o j) = (m (c, main_arg4) : Vec Ideal S16x3x16 .f32) (ix3 t j o) := by
  have h : (iblk m c 4 t : Vec Ideal S1x16x3 .f32) (ix3 (0 : Fin 1) o j) = (V m c main_call0_v13 : Vec Ideal S16x16x3 .f32) (ix3 t o j) := by
    blk_ext [iblk, place4 t]
  rw [h]
  unfold V
  after_reads_at

theorem blk5 (c : Dev nD) (t : Fin 16) (o : Fin 32) (j : Fin 144) :
    (iblk m c 5 t : Vec Ideal S1x32x144 .f32) (ix3 (0 : Fin 1) o j)
      = (m (c, main_arg5) : Vec Ideal S16x32x16x3x3 .f32) (ix5 t o ⟨j.val % 16, by omega⟩ ⟨j.val / 48, by omega⟩ ⟨j.val / 16 % 3, by omega⟩) := by
  have h : (iblk m c 5 t : Vec Ideal S1x32x144 .f32) (ix3 (0 : Fin 1) o j) = (V m c main_call0_v5 : Vec Ideal S16x32x144 .f32) (ix3 t o j) := by
    blk_ext [iblk, place5 t]
  rw [h]
  unfold V
  after_reads_at

theorem blk6 (c : Dev nD) (t : Fin 16) (o : Fin 32) (j : Fin 3) :
    (iblk m c 6 t : Vec Ideal S1x32x3 .f32) (ix3 (0 : Fin 1) o j) = (m (c, main_arg6) : Vec Ideal S16x3x32 .f32) (ix3 t j o) := by
  have h : (iblk m c 6 t : Vec Ideal S1x32x3 .f32) (ix3 (0 : Fin 1) o j) = (V m c main_call0_v14 : Vec Ideal S16x32x3 .f32) (ix3 t o j) := by
    blk_ext [iblk, place6 t]
  rw [h]
  unfold V
  after_reads_at

theorem blk7 (c : Dev nD) (t : Fin 16) (o : Fin 32) (j : Fin 288) :
    (iblk m c 7 t : Vec Ideal S1x32x288 .f32) (ix3 (0 : Fin 1) o j)
      = (m (c, main_arg7) : Vec Ideal S16x32x32x3x3 .f32) (ix5 t o ⟨j.val % 32, by omega⟩ ⟨j.val / 96, by omega⟩ ⟨j.val / 32 % 3, by omega⟩) := by
  have h : (iblk m c 7 t : Vec Ideal S1x32x288 .f32) (ix3 (0 : Fin 1) o j) = (V m c main_call0_v7 : Vec Ideal S16x32x288 .f32) (ix3 t o j) := by
    blk_ext [iblk, place7 t]
  rw [h]
  unfold V
  after_reads_at

theorem blk8 (c : Dev nD) (t : Fin 16) (o : Fin 32) (j : Fin 3) :
    (iblk m c 8 t : Vec Ideal S1x32x3 .f32) (ix3 (0 : Fin 1) o j) = (m (c, main_arg8) : Vec Ideal S16x3x32 .f32) (ix3 t j o) := by
  have h : (iblk m c 8 t : Vec Ideal S1x32x3 .f32) (ix3 (0 : Fin 1) o j) = (V m c main_call0_v15 : Vec Ideal S16x32x3 .f32) (ix3 t o j) := by
    blk_ext [iblk, place8 t]
  rw [h]
  unfold V
  after_reads_at

theorem blk9 (c : Dev nD) (t : Fin 16) (o : Fin 64) (j : Fin 288) :
    (iblk m c 9 t : Vec Ideal S1x64x288 .f32) (ix3 (0 : Fin 1) o j)
      = (m (c, main_arg9) : Vec Ideal S16x64x32x3x3 .f32) (ix5 t o ⟨j.val % 32, by omega⟩ ⟨j.val / 96, by omega⟩ ⟨j.val / 32 % 3, by omega⟩) := by
  have h : (iblk m c 9 t : Vec Ideal S1x64x288 .f32) (ix3 (0 : Fin 1) o j) = (V m c main_call0_v9 : Vec Ideal S16x64x288 .f32) (ix3 t o j) := by
    blk_ext [iblk, place9 t]
  rw [h]
  unfold V
  after_reads_at

theorem blk10 (c : Dev nD) (t : Fin 16) (o : Fin 64) (j : Fin 3) :
    (iblk m c 10 t : Vec Ideal S1x64x3 .f32) (ix3 (0 : Fin 1) o j) = (m (c, main_arg10) : Vec Ideal S16x3x64 .f32) (ix3 t j o) := by
  have h : (iblk m c 10 t : Vec Ideal S1x64x3 .f32) (ix3 (0 : Fin 1) o j) = (V m c main_call0_v16 : Vec Ideal S16x64x3 .f32) (ix3 t o j) := by
    blk_ext [iblk, place10 t]
  rw [h]
  unfold V
  after_reads_at

theorem blk11 (c : Dev nD) (t : Fin 16) (o : Fin 64) (j : Fin 576) :
    (iblk m c 11 t : Vec Ideal S1x64x576 .f32) (ix3 (0 : Fin 1) o j)
      = (m (c, main_arg11) : Vec Ideal S16x64x64x3x3 .f32) (ix5 t o ⟨j.val % 64, by omega⟩ ⟨j.val / 192, by omega⟩ ⟨j.val / 64 % 3, by omega⟩) := by
  have h : (iblk m c 11 t : Vec Ideal S1x64x576 .f32) (ix3 (0 : Fin 1) o j) = (V m c main_call0_v11 : Vec Ideal S16x64x576 .f32) (ix3 t o j) := by
    blk_ext [iblk, place11 t]
  rw [h]
  unfold V
  after_reads_at

theorem blk12 (c : Dev nD) (t : Fin 16) (o : Fin 64) (j : Fin 3) :
    (iblk m c 12 t : Vec Ideal S1x64x3 .f32) (ix3 (0 : Fin 1) o j) = (m (c, main_arg12) : Vec Ideal S16x3x64 .f32) (ix3 t j o) := by
  have h : (iblk m c 12 t : Vec Ideal S1x64x3 .f32) (ix3 (0 : Fin 1) o j) = (V m c main_call0_v17 : Vec Ideal S16x64x3 .f32) (ix3 t o j) := by
    blk_ext [iblk, place12 t]
  rw [h]
  unfold V
  after_reads_at

theorem blk13 (c : Dev nD) (t : Fin 16) (o : Fin 64) (q : Fin 4) :
    (iblk m c 13 t : Vec Ideal S1x64x4 .f32) (ix3 (0 : Fin 1) o q) = (m (c, main_arg13) : Vec Ideal S16x256 .f32) (ix2 t ⟨o.val * 4 + q.val, by omega⟩) := by
  have h : (iblk m c 13 t : Vec Ideal S1x64x4 .f32) (ix3 (0 : Fin 1) o q) = (V m c main_call0_v18 : Vec Ideal S16x64x4 .f32) (ix3 t o q) := by
    blk_ext [iblk, place13 t]
  rw [h]
  unfold V
  after_reads_at

theorem blk14 (c : Dev nD) (t : Fin 16) (o : Fin 64) (q : Fin 4) :
    (iblk m c 14 t : Vec Ideal S1x64x4 .f32) (ix3 (0 : Fin 1) o q) = (m (c, main_arg14) : Vec Ideal S16x256 .f32) (ix2 t ⟨o.val * 4 + q.val, by omega⟩) := by
  have h : (iblk m c 14 t : Vec Ideal S1x64x4 .f32) (ix3 (0 : Fin 1) o q) = (V m c main_call0_v19 : Vec Ideal S16x64x4 .f32) (ix3 t o q) := by
    blk_ext [iblk, place14 t]
  rw [h]
  unfold V
  after_reads_at

/-! ## The one-hots and the pooling matrix -/

/-- The bit of an equality of words, as a number. -/
theorem uitofp_eq (a b : BitVec 32) : (FloatOps.uitofp .f32 (IntOp.cmpi .eq a b) : Ideal .f32) = ((if a = b then 1 else 0 : ℝ) : EReal) := by
  by_cases h : a = b
  · subst h
    rw [if_pos rfl]
    show (((IntOp.cmpi .eq a a).toNat : ℝ) : EReal) = _
    simp [IntOp.cmpi]
  · rw [if_neg h]
    show (((IntOp.cmpi .eq a b).toNat : ℝ) : EReal) = _
    simp [IntOp.cmpi, h]

theorem ofNat_eq32 (a b : ℕ) (ha : a < 1024) (hb : b < 1024) : BitVec.ofNat 32 a = BitVec.ofNat 32 b ↔ a = b := by
  constructor
  · intro h
    have := congrArg BitVec.toNat h
    simpa [BitVec.toNat_ofNat, Nat.mod_eq_of_lt (show a < 4294967296 by omega), Nat.mod_eq_of_lt (show b < 4294967296 by omega)] using this
  · intro h; rw [h]

/-- An equality of words that stand for small numbers. -/
theorem onehot (w : BitVec 32) (s k : ℕ) (hw : w = BitVec.ofNat 32 s) (hs : s < 1024) (hk : k < 1024) :
    (FloatOps.uitofp .f32 (IntOp.cmpi .eq w (BitVec.ofNat 32 k)) : Ideal .f32) = ((if k = s then 1 else 0 : ℝ) : EReal) := by
  rw [uitofp_eq, hw]
  congr 1
  exact if_congr ((ofNat_eq32 s k hs hk).trans eq_comm) rfl rfl

set_option maxHeartbeats 4000000 in
theorem blk15 (c : Dev nD) (t : Fin 16) (j : Fin 8) (k : Fin 512) (q : Fin 128) :
    (iblk m c 15 t : Vec Ideal S8x512x128 .bf16) (ix3 j k q) = ((if k.val = 128 * (q.val / 32) + 2 * (q.val % 32) then 1 else 0 : ℝ) : EReal) := by
  have h : (iblk m c 15 t : Vec Ideal S8x512x128 .bf16) (ix3 j k q) = (V m c main_call0_v34 : Vec Ideal S8x512x128 .bf16) (ix3 j k q) := by
    blk_ext [iblk, place15 t]
  rw [h]
  unfold V
  after_reads_at
  refine onehot _ _ k.val ?_ (by omega) (by omega)
  have hq : q.val = (j.val * 128 + q.val) % 128 := by omega
  rw [show 128 * (q.val / 32) + 2 * (q.val % 32) = 128 * (((j.val * 128 + q.val) % 128) / 32) + 2 * (((j.val * 128 + q.val) % 128) % 32) by omega]
  have hp : j.val * 128 + q.val < 1024 := by omega
  generalize j.val * 128 + q.val = p at hp
  clear hq h
  revert p
  decide +kernel

set_option maxHeartbeats 4000000 in
theorem blk16 (c : Dev nD) (t : Fin 16) (j : Fin 2) (k : Fin 512) (q : Fin 128) :
    (iblk m c 16 t : Vec Ideal S2x512x128 .bf16) (ix3 j k q) = ((if k.val = 64 * (q.val / 16) + 2 * (q.val % 16) then 1 else 0 : ℝ) : EReal) := by
  have h : (iblk m c 16 t : Vec Ideal S2x512x128 .bf16) (ix3 j k q) = (V m c main_call0_v49 : Vec Ideal S2x512x128 .bf16) (ix3 j k q) := by
    blk_ext [iblk, place16 t]
  rw [h]
  unfold V
  after_reads_at
  refine onehot _ _ k.val ?_ (by omega) (by omega)
  have hq : q.val = (j.val * 128 + q.val) % 128 := by omega
  rw [show 64 * (q.val / 16) + 2 * (q.val % 16) = 64 * (((j.val * 128 + q.val) % 128) / 16) + 2 * (((j.val * 128 + q.val) % 128) % 16) by omega]
  have hp : j.val * 128 + q.val < 256 := by omega
  generalize j.val * 128 + q.val = p at hp
  clear hq h
  revert p
  decide +kernel

end Cert.Proof
-- ==== Proof.PoolRead.lean ====
/- The pooling matrix's block at an index. -/
module

public import proofs.«01_k».proof.Proof.HostReads

@[expose] public section

set_option maxRecDepth 16384

noncomputable section

namespace Cert.Proof

open Idealize.ShloMosaic Idealize.ShloMosaic.TcCoe Idealize.ShloMosaic.Tactic
open Cert.KernelIdeal Cert.KernelIdeal.Gen

variable (m : (ℓ : Loc nD τ sig) → Buf (Elt Ideal) ℓ)

theorem n64_bits : Ideal.ofBits .f32 0x42800000#32 = ((64 : ℝ) : EReal) := by
  simp [Ideal.ofBits, Ideal.ieee]
  norm_num
  simp only [← EReal.coe_mul]
  congr 1
  norm_num

/-- A bit of an equality divided by 64. -/
theorem onehot64 (w : BitVec 32) (s k : ℕ) (hw : w = BitVec.ofNat 32 s) (hs : s < 1024) (hk : k < 1024) :
    Ideal.div (FloatOps.uitofp .f32 (IntOp.cmpi .eq w (BitVec.ofNat 32 k)) : Ideal .f32) (Ideal.ofBits .f32 0x42800000#32)
      = ((if s = k then 1 / 64 else 0 : ℝ) : EReal) := by
  rw [onehot w s k hw hs hk, n64_bits, Ideal.div_coe (by norm_num)]
  by_cases h : k = s
  · rw [if_pos h, if_pos h.symm]; norm_num
  · rw [if_neg h, if_neg (Ne.symm h)]; norm_num

set_option maxHeartbeats 4000000 in
theorem blk17 (c : Dev nD) (t : Fin 16) (k : Fin 256) (q : Fin 4) :
    (iblk m c 17 t : Vec Ideal S256x4 .f32) (ix2 k q) = ((if k.val / 16 / 8 * 2 + k.val % 16 / 8 = q.val then 1 / 64 else 0 : ℝ) : EReal) := by
  have h : (iblk m c 17 t : Vec Ideal S256x4 .f32) (ix2 k q) = (V m c main_call0_v60 : Vec Ideal S256x4 .f32) (ix2 k q) := by
    blk_ext [iblk, place17 t]
  rw [h]
  unfold V
  after_reads_at
  refine onehot64 _ (k.val / 16 / 8 * 2 + k.val % 16 / 8) q.val ?_ (by omega) (by omega)
  clear h
  revert k
  decide +kernel

end Cert.Proof
-- ==== Proof.Finite.lean ====
/- What the precondition gives: every entry of the thirteen arrays it names is a real number. -/
module

public import proofs.«01_k».proof.Pre_finite
public import Idealize.ShloMosaic.Lib.ReduceAll
public import Idealize.ShloMosaic.Lib.Pointwise
public import Idealize.ShloMosaic.PureOps.Ideal.Laws

@[expose] public section

set_option maxRecDepth 16384

noncomputable section

namespace Cert.Proof

open Idealize.ShloMosaic
open Cert.Pre_finite

/-- Every entry of an array is a real number. -/
def Fin' {s : Shape} (a : FVec Ideal s .f32) : Prop := ∀ i, a i = ((a i).toReal : EReal)

theorem inf_bits : Ideal.ofBits .f32 0x7F800000#32 = (⊤ : EReal) := by
  simp [Ideal.ofBits, Ideal.ieee]

theorem bits_and (a b : BitVec 1) (h : IntOp.andi a b = 1#1) : a = 1#1 ∧ b = 1#1 := by
  revert a b; decide

instance : Subsingleton S_.Idx := ⟨fun a b => funext fun i => absurd i.isLt (by show ¬ i.val < 0; omega)⟩

theorem fin_of {s : Shape} {axes : List (Fin s.rank)} (a : FVec Ideal s .f32) (hb : S_.BroadcastsInDim s (![] : Fin 0 → Fin s.rank)) (hr : s.ReducesTo axes S_) (hu : 0 < S_.numel)
    (j : S_.Idx) (e : Host.reduce IntOp.andi (cmpf .olt (Host.absf a) (broadcastInDim s ![] hb (constant S_ .f32 0x7F800000#32 : FVec Ideal S_ .f32))) (constantI S_ 1 1#1) hr hu j = 1#1) :
    Fin' a := by
  intro i
  have h := Host.reduce_andi_all _ _ _ _ _ e i
  have h2 : Ideal.cmp .olt (max (a i) (-(a i))) (Ideal.ofBits .f32 0x7F800000#32) = 1#1 := h
  rw [inf_bits] at h2
  have h3 : max (a i) (-(a i)) < (⊤ : EReal) := by
    by_contra hc
    have h3 : Ideal.cmp .olt (max (a i) (-(a i))) (⊤ : EReal) = 0#1 := by
      simp [Ideal.cmp, hc]
    rw [h3] at h2
    exact absurd h2 (by decide)
  rw [max_lt_iff] at h3
  refine (EReal.coe_toReal (ne_of_lt h3.1) ?_).symm
  intro hbot
  rw [hbot] at h3
  simp at h3

theorem fin_all [Facts] (a0 : FVec Ideal S32x3x256x256 .f32) (a1 : FVec Ideal S16x16x3x3x3 .f32) (a2 : FVec Ideal S16x3x16 .f32) (a3 : FVec Ideal S16x16x16x3x3 .f32) (a4 : FVec Ideal S16x3x16 .f32) (a5 : FVec Ideal S16x32x16x3x3 .f32) (a6 : FVec Ideal S16x3x32 .f32) (a7 : FVec Ideal S16x32x32x3x3 .f32) (a8 : FVec Ideal S16x3x32 .f32) (a9 : FVec Ideal S16x64x32x3x3 .f32) (a10 : FVec Ideal S16x3x64 .f32) (a11 : FVec Ideal S16x64x64x3x3 .f32) (a12 : FVec Ideal S16x3x64 .f32) (a13 : FVec Ideal S16x256 .f32) (a14 : FVec Ideal S16x256 .f32)
    (h : fn (F := Ideal) a0 a1 a2 a3 a4 a5 a6 a7 a8 a9 a10 a11 a12 a13 a14 = fun _ => 1#1) :
    Fin' a0 ∧ Fin' a1 ∧ Fin' a2 ∧ Fin' a3 ∧ Fin' a4 ∧ Fin' a5 ∧ Fin' a6 ∧ Fin' a7 ∧ Fin' a8 ∧ Fin' a9 ∧ Fin' a10 ∧ Fin' a11 ∧ Fin' a12 := by
  have h0 := congrFun h (Shape.Idx.first Facts.h_S_)
  dsimp only [fn, fn_part1, fn_part2, fn_part3] at h0
  obtain ⟨g12, e12⟩ := bits_and _ _ h0
  have f12 := fin_of a12 _ _ _ _ e12
  obtain ⟨g11, e11⟩ := bits_and _ _ g12
  have f11 := fin_of a11 _ _ _ _ e11
  obtain ⟨g10, e10⟩ := bits_and _ _ g11
  have f10 := fin_of a10 _ _ _ _ e10
  obtain ⟨g9, e9⟩ := bits_and _ _ g10
  have f9 := fin_of a9 _ _ _ _ e9
  obtain ⟨g8, e8⟩ := bits_and _ _ g9
  have f8 := fin_of a8 _ _ _ _ e8
  obtain ⟨g7, e7⟩ := bits_and _ _ g8
  have f7 := fin_of a7 _ _ _ _ e7
  obtain ⟨g6, e6⟩ := bits_and _ _ g7
  have f6 := fin_of a6 _ _ _ _ e6
  obtain ⟨g5, e5⟩ := bits_and _ _ g6
  have f5 := fin_of a5 _ _ _ _ e5
  obtain ⟨g4, e4⟩ := bits_and _ _ g5
  have f4 := fin_of a4 _ _ _ _ e4
  obtain ⟨g3, e3⟩ := bits_and _ _ g4
  have f3 := fin_of a3 _ _ _ _ e3
  obtain ⟨g2, e2⟩ := bits_and _ _ g3
  have f2 := fin_of a2 _ _ _ _ e2
  obtain ⟨g1, e1⟩ := bits_and _ _ g2
  have f1 := fin_of a1 _ _ _ _ e1
  obtain ⟨g0, e0⟩ := bits_and _ _ g1
  have f0 := fin_of a0 _ _ _ _ e0
  exact ⟨f0, f1, f2, f3, f4, f5, f6, f7, f8, f9, f10, f11, f12⟩

end Cert.Proof
-- ==== Proof.PatchInp.lean ====
/- The real inputs of one patch, read off the thirteen argument arrays. -/
module

public import proofs.«01_k».proof.Proof.Finite
public import proofs.«01_k».proof.Proof.Real

@[expose] public section

set_option maxRecDepth 16384

noncomputable section

namespace Cert.Proof

open Idealize.ShloMosaic

/-- An array of 3 axes read at natural-number indices: zero outside it, the real part inside. -/
def rd3 {a b c : ℕ} (X : FVec Ideal (⟨3, ![a, b, c]⟩ : Shape) .f32) (n i j : ℕ) : ℝ :=
  if h : n < a ∧ i < b ∧ j < c then (X (ix3 ⟨n, h.1⟩ ⟨i, h.2.1⟩ ⟨j, h.2.2⟩)).toReal else 0

/-- At indices inside a finite array the read is the entry. -/
theorem rd3_eq {a b c : ℕ} (X : FVec Ideal (⟨3, ![a, b, c]⟩ : Shape) .f32) (hX : Fin' X) (n : Fin a) (i : Fin b) (j : Fin c) :
    X (ix3 n i j) = ((rd3 X n i j : ℝ) : EReal) := by
  unfold rd3
  rw [dif_pos ⟨n.isLt, i.isLt, j.isLt⟩]
  exact hX _

/-- An array of 4 axes read at natural-number indices: zero outside it, the real part inside. -/
def rd4 {a b c d : ℕ} (X : FVec Ideal (⟨4, ![a, b, c, d]⟩ : Shape) .f32) (n i j k : ℕ) : ℝ :=
  if h : n < a ∧ i < b ∧ j < c ∧ k < d then (X (ix4 ⟨n, h.1⟩ ⟨i, h.2.1⟩ ⟨j, h.2.2.1⟩ ⟨k, h.2.2.2⟩)).toReal else 0

/-- At indices inside a finite array the read is the entry. -/
theorem rd4_eq {a b c d : ℕ} (X : FVec Ideal (⟨4, ![a, b, c, d]⟩ : Shape) .f32) (hX : Fin' X) (n : Fin a) (i : Fin b) (j : Fin c) (k : Fin d) :
    X (ix4 n i j k) = ((rd4 X n i j k : ℝ) : EReal) := by
  unfold rd4
  rw [dif_pos ⟨n.isLt, i.isLt, j.isLt, k.isLt⟩]
  exact hX _

/-- An array of 5 axes read at natural-number indices: zero outside it, the real part inside. -/
def rd5 {a b c d e : ℕ} (X : FVec Ideal (⟨5, ![a, b, c, d, e]⟩ : Shape) .f32) (n i j k l : ℕ) : ℝ :=
  if h : n < a ∧ i < b ∧ j < c ∧ k < d ∧ l < e then (X (ix5 ⟨n, h.1⟩ ⟨i, h.2.1⟩ ⟨j, h.2.2.1⟩ ⟨k, h.2.2.2.1⟩ ⟨l, h.2.2.2.2⟩)).toReal else 0

/-- At indices inside a finite array the read is the entry. -/
theorem rd5_eq {a b c d e : ℕ} (X : FVec Ideal (⟨5, ![a, b, c, d, e]⟩ : Shape) .f32) (hX : Fin' X) (n : Fin a) (i : Fin b) (j : Fin c) (k : Fin d) (l : Fin e) :
    X (ix5 n i j k l) = ((rd5 X n i j k l : ℝ) : EReal) := by
  unfold rd5
  rw [dif_pos ⟨n.isLt, i.isLt, j.isLt, k.isLt, l.isLt⟩]
  exact hX _

/-- The inputs of patch `n`: its 64 by 64 window of the images and its own weights and coefficients. -/
def patch (X0 : FVec Ideal (⟨4, ![32, 3, 256, 256]⟩ : Shape) .f32) (X1 : FVec Ideal (⟨5, ![16, 16, 3, 3, 3]⟩ : Shape) .f32) (X2 : FVec Ideal (⟨3, ![16, 3, 16]⟩ : Shape) .f32) (X3 : FVec Ideal (⟨5, ![16, 16, 16, 3, 3]⟩ : Shape) .f32) (X4 : FVec Ideal (⟨3, ![16, 3, 16]⟩ : Shape) .f32) (X5 : FVec Ideal (⟨5, ![16, 32, 16, 3, 3]⟩ : Shape) .f32) (X6 : FVec Ideal (⟨3, ![16, 3, 32]⟩ : Shape) .f32) (X7 : FVec Ideal (⟨5, ![16, 32, 32, 3, 3]⟩ : Shape) .f32) (X8 : FVec Ideal (⟨3, ![16, 3, 32]⟩ : Shape) .f32) (X9 : FVec Ideal (⟨5, ![16, 64, 32, 3, 3]⟩ : Shape) .f32) (X10 : FVec Ideal (⟨3, ![16, 3, 64]⟩ : Shape) .f32) (X11 : FVec Ideal (⟨5, ![16, 64, 64, 3, 3]⟩ : Shape) .f32) (X12 : FVec Ideal (⟨3, ![16, 3, 64]⟩ : Shape) .f32) (n : ℕ) : Inp where
  x b c h w := rd4 X0 b c (n / 4 * 64 + h) (n % 4 * 64 + w)
  k1 o i dy dx := rd5 X1 n o i dy dx
  a1 t c := rd3 X2 n t c
  k2 o i dy dx := rd5 X3 n o i dy dx
  a2 t c := rd3 X4 n t c
  k3 o i dy dx := rd5 X5 n o i dy dx
  a3 t c := rd3 X6 n t c
  k4 o i dy dx := rd5 X7 n o i dy dx
  a4 t c := rd3 X8 n t c
  k5 o i dy dx := rd5 X9 n o i dy dx
  a5 t c := rd3 X10 n t c
  k6 o i dy dx := rd5 X11 n o i dy dx
  a6 t c := rd3 X12 n t c

/-- What entry `(b, o, q)` of patch `n` should be: the normalised feature, scaled and shifted. -/
def entry (X0 : FVec Ideal (⟨4, ![32, 3, 256, 256]⟩ : Shape) .f32) (X1 : FVec Ideal (⟨5, ![16, 16, 3, 3, 3]⟩ : Shape) .f32) (X2 : FVec Ideal (⟨3, ![16, 3, 16]⟩ : Shape) .f32) (X3 : FVec Ideal (⟨5, ![16, 16, 16, 3, 3]⟩ : Shape) .f32) (X4 : FVec Ideal (⟨3, ![16, 3, 16]⟩ : Shape) .f32) (X5 : FVec Ideal (⟨5, ![16, 32, 16, 3, 3]⟩ : Shape) .f32) (X6 : FVec Ideal (⟨3, ![16, 3, 32]⟩ : Shape) .f32) (X7 : FVec Ideal (⟨5, ![16, 32, 32, 3, 3]⟩ : Shape) .f32) (X8 : FVec Ideal (⟨3, ![16, 3, 32]⟩ : Shape) .f32) (X9 : FVec Ideal (⟨5, ![16, 64, 32, 3, 3]⟩ : Shape) .f32) (X10 : FVec Ideal (⟨3, ![16, 3, 64]⟩ : Shape) .f32) (X11 : FVec Ideal (⟨5, ![16, 64, 64, 3, 3]⟩ : Shape) .f32) (X12 : FVec Ideal (⟨3, ![16, 3, 64]⟩ : Shape) .f32) (X13 : FVec Ideal (⟨2, ![16, 256]⟩ : Shape) .f32) (X14 : FVec Ideal (⟨2, ![16, 256]⟩ : Shape) .f32) (n : Fin 16) (b : Fin 32) (o : Fin 64) (q : Fin 4) : EReal :=
  (((patch X0 X1 X2 X3 X4 X5 X6 X7 X8 X9 X10 X11 X12 n).feat b o q : ℝ) : EReal) * X13 (ix2 n ⟨o.val * 4 + q.val, by omega⟩) + X14 (ix2 n ⟨o.val * 4 + q.val, by omega⟩)

end Cert.Proof

end
-- ==== Proof.KernelValue.lean ====
/- The kernel's run over the extended reals: the result array, read at an index. -/
module

public import proofs.«01_k».proof.Proof.Region
public import proofs.«01_k».proof.Proof.BodyValue
public import proofs.«01_k».proof.Proof.HostReads
public import proofs.«01_k».proof.Proof.PoolRead
public import proofs.«01_k».proof.Proof.PatchInp

@[expose] public section

set_option maxRecDepth 16384

noncomputable section

namespace Cert.Proof

open Idealize.ShloMosaic Idealize.ShloMosaic.TcCoe Idealize.ShloMosaic.Tactic
open Idealize.SL Idealize.SL.RA Idealize.SL.BI Idealize.SL.Sem
open Cert.KernelIdeal Cert.KernelIdeal.Gen

variable (m : (ℓ : Loc nD τ sig) → Buf (Elt Ideal) ℓ)

/-- Entry `(b, o, q)` of patch `n`, of the launched arguments. -/
def goalAt (c : Dev nD) (n : Fin 16) (b : Fin 32) (o : Fin 64) (q : Fin 4) : EReal :=
  entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) n b o q

/-- The output block of grid point `t`. -/
def outBlk (c : Dev nD) (t : Fin cfg0.N) : Vec Ideal S1x32x64x4 .f32 := fun i => goalAt m c t (i 1) (i 2) (i 3)

/-- The result array. -/
def outAll (c : Dev nD) : Vec Ideal S16x32x64x4 .f32 := fun i => goalAt m c (i 0) (i 1) (i 2) (i 3)

/-- The thirteen arrays are finite. -/
def AllFin (c : Dev nD) : Prop :=
  Fin' (s := ⟨4, ![32, 3, 256, 256]⟩) (m ((c.tc : Thread nD τ).loc main_arg0)) ∧ Fin' (s := ⟨5, ![16, 16, 3, 3, 3]⟩) (m ((c.tc : Thread nD τ).loc main_arg1)) ∧ Fin' (s := ⟨3, ![16, 3, 16]⟩) (m ((c.tc : Thread nD τ).loc main_arg2)) ∧ Fin' (s := ⟨5, ![16, 16, 16, 3, 3]⟩) (m ((c.tc : Thread nD τ).loc main_arg3)) ∧ Fin' (s := ⟨3, ![16, 3, 16]⟩) (m ((c.tc : Thread nD τ).loc main_arg4)) ∧ Fin' (s := ⟨5, ![16, 32, 16, 3, 3]⟩) (m ((c.tc : Thread nD τ).loc main_arg5)) ∧ Fin' (s := ⟨3, ![16, 3, 32]⟩) (m ((c.tc : Thread nD τ).loc main_arg6)) ∧ Fin' (s := ⟨5, ![16, 32, 32, 3, 3]⟩) (m ((c.tc : Thread nD τ).loc main_arg7)) ∧ Fin' (s := ⟨3, ![16, 3, 32]⟩) (m ((c.tc : Thread nD τ).loc main_arg8)) ∧ Fin' (s := ⟨5, ![16, 64, 32, 3, 3]⟩) (m ((c.tc : Thread nD τ).loc main_arg9)) ∧ Fin' (s := ⟨3, ![16, 3, 64]⟩) (m ((c.tc : Thread nD τ).loc main_arg10)) ∧ Fin' (s := ⟨5, ![16, 64, 64, 3, 3]⟩) (m ((c.tc : Thread nD τ).loc main_arg11)) ∧ Fin' (s := ⟨3, ![16, 3, 64]⟩) (m ((c.tc : Thread nD τ).loc main_arg12))

theorem out_of_trace (hf : ∀ c, AllFin m c) (c : Dev nD) (t : Fin cfg0.N) (y : Vec Ideal S1x32x64x4 .f32)
    (ht : Trace (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y) : y = outBlk m c t := by
  obtain ⟨f0, f1, f2, f3, f4, f5, f6, f7, f8, f9, f10, f11, f12⟩ := hf c
  funext i
  obtain ⟨z, b, o, q, rfl⟩ : ∃ (z : Fin 1) (b : Fin 32) (o : Fin 64) (q : Fin 4), i = ix4 z b o q := ⟨i 0, i 1, i 2, i 3, ValueIdx.eq_ix4 i⟩
  obtain rfl : z = 0 := Subsingleton.elim _ _
  refine (trace_value (patch (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y ht ?_ ?_ ?_ ?_ ?_ ?_ ?_ ?_ ?_ ?_ ?_ ?_ ?_ (fun j k q => blk15 m c t j k q) (fun j k q => blk16 m c t j k q) (fun k q => blk17 m c t k q) b o q).trans ?_
  · intro b i p
    exact (blk0 m c t b i p).trans (rd4_eq (m ((c.tc : Thread nD τ).loc main_arg0)) f0 b i ⟨_, _⟩ ⟨_, _⟩)
  · intro o j
    refine (blk1 m c t o j).trans ((rd5_eq (m ((c.tc : Thread nD τ).loc main_arg1)) f1 t o ⟨_, _⟩ ⟨_, _⟩ ⟨_, _⟩).trans ?_)
    rw [Nat.div_div_eq_div_mul]
    rfl
  · intro o s
    exact (blk2 m c t o s).trans (rd3_eq (m ((c.tc : Thread nD τ).loc main_arg2)) f2 t s o)
  · intro o j
    refine (blk3 m c t o j).trans ((rd5_eq (m ((c.tc : Thread nD τ).loc main_arg3)) f3 t o ⟨_, _⟩ ⟨_, _⟩ ⟨_, _⟩).trans ?_)
    rw [Nat.div_div_eq_div_mul]
    rfl
  · intro o s
    exact (blk4 m c t o s).trans (rd3_eq (m ((c.tc : Thread nD τ).loc main_arg4)) f4 t s o)
  · intro o j
    refine (blk5 m c t o j).trans ((rd5_eq (m ((c.tc : Thread nD τ).loc main_arg5)) f5 t o ⟨_, _⟩ ⟨_, _⟩ ⟨_, _⟩).trans ?_)
    rw [Nat.div_div_eq_div_mul]
    rfl
  · intro o s
    exact (blk6 m c t o s).trans (rd3_eq (m ((c.tc : Thread nD τ).loc main_arg6)) f6 t s o)
  · intro o j
    refine (blk7 m c t o j).trans ((rd5_eq (m ((c.tc : Thread nD τ).loc main_arg7)) f7 t o ⟨_, _⟩ ⟨_, _⟩ ⟨_, _⟩).trans ?_)
    rw [Nat.div_div_eq_div_mul]
    rfl
  · intro o s
    exact (blk8 m c t o s).trans (rd3_eq (m ((c.tc : Thread nD τ).loc main_arg8)) f8 t s o)
  · intro o j
    refine (blk9 m c t o j).trans ((rd5_eq (m ((c.tc : Thread nD τ).loc main_arg9)) f9 t o ⟨_, _⟩ ⟨_, _⟩ ⟨_, _⟩).trans ?_)
    rw [Nat.div_div_eq_div_mul]
    rfl
  · intro o s
    exact (blk10 m c t o s).trans (rd3_eq (m ((c.tc : Thread nD τ).loc main_arg10)) f10 t s o)
  · intro o j
    refine (blk11 m c t o j).trans ((rd5_eq (m ((c.tc : Thread nD τ).loc main_arg11)) f11 t o ⟨_, _⟩ ⟨_, _⟩ ⟨_, _⟩).trans ?_)
    rw [Nat.div_div_eq_div_mul]
    rfl
  · intro o s
    exact (blk12 m c t o s).trans (rd3_eq (m ((c.tc : Thread nD τ).loc main_arg12)) f12 t s o)
  · rw [blk13 m c t o q, blk14 m c t o q]
    rfl

theorem result_eq (c : Dev nD) : (kdats m (outBlk m) 0 c).arrAt 18 cfg0.N = outAll m c := by
  refine (kdats m (outBlk m) 0 c).arrAt_eq_of_covers 18 _ (by decide +kernel) fun t hf y => ?_
  blk_simp
  rw [kafter_18]
  obtain ⟨z, b, o, q, rfl⟩ : ∃ (z : Fin 1) (b : Fin 32) (o : Fin 64) (q : Fin 4), y = ix4 z b o q := ⟨y 0, y 1, y 2, y 3, ValueIdx.eq_ix4 y⟩
  obtain rfl : z = 0 := Subsingleton.elim _ _
  have h : (win0_18.blk t).view.emb (ix4 (0 : Fin 1) b o q) = ix4 t b o q := by
    blk_ext [place18 t]
  rw [h]
  rfl

/-- The kernel over the extended reals, run from any memory holding finite arrays. -/
theorem kernel_run (ρ : Dev nD → PrngReg) (hf : ∀ c, AllFin m c) :
    θ_run (defs (F := Ideal)) (onTc (τ := τ) (main (F := Ideal))) ⟨m, fun _ => 0, ρ⟩
      (fun r => Pipeline.FramePost cfgs (kdats m (outBlk m)) 0 (V m) r ∧ r.2.sem = fun _ => 0) :=
  krun m ρ (outBlk m) fun c t y => out_of_trace m hf c t y

end Cert.Proof

end
-- ==== Proof.RefBase.lean ====
/- Constants and small facts that the layers of the reference use. -/
module

public import proofs.«01_k».proof.Proof.Gen.ReferenceIdeal.Read
public import proofs.«01_k».proof.Proof.Real
public import Idealize.ShloMosaic.Lib.Pointwise

@[expose] public section

set_option maxRecDepth 16384

noncomputable section

namespace Cert.RefSide

open Idealize.ShloMosaic
open Cert.Proof (Act coe_sum)

theorem zero_word : (FloatOps.sitofp .f32 (0#32 : BitVec 32) : Ideal .f32) = (0 : EReal) := by
  show (((0#32 : BitVec 32).toInt : ℝ) : EReal) = 0
  simp

theorem zero_bits : Ideal.ofBits .f32 0x00000000#32 = (0 : EReal) := by
  simp [Ideal.ofBits, Ideal.ieee]

theorem eps_bits : Ideal.ofBits .f32 0x3727C5AC#32 = ((Cert.Proof.eps : ℝ) : EReal) := by
  simp [Ideal.ofBits, Ideal.ieee, Cert.Proof.eps]
  all_goals norm_num
  all_goals (try (simp only [← EReal.coe_mul]; congr 1; norm_num))

theorem isq_bits : Ideal.ofBits .f32 0x3F3504F3#32 = ((Cert.Proof.isq : ℝ) : EReal) := by
  simp [Ideal.ofBits, Ideal.ieee, Cert.Proof.isq]
  all_goals norm_num
  all_goals (try (simp only [← EReal.coe_mul]; congr 1; norm_num))

theorem one_bits : Ideal.ofBits .f32 0x3F800000#32 = ((1 : ℝ) : EReal) := by
  simp [Ideal.ofBits, Ideal.ieee]
  all_goals norm_num
  all_goals (try (simp only [← EReal.coe_mul]; congr 1; norm_num))

theorem cnt64_bits : Ideal.ofBits .f32 0x48000000#32 = ((131072 : ℝ) : EReal) := by
  simp [Ideal.ofBits, Ideal.ieee]
  all_goals norm_num
  all_goals (try (simp only [← EReal.coe_mul]; congr 1; norm_num))

theorem cnt32_bits : Ideal.ofBits .f32 0x47000000#32 = ((32768 : ℝ) : EReal) := by
  simp [Ideal.ofBits, Ideal.ieee]
  all_goals norm_num
  all_goals (try (simp only [← EReal.coe_mul]; congr 1; norm_num))

theorem cnt16_bits : Ideal.ofBits .f32 0x46000000#32 = ((8192 : ℝ) : EReal) := by
  simp [Ideal.ofBits, Ideal.ieee]
  all_goals norm_num
  all_goals (try (simp only [← EReal.coe_mul]; congr 1; norm_num))

theorem n64_bits : Ideal.ofBits .f32 0x42800000#32 = ((64 : ℝ) : EReal) := by
  simp [Ideal.ofBits, Ideal.ieee]
  all_goals norm_num
  all_goals (try (simp only [← EReal.coe_mul]; congr 1; norm_num))

theorem n32_bits : Ideal.ofBits .f32 0x42000000#32 = ((32 : ℝ) : EReal) := by
  simp [Ideal.ofBits, Ideal.ieee]
  all_goals norm_num
  all_goals (try (simp only [← EReal.coe_mul]; congr 1; norm_num))

theorem rsqrt_pos (r : ℝ) (h : 0 < r) : Ideal.rsqrt ((r : ℝ) : EReal) = (((√r)⁻¹ : ℝ) : EReal) := by
  rw [Ideal.rsqrt_coe, if_neg (by linarith), if_neg (by linarith)]

theorem half_at (A : Act) (b c h v : ℕ) : Cert.Proof.half A b c h v = A b c (2 * h) (2 * v) := rfl

/-- The convolution as its nine taps, in the order the reference adds them. -/
theorem conv_nine (Ci H W : ℕ) (w : ℕ → ℕ → ℕ → ℕ → ℝ) (A : Act) (b o h v : ℕ) :
    Cert.Proof.conv Ci H W w A b o h v
      = (∑ i : Fin Ci, w o i 0 0 * Cert.Proof.pad H W (A b i) h v) + (∑ i : Fin Ci, w o i 0 1 * Cert.Proof.pad H W (A b i) h (1 + v))
        + (∑ i : Fin Ci, w o i 0 2 * Cert.Proof.pad H W (A b i) h (2 + v)) + (∑ i : Fin Ci, w o i 1 0 * Cert.Proof.pad H W (A b i) (1 + h) v)
        + (∑ i : Fin Ci, w o i 1 1 * Cert.Proof.pad H W (A b i) (1 + h) (1 + v)) + (∑ i : Fin Ci, w o i 1 2 * Cert.Proof.pad H W (A b i) (1 + h) (2 + v))
        + (∑ i : Fin Ci, w o i 2 0 * Cert.Proof.pad H W (A b i) (2 + h) v) + (∑ i : Fin Ci, w o i 2 1 * Cert.Proof.pad H W (A b i) (2 + h) (1 + v))
        + (∑ i : Fin Ci, w o i 2 2 * Cert.Proof.pad H W (A b i) (2 + h) (2 + v)) := by
  unfold Cert.Proof.conv
  simp only [Fin.sum_univ_three (M := ℝ) (f := fun dy : Fin 3 => ∑ dx : Fin 3, ∑ i : Fin Ci, w o i dy dx * Cert.Proof.pad H W (A b i) (h + dy) (v + dx))]
  rw [Fin.sum_univ_three (fun dx : Fin 3 => ∑ i : Fin Ci, w o i (0 : Fin 3) dx * Cert.Proof.pad H W (A b i) (h + (0 : Fin 3)) (v + dx)),
    Fin.sum_univ_three (fun dx : Fin 3 => ∑ i : Fin Ci, w o i (1 : Fin 3) dx * Cert.Proof.pad H W (A b i) (h + (1 : Fin 3)) (v + dx)),
    Fin.sum_univ_three (fun dx : Fin 3 => ∑ i : Fin Ci, w o i (2 : Fin 3) dx * Cert.Proof.pad H W (A b i) (h + (2 : Fin 3)) (v + dx))]
  simp only [Nat.add_comm h, Nat.add_comm v]
  have e0 : ((0 : Fin 3) : ℕ) = 0 := rfl
  have e1 : ((1 : Fin 3) : ℕ) = 1 := rfl
  have e2 : ((2 : Fin 3) : ℕ) = 2 := rfl
  simp only [e0, e1, e2, Nat.zero_add]
  ring

end Cert.RefSide
-- ==== Proof.RefLayer1.lean ====
/- The first layer of the reference, read at an index. -/
module

public import proofs.«01_k».proof.Proof.RefBase

@[expose] public section

set_option maxRecDepth 16384

noncomputable section

namespace Cert.RefSide

open Idealize.ShloMosaic
open Cert.ReferenceIdeal Cert.ReferenceIdeal.Gen Cert.ReferenceIdeal.Read
open Cert.Proof (Act coe_sum)

theorem padded1 (x0 : FVec Ideal S32x3x256x256 .f32) (n : Fin 16) (A : Act) (hX : ∀ (i : Fin 3) (b : Fin 32) (h w : Fin 64), val_main_v2 (F := Ideal) x0 (ix5 n i b h w) = ((A b i h w : ℝ) : EReal))
    (i : Fin 3) (b : Fin 32) (y x : Fin 66) :
    val_main_v3 (F := Ideal) x0 (ix5 n i b y x) = ((Cert.Proof.pad 64 64 (A b i) y x : ℝ) : EReal) := by
  unfold val_main_v3
  generalize val_main_v2 (F := Ideal) x0 = X at hX ⊢
  have hz : ∀ j, val_main_call0_v0 (F := Ideal) j = (0 : EReal) := fun j => zero_word
  generalize val_main_call0_v0 (F := Ideal) = z at hz ⊢
  pointwise
  rw [hz]
  by_cases hc : (1 ≤ y.val ∧ y.val - 1 < 64) ∧ 1 ≤ x.val ∧ x.val - 1 < 64
  · rw [dif_pos hc, hX, Cert.Proof.pad, if_pos (by omega)]
  · rw [dif_neg hc, Cert.Proof.pad, if_neg (by omega), EReal.coe_zero]

theorem conved1 (x0 : FVec Ideal S32x3x256x256 .f32) (x1 : FVec Ideal S16x16x3x3x3 .f32) (n : Fin 16) (A : Act) (kk : ℕ → ℕ → ℕ → ℕ → ℝ) (hX : ∀ (i : Fin 3) (b : Fin 32) (h w : Fin 64), val_main_v2 (F := Ideal) x0 (ix5 n i b h w) = ((A b i h w : ℝ) : EReal))
    (hk : ∀ (o : Fin 16) (i : Fin 3) (dy dx : Fin 3), x1 (ix5 n o i dy dx) = ((kk o i dy dx : ℝ) : EReal)) (o : Fin 16) (b : Fin 32) (h w : Fin 64) :
    val_main_v48 (F := Ideal) x0 x1 (ix5 n o b h w) = (((Cert.Proof.conv 3 64 64 kk A) b o h w : ℝ) : EReal) := by
  have hY := padded1 x0 n A hX
  unfold val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4
  generalize val_main_v3 (F := Ideal) x0 = Y at hY ⊢
  pointwise
  simp only [hY, hk, ← EReal.coe_mul, ← coe_sum, ← EReal.coe_add]

  rw [conv_nine]
  congr! 2

theorem mean1 (x0 : FVec Ideal S32x3x256x256 .f32) (x1 : FVec Ideal S16x16x3x3x3 .f32) (n : Fin 16) (C : Act) (hC : ∀ (o : Fin 16) (b : Fin 32) (h w : Fin 64), val_main_v48 (F := Ideal) x0 x1 (ix5 n o b h w) = ((C b o h w : ℝ) : EReal)) (o : Fin 16) :
    val_main_v52 (F := Ideal) x0 x1 (ix5 n o (0 : Fin 1) (0 : Fin 1) (0 : Fin 1)) = ((Cert.Proof.mean 64 64 C o : ℝ) : EReal) := by
  unfold val_main_v52 val_main_v51 val_main_v50 val_main_v49 val_main_cst val_main_cst_0
  generalize val_main_v48 (F := Ideal) x0 x1 = Y at hC ⊢
  pointwise
  simp only [hC, ← coe_sum]
  rw [cnt64_bits, Ideal.div_coe (by norm_num)]
  try simp only [zero_bits, zero_add]
  rw [← EReal.coe_mul, mul_one_div]
  congr 1
  unfold Cert.Proof.mean
  norm_num

theorem dev1 (x0 : FVec Ideal S32x3x256x256 .f32) (x1 : FVec Ideal S16x16x3x3x3 .f32) (n : Fin 16) (C : Act) (hC : ∀ (o : Fin 16) (b : Fin 32) (h w : Fin 64), val_main_v48 (F := Ideal) x0 x1 (ix5 n o b h w) = ((C b o h w : ℝ) : EReal)) (o : Fin 16) (b : Fin 32) (h w : Fin 64) :
    val_main_v54 (F := Ideal) x0 x1 (ix5 n o b h w) = ((C b o h w - Cert.Proof.mean 64 64 C o : ℝ) : EReal) := by
  have hM := mean1 x0 x1 n C hC
  unfold val_main_v54 val_main_v53
  generalize val_main_v52 (F := Ideal) x0 x1 = M at hM ⊢
  generalize val_main_v48 (F := Ideal) x0 x1 = Y at hC ⊢
  pointwise
  rw [hC, hM, ← EReal.coe_sub]

theorem var1 (x0 : FVec Ideal S32x3x256x256 .f32) (x1 : FVec Ideal S16x16x3x3x3 .f32) (n : Fin 16) (C : Act) (hC : ∀ (o : Fin 16) (b : Fin 32) (h w : Fin 64), val_main_v48 (F := Ideal) x0 x1 (ix5 n o b h w) = ((C b o h w : ℝ) : EReal)) (o : Fin 16) :
    val_main_v59 (F := Ideal) x0 x1 (ix5 n o (0 : Fin 1) (0 : Fin 1) (0 : Fin 1)) = ((Cert.Proof.var 64 64 C o : ℝ) : EReal) := by
  have hD := dev1 x0 x1 n C hC
  unfold val_main_v59 val_main_v58 val_main_v57 val_main_v56 val_main_v55 val_main_cst_1 val_main_cst_2
  generalize val_main_v54 (F := Ideal) x0 x1 = Y at hD ⊢
  pointwise
  simp only [hD, ← EReal.coe_mul, ← coe_sum]
  rw [cnt64_bits, Ideal.div_coe (by norm_num)]
  try simp only [zero_bits, zero_add]
  rw [← EReal.coe_mul, mul_one_div]
  congr 1
  unfold Cert.Proof.var
  norm_num

theorem scale1 (x0 : FVec Ideal S32x3x256x256 .f32) (x1 : FVec Ideal S16x16x3x3x3 .f32) (n : Fin 16) (C : Act) (hC : ∀ (o : Fin 16) (b : Fin 32) (h w : Fin 64), val_main_v48 (F := Ideal) x0 x1 (ix5 n o b h w) = ((C b o h w : ℝ) : EReal)) (o : Fin 16) :
    val_main_v62 (F := Ideal) x0 x1 (ix5 n o (0 : Fin 1) (0 : Fin 1) (0 : Fin 1)) = (((√(Cert.Proof.var 64 64 C o + Cert.Proof.eps))⁻¹ : ℝ) : EReal) := by
  have hV := var1 x0 x1 n C hC
  unfold val_main_v62 val_main_v61 val_main_v60 val_main_cst_3
  generalize val_main_v59 (F := Ideal) x0 x1 = Y at hV ⊢
  pointwise
  rw [hV, eps_bits, ← EReal.coe_add, rsqrt_pos _ (add_pos_of_nonneg_of_pos (Cert.Proof.var_nonneg _ _ _ _) Cert.Proof.eps_pos)]

theorem layer1 (x0 : FVec Ideal S32x3x256x256 .f32) (x1 : FVec Ideal S16x16x3x3x3 .f32) (x2 : FVec Ideal S16x3x16 .f32) (n : Fin 16) (A : Act) (kk : ℕ → ℕ → ℕ → ℕ → ℝ) (aa : ℕ → ℕ → ℝ) (hX : ∀ (i : Fin 3) (b : Fin 32) (h w : Fin 64), val_main_v2 (F := Ideal) x0 (ix5 n i b h w) = ((A b i h w : ℝ) : EReal))
    (hk : ∀ (o : Fin 16) (i : Fin 3) (dy dx : Fin 3), x1 (ix5 n o i dy dx) = ((kk o i dy dx : ℝ) : EReal))
    (ha : ∀ (t : Fin 3) (o : Fin 16), x2 (ix3 n t o) = ((aa t o : ℝ) : EReal)) (o : Fin 16) (b : Fin 32) (h w : Fin 64) :
    val_main_v85 (F := Ideal) x0 x1 x2 (ix5 n o b h w) = ((Cert.Proof.act 64 64 aa (Cert.Proof.conv 3 64 64 kk A) b o h w : ℝ) : EReal) := by
  have hC := conved1 x0 x1 n A kk hX hk
  have hD := dev1 x0 x1 n _ hC
  have hS := scale1 x0 x1 n _ hC
  unfold val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_cst_4 val_main_cst_5
  generalize val_main_v54 (F := Ideal) x0 x1 = Y at hD ⊢
  generalize val_main_v62 (F := Ideal) x0 x1 = Z at hS ⊢
  pointwise
  simp only [hD, hS, ha, one_bits, isq_bits, ← EReal.coe_mul, ← EReal.coe_add, ← EReal.coe_sub]
  rfl

end Cert.RefSide
-- ==== Proof.RefLayer2.lean ====
/- The second layer of the reference, read at an index. -/
module

public import proofs.«01_k».proof.Proof.RefBase

@[expose] public section

set_option maxRecDepth 16384

noncomputable section

namespace Cert.RefSide

open Idealize.ShloMosaic
open Cert.ReferenceIdeal Cert.ReferenceIdeal.Gen Cert.ReferenceIdeal.Read
open Cert.Proof (Act coe_sum)

theorem padded2 (x0 : FVec Ideal S32x3x256x256 .f32) (x1 : FVec Ideal S16x16x3x3x3 .f32) (x2 : FVec Ideal S16x3x16 .f32) (n : Fin 16) (A : Act) (hX : ∀ (i : Fin 16) (b : Fin 32) (h w : Fin 64), val_main_v85 (F := Ideal) x0 x1 x2 (ix5 n i b h w) = ((A b i h w : ℝ) : EReal))
    (i : Fin 16) (b : Fin 32) (y x : Fin 66) :
    val_main_v86 (F := Ideal) x0 x1 x2 (ix5 n i b y x) = ((Cert.Proof.pad 64 64 (A b i) y x : ℝ) : EReal) := by
  unfold val_main_v86
  generalize val_main_v85 (F := Ideal) x0 x1 x2 = X at hX ⊢
  have hz : ∀ j, val_main_call1_v0 (F := Ideal) j = (0 : EReal) := fun j => zero_word
  generalize val_main_call1_v0 (F := Ideal) = z at hz ⊢
  pointwise
  rw [hz]
  by_cases hc : (1 ≤ y.val ∧ y.val - 1 < 64) ∧ 1 ≤ x.val ∧ x.val - 1 < 64
  · rw [dif_pos hc, hX, Cert.Proof.pad, if_pos (by omega)]
  · rw [dif_neg hc, Cert.Proof.pad, if_neg (by omega), EReal.coe_zero]

theorem conved2 (x0 : FVec Ideal S32x3x256x256 .f32) (x1 : FVec Ideal S16x16x3x3x3 .f32) (x2 : FVec Ideal S16x3x16 .f32) (x3 : FVec Ideal S16x16x16x3x3 .f32) (n : Fin 16) (A : Act) (kk : ℕ → ℕ → ℕ → ℕ → ℝ) (hX : ∀ (i : Fin 16) (b : Fin 32) (h w : Fin 64), val_main_v85 (F := Ideal) x0 x1 x2 (ix5 n i b h w) = ((A b i h w : ℝ) : EReal))
    (hk : ∀ (o : Fin 16) (i : Fin 16) (dy dx : Fin 3), x3 (ix5 n o i dy dx) = ((kk o i dy dx : ℝ) : EReal)) (o : Fin 16) (b : Fin 32) (h w : Fin 64) :
    val_main_v131 (F := Ideal) x0 x1 x2 x3 (ix5 n o b h w) = (((Cert.Proof.conv 16 64 64 kk A) b o h w : ℝ) : EReal) := by
  have hY := padded2 x0 x1 x2 n A hX
  unfold val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87
  generalize val_main_v86 (F := Ideal) x0 x1 x2 = Y at hY ⊢
  pointwise
  simp only [hY, hk, ← EReal.coe_mul, ← coe_sum, ← EReal.coe_add]

  rw [conv_nine]
  congr! 2

theorem mean2 (x0 : FVec Ideal S32x3x256x256 .f32) (x1 : FVec Ideal S16x16x3x3x3 .f32) (x2 : FVec Ideal S16x3x16 .f32) (x3 : FVec Ideal S16x16x16x3x3 .f32) (n : Fin 16) (C : Act) (hC : ∀ (o : Fin 16) (b : Fin 32) (h w : Fin 64), val_main_v131 (F := Ideal) x0 x1 x2 x3 (ix5 n o b h w) = ((C b o h w : ℝ) : EReal)) (o : Fin 16) :
    val_main_v135 (F := Ideal) x0 x1 x2 x3 (ix5 n o (0 : Fin 1) (0 : Fin 1) (0 : Fin 1)) = ((Cert.Proof.mean 64 64 C o : ℝ) : EReal) := by
  unfold val_main_v135 val_main_v134 val_main_v133 val_main_v132 val_main_cst_7 val_main_cst_8
  generalize val_main_v131 (F := Ideal) x0 x1 x2 x3 = Y at hC ⊢
  pointwise
  simp only [hC, ← coe_sum]
  rw [cnt64_bits, Ideal.div_coe (by norm_num)]
  try simp only [zero_bits, zero_add]
  rw [← EReal.coe_mul, mul_one_div]
  congr 1
  unfold Cert.Proof.mean
  norm_num

theorem dev2 (x0 : FVec Ideal S32x3x256x256 .f32) (x1 : FVec Ideal S16x16x3x3x3 .f32) (x2 : FVec Ideal S16x3x16 .f32) (x3 : FVec Ideal S16x16x16x3x3 .f32) (n : Fin 16) (C : Act) (hC : ∀ (o : Fin 16) (b : Fin 32) (h w : Fin 64), val_main_v131 (F := Ideal) x0 x1 x2 x3 (ix5 n o b h w) = ((C b o h w : ℝ) : EReal)) (o : Fin 16) (b : Fin 32) (h w : Fin 64) :
    val_main_v137 (F := Ideal) x0 x1 x2 x3 (ix5 n o b h w) = ((C b o h w - Cert.Proof.mean 64 64 C o : ℝ) : EReal) := by
  have hM := mean2 x0 x1 x2 x3 n C hC
  unfold val_main_v137 val_main_v136
  generalize val_main_v135 (F := Ideal) x0 x1 x2 x3 = M at hM ⊢
  generalize val_main_v131 (F := Ideal) x0 x1 x2 x3 = Y at hC ⊢
  pointwise
  rw [hC, hM, ← EReal.coe_sub]

theorem var2 (x0 : FVec Ideal S32x3x256x256 .f32) (x1 : FVec Ideal S16x16x3x3x3 .f32) (x2 : FVec Ideal S16x3x16 .f32) (x3 : FVec Ideal S16x16x16x3x3 .f32) (n : Fin 16) (C : Act) (hC : ∀ (o : Fin 16) (b : Fin 32) (h w : Fin 64), val_main_v131 (F := Ideal) x0 x1 x2 x3 (ix5 n o b h w) = ((C b o h w : ℝ) : EReal)) (o : Fin 16) :
    val_main_v142 (F := Ideal) x0 x1 x2 x3 (ix5 n o (0 : Fin 1) (0 : Fin 1) (0 : Fin 1)) = ((Cert.Proof.var 64 64 C o : ℝ) : EReal) := by
  have hD := dev2 x0 x1 x2 x3 n C hC
  unfold val_main_v142 val_main_v141 val_main_v140 val_main_v139 val_main_v138 val_main_cst_9 val_main_cst_10
  generalize val_main_v137 (F := Ideal) x0 x1 x2 x3 = Y at hD ⊢
  pointwise
  simp only [hD, ← EReal.coe_mul, ← coe_sum]
  rw [cnt64_bits, Ideal.div_coe (by norm_num)]
  try simp only [zero_bits, zero_add]
  rw [← EReal.coe_mul, mul_one_div]
  congr 1
  unfold Cert.Proof.var
  norm_num

theorem scale2 (x0 : FVec Ideal S32x3x256x256 .f32) (x1 : FVec Ideal S16x16x3x3x3 .f32) (x2 : FVec Ideal S16x3x16 .f32) (x3 : FVec Ideal S16x16x16x3x3 .f32) (n : Fin 16) (C : Act) (hC : ∀ (o : Fin 16) (b : Fin 32) (h w : Fin 64), val_main_v131 (F := Ideal) x0 x1 x2 x3 (ix5 n o b h w) = ((C b o h w : ℝ) : EReal)) (o : Fin 16) :
    val_main_v145 (F := Ideal) x0 x1 x2 x3 (ix5 n o (0 : Fin 1) (0 : Fin 1) (0 : Fin 1)) = (((√(Cert.Proof.var 64 64 C o + Cert.Proof.eps))⁻¹ : ℝ) : EReal) := by
  have hV := var2 x0 x1 x2 x3 n C hC
  unfold val_main_v145 val_main_v144 val_main_v143 val_main_cst_11
  generalize val_main_v142 (F := Ideal) x0 x1 x2 x3 = Y at hV ⊢
  pointwise
  rw [hV, eps_bits, ← EReal.coe_add, rsqrt_pos _ (add_pos_of_nonneg_of_pos (Cert.Proof.var_nonneg _ _ _ _) Cert.Proof.eps_pos)]

theorem layer2 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (n : Fin 16) (A : Act) (kk : ℕ → ℕ → ℕ → ℕ → ℝ) (aa : ℕ → ℕ → ℝ) (hX : ∀ (i : Fin 16) (b : Fin 32) (h w : Fin 64), val_main_v85 (F := Ideal) x0 x1 x2 (ix5 n i b h w) = ((A b i h w : ℝ) : EReal))
    (hk : ∀ (o : Fin 16) (i : Fin 16) (dy dx : Fin 3), x3 (ix5 n o i dy dx) = ((kk o i dy dx : ℝ) : EReal))
    (ha : ∀ (t : Fin 3) (o : Fin 16), x4 (ix3 n t o) = ((aa t o : ℝ) : EReal)) (o : Fin 16) (b : Fin 32) (h w : Fin 64) :
    val_main_v168 (F := Ideal) x0 x1 x2 x3 x4 (ix5 n o b h w) = ((Cert.Proof.act 64 64 aa (Cert.Proof.conv 16 64 64 kk A) b o h w : ℝ) : EReal) := by
  have hC := conved2 x0 x1 x2 x3 n A kk hX hk
  have hD := dev2 x0 x1 x2 x3 n _ hC
  have hS := scale2 x0 x1 x2 x3 n _ hC
  unfold val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_cst_12 val_main_cst_13
  generalize val_main_v137 (F := Ideal) x0 x1 x2 x3 = Y at hD ⊢
  generalize val_main_v145 (F := Ideal) x0 x1 x2 x3 = Z at hS ⊢
  pointwise
  simp only [hD, hS, ha, one_bits, isq_bits, ← EReal.coe_mul, ← EReal.coe_add, ← EReal.coe_sub]
  rfl

end Cert.RefSide
-- ==== Proof.RefLayer3.lean ====
/- The third layer of the reference, read at an index. -/
module

public import proofs.«01_k».proof.Proof.RefBase

@[expose] public section

set_option maxRecDepth 16384

noncomputable section

namespace Cert.RefSide

open Idealize.ShloMosaic
open Cert.ReferenceIdeal Cert.ReferenceIdeal.Gen Cert.ReferenceIdeal.Read
open Cert.Proof (Act coe_sum)

theorem padded3 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (n : Fin 16) (A : Act) (hX : ∀ (i : Fin 16) (b : Fin 32) (h w : Fin 64), val_main_v168 (F := Ideal) x0 x1 x2 x3 x4 (ix5 n i b h w) = ((A b i h w : ℝ) : EReal))
    (i : Fin 16) (b : Fin 32) (y x : Fin 66) :
    val_main_v169 (F := Ideal) x0 x1 x2 x3 x4 (ix5 n i b y x) = ((Cert.Proof.pad 64 64 (A b i) y x : ℝ) : EReal) := by
  unfold val_main_v169
  generalize val_main_v168 (F := Ideal) x0 x1 x2 x3 x4 = X at hX ⊢
  have hz : ∀ j, val_main_call2_v0 (F := Ideal) j = (0 : EReal) := fun j => zero_word
  generalize val_main_call2_v0 (F := Ideal) = z at hz ⊢
  pointwise
  rw [hz]
  by_cases hc : (1 ≤ y.val ∧ y.val - 1 < 64) ∧ 1 ≤ x.val ∧ x.val - 1 < 64
  · rw [dif_pos hc, hX, Cert.Proof.pad, if_pos (by omega)]
  · rw [dif_neg hc, Cert.Proof.pad, if_neg (by omega), EReal.coe_zero]

theorem conved3 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (n : Fin 16) (A : Act) (kk : ℕ → ℕ → ℕ → ℕ → ℝ) (hX : ∀ (i : Fin 16) (b : Fin 32) (h w : Fin 64), val_main_v168 (F := Ideal) x0 x1 x2 x3 x4 (ix5 n i b h w) = ((A b i h w : ℝ) : EReal))
    (hk : ∀ (o : Fin 32) (i : Fin 16) (dy dx : Fin 3), x5 (ix5 n o i dy dx) = ((kk o i dy dx : ℝ) : EReal)) (o : Fin 32) (b : Fin 32) (h w : Fin 32) :
    val_main_v214 (F := Ideal) x0 x1 x2 x3 x4 x5 (ix5 n o b h w) = (((Cert.Proof.half (Cert.Proof.conv 16 64 64 kk A)) b o h w : ℝ) : EReal) := by
  have hY := padded3 x0 x1 x2 x3 x4 n A hX
  unfold val_main_v214 val_main_v213 val_main_v212 val_main_v211 val_main_v210 val_main_v209 val_main_v208 val_main_v207 val_main_v206 val_main_v205 val_main_v204 val_main_v203 val_main_v202 val_main_v201 val_main_v200 val_main_v199 val_main_v198 val_main_v197 val_main_v196 val_main_v195 val_main_v194 val_main_v193 val_main_v192 val_main_v191 val_main_v190 val_main_v189 val_main_v188 val_main_v187 val_main_v186 val_main_v185 val_main_v184 val_main_v183 val_main_v182 val_main_v181 val_main_v180 val_main_v179 val_main_v178 val_main_v177 val_main_v176 val_main_v175 val_main_v174 val_main_v173 val_main_v172 val_main_v171 val_main_v170
  generalize val_main_v169 (F := Ideal) x0 x1 x2 x3 x4 = Y at hY ⊢
  pointwise
  simp only [hY, hk, ← EReal.coe_mul, ← coe_sum, ← EReal.coe_add]
  rw [half_at]
  rw [conv_nine]
  congr! 2

theorem mean3 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (n : Fin 16) (C : Act) (hC : ∀ (o : Fin 32) (b : Fin 32) (h w : Fin 32), val_main_v214 (F := Ideal) x0 x1 x2 x3 x4 x5 (ix5 n o b h w) = ((C b o h w : ℝ) : EReal)) (o : Fin 32) :
    val_main_v218 (F := Ideal) x0 x1 x2 x3 x4 x5 (ix5 n o (0 : Fin 1) (0 : Fin 1) (0 : Fin 1)) = ((Cert.Proof.mean 32 32 C o : ℝ) : EReal) := by
  unfold val_main_v218 val_main_v217 val_main_v216 val_main_v215 val_main_cst_15 val_main_cst_16
  generalize val_main_v214 (F := Ideal) x0 x1 x2 x3 x4 x5 = Y at hC ⊢
  pointwise
  simp only [hC, ← coe_sum]
  rw [cnt32_bits, Ideal.div_coe (by norm_num)]
  try simp only [zero_bits, zero_add]
  rw [← EReal.coe_mul, mul_one_div]
  congr 1
  unfold Cert.Proof.mean
  norm_num

theorem dev3 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (n : Fin 16) (C : Act) (hC : ∀ (o : Fin 32) (b : Fin 32) (h w : Fin 32), val_main_v214 (F := Ideal) x0 x1 x2 x3 x4 x5 (ix5 n o b h w) = ((C b o h w : ℝ) : EReal)) (o : Fin 32) (b : Fin 32) (h w : Fin 32) :
    val_main_v220 (F := Ideal) x0 x1 x2 x3 x4 x5 (ix5 n o b h w) = ((C b o h w - Cert.Proof.mean 32 32 C o : ℝ) : EReal) := by
  have hM := mean3 x0 x1 x2 x3 x4 x5 n C hC
  unfold val_main_v220 val_main_v219
  generalize val_main_v218 (F := Ideal) x0 x1 x2 x3 x4 x5 = M at hM ⊢
  generalize val_main_v214 (F := Ideal) x0 x1 x2 x3 x4 x5 = Y at hC ⊢
  pointwise
  rw [hC, hM, ← EReal.coe_sub]

theorem var3 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (n : Fin 16) (C : Act) (hC : ∀ (o : Fin 32) (b : Fin 32) (h w : Fin 32), val_main_v214 (F := Ideal) x0 x1 x2 x3 x4 x5 (ix5 n o b h w) = ((C b o h w : ℝ) : EReal)) (o : Fin 32) :
    val_main_v225 (F := Ideal) x0 x1 x2 x3 x4 x5 (ix5 n o (0 : Fin 1) (0 : Fin 1) (0 : Fin 1)) = ((Cert.Proof.var 32 32 C o : ℝ) : EReal) := by
  have hD := dev3 x0 x1 x2 x3 x4 x5 n C hC
  unfold val_main_v225 val_main_v224 val_main_v223 val_main_v222 val_main_v221 val_main_cst_17 val_main_cst_18
  generalize val_main_v220 (F := Ideal) x0 x1 x2 x3 x4 x5 = Y at hD ⊢
  pointwise
  simp only [hD, ← EReal.coe_mul, ← coe_sum]
  rw [cnt32_bits, Ideal.div_coe (by norm_num)]
  try simp only [zero_bits, zero_add]
  rw [← EReal.coe_mul, mul_one_div]
  congr 1
  unfold Cert.Proof.var
  norm_num

theorem scale3 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (n : Fin 16) (C : Act) (hC : ∀ (o : Fin 32) (b : Fin 32) (h w : Fin 32), val_main_v214 (F := Ideal) x0 x1 x2 x3 x4 x5 (ix5 n o b h w) = ((C b o h w : ℝ) : EReal)) (o : Fin 32) :
    val_main_v228 (F := Ideal) x0 x1 x2 x3 x4 x5 (ix5 n o (0 : Fin 1) (0 : Fin 1) (0 : Fin 1)) = (((√(Cert.Proof.var 32 32 C o + Cert.Proof.eps))⁻¹ : ℝ) : EReal) := by
  have hV := var3 x0 x1 x2 x3 x4 x5 n C hC
  unfold val_main_v228 val_main_v227 val_main_v226 val_main_cst_19
  generalize val_main_v225 (F := Ideal) x0 x1 x2 x3 x4 x5 = Y at hV ⊢
  pointwise
  rw [hV, eps_bits, ← EReal.coe_add, rsqrt_pos _ (add_pos_of_nonneg_of_pos (Cert.Proof.var_nonneg _ _ _ _) Cert.Proof.eps_pos)]

theorem layer3 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (n : Fin 16) (A : Act) (kk : ℕ → ℕ → ℕ → ℕ → ℝ) (aa : ℕ → ℕ → ℝ) (hX : ∀ (i : Fin 16) (b : Fin 32) (h w : Fin 64), val_main_v168 (F := Ideal) x0 x1 x2 x3 x4 (ix5 n i b h w) = ((A b i h w : ℝ) : EReal))
    (hk : ∀ (o : Fin 32) (i : Fin 16) (dy dx : Fin 3), x5 (ix5 n o i dy dx) = ((kk o i dy dx : ℝ) : EReal))
    (ha : ∀ (t : Fin 3) (o : Fin 32), x6 (ix3 n t o) = ((aa t o : ℝ) : EReal)) (o : Fin 32) (b : Fin 32) (h w : Fin 32) :
    val_main_v251 (F := Ideal) x0 x1 x2 x3 x4 x5 x6 (ix5 n o b h w) = ((Cert.Proof.act 32 32 aa (Cert.Proof.half (Cert.Proof.conv 16 64 64 kk A)) b o h w : ℝ) : EReal) := by
  have hC := conved3 x0 x1 x2 x3 x4 x5 n A kk hX hk
  have hD := dev3 x0 x1 x2 x3 x4 x5 n _ hC
  have hS := scale3 x0 x1 x2 x3 x4 x5 n _ hC
  unfold val_main_v251 val_main_v250 val_main_v249 val_main_v248 val_main_v247 val_main_v246 val_main_v245 val_main_v244 val_main_v243 val_main_v242 val_main_v241 val_main_v240 val_main_v239 val_main_v238 val_main_v237 val_main_v236 val_main_v235 val_main_v234 val_main_v233 val_main_v232 val_main_v231 val_main_v230 val_main_v229 val_main_cst_20 val_main_cst_21
  generalize val_main_v220 (F := Ideal) x0 x1 x2 x3 x4 x5 = Y at hD ⊢
  generalize val_main_v228 (F := Ideal) x0 x1 x2 x3 x4 x5 = Z at hS ⊢
  pointwise
  simp only [hD, hS, ha, one_bits, isq_bits, ← EReal.coe_mul, ← EReal.coe_add, ← EReal.coe_sub]
  rfl

end Cert.RefSide
-- ==== Proof.RefLayer4.lean ====
/- The fourth layer of the reference, read at an index. -/
module

public import proofs.«01_k».proof.Proof.RefBase

@[expose] public section

set_option maxRecDepth 16384

noncomputable section

namespace Cert.RefSide

open Idealize.ShloMosaic
open Cert.ReferenceIdeal Cert.ReferenceIdeal.Gen Cert.ReferenceIdeal.Read
open Cert.Proof (Act coe_sum)

theorem padded4 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (n : Fin 16) (A : Act) (hX : ∀ (i : Fin 32) (b : Fin 32) (h w : Fin 32), val_main_v251 (F := Ideal) x0 x1 x2 x3 x4 x5 x6 (ix5 n i b h w) = ((A b i h w : ℝ) : EReal))
    (i : Fin 32) (b : Fin 32) (y x : Fin 34) :
    val_main_v252 (F := Ideal) x0 x1 x2 x3 x4 x5 x6 (ix5 n i b y x) = ((Cert.Proof.pad 32 32 (A b i) y x : ℝ) : EReal) := by
  unfold val_main_v252
  generalize val_main_v251 (F := Ideal) x0 x1 x2 x3 x4 x5 x6 = X at hX ⊢
  have hz : ∀ j, val_main_call3_v0 (F := Ideal) j = (0 : EReal) := fun j => zero_word
  generalize val_main_call3_v0 (F := Ideal) = z at hz ⊢
  pointwise
  rw [hz]
  by_cases hc : (1 ≤ y.val ∧ y.val - 1 < 32) ∧ 1 ≤ x.val ∧ x.val - 1 < 32
  · rw [dif_pos hc, hX, Cert.Proof.pad, if_pos (by omega)]
  · rw [dif_neg hc, Cert.Proof.pad, if_neg (by omega), EReal.coe_zero]

theorem conved4 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (n : Fin 16) (A : Act) (kk : ℕ → ℕ → ℕ → ℕ → ℝ) (hX : ∀ (i : Fin 32) (b : Fin 32) (h w : Fin 32), val_main_v251 (F := Ideal) x0 x1 x2 x3 x4 x5 x6 (ix5 n i b h w) = ((A b i h w : ℝ) : EReal))
    (hk : ∀ (o : Fin 32) (i : Fin 32) (dy dx : Fin 3), x7 (ix5 n o i dy dx) = ((kk o i dy dx : ℝ) : EReal)) (o : Fin 32) (b : Fin 32) (h w : Fin 32) :
    val_main_v297 (F := Ideal) x0 x1 x2 x3 x4 x5 x6 x7 (ix5 n o b h w) = (((Cert.Proof.conv 32 32 32 kk A) b o h w : ℝ) : EReal) := by
  have hY := padded4 x0 x1 x2 x3 x4 x5 x6 n A hX
  unfold val_main_v297 val_main_v296 val_main_v295 val_main_v294 val_main_v293 val_main_v292 val_main_v291 val_main_v290 val_main_v289 val_main_v288 val_main_v287 val_main_v286 val_main_v285 val_main_v284 val_main_v283 val_main_v282 val_main_v281 val_main_v280 val_main_v279 val_main_v278 val_main_v277 val_main_v276 val_main_v275 val_main_v274 val_main_v273 val_main_v272 val_main_v271 val_main_v270 val_main_v269 val_main_v268 val_main_v267 val_main_v266 val_main_v265 val_main_v264 val_main_v263 val_main_v262 val_main_v261 val_main_v260 val_main_v259 val_main_v258 val_main_v257 val_main_v256 val_main_v255 val_main_v254 val_main_v253
  generalize val_main_v252 (F := Ideal) x0 x1 x2 x3 x4 x5 x6 = Y at hY ⊢
  pointwise
  simp only [hY, hk, ← EReal.coe_mul, ← coe_sum, ← EReal.coe_add]

  rw [conv_nine]
  congr! 2

theorem mean4 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (n : Fin 16) (C : Act) (hC : ∀ (o : Fin 32) (b : Fin 32) (h w : Fin 32), val_main_v297 (F := Ideal) x0 x1 x2 x3 x4 x5 x6 x7 (ix5 n o b h w) = ((C b o h w : ℝ) : EReal)) (o : Fin 32) :
    val_main_v301 (F := Ideal) x0 x1 x2 x3 x4 x5 x6 x7 (ix5 n o (0 : Fin 1) (0 : Fin 1) (0 : Fin 1)) = ((Cert.Proof.mean 32 32 C o : ℝ) : EReal) := by
  unfold val_main_v301 val_main_v300 val_main_v299 val_main_v298 val_main_cst_23 val_main_cst_24
  generalize val_main_v297 (F := Ideal) x0 x1 x2 x3 x4 x5 x6 x7 = Y at hC ⊢
  pointwise
  simp only [hC, ← coe_sum]
  rw [cnt32_bits, Ideal.div_coe (by norm_num)]
  try simp only [zero_bits, zero_add]
  rw [← EReal.coe_mul, mul_one_div]
  congr 1
  unfold Cert.Proof.mean
  norm_num

theorem dev4 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (n : Fin 16) (C : Act) (hC : ∀ (o : Fin 32) (b : Fin 32) (h w : Fin 32), val_main_v297 (F := Ideal) x0 x1 x2 x3 x4 x5 x6 x7 (ix5 n o b h w) = ((C b o h w : ℝ) : EReal)) (o : Fin 32) (b : Fin 32) (h w : Fin 32) :
    val_main_v303 (F := Ideal) x0 x1 x2 x3 x4 x5 x6 x7 (ix5 n o b h w) = ((C b o h w - Cert.Proof.mean 32 32 C o : ℝ) : EReal) := by
  have hM := mean4 x0 x1 x2 x3 x4 x5 x6 x7 n C hC
  unfold val_main_v303 val_main_v302
  generalize val_main_v301 (F := Ideal) x0 x1 x2 x3 x4 x5 x6 x7 = M at hM ⊢
  generalize val_main_v297 (F := Ideal) x0 x1 x2 x3 x4 x5 x6 x7 = Y at hC ⊢
  pointwise
  rw [hC, hM, ← EReal.coe_sub]

theorem var4 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (n : Fin 16) (C : Act) (hC : ∀ (o : Fin 32) (b : Fin 32) (h w : Fin 32), val_main_v297 (F := Ideal) x0 x1 x2 x3 x4 x5 x6 x7 (ix5 n o b h w) = ((C b o h w : ℝ) : EReal)) (o : Fin 32) :
    val_main_v308 (F := Ideal) x0 x1 x2 x3 x4 x5 x6 x7 (ix5 n o (0 : Fin 1) (0 : Fin 1) (0 : Fin 1)) = ((Cert.Proof.var 32 32 C o : ℝ) : EReal) := by
  have hD := dev4 x0 x1 x2 x3 x4 x5 x6 x7 n C hC
  unfold val_main_v308 val_main_v307 val_main_v306 val_main_v305 val_main_v304 val_main_cst_25 val_main_cst_26
  generalize val_main_v303 (F := Ideal) x0 x1 x2 x3 x4 x5 x6 x7 = Y at hD ⊢
  pointwise
  simp only [hD, ← EReal.coe_mul, ← coe_sum]
  rw [cnt32_bits, Ideal.div_coe (by norm_num)]
  try simp only [zero_bits, zero_add]
  rw [← EReal.coe_mul, mul_one_div]
  congr 1
  unfold Cert.Proof.var
  norm_num

theorem scale4 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (n : Fin 16) (C : Act) (hC : ∀ (o : Fin 32) (b : Fin 32) (h w : Fin 32), val_main_v297 (F := Ideal) x0 x1 x2 x3 x4 x5 x6 x7 (ix5 n o b h w) = ((C b o h w : ℝ) : EReal)) (o : Fin 32) :
    val_main_v311 (F := Ideal) x0 x1 x2 x3 x4 x5 x6 x7 (ix5 n o (0 : Fin 1) (0 : Fin 1) (0 : Fin 1)) = (((√(Cert.Proof.var 32 32 C o + Cert.Proof.eps))⁻¹ : ℝ) : EReal) := by
  have hV := var4 x0 x1 x2 x3 x4 x5 x6 x7 n C hC
  unfold val_main_v311 val_main_v310 val_main_v309 val_main_cst_27
  generalize val_main_v308 (F := Ideal) x0 x1 x2 x3 x4 x5 x6 x7 = Y at hV ⊢
  pointwise
  rw [hV, eps_bits, ← EReal.coe_add, rsqrt_pos _ (add_pos_of_nonneg_of_pos (Cert.Proof.var_nonneg _ _ _ _) Cert.Proof.eps_pos)]

theorem layer4 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (n : Fin 16) (A : Act) (kk : ℕ → ℕ → ℕ → ℕ → ℝ) (aa : ℕ → ℕ → ℝ) (hX : ∀ (i : Fin 32) (b : Fin 32) (h w : Fin 32), val_main_v251 (F := Ideal) x0 x1 x2 x3 x4 x5 x6 (ix5 n i b h w) = ((A b i h w : ℝ) : EReal))
    (hk : ∀ (o : Fin 32) (i : Fin 32) (dy dx : Fin 3), x7 (ix5 n o i dy dx) = ((kk o i dy dx : ℝ) : EReal))
    (ha : ∀ (t : Fin 3) (o : Fin 32), x8 (ix3 n t o) = ((aa t o : ℝ) : EReal)) (o : Fin 32) (b : Fin 32) (h w : Fin 32) :
    val_main_v334 (F := Ideal) x0 x1 x2 x3 x4 x5 x6 x7 x8 (ix5 n o b h w) = ((Cert.Proof.act 32 32 aa (Cert.Proof.conv 32 32 32 kk A) b o h w : ℝ) : EReal) := by
  have hC := conved4 x0 x1 x2 x3 x4 x5 x6 x7 n A kk hX hk
  have hD := dev4 x0 x1 x2 x3 x4 x5 x6 x7 n _ hC
  have hS := scale4 x0 x1 x2 x3 x4 x5 x6 x7 n _ hC
  unfold val_main_v334 val_main_v333 val_main_v332 val_main_v331 val_main_v330 val_main_v329 val_main_v328 val_main_v327 val_main_v326 val_main_v325 val_main_v324 val_main_v323 val_main_v322 val_main_v321 val_main_v320 val_main_v319 val_main_v318 val_main_v317 val_main_v316 val_main_v315 val_main_v314 val_main_v313 val_main_v312 val_main_cst_28 val_main_cst_29
  generalize val_main_v303 (F := Ideal) x0 x1 x2 x3 x4 x5 x6 x7 = Y at hD ⊢
  generalize val_main_v311 (F := Ideal) x0 x1 x2 x3 x4 x5 x6 x7 = Z at hS ⊢
  pointwise
  simp only [hD, hS, ha, one_bits, isq_bits, ← EReal.coe_mul, ← EReal.coe_add, ← EReal.coe_sub]
  rfl

end Cert.RefSide
-- ==== Proof.RefLayer5.lean ====
/- The fifth layer of the reference, read at an index. -/
module

public import proofs.«01_k».proof.Proof.RefBase

@[expose] public section

set_option maxRecDepth 16384

noncomputable section

namespace Cert.RefSide

open Idealize.ShloMosaic
open Cert.ReferenceIdeal Cert.ReferenceIdeal.Gen Cert.ReferenceIdeal.Read
open Cert.Proof (Act coe_sum)

theorem padded5 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (n : Fin 16) (A : Act) (hX : ∀ (i : Fin 32) (b : Fin 32) (h w : Fin 32), val_main_v334 (F := Ideal) x0 x1 x2 x3 x4 x5 x6 x7 x8 (ix5 n i b h w) = ((A b i h w : ℝ) : EReal))
    (i : Fin 32) (b : Fin 32) (y x : Fin 34) :
    val_main_v335 (F := Ideal) x0 x1 x2 x3 x4 x5 x6 x7 x8 (ix5 n i b y x) = ((Cert.Proof.pad 32 32 (A b i) y x : ℝ) : EReal) := by
  unfold val_main_v335
  generalize val_main_v334 (F := Ideal) x0 x1 x2 x3 x4 x5 x6 x7 x8 = X at hX ⊢
  have hz : ∀ j, val_main_call4_v0 (F := Ideal) j = (0 : EReal) := fun j => zero_word
  generalize val_main_call4_v0 (F := Ideal) = z at hz ⊢
  pointwise
  rw [hz]
  by_cases hc : (1 ≤ y.val ∧ y.val - 1 < 32) ∧ 1 ≤ x.val ∧ x.val - 1 < 32
  · rw [dif_pos hc, hX, Cert.Proof.pad, if_pos (by omega)]
  · rw [dif_neg hc, Cert.Proof.pad, if_neg (by omega), EReal.coe_zero]

theorem conved5 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (n : Fin 16) (A : Act) (kk : ℕ → ℕ → ℕ → ℕ → ℝ) (hX : ∀ (i : Fin 32) (b : Fin 32) (h w : Fin 32), val_main_v334 (F := Ideal) x0 x1 x2 x3 x4 x5 x6 x7 x8 (ix5 n i b h w) = ((A b i h w : ℝ) : EReal))
    (hk : ∀ (o : Fin 64) (i : Fin 32) (dy dx : Fin 3), x9 (ix5 n o i dy dx) = ((kk o i dy dx : ℝ) : EReal)) (o : Fin 64) (b : Fin 32) (h w : Fin 16) :
    val_main_v380 (F := Ideal) x0 x1 x2 x3 x4 x5 x6 x7 x8 x9 (ix5 n o b h w) = (((Cert.Proof.half (Cert.Proof.conv 32 32 32 kk A)) b o h w : ℝ) : EReal) := by
  have hY := padded5 x0 x1 x2 x3 x4 x5 x6 x7 x8 n A hX
  unfold val_main_v380 val_main_v379 val_main_v378 val_main_v377 val_main_v376 val_main_v375 val_main_v374 val_main_v373 val_main_v372 val_main_v371 val_main_v370 val_main_v369 val_main_v368 val_main_v367 val_main_v366 val_main_v365 val_main_v364 val_main_v363 val_main_v362 val_main_v361 val_main_v360 val_main_v359 val_main_v358 val_main_v357 val_main_v356 val_main_v355 val_main_v354 val_main_v353 val_main_v352 val_main_v351 val_main_v350 val_main_v349 val_main_v348 val_main_v347 val_main_v346 val_main_v345 val_main_v344 val_main_v343 val_main_v342 val_main_v341 val_main_v340 val_main_v339 val_main_v338 val_main_v337 val_main_v336
  generalize val_main_v335 (F := Ideal) x0 x1 x2 x3 x4 x5 x6 x7 x8 = Y at hY ⊢
  pointwise
  simp only [hY, hk, ← EReal.coe_mul, ← coe_sum, ← EReal.coe_add]
  rw [half_at]
  rw [conv_nine]
  congr! 2

theorem mean5 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (n : Fin 16) (C : Act) (hC : ∀ (o : Fin 64) (b : Fin 32) (h w : Fin 16), val_main_v380 (F := Ideal) x0 x1 x2 x3 x4 x5 x6 x7 x8 x9 (ix5 n o b h w) = ((C b o h w : ℝ) : EReal)) (o : Fin 64) :
    val_main_v384 (F := Ideal) x0 x1 x2 x3 x4 x5 x6 x7 x8 x9 (ix5 n o (0 : Fin 1) (0 : Fin 1) (0 : Fin 1)) = ((Cert.Proof.mean 16 16 C o : ℝ) : EReal) := by
  unfold val_main_v384 val_main_v383 val_main_v382 val_main_v381 val_main_cst_31 val_main_cst_32
  generalize val_main_v380 (F := Ideal) x0 x1 x2 x3 x4 x5 x6 x7 x8 x9 = Y at hC ⊢
  pointwise
  simp only [hC, ← coe_sum]
  rw [cnt16_bits, Ideal.div_coe (by norm_num)]
  try simp only [zero_bits, zero_add]
  rw [← EReal.coe_mul, mul_one_div]
  congr 1
  unfold Cert.Proof.mean
  norm_num

theorem dev5 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (n : Fin 16) (C : Act) (hC : ∀ (o : Fin 64) (b : Fin 32) (h w : Fin 16), val_main_v380 (F := Ideal) x0 x1 x2 x3 x4 x5 x6 x7 x8 x9 (ix5 n o b h w) = ((C b o h w : ℝ) : EReal)) (o : Fin 64) (b : Fin 32) (h w : Fin 16) :
    val_main_v386 (F := Ideal) x0 x1 x2 x3 x4 x5 x6 x7 x8 x9 (ix5 n o b h w) = ((C b o h w - Cert.Proof.mean 16 16 C o : ℝ) : EReal) := by
  have hM := mean5 x0 x1 x2 x3 x4 x5 x6 x7 x8 x9 n C hC
  unfold val_main_v386 val_main_v385
  generalize val_main_v384 (F := Ideal) x0 x1 x2 x3 x4 x5 x6 x7 x8 x9 = M at hM ⊢
  generalize val_main_v380 (F := Ideal) x0 x1 x2 x3 x4 x5 x6 x7 x8 x9 = Y at hC ⊢
  pointwise
  rw [hC, hM, ← EReal.coe_sub]

theorem var5 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (n : Fin 16) (C : Act) (hC : ∀ (o : Fin 64) (b : Fin 32) (h w : Fin 16), val_main_v380 (F := Ideal) x0 x1 x2 x3 x4 x5 x6 x7 x8 x9 (ix5 n o b h w) = ((C b o h w : ℝ) : EReal)) (o : Fin 64) :
    val_main_v391 (F := Ideal) x0 x1 x2 x3 x4 x5 x6 x7 x8 x9 (ix5 n o (0 : Fin 1) (0 : Fin 1) (0 : Fin 1)) = ((Cert.Proof.var 16 16 C o : ℝ) : EReal) := by
  have hD := dev5 x0 x1 x2 x3 x4 x5 x6 x7 x8 x9 n C hC
  unfold val_main_v391 val_main_v390 val_main_v389 val_main_v388 val_main_v387 val_main_cst_33 val_main_cst_34
  generalize val_main_v386 (F := Ideal) x0 x1 x2 x3 x4 x5 x6 x7 x8 x9 = Y at hD ⊢
  pointwise
  simp only [hD, ← EReal.coe_mul, ← coe_sum]
  rw [cnt16_bits, Ideal.div_coe (by norm_num)]
  try simp only [zero_bits, zero_add]
  rw [← EReal.coe_mul, mul_one_div]
  congr 1
  unfold Cert.Proof.var
  norm_num

theorem scale5 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (n : Fin 16) (C : Act) (hC : ∀ (o : Fin 64) (b : Fin 32) (h w : Fin 16), val_main_v380 (F := Ideal) x0 x1 x2 x3 x4 x5 x6 x7 x8 x9 (ix5 n o b h w) = ((C b o h w : ℝ) : EReal)) (o : Fin 64) :
    val_main_v394 (F := Ideal) x0 x1 x2 x3 x4 x5 x6 x7 x8 x9 (ix5 n o (0 : Fin 1) (0 : Fin 1) (0 : Fin 1)) = (((√(Cert.Proof.var 16 16 C o + Cert.Proof.eps))⁻¹ : ℝ) : EReal) := by
  have hV := var5 x0 x1 x2 x3 x4 x5 x6 x7 x8 x9 n C hC
  unfold val_main_v394 val_main_v393 val_main_v392 val_main_cst_35
  generalize val_main_v391 (F := Ideal) x0 x1 x2 x3 x4 x5 x6 x7 x8 x9 = Y at hV ⊢
  pointwise
  rw [hV, eps_bits, ← EReal.coe_add, rsqrt_pos _ (add_pos_of_nonneg_of_pos (Cert.Proof.var_nonneg _ _ _ _) Cert.Proof.eps_pos)]

theorem layer5 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (x10 : FVec Ideal S16x3x64 .f32) (n : Fin 16) (A : Act) (kk : ℕ → ℕ → ℕ → ℕ → ℝ) (aa : ℕ → ℕ → ℝ) (hX : ∀ (i : Fin 32) (b : Fin 32) (h w : Fin 32), val_main_v334 (F := Ideal) x0 x1 x2 x3 x4 x5 x6 x7 x8 (ix5 n i b h w) = ((A b i h w : ℝ) : EReal))
    (hk : ∀ (o : Fin 64) (i : Fin 32) (dy dx : Fin 3), x9 (ix5 n o i dy dx) = ((kk o i dy dx : ℝ) : EReal))
    (ha : ∀ (t : Fin 3) (o : Fin 64), x10 (ix3 n t o) = ((aa t o : ℝ) : EReal)) (o : Fin 64) (b : Fin 32) (h w : Fin 16) :
    val_main_v417 (F := Ideal) x0 x1 x2 x3 x4 x5 x6 x7 x8 x9 x10 (ix5 n o b h w) = ((Cert.Proof.act 16 16 aa (Cert.Proof.half (Cert.Proof.conv 32 32 32 kk A)) b o h w : ℝ) : EReal) := by
  have hC := conved5 x0 x1 x2 x3 x4 x5 x6 x7 x8 x9 n A kk hX hk
  have hD := dev5 x0 x1 x2 x3 x4 x5 x6 x7 x8 x9 n _ hC
  have hS := scale5 x0 x1 x2 x3 x4 x5 x6 x7 x8 x9 n _ hC
  unfold val_main_v417 val_main_v416 val_main_v415 val_main_v414 val_main_v413 val_main_v412 val_main_v411 val_main_v410 val_main_v409 val_main_v408 val_main_v407 val_main_v406 val_main_v405 val_main_v404 val_main_v403 val_main_v402 val_main_v401 val_main_v400 val_main_v399 val_main_v398 val_main_v397 val_main_v396 val_main_v395 val_main_cst_36 val_main_cst_37
  generalize val_main_v386 (F := Ideal) x0 x1 x2 x3 x4 x5 x6 x7 x8 x9 = Y at hD ⊢
  generalize val_main_v394 (F := Ideal) x0 x1 x2 x3 x4 x5 x6 x7 x8 x9 = Z at hS ⊢
  pointwise
  simp only [hD, hS, ha, one_bits, isq_bits, ← EReal.coe_mul, ← EReal.coe_add, ← EReal.coe_sub]
  rfl

end Cert.RefSide
-- ==== Proof.RefLayer6.lean ====
/- The sixth layer of the reference, read at an index. -/
module

public import proofs.«01_k».proof.Proof.RefBase

@[expose] public section

set_option maxRecDepth 16384

noncomputable section

namespace Cert.RefSide

open Idealize.ShloMosaic
open Cert.ReferenceIdeal Cert.ReferenceIdeal.Gen Cert.ReferenceIdeal.Read
open Cert.Proof (Act coe_sum)

theorem padded6 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (x10 : FVec Ideal S16x3x64 .f32) (n : Fin 16) (A : Act) (hX : ∀ (i : Fin 64) (b : Fin 32) (h w : Fin 16), val_main_v417 (F := Ideal) x0 x1 x2 x3 x4 x5 x6 x7 x8 x9 x10 (ix5 n i b h w) = ((A b i h w : ℝ) : EReal))
    (i : Fin 64) (b : Fin 32) (y x : Fin 18) :
    val_main_v418 (F := Ideal) x0 x1 x2 x3 x4 x5 x6 x7 x8 x9 x10 (ix5 n i b y x) = ((Cert.Proof.pad 16 16 (A b i) y x : ℝ) : EReal) := by
  unfold val_main_v418
  generalize val_main_v417 (F := Ideal) x0 x1 x2 x3 x4 x5 x6 x7 x8 x9 x10 = X at hX ⊢
  have hz : ∀ j, val_main_call5_v0 (F := Ideal) j = (0 : EReal) := fun j => zero_word
  generalize val_main_call5_v0 (F := Ideal) = z at hz ⊢
  pointwise
  rw [hz]
  by_cases hc : (1 ≤ y.val ∧ y.val - 1 < 16) ∧ 1 ≤ x.val ∧ x.val - 1 < 16
  · rw [dif_pos hc, hX, Cert.Proof.pad, if_pos (by omega)]
  · rw [dif_neg hc, Cert.Proof.pad, if_neg (by omega), EReal.coe_zero]

theorem conved6 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (x10 : FVec Ideal S16x3x64 .f32) (x11 : FVec Ideal S16x64x64x3x3 .f32) (n : Fin 16) (A : Act) (kk : ℕ → ℕ → ℕ → ℕ → ℝ) (hX : ∀ (i : Fin 64) (b : Fin 32) (h w : Fin 16), val_main_v417 (F := Ideal) x0 x1 x2 x3 x4 x5 x6 x7 x8 x9 x10 (ix5 n i b h w) = ((A b i h w : ℝ) : EReal))
    (hk : ∀ (o : Fin 64) (i : Fin 64) (dy dx : Fin 3), x11 (ix5 n o i dy dx) = ((kk o i dy dx : ℝ) : EReal)) (o : Fin 64) (b : Fin 32) (h w : Fin 16) :
    val_main_v463 (F := Ideal) x0 x1 x2 x3 x4 x5 x6 x7 x8 x9 x10 x11 (ix5 n o b h w) = (((Cert.Proof.conv 64 16 16 kk A) b o h w : ℝ) : EReal) := by
  have hY := padded6 x0 x1 x2 x3 x4 x5 x6 x7 x8 x9 x10 n A hX
  unfold val_main_v463 val_main_v462 val_main_v461 val_main_v460 val_main_v459 val_main_v458 val_main_v457 val_main_v456 val_main_v455 val_main_v454 val_main_v453 val_main_v452 val_main_v451 val_main_v450 val_main_v449 val_main_v448 val_main_v447 val_main_v446 val_main_v445 val_main_v444 val_main_v443 val_main_v442 val_main_v441 val_main_v440 val_main_v439 val_main_v438 val_main_v437 val_main_v436 val_main_v435 val_main_v434 val_main_v433 val_main_v432 val_main_v431 val_main_v430 val_main_v429 val_main_v428 val_main_v427 val_main_v426 val_main_v425 val_main_v424 val_main_v423 val_main_v422 val_main_v421 val_main_v420 val_main_v419
  generalize val_main_v418 (F := Ideal) x0 x1 x2 x3 x4 x5 x6 x7 x8 x9 x10 = Y at hY ⊢
  pointwise
  simp only [hY, hk, ← EReal.coe_mul, ← coe_sum, ← EReal.coe_add]

  rw [conv_nine]
  congr! 2

theorem mean6 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (x10 : FVec Ideal S16x3x64 .f32) (x11 : FVec Ideal S16x64x64x3x3 .f32) (n : Fin 16) (C : Act) (hC : ∀ (o : Fin 64) (b : Fin 32) (h w : Fin 16), val_main_v463 (F := Ideal) x0 x1 x2 x3 x4 x5 x6 x7 x8 x9 x10 x11 (ix5 n o b h w) = ((C b o h w : ℝ) : EReal)) (o : Fin 64) :
    val_main_v467 (F := Ideal) x0 x1 x2 x3 x4 x5 x6 x7 x8 x9 x10 x11 (ix5 n o (0 : Fin 1) (0 : Fin 1) (0 : Fin 1)) = ((Cert.Proof.mean 16 16 C o : ℝ) : EReal) := by
  unfold val_main_v467 val_main_v466 val_main_v465 val_main_v464 val_main_cst_39 val_main_cst_40
  generalize val_main_v463 (F := Ideal) x0 x1 x2 x3 x4 x5 x6 x7 x8 x9 x10 x11 = Y at hC ⊢
  pointwise
  simp only [hC, ← coe_sum]
  rw [cnt16_bits, Ideal.div_coe (by norm_num)]
  try simp only [zero_bits, zero_add]
  rw [← EReal.coe_mul, mul_one_div]
  congr 1
  unfold Cert.Proof.mean
  norm_num

theorem dev6 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (x10 : FVec Ideal S16x3x64 .f32) (x11 : FVec Ideal S16x64x64x3x3 .f32) (n : Fin 16) (C : Act) (hC : ∀ (o : Fin 64) (b : Fin 32) (h w : Fin 16), val_main_v463 (F := Ideal) x0 x1 x2 x3 x4 x5 x6 x7 x8 x9 x10 x11 (ix5 n o b h w) = ((C b o h w : ℝ) : EReal)) (o : Fin 64) (b : Fin 32) (h w : Fin 16) :
    val_main_v469 (F := Ideal) x0 x1 x2 x3 x4 x5 x6 x7 x8 x9 x10 x11 (ix5 n o b h w) = ((C b o h w - Cert.Proof.mean 16 16 C o : ℝ) : EReal) := by
  have hM := mean6 x0 x1 x2 x3 x4 x5 x6 x7 x8 x9 x10 x11 n C hC
  unfold val_main_v469 val_main_v468
  generalize val_main_v467 (F := Ideal) x0 x1 x2 x3 x4 x5 x6 x7 x8 x9 x10 x11 = M at hM ⊢
  generalize val_main_v463 (F := Ideal) x0 x1 x2 x3 x4 x5 x6 x7 x8 x9 x10 x11 = Y at hC ⊢
  pointwise
  rw [hC, hM, ← EReal.coe_sub]

theorem var6 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (x10 : FVec Ideal S16x3x64 .f32) (x11 : FVec Ideal S16x64x64x3x3 .f32) (n : Fin 16) (C : Act) (hC : ∀ (o : Fin 64) (b : Fin 32) (h w : Fin 16), val_main_v463 (F := Ideal) x0 x1 x2 x3 x4 x5 x6 x7 x8 x9 x10 x11 (ix5 n o b h w) = ((C b o h w : ℝ) : EReal)) (o : Fin 64) :
    val_main_v474 (F := Ideal) x0 x1 x2 x3 x4 x5 x6 x7 x8 x9 x10 x11 (ix5 n o (0 : Fin 1) (0 : Fin 1) (0 : Fin 1)) = ((Cert.Proof.var 16 16 C o : ℝ) : EReal) := by
  have hD := dev6 x0 x1 x2 x3 x4 x5 x6 x7 x8 x9 x10 x11 n C hC
  unfold val_main_v474 val_main_v473 val_main_v472 val_main_v471 val_main_v470 val_main_cst_41 val_main_cst_42
  generalize val_main_v469 (F := Ideal) x0 x1 x2 x3 x4 x5 x6 x7 x8 x9 x10 x11 = Y at hD ⊢
  pointwise
  simp only [hD, ← EReal.coe_mul, ← coe_sum]
  rw [cnt16_bits, Ideal.div_coe (by norm_num)]
  try simp only [zero_bits, zero_add]
  rw [← EReal.coe_mul, mul_one_div]
  congr 1
  unfold Cert.Proof.var
  norm_num

theorem scale6 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (x10 : FVec Ideal S16x3x64 .f32) (x11 : FVec Ideal S16x64x64x3x3 .f32) (n : Fin 16) (C : Act) (hC : ∀ (o : Fin 64) (b : Fin 32) (h w : Fin 16), val_main_v463 (F := Ideal) x0 x1 x2 x3 x4 x5 x6 x7 x8 x9 x10 x11 (ix5 n o b h w) = ((C b o h w : ℝ) : EReal)) (o : Fin 64) :
    val_main_v477 (F := Ideal) x0 x1 x2 x3 x4 x5 x6 x7 x8 x9 x10 x11 (ix5 n o (0 : Fin 1) (0 : Fin 1) (0 : Fin 1)) = (((√(Cert.Proof.var 16 16 C o + Cert.Proof.eps))⁻¹ : ℝ) : EReal) := by
  have hV := var6 x0 x1 x2 x3 x4 x5 x6 x7 x8 x9 x10 x11 n C hC
  unfold val_main_v477 val_main_v476 val_main_v475 val_main_cst_43
  generalize val_main_v474 (F := Ideal) x0 x1 x2 x3 x4 x5 x6 x7 x8 x9 x10 x11 = Y at hV ⊢
  pointwise
  rw [hV, eps_bits, ← EReal.coe_add, rsqrt_pos _ (add_pos_of_nonneg_of_pos (Cert.Proof.var_nonneg _ _ _ _) Cert.Proof.eps_pos)]

theorem layer6 (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (x10 : FVec Ideal S16x3x64 .f32) (x11 : FVec Ideal S16x64x64x3x3 .f32) (x12 : FVec Ideal S16x3x64 .f32) (n : Fin 16) (A : Act) (kk : ℕ → ℕ → ℕ → ℕ → ℝ) (aa : ℕ → ℕ → ℝ) (hX : ∀ (i : Fin 64) (b : Fin 32) (h w : Fin 16), val_main_v417 (F := Ideal) x0 x1 x2 x3 x4 x5 x6 x7 x8 x9 x10 (ix5 n i b h w) = ((A b i h w : ℝ) : EReal))
    (hk : ∀ (o : Fin 64) (i : Fin 64) (dy dx : Fin 3), x11 (ix5 n o i dy dx) = ((kk o i dy dx : ℝ) : EReal))
    (ha : ∀ (t : Fin 3) (o : Fin 64), x12 (ix3 n t o) = ((aa t o : ℝ) : EReal)) (o : Fin 64) (b : Fin 32) (h w : Fin 16) :
    val_main_v500 (F := Ideal) x0 x1 x2 x3 x4 x5 x6 x7 x8 x9 x10 x11 x12 (ix5 n o b h w) = ((Cert.Proof.act 16 16 aa (Cert.Proof.conv 64 16 16 kk A) b o h w : ℝ) : EReal) := by
  have hC := conved6 x0 x1 x2 x3 x4 x5 x6 x7 x8 x9 x10 x11 n A kk hX hk
  have hD := dev6 x0 x1 x2 x3 x4 x5 x6 x7 x8 x9 x10 x11 n _ hC
  have hS := scale6 x0 x1 x2 x3 x4 x5 x6 x7 x8 x9 x10 x11 n _ hC
  unfold val_main_v500 val_main_v499 val_main_v498 val_main_v497 val_main_v496 val_main_v495 val_main_v494 val_main_v493 val_main_v492 val_main_v491 val_main_v490 val_main_v489 val_main_v488 val_main_v487 val_main_v486 val_main_v485 val_main_v484 val_main_v483 val_main_v482 val_main_v481 val_main_v480 val_main_v479 val_main_v478 val_main_cst_44 val_main_cst_45
  generalize val_main_v469 (F := Ideal) x0 x1 x2 x3 x4 x5 x6 x7 x8 x9 x10 x11 = Y at hD ⊢
  generalize val_main_v477 (F := Ideal) x0 x1 x2 x3 x4 x5 x6 x7 x8 x9 x10 x11 = Z at hS ⊢
  pointwise
  simp only [hD, hS, ha, one_bits, isq_bits, ← EReal.coe_mul, ← EReal.coe_add, ← EReal.coe_sub]
  rfl

end Cert.RefSide
-- ==== Proof.RefFeat.lean ====
/- The pooled and normalised features of the reference, read at an index. -/
module

public import proofs.«01_k».proof.Proof.RefBase

@[expose] public section

set_option maxRecDepth 16384

noncomputable section

namespace Cert.RefSide

open Idealize.ShloMosaic
open Cert.ReferenceIdeal Cert.ReferenceIdeal.Gen Cert.ReferenceIdeal.Read
open Cert.Proof (Act coe_sum)

/-- A sum over the two axes inside the blocks. -/
theorem block_sum (h : S16x64x32x2x8x2x8.ReducesTo [4, 6] S16x64x32x2x2) (v : S16x64x32x2x8x2x8.Idx → EReal) (init : EReal)
    (n : Fin 16) (o : Fin 64) (b : Fin 32) (p q : Fin 2) :
    Ideal.hostReduceAdd h v init (ix5 n o b p q) = init + ∑ i : Fin 8, ∑ j : Fin 8, v (ix7 n o b p i q j) := by
  refine congrArg (init + ·) ?_
  refine (Finset.sum_filter_eq_sum_of_fiber _ (fun k : Fin 8 × Fin 8 => ix7 n o b p k.1 q k.2) (fun _ _ e => Prod.ext (congrFun e 4) (congrFun e 6)) (fun i => ?_) v).trans ?_
  · constructor
    · intro e
      refine ⟨(i 4, i 6), ?_⟩
      funext a
      apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => exact (congrArg Fin.val (congrFun e 3)).symm
      | ⟨4, _⟩ => rfl
      | ⟨5, _⟩ => exact (congrArg Fin.val (congrFun e 4)).symm
      | ⟨6, _⟩ => rfl
    · rintro ⟨k, rfl⟩
      funext a
      apply Fin.ext
      match a with
      | ⟨0, _⟩ => rfl
      | ⟨1, _⟩ => rfl
      | ⟨2, _⟩ => rfl
      | ⟨3, _⟩ => rfl
      | ⟨4, _⟩ => rfl
  · simp only [Fintype.sum_prod_type]

theorem pooled (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (x10 : FVec Ideal S16x3x64 .f32) (x11 : FVec Ideal S16x64x64x3x3 .f32) (x12 : FVec Ideal S16x3x64 .f32) (n : Fin 16) (L : Act) (hL : ∀ (o : Fin 64) (b : Fin 32) (h w : Fin 16), val_main_v500 (F := Ideal) x0 x1 x2 x3 x4 x5 x6 x7 x8 x9 x10 x11 x12 (ix5 n o b h w) = ((L b o h w : ℝ) : EReal)) (o : Fin 64) (b : Fin 32) (q : Fin 4) :
    val_main_v505 (F := Ideal) x0 x1 x2 x3 x4 x5 x6 x7 x8 x9 x10 x11 x12 (ix4 n o b q) = ((Cert.Proof.pool L b o q : ℝ) : EReal) := by
  unfold val_main_v505 val_main_v504 val_main_v503 val_main_v502 val_main_v501 val_main_cst_46 val_main_cst_47
  generalize val_main_v500 (F := Ideal) x0 x1 x2 x3 x4 x5 x6 x7 x8 x9 x10 x11 x12 = Y at hL ⊢
  pointwise
  rw [block_sum]
  pointwise
  simp only [hL, ← coe_sum]
  rw [n64_bits, Ideal.div_coe (by norm_num)]
  try simp only [zero_bits, zero_add]
  rw [← EReal.coe_mul, mul_one_div]
  congr 1
  unfold Cert.Proof.pool
  simp only [Nat.mul_comm 8]

theorem bdev (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (x10 : FVec Ideal S16x3x64 .f32) (x11 : FVec Ideal S16x64x64x3x3 .f32) (x12 : FVec Ideal S16x3x64 .f32) (n : Fin 16) (L : Act) (hL : ∀ (o : Fin 64) (b : Fin 32) (h w : Fin 16), val_main_v500 (F := Ideal) x0 x1 x2 x3 x4 x5 x6 x7 x8 x9 x10 x11 x12 (ix5 n o b h w) = ((L b o h w : ℝ) : EReal)) (o : Fin 64) (b : Fin 32) (q : Fin 4) :
    val_main_v511 (F := Ideal) x0 x1 x2 x3 x4 x5 x6 x7 x8 x9 x10 x11 x12 (ix4 n o b q) = ((Cert.Proof.pool L b o q - Cert.Proof.bmean (Cert.Proof.pool L) o q : ℝ) : EReal) := by
  have hP := pooled x0 x1 x2 x3 x4 x5 x6 x7 x8 x9 x10 x11 x12 n L hL
  unfold val_main_v511 val_main_v510 val_main_v509 val_main_v508 val_main_v507 val_main_v506 val_main_cst_48 val_main_cst_49
  generalize val_main_v505 (F := Ideal) x0 x1 x2 x3 x4 x5 x6 x7 x8 x9 x10 x11 x12 = Y at hP ⊢
  pointwise
  simp only [hP, ← coe_sum]
  rw [n32_bits, Ideal.div_coe (by norm_num)]
  try simp only [zero_bits, zero_add]
  rw [← EReal.coe_mul, mul_one_div, ← EReal.coe_sub]
  rfl

theorem bscale (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (x10 : FVec Ideal S16x3x64 .f32) (x11 : FVec Ideal S16x64x64x3x3 .f32) (x12 : FVec Ideal S16x3x64 .f32) (n : Fin 16) (L : Act) (hL : ∀ (o : Fin 64) (b : Fin 32) (h w : Fin 16), val_main_v500 (F := Ideal) x0 x1 x2 x3 x4 x5 x6 x7 x8 x9 x10 x11 x12 (ix5 n o b h w) = ((L b o h w : ℝ) : EReal)) (o : Fin 64) (q : Fin 4) :
    val_main_v519 (F := Ideal) x0 x1 x2 x3 x4 x5 x6 x7 x8 x9 x10 x11 x12 (ix4 n o (0 : Fin 1) q) = (((√(Cert.Proof.bvar (Cert.Proof.pool L) o q + Cert.Proof.eps))⁻¹ : ℝ) : EReal) := by
  have hP := bdev x0 x1 x2 x3 x4 x5 x6 x7 x8 x9 x10 x11 x12 n L hL
  unfold val_main_v519 val_main_v518 val_main_v517 val_main_v516 val_main_v515 val_main_v514 val_main_v513 val_main_v512 val_main_cst_50 val_main_cst_51 val_main_cst_52
  generalize val_main_v511 (F := Ideal) x0 x1 x2 x3 x4 x5 x6 x7 x8 x9 x10 x11 x12 = Y at hP ⊢
  pointwise
  simp only [hP, ← EReal.coe_mul, ← coe_sum]
  rw [n32_bits, Ideal.div_coe (by norm_num), eps_bits]
  try simp only [zero_bits, zero_add]
  rw [← EReal.coe_mul, mul_one_div, ← EReal.coe_add]
  exact rsqrt_pos _ (add_pos_of_nonneg_of_pos (Cert.Proof.bvar_nonneg _ _ _) Cert.Proof.eps_pos)

theorem final (x0 : FVec Ideal S32x3x256x256 .f32) (x1 : FVec Ideal S16x16x3x3x3 .f32) (x2 : FVec Ideal S16x3x16 .f32) (x3 : FVec Ideal S16x16x16x3x3 .f32) (x4 : FVec Ideal S16x3x16 .f32) (x5 : FVec Ideal S16x32x16x3x3 .f32) (x6 : FVec Ideal S16x3x32 .f32) (x7 : FVec Ideal S16x32x32x3x3 .f32) (x8 : FVec Ideal S16x3x32 .f32) (x9 : FVec Ideal S16x64x32x3x3 .f32) (x10 : FVec Ideal S16x3x64 .f32) (x11 : FVec Ideal S16x64x64x3x3 .f32) (x12 : FVec Ideal S16x3x64 .f32) (x13 x14 : FVec Ideal S16x256 .f32) (n : Fin 16) (L : Act) (hL : ∀ (o : Fin 64) (b : Fin 32) (h w : Fin 16), val_main_v500 (F := Ideal) x0 x1 x2 x3 x4 x5 x6 x7 x8 x9 x10 x11 x12 (ix5 n o b h w) = ((L b o h w : ℝ) : EReal)) (b : Fin 32) (o : Fin 64) (q : Fin 4) :
    val_main_v528 (F := Ideal) x0 x1 x2 x3 x4 x5 x6 x7 x8 x9 x10 x11 x12 x13 x14 (ix4 n b o q) = ((Cert.Proof.bnorm (Cert.Proof.pool L) b o q : ℝ) : EReal) * x13 (ix2 n ⟨o.val * 4 + q.val, by omega⟩) + x14 (ix2 n ⟨o.val * 4 + q.val, by omega⟩) := by
  have hD := bdev x0 x1 x2 x3 x4 x5 x6 x7 x8 x9 x10 x11 x12 n L hL
  have hS := bscale x0 x1 x2 x3 x4 x5 x6 x7 x8 x9 x10 x11 x12 n L hL
  unfold val_main_v528 val_main_v527 val_main_v526 val_main_v525 val_main_v524 val_main_v523 val_main_v522 val_main_v521 val_main_v520
  generalize val_main_v511 (F := Ideal) x0 x1 x2 x3 x4 x5 x6 x7 x8 x9 x10 x11 x12 = Y at hD ⊢
  generalize val_main_v519 (F := Ideal) x0 x1 x2 x3 x4 x5 x6 x7 x8 x9 x10 x11 x12 = Z at hS ⊢
  pointwise
  simp only [hD, hS, ← EReal.coe_mul]
  try rfl

end Cert.RefSide
-- ==== Proof.RefValue.lean ====
/- The reference's result read at an index: the normalised feature of the patch, scaled and shifted. -/
module

public import proofs.«01_k».proof.Proof.RefLayer1
public import proofs.«01_k».proof.Proof.RefLayer2
public import proofs.«01_k».proof.Proof.RefLayer3
public import proofs.«01_k».proof.Proof.RefLayer4
public import proofs.«01_k».proof.Proof.RefLayer5
public import proofs.«01_k».proof.Proof.RefLayer6
public import proofs.«01_k».proof.Proof.RefFeat
public import proofs.«01_k».proof.Proof.PatchInp

@[expose] public section

set_option maxRecDepth 16384

noncomputable section

namespace Cert.RefSide

open Idealize.ShloMosaic
open Cert.ReferenceIdeal Cert.ReferenceIdeal.Gen Cert.ReferenceIdeal.Read
open Cert.Proof (Act Fin' patch entry rd3 rd4 rd5 rd3_eq rd4_eq rd5_eq)

theorem ref_value (X0 : FVec Ideal (⟨4, ![32, 3, 256, 256]⟩ : Shape) .f32) (X1 : FVec Ideal (⟨5, ![16, 16, 3, 3, 3]⟩ : Shape) .f32) (X2 : FVec Ideal (⟨3, ![16, 3, 16]⟩ : Shape) .f32) (X3 : FVec Ideal (⟨5, ![16, 16, 16, 3, 3]⟩ : Shape) .f32) (X4 : FVec Ideal (⟨3, ![16, 3, 16]⟩ : Shape) .f32) (X5 : FVec Ideal (⟨5, ![16, 32, 16, 3, 3]⟩ : Shape) .f32) (X6 : FVec Ideal (⟨3, ![16, 3, 32]⟩ : Shape) .f32) (X7 : FVec Ideal (⟨5, ![16, 32, 32, 3, 3]⟩ : Shape) .f32) (X8 : FVec Ideal (⟨3, ![16, 3, 32]⟩ : Shape) .f32) (X9 : FVec Ideal (⟨5, ![16, 64, 32, 3, 3]⟩ : Shape) .f32) (X10 : FVec Ideal (⟨3, ![16, 3, 64]⟩ : Shape) .f32) (X11 : FVec Ideal (⟨5, ![16, 64, 64, 3, 3]⟩ : Shape) .f32) (X12 : FVec Ideal (⟨3, ![16, 3, 64]⟩ : Shape) .f32) (X13 : FVec Ideal (⟨2, ![16, 256]⟩ : Shape) .f32) (X14 : FVec Ideal (⟨2, ![16, 256]⟩ : Shape) .f32) (f0 : Fin' X0) (f1 : Fin' X1) (f2 : Fin' X2) (f3 : Fin' X3) (f4 : Fin' X4) (f5 : Fin' X5) (f6 : Fin' X6) (f7 : Fin' X7) (f8 : Fin' X8) (f9 : Fin' X9) (f10 : Fin' X10) (f11 : Fin' X11) (f12 : Fin' X12)
    (n : Fin 16) (b : Fin 32) (o : Fin 64) (q : Fin 4) :
    val_main_v528 (F := Ideal) X0 X1 X2 X3 X4 X5 X6 X7 X8 X9 X10 X11 X12 X13 X14 (ix4 n b o q) = entry X0 X1 X2 X3 X4 X5 X6 X7 X8 X9 X10 X11 X12 X13 X14 n b o q := by
  have h0 : ∀ (i : Fin 3) (b : Fin 32) (h w : Fin 64), val_main_v2 (F := Ideal) X0 (ix5 n i b h w) = (((patch X0 X1 X2 X3 X4 X5 X6 X7 X8 X9 X10 X11 X12 n).x b i h w : ℝ) : EReal) := by
    intro i b h w
    refine Eq.trans ?_ (rd4_eq X0 f0 b i ⟨n.val / 4 * 64 + h.val, by omega⟩ ⟨n.val % 4 * 64 + w.val, by omega⟩)
    pointwise [val_main_v2, val_main_v1, val_main_v0]
  have h1 := layer1 X0 X1 X2 n _ (fun o i dy dx => rd5 X1 n o i dy dx) (fun t c => rd3 X2 n t c) h0 (fun o i dy dx => rd5_eq X1 f1 n o i dy dx) (fun t o => rd3_eq X2 f2 n t o)
  have h2 := layer2 X0 X1 X2 X3 X4 n _ (fun o i dy dx => rd5 X3 n o i dy dx) (fun t c => rd3 X4 n t c) h1 (fun o i dy dx => rd5_eq X3 f3 n o i dy dx) (fun t o => rd3_eq X4 f4 n t o)
  have h3 := layer3 X0 X1 X2 X3 X4 X5 X6 n _ (fun o i dy dx => rd5 X5 n o i dy dx) (fun t c => rd3 X6 n t c) h2 (fun o i dy dx => rd5_eq X5 f5 n o i dy dx) (fun t o => rd3_eq X6 f6 n t o)
  have h4 := layer4 X0 X1 X2 X3 X4 X5 X6 X7 X8 n _ (fun o i dy dx => rd5 X7 n o i dy dx) (fun t c => rd3 X8 n t c) h3 (fun o i dy dx => rd5_eq X7 f7 n o i dy dx) (fun t o => rd3_eq X8 f8 n t o)
  have h5 := layer5 X0 X1 X2 X3 X4 X5 X6 X7 X8 X9 X10 n _ (fun o i dy dx => rd5 X9 n o i dy dx) (fun t c => rd3 X10 n t c) h4 (fun o i dy dx => rd5_eq X9 f9 n o i dy dx) (fun t o => rd3_eq X10 f10 n t o)
  have h6 := layer6 X0 X1 X2 X3 X4 X5 X6 X7 X8 X9 X10 X11 X12 n _ (fun o i dy dx => rd5 X11 n o i dy dx) (fun t c => rd3 X12 n t c) h5 (fun o i dy dx => rd5_eq X11 f11 n o i dy dx) (fun t o => rd3_eq X12 f12 n t o)
  exact final X0 X1 X2 X3 X4 X5 X6 X7 X8 X9 X10 X11 X12 X13 X14 n _ h6 b o q

end Cert.RefSide

end
-- ==== Proof.WordBody.lean ====
/- The body over any floats, as far as the frame needs it: it ends, its eighteen input buffers as they were. -/
module

public import proofs.«01_k».proof.Proof.Gen.Kernel.Loops
public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.WordSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (arg1 : Memref sig .tc .vmem S1x32x3x4096 .f32) (harg1 : arg1.IsWhole) (arg2 : Memref sig .tc .vmem S1x16x27 .f32) (harg2 : arg2.IsWhole) (arg3 : Memref sig .tc .vmem S1x16x3 .f32) (harg3 : arg3.IsWhole) (arg4 : Memref sig .tc .vmem S1x16x144 .f32) (harg4 : arg4.IsWhole) (arg5 : Memref sig .tc .vmem S1x16x3 .f32) (harg5 : arg5.IsWhole) (arg6 : Memref sig .tc .vmem S1x32x144 .f32) (harg6 : arg6.IsWhole) (arg7 : Memref sig .tc .vmem S1x32x3 .f32) (harg7 : arg7.IsWhole) (arg8 : Memref sig .tc .vmem S1x32x288 .f32) (harg8 : arg8.IsWhole) (arg9 : Memref sig .tc .vmem S1x32x3 .f32) (harg9 : arg9.IsWhole) (arg10 : Memref sig .tc .vmem S1x64x288 .f32) (harg10 : arg10.IsWhole) (arg11 : Memref sig .tc .vmem S1x64x3 .f32) (harg11 : arg11.IsWhole) (arg12 : Memref sig .tc .vmem S1x64x576 .f32) (harg12 : arg12.IsWhole) (arg13 : Memref sig .tc .vmem S1x64x3 .f32) (harg13 : arg13.IsWhole) (arg14 : Memref sig .tc .vmem S1x64x4 .f32) (harg14 : arg14.IsWhole) (arg15 : Memref sig .tc .vmem S1x64x4 .f32) (harg15 : arg15.IsWhole) (arg16 : Memref sig .tc .vmem S8x512x128 .bf16) (harg16 : arg16.IsWhole) (arg17 : Memref sig .tc .vmem S2x512x128 .bf16) (harg17 : arg17.IsWhole) (arg18 : Memref sig .tc .vmem S256x4 .f32) (harg18 : arg18.IsWhole) (arg19 : Memref sig .tc .vmem S1x32x64x4 .f32) (harg19 : arg19.IsWhole) (arg20 : Memref sig .tc .vmem S32x3x4352 .f32) (harg20 : arg20.IsWhole) (arg21 : Memref sig .tc .vmem S32x16x4352 .f32) (harg21 : arg21.IsWhole) (arg22 : Memref sig .tc .vmem S32x16x4352 .f32) (harg22 : arg22.IsWhole) (arg23 : Memref sig .tc .vmem S32x32x1280 .f32) (harg23 : arg23.IsWhole) (arg24 : Memref sig .tc .vmem S32x32x1280 .f32) (harg24 : arg24.IsWhole) (arg25 : Memref sig .tc .vmem S32x64x512 .f32) (harg25 : arg25.IsWhole) (arg26 : Memref sig .tc .vmem S32x64x256 .f32) (harg26 : arg26.IsWhole)

/-- The body's buffers: the inputs at their contents, the output and the scratch at some contents. -/
def Held (c : Dev nD) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d))

set_option maxHeartbeats 2000000 in
/-- The body keeps its inputs; whatever follows may use the buffers it hands back. -/
theorem body_keeps (c : Dev nD) (i : grid0.Coords) (x0 : Vec F S1x32x3x4096 .f32) (x1 : Vec F S1x16x27 .f32) (x2 : Vec F S1x16x3 .f32) (x3 : Vec F S1x16x144 .f32) (x4 : Vec F S1x16x3 .f32) (x5 : Vec F S1x32x144 .f32) (x6 : Vec F S1x32x3 .f32) (x7 : Vec F S1x32x288 .f32) (x8 : Vec F S1x32x3 .f32) (x9 : Vec F S1x64x288 .f32) (x10 : Vec F S1x64x3 .f32) (x11 : Vec F S1x64x576 .f32) (x12 : Vec F S1x64x3 .f32) (x13 : Vec F S1x64x4 .f32) (x14 : Vec F S1x64x4 .f32) (x15 : Vec F S8x512x128 .bf16) (x16 : Vec F S2x512x128 .bf16) (x17 : Vec F S256x4 .f32) (E : Set ℕ) (K : PUnit → sProp 𝕄) :
    iprop(Held arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 ∗ (Held arg1 arg2 arg3 arg4 arg5 arg6 arg7 arg8 arg9 arg10 arg11 arg12 arg13 arg14 arg15 arg16 arg17 arg18 arg19 arg20 arg21 arg22 arg23 arg24 arg25 arg26 c x0 x1 x2 x3 x4 x5 x6 x7 x8 x9 x10 x11 x12 x13 x14 x15 x16 x17 -∗ K ⟨⟩))
      ⊢ wp frame (wpE (defs₀ (F := F)) Variants.none c none) E (cc0_patch_backbones i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_patch_backbones_eq_skeleton]; unfold cc0_patch_backbones_skel
  simp only [k0_part22_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold Held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩⟩, Hk⟩
  obtain rfl := harg1.eq_unread h0
  obtain rfl := harg2.eq_unread h1
  obtain rfl := harg3.eq_unread h2
  obtain rfl := harg4.eq_unread h3
  obtain rfl := harg5.eq_unread h4
  obtain rfl := harg6.eq_unread h5
  obtain rfl := harg7.eq_unread h6
  obtain rfl := harg8.eq_unread h7
  obtain rfl := harg9.eq_unread h8
  obtain rfl := harg10.eq_unread h9
  obtain rfl := harg11.eq_unread h10
  obtain rfl := harg12.eq_unread h11
  obtain rfl := harg13.eq_unread h12
  obtain rfl := harg14.eq_unread h13
  obtain rfl := harg15.eq_unread h14
  obtain rfl := harg16.eq_unread h15
  obtain rfl := harg17.eq_unread h16
  obtain rfl := harg18.eq_unread h17
  sl_exec
  sl_step
  iapply Hk
  isplitl [H0]; · (iexists _; isplitr; · (ipureintro; exact harg1.read_unread _)); iexact H0
  isplitl [H1]; · (iexists _; isplitr; · (ipureintro; exact harg2.read_unread _)); iexact H1
  isplitl [H2]; · (iexists _; isplitr; · (ipureintro; exact harg3.read_unread _)); iexact H2
  isplitl [H3]; · (iexists _; isplitr; · (ipureintro; exact harg4.read_unread _)); iexact H3
  isplitl [H4]; · (iexists _; isplitr; · (ipureintro; exact harg5.read_unread _)); iexact H4
  isplitl [H5]; · (iexists _; isplitr; · (ipureintro; exact harg6.read_unread _)); iexact H5
  isplitl [H6]; · (iexists _; isplitr; · (ipureintro; exact harg7.read_unread _)); iexact H6
  isplitl [H7]; · (iexists _; isplitr; · (ipureintro; exact harg8.read_unread _)); iexact H7
  isplitl [H8]; · (iexists _; isplitr; · (ipureintro; exact harg9.read_unread _)); iexact H8
  isplitl [H9]; · (iexists _; isplitr; · (ipureintro; exact harg10.read_unread _)); iexact H9
  isplitl [H10]; · (iexists _; isplitr; · (ipureintro; exact harg11.read_unread _)); iexact H10
  isplitl [H11]; · (iexists _; isplitr; · (ipureintro; exact harg12.read_unread _)); iexact H11
  isplitl [H12]; · (iexists _; isplitr; · (ipureintro; exact harg13.read_unread _)); iexact H12
  isplitl [H13]; · (iexists _; isplitr; · (ipureintro; exact harg14.read_unread _)); iexact H13
  isplitl [H14]; · (iexists _; isplitr; · (ipureintro; exact harg15.read_unread _)); iexact H14
  isplitl [H15]; · (iexists _; isplitr; · (ipureintro; exact harg16.read_unread _)); iexact H15
  isplitl [H16]; · (iexists _; isplitr; · (ipureintro; exact harg17.read_unread _)); iexact H16
  isplitl [H17]; · (iexists _; isplitr; · (ipureintro; exact harg18.read_unread _)); iexact H17
  isplitl [H18]; · (iexists _, _; isplitr; swap; · iexact H18); ipureintro; rfl
  isplitl [H19]; · (iexists _, _; isplitr; swap; · iexact H19); ipureintro; rfl
  isplitl [H20]; · (iexists _, _; isplitr; swap; · iexact H20); ipureintro; rfl
  isplitl [H21]; · (iexists _, _; isplitr; swap; · iexact H21); ipureintro; rfl
  isplitl [H22]; · (iexists _, _; isplitr; swap; · iexact H22); ipureintro; rfl
  isplitl [H23]; · (iexists _, _; isplitr; swap; · iexact H23); ipureintro; rfl
  isplitl [H24]; · (iexists _, _; isplitr; swap; · iexact H24); ipureintro; rfl
  iexists _, _; isplitr; swap; · iexact H25
  ipureintro; rfl

end Cert.WordSide

end
-- ==== Proof.WordFrame.lean ====
/- The frame over any floats: every run of the program ends with its arguments as launched and every counter at zero. -/
module

public import proofs.«01_k».proof.Proof.WordBody
public import proofs.«01_k».proof.Proof.Gen.Kernel.Frame
public import Idealize.ShloMosaic.Lib.Pipeline.FrameBody
public import Idealize.ShloMosaic.Lib.Claim

@[expose] public section

set_option maxRecDepth 16384

noncomputable section

namespace Cert.WordSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is said afterwards: the output's. -/
def unsaid : Fin 19 → Bool := fun w => w.val == 18

/-- The proof data on core `c`: every input block stays. -/
def wdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

theorem wA_eq (c : Dev nD) (w : Fin cfg0.W) : (wdats m 0 c).A w = V m c (Pipeline.arrRef spec0 w) := by
  dsimp only [wdats]

theorem wafter_0 (c : Dev nD) (t : Fin cfg0.N) : (wdats m 0 c).after 0 t = iblk m c 0 t := by dsimp only [wdats]
theorem wafter_1 (c : Dev nD) (t : Fin cfg0.N) : (wdats m 0 c).after 1 t = iblk m c 1 t := by dsimp only [wdats]
theorem wafter_2 (c : Dev nD) (t : Fin cfg0.N) : (wdats m 0 c).after 2 t = iblk m c 2 t := by dsimp only [wdats]
theorem wafter_3 (c : Dev nD) (t : Fin cfg0.N) : (wdats m 0 c).after 3 t = iblk m c 3 t := by dsimp only [wdats]
theorem wafter_4 (c : Dev nD) (t : Fin cfg0.N) : (wdats m 0 c).after 4 t = iblk m c 4 t := by dsimp only [wdats]
theorem wafter_5 (c : Dev nD) (t : Fin cfg0.N) : (wdats m 0 c).after 5 t = iblk m c 5 t := by dsimp only [wdats]
theorem wafter_6 (c : Dev nD) (t : Fin cfg0.N) : (wdats m 0 c).after 6 t = iblk m c 6 t := by dsimp only [wdats]
theorem wafter_7 (c : Dev nD) (t : Fin cfg0.N) : (wdats m 0 c).after 7 t = iblk m c 7 t := by dsimp only [wdats]
theorem wafter_8 (c : Dev nD) (t : Fin cfg0.N) : (wdats m 0 c).after 8 t = iblk m c 8 t := by dsimp only [wdats]
theorem wafter_9 (c : Dev nD) (t : Fin cfg0.N) : (wdats m 0 c).after 9 t = iblk m c 9 t := by dsimp only [wdats]
theorem wafter_10 (c : Dev nD) (t : Fin cfg0.N) : (wdats m 0 c).after 10 t = iblk m c 10 t := by dsimp only [wdats]
theorem wafter_11 (c : Dev nD) (t : Fin cfg0.N) : (wdats m 0 c).after 11 t = iblk m c 11 t := by dsimp only [wdats]
theorem wafter_12 (c : Dev nD) (t : Fin cfg0.N) : (wdats m 0 c).after 12 t = iblk m c 12 t := by dsimp only [wdats]
theorem wafter_13 (c : Dev nD) (t : Fin cfg0.N) : (wdats m 0 c).after 13 t = iblk m c 13 t := by dsimp only [wdats]
theorem wafter_14 (c : Dev nD) (t : Fin cfg0.N) : (wdats m 0 c).after 14 t = iblk m c 14 t := by dsimp only [wdats]
theorem wafter_15 (c : Dev nD) (t : Fin cfg0.N) : (wdats m 0 c).after 15 t = iblk m c 15 t := by dsimp only [wdats]
theorem wafter_16 (c : Dev nD) (t : Fin cfg0.N) : (wdats m 0 c).after 16 t = iblk m c 16 t := by dsimp only [wdats]
theorem wafter_17 (c : Dev nD) (t : Fin cfg0.N) : (wdats m 0 c).after 17 t = iblk m c 17 t := by dsimp only [wdats]

theorem wbefore_0 (c : Dev nD) (t : Fin cfg0.N) (d) : (wdats m 0 c).before 0 t d = iblk m c 0 t :=
  before0_0_of m (wdats m 0 c) (wA_eq m c 0) (wafter_0 m c) t d
theorem wbefore_1 (c : Dev nD) (t : Fin cfg0.N) (d) : (wdats m 0 c).before 1 t d = iblk m c 1 t :=
  before0_1_of m (wdats m 0 c) (wA_eq m c 1) (wafter_1 m c) t d
theorem wbefore_2 (c : Dev nD) (t : Fin cfg0.N) (d) : (wdats m 0 c).before 2 t d = iblk m c 2 t :=
  before0_2_of m (wdats m 0 c) (wA_eq m c 2) (wafter_2 m c) t d
theorem wbefore_3 (c : Dev nD) (t : Fin cfg0.N) (d) : (wdats m 0 c).before 3 t d = iblk m c 3 t :=
  before0_3_of m (wdats m 0 c) (wA_eq m c 3) (wafter_3 m c) t d
theorem wbefore_4 (c : Dev nD) (t : Fin cfg0.N) (d) : (wdats m 0 c).before 4 t d = iblk m c 4 t :=
  before0_4_of m (wdats m 0 c) (wA_eq m c 4) (wafter_4 m c) t d
theorem wbefore_5 (c : Dev nD) (t : Fin cfg0.N) (d) : (wdats m 0 c).before 5 t d = iblk m c 5 t :=
  before0_5_of m (wdats m 0 c) (wA_eq m c 5) (wafter_5 m c) t d
theorem wbefore_6 (c : Dev nD) (t : Fin cfg0.N) (d) : (wdats m 0 c).before 6 t d = iblk m c 6 t :=
  before0_6_of m (wdats m 0 c) (wA_eq m c 6) (wafter_6 m c) t d
theorem wbefore_7 (c : Dev nD) (t : Fin cfg0.N) (d) : (wdats m 0 c).before 7 t d = iblk m c 7 t :=
  before0_7_of m (wdats m 0 c) (wA_eq m c 7) (wafter_7 m c) t d
theorem wbefore_8 (c : Dev nD) (t : Fin cfg0.N) (d) : (wdats m 0 c).before 8 t d = iblk m c 8 t :=
  before0_8_of m (wdats m 0 c) (wA_eq m c 8) (wafter_8 m c) t d
theorem wbefore_9 (c : Dev nD) (t : Fin cfg0.N) (d) : (wdats m 0 c).before 9 t d = iblk m c 9 t :=
  before0_9_of m (wdats m 0 c) (wA_eq m c 9) (wafter_9 m c) t d
theorem wbefore_10 (c : Dev nD) (t : Fin cfg0.N) (d) : (wdats m 0 c).before 10 t d = iblk m c 10 t :=
  before0_10_of m (wdats m 0 c) (wA_eq m c 10) (wafter_10 m c) t d
theorem wbefore_11 (c : Dev nD) (t : Fin cfg0.N) (d) : (wdats m 0 c).before 11 t d = iblk m c 11 t :=
  before0_11_of m (wdats m 0 c) (wA_eq m c 11) (wafter_11 m c) t d
theorem wbefore_12 (c : Dev nD) (t : Fin cfg0.N) (d) : (wdats m 0 c).before 12 t d = iblk m c 12 t :=
  before0_12_of m (wdats m 0 c) (wA_eq m c 12) (wafter_12 m c) t d
theorem wbefore_13 (c : Dev nD) (t : Fin cfg0.N) (d) : (wdats m 0 c).before 13 t d = iblk m c 13 t :=
  before0_13_of m (wdats m 0 c) (wA_eq m c 13) (wafter_13 m c) t d
theorem wbefore_14 (c : Dev nD) (t : Fin cfg0.N) (d) : (wdats m 0 c).before 14 t d = iblk m c 14 t :=
  before0_14_of m (wdats m 0 c) (wA_eq m c 14) (wafter_14 m c) t d
theorem wbefore_15 (c : Dev nD) (t : Fin cfg0.N) (d) : (wdats m 0 c).before 15 t d = iblk m c 15 t :=
  before0_15_of m (wdats m 0 c) (wA_eq m c 15) (wafter_15 m c) t d
theorem wbefore_16 (c : Dev nD) (t : Fin cfg0.N) (d) : (wdats m 0 c).before 16 t d = iblk m c 16 t :=
  before0_16_of m (wdats m 0 c) (wA_eq m c 16) (wafter_16 m c) t d
theorem wbefore_17 (c : Dev nD) (t : Fin cfg0.N) (d) : (wdats m 0 c).before 17 t d = iblk m c 17 t :=
  before0_17_of m (wdats m 0 c) (wA_eq m c 17) (wafter_17 m c) t d

/-- The region's own buffers and generator register, the scratch buffers owned at some contents. -/
theorem winv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body is called with at point `t`, -/
def wpre (c : Dev nD) (t : Fin cfg0.N) : sProp 𝕄 :=
  iprop((wdats m 0 c).Φ t.castSucc ∗ (wdats m 0 c).owesAt () t.castSucc
    ∗ (∃ d, owns (c : Thread nD τ) (win0_0.stage (cfg0.slots t 0)) fullShare ((wdats m 0 c).before 0 t d))
    ∗ (∃ d, owns (c : Thread nD τ) (win0_1.stage (cfg0.slots t 1)) fullShare ((wdats m 0 c).before 1 t d))
    ∗ (∃ d, owns (c : Thread nD τ) (win0_2.stage (cfg0.slots t 2)) fullShare ((wdats m 0 c).before 2 t d))
    ∗ (∃ d, owns (c : Thread nD τ) (win0_3.stage (cfg0.slots t 3)) fullShare ((wdats m 0 c).before 3 t d))
    ∗ (∃ d, owns (c : Thread nD τ) (win0_4.stage (cfg0.slots t 4)) fullShare ((wdats m 0 c).before 4 t d))
    ∗ (∃ d, owns (c : Thread nD τ) (win0_5.stage (cfg0.slots t 5)) fullShare ((wdats m 0 c).before 5 t d))
    ∗ (∃ d, owns (c : Thread nD τ) (win0_6.stage (cfg0.slots t 6)) fullShare ((wdats m 0 c).before 6 t d))
    ∗ (∃ d, owns (c : Thread nD τ) (win0_7.stage (cfg0.slots t 7)) fullShare ((wdats m 0 c).before 7 t d))
    ∗ (∃ d, owns (c : Thread nD τ) (win0_8.stage (cfg0.slots t 8)) fullShare ((wdats m 0 c).before 8 t d))
    ∗ (∃ d, owns (c : Thread nD τ) (win0_9.stage (cfg0.slots t 9)) fullShare ((wdats m 0 c).before 9 t d))
    ∗ (∃ d, owns (c : Thread nD τ) (win0_10.stage (cfg0.slots t 10)) fullShare ((wdats m 0 c).before 10 t d))
    ∗ (∃ d, owns (c : Thread nD τ) (win0_11.stage (cfg0.slots t 11)) fullShare ((wdats m 0 c).before 11 t d))
    ∗ (∃ d, owns (c : Thread nD τ) (win0_12.stage (cfg0.slots t 12)) fullShare ((wdats m 0 c).before 12 t d))
    ∗ (∃ d, owns (c : Thread nD τ) (win0_13.stage (cfg0.slots t 13)) fullShare ((wdats m 0 c).before 13 t d))
    ∗ (∃ d, owns (c : Thread nD τ) (win0_14.stage (cfg0.slots t 14)) fullShare ((wdats m 0 c).before 14 t d))
    ∗ (∃ d, owns (c : Thread nD τ) (win0_15.stage (cfg0.slots t 15)) fullShare ((wdats m 0 c).before 15 t d))
    ∗ (∃ d, owns (c : Thread nD τ) (win0_16.stage (cfg0.slots t 16)) fullShare ((wdats m 0 c).before 16 t d))
    ∗ (∃ d, owns (c : Thread nD τ) (win0_17.stage (cfg0.slots t 17)) fullShare ((wdats m 0 c).before 17 t d))
    ∗ (∃ d, owns (c : Thread nD τ) (win0_18.stage (cfg0.slots t 18)) fullShare d))

/-- and what it returns. -/
def wpost (c : Dev nD) (t : Fin cfg0.N) : sProp 𝕄 :=
  iprop((wdats m 0 c).Φ t.succ ∗ (wdats m 0 c).owesAt () t.succ
    ∗ owns (c : Thread nD τ) (win0_0.stage (cfg0.slots t 0)) fullShare ((wdats m 0 c).after 0 t)
    ∗ owns (c : Thread nD τ) (win0_1.stage (cfg0.slots t 1)) fullShare ((wdats m 0 c).after 1 t)
    ∗ owns (c : Thread nD τ) (win0_2.stage (cfg0.slots t 2)) fullShare ((wdats m 0 c).after 2 t)
    ∗ owns (c : Thread nD τ) (win0_3.stage (cfg0.slots t 3)) fullShare ((wdats m 0 c).after 3 t)
    ∗ owns (c : Thread nD τ) (win0_4.stage (cfg0.slots t 4)) fullShare ((wdats m 0 c).after 4 t)
    ∗ owns (c : Thread nD τ) (win0_5.stage (cfg0.slots t 5)) fullShare ((wdats m 0 c).after 5 t)
    ∗ owns (c : Thread nD τ) (win0_6.stage (cfg0.slots t 6)) fullShare ((wdats m 0 c).after 6 t)
    ∗ owns (c : Thread nD τ) (win0_7.stage (cfg0.slots t 7)) fullShare ((wdats m 0 c).after 7 t)
    ∗ owns (c : Thread nD τ) (win0_8.stage (cfg0.slots t 8)) fullShare ((wdats m 0 c).after 8 t)
    ∗ owns (c : Thread nD τ) (win0_9.stage (cfg0.slots t 9)) fullShare ((wdats m 0 c).after 9 t)
    ∗ owns (c : Thread nD τ) (win0_10.stage (cfg0.slots t 10)) fullShare ((wdats m 0 c).after 10 t)
    ∗ owns (c : Thread nD τ) (win0_11.stage (cfg0.slots t 11)) fullShare ((wdats m 0 c).after 11 t)
    ∗ owns (c : Thread nD τ) (win0_12.stage (cfg0.slots t 12)) fullShare ((wdats m 0 c).after 12 t)
    ∗ owns (c : Thread nD τ) (win0_13.stage (cfg0.slots t 13)) fullShare ((wdats m 0 c).after 13 t)
    ∗ owns (c : Thread nD τ) (win0_14.stage (cfg0.slots t 14)) fullShare ((wdats m 0 c).after 14 t)
    ∗ owns (c : Thread nD τ) (win0_15.stage (cfg0.slots t 15)) fullShare ((wdats m 0 c).after 15 t)
    ∗ owns (c : Thread nD τ) (win0_16.stage (cfg0.slots t 16)) fullShare ((wdats m 0 c).after 16 t)
    ∗ owns (c : Thread nD τ) (win0_17.stage (cfg0.slots t 17)) fullShare ((wdats m 0 c).after 17 t)
    ∗ (∃ d, owns (c : Thread nD τ) (win0_18.stage (cfg0.slots t 18)) fullShare d))

set_option maxHeartbeats 4000000 in
/-- The body at any point. -/
theorem wbody (c : Dev nD) (t : Fin cfg0.N) :
    wpre m c t ⊢ wp frame (wpE (defs₀ (F := F)) Variants.none c none) Set.univ (bodyAt0 t) (fun _ => wpost m c t) := by
  unfold wpre wpost
  simp only [wbefore_0, wbefore_1, wbefore_2, wbefore_3, wbefore_4, wbefore_5, wbefore_6, wbefore_7, wbefore_8, wbefore_9, wbefore_10, wbefore_11, wbefore_12, wbefore_13, wbefore_14, wbefore_15, wbefore_16, wbefore_17]
  rw [show (wdats m 0 c).Φ t.succ = Pipeline.ΦA spec0 c from rfl, show (wdats m 0 c).Φ t.castSucc = Pipeline.ΦA spec0 c from rfl, winv_eq,
    show (wdats m 0 c).owesAt () t.succ = (wdats m 0 c).owesAt () t.castSucc from rfl,
    wafter_0, wafter_1, wafter_2, wafter_3, wafter_4, wafter_5, wafter_6, wafter_7, wafter_8, wafter_9, wafter_10, wafter_11, wafter_12, wafter_13, wafter_14, wafter_15, wafter_16, wafter_17]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, H18⟩
  iapply (body_keeps (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) Set.univ _)
  unfold Held
  isplitl [H0 H1 H2 H3 H4 H5 H6 H7 H8 H9 H10 H11 H12 H13 H14 H15 H16 H17 H18 HS0 HS1 HS2 HS3 HS4 HS5 HS6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [HS0]; · iexact HS0
    isplitl [HS1]; · iexact HS1
    isplitl [HS2]; · iexact HS2
    isplitl [HS3]; · iexact HS3
    isplitl [HS4]; · iexact HS4
    isplitl [HS5]; · iexact HS5
    iexact HS6
  iintro ⟨H0, H1, H2, H3, H4, H5, H6, H7, H8, H9, H10, H11, H12, H13, H14, H15, H16, H17, H18, HS0, HS1, HS2, HS3, HS4, HS5, HS6⟩
  isplitl [HS0 HS1 HS2 HS3 HS4 HS5 HS6 Hg]
  · isplitr [Hg]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The library's body obligation, nothing said of the output. -/
theorem wobligation (c : Dev nD) :
    BodyObligation (wdats (F := F) m 0 c) (defs₀ (F := F)) Variants.none () Set.univ unsaid := fun t => by
  rw [bigSep_W0, bigSep_W0, show defs₀ (F := F) .tc cfg0.body (cfg0.bodyArgs t (cfg0.slots t)) = bodyAt0 t from by unfold defs₀; rw [Defs.onTc_tc]]
  exact triple_restated (wbody m c t) rfl .rfl fun _ => .rfl

set_option backward.isDefEq.respectTransparency.types false in
/-- The run: every buffer no window stages ends as the region found it, every counter at zero. -/
theorem wrun : θ_run defs (onTc (τ := τ) (main (F := F))) (s₀ m ρ)
    (fun r => Pipeline.RDat.FramePost (cfgs 0) (fun c => (wdats m 0 c).toRForget unsaid) (V m) r ∧ r.2.sem = fun _ => 0) :=
  Pipeline.θ_run_frame_forget (Q' := _) cfgs (wdats m) (0 : Fin 1) launch0 defs₀ Variants.none unsaid m ρ main
    (hbody := fun c => (wobligation m c).loose) (hshare := fun c => (wdats m 0 c).share_full fun _ => rfl)
    (howed := fun _ _ => rfl) (V := V m) (hmain := hmain m Variants.none) (hA := wA_eq m) (hΦ := fun _ _ => rfl)

/-- The arguments end as launched, every counter at zero. -/
theorem word_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).2 main_arg10 (Pipeline.mem_restRefs_of main_arg10 (by decide) (by decide))).trans (V_main_arg10 m c),
    ((h.1 c).2 main_arg11 (Pipeline.mem_restRefs_of main_arg11 (by decide) (by decide))).trans (V_main_arg11 m c),
    ((h.1 c).2 main_arg12 (Pipeline.mem_restRefs_of main_arg12 (by decide) (by decide))).trans (V_main_arg12 m c),
    ((h.1 c).2 main_arg13 (Pipeline.mem_restRefs_of main_arg13 (by decide) (by decide))).trans (V_main_arg13 m c),
    ((h.1 c).2 main_arg14 (Pipeline.mem_restRefs_of main_arg14 (by decide) (by decide))).trans (V_main_arg14 m c)⟩, h.2⟩) (wrun m ρ)

end Cert.WordSide

end
-- ==== Proof.HeadValue.lean ====
/- The head: what the second call leaves in its two results, and that it is what the plain head computes. -/
module

public import proofs.«01_k».proof.Proof.RefBase
public import proofs.«01_k».proof.Proof.Finite
public import proofs.«01_k».proof.Proof.Gen.HeadIdeal
public import proofs.«01_k».proof.Proof.Gen.HeadIdeal.Value
public import proofs.«01_k».proof.Proof.Gen.HeadIdeal.Frame
public import proofs.«01_k».proof.Proof.Gen.Head
public import proofs.«01_k».proof.Proof.Gen.Head.Frame
public import proofs.«01_k».proof.Proof.Gen.HeadReferenceIdeal
public import proofs.«01_k».proof.Proof.Gen.HeadReferenceIdeal.Read
public import proofs.«01_k».proof.Proof.Gen.HeadReferenceIdeal.Run
public import Idealize.ShloMosaic.Lib.StableHlo.ReadAt
public import Idealize.ShloMosaic.Lib.Pipeline.ValueKit
public import Idealize.ShloMosaic.Lib.Claim
public import Idealize.ShloMosaic.Lib.Pointwise

@[expose] public section

set_option maxRecDepth 16384

noncomputable section

namespace Cert.HeadSide

open Idealize.ShloMosaic Idealize.ShloMosaic.TcCoe Idealize.ShloMosaic.Tactic
open Cert.HeadIdeal Cert.HeadIdeal.Gen

variable (m : (ℓ : Loc nD τ sig) → Buf (Elt Ideal) ℓ)

/-- The linear layer of image `b` at output `o`: the sixteen patches' features side by side times the weights, plus the bias. -/
def lin (y : FVec Ideal S16x32x64x4 .f32) (w : FVec Ideal S256x4096 .f32) (l : FVec Ideal S256 .f32) (b : Fin 32) (o : Fin 256) : EReal :=
  (∑ k : Fin 4096, y (ix4 (⟨k.val / 256, by omega⟩ : Fin 16) b (⟨k.val % 256 / 4, by omega⟩ : Fin 64) (⟨k.val % 4, by omega⟩ : Fin 4)) * w (ix2 o k)) + l (ix1 o)

/-- The score of position `k` for row `r`, the patch `r % 16` of image `r / 16`. -/
def score (y : FVec Ideal S16x32x64x4 .f32) (w : FVec Ideal S16x256 .f32) (l : FVec Ideal S16 .f32) (r : Fin 512) (k : Fin 16) : EReal :=
  (∑ j : Fin 256, y (ix4 (⟨r.val % 16, by omega⟩ : Fin 16) (⟨r.val / 16, by omega⟩ : Fin 32) (⟨j.val / 4, by omega⟩ : Fin 64) (⟨j.val % 4, by omega⟩ : Fin 4)) * w (ix2 k j)) + l (ix1 k)

/-! ## The windows' blocks -/

theorem hplace0 (t : Fin cfg0.N) : win0_0.index t = ![0, 0, 0] := by revert t; decide +kernel
theorem hplace1 (t : Fin cfg0.N) : win0_1.index t = ![0, 0] := by revert t; decide +kernel
theorem hplace2 (t : Fin cfg0.N) : win0_2.index t = ![0, 0] := by revert t; decide +kernel
theorem hplace3 (t : Fin cfg0.N) : win0_3.index t = ![0, 0] := by revert t; decide +kernel
theorem hplace4 (t : Fin cfg0.N) : win0_4.index t = ![0, 0] := by revert t; decide +kernel
theorem hplace5 (t : Fin cfg0.N) : win0_5.index t = ![0, 0] := by revert t; decide +kernel
theorem hplace6 (t : Fin cfg0.N) : win0_6.index t = ![0, 0] := by revert t; decide +kernel

theorem hblk0 (c : Dev nD) (t : Fin cfg0.N) (n : Fin 16) (b : Fin 32) (j : Fin 256) :
    (iblk m c 0 t : Vec Ideal S16x32x256 .f32) (ix3 n b j)
      = (m (c, main_arg0) : Vec Ideal S16x32x64x4 .f32) (ix4 n b (⟨j.val / 4, by omega⟩ : Fin 64) (⟨j.val % 4, by omega⟩ : Fin 4)) := by
  have h : (iblk m c 0 t : Vec Ideal S16x32x256 .f32) (ix3 n b j) = (V m c main_call0_v4 : Vec Ideal S16x32x256 .f32) (ix3 n b j) := by
    blk_ext [iblk, hplace0 t]
  rw [h]
  unfold V
  after_reads_at

theorem hblk1 (c : Dev nD) (t : Fin cfg0.N) (k : Fin 4096) (o : Fin 256) :
    (iblk m c 1 t : Vec Ideal S4096x256 .f32) (ix2 k o) = (m (c, main_arg1) : Vec Ideal S256x4096 .f32) (ix2 o k) := by
  have h : (iblk m c 1 t : Vec Ideal S4096x256 .f32) (ix2 k o) = (V m c main_call0_v5 : Vec Ideal S4096x256 .f32) (ix2 k o) := by
    blk_ext [iblk, hplace1 t]
  rw [h]
  unfold V
  after_reads_at

theorem hblk2 (c : Dev nD) (t : Fin cfg0.N) (o : Fin 256) :
    (iblk m c 2 t : Vec Ideal S1x256 .f32) (ix2 (0 : Fin 1) o) = (m (c, main_arg2) : Vec Ideal S256 .f32) (ix1 o) := by
  have h : (iblk m c 2 t : Vec Ideal S1x256 .f32) (ix2 (0 : Fin 1) o) = (V m c main_call0_v6 : Vec Ideal S1x256 .f32) (ix2 (0 : Fin 1) o) := by
    blk_ext [iblk, hplace2 t]
  rw [h]
  unfold V
  after_reads_at

theorem hblk3 (c : Dev nD) (t : Fin cfg0.N) (j : Fin 256) (k : Fin 16) :
    (iblk m c 3 t : Vec Ideal S256x16 .f32) (ix2 j k) = (m (c, main_arg3) : Vec Ideal S16x256 .f32) (ix2 k j) := by
  have h : (iblk m c 3 t : Vec Ideal S256x16 .f32) (ix2 j k) = (V m c main_call0_v7 : Vec Ideal S256x16 .f32) (ix2 j k) := by
    blk_ext [iblk, hplace3 t]
  rw [h]
  unfold V
  after_reads_at

theorem hblk4 (c : Dev nD) (t : Fin cfg0.N) (k : Fin 16) :
    (iblk m c 4 t : Vec Ideal S1x16 .f32) (ix2 (0 : Fin 1) k) = (m (c, main_arg4) : Vec Ideal S16 .f32) (ix1 k) := by
  have h : (iblk m c 4 t : Vec Ideal S1x16 .f32) (ix2 (0 : Fin 1) k) = (V m c main_call0_v8 : Vec Ideal S1x16 .f32) (ix2 (0 : Fin 1) k) := by
    blk_ext [iblk, hplace4 t]
  rw [h]
  unfold V
  after_reads_at

theorem target_at (c : Dev nD) (r : Fin 512) :
    (V m c main_v0_2 : Vec Ideal S512 .i32) (ix1 r) = BitVec.ofNat 32 (r.val % 16) := by
  unfold V
  after_reads_at

/-! ## What the body computes -/

theorem whole5 (x0 : Vec Ideal S16x32x256 .f32) (x1 : Vec Ideal S4096x256 .f32) (x2 : Vec Ideal S1x256 .f32) (x3 : Vec Ideal S256x16 .f32) (x4 : Vec Ideal S1x16 .f32) (b : Fin 32) (o : Fin 256) :
    out0_5 x0 x1 x2 x3 x4 (ix2 b o) = k0_pay3 x0 x1 x2 (ix2 b o) := by
  have e0 : View.ld x0 r0_0 = x0 := by
    funext x
    show x0 (r0_0.idx x) = x0 x
    blk_ext [r0_0]
    · show 0 + 1 * (x 0).val = (x 0).val
      omega
    · show 0 + 1 * (x 1).val = (x 1).val
      omega
    · show 0 + 1 * (x 2).val = (x 2).val
      omega
  have e1 : View.ld x1 r0_1 = x1 := by
    funext x
    show x1 (r0_1.idx x) = x1 x
    blk_ext [r0_1]
    · show 0 + 1 * (x 0).val = (x 0).val
      omega
    · show 0 + 1 * (x 1).val = (x 1).val
      omega
  have e2 : View.ld x2 r0_2 = x2 := by
    funext x
    show x2 (r0_2.idx x) = x2 x
    blk_ext [r0_2]
    · show 0 + 1 * (x 1).val = (x 1).val
      omega
  unfold out0_5
  rw [e0, e1, e2]
  refine View.canon_apply_of_pieces (Val := Elt Ideal) (e := .f32) (k0_pay3 x0 x1 x2 : Vec Ideal S32x256 .f32) _ ?_ _ (cover0_5 _ _)
  intro pc hpc
  rcases List.mem_cons.mp hpc with rfl | hpc
  · intro x
    refine congrArg _ ?_
    blk_ext [r0_3]
  nomatch hpc

theorem whole6 (x0 : Vec Ideal S16x32x256 .f32) (x1 : Vec Ideal S4096x256 .f32) (x2 : Vec Ideal S1x256 .f32) (x3 : Vec Ideal S256x16 .f32) (x4 : Vec Ideal S1x16 .f32) (r : Fin 512) (k : Fin 16) :
    out0_6 x0 x1 x2 x3 x4 (ix2 r k) = k0_pay1 (k0_pay4 x0 x3) (k0_pay5 x4) (ix2 r k) := by
  have e0 : View.ld x0 r0_0 = x0 := by
    funext x
    show x0 (r0_0.idx x) = x0 x
    blk_ext [r0_0]
    · show 0 + 1 * (x 0).val = (x 0).val
      omega
    · show 0 + 1 * (x 1).val = (x 1).val
      omega
    · show 0 + 1 * (x 2).val = (x 2).val
      omega
  have e3 : View.ld x3 r0_4 = x3 := by
    funext x
    show x3 (r0_4.idx x) = x3 x
    blk_ext [r0_4]
    · show 0 + 1 * (x 0).val = (x 0).val
      omega
    · show 0 + 1 * (x 1).val = (x 1).val
      omega
  have e4 : View.ld x4 r0_5 = x4 := by
    funext x
    show x4 (r0_5.idx x) = x4 x
    blk_ext [r0_5]
    · show 0 + 1 * (x 1).val = (x 1).val
      omega
  unfold out0_6
  rw [e0, e3, e4]
  refine View.canon_apply_of_pieces (Val := Elt Ideal) (e := .f32) (k0_pay1 (k0_pay4 x0 x3) (k0_pay5 x4) : Vec Ideal S512x16 .f32) _ ?_ _ (cover0_6 _ _)
  intro pc hpc
  rcases List.mem_cons.mp hpc with rfl | hpc
  · intro x
    refine congrArg _ ?_
    blk_ext [r0_6]
  nomatch hpc

theorem score_at (x0 : Vec Ideal S16x32x256 .f32) (x3 : Vec Ideal S256x16 .f32) (x4 : Vec Ideal S1x16 .f32) (r : Fin 512) (k : Fin 16) :
    k0_pay1 (k0_pay4 x0 x3) (k0_pay5 x4) (ix2 r k)
      = (∑ j : Fin 256, x0 (ix3 (⟨r.val % 16, by omega⟩ : Fin 16) (⟨r.val / 16, by omega⟩ : Fin 32) j) * x3 (ix2 j k)) + x4 (ix2 (0 : Fin 1) k) := by
  pointwise [k0_pay1, k0_pay4, k0_pay5, k0_pay2]

theorem norm_at (x0 : Vec Ideal S16x32x256 .f32) (x1 : Vec Ideal S4096x256 .f32) (x2 : Vec Ideal S1x256 .f32) (P : ℕ → ℕ → ℕ → ℝ)
    (hP : ∀ (b : Fin 32) (o : Fin 256), (∑ k : Fin 4096, x0 (ix3 (⟨k.val / 256, by omega⟩ : Fin 16) b (⟨k.val % 256, by omega⟩ : Fin 256)) * x1 (ix2 k o)) + x2 (ix2 (0 : Fin 1) o) = ((P b o 0 : ℝ) : EReal))
    (b : Fin 32) (o : Fin 256) : k0_pay3 x0 x1 x2 (ix2 b o) = ((Cert.Proof.bnorm P b o 0 : ℝ) : EReal) := by
  pointwise [k0_pay3, k0_pay2]
  simp only [hP, Cert.RefSide.n32_bits, Cert.RefSide.eps_bits, ← EReal.coe_mul, ← Cert.Proof.coe_sum, Ideal.div_coe (show (32 : ℝ) ≠ 0 by norm_num), ← EReal.coe_sub, ← EReal.coe_add]
  have hm : (∑ b : Fin 32, P b o 0) * (1 / 32) = Cert.Proof.bmean P o 0 := by unfold Cert.Proof.bmean; ring
  have hv : (∑ b : Fin 32, P b o 0 * P b o 0) * (1 / 32) - Cert.Proof.bmean P o 0 * Cert.Proof.bmean P o 0 = Cert.Proof.bvar P o 0 := by rw [← Cert.Proof.bvar_eq]; ring
  rw [hm, hv, Cert.RefSide.rsqrt_pos _ (add_pos_of_nonneg_of_pos (Cert.Proof.bvar_nonneg P o 0) Cert.Proof.eps_pos), ← EReal.coe_mul]
  rfl

/-! ## The reference -/

open Cert.HeadReferenceIdeal.Read

theorem ref_lin (y : FVec Ideal S16x32x64x4 .f32) (w : FVec Ideal S256x4096 .f32) (l : FVec Ideal S256 .f32) (b : Fin 32) (o : Fin 256) :
    val_main_v7 (F := Ideal) y w l (ix2 b o) = lin y w l b o := by
  unfold val_main_v7 val_main_v6 val_main_v5 val_main_v4 val_main_v3 val_main_v2 val_main_v1 val_main_v0
  pointwise
  rfl

theorem ref_dev (y : FVec Ideal S16x32x64x4 .f32) (w : FVec Ideal S256x4096 .f32) (l : FVec Ideal S256 .f32) (P : ℕ → ℕ → ℕ → ℝ)
    (hP : ∀ (b : Fin 32) (o : Fin 256), lin y w l b o = ((P b o 0 : ℝ) : EReal)) (b : Fin 32) (o : Fin 256) :
    val_main_v13 (F := Ideal) y w l (ix2 b o) = ((P b o 0 - Cert.Proof.bmean P o 0 : ℝ) : EReal) := by
  have hL : ∀ (b : Fin 32) (o : Fin 256), val_main_v7 (F := Ideal) y w l (ix2 b o) = ((P b o 0 : ℝ) : EReal) := fun b o => (ref_lin y w l b o).trans (hP b o)
  unfold val_main_v13 val_main_v12 val_main_v11 val_main_v10 val_main_v9 val_main_v8 val_main_cst val_main_cst_0
  generalize val_main_v7 (F := Ideal) y w l = Y at hL ⊢
  pointwise
  simp only [hL, ← Cert.Proof.coe_sum]
  rw [Cert.RefSide.n32_bits, Ideal.div_coe (by norm_num)]
  try simp only [Cert.RefSide.zero_bits, zero_add]
  rw [← EReal.coe_mul, mul_one_div, ← EReal.coe_sub]
  rfl

theorem ref_norm (y : FVec Ideal S16x32x64x4 .f32) (w : FVec Ideal S256x4096 .f32) (l : FVec Ideal S256 .f32) (P : ℕ → ℕ → ℕ → ℝ)
    (hP : ∀ (b : Fin 32) (o : Fin 256), lin y w l b o = ((P b o 0 : ℝ) : EReal)) (b : Fin 32) (o : Fin 256) :
    val_main_v23 (F := Ideal) y w l (ix2 b o) = ((Cert.Proof.bnorm P b o 0 : ℝ) : EReal) := by
  have hD := ref_dev y w l P hP
  unfold val_main_v23 val_main_v22 val_main_v21 val_main_v20 val_main_v19 val_main_v18 val_main_v17 val_main_v16 val_main_v15 val_main_v14 val_main_cst_1 val_main_cst_2 val_main_cst_3
  generalize val_main_v13 (F := Ideal) y w l = Y at hD ⊢
  pointwise
  simp only [hD, ← EReal.coe_mul, ← Cert.Proof.coe_sum]
  rw [Cert.RefSide.n32_bits, Ideal.div_coe (by norm_num), Cert.RefSide.eps_bits]
  try simp only [Cert.RefSide.zero_bits, zero_add]
  rw [← EReal.coe_mul, mul_one_div, ← EReal.coe_add]
  have hr := Cert.RefSide.rsqrt_pos _ (add_pos_of_nonneg_of_pos (Cert.Proof.bvar_nonneg P o 0) Cert.Proof.eps_pos)
  refine (congrArg (_ * ·) hr).trans ?_
  rw [← EReal.coe_mul]
  rfl

theorem ref_score (y : FVec Ideal S16x32x64x4 .f32) (w : FVec Ideal S16x256 .f32) (l : FVec Ideal S16 .f32) (r : Fin 512) (k : Fin 16) :
    val_main_v28 (F := Ideal) y w l (ix2 r k) = score y w l r k := by
  unfold val_main_v28 val_main_v27 val_main_v26 val_main_v25 val_main_v24 val_main_v1 val_main_v0
  pointwise
  rfl

theorem ref_target (r : Fin 512) : val_main_v32 (F := Ideal) (ix1 r) = BitVec.ofNat 32 (r.val % 16) := by
  unfold val_main_v32 val_main_v31 val_main_v30 val_main_v29
  pointwise

end Cert.HeadSide

end
-- ==== Proof.HeadClaim.lean ====
/- The head's claims: its runs keep their arguments, and its three results are the plain head's. -/
module

public import proofs.«01_k».proof.Defs
public import proofs.«01_k».proof.Proof.HeadValue

@[expose] public section

set_option maxRecDepth 16384

noncomputable section

namespace Cert.HeadSide

open Idealize.ShloMosaic Idealize.ShloMosaic.TcCoe Idealize.ShloMosaic.Tactic Idealize.SL.Sem
open Cert.HeadIdeal Cert.HeadIdeal.Gen
open Cert.Proof (Fin' fin_of bits_and coe_sum bnorm)

variable (m : (ℓ : Loc nD τ sig) → Buf (Elt Ideal) ℓ)

/-! ## The precondition -/

/-- Every shape the head's precondition broadcasts or reduces has the extents it says. -/
theorem pre2_facts : Cert.Pre_finite2.Facts := by
  constructor <;> decide

theorem fin_head [Cert.Pre_finite2.Facts] (y : FVec Ideal S16x32x64x4 .f32) (w : FVec Ideal S256x4096 .f32) (l : FVec Ideal S256 .f32)
    (j : FVec Ideal S16x256 .f32) (k : FVec Ideal S16 .f32) (h : Cert.Pre_finite2.fn (F := Ideal) y w l j k = fun _ => 1#1) : Fin' y ∧ Fin' w ∧ Fin' l := by
  have h0 := congrFun h (Shape.Idx.first Cert.Pre_finite2.Facts.h_S_)
  dsimp only [Cert.Pre_finite2.fn] at h0
  obtain ⟨g2, e2⟩ := bits_and _ _ h0
  obtain ⟨g1, e1⟩ := bits_and _ _ g2
  obtain ⟨g0, e0⟩ := bits_and _ _ g1
  exact ⟨fin_of y _ _ _ _ e0, fin_of w _ _ _ _ e1, fin_of l _ _ _ _ e2⟩

/-! ## The results -/

/-- The linear layer's outputs as real numbers. -/
def real (y : FVec Ideal S16x32x64x4 .f32) (w : FVec Ideal S256x4096 .f32) (l : FVec Ideal S256 .f32) (b o q : ℕ) : ℝ :=
  (lin y w l ⟨b % 32, Nat.mod_lt _ (by norm_num)⟩ ⟨o % 256, Nat.mod_lt _ (by norm_num)⟩).toReal

theorem lin_real (y : FVec Ideal S16x32x64x4 .f32) (w : FVec Ideal S256x4096 .f32) (l : FVec Ideal S256 .f32) (fy : Fin' y) (fw : Fin' w) (fl : Fin' l)
    (b : Fin 32) (o : Fin 256) : lin y w l b o = ((real y w l b o 0 : ℝ) : EReal) := by
  have eb : (⟨b.val % 32, Nat.mod_lt _ (by norm_num)⟩ : Fin 32) = b := Fin.ext (Nat.mod_eq_of_lt b.isLt)
  have eo : (⟨o.val % 256, Nat.mod_lt _ (by norm_num)⟩ : Fin 256) = o := Fin.ext (Nat.mod_eq_of_lt o.isLt)
  unfold real
  rw [eb, eo]
  obtain ⟨x, hx⟩ : ∃ x : ℝ, lin y w l b o = (x : EReal) := by
    unfold lin
    refine ⟨(∑ k : Fin 4096, (y (ix4 (⟨k.val / 256, by omega⟩ : Fin 16) b (⟨k.val % 256 / 4, by omega⟩ : Fin 64) (⟨k.val % 4, by omega⟩ : Fin 4))).toReal * (w (ix2 o k)).toReal) + (l (ix1 o)).toReal, ?_⟩
    rw [EReal.coe_add, coe_sum, ← fl]
    refine congrArg (· + _) (Finset.sum_congr rfl fun k _ => ?_)
    rw [EReal.coe_mul, ← fy, ← fw]
  rw [hx, EReal.toReal_coe]

/-- The normalised outputs of the linear layer. -/
def ogAll (c : Dev nD) : Vec Ideal S32x256 .f32 := fun i => ((bnorm (real (m (c, main_arg0)) (m (c, main_arg1)) (m (c, main_arg2))) (i 0).val (i 1).val 0 : ℝ) : EReal)

/-- The scores. -/
def predAll (c : Dev nD) : Vec Ideal S512x16 .f32 := fun i => score (m (c, main_arg0)) (m (c, main_arg3)) (m (c, main_arg4)) (i 0) (i 1)

/-- The right position of every row's patch. -/
def targetAll : Vec Ideal S512 .i32 := fun i => BitVec.ofNat 32 ((i 0).val % 16)

theorem og_eq (c : Dev nD) (fy : Fin' (s := S16x32x64x4) (m (c, main_arg0))) (fw : Fin' (s := S256x4096) (m (c, main_arg1))) (fl : Fin' (s := S256) (m (c, main_arg2))) :
    (dats m 0 c).arrAt 5 cfg0.N = ogAll m c := by
  refine (dats m 0 c).arrAt_eq_of_covers 5 _ (by decide +kernel) fun t hf y => ?_
  blk_simp
  rw [after0_5]
  obtain ⟨b, o, rfl⟩ : ∃ (b : Fin 32) (o : Fin 256), y = ix2 b o := ⟨y 0, y 1, ValueIdx.eq_ix2 y⟩
  have h : (win0_5.blk t).view.emb (ix2 b o) = ix2 b o := by
    blk_ext [hplace5 t]
  rw [h, whole5]
  refine norm_at _ _ _ (real (m (c, main_arg0)) (m (c, main_arg1)) (m (c, main_arg2))) (fun b o => ?_) b o
  rw [← lin_real _ _ _ fy fw fl b o, hblk2 m c t o]
  refine congrArg (· + _) (Finset.sum_congr rfl fun k _ => ?_)
  rw [hblk0, hblk1]
  have e : k.val % 256 % 4 = k.val % 4 := by omega
  simp only [e]

theorem pred_eq (c : Dev nD) : (dats m 0 c).arrAt 6 cfg0.N = predAll m c := by
  refine (dats m 0 c).arrAt_eq_of_covers 6 _ (by decide +kernel) fun t hf y => ?_
  blk_simp
  rw [after0_6]
  obtain ⟨r, k, rfl⟩ : ∃ (r : Fin 512) (k : Fin 16), y = ix2 r k := ⟨y 0, y 1, ValueIdx.eq_ix2 y⟩
  have h : (win0_6.blk t).view.emb (ix2 r k) = ix2 r k := by
    blk_ext [hplace6 t]
  rw [h, whole6, score_at, hblk4 m c t k]
  refine congrArg (· + _) (Finset.sum_congr rfl fun j _ => ?_)
  rw [hblk0, hblk3]
  rfl

theorem target_eq (c : Dev nD) : (V m c main_v0_2 : Vec Ideal S512 .i32) = targetAll := by
  funext i
  obtain ⟨r, rfl⟩ : ∃ r : Fin 512, i = ix1 r := ⟨i 0, ValueIdx.eq_ix1 i⟩
  exact target_at m c r

/-! ## The claims -/

theorem frame_h (hp : Cert.Pre_finite2.Facts) : Cert.quiescent_Head (hHead := Cert.Head.Gen.facts) (hPre_finite2 := hp) :=
  fun m ρ _ => Cert.Head.Gen.frame (F := Bits) m ρ

theorem frame_hi (hp : Cert.Pre_finite2.Facts) : Cert.quiescent_HeadIdeal (hHeadIdeal := Cert.HeadIdeal.Gen.facts) (hPre_finite2 := hp) :=
  fun m ρ _ => Cert.HeadIdeal.Gen.frame (F := Ideal) m ρ

theorem frame_hr (hp : Cert.Pre_finite2.Facts) : Cert.quiescent_HeadReferenceIdeal (hHeadReferenceIdeal := Cert.HeadReferenceIdeal.Gen.facts) (hPre_finite2 := hp) := by
  intro m ρ _
  refine (θ_run _ _ _).mono (fun r h => ⟨fun c => (h c).2.2.2, funext fun g => ?_⟩) (Cert.HeadReferenceIdeal.Value.run (F := Ideal) m ρ)
  exact nomatch g.2

theorem value_h (hp : Cert.Pre_finite2.Facts) : Cert.algebraic_HeadIdeal_HeadReferenceIdeal (hHeadIdeal := Cert.HeadIdeal.Gen.facts)
    (hHeadReferenceIdeal := Cert.HeadReferenceIdeal.Gen.facts) (hPre_finite2 := hp) := by
  intro m ρ m' ρ' hpre hagree
  refine ⟨fun c => ogAll m c, fun c => predAll m c, fun c => targetAll, ?_, ?_⟩
  · refine (θ_run _ _ _).mono (fun r h c => ?_) (Cert.HeadIdeal.Gen.run_main (F := Ideal) m ρ)
    obtain ⟨fy, fw, fl⟩ := fin_head _ _ _ _ _ (hpre c)
    exact ⟨(Value.post5 m r h c).trans (og_eq m c fy fw fl), (Value.post6 m r h c).trans (pred_eq m c),
      ((h c).2 main_v0_2 (Pipeline.mem_restRefs_of main_v0_2 (by decide) (by decide))).trans (target_eq m c),
      Value.kept_main_arg0 m r h c, Value.kept_main_arg1 m r h c, Value.kept_main_arg2 m r h c, Value.kept_main_arg3 m r h c, Value.kept_main_arg4 m r h c⟩
  refine (θ_run _ _ _).mono (fun r h c => ⟨?_, ?_, ?_, (h c).2.2.2⟩) (Cert.HeadReferenceIdeal.Value.run (F := Ideal) m' ρ')
  all_goals obtain ⟨e0, e1, e2, e3, e4⟩ := hagree c
  · obtain ⟨fy, fw, fl⟩ := fin_head _ _ _ _ _ (hpre c)
    refine (h c).1.trans ((Cert.HeadReferenceIdeal.Read.val_main_v23_eq (F := Ideal) m' c).trans ?_)
    rw [e0, e1, e2]
    funext i
    obtain ⟨b, o, rfl⟩ : ∃ (b : Fin 32) (o : Fin 256), i = ix2 b o := ⟨i 0, i 1, ValueIdx.eq_ix2 i⟩
    exact ref_norm _ _ _ _ (fun b o => lin_real _ _ _ fy fw fl b o) b o
  · refine (h c).2.1.trans ((Cert.HeadReferenceIdeal.Read.val_main_v28_eq (F := Ideal) _ _ _).trans ?_)
    rw [e0, e3, e4]
    funext i
    obtain ⟨r, k, rfl⟩ : ∃ (r : Fin 512) (k : Fin 16), i = ix2 r k := ⟨i 0, i 1, ValueIdx.eq_ix2 i⟩
    exact ref_score _ _ _ r k
  · refine (h c).2.2.1.trans ((Cert.HeadReferenceIdeal.Read.val_main_v32_eq (F := Ideal)).trans ?_)
    funext i
    obtain ⟨r, rfl⟩ : ∃ r : Fin 512, i = ix1 r := ⟨i 0, ValueIdx.eq_ix1 i⟩
    exact ref_target r

end Cert.HeadSide

end
-- ==== Proof.lean ====
/- The certificate: the backbone's three programs and the head's three keep their arguments and end with every counter at zero, and over the extended reals each call's results are its reference's. -/
module

public import proofs.«01_k».proof.Defs
public import proofs.«01_k».proof.Proof.PreFacts
public import proofs.«01_k».proof.Proof.KernelValue
public import proofs.«01_k».proof.Proof.RefValue
public import proofs.«01_k».proof.Proof.WordFrame
public import proofs.«01_k».proof.Proof.HeadClaim
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- What the precondition says of the launched arrays. -/
theorem allFin (m : (ℓ : Loc Cert.KernelIdeal.nD Cert.KernelIdeal.τ Cert.KernelIdeal.sig) → Buf (Elt Ideal) ℓ)
    (hp : Cert.Pre_KernelIdeal (hPre_finite := pre_facts) m) (c : Dev Cert.KernelIdeal.nD) : AllFin m c :=
  haveI := pre_facts
  fin_all _ _ _ _ _ _ _ _ _ _ _ _ _ _ _ (hp c)

theorem frame_ki (hp : Cert.Pre_finite.Facts) : Cert.quiescent_KernelIdeal (hKernelIdeal := Cert.KernelIdeal.Gen.facts) (hPre_finite := hp) := by
  intro m ρ hpre
  have hk := kernel_run m ρ (allFin m hpre)
  have hfr := Cert.KernelIdeal.Gen.frame_of m ρ (kdats m (outBlk m)) (kA_eq m (outBlk m)) ((θ_run _ _ _).mono (fun _ h => h.1) hk)
  exact (θ_run _ _ _).mono (fun _ h => ⟨h.1, h.2.2⟩) (θ_run_and hfr hk)

theorem frame_ri (hp : Cert.Pre_finite.Facts) : Cert.quiescent_ReferenceIdeal (hReferenceIdeal := Cert.ReferenceIdeal.Gen.facts) (hPre_finite := hp) := by
  intro m ρ _
  refine (θ_run _ _ _).mono (fun r h => ⟨fun c => (h c).2, funext fun g => ?_⟩) (Cert.ReferenceIdeal.Value.run (F := Ideal) m ρ)
  exact nomatch g.2

theorem same_entry (m : (ℓ : Loc Cert.KernelIdeal.nD Cert.KernelIdeal.τ Cert.KernelIdeal.sig) → Buf (Elt Ideal) ℓ) (c : Dev Cert.KernelIdeal.nD) (hf : AllFin m c) :
    Cert.ReferenceIdeal.Read.val_main_v528 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = outAll m c := by
  obtain ⟨f0, f1, f2, f3, f4, f5, f6, f7, f8, f9, f10, f11, f12⟩ := hf
  funext i
  obtain ⟨n, b, o, q, rfl⟩ : ∃ (n : Fin 16) (b : Fin 32) (o : Fin 64) (q : Fin 4), i = ix4 n b o q := ⟨i 0, i 1, i 2, i 3, ValueIdx.eq_ix4 i⟩
  exact Cert.RefSide.ref_value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) f0 f1 f2 f3 f4 f5 f6 f7 f8 f9 f10 f11 f12 n b o q

theorem same_args {X0 Y0 : FVec Ideal (⟨4, ![32, 3, 256, 256]⟩ : Shape) .f32} {X1 Y1 : FVec Ideal (⟨5, ![16, 16, 3, 3, 3]⟩ : Shape) .f32} {X2 Y2 : FVec Ideal (⟨3, ![16, 3, 16]⟩ : Shape) .f32} {X3 Y3 : FVec Ideal (⟨5, ![16, 16, 16, 3, 3]⟩ : Shape) .f32} {X4 Y4 : FVec Ideal (⟨3, ![16, 3, 16]⟩ : Shape) .f32} {X5 Y5 : FVec Ideal (⟨5, ![16, 32, 16, 3, 3]⟩ : Shape) .f32} {X6 Y6 : FVec Ideal (⟨3, ![16, 3, 32]⟩ : Shape) .f32} {X7 Y7 : FVec Ideal (⟨5, ![16, 32, 32, 3, 3]⟩ : Shape) .f32} {X8 Y8 : FVec Ideal (⟨3, ![16, 3, 32]⟩ : Shape) .f32} {X9 Y9 : FVec Ideal (⟨5, ![16, 64, 32, 3, 3]⟩ : Shape) .f32} {X10 Y10 : FVec Ideal (⟨3, ![16, 3, 64]⟩ : Shape) .f32} {X11 Y11 : FVec Ideal (⟨5, ![16, 64, 64, 3, 3]⟩ : Shape) .f32} {X12 Y12 : FVec Ideal (⟨3, ![16, 3, 64]⟩ : Shape) .f32} {X13 Y13 : FVec Ideal (⟨2, ![16, 256]⟩ : Shape) .f32} {X14 Y14 : FVec Ideal (⟨2, ![16, 256]⟩ : Shape) .f32} (h0 : X0 = Y0) (h1 : X1 = Y1) (h2 : X2 = Y2) (h3 : X3 = Y3) (h4 : X4 = Y4) (h5 : X5 = Y5) (h6 : X6 = Y6) (h7 : X7 = Y7) (h8 : X8 = Y8) (h9 : X9 = Y9) (h10 : X10 = Y10) (h11 : X11 = Y11) (h12 : X12 = Y12) (h13 : X13 = Y13) (h14 : X14 = Y14) : Cert.ReferenceIdeal.Read.val_main_v528 (F := Ideal) X0 X1 X2 X3 X4 X5 X6 X7 X8 X9 X10 X11 X12 X13 X14 = Cert.ReferenceIdeal.Read.val_main_v528 (F := Ideal) Y0 Y1 Y2 Y3 Y4 Y5 Y6 Y7 Y8 Y9 Y10 Y11 Y12 Y13 Y14 := by
  subst h0 h1 h2 h3 h4 h5 h6 h7 h8 h9 h10 h11 h12 h13 h14
  rfl

theorem value (hp : Cert.Pre_finite.Facts) : Cert.algebraic_KernelIdeal_ReferenceIdeal (hKernelIdeal := Cert.KernelIdeal.Gen.facts) (hReferenceIdeal := Cert.ReferenceIdeal.Gen.facts) (hPre_finite := hp) := by
  intro m ρ m' ρ' hpre hagree
  have hk := kernel_run m ρ (allFin m hpre)
  have hfr := Cert.KernelIdeal.Gen.frame_of m ρ (kdats m (outBlk m)) (kA_eq m (outBlk m)) ((θ_run _ _ _).mono (fun _ h => h.1) hk)
  refine ⟨fun c => outAll m c, ?_, ?_⟩
  · exact (θ_run _ _ _).mono (fun r h c => ⟨((h.2.1 c).1 18).trans (result_eq m c), h.1 c⟩) (θ_run_and hfr hk)
  refine (θ_run _ _ _).mono (fun r h c => ⟨?_, (h c).2⟩) (Cert.ReferenceIdeal.Value.run (F := Ideal) m' ρ')
  refine (h c).1.trans ((Cert.ReferenceIdeal.Read.val_main_v528_eq (F := Ideal) (StableHlo.launchContents m' c)).trans ?_)
  obtain ⟨e0, e1, e2, e3, e4, e5, e6, e7, e8, e9, e10, e11, e12, e13, e14⟩ := hagree c
  exact (same_args e0 e1 e2 e3 e4 e5 e6 e7 e8 e9 e10 e11 e12 e13 e14).trans (same_entry m c (allFin m hpre c))

theorem claim : Cert.Claim :=
  ⟨Cert.Kernel.Gen.facts, Cert.KernelIdeal.Gen.facts, Cert.ReferenceIdeal.Gen.facts, Cert.Head.Gen.facts, Cert.HeadIdeal.Gen.facts,
    Cert.HeadReferenceIdeal.Gen.facts, pre_facts, Cert.HeadSide.pre2_facts,
    fun m ρ _ => Cert.WordSide.word_frame m ρ, frame_ki _, frame_ri _, Cert.HeadSide.frame_h _, Cert.HeadSide.frame_hi _, Cert.HeadSide.frame_hr _,
    trivial, value _, trivial, Cert.HeadSide.value_h _⟩

end Cert.Proof

end
